-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_in_head [hPre_targets_in_head : Cert.Pre_targets_in_head.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_in_head [hPre_targets_in_head : Cert.Pre_targets_in_head.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_in_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_targets_in_head [hKernelIdeal : Cert.KernelIdeal.Facts] [hPre_targets_in_head : Cert.Pre_targets_in_head.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_in_head m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_targets_in_head [hReferenceIdeal : Cert.ReferenceIdeal.Facts] [hPre_targets_in_head : Cert.Pre_targets_in_head.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_in_head m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_targets_in_head [hKernelIdeal : Cert.KernelIdeal.Facts] [hReferenceIdeal : Cert.ReferenceIdeal.Facts] [hPre_targets_in_head : Cert.Pre_targets_in_head.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_in_head m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_targets_in_head : Cert.Pre_targets_in_head.Facts),
    quiescent_Kernel (hKernel := hKernel)
    ∧ quiescent_KernelIdeal (hKernelIdeal := hKernelIdeal)
    ∧ quiescent_KernelIdeal_pre_targets_in_head (hKernelIdeal := hKernelIdeal) (hPre_targets_in_head := hPre_targets_in_head)
    ∧ quiescent_ReferenceIdeal (hReferenceIdeal := hReferenceIdeal)
    ∧ quiescent_ReferenceIdeal_pre_targets_in_head (hReferenceIdeal := hReferenceIdeal) (hPre_targets_in_head := hPre_targets_in_head)
    ∧ preserves_Kernel_KernelIdeal
    ∧ algebraic_KernelIdeal_ReferenceIdeal_pre_targets_in_head (hKernelIdeal := hKernelIdeal) (hReferenceIdeal := hReferenceIdeal) (hPre_targets_in_head := hPre_targets_in_head)
-- ==== Pre_targets_in_head.lean ====
abbrev S2x128x12288 : Shape := ⟨3, ![2, 128, 12288]⟩
abbrev S2x128 : Shape := ⟨2, ![2, 128]⟩
abbrev S12288x30008 : Shape := ⟨2, ![12288, 30008]⟩
abbrev S30003 : Shape := ⟨1, ![30003]⟩
abbrev S_ : Shape := ⟨0, ![]⟩

class Facts : Prop where
  bcast_S_S2x128 : S_.BroadcastsInDim S2x128 (![] : Fin 0 → Fin S2x128.rank)
  reducesTo_S2x128_S_d0_1 : S2x128.ReducesTo [0, 1] S_
  h_S_ : 0 < S_.numel

variable [Facts]

def fn {F : FTy → Type} [FloatOps F] (main_arg0 : FVec F S2x128x12288 .fp8e4m3) (main_arg1 : FVec F S2x128 .f32) (main_arg2 : IVec S2x128 32) (main_arg3 : FVec F S12288x30008 .fp8e4m3) (main_arg4 : FVec F S30003 .f32) : IVec S_ 1 :=
  let main_c : IVec S_ 32 := constantI S_ 32 0#32
  let main_v0 : IVec S2x128 32 := broadcastInDim S2x128 ![] bcast_S_S2x128 main_c
  let main_v1 : IVec S2x128 1 := cmpi .sge main_arg2 main_v0
  let main_c_0 : IVec S_ 32 := constantI S_ 32 30003#32
  let main_v2 : IVec S2x128 32 := broadcastInDim S2x128 ![] bcast_S_S2x128 main_c_0
  let main_v3 : IVec S2x128 1 := cmpi .slt main_arg2 main_v2
  let main_v4 : IVec S2x128 1 := andi main_v1 main_v3
  let main_c_1 : IVec S_ 1 := constantI S_ 1 1#1
  let main_v5 : IVec S_ 1 := (fun x v => Host.reduce IntOp.andi x v reducesTo_S2x128_S_d0_1 h_S_) main_v4 main_c_1
  main_v5
-- ==== Kernel.lean ====
abbrev S2x128x12288 : Shape := ⟨3, ![2, 128, 12288]⟩
abbrev S2x128 : Shape := ⟨2, ![2, 128]⟩
abbrev S12288x30008 : Shape := ⟨2, ![12288, 30008]⟩
abbrev S30003 : Shape := ⟨1, ![30003]⟩
abbrev S256x12288 : Shape := ⟨2, ![256, 12288]⟩
abbrev S30008x12288 : Shape := ⟨2, ![30008, 12288]⟩
abbrev S6x512x12288 : Shape := ⟨3, ![6, 512, 12288]⟩
abbrev S256x128 : Shape := ⟨2, ![256, 128]⟩
abbrev S6 : Shape := ⟨1, ![6]⟩
abbrev S_ : Shape := ⟨0, ![]⟩
abbrev S1 : Shape := ⟨1, ![1]⟩
abbrev S1x512x12288 : Shape := ⟨3, ![1, 512, 12288]⟩
abbrev S512x12288 : Shape := ⟨2, ![512, 12288]⟩
abbrev S1x312x12288 : Shape := ⟨3, ![1, 312, 12288]⟩
abbrev S312x12288 : Shape := ⟨2, ![312, 12288]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S1x256x256 : Shape := ⟨3, ![1, 256, 256]⟩
abbrev S256x256 : Shape := ⟨2, ![256, 256]⟩
abbrev S64x256 : Shape := ⟨2, ![64, 256]⟩
abbrev S64x128 : Shape := ⟨2, ![64, 128]⟩
abbrev S51 : Shape := ⟨1, ![51]⟩
abbrev S77 : Shape := ⟨1, ![77]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S2x128x12288, .fp8e4m3⟩
  | .hbm, ⟨1, _⟩ => ⟨S2x128, .f32⟩
  | .hbm, ⟨2, _⟩ => ⟨S2x128, .i32⟩
  | .hbm, ⟨3, _⟩ => ⟨S12288x30008, .fp8e4m3⟩
  | .hbm, ⟨4, _⟩ => ⟨S30003, .f32⟩
  | .hbm, ⟨5, _⟩ => ⟨S256x12288, .fp8e4m3⟩
  | .hbm, ⟨6, _⟩ => ⟨S30008x12288, .fp8e4m3⟩
  | .hbm, ⟨7, _⟩ => ⟨S2x128, .f32⟩
  | .hbm, ⟨8, _⟩ => ⟨S2x128, .f32⟩
  | .local _ .vmem, ⟨0, _⟩ => ⟨S2x128, .f32⟩
  | .local _ .vmem, ⟨1, _⟩ => ⟨S2x128, .i32⟩
  | .local _ .vmem, ⟨2, _⟩ => ⟨S2x128, .f32⟩
  | .local _ .vmem, ⟨3, _⟩ => ⟨S2x128, .f32⟩
  | .local _ .vmem, ⟨4, _⟩ => ⟨S6x512x12288, .fp8e4m3⟩
  | .local _ .vmem, ⟨5, _⟩ => ⟨S256x12288, .fp8e4m3⟩
  | .local _ .vmem, ⟨6, _⟩ => ⟨S30003, .f32⟩
  | .local _ .vmem, ⟨7, _⟩ => ⟨S256x128, .i32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | _, _ => ⟨S2x128x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c5_i32 : BitVec 32 := 5#32
  let v1 : BitVec 32 := Scalar.addi c0_i32_1 c5_i32
  let c1_i32 : BitVec 32 := 1#32
  ⟨c0_i32_1, v1, c1_i32⟩
def k0_cond1 (k0_t1 : Fin k0_t1_loop.trips) : BitVec 1 :=
  let c0_i32_1 : BitVec 32 := 0#32
  let c1_i32 : BitVec 32 := 1#32
  let arg19 : BitVec 32 := Scf.iv c0_i32_1 c1_i32 k0_t1
  let c0_i32_0 : BitVec 32 := 0#32
  let v66 : BitVec 1 := Scalar.cmpi .sge arg19 c0_i32_0
  let c0_i32 : BitVec 32 := 0#32
  let c59_i32 : BitVec 32 := 59#32
  let v0 : BitVec 32 := Scalar.addi c0_i32 c59_i32
  let c1_i32_24 : BitVec 32 := 1#32
  let v67 : BitVec 32 := Scalar.subi v0 c1_i32_24
  let v68 : BitVec 1 := Scalar.cmpi .slt arg19 v67
  let v69 : BitVec 1 := Scalar.andi v66 v68
  let v70 : BitVec 32 := Scalar.extui v69
  let c0_i32_25 : BitVec 32 := 0#32
  let v71 : BitVec 1 := Scalar.cmpi .ne v70 c0_i32_25
  v71

def k0_mult1 (k0_t1 : Fin k0_t1_loop.trips) : BitVec 32 :=
  let c0_i32_1 : BitVec 32 := 0#32
  let c1_i32 : BitVec 32 := 1#32
  let arg19 : BitVec 32 := Scf.iv c0_i32_1 c1_i32 k0_t1
  let c0_i32_0 : BitVec 32 := 0#32
  let v76 : BitVec 32 := Scalar.subi arg19 c0_i32_0
  let c512_i32 : BitVec 32 := 512#32
  let v77 : BitVec 32 := Scalar.muli v76 c512_i32
  v77
def k0_off1 (k0_t1 : Fin k0_t1_loop.trips) : Fin 1 → Nat :=
  let c0_i32_1 : BitVec 32 := 0#32
  let c1_i32 : BitVec 32 := 1#32
  let arg19 : BitVec 32 := Scf.iv c0_i32_1 c1_i32 k0_t1
  let c6_i32 : BitVec 32 := 6#32
  let v65 : BitVec 32 := Scalar.remsi arg19 c6_i32
  ![v65.toNat]
def k0_off2 (k0_t1 : Fin k0_t1_loop.trips) : Fin 3 → Nat :=
  let c0_i32_1 : BitVec 32 := 0#32
  let c1_i32 : BitVec 32 := 1#32
  let arg19 : BitVec 32 := Scf.iv c0_i32_1 c1_i32 k0_t1
  let c6_i32 : BitVec 32 := 6#32
  let v65 : BitVec 32 := Scalar.remsi arg19 c6_i32
  let c0_i32_28 : BitVec 32 := 0#32
  let c0_i32_29 : BitVec 32 := 0#32
  ![v65.toNat, 0, 0]
def k0_off3 (k0_t1 : Fin k0_t1_loop.trips) : Fin 2 → Nat :=
  let c0_i32_1 : BitVec 32 := 0#32
  let c1_i32 : BitVec 32 := 1#32
  let arg19 : BitVec 32 := Scf.iv c0_i32_1 c1_i32 k0_t1
  let c0_i32_0 : BitVec 32 := 0#32
  let v76 : BitVec 32 := Scalar.subi arg19 c0_i32_0
  let c512_i32 : BitVec 32 := 512#32
  let v77 : BitVec 32 := Scalar.muli v76 c512_i32
  let v78 : BitVec 32 := v77
  let c0_i32_30 : BitVec 32 := 0#32
  ![v78.toNat, 0]
def k0_cond2 (k0_t1 : Fin k0_t1_loop.trips) : BitVec 1 :=
  let c0_i32_1 : BitVec 32 := 0#32
  let c1_i32 : BitVec 32 := 1#32
  let arg19 : BitVec 32 := Scf.iv c0_i32_1 c1_i32 k0_t1
  let c0_i32 : BitVec 32 := 0#32
  let c59_i32 : BitVec 32 := 59#32
  let v0 : BitVec 32 := Scalar.addi c0_i32 c59_i32
  let c1_i32_26 : BitVec 32 := 1#32
  let v72 : BitVec 32 := Scalar.subi v0 c1_i32_26
  let v73 : BitVec 1 := Scalar.cmpi .eq arg19 v72
  let v74 : BitVec 32 := Scalar.extui v73
  let c0_i32_27 : BitVec 32 := 0#32
  let v75 : BitVec 1 := Scalar.cmpi .ne v74 c0_i32_27
  v75

def k0_mult2 (k0_t1 : Fin k0_t1_loop.trips) : BitVec 32 :=
  let c0_i32_1 : BitVec 32 := 0#32
  let c1_i32 : BitVec 32 := 1#32
  let arg19 : BitVec 32 := Scf.iv c0_i32_1 c1_i32 k0_t1
  let c0_i32_0 : BitVec 32 := 0#32
  let v76 : BitVec 32 := Scalar.subi arg19 c0_i32_0
  let c512_i32 : BitVec 32 := 512#32
  let v77 : BitVec 32 := Scalar.muli v76 c512_i32
  v77
def k0_off4 (k0_t1 : Fin k0_t1_loop.trips) : Fin 3 → Nat :=
  let c0_i32_1 : BitVec 32 := 0#32
  let c1_i32 : BitVec 32 := 1#32
  let arg19 : BitVec 32 := Scf.iv c0_i32_1 c1_i32 k0_t1
  let c6_i32 : BitVec 32 := 6#32
  let v65 : BitVec 32 := Scalar.remsi arg19 c6_i32
  let c0_i32_28 : BitVec 32 := 0#32
  let c0_i32_29 : BitVec 32 := 0#32
  ![v65.toNat, 0, 0]
def k0_off5 (k0_t1 : Fin k0_t1_loop.trips) : Fin 2 → Nat :=
  let c0_i32_1 : BitVec 32 := 0#32
  let c1_i32 : BitVec 32 := 1#32
  let arg19 : BitVec 32 := Scf.iv c0_i32_1 c1_i32 k0_t1
  let c0_i32_0 : BitVec 32 := 0#32
  let v76 : BitVec 32 := Scalar.subi arg19 c0_i32_0
  let c512_i32 : BitVec 32 := 512#32
  let v77 : BitVec 32 := Scalar.muli v76 c512_i32
  let v78 : BitVec 32 := v77
  let c0_i32_30 : BitVec 32 := 0#32
  ![v78.toNat, 0]
def k0_mult3 : BitVec 32 :=
  let c0_i32_39_r0 : BitVec 32 := 0#32
  let c512_i32_r0 : BitVec 32 := 512#32
  let v85_r0 : BitVec 32 := Scalar.muli c0_i32_39_r0 c512_i32_r0
  v85_r0
def k0_off6 : Fin 1 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  ![v84_r0.toNat]
def k0_off7 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let c0_i32_40_r0 : BitVec 32 := 0#32
  let c0_i32_41_r0 : BitVec 32 := 0#32
  ![v84_r0.toNat, 0, 0]
def k0_off8 : Fin 2 → Nat :=
  let c0_i32_39_r0 : BitVec 32 := 0#32
  let c512_i32_r0 : BitVec 32 := 512#32
  let v85_r0 : BitVec 32 := Scalar.muli c0_i32_39_r0 c512_i32_r0
  let v86_r0 : BitVec 32 := v85_r0
  let c0_i32_42_r0 : BitVec 32 := 0#32
  ![v86_r0.toNat, 0]
def k0_cond3 : BitVec 1 :=
  let c0_i32_23 : BitVec 32 := 0#32
  let c0_i32_38_r0 : BitVec 32 := 0#32
  let v83_r0 : BitVec 32 := Scalar.addi c0_i32_23 c0_i32_38_r0
  let c6_i32_43_r0 : BitVec 32 := 6#32
  let v92_r0 : BitVec 32 := Scalar.addi v83_r0 c6_i32_43_r0
  let c1_i32_44_r0 : BitVec 32 := 1#32
  let v93_r0 : BitVec 32 := Scalar.subi v92_r0 c1_i32_44_r0
  let v95_r0 : BitVec 1 := Scalar.cmpi .sge v93_r0 c0_i32_23
  let c0_i32 : BitVec 32 := 0#32
  let c59_i32 : BitVec 32 := 59#32
  let v0 : BitVec 32 := Scalar.addi c0_i32 c59_i32
  let c1_i32_46_r0 : BitVec 32 := 1#32
  let v96_r0 : BitVec 32 := Scalar.subi v0 c1_i32_46_r0
  let v97_r0 : BitVec 1 := Scalar.cmpi .slt v93_r0 v96_r0
  let v98_r0 : BitVec 1 := Scalar.andi v95_r0 v97_r0
  let v99_r0 : BitVec 32 := Scalar.extui v98_r0
  let c0_i32_47_r0 : BitVec 32 := 0#32
  let v100_r0 : BitVec 1 := Scalar.cmpi .ne v99_r0 c0_i32_47_r0
  v100_r0

def k0_mult4 : BitVec 32 :=
  let c0_i32_23 : BitVec 32 := 0#32
  let c0_i32_38_r0 : BitVec 32 := 0#32
  let v83_r0 : BitVec 32 := Scalar.addi c0_i32_23 c0_i32_38_r0
  let c6_i32_43_r0 : BitVec 32 := 6#32
  let v92_r0 : BitVec 32 := Scalar.addi v83_r0 c6_i32_43_r0
  let c1_i32_44_r0 : BitVec 32 := 1#32
  let v93_r0 : BitVec 32 := Scalar.subi v92_r0 c1_i32_44_r0
  let v1238_r0 : BitVec 32 := Scalar.subi v93_r0 c0_i32_23
  let c512_i32_707_r0 : BitVec 32 := 512#32
  let v1239_r0 : BitVec 32 := Scalar.muli v1238_r0 c512_i32_707_r0
  v1239_r0
def k0_off9 : Fin 1 → Nat :=
  let c0_i32_23 : BitVec 32 := 0#32
  let c0_i32_38_r0 : BitVec 32 := 0#32
  let v83_r0 : BitVec 32 := Scalar.addi c0_i32_23 c0_i32_38_r0
  let c6_i32_43_r0 : BitVec 32 := 6#32
  let v92_r0 : BitVec 32 := Scalar.addi v83_r0 c6_i32_43_r0
  let c1_i32_44_r0 : BitVec 32 := 1#32
  let v93_r0 : BitVec 32 := Scalar.subi v92_r0 c1_i32_44_r0
  let c6_i32_45_r0 : BitVec 32 := 6#32
  let v94_r0 : BitVec 32 := Scalar.remsi v93_r0 c6_i32_45_r0
  ![v94_r0.toNat]
def k0_off10 : Fin 3 → Nat :=
  let c0_i32_23 : BitVec 32 := 0#32
  let c0_i32_38_r0 : BitVec 32 := 0#32
  let v83_r0 : BitVec 32 := Scalar.addi c0_i32_23 c0_i32_38_r0
  let c6_i32_43_r0 : BitVec 32 := 6#32
  let v92_r0 : BitVec 32 := Scalar.addi v83_r0 c6_i32_43_r0
  let c1_i32_44_r0 : BitVec 32 := 1#32
  let v93_r0 : BitVec 32 := Scalar.subi v92_r0 c1_i32_44_r0
  let c6_i32_45_r0 : BitVec 32 := 6#32
  let v94_r0 : BitVec 32 := Scalar.remsi v93_r0 c6_i32_45_r0
  let c0_i32_708_r0 : BitVec 32 := 0#32
  let c0_i32_709_r0 : BitVec 32 := 0#32
  ![v94_r0.toNat, 0, 0]
def k0_off11 : Fin 2 → Nat :=
  let c0_i32_23 : BitVec 32 := 0#32
  let c0_i32_38_r0 : BitVec 32 := 0#32
  let v83_r0 : BitVec 32 := Scalar.addi c0_i32_23 c0_i32_38_r0
  let c6_i32_43_r0 : BitVec 32 := 6#32
  let v92_r0 : BitVec 32 := Scalar.addi v83_r0 c6_i32_43_r0
  let c1_i32_44_r0 : BitVec 32 := 1#32
  let v93_r0 : BitVec 32 := Scalar.subi v92_r0 c1_i32_44_r0
  let v1238_r0 : BitVec 32 := Scalar.subi v93_r0 c0_i32_23
  let c512_i32_707_r0 : BitVec 32 := 512#32
  let v1239_r0 : BitVec 32 := Scalar.muli v1238_r0 c512_i32_707_r0
  let v1240_r0 : BitVec 32 := v1239_r0
  let c0_i32_710_r0 : BitVec 32 := 0#32
  ![v1240_r0.toNat, 0]
def k0_cond4 : BitVec 1 :=
  let c0_i32_23 : BitVec 32 := 0#32
  let c0_i32_38_r0 : BitVec 32 := 0#32
  let v83_r0 : BitVec 32 := Scalar.addi c0_i32_23 c0_i32_38_r0
  let c6_i32_43_r0 : BitVec 32 := 6#32
  let v92_r0 : BitVec 32 := Scalar.addi v83_r0 c6_i32_43_r0
  let c1_i32_44_r0 : BitVec 32 := 1#32
  let v93_r0 : BitVec 32 := Scalar.subi v92_r0 c1_i32_44_r0
  let c0_i32 : BitVec 32 := 0#32
  let c59_i32 : BitVec 32 := 59#32
  let v0 : BitVec 32 := Scalar.addi c0_i32 c59_i32
  let c1_i32_48_r0 : BitVec 32 := 1#32
  let v101_r0 : BitVec 32 := Scalar.subi v0 c1_i32_48_r0
  let v102_r0 : BitVec 1 := Scalar.cmpi .eq v93_r0 v101_r0
  let v103_r0 : BitVec 32 := Scalar.extui v102_r0
  let c0_i32_49_r0 : BitVec 32 := 0#32
  let v104_r0 : BitVec 1 := Scalar.cmpi .ne v103_r0 c0_i32_49_r0
  v104_r0

def k0_mult5 : BitVec 32 :=
  let c0_i32_23 : BitVec 32 := 0#32
  let c0_i32_38_r0 : BitVec 32 := 0#32
  let v83_r0 : BitVec 32 := Scalar.addi c0_i32_23 c0_i32_38_r0
  let c6_i32_43_r0 : BitVec 32 := 6#32
  let v92_r0 : BitVec 32 := Scalar.addi v83_r0 c6_i32_43_r0
  let c1_i32_44_r0 : BitVec 32 := 1#32
  let v93_r0 : BitVec 32 := Scalar.subi v92_r0 c1_i32_44_r0
  let v1238_r0 : BitVec 32 := Scalar.subi v93_r0 c0_i32_23
  let c512_i32_707_r0 : BitVec 32 := 512#32
  let v1239_r0 : BitVec 32 := Scalar.muli v1238_r0 c512_i32_707_r0
  v1239_r0
def k0_off12 : Fin 3 → Nat :=
  let c0_i32_23 : BitVec 32 := 0#32
  let c0_i32_38_r0 : BitVec 32 := 0#32
  let v83_r0 : BitVec 32 := Scalar.addi c0_i32_23 c0_i32_38_r0
  let c6_i32_43_r0 : BitVec 32 := 6#32
  let v92_r0 : BitVec 32 := Scalar.addi v83_r0 c6_i32_43_r0
  let c1_i32_44_r0 : BitVec 32 := 1#32
  let v93_r0 : BitVec 32 := Scalar.subi v92_r0 c1_i32_44_r0
  let c6_i32_45_r0 : BitVec 32 := 6#32
  let v94_r0 : BitVec 32 := Scalar.remsi v93_r0 c6_i32_45_r0
  let c0_i32_708_r0 : BitVec 32 := 0#32
  let c0_i32_709_r0 : BitVec 32 := 0#32
  ![v94_r0.toNat, 0, 0]
def k0_off13 : Fin 2 → Nat :=
  let c0_i32_23 : BitVec 32 := 0#32
  let c0_i32_38_r0 : BitVec 32 := 0#32
  let v83_r0 : BitVec 32 := Scalar.addi c0_i32_23 c0_i32_38_r0
  let c6_i32_43_r0 : BitVec 32 := 6#32
  let v92_r0 : BitVec 32 := Scalar.addi v83_r0 c6_i32_43_r0
  let c1_i32_44_r0 : BitVec 32 := 1#32
  let v93_r0 : BitVec 32 := Scalar.subi v92_r0 c1_i32_44_r0
  let v1238_r0 : BitVec 32 := Scalar.subi v93_r0 c0_i32_23
  let c512_i32_707_r0 : BitVec 32 := 512#32
  let v1239_r0 : BitVec 32 := Scalar.muli v1238_r0 c512_i32_707_r0
  let v1240_r0 : BitVec 32 := v1239_r0
  let c0_i32_710_r0 : BitVec 32 := 0#32
  ![v1240_r0.toNat, 0]
def k0_off14 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v105_r0 : Index := Scalar.indexCast v84_r0
  let c0_50_r0 : Index := 0#32
  let c0_51_r0 : Index := 0#32
  ![v105_r0.toNat, 0, 0]
def k0_off15 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v109_r0 : Index := Scalar.indexCast v84_r0
  let c256_r0 : Index := 256#32
  let c0_52_r0 : Index := 0#32
  ![v109_r0.toNat, 256, 0]
def k0_off16 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v121_r0 : Index := Scalar.indexCast v84_r0
  let c0_59_r0 : Index := 0#32
  let c256_60_r0 : Index := 256#32
  ![v121_r0.toNat, 0, 256]
def k0_off17 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v125_r0 : Index := Scalar.indexCast v84_r0
  let c256_61_r0 : Index := 256#32
  let c256_62_r0 : Index := 256#32
  ![v125_r0.toNat, 256, 256]
def k0_off18 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v137_r0 : Index := Scalar.indexCast v84_r0
  let c0_71_r0 : Index := 0#32
  let c512_r0 : Index := 512#32
  ![v137_r0.toNat, 0, 512]
def k0_off19 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v141_r0 : Index := Scalar.indexCast v84_r0
  let c256_72_r0 : Index := 256#32
  let c512_73_r0 : Index := 512#32
  ![v141_r0.toNat, 256, 512]
def k0_off20 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v153_r0 : Index := Scalar.indexCast v84_r0
  let c0_82_r0 : Index := 0#32
  let c768_r0 : Index := 768#32
  ![v153_r0.toNat, 0, 768]
def k0_off21 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v157_r0 : Index := Scalar.indexCast v84_r0
  let c256_83_r0 : Index := 256#32
  let c768_84_r0 : Index := 768#32
  ![v157_r0.toNat, 256, 768]
def k0_off22 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v169_r0 : Index := Scalar.indexCast v84_r0
  let c0_93_r0 : Index := 0#32
  let c1024_r0 : Index := 1024#32
  ![v169_r0.toNat, 0, 1024]
def k0_off23 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v173_r0 : Index := Scalar.indexCast v84_r0
  let c256_94_r0 : Index := 256#32
  let c1024_95_r0 : Index := 1024#32
  ![v173_r0.toNat, 256, 1024]
def k0_off24 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v185_r0 : Index := Scalar.indexCast v84_r0
  let c0_104_r0 : Index := 0#32
  let c1280_r0 : Index := 1280#32
  ![v185_r0.toNat, 0, 1280]
def k0_off25 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v189_r0 : Index := Scalar.indexCast v84_r0
  let c256_105_r0 : Index := 256#32
  let c1280_106_r0 : Index := 1280#32
  ![v189_r0.toNat, 256, 1280]
def k0_off26 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v201_r0 : Index := Scalar.indexCast v84_r0
  let c0_115_r0 : Index := 0#32
  let c1536_r0 : Index := 1536#32
  ![v201_r0.toNat, 0, 1536]
def k0_off27 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v205_r0 : Index := Scalar.indexCast v84_r0
  let c256_116_r0 : Index := 256#32
  let c1536_117_r0 : Index := 1536#32
  ![v205_r0.toNat, 256, 1536]
def k0_off28 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v217_r0 : Index := Scalar.indexCast v84_r0
  let c0_126_r0 : Index := 0#32
  let c1792_r0 : Index := 1792#32
  ![v217_r0.toNat, 0, 1792]
def k0_off29 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v221_r0 : Index := Scalar.indexCast v84_r0
  let c256_127_r0 : Index := 256#32
  let c1792_128_r0 : Index := 1792#32
  ![v221_r0.toNat, 256, 1792]
def k0_off30 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v233_r0 : Index := Scalar.indexCast v84_r0
  let c0_137_r0 : Index := 0#32
  let c2048_r0 : Index := 2048#32
  ![v233_r0.toNat, 0, 2048]
def k0_off31 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v237_r0 : Index := Scalar.indexCast v84_r0
  let c256_138_r0 : Index := 256#32
  let c2048_139_r0 : Index := 2048#32
  ![v237_r0.toNat, 256, 2048]
def k0_off32 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v249_r0 : Index := Scalar.indexCast v84_r0
  let c0_148_r0 : Index := 0#32
  let c2304_r0 : Index := 2304#32
  ![v249_r0.toNat, 0, 2304]
def k0_off33 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v253_r0 : Index := Scalar.indexCast v84_r0
  let c256_149_r0 : Index := 256#32
  let c2304_150_r0 : Index := 2304#32
  ![v253_r0.toNat, 256, 2304]
def k0_off34 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v265_r0 : Index := Scalar.indexCast v84_r0
  let c0_159_r0 : Index := 0#32
  let c2560_r0 : Index := 2560#32
  ![v265_r0.toNat, 0, 2560]
def k0_off35 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v269_r0 : Index := Scalar.indexCast v84_r0
  let c256_160_r0 : Index := 256#32
  let c2560_161_r0 : Index := 2560#32
  ![v269_r0.toNat, 256, 2560]
def k0_off36 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v281_r0 : Index := Scalar.indexCast v84_r0
  let c0_170_r0 : Index := 0#32
  let c2816_r0 : Index := 2816#32
  ![v281_r0.toNat, 0, 2816]
def k0_off37 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v285_r0 : Index := Scalar.indexCast v84_r0
  let c256_171_r0 : Index := 256#32
  let c2816_172_r0 : Index := 2816#32
  ![v285_r0.toNat, 256, 2816]
def k0_off38 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v297_r0 : Index := Scalar.indexCast v84_r0
  let c0_181_r0 : Index := 0#32
  let c3072_r0 : Index := 3072#32
  ![v297_r0.toNat, 0, 3072]
def k0_off39 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v301_r0 : Index := Scalar.indexCast v84_r0
  let c256_182_r0 : Index := 256#32
  let c3072_183_r0 : Index := 3072#32
  ![v301_r0.toNat, 256, 3072]
def k0_off40 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v313_r0 : Index := Scalar.indexCast v84_r0
  let c0_192_r0 : Index := 0#32
  let c3328_r0 : Index := 3328#32
  ![v313_r0.toNat, 0, 3328]
def k0_off41 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v317_r0 : Index := Scalar.indexCast v84_r0
  let c256_193_r0 : Index := 256#32
  let c3328_194_r0 : Index := 3328#32
  ![v317_r0.toNat, 256, 3328]
def k0_off42 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v329_r0 : Index := Scalar.indexCast v84_r0
  let c0_203_r0 : Index := 0#32
  let c3584_r0 : Index := 3584#32
  ![v329_r0.toNat, 0, 3584]
def k0_off43 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v333_r0 : Index := Scalar.indexCast v84_r0
  let c256_204_r0 : Index := 256#32
  let c3584_205_r0 : Index := 3584#32
  ![v333_r0.toNat, 256, 3584]
def k0_off44 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v345_r0 : Index := Scalar.indexCast v84_r0
  let c0_214_r0 : Index := 0#32
  let c3840_r0 : Index := 3840#32
  ![v345_r0.toNat, 0, 3840]
def k0_off45 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v349_r0 : Index := Scalar.indexCast v84_r0
  let c256_215_r0 : Index := 256#32
  let c3840_216_r0 : Index := 3840#32
  ![v349_r0.toNat, 256, 3840]
def k0_off46 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v361_r0 : Index := Scalar.indexCast v84_r0
  let c0_225_r0 : Index := 0#32
  let c4096_r0 : Index := 4096#32
  ![v361_r0.toNat, 0, 4096]
def k0_off47 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v365_r0 : Index := Scalar.indexCast v84_r0
  let c256_226_r0 : Index := 256#32
  let c4096_227_r0 : Index := 4096#32
  ![v365_r0.toNat, 256, 4096]
def k0_off48 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v377_r0 : Index := Scalar.indexCast v84_r0
  let c0_236_r0 : Index := 0#32
  let c4352_r0 : Index := 4352#32
  ![v377_r0.toNat, 0, 4352]
def k0_off49 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v381_r0 : Index := Scalar.indexCast v84_r0
  let c256_237_r0 : Index := 256#32
  let c4352_238_r0 : Index := 4352#32
  ![v381_r0.toNat, 256, 4352]
def k0_off50 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v393_r0 : Index := Scalar.indexCast v84_r0
  let c0_247_r0 : Index := 0#32
  let c4608_r0 : Index := 4608#32
  ![v393_r0.toNat, 0, 4608]
def k0_off51 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v397_r0 : Index := Scalar.indexCast v84_r0
  let c256_248_r0 : Index := 256#32
  let c4608_249_r0 : Index := 4608#32
  ![v397_r0.toNat, 256, 4608]
def k0_off52 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v409_r0 : Index := Scalar.indexCast v84_r0
  let c0_258_r0 : Index := 0#32
  let c4864_r0 : Index := 4864#32
  ![v409_r0.toNat, 0, 4864]
def k0_off53 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v413_r0 : Index := Scalar.indexCast v84_r0
  let c256_259_r0 : Index := 256#32
  let c4864_260_r0 : Index := 4864#32
  ![v413_r0.toNat, 256, 4864]
def k0_off54 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v425_r0 : Index := Scalar.indexCast v84_r0
  let c0_269_r0 : Index := 0#32
  let c5120_r0 : Index := 5120#32
  ![v425_r0.toNat, 0, 5120]
def k0_off55 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v429_r0 : Index := Scalar.indexCast v84_r0
  let c256_270_r0 : Index := 256#32
  let c5120_271_r0 : Index := 5120#32
  ![v429_r0.toNat, 256, 5120]
def k0_off56 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v441_r0 : Index := Scalar.indexCast v84_r0
  let c0_280_r0 : Index := 0#32
  let c5376_r0 : Index := 5376#32
  ![v441_r0.toNat, 0, 5376]
def k0_off57 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v445_r0 : Index := Scalar.indexCast v84_r0
  let c256_281_r0 : Index := 256#32
  let c5376_282_r0 : Index := 5376#32
  ![v445_r0.toNat, 256, 5376]
def k0_off58 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v457_r0 : Index := Scalar.indexCast v84_r0
  let c0_291_r0 : Index := 0#32
  let c5632_r0 : Index := 5632#32
  ![v457_r0.toNat, 0, 5632]
def k0_off59 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v461_r0 : Index := Scalar.indexCast v84_r0
  let c256_292_r0 : Index := 256#32
  let c5632_293_r0 : Index := 5632#32
  ![v461_r0.toNat, 256, 5632]
def k0_off60 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v473_r0 : Index := Scalar.indexCast v84_r0
  let c0_302_r0 : Index := 0#32
  let c5888_r0 : Index := 5888#32
  ![v473_r0.toNat, 0, 5888]
def k0_off61 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v477_r0 : Index := Scalar.indexCast v84_r0
  let c256_303_r0 : Index := 256#32
  let c5888_304_r0 : Index := 5888#32
  ![v477_r0.toNat, 256, 5888]
def k0_off62 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v489_r0 : Index := Scalar.indexCast v84_r0
  let c0_313_r0 : Index := 0#32
  let c6144_r0 : Index := 6144#32
  ![v489_r0.toNat, 0, 6144]
def k0_off63 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v493_r0 : Index := Scalar.indexCast v84_r0
  let c256_314_r0 : Index := 256#32
  let c6144_315_r0 : Index := 6144#32
  ![v493_r0.toNat, 256, 6144]
def k0_off64 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v505_r0 : Index := Scalar.indexCast v84_r0
  let c0_324_r0 : Index := 0#32
  let c6400_r0 : Index := 6400#32
  ![v505_r0.toNat, 0, 6400]
def k0_off65 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v509_r0 : Index := Scalar.indexCast v84_r0
  let c256_325_r0 : Index := 256#32
  let c6400_326_r0 : Index := 6400#32
  ![v509_r0.toNat, 256, 6400]
def k0_off66 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v521_r0 : Index := Scalar.indexCast v84_r0
  let c0_335_r0 : Index := 0#32
  let c6656_r0 : Index := 6656#32
  ![v521_r0.toNat, 0, 6656]
def k0_off67 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v525_r0 : Index := Scalar.indexCast v84_r0
  let c256_336_r0 : Index := 256#32
  let c6656_337_r0 : Index := 6656#32
  ![v525_r0.toNat, 256, 6656]
def k0_off68 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v537_r0 : Index := Scalar.indexCast v84_r0
  let c0_346_r0 : Index := 0#32
  let c6912_r0 : Index := 6912#32
  ![v537_r0.toNat, 0, 6912]
def k0_off69 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v541_r0 : Index := Scalar.indexCast v84_r0
  let c256_347_r0 : Index := 256#32
  let c6912_348_r0 : Index := 6912#32
  ![v541_r0.toNat, 256, 6912]
def k0_off70 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v553_r0 : Index := Scalar.indexCast v84_r0
  let c0_357_r0 : Index := 0#32
  let c7168_r0 : Index := 7168#32
  ![v553_r0.toNat, 0, 7168]
def k0_off71 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v557_r0 : Index := Scalar.indexCast v84_r0
  let c256_358_r0 : Index := 256#32
  let c7168_359_r0 : Index := 7168#32
  ![v557_r0.toNat, 256, 7168]
def k0_off72 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v569_r0 : Index := Scalar.indexCast v84_r0
  let c0_368_r0 : Index := 0#32
  let c7424_r0 : Index := 7424#32
  ![v569_r0.toNat, 0, 7424]
def k0_off73 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v573_r0 : Index := Scalar.indexCast v84_r0
  let c256_369_r0 : Index := 256#32
  let c7424_370_r0 : Index := 7424#32
  ![v573_r0.toNat, 256, 7424]
def k0_off74 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v585_r0 : Index := Scalar.indexCast v84_r0
  let c0_379_r0 : Index := 0#32
  let c7680_r0 : Index := 7680#32
  ![v585_r0.toNat, 0, 7680]
def k0_off75 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v589_r0 : Index := Scalar.indexCast v84_r0
  let c256_380_r0 : Index := 256#32
  let c7680_381_r0 : Index := 7680#32
  ![v589_r0.toNat, 256, 7680]
def k0_off76 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v601_r0 : Index := Scalar.indexCast v84_r0
  let c0_390_r0 : Index := 0#32
  let c7936_r0 : Index := 7936#32
  ![v601_r0.toNat, 0, 7936]
def k0_off77 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v605_r0 : Index := Scalar.indexCast v84_r0
  let c256_391_r0 : Index := 256#32
  let c7936_392_r0 : Index := 7936#32
  ![v605_r0.toNat, 256, 7936]
def k0_off78 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v617_r0 : Index := Scalar.indexCast v84_r0
  let c0_401_r0 : Index := 0#32
  let c8192_r0 : Index := 8192#32
  ![v617_r0.toNat, 0, 8192]
def k0_off79 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v621_r0 : Index := Scalar.indexCast v84_r0
  let c256_402_r0 : Index := 256#32
  let c8192_403_r0 : Index := 8192#32
  ![v621_r0.toNat, 256, 8192]
def k0_off80 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v633_r0 : Index := Scalar.indexCast v84_r0
  let c0_412_r0 : Index := 0#32
  let c8448_r0 : Index := 8448#32
  ![v633_r0.toNat, 0, 8448]
def k0_off81 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v637_r0 : Index := Scalar.indexCast v84_r0
  let c256_413_r0 : Index := 256#32
  let c8448_414_r0 : Index := 8448#32
  ![v637_r0.toNat, 256, 8448]
def k0_off82 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v649_r0 : Index := Scalar.indexCast v84_r0
  let c0_423_r0 : Index := 0#32
  let c8704_r0 : Index := 8704#32
  ![v649_r0.toNat, 0, 8704]
def k0_off83 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v653_r0 : Index := Scalar.indexCast v84_r0
  let c256_424_r0 : Index := 256#32
  let c8704_425_r0 : Index := 8704#32
  ![v653_r0.toNat, 256, 8704]
def k0_off84 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v665_r0 : Index := Scalar.indexCast v84_r0
  let c0_434_r0 : Index := 0#32
  let c8960_r0 : Index := 8960#32
  ![v665_r0.toNat, 0, 8960]
def k0_off85 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v669_r0 : Index := Scalar.indexCast v84_r0
  let c256_435_r0 : Index := 256#32
  let c8960_436_r0 : Index := 8960#32
  ![v669_r0.toNat, 256, 8960]
def k0_off86 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v681_r0 : Index := Scalar.indexCast v84_r0
  let c0_445_r0 : Index := 0#32
  let c9216_r0 : Index := 9216#32
  ![v681_r0.toNat, 0, 9216]
def k0_off87 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v685_r0 : Index := Scalar.indexCast v84_r0
  let c256_446_r0 : Index := 256#32
  let c9216_447_r0 : Index := 9216#32
  ![v685_r0.toNat, 256, 9216]
def k0_off88 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v697_r0 : Index := Scalar.indexCast v84_r0
  let c0_456_r0 : Index := 0#32
  let c9472_r0 : Index := 9472#32
  ![v697_r0.toNat, 0, 9472]
def k0_off89 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v701_r0 : Index := Scalar.indexCast v84_r0
  let c256_457_r0 : Index := 256#32
  let c9472_458_r0 : Index := 9472#32
  ![v701_r0.toNat, 256, 9472]
def k0_off90 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v713_r0 : Index := Scalar.indexCast v84_r0
  let c0_467_r0 : Index := 0#32
  let c9728_r0 : Index := 9728#32
  ![v713_r0.toNat, 0, 9728]
def k0_off91 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v717_r0 : Index := Scalar.indexCast v84_r0
  let c256_468_r0 : Index := 256#32
  let c9728_469_r0 : Index := 9728#32
  ![v717_r0.toNat, 256, 9728]
def k0_off92 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v729_r0 : Index := Scalar.indexCast v84_r0
  let c0_478_r0 : Index := 0#32
  let c9984_r0 : Index := 9984#32
  ![v729_r0.toNat, 0, 9984]
def k0_off93 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v733_r0 : Index := Scalar.indexCast v84_r0
  let c256_479_r0 : Index := 256#32
  let c9984_480_r0 : Index := 9984#32
  ![v733_r0.toNat, 256, 9984]
def k0_off94 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v745_r0 : Index := Scalar.indexCast v84_r0
  let c0_489_r0 : Index := 0#32
  let c10240_r0 : Index := 10240#32
  ![v745_r0.toNat, 0, 10240]
def k0_off95 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v749_r0 : Index := Scalar.indexCast v84_r0
  let c256_490_r0 : Index := 256#32
  let c10240_491_r0 : Index := 10240#32
  ![v749_r0.toNat, 256, 10240]
def k0_off96 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v761_r0 : Index := Scalar.indexCast v84_r0
  let c0_500_r0 : Index := 0#32
  let c10496_r0 : Index := 10496#32
  ![v761_r0.toNat, 0, 10496]
def k0_off97 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v765_r0 : Index := Scalar.indexCast v84_r0
  let c256_501_r0 : Index := 256#32
  let c10496_502_r0 : Index := 10496#32
  ![v765_r0.toNat, 256, 10496]
def k0_off98 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v777_r0 : Index := Scalar.indexCast v84_r0
  let c0_511_r0 : Index := 0#32
  let c10752_r0 : Index := 10752#32
  ![v777_r0.toNat, 0, 10752]
def k0_off99 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v781_r0 : Index := Scalar.indexCast v84_r0
  let c256_512_r0 : Index := 256#32
  let c10752_513_r0 : Index := 10752#32
  ![v781_r0.toNat, 256, 10752]
def k0_off100 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v793_r0 : Index := Scalar.indexCast v84_r0
  let c0_522_r0 : Index := 0#32
  let c11008_r0 : Index := 11008#32
  ![v793_r0.toNat, 0, 11008]
def k0_off101 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v797_r0 : Index := Scalar.indexCast v84_r0
  let c256_523_r0 : Index := 256#32
  let c11008_524_r0 : Index := 11008#32
  ![v797_r0.toNat, 256, 11008]
def k0_off102 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v809_r0 : Index := Scalar.indexCast v84_r0
  let c0_533_r0 : Index := 0#32
  let c11264_r0 : Index := 11264#32
  ![v809_r0.toNat, 0, 11264]
def k0_off103 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v813_r0 : Index := Scalar.indexCast v84_r0
  let c256_534_r0 : Index := 256#32
  let c11264_535_r0 : Index := 11264#32
  ![v813_r0.toNat, 256, 11264]
def k0_off104 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v825_r0 : Index := Scalar.indexCast v84_r0
  let c0_544_r0 : Index := 0#32
  let c11520_r0 : Index := 11520#32
  ![v825_r0.toNat, 0, 11520]
def k0_off105 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v829_r0 : Index := Scalar.indexCast v84_r0
  let c256_545_r0 : Index := 256#32
  let c11520_546_r0 : Index := 11520#32
  ![v829_r0.toNat, 256, 11520]
def k0_off106 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v841_r0 : Index := Scalar.indexCast v84_r0
  let c0_555_r0 : Index := 0#32
  let c11776_r0 : Index := 11776#32
  ![v841_r0.toNat, 0, 11776]
def k0_off107 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v845_r0 : Index := Scalar.indexCast v84_r0
  let c256_556_r0 : Index := 256#32
  let c11776_557_r0 : Index := 11776#32
  ![v845_r0.toNat, 256, 11776]
def k0_off108 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v857_r0 : Index := Scalar.indexCast v84_r0
  let c0_566_r0 : Index := 0#32
  let c12032_r0 : Index := 12032#32
  ![v857_r0.toNat, 0, 12032]
def k0_off109 : Fin 3 → Nat :=
  let c0_i32_23 : BitVec 32 := 0#32
  let c0_i32_38_r0 : BitVec 32 := 0#32
  let v83_r0 : BitVec 32 := Scalar.addi c0_i32_23 c0_i32_38_r0
  let c6_i32_r0 : BitVec 32 := 6#32
  let v84_r0 : BitVec 32 := Scalar.remsi v83_r0 c6_i32_r0
  let v861_r0 : Index := Scalar.indexCast v84_r0
  let c256_567_r0 : Index := 256#32
  let c12032_568_r0 : Index := 12032#32
  ![v861_r0.toNat, 256, 12032]
@[reducible] def k0_t2_loop : Scf.Loop 32 :=
  let c0_i32_578_r0 : BitVec 32 := 0#32
  let c29_i32_r0 : BitVec 32 := 29#32
  let v873_r0 : BitVec 32 := Scalar.addi c0_i32_578_r0 c29_i32_r0
  let c1_i32_579_r0 : BitVec 32 := 1#32
  ⟨c0_i32_578_r0, v873_r0, c1_i32_579_r0⟩
def k0_mult6 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_710_r0 : BitVec 32 := 512#32
  let v1243_r0 : BitVec 32 := Scalar.muli v1239_r0 c512_i32_710_r0
  v1243_r0
def k0_off110 (k0_t2 : Fin k0_t2_loop.trips) : Fin 1 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  ![v1242_r0.toNat]
def k0_off111 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let c0_i32_711_r0 : BitVec 32 := 0#32
  let c0_i32_712_r0 : BitVec 32 := 0#32
  ![v1242_r0.toNat, 0, 0]
def k0_off112 (k0_t2 : Fin k0_t2_loop.trips) : Fin 2 → Nat :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_710_r0 : BitVec 32 := 512#32
  let v1243_r0 : BitVec 32 := Scalar.muli v1239_r0 c512_i32_710_r0
  let v1244_r0 : BitVec 32 := v1243_r0
  let c0_i32_713_r0 : BitVec 32 := 0#32
  ![v1244_r0.toNat, 0]
def k0_cond5 (k0_t2 : Fin k0_t2_loop.trips) : BitVec 1 :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_714_r0 : BitVec 32 := 6#32
  let v1250_r0 : BitVec 32 := Scalar.addi v1241_r0 c6_i32_714_r0
  let c1_i32_715_r0 : BitVec 32 := 1#32
  let v1251_r0 : BitVec 32 := Scalar.subi v1250_r0 c1_i32_715_r0
  let v1253_r0 : BitVec 1 := Scalar.cmpi .sge v1251_r0 c0_i32_23
  let c0_i32 : BitVec 32 := 0#32
  let c59_i32 : BitVec 32 := 59#32
  let v0 : BitVec 32 := Scalar.addi c0_i32 c59_i32
  let c1_i32_717_r0 : BitVec 32 := 1#32
  let v1254_r0 : BitVec 32 := Scalar.subi v0 c1_i32_717_r0
  let v1255_r0 : BitVec 1 := Scalar.cmpi .slt v1251_r0 v1254_r0
  let v1256_r0 : BitVec 1 := Scalar.andi v1253_r0 v1255_r0
  let v1257_r0 : BitVec 32 := Scalar.extui v1256_r0
  let c0_i32_718_r0 : BitVec 32 := 0#32
  let v1258_r0 : BitVec 1 := Scalar.cmpi .ne v1257_r0 c0_i32_718_r0
  v1258_r0

def k0_mult7 (k0_t2 : Fin k0_t2_loop.trips) : BitVec 32 :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_714_r0 : BitVec 32 := 6#32
  let v1250_r0 : BitVec 32 := Scalar.addi v1241_r0 c6_i32_714_r0
  let c1_i32_715_r0 : BitVec 32 := 1#32
  let v1251_r0 : BitVec 32 := Scalar.subi v1250_r0 c1_i32_715_r0
  let v3559_r0 : BitVec 32 := Scalar.subi v1251_r0 c0_i32_23
  let c512_i32_2084_r0 : BitVec 32 := 512#32
  let v3560_r0 : BitVec 32 := Scalar.muli v3559_r0 c512_i32_2084_r0
  v3560_r0
def k0_off113 (k0_t2 : Fin k0_t2_loop.trips) : Fin 1 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_714_r0 : BitVec 32 := 6#32
  let v1250_r0 : BitVec 32 := Scalar.addi v1241_r0 c6_i32_714_r0
  let c1_i32_715_r0 : BitVec 32 := 1#32
  let v1251_r0 : BitVec 32 := Scalar.subi v1250_r0 c1_i32_715_r0
  let c6_i32_716_r0 : BitVec 32 := 6#32
  let v1252_r0 : BitVec 32 := Scalar.remsi v1251_r0 c6_i32_716_r0
  ![v1252_r0.toNat]
def k0_off114 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_714_r0 : BitVec 32 := 6#32
  let v1250_r0 : BitVec 32 := Scalar.addi v1241_r0 c6_i32_714_r0
  let c1_i32_715_r0 : BitVec 32 := 1#32
  let v1251_r0 : BitVec 32 := Scalar.subi v1250_r0 c1_i32_715_r0
  let c6_i32_716_r0 : BitVec 32 := 6#32
  let v1252_r0 : BitVec 32 := Scalar.remsi v1251_r0 c6_i32_716_r0
  let c0_i32_2085_r0 : BitVec 32 := 0#32
  let c0_i32_2086_r0 : BitVec 32 := 0#32
  ![v1252_r0.toNat, 0, 0]
def k0_off115 (k0_t2 : Fin k0_t2_loop.trips) : Fin 2 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_714_r0 : BitVec 32 := 6#32
  let v1250_r0 : BitVec 32 := Scalar.addi v1241_r0 c6_i32_714_r0
  let c1_i32_715_r0 : BitVec 32 := 1#32
  let v1251_r0 : BitVec 32 := Scalar.subi v1250_r0 c1_i32_715_r0
  let v3559_r0 : BitVec 32 := Scalar.subi v1251_r0 c0_i32_23
  let c512_i32_2084_r0 : BitVec 32 := 512#32
  let v3560_r0 : BitVec 32 := Scalar.muli v3559_r0 c512_i32_2084_r0
  let v3561_r0 : BitVec 32 := v3560_r0
  let c0_i32_2087_r0 : BitVec 32 := 0#32
  ![v3561_r0.toNat, 0]
def k0_cond6 (k0_t2 : Fin k0_t2_loop.trips) : BitVec 1 :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_714_r0 : BitVec 32 := 6#32
  let v1250_r0 : BitVec 32 := Scalar.addi v1241_r0 c6_i32_714_r0
  let c1_i32_715_r0 : BitVec 32 := 1#32
  let v1251_r0 : BitVec 32 := Scalar.subi v1250_r0 c1_i32_715_r0
  let c0_i32 : BitVec 32 := 0#32
  let c59_i32 : BitVec 32 := 59#32
  let v0 : BitVec 32 := Scalar.addi c0_i32 c59_i32
  let c1_i32_719_r0 : BitVec 32 := 1#32
  let v1259_r0 : BitVec 32 := Scalar.subi v0 c1_i32_719_r0
  let v1260_r0 : BitVec 1 := Scalar.cmpi .eq v1251_r0 v1259_r0
  let v1261_r0 : BitVec 32 := Scalar.extui v1260_r0
  let c0_i32_720_r0 : BitVec 32 := 0#32
  let v1262_r0 : BitVec 1 := Scalar.cmpi .ne v1261_r0 c0_i32_720_r0
  v1262_r0

def k0_mult8 (k0_t2 : Fin k0_t2_loop.trips) : BitVec 32 :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_714_r0 : BitVec 32 := 6#32
  let v1250_r0 : BitVec 32 := Scalar.addi v1241_r0 c6_i32_714_r0
  let c1_i32_715_r0 : BitVec 32 := 1#32
  let v1251_r0 : BitVec 32 := Scalar.subi v1250_r0 c1_i32_715_r0
  let v3559_r0 : BitVec 32 := Scalar.subi v1251_r0 c0_i32_23
  let c512_i32_2084_r0 : BitVec 32 := 512#32
  let v3560_r0 : BitVec 32 := Scalar.muli v3559_r0 c512_i32_2084_r0
  v3560_r0
def k0_off116 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_714_r0 : BitVec 32 := 6#32
  let v1250_r0 : BitVec 32 := Scalar.addi v1241_r0 c6_i32_714_r0
  let c1_i32_715_r0 : BitVec 32 := 1#32
  let v1251_r0 : BitVec 32 := Scalar.subi v1250_r0 c1_i32_715_r0
  let c6_i32_716_r0 : BitVec 32 := 6#32
  let v1252_r0 : BitVec 32 := Scalar.remsi v1251_r0 c6_i32_716_r0
  let c0_i32_2085_r0 : BitVec 32 := 0#32
  let c0_i32_2086_r0 : BitVec 32 := 0#32
  ![v1252_r0.toNat, 0, 0]
def k0_off117 (k0_t2 : Fin k0_t2_loop.trips) : Fin 2 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_714_r0 : BitVec 32 := 6#32
  let v1250_r0 : BitVec 32 := Scalar.addi v1241_r0 c6_i32_714_r0
  let c1_i32_715_r0 : BitVec 32 := 1#32
  let v1251_r0 : BitVec 32 := Scalar.subi v1250_r0 c1_i32_715_r0
  let v3559_r0 : BitVec 32 := Scalar.subi v1251_r0 c0_i32_23
  let c512_i32_2084_r0 : BitVec 32 := 512#32
  let v3560_r0 : BitVec 32 := Scalar.muli v3559_r0 c512_i32_2084_r0
  let v3561_r0 : BitVec 32 := v3560_r0
  let c0_i32_2087_r0 : BitVec 32 := 0#32
  ![v3561_r0.toNat, 0]
def k0_off118 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1263_r0 : Index := Scalar.indexCast v1242_r0
  let c0_721_r0 : Index := 0#32
  let c0_722_r0 : Index := 0#32
  ![v1263_r0.toNat, 0, 0]
def k0_off119 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1267_r0 : Index := Scalar.indexCast v1242_r0
  let c256_723_r0 : Index := 256#32
  let c0_724_r0 : Index := 0#32
  ![v1267_r0.toNat, 256, 0]
def k0_off120 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1279_r0 : Index := Scalar.indexCast v1242_r0
  let c0_733_r0 : Index := 0#32
  let c256_734_r0 : Index := 256#32
  ![v1279_r0.toNat, 0, 256]
def k0_off121 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1283_r0 : Index := Scalar.indexCast v1242_r0
  let c256_735_r0 : Index := 256#32
  let c256_736_r0 : Index := 256#32
  ![v1283_r0.toNat, 256, 256]
def k0_off122 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1295_r0 : Index := Scalar.indexCast v1242_r0
  let c0_745_r0 : Index := 0#32
  let c512_746_r0 : Index := 512#32
  ![v1295_r0.toNat, 0, 512]
def k0_off123 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1299_r0 : Index := Scalar.indexCast v1242_r0
  let c256_747_r0 : Index := 256#32
  let c512_748_r0 : Index := 512#32
  ![v1299_r0.toNat, 256, 512]
def k0_off124 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1311_r0 : Index := Scalar.indexCast v1242_r0
  let c0_757_r0 : Index := 0#32
  let c768_758_r0 : Index := 768#32
  ![v1311_r0.toNat, 0, 768]
def k0_off125 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1315_r0 : Index := Scalar.indexCast v1242_r0
  let c256_759_r0 : Index := 256#32
  let c768_760_r0 : Index := 768#32
  ![v1315_r0.toNat, 256, 768]
def k0_off126 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1327_r0 : Index := Scalar.indexCast v1242_r0
  let c0_769_r0 : Index := 0#32
  let c1024_770_r0 : Index := 1024#32
  ![v1327_r0.toNat, 0, 1024]
def k0_off127 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1331_r0 : Index := Scalar.indexCast v1242_r0
  let c256_771_r0 : Index := 256#32
  let c1024_772_r0 : Index := 1024#32
  ![v1331_r0.toNat, 256, 1024]
def k0_off128 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1343_r0 : Index := Scalar.indexCast v1242_r0
  let c0_781_r0 : Index := 0#32
  let c1280_782_r0 : Index := 1280#32
  ![v1343_r0.toNat, 0, 1280]
def k0_off129 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1347_r0 : Index := Scalar.indexCast v1242_r0
  let c256_783_r0 : Index := 256#32
  let c1280_784_r0 : Index := 1280#32
  ![v1347_r0.toNat, 256, 1280]
def k0_mult9 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let c512_i32_793_r0 : BitVec 32 := 512#32
  let v1365_r0 : BitVec 32 := Scalar.muli v1240_r0 c512_i32_793_r0
  let c0_i32_802_r0 : BitVec 32 := 0#32
  let v1371_r0 : BitVec 32 := Scalar.addi v1365_r0 c0_i32_802_r0
  v1371_r0
def k0_off130 (k0_t2 : Fin k0_t2_loop.trips) (c0_i32_802_r0 : BitVec 32) : Fin 1 → Nat :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let c512_i32_793_r0 : BitVec 32 := 512#32
  let v1365_r0 : BitVec 32 := Scalar.muli v1240_r0 c512_i32_793_r0
  let v1371_r0 : BitVec 32 := Scalar.addi v1365_r0 c0_i32_802_r0
  let v1372_r0 : BitVec 32 := v1371_r0
  let v1373_r0 : Index := Scalar.indexCast v1372_r0
  ![v1373_r0.toNat]
def k0_mult10 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let c512_i32_793_r0 : BitVec 32 := 512#32
  let v1365_r0 : BitVec 32 := Scalar.muli v1240_r0 c512_i32_793_r0
  let c128_i32_r0 : BitVec 32 := 128#32
  let v1385_r0 : BitVec 32 := Scalar.addi v1365_r0 c128_i32_r0
  v1385_r0
def k0_mult11 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let c512_i32_793_r0 : BitVec 32 := 512#32
  let v1365_r0 : BitVec 32 := Scalar.muli v1240_r0 c512_i32_793_r0
  let c256_i32_r0 : BitVec 32 := 256#32
  let v1399_r0 : BitVec 32 := Scalar.addi v1365_r0 c256_i32_r0
  v1399_r0
def k0_mult12 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let c512_i32_793_r0 : BitVec 32 := 512#32
  let v1365_r0 : BitVec 32 := Scalar.muli v1240_r0 c512_i32_793_r0
  let c384_i32_r0 : BitVec 32 := 384#32
  let v1413_r0 : BitVec 32 := Scalar.addi v1365_r0 c384_i32_r0
  v1413_r0
def k0_off131 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1451_r0 : Index := Scalar.indexCast v1242_r0
  let c0_815_r0 : Index := 0#32
  let c1536_816_r0 : Index := 1536#32
  ![v1451_r0.toNat, 0, 1536]
def k0_off132 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1455_r0 : Index := Scalar.indexCast v1242_r0
  let c256_817_r0 : Index := 256#32
  let c1536_818_r0 : Index := 1536#32
  ![v1455_r0.toNat, 256, 1536]
def k0_off133 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1467_r0 : Index := Scalar.indexCast v1242_r0
  let c0_827_r0 : Index := 0#32
  let c1792_828_r0 : Index := 1792#32
  ![v1467_r0.toNat, 0, 1792]
def k0_off134 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1471_r0 : Index := Scalar.indexCast v1242_r0
  let c256_829_r0 : Index := 256#32
  let c1792_830_r0 : Index := 1792#32
  ![v1471_r0.toNat, 256, 1792]
def k0_off135 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1483_r0 : Index := Scalar.indexCast v1242_r0
  let c0_839_r0 : Index := 0#32
  let c2048_840_r0 : Index := 2048#32
  ![v1483_r0.toNat, 0, 2048]
def k0_off136 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1487_r0 : Index := Scalar.indexCast v1242_r0
  let c256_841_r0 : Index := 256#32
  let c2048_842_r0 : Index := 2048#32
  ![v1487_r0.toNat, 256, 2048]
def k0_off137 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1499_r0 : Index := Scalar.indexCast v1242_r0
  let c0_851_r0 : Index := 0#32
  let c2304_852_r0 : Index := 2304#32
  ![v1499_r0.toNat, 0, 2304]
def k0_off138 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1503_r0 : Index := Scalar.indexCast v1242_r0
  let c256_853_r0 : Index := 256#32
  let c2304_854_r0 : Index := 2304#32
  ![v1503_r0.toNat, 256, 2304]
def k0_off139 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1515_r0 : Index := Scalar.indexCast v1242_r0
  let c0_863_r0 : Index := 0#32
  let c2560_864_r0 : Index := 2560#32
  ![v1515_r0.toNat, 0, 2560]
def k0_off140 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1519_r0 : Index := Scalar.indexCast v1242_r0
  let c256_865_r0 : Index := 256#32
  let c2560_866_r0 : Index := 2560#32
  ![v1519_r0.toNat, 256, 2560]
def k0_off141 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1531_r0 : Index := Scalar.indexCast v1242_r0
  let c0_875_r0 : Index := 0#32
  let c2816_876_r0 : Index := 2816#32
  ![v1531_r0.toNat, 0, 2816]
def k0_off142 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1535_r0 : Index := Scalar.indexCast v1242_r0
  let c256_877_r0 : Index := 256#32
  let c2816_878_r0 : Index := 2816#32
  ![v1535_r0.toNat, 256, 2816]
def k0_off143 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1547_r0 : Index := Scalar.indexCast v1242_r0
  let c0_887_r0 : Index := 0#32
  let c3072_888_r0 : Index := 3072#32
  ![v1547_r0.toNat, 0, 3072]
def k0_off144 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1551_r0 : Index := Scalar.indexCast v1242_r0
  let c256_889_r0 : Index := 256#32
  let c3072_890_r0 : Index := 3072#32
  ![v1551_r0.toNat, 256, 3072]
def k0_off145 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1563_r0 : Index := Scalar.indexCast v1242_r0
  let c0_899_r0 : Index := 0#32
  let c3328_900_r0 : Index := 3328#32
  ![v1563_r0.toNat, 0, 3328]
def k0_off146 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1567_r0 : Index := Scalar.indexCast v1242_r0
  let c256_901_r0 : Index := 256#32
  let c3328_902_r0 : Index := 3328#32
  ![v1567_r0.toNat, 256, 3328]
def k0_mult13 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let c512_i32_911_r0 : BitVec 32 := 512#32
  let v1585_r0 : BitVec 32 := Scalar.muli v1240_r0 c512_i32_911_r0
  let c0_i32_920_r0 : BitVec 32 := 0#32
  let v1591_r0 : BitVec 32 := Scalar.addi v1585_r0 c0_i32_920_r0
  v1591_r0
def k0_mult14 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let c512_i32_911_r0 : BitVec 32 := 512#32
  let v1585_r0 : BitVec 32 := Scalar.muli v1240_r0 c512_i32_911_r0
  let c128_i32_922_r0 : BitVec 32 := 128#32
  let v1605_r0 : BitVec 32 := Scalar.addi v1585_r0 c128_i32_922_r0
  v1605_r0
def k0_mult15 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let c512_i32_911_r0 : BitVec 32 := 512#32
  let v1585_r0 : BitVec 32 := Scalar.muli v1240_r0 c512_i32_911_r0
  let c256_i32_924_r0 : BitVec 32 := 256#32
  let v1619_r0 : BitVec 32 := Scalar.addi v1585_r0 c256_i32_924_r0
  v1619_r0
def k0_mult16 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let c512_i32_911_r0 : BitVec 32 := 512#32
  let v1585_r0 : BitVec 32 := Scalar.muli v1240_r0 c512_i32_911_r0
  let c384_i32_926_r0 : BitVec 32 := 384#32
  let v1633_r0 : BitVec 32 := Scalar.addi v1585_r0 c384_i32_926_r0
  v1633_r0
def k0_off147 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1671_r0 : Index := Scalar.indexCast v1242_r0
  let c0_936_r0 : Index := 0#32
  let c3584_937_r0 : Index := 3584#32
  ![v1671_r0.toNat, 0, 3584]
def k0_off148 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1675_r0 : Index := Scalar.indexCast v1242_r0
  let c256_938_r0 : Index := 256#32
  let c3584_939_r0 : Index := 3584#32
  ![v1675_r0.toNat, 256, 3584]
def k0_off149 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1687_r0 : Index := Scalar.indexCast v1242_r0
  let c0_948_r0 : Index := 0#32
  let c3840_949_r0 : Index := 3840#32
  ![v1687_r0.toNat, 0, 3840]
def k0_off150 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1691_r0 : Index := Scalar.indexCast v1242_r0
  let c256_950_r0 : Index := 256#32
  let c3840_951_r0 : Index := 3840#32
  ![v1691_r0.toNat, 256, 3840]
def k0_off151 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1703_r0 : Index := Scalar.indexCast v1242_r0
  let c0_960_r0 : Index := 0#32
  let c4096_961_r0 : Index := 4096#32
  ![v1703_r0.toNat, 0, 4096]
def k0_off152 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1707_r0 : Index := Scalar.indexCast v1242_r0
  let c256_962_r0 : Index := 256#32
  let c4096_963_r0 : Index := 4096#32
  ![v1707_r0.toNat, 256, 4096]
def k0_off153 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1719_r0 : Index := Scalar.indexCast v1242_r0
  let c0_972_r0 : Index := 0#32
  let c4352_973_r0 : Index := 4352#32
  ![v1719_r0.toNat, 0, 4352]
def k0_off154 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1723_r0 : Index := Scalar.indexCast v1242_r0
  let c256_974_r0 : Index := 256#32
  let c4352_975_r0 : Index := 4352#32
  ![v1723_r0.toNat, 256, 4352]
def k0_off155 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1735_r0 : Index := Scalar.indexCast v1242_r0
  let c0_984_r0 : Index := 0#32
  let c4608_985_r0 : Index := 4608#32
  ![v1735_r0.toNat, 0, 4608]
def k0_off156 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1739_r0 : Index := Scalar.indexCast v1242_r0
  let c256_986_r0 : Index := 256#32
  let c4608_987_r0 : Index := 4608#32
  ![v1739_r0.toNat, 256, 4608]
def k0_off157 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1751_r0 : Index := Scalar.indexCast v1242_r0
  let c0_996_r0 : Index := 0#32
  let c4864_997_r0 : Index := 4864#32
  ![v1751_r0.toNat, 0, 4864]
def k0_off158 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1755_r0 : Index := Scalar.indexCast v1242_r0
  let c256_998_r0 : Index := 256#32
  let c4864_999_r0 : Index := 4864#32
  ![v1755_r0.toNat, 256, 4864]
def k0_off159 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1767_r0 : Index := Scalar.indexCast v1242_r0
  let c0_1008_r0 : Index := 0#32
  let c5120_1009_r0 : Index := 5120#32
  ![v1767_r0.toNat, 0, 5120]
def k0_off160 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1771_r0 : Index := Scalar.indexCast v1242_r0
  let c256_1010_r0 : Index := 256#32
  let c5120_1011_r0 : Index := 5120#32
  ![v1771_r0.toNat, 256, 5120]
def k0_off161 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1783_r0 : Index := Scalar.indexCast v1242_r0
  let c0_1020_r0 : Index := 0#32
  let c5376_1021_r0 : Index := 5376#32
  ![v1783_r0.toNat, 0, 5376]
def k0_off162 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1787_r0 : Index := Scalar.indexCast v1242_r0
  let c256_1022_r0 : Index := 256#32
  let c5376_1023_r0 : Index := 5376#32
  ![v1787_r0.toNat, 256, 5376]
def k0_mult17 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let c512_i32_1032_r0 : BitVec 32 := 512#32
  let v1805_r0 : BitVec 32 := Scalar.muli v1240_r0 c512_i32_1032_r0
  let c0_i32_1041_r0 : BitVec 32 := 0#32
  let v1811_r0 : BitVec 32 := Scalar.addi v1805_r0 c0_i32_1041_r0
  v1811_r0
def k0_mult18 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let c512_i32_1032_r0 : BitVec 32 := 512#32
  let v1805_r0 : BitVec 32 := Scalar.muli v1240_r0 c512_i32_1032_r0
  let c128_i32_1043_r0 : BitVec 32 := 128#32
  let v1825_r0 : BitVec 32 := Scalar.addi v1805_r0 c128_i32_1043_r0
  v1825_r0
def k0_mult19 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let c512_i32_1032_r0 : BitVec 32 := 512#32
  let v1805_r0 : BitVec 32 := Scalar.muli v1240_r0 c512_i32_1032_r0
  let c256_i32_1045_r0 : BitVec 32 := 256#32
  let v1839_r0 : BitVec 32 := Scalar.addi v1805_r0 c256_i32_1045_r0
  v1839_r0
def k0_mult20 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let c512_i32_1032_r0 : BitVec 32 := 512#32
  let v1805_r0 : BitVec 32 := Scalar.muli v1240_r0 c512_i32_1032_r0
  let c384_i32_1047_r0 : BitVec 32 := 384#32
  let v1853_r0 : BitVec 32 := Scalar.addi v1805_r0 c384_i32_1047_r0
  v1853_r0
def k0_off163 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1891_r0 : Index := Scalar.indexCast v1242_r0
  let c0_1057_r0 : Index := 0#32
  let c5632_1058_r0 : Index := 5632#32
  ![v1891_r0.toNat, 0, 5632]
def k0_off164 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1895_r0 : Index := Scalar.indexCast v1242_r0
  let c256_1059_r0 : Index := 256#32
  let c5632_1060_r0 : Index := 5632#32
  ![v1895_r0.toNat, 256, 5632]
def k0_off165 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1907_r0 : Index := Scalar.indexCast v1242_r0
  let c0_1069_r0 : Index := 0#32
  let c5888_1070_r0 : Index := 5888#32
  ![v1907_r0.toNat, 0, 5888]
def k0_off166 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1911_r0 : Index := Scalar.indexCast v1242_r0
  let c256_1071_r0 : Index := 256#32
  let c5888_1072_r0 : Index := 5888#32
  ![v1911_r0.toNat, 256, 5888]
def k0_off167 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1923_r0 : Index := Scalar.indexCast v1242_r0
  let c0_1081_r0 : Index := 0#32
  let c6144_1082_r0 : Index := 6144#32
  ![v1923_r0.toNat, 0, 6144]
def k0_off168 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1927_r0 : Index := Scalar.indexCast v1242_r0
  let c256_1083_r0 : Index := 256#32
  let c6144_1084_r0 : Index := 6144#32
  ![v1927_r0.toNat, 256, 6144]
def k0_off169 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1939_r0 : Index := Scalar.indexCast v1242_r0
  let c0_1093_r0 : Index := 0#32
  let c6400_1094_r0 : Index := 6400#32
  ![v1939_r0.toNat, 0, 6400]
def k0_off170 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1943_r0 : Index := Scalar.indexCast v1242_r0
  let c256_1095_r0 : Index := 256#32
  let c6400_1096_r0 : Index := 6400#32
  ![v1943_r0.toNat, 256, 6400]
def k0_off171 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1955_r0 : Index := Scalar.indexCast v1242_r0
  let c0_1105_r0 : Index := 0#32
  let c6656_1106_r0 : Index := 6656#32
  ![v1955_r0.toNat, 0, 6656]
def k0_off172 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1959_r0 : Index := Scalar.indexCast v1242_r0
  let c256_1107_r0 : Index := 256#32
  let c6656_1108_r0 : Index := 6656#32
  ![v1959_r0.toNat, 256, 6656]
def k0_off173 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1971_r0 : Index := Scalar.indexCast v1242_r0
  let c0_1117_r0 : Index := 0#32
  let c6912_1118_r0 : Index := 6912#32
  ![v1971_r0.toNat, 0, 6912]
def k0_off174 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1975_r0 : Index := Scalar.indexCast v1242_r0
  let c256_1119_r0 : Index := 256#32
  let c6912_1120_r0 : Index := 6912#32
  ![v1975_r0.toNat, 256, 6912]
def k0_off175 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1987_r0 : Index := Scalar.indexCast v1242_r0
  let c0_1129_r0 : Index := 0#32
  let c7168_1130_r0 : Index := 7168#32
  ![v1987_r0.toNat, 0, 7168]
def k0_off176 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v1991_r0 : Index := Scalar.indexCast v1242_r0
  let c256_1131_r0 : Index := 256#32
  let c7168_1132_r0 : Index := 7168#32
  ![v1991_r0.toNat, 256, 7168]
def k0_off177 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2003_r0 : Index := Scalar.indexCast v1242_r0
  let c0_1141_r0 : Index := 0#32
  let c7424_1142_r0 : Index := 7424#32
  ![v2003_r0.toNat, 0, 7424]
def k0_off178 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2007_r0 : Index := Scalar.indexCast v1242_r0
  let c256_1143_r0 : Index := 256#32
  let c7424_1144_r0 : Index := 7424#32
  ![v2007_r0.toNat, 256, 7424]
def k0_mult21 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let c512_i32_1153_r0 : BitVec 32 := 512#32
  let v2025_r0 : BitVec 32 := Scalar.muli v1240_r0 c512_i32_1153_r0
  let c0_i32_1162_r0 : BitVec 32 := 0#32
  let v2031_r0 : BitVec 32 := Scalar.addi v2025_r0 c0_i32_1162_r0
  v2031_r0
def k0_mult22 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let c512_i32_1153_r0 : BitVec 32 := 512#32
  let v2025_r0 : BitVec 32 := Scalar.muli v1240_r0 c512_i32_1153_r0
  let c128_i32_1164_r0 : BitVec 32 := 128#32
  let v2045_r0 : BitVec 32 := Scalar.addi v2025_r0 c128_i32_1164_r0
  v2045_r0
def k0_mult23 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let c512_i32_1153_r0 : BitVec 32 := 512#32
  let v2025_r0 : BitVec 32 := Scalar.muli v1240_r0 c512_i32_1153_r0
  let c256_i32_1166_r0 : BitVec 32 := 256#32
  let v2059_r0 : BitVec 32 := Scalar.addi v2025_r0 c256_i32_1166_r0
  v2059_r0
def k0_mult24 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let c512_i32_1153_r0 : BitVec 32 := 512#32
  let v2025_r0 : BitVec 32 := Scalar.muli v1240_r0 c512_i32_1153_r0
  let c384_i32_1168_r0 : BitVec 32 := 384#32
  let v2073_r0 : BitVec 32 := Scalar.addi v2025_r0 c384_i32_1168_r0
  v2073_r0
def k0_off179 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2111_r0 : Index := Scalar.indexCast v1242_r0
  let c0_1178_r0 : Index := 0#32
  let c7680_1179_r0 : Index := 7680#32
  ![v2111_r0.toNat, 0, 7680]
def k0_off180 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2115_r0 : Index := Scalar.indexCast v1242_r0
  let c256_1180_r0 : Index := 256#32
  let c7680_1181_r0 : Index := 7680#32
  ![v2115_r0.toNat, 256, 7680]
def k0_off181 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2127_r0 : Index := Scalar.indexCast v1242_r0
  let c0_1190_r0 : Index := 0#32
  let c7936_1191_r0 : Index := 7936#32
  ![v2127_r0.toNat, 0, 7936]
def k0_off182 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2131_r0 : Index := Scalar.indexCast v1242_r0
  let c256_1192_r0 : Index := 256#32
  let c7936_1193_r0 : Index := 7936#32
  ![v2131_r0.toNat, 256, 7936]
def k0_off183 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2143_r0 : Index := Scalar.indexCast v1242_r0
  let c0_1202_r0 : Index := 0#32
  let c8192_1203_r0 : Index := 8192#32
  ![v2143_r0.toNat, 0, 8192]
def k0_off184 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2147_r0 : Index := Scalar.indexCast v1242_r0
  let c256_1204_r0 : Index := 256#32
  let c8192_1205_r0 : Index := 8192#32
  ![v2147_r0.toNat, 256, 8192]
def k0_off185 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2159_r0 : Index := Scalar.indexCast v1242_r0
  let c0_1214_r0 : Index := 0#32
  let c8448_1215_r0 : Index := 8448#32
  ![v2159_r0.toNat, 0, 8448]
def k0_off186 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2163_r0 : Index := Scalar.indexCast v1242_r0
  let c256_1216_r0 : Index := 256#32
  let c8448_1217_r0 : Index := 8448#32
  ![v2163_r0.toNat, 256, 8448]
def k0_off187 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2175_r0 : Index := Scalar.indexCast v1242_r0
  let c0_1226_r0 : Index := 0#32
  let c8704_1227_r0 : Index := 8704#32
  ![v2175_r0.toNat, 0, 8704]
def k0_off188 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2179_r0 : Index := Scalar.indexCast v1242_r0
  let c256_1228_r0 : Index := 256#32
  let c8704_1229_r0 : Index := 8704#32
  ![v2179_r0.toNat, 256, 8704]
def k0_off189 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2191_r0 : Index := Scalar.indexCast v1242_r0
  let c0_1238_r0 : Index := 0#32
  let c8960_1239_r0 : Index := 8960#32
  ![v2191_r0.toNat, 0, 8960]
def k0_off190 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2195_r0 : Index := Scalar.indexCast v1242_r0
  let c256_1240_r0 : Index := 256#32
  let c8960_1241_r0 : Index := 8960#32
  ![v2195_r0.toNat, 256, 8960]
def k0_off191 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2207_r0 : Index := Scalar.indexCast v1242_r0
  let c0_1250_r0 : Index := 0#32
  let c9216_1251_r0 : Index := 9216#32
  ![v2207_r0.toNat, 0, 9216]
def k0_off192 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2211_r0 : Index := Scalar.indexCast v1242_r0
  let c256_1252_r0 : Index := 256#32
  let c9216_1253_r0 : Index := 9216#32
  ![v2211_r0.toNat, 256, 9216]
def k0_off193 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2223_r0 : Index := Scalar.indexCast v1242_r0
  let c0_1262_r0 : Index := 0#32
  let c9472_1263_r0 : Index := 9472#32
  ![v2223_r0.toNat, 0, 9472]
def k0_off194 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2227_r0 : Index := Scalar.indexCast v1242_r0
  let c256_1264_r0 : Index := 256#32
  let c9472_1265_r0 : Index := 9472#32
  ![v2227_r0.toNat, 256, 9472]
def k0_off195 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2239_r0 : Index := Scalar.indexCast v1242_r0
  let c0_1274_r0 : Index := 0#32
  let c9728_1275_r0 : Index := 9728#32
  ![v2239_r0.toNat, 0, 9728]
def k0_off196 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2243_r0 : Index := Scalar.indexCast v1242_r0
  let c256_1276_r0 : Index := 256#32
  let c9728_1277_r0 : Index := 9728#32
  ![v2243_r0.toNat, 256, 9728]
def k0_off197 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2255_r0 : Index := Scalar.indexCast v1242_r0
  let c0_1286_r0 : Index := 0#32
  let c9984_1287_r0 : Index := 9984#32
  ![v2255_r0.toNat, 0, 9984]
def k0_off198 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2259_r0 : Index := Scalar.indexCast v1242_r0
  let c256_1288_r0 : Index := 256#32
  let c9984_1289_r0 : Index := 9984#32
  ![v2259_r0.toNat, 256, 9984]
def k0_off199 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2271_r0 : Index := Scalar.indexCast v1242_r0
  let c0_1298_r0 : Index := 0#32
  let c10240_1299_r0 : Index := 10240#32
  ![v2271_r0.toNat, 0, 10240]
def k0_off200 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2275_r0 : Index := Scalar.indexCast v1242_r0
  let c256_1300_r0 : Index := 256#32
  let c10240_1301_r0 : Index := 10240#32
  ![v2275_r0.toNat, 256, 10240]
def k0_off201 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2287_r0 : Index := Scalar.indexCast v1242_r0
  let c0_1310_r0 : Index := 0#32
  let c10496_1311_r0 : Index := 10496#32
  ![v2287_r0.toNat, 0, 10496]
def k0_off202 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2291_r0 : Index := Scalar.indexCast v1242_r0
  let c256_1312_r0 : Index := 256#32
  let c10496_1313_r0 : Index := 10496#32
  ![v2291_r0.toNat, 256, 10496]
def k0_off203 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2303_r0 : Index := Scalar.indexCast v1242_r0
  let c0_1322_r0 : Index := 0#32
  let c10752_1323_r0 : Index := 10752#32
  ![v2303_r0.toNat, 0, 10752]
def k0_off204 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2307_r0 : Index := Scalar.indexCast v1242_r0
  let c256_1324_r0 : Index := 256#32
  let c10752_1325_r0 : Index := 10752#32
  ![v2307_r0.toNat, 256, 10752]
def k0_off205 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2319_r0 : Index := Scalar.indexCast v1242_r0
  let c0_1334_r0 : Index := 0#32
  let c11008_1335_r0 : Index := 11008#32
  ![v2319_r0.toNat, 0, 11008]
def k0_off206 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2323_r0 : Index := Scalar.indexCast v1242_r0
  let c256_1336_r0 : Index := 256#32
  let c11008_1337_r0 : Index := 11008#32
  ![v2323_r0.toNat, 256, 11008]
def k0_off207 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2335_r0 : Index := Scalar.indexCast v1242_r0
  let c0_1346_r0 : Index := 0#32
  let c11264_1347_r0 : Index := 11264#32
  ![v2335_r0.toNat, 0, 11264]
def k0_off208 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2339_r0 : Index := Scalar.indexCast v1242_r0
  let c256_1348_r0 : Index := 256#32
  let c11264_1349_r0 : Index := 11264#32
  ![v2339_r0.toNat, 256, 11264]
def k0_off209 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2351_r0 : Index := Scalar.indexCast v1242_r0
  let c0_1358_r0 : Index := 0#32
  let c11520_1359_r0 : Index := 11520#32
  ![v2351_r0.toNat, 0, 11520]
def k0_off210 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2355_r0 : Index := Scalar.indexCast v1242_r0
  let c256_1360_r0 : Index := 256#32
  let c11520_1361_r0 : Index := 11520#32
  ![v2355_r0.toNat, 256, 11520]
def k0_off211 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2367_r0 : Index := Scalar.indexCast v1242_r0
  let c0_1370_r0 : Index := 0#32
  let c11776_1371_r0 : Index := 11776#32
  ![v2367_r0.toNat, 0, 11776]
def k0_off212 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2371_r0 : Index := Scalar.indexCast v1242_r0
  let c256_1372_r0 : Index := 256#32
  let c11776_1373_r0 : Index := 11776#32
  ![v2371_r0.toNat, 256, 11776]
def k0_off213 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2383_r0 : Index := Scalar.indexCast v1242_r0
  let c0_1382_r0 : Index := 0#32
  let c12032_1383_r0 : Index := 12032#32
  ![v2383_r0.toNat, 0, 12032]
def k0_off214 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let v1241_r0 : BitVec 32 := Scalar.addi c0_i32_23 v1239_r0
  let c6_i32_709_r0 : BitVec 32 := 6#32
  let v1242_r0 : BitVec 32 := Scalar.remsi v1241_r0 c6_i32_709_r0
  let v2387_r0 : Index := Scalar.indexCast v1242_r0
  let c256_1384_r0 : Index := 256#32
  let c12032_1385_r0 : Index := 12032#32
  ![v2387_r0.toNat, 256, 12032]
def k0_cond7 (k0_t2 : Fin k0_t2_loop.trips) : BitVec 1 :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c0_i32 : BitVec 32 := 0#32
  let c59_i32 : BitVec 32 := 59#32
  let v0 : BitVec 32 := Scalar.addi c0_i32 c59_i32
  let c1_i32_1396_r0 : BitVec 32 := 1#32
  let v2402_r0 : BitVec 32 := Scalar.subi v0 c1_i32_1396_r0
  let v2403_r0 : BitVec 1 := Scalar.cmpi .eq v2400_r0 v2402_r0
  let v2404_r0 : BitVec 32 := Scalar.extui v2403_r0
  let c0_i32_1397_r0 : BitVec 32 := 0#32
  let v2405_r0 : BitVec 1 := Scalar.cmpi .ne v2404_r0 c0_i32_1397_r0
  v2405_r0

def k0_mult25 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let c512_i32_2084_r0 : BitVec 32 := 512#32
  let v3559_r0 : BitVec 32 := Scalar.muli v2399_r0 c512_i32_2084_r0
  v3559_r0
def k0_off215 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let c0_i32_2085_r0 : BitVec 32 := 0#32
  let c0_i32_2086_r0 : BitVec 32 := 0#32
  ![v2401_r0.toNat, 0, 0]
def k0_off216 (k0_t2 : Fin k0_t2_loop.trips) : Fin 2 → Nat :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let c512_i32_2084_r0 : BitVec 32 := 512#32
  let v3559_r0 : BitVec 32 := Scalar.muli v2399_r0 c512_i32_2084_r0
  let v3560_r0 : BitVec 32 := v3559_r0
  let c0_i32_2087_r0 : BitVec 32 := 0#32
  ![v3560_r0.toNat, 0]
def k0_cond8 (k0_t2 : Fin k0_t2_loop.trips) : BitVec 1 :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c0_i32 : BitVec 32 := 0#32
  let c59_i32 : BitVec 32 := 59#32
  let v0 : BitVec 32 := Scalar.addi c0_i32 c59_i32
  let c1_i32_1398_r0 : BitVec 32 := 1#32
  let v2406_r0 : BitVec 32 := Scalar.subi v0 c1_i32_1398_r0
  let v2407_r0 : BitVec 1 := Scalar.cmpi .slt v2400_r0 v2406_r0
  let v2408_r0 : BitVec 32 := Scalar.extui v2407_r0
  let c0_i32_1399_r0 : BitVec 32 := 0#32
  let v2409_r0 : BitVec 1 := Scalar.cmpi .ne v2408_r0 c0_i32_1399_r0
  v2409_r0

def k0_mult26 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let c512_i32_2084_r0 : BitVec 32 := 512#32
  let v3559_r0 : BitVec 32 := Scalar.muli v2399_r0 c512_i32_2084_r0
  v3559_r0
def k0_off217 (k0_t2 : Fin k0_t2_loop.trips) : Fin 1 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  ![v2401_r0.toNat]
def k0_off218 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let c0_i32_2085_r0 : BitVec 32 := 0#32
  let c0_i32_2086_r0 : BitVec 32 := 0#32
  ![v2401_r0.toNat, 0, 0]
def k0_off219 (k0_t2 : Fin k0_t2_loop.trips) : Fin 2 → Nat :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let c512_i32_2084_r0 : BitVec 32 := 512#32
  let v3559_r0 : BitVec 32 := Scalar.muli v2399_r0 c512_i32_2084_r0
  let v3560_r0 : BitVec 32 := v3559_r0
  let c0_i32_2087_r0 : BitVec 32 := 0#32
  ![v3560_r0.toNat, 0]
def k0_cond9 (k0_t2 : Fin k0_t2_loop.trips) : BitVec 1 :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1400_r0 : BitVec 32 := 6#32
  let v2410_r0 : BitVec 32 := Scalar.addi v2400_r0 c6_i32_1400_r0
  let c1_i32_1401_r0 : BitVec 32 := 1#32
  let v2411_r0 : BitVec 32 := Scalar.subi v2410_r0 c1_i32_1401_r0
  let v2413_r0 : BitVec 1 := Scalar.cmpi .sge v2411_r0 c0_i32_23
  let c0_i32 : BitVec 32 := 0#32
  let c59_i32 : BitVec 32 := 59#32
  let v0 : BitVec 32 := Scalar.addi c0_i32 c59_i32
  let c1_i32_1403_r0 : BitVec 32 := 1#32
  let v2414_r0 : BitVec 32 := Scalar.subi v0 c1_i32_1403_r0
  let v2415_r0 : BitVec 1 := Scalar.cmpi .slt v2411_r0 v2414_r0
  let v2416_r0 : BitVec 1 := Scalar.andi v2413_r0 v2415_r0
  let v2417_r0 : BitVec 32 := Scalar.extui v2416_r0
  let c0_i32_1404_r0 : BitVec 32 := 0#32
  let v2418_r0 : BitVec 1 := Scalar.cmpi .ne v2417_r0 c0_i32_1404_r0
  v2418_r0

def k0_mult27 (k0_t2 : Fin k0_t2_loop.trips) : BitVec 32 :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1400_r0 : BitVec 32 := 6#32
  let v2410_r0 : BitVec 32 := Scalar.addi v2400_r0 c6_i32_1400_r0
  let c1_i32_1401_r0 : BitVec 32 := 1#32
  let v2411_r0 : BitVec 32 := Scalar.subi v2410_r0 c1_i32_1401_r0
  let v3559_r0 : BitVec 32 := Scalar.subi v2411_r0 c0_i32_23
  let c512_i32_2084_r0 : BitVec 32 := 512#32
  let v3560_r0 : BitVec 32 := Scalar.muli v3559_r0 c512_i32_2084_r0
  v3560_r0
def k0_off220 (k0_t2 : Fin k0_t2_loop.trips) : Fin 1 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1400_r0 : BitVec 32 := 6#32
  let v2410_r0 : BitVec 32 := Scalar.addi v2400_r0 c6_i32_1400_r0
  let c1_i32_1401_r0 : BitVec 32 := 1#32
  let v2411_r0 : BitVec 32 := Scalar.subi v2410_r0 c1_i32_1401_r0
  let c6_i32_1402_r0 : BitVec 32 := 6#32
  let v2412_r0 : BitVec 32 := Scalar.remsi v2411_r0 c6_i32_1402_r0
  ![v2412_r0.toNat]
def k0_off221 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1400_r0 : BitVec 32 := 6#32
  let v2410_r0 : BitVec 32 := Scalar.addi v2400_r0 c6_i32_1400_r0
  let c1_i32_1401_r0 : BitVec 32 := 1#32
  let v2411_r0 : BitVec 32 := Scalar.subi v2410_r0 c1_i32_1401_r0
  let c6_i32_1402_r0 : BitVec 32 := 6#32
  let v2412_r0 : BitVec 32 := Scalar.remsi v2411_r0 c6_i32_1402_r0
  let c0_i32_2085_r0 : BitVec 32 := 0#32
  let c0_i32_2086_r0 : BitVec 32 := 0#32
  ![v2412_r0.toNat, 0, 0]
def k0_off222 (k0_t2 : Fin k0_t2_loop.trips) : Fin 2 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1400_r0 : BitVec 32 := 6#32
  let v2410_r0 : BitVec 32 := Scalar.addi v2400_r0 c6_i32_1400_r0
  let c1_i32_1401_r0 : BitVec 32 := 1#32
  let v2411_r0 : BitVec 32 := Scalar.subi v2410_r0 c1_i32_1401_r0
  let v3559_r0 : BitVec 32 := Scalar.subi v2411_r0 c0_i32_23
  let c512_i32_2084_r0 : BitVec 32 := 512#32
  let v3560_r0 : BitVec 32 := Scalar.muli v3559_r0 c512_i32_2084_r0
  let v3561_r0 : BitVec 32 := v3560_r0
  let c0_i32_2087_r0 : BitVec 32 := 0#32
  ![v3561_r0.toNat, 0]
def k0_cond10 (k0_t2 : Fin k0_t2_loop.trips) : BitVec 1 :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1400_r0 : BitVec 32 := 6#32
  let v2410_r0 : BitVec 32 := Scalar.addi v2400_r0 c6_i32_1400_r0
  let c1_i32_1401_r0 : BitVec 32 := 1#32
  let v2411_r0 : BitVec 32 := Scalar.subi v2410_r0 c1_i32_1401_r0
  let c0_i32 : BitVec 32 := 0#32
  let c59_i32 : BitVec 32 := 59#32
  let v0 : BitVec 32 := Scalar.addi c0_i32 c59_i32
  let c1_i32_1405_r0 : BitVec 32 := 1#32
  let v2419_r0 : BitVec 32 := Scalar.subi v0 c1_i32_1405_r0
  let v2420_r0 : BitVec 1 := Scalar.cmpi .eq v2411_r0 v2419_r0
  let v2421_r0 : BitVec 32 := Scalar.extui v2420_r0
  let c0_i32_1406_r0 : BitVec 32 := 0#32
  let v2422_r0 : BitVec 1 := Scalar.cmpi .ne v2421_r0 c0_i32_1406_r0
  v2422_r0

def k0_mult28 (k0_t2 : Fin k0_t2_loop.trips) : BitVec 32 :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1400_r0 : BitVec 32 := 6#32
  let v2410_r0 : BitVec 32 := Scalar.addi v2400_r0 c6_i32_1400_r0
  let c1_i32_1401_r0 : BitVec 32 := 1#32
  let v2411_r0 : BitVec 32 := Scalar.subi v2410_r0 c1_i32_1401_r0
  let v3559_r0 : BitVec 32 := Scalar.subi v2411_r0 c0_i32_23
  let c512_i32_2084_r0 : BitVec 32 := 512#32
  let v3560_r0 : BitVec 32 := Scalar.muli v3559_r0 c512_i32_2084_r0
  v3560_r0
def k0_off223 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1400_r0 : BitVec 32 := 6#32
  let v2410_r0 : BitVec 32 := Scalar.addi v2400_r0 c6_i32_1400_r0
  let c1_i32_1401_r0 : BitVec 32 := 1#32
  let v2411_r0 : BitVec 32 := Scalar.subi v2410_r0 c1_i32_1401_r0
  let c6_i32_1402_r0 : BitVec 32 := 6#32
  let v2412_r0 : BitVec 32 := Scalar.remsi v2411_r0 c6_i32_1402_r0
  let c0_i32_2085_r0 : BitVec 32 := 0#32
  let c0_i32_2086_r0 : BitVec 32 := 0#32
  ![v2412_r0.toNat, 0, 0]
def k0_off224 (k0_t2 : Fin k0_t2_loop.trips) : Fin 2 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1400_r0 : BitVec 32 := 6#32
  let v2410_r0 : BitVec 32 := Scalar.addi v2400_r0 c6_i32_1400_r0
  let c1_i32_1401_r0 : BitVec 32 := 1#32
  let v2411_r0 : BitVec 32 := Scalar.subi v2410_r0 c1_i32_1401_r0
  let v3559_r0 : BitVec 32 := Scalar.subi v2411_r0 c0_i32_23
  let c512_i32_2084_r0 : BitVec 32 := 512#32
  let v3560_r0 : BitVec 32 := Scalar.muli v3559_r0 c512_i32_2084_r0
  let v3561_r0 : BitVec 32 := v3560_r0
  let c0_i32_2087_r0 : BitVec 32 := 0#32
  ![v3561_r0.toNat, 0]
def k0_off225 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2423_r0 : Index := Scalar.indexCast v2401_r0
  let c0_1407_r0 : Index := 0#32
  let c0_1408_r0 : Index := 0#32
  ![v2423_r0.toNat, 0, 0]
def k0_off226 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2427_r0 : Index := Scalar.indexCast v2401_r0
  let c256_1409_r0 : Index := 256#32
  let c0_1410_r0 : Index := 0#32
  ![v2427_r0.toNat, 256, 0]
def k0_off227 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2439_r0 : Index := Scalar.indexCast v2401_r0
  let c0_1419_r0 : Index := 0#32
  let c256_1420_r0 : Index := 256#32
  ![v2439_r0.toNat, 0, 256]
def k0_off228 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2443_r0 : Index := Scalar.indexCast v2401_r0
  let c256_1421_r0 : Index := 256#32
  let c256_1422_r0 : Index := 256#32
  ![v2443_r0.toNat, 256, 256]
def k0_off229 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2455_r0 : Index := Scalar.indexCast v2401_r0
  let c0_1431_r0 : Index := 0#32
  let c512_1432_r0 : Index := 512#32
  ![v2455_r0.toNat, 0, 512]
def k0_off230 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2459_r0 : Index := Scalar.indexCast v2401_r0
  let c256_1433_r0 : Index := 256#32
  let c512_1434_r0 : Index := 512#32
  ![v2459_r0.toNat, 256, 512]
def k0_off231 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2471_r0 : Index := Scalar.indexCast v2401_r0
  let c0_1443_r0 : Index := 0#32
  let c768_1444_r0 : Index := 768#32
  ![v2471_r0.toNat, 0, 768]
def k0_off232 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2475_r0 : Index := Scalar.indexCast v2401_r0
  let c256_1445_r0 : Index := 256#32
  let c768_1446_r0 : Index := 768#32
  ![v2475_r0.toNat, 256, 768]
def k0_off233 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2487_r0 : Index := Scalar.indexCast v2401_r0
  let c0_1455_r0 : Index := 0#32
  let c1024_1456_r0 : Index := 1024#32
  ![v2487_r0.toNat, 0, 1024]
def k0_off234 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2491_r0 : Index := Scalar.indexCast v2401_r0
  let c256_1457_r0 : Index := 256#32
  let c1024_1458_r0 : Index := 1024#32
  ![v2491_r0.toNat, 256, 1024]
def k0_off235 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2503_r0 : Index := Scalar.indexCast v2401_r0
  let c0_1467_r0 : Index := 0#32
  let c1280_1468_r0 : Index := 1280#32
  ![v2503_r0.toNat, 0, 1280]
def k0_off236 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2507_r0 : Index := Scalar.indexCast v2401_r0
  let c256_1469_r0 : Index := 256#32
  let c1280_1470_r0 : Index := 1280#32
  ![v2507_r0.toNat, 256, 1280]
def k0_mult29 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_1479_r0 : BitVec 32 := 512#32
  let v2525_r0 : BitVec 32 := Scalar.muli v1239_r0 c512_i32_1479_r0
  let c0_i32_1488_r0 : BitVec 32 := 0#32
  let v2531_r0 : BitVec 32 := Scalar.addi v2525_r0 c0_i32_1488_r0
  v2531_r0
def k0_off237 (k0_t2 : Fin k0_t2_loop.trips) (c0_i32_1488_r0 : BitVec 32) : Fin 1 → Nat :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_1479_r0 : BitVec 32 := 512#32
  let v2525_r0 : BitVec 32 := Scalar.muli v1239_r0 c512_i32_1479_r0
  let v2531_r0 : BitVec 32 := Scalar.addi v2525_r0 c0_i32_1488_r0
  let v2532_r0 : BitVec 32 := v2531_r0
  let v2533_r0 : Index := Scalar.indexCast v2532_r0
  ![v2533_r0.toNat]
def k0_mult30 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_1479_r0 : BitVec 32 := 512#32
  let v2525_r0 : BitVec 32 := Scalar.muli v1239_r0 c512_i32_1479_r0
  let c128_i32_1490_r0 : BitVec 32 := 128#32
  let v2545_r0 : BitVec 32 := Scalar.addi v2525_r0 c128_i32_1490_r0
  v2545_r0
def k0_mult31 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_1479_r0 : BitVec 32 := 512#32
  let v2525_r0 : BitVec 32 := Scalar.muli v1239_r0 c512_i32_1479_r0
  let c256_i32_1492_r0 : BitVec 32 := 256#32
  let v2559_r0 : BitVec 32 := Scalar.addi v2525_r0 c256_i32_1492_r0
  v2559_r0
def k0_mult32 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_1479_r0 : BitVec 32 := 512#32
  let v2525_r0 : BitVec 32 := Scalar.muli v1239_r0 c512_i32_1479_r0
  let c384_i32_1494_r0 : BitVec 32 := 384#32
  let v2573_r0 : BitVec 32 := Scalar.addi v2525_r0 c384_i32_1494_r0
  v2573_r0
def k0_off238 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2611_r0 : Index := Scalar.indexCast v2401_r0
  let c0_1504_r0 : Index := 0#32
  let c1536_1505_r0 : Index := 1536#32
  ![v2611_r0.toNat, 0, 1536]
def k0_off239 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2615_r0 : Index := Scalar.indexCast v2401_r0
  let c256_1506_r0 : Index := 256#32
  let c1536_1507_r0 : Index := 1536#32
  ![v2615_r0.toNat, 256, 1536]
def k0_off240 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2627_r0 : Index := Scalar.indexCast v2401_r0
  let c0_1516_r0 : Index := 0#32
  let c1792_1517_r0 : Index := 1792#32
  ![v2627_r0.toNat, 0, 1792]
def k0_off241 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2631_r0 : Index := Scalar.indexCast v2401_r0
  let c256_1518_r0 : Index := 256#32
  let c1792_1519_r0 : Index := 1792#32
  ![v2631_r0.toNat, 256, 1792]
def k0_off242 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2643_r0 : Index := Scalar.indexCast v2401_r0
  let c0_1528_r0 : Index := 0#32
  let c2048_1529_r0 : Index := 2048#32
  ![v2643_r0.toNat, 0, 2048]
def k0_off243 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2647_r0 : Index := Scalar.indexCast v2401_r0
  let c256_1530_r0 : Index := 256#32
  let c2048_1531_r0 : Index := 2048#32
  ![v2647_r0.toNat, 256, 2048]
def k0_off244 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2659_r0 : Index := Scalar.indexCast v2401_r0
  let c0_1540_r0 : Index := 0#32
  let c2304_1541_r0 : Index := 2304#32
  ![v2659_r0.toNat, 0, 2304]
def k0_off245 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2663_r0 : Index := Scalar.indexCast v2401_r0
  let c256_1542_r0 : Index := 256#32
  let c2304_1543_r0 : Index := 2304#32
  ![v2663_r0.toNat, 256, 2304]
def k0_off246 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2675_r0 : Index := Scalar.indexCast v2401_r0
  let c0_1552_r0 : Index := 0#32
  let c2560_1553_r0 : Index := 2560#32
  ![v2675_r0.toNat, 0, 2560]
def k0_off247 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2679_r0 : Index := Scalar.indexCast v2401_r0
  let c256_1554_r0 : Index := 256#32
  let c2560_1555_r0 : Index := 2560#32
  ![v2679_r0.toNat, 256, 2560]
def k0_off248 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2691_r0 : Index := Scalar.indexCast v2401_r0
  let c0_1564_r0 : Index := 0#32
  let c2816_1565_r0 : Index := 2816#32
  ![v2691_r0.toNat, 0, 2816]
def k0_off249 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2695_r0 : Index := Scalar.indexCast v2401_r0
  let c256_1566_r0 : Index := 256#32
  let c2816_1567_r0 : Index := 2816#32
  ![v2695_r0.toNat, 256, 2816]
def k0_off250 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2707_r0 : Index := Scalar.indexCast v2401_r0
  let c0_1576_r0 : Index := 0#32
  let c3072_1577_r0 : Index := 3072#32
  ![v2707_r0.toNat, 0, 3072]
def k0_off251 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2711_r0 : Index := Scalar.indexCast v2401_r0
  let c256_1578_r0 : Index := 256#32
  let c3072_1579_r0 : Index := 3072#32
  ![v2711_r0.toNat, 256, 3072]
def k0_off252 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2723_r0 : Index := Scalar.indexCast v2401_r0
  let c0_1588_r0 : Index := 0#32
  let c3328_1589_r0 : Index := 3328#32
  ![v2723_r0.toNat, 0, 3328]
def k0_off253 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2727_r0 : Index := Scalar.indexCast v2401_r0
  let c256_1590_r0 : Index := 256#32
  let c3328_1591_r0 : Index := 3328#32
  ![v2727_r0.toNat, 256, 3328]
def k0_mult33 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_1600_r0 : BitVec 32 := 512#32
  let v2745_r0 : BitVec 32 := Scalar.muli v1239_r0 c512_i32_1600_r0
  let c0_i32_1609_r0 : BitVec 32 := 0#32
  let v2751_r0 : BitVec 32 := Scalar.addi v2745_r0 c0_i32_1609_r0
  v2751_r0
def k0_mult34 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_1600_r0 : BitVec 32 := 512#32
  let v2745_r0 : BitVec 32 := Scalar.muli v1239_r0 c512_i32_1600_r0
  let c128_i32_1611_r0 : BitVec 32 := 128#32
  let v2765_r0 : BitVec 32 := Scalar.addi v2745_r0 c128_i32_1611_r0
  v2765_r0
def k0_mult35 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_1600_r0 : BitVec 32 := 512#32
  let v2745_r0 : BitVec 32 := Scalar.muli v1239_r0 c512_i32_1600_r0
  let c256_i32_1613_r0 : BitVec 32 := 256#32
  let v2779_r0 : BitVec 32 := Scalar.addi v2745_r0 c256_i32_1613_r0
  v2779_r0
def k0_mult36 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_1600_r0 : BitVec 32 := 512#32
  let v2745_r0 : BitVec 32 := Scalar.muli v1239_r0 c512_i32_1600_r0
  let c384_i32_1615_r0 : BitVec 32 := 384#32
  let v2793_r0 : BitVec 32 := Scalar.addi v2745_r0 c384_i32_1615_r0
  v2793_r0
def k0_off254 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2831_r0 : Index := Scalar.indexCast v2401_r0
  let c0_1625_r0 : Index := 0#32
  let c3584_1626_r0 : Index := 3584#32
  ![v2831_r0.toNat, 0, 3584]
def k0_off255 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2835_r0 : Index := Scalar.indexCast v2401_r0
  let c256_1627_r0 : Index := 256#32
  let c3584_1628_r0 : Index := 3584#32
  ![v2835_r0.toNat, 256, 3584]
def k0_off256 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2847_r0 : Index := Scalar.indexCast v2401_r0
  let c0_1637_r0 : Index := 0#32
  let c3840_1638_r0 : Index := 3840#32
  ![v2847_r0.toNat, 0, 3840]
def k0_off257 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2851_r0 : Index := Scalar.indexCast v2401_r0
  let c256_1639_r0 : Index := 256#32
  let c3840_1640_r0 : Index := 3840#32
  ![v2851_r0.toNat, 256, 3840]
def k0_off258 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2863_r0 : Index := Scalar.indexCast v2401_r0
  let c0_1649_r0 : Index := 0#32
  let c4096_1650_r0 : Index := 4096#32
  ![v2863_r0.toNat, 0, 4096]
def k0_off259 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2867_r0 : Index := Scalar.indexCast v2401_r0
  let c256_1651_r0 : Index := 256#32
  let c4096_1652_r0 : Index := 4096#32
  ![v2867_r0.toNat, 256, 4096]
def k0_off260 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2879_r0 : Index := Scalar.indexCast v2401_r0
  let c0_1661_r0 : Index := 0#32
  let c4352_1662_r0 : Index := 4352#32
  ![v2879_r0.toNat, 0, 4352]
def k0_off261 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2883_r0 : Index := Scalar.indexCast v2401_r0
  let c256_1663_r0 : Index := 256#32
  let c4352_1664_r0 : Index := 4352#32
  ![v2883_r0.toNat, 256, 4352]
def k0_off262 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2895_r0 : Index := Scalar.indexCast v2401_r0
  let c0_1673_r0 : Index := 0#32
  let c4608_1674_r0 : Index := 4608#32
  ![v2895_r0.toNat, 0, 4608]
def k0_off263 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2899_r0 : Index := Scalar.indexCast v2401_r0
  let c256_1675_r0 : Index := 256#32
  let c4608_1676_r0 : Index := 4608#32
  ![v2899_r0.toNat, 256, 4608]
def k0_off264 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2911_r0 : Index := Scalar.indexCast v2401_r0
  let c0_1685_r0 : Index := 0#32
  let c4864_1686_r0 : Index := 4864#32
  ![v2911_r0.toNat, 0, 4864]
def k0_off265 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2915_r0 : Index := Scalar.indexCast v2401_r0
  let c256_1687_r0 : Index := 256#32
  let c4864_1688_r0 : Index := 4864#32
  ![v2915_r0.toNat, 256, 4864]
def k0_off266 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2927_r0 : Index := Scalar.indexCast v2401_r0
  let c0_1697_r0 : Index := 0#32
  let c5120_1698_r0 : Index := 5120#32
  ![v2927_r0.toNat, 0, 5120]
def k0_off267 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2931_r0 : Index := Scalar.indexCast v2401_r0
  let c256_1699_r0 : Index := 256#32
  let c5120_1700_r0 : Index := 5120#32
  ![v2931_r0.toNat, 256, 5120]
def k0_off268 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2943_r0 : Index := Scalar.indexCast v2401_r0
  let c0_1709_r0 : Index := 0#32
  let c5376_1710_r0 : Index := 5376#32
  ![v2943_r0.toNat, 0, 5376]
def k0_off269 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v2947_r0 : Index := Scalar.indexCast v2401_r0
  let c256_1711_r0 : Index := 256#32
  let c5376_1712_r0 : Index := 5376#32
  ![v2947_r0.toNat, 256, 5376]
def k0_mult37 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_1721_r0 : BitVec 32 := 512#32
  let v2965_r0 : BitVec 32 := Scalar.muli v1239_r0 c512_i32_1721_r0
  let c0_i32_1730_r0 : BitVec 32 := 0#32
  let v2971_r0 : BitVec 32 := Scalar.addi v2965_r0 c0_i32_1730_r0
  v2971_r0
def k0_mult38 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_1721_r0 : BitVec 32 := 512#32
  let v2965_r0 : BitVec 32 := Scalar.muli v1239_r0 c512_i32_1721_r0
  let c128_i32_1732_r0 : BitVec 32 := 128#32
  let v2985_r0 : BitVec 32 := Scalar.addi v2965_r0 c128_i32_1732_r0
  v2985_r0
def k0_mult39 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_1721_r0 : BitVec 32 := 512#32
  let v2965_r0 : BitVec 32 := Scalar.muli v1239_r0 c512_i32_1721_r0
  let c256_i32_1734_r0 : BitVec 32 := 256#32
  let v2999_r0 : BitVec 32 := Scalar.addi v2965_r0 c256_i32_1734_r0
  v2999_r0
def k0_mult40 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_1721_r0 : BitVec 32 := 512#32
  let v2965_r0 : BitVec 32 := Scalar.muli v1239_r0 c512_i32_1721_r0
  let c384_i32_1736_r0 : BitVec 32 := 384#32
  let v3013_r0 : BitVec 32 := Scalar.addi v2965_r0 c384_i32_1736_r0
  v3013_r0
def k0_off270 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3051_r0 : Index := Scalar.indexCast v2401_r0
  let c0_1746_r0 : Index := 0#32
  let c5632_1747_r0 : Index := 5632#32
  ![v3051_r0.toNat, 0, 5632]
def k0_off271 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3055_r0 : Index := Scalar.indexCast v2401_r0
  let c256_1748_r0 : Index := 256#32
  let c5632_1749_r0 : Index := 5632#32
  ![v3055_r0.toNat, 256, 5632]
def k0_off272 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3067_r0 : Index := Scalar.indexCast v2401_r0
  let c0_1758_r0 : Index := 0#32
  let c5888_1759_r0 : Index := 5888#32
  ![v3067_r0.toNat, 0, 5888]
def k0_off273 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3071_r0 : Index := Scalar.indexCast v2401_r0
  let c256_1760_r0 : Index := 256#32
  let c5888_1761_r0 : Index := 5888#32
  ![v3071_r0.toNat, 256, 5888]
def k0_off274 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3083_r0 : Index := Scalar.indexCast v2401_r0
  let c0_1770_r0 : Index := 0#32
  let c6144_1771_r0 : Index := 6144#32
  ![v3083_r0.toNat, 0, 6144]
def k0_off275 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3087_r0 : Index := Scalar.indexCast v2401_r0
  let c256_1772_r0 : Index := 256#32
  let c6144_1773_r0 : Index := 6144#32
  ![v3087_r0.toNat, 256, 6144]
def k0_off276 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3099_r0 : Index := Scalar.indexCast v2401_r0
  let c0_1782_r0 : Index := 0#32
  let c6400_1783_r0 : Index := 6400#32
  ![v3099_r0.toNat, 0, 6400]
def k0_off277 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3103_r0 : Index := Scalar.indexCast v2401_r0
  let c256_1784_r0 : Index := 256#32
  let c6400_1785_r0 : Index := 6400#32
  ![v3103_r0.toNat, 256, 6400]
def k0_off278 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3115_r0 : Index := Scalar.indexCast v2401_r0
  let c0_1794_r0 : Index := 0#32
  let c6656_1795_r0 : Index := 6656#32
  ![v3115_r0.toNat, 0, 6656]
def k0_off279 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3119_r0 : Index := Scalar.indexCast v2401_r0
  let c256_1796_r0 : Index := 256#32
  let c6656_1797_r0 : Index := 6656#32
  ![v3119_r0.toNat, 256, 6656]
def k0_off280 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3131_r0 : Index := Scalar.indexCast v2401_r0
  let c0_1806_r0 : Index := 0#32
  let c6912_1807_r0 : Index := 6912#32
  ![v3131_r0.toNat, 0, 6912]
def k0_off281 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3135_r0 : Index := Scalar.indexCast v2401_r0
  let c256_1808_r0 : Index := 256#32
  let c6912_1809_r0 : Index := 6912#32
  ![v3135_r0.toNat, 256, 6912]
def k0_off282 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3147_r0 : Index := Scalar.indexCast v2401_r0
  let c0_1818_r0 : Index := 0#32
  let c7168_1819_r0 : Index := 7168#32
  ![v3147_r0.toNat, 0, 7168]
def k0_off283 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3151_r0 : Index := Scalar.indexCast v2401_r0
  let c256_1820_r0 : Index := 256#32
  let c7168_1821_r0 : Index := 7168#32
  ![v3151_r0.toNat, 256, 7168]
def k0_off284 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3163_r0 : Index := Scalar.indexCast v2401_r0
  let c0_1830_r0 : Index := 0#32
  let c7424_1831_r0 : Index := 7424#32
  ![v3163_r0.toNat, 0, 7424]
def k0_off285 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3167_r0 : Index := Scalar.indexCast v2401_r0
  let c256_1832_r0 : Index := 256#32
  let c7424_1833_r0 : Index := 7424#32
  ![v3167_r0.toNat, 256, 7424]
def k0_mult41 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_1842_r0 : BitVec 32 := 512#32
  let v3185_r0 : BitVec 32 := Scalar.muli v1239_r0 c512_i32_1842_r0
  let c0_i32_1851_r0 : BitVec 32 := 0#32
  let v3191_r0 : BitVec 32 := Scalar.addi v3185_r0 c0_i32_1851_r0
  v3191_r0
def k0_mult42 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_1842_r0 : BitVec 32 := 512#32
  let v3185_r0 : BitVec 32 := Scalar.muli v1239_r0 c512_i32_1842_r0
  let c128_i32_1853_r0 : BitVec 32 := 128#32
  let v3205_r0 : BitVec 32 := Scalar.addi v3185_r0 c128_i32_1853_r0
  v3205_r0
def k0_mult43 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_1842_r0 : BitVec 32 := 512#32
  let v3185_r0 : BitVec 32 := Scalar.muli v1239_r0 c512_i32_1842_r0
  let c256_i32_1855_r0 : BitVec 32 := 256#32
  let v3219_r0 : BitVec 32 := Scalar.addi v3185_r0 c256_i32_1855_r0
  v3219_r0
def k0_mult44 (k0_t2 : Fin k0_t2_loop.trips) : BitVec 32 :=
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c512_i32_1842_r0 : BitVec 32 := 512#32
  let v3185_r0 : BitVec 32 := Scalar.muli v1239_r0 c512_i32_1842_r0
  let c384_i32_1857_r0 : BitVec 32 := 384#32
  let v3233_r0 : BitVec 32 := Scalar.addi v3185_r0 c384_i32_1857_r0
  v3233_r0
def k0_off286 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3271_r0 : Index := Scalar.indexCast v2401_r0
  let c0_1867_r0 : Index := 0#32
  let c7680_1868_r0 : Index := 7680#32
  ![v3271_r0.toNat, 0, 7680]
def k0_off287 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3275_r0 : Index := Scalar.indexCast v2401_r0
  let c256_1869_r0 : Index := 256#32
  let c7680_1870_r0 : Index := 7680#32
  ![v3275_r0.toNat, 256, 7680]
def k0_off288 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3287_r0 : Index := Scalar.indexCast v2401_r0
  let c0_1879_r0 : Index := 0#32
  let c7936_1880_r0 : Index := 7936#32
  ![v3287_r0.toNat, 0, 7936]
def k0_off289 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3291_r0 : Index := Scalar.indexCast v2401_r0
  let c256_1881_r0 : Index := 256#32
  let c7936_1882_r0 : Index := 7936#32
  ![v3291_r0.toNat, 256, 7936]
def k0_off290 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3303_r0 : Index := Scalar.indexCast v2401_r0
  let c0_1891_r0 : Index := 0#32
  let c8192_1892_r0 : Index := 8192#32
  ![v3303_r0.toNat, 0, 8192]
def k0_off291 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3307_r0 : Index := Scalar.indexCast v2401_r0
  let c256_1893_r0 : Index := 256#32
  let c8192_1894_r0 : Index := 8192#32
  ![v3307_r0.toNat, 256, 8192]
def k0_off292 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3319_r0 : Index := Scalar.indexCast v2401_r0
  let c0_1903_r0 : Index := 0#32
  let c8448_1904_r0 : Index := 8448#32
  ![v3319_r0.toNat, 0, 8448]
def k0_off293 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3323_r0 : Index := Scalar.indexCast v2401_r0
  let c256_1905_r0 : Index := 256#32
  let c8448_1906_r0 : Index := 8448#32
  ![v3323_r0.toNat, 256, 8448]
def k0_off294 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3335_r0 : Index := Scalar.indexCast v2401_r0
  let c0_1915_r0 : Index := 0#32
  let c8704_1916_r0 : Index := 8704#32
  ![v3335_r0.toNat, 0, 8704]
def k0_off295 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3339_r0 : Index := Scalar.indexCast v2401_r0
  let c256_1917_r0 : Index := 256#32
  let c8704_1918_r0 : Index := 8704#32
  ![v3339_r0.toNat, 256, 8704]
def k0_off296 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3351_r0 : Index := Scalar.indexCast v2401_r0
  let c0_1927_r0 : Index := 0#32
  let c8960_1928_r0 : Index := 8960#32
  ![v3351_r0.toNat, 0, 8960]
def k0_off297 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3355_r0 : Index := Scalar.indexCast v2401_r0
  let c256_1929_r0 : Index := 256#32
  let c8960_1930_r0 : Index := 8960#32
  ![v3355_r0.toNat, 256, 8960]
def k0_off298 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3367_r0 : Index := Scalar.indexCast v2401_r0
  let c0_1939_r0 : Index := 0#32
  let c9216_1940_r0 : Index := 9216#32
  ![v3367_r0.toNat, 0, 9216]
def k0_off299 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3371_r0 : Index := Scalar.indexCast v2401_r0
  let c256_1941_r0 : Index := 256#32
  let c9216_1942_r0 : Index := 9216#32
  ![v3371_r0.toNat, 256, 9216]
def k0_off300 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3383_r0 : Index := Scalar.indexCast v2401_r0
  let c0_1951_r0 : Index := 0#32
  let c9472_1952_r0 : Index := 9472#32
  ![v3383_r0.toNat, 0, 9472]
def k0_off301 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3387_r0 : Index := Scalar.indexCast v2401_r0
  let c256_1953_r0 : Index := 256#32
  let c9472_1954_r0 : Index := 9472#32
  ![v3387_r0.toNat, 256, 9472]
def k0_off302 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3399_r0 : Index := Scalar.indexCast v2401_r0
  let c0_1963_r0 : Index := 0#32
  let c9728_1964_r0 : Index := 9728#32
  ![v3399_r0.toNat, 0, 9728]
def k0_off303 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3403_r0 : Index := Scalar.indexCast v2401_r0
  let c256_1965_r0 : Index := 256#32
  let c9728_1966_r0 : Index := 9728#32
  ![v3403_r0.toNat, 256, 9728]
def k0_off304 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3415_r0 : Index := Scalar.indexCast v2401_r0
  let c0_1975_r0 : Index := 0#32
  let c9984_1976_r0 : Index := 9984#32
  ![v3415_r0.toNat, 0, 9984]
def k0_off305 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3419_r0 : Index := Scalar.indexCast v2401_r0
  let c256_1977_r0 : Index := 256#32
  let c9984_1978_r0 : Index := 9984#32
  ![v3419_r0.toNat, 256, 9984]
def k0_off306 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3431_r0 : Index := Scalar.indexCast v2401_r0
  let c0_1987_r0 : Index := 0#32
  let c10240_1988_r0 : Index := 10240#32
  ![v3431_r0.toNat, 0, 10240]
def k0_off307 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3435_r0 : Index := Scalar.indexCast v2401_r0
  let c256_1989_r0 : Index := 256#32
  let c10240_1990_r0 : Index := 10240#32
  ![v3435_r0.toNat, 256, 10240]
def k0_off308 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3447_r0 : Index := Scalar.indexCast v2401_r0
  let c0_1999_r0 : Index := 0#32
  let c10496_2000_r0 : Index := 10496#32
  ![v3447_r0.toNat, 0, 10496]
def k0_off309 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3451_r0 : Index := Scalar.indexCast v2401_r0
  let c256_2001_r0 : Index := 256#32
  let c10496_2002_r0 : Index := 10496#32
  ![v3451_r0.toNat, 256, 10496]
def k0_off310 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3463_r0 : Index := Scalar.indexCast v2401_r0
  let c0_2011_r0 : Index := 0#32
  let c10752_2012_r0 : Index := 10752#32
  ![v3463_r0.toNat, 0, 10752]
def k0_off311 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3467_r0 : Index := Scalar.indexCast v2401_r0
  let c256_2013_r0 : Index := 256#32
  let c10752_2014_r0 : Index := 10752#32
  ![v3467_r0.toNat, 256, 10752]
def k0_off312 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3479_r0 : Index := Scalar.indexCast v2401_r0
  let c0_2023_r0 : Index := 0#32
  let c11008_2024_r0 : Index := 11008#32
  ![v3479_r0.toNat, 0, 11008]
def k0_off313 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3483_r0 : Index := Scalar.indexCast v2401_r0
  let c256_2025_r0 : Index := 256#32
  let c11008_2026_r0 : Index := 11008#32
  ![v3483_r0.toNat, 256, 11008]
def k0_off314 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3495_r0 : Index := Scalar.indexCast v2401_r0
  let c0_2035_r0 : Index := 0#32
  let c11264_2036_r0 : Index := 11264#32
  ![v3495_r0.toNat, 0, 11264]
def k0_off315 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3499_r0 : Index := Scalar.indexCast v2401_r0
  let c256_2037_r0 : Index := 256#32
  let c11264_2038_r0 : Index := 11264#32
  ![v3499_r0.toNat, 256, 11264]
def k0_off316 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3511_r0 : Index := Scalar.indexCast v2401_r0
  let c0_2047_r0 : Index := 0#32
  let c11520_2048_r0 : Index := 11520#32
  ![v3511_r0.toNat, 0, 11520]
def k0_off317 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3515_r0 : Index := Scalar.indexCast v2401_r0
  let c256_2049_r0 : Index := 256#32
  let c11520_2050_r0 : Index := 11520#32
  ![v3515_r0.toNat, 256, 11520]
def k0_off318 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3527_r0 : Index := Scalar.indexCast v2401_r0
  let c0_2059_r0 : Index := 0#32
  let c11776_2060_r0 : Index := 11776#32
  ![v3527_r0.toNat, 0, 11776]
def k0_off319 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3531_r0 : Index := Scalar.indexCast v2401_r0
  let c256_2061_r0 : Index := 256#32
  let c11776_2062_r0 : Index := 11776#32
  ![v3531_r0.toNat, 256, 11776]
def k0_off320 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3543_r0 : Index := Scalar.indexCast v2401_r0
  let c0_2071_r0 : Index := 0#32
  let c12032_2072_r0 : Index := 12032#32
  ![v3543_r0.toNat, 0, 12032]
def k0_off321 (k0_t2 : Fin k0_t2_loop.trips) : Fin 3 → Nat :=
  let c0_i32_23 : BitVec 32 := 0#32
  let c2_i32_r0 : BitVec 32 := 2#32
  let c0_i32_578_r0 : BitVec 32 := 0#32
  let c1_i32_579_r0 : BitVec 32 := 1#32
  let arg19_r0 : BitVec 32 := Scf.iv c0_i32_578_r0 c1_i32_579_r0 k0_t2
  let v1238_r0 : BitVec 32 := Scalar.muli c2_i32_r0 arg19_r0
  let c1_i32_707_r0 : BitVec 32 := 1#32
  let v1239_r0 : BitVec 32 := Scalar.addi v1238_r0 c1_i32_707_r0
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let v3547_r0 : Index := Scalar.indexCast v2401_r0
  let c256_2073_r0 : Index := 256#32
  let c12032_2074_r0 : Index := 12032#32
  ![v3547_r0.toNat, 256, 12032]
def k0_mult45 : BitVec 32 :=
  let c29696_i32_r0 : BitVec 32 := 29696#32
  c29696_i32_r0
def k0_mult46 : BitVec 32 :=
  let c29824_i32_r0 : BitVec 32 := 29824#32
  c29824_i32_r0
def k0_mult47 : BitVec 32 :=
  let c29696_i32_609_r0 : BitVec 32 := 29696#32
  c29696_i32_609_r0
def k0_mult48 : BitVec 32 :=
  let c29824_i32_611_r0 : BitVec 32 := 29824#32
  c29824_i32_611_r0
def k0_mult49 : BitVec 32 :=
  let c29696_i32_634_r0 : BitVec 32 := 29696#32
  c29696_i32_634_r0
def k0_mult50 : BitVec 32 :=
  let c29824_i32_636_r0 : BitVec 32 := 29824#32
  c29824_i32_636_r0
def k0_mult51 : BitVec 32 :=
  let c29696_i32_659_r0 : BitVec 32 := 29696#32
  c29696_i32_659_r0
def k0_mult52 : BitVec 32 :=
  let c29824_i32_661_r0 : BitVec 32 := 29824#32
  c29824_i32_661_r0
abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S2x128x12288 : Shape := ⟨3, ![2, 128, 12288]⟩
abbrev S2x128 : Shape := ⟨2, ![2, 128]⟩
abbrev S12288x30008 : Shape := ⟨2, ![12288, 30008]⟩
abbrev S30003 : Shape := ⟨1, ![30003]⟩
abbrev S256x12288 : Shape := ⟨2, ![256, 12288]⟩
abbrev S12288x30003 : Shape := ⟨2, ![12288, 30003]⟩
abbrev S256x30003 : Shape := ⟨2, ![256, 30003]⟩
abbrev S256 : Shape := ⟨1, ![256]⟩
abbrev S256x1 : Shape := ⟨2, ![256, 1]⟩
abbrev S1x30003 : Shape := ⟨2, ![1, 30003]⟩
abbrev S_ : Shape := ⟨0, ![]⟩
abbrev S256x1x1 : Shape := ⟨3, ![256, 1, 1]⟩
abbrev S1 : Shape := ⟨1, ![1]⟩
abbrev S1x1x1 : Shape := ⟨3, ![1, 1, 1]⟩

abbrev nBuf : Space → Nat
  | .hbm => 59
  | .vmem => 3
  | .smem => 0
  | _ => 0

abbrev bufTy : (tb : Table) → Fin (tcTables nBuf tb) → BufTy
  | .hbm, ⟨0, _⟩ => ⟨S2x128x12288, .fp8e4m3⟩
  | .hbm, ⟨1, _⟩ => ⟨S2x128, .f32⟩
  | .hbm, ⟨2, _⟩ => ⟨S2x128, .i32⟩
  | .hbm, ⟨3, _⟩ => ⟨S12288x30008, .fp8e4m3⟩
  | .hbm, ⟨4, _⟩ => ⟨S30003, .f32⟩
  | .hbm, ⟨5, _⟩ => ⟨S256x12288, .fp8e4m3⟩
  | .hbm, ⟨6, _⟩ => ⟨S12288x30003, .fp8e4m3⟩
  | .hbm, ⟨7, _⟩ => ⟨S256x30003, .f32⟩
  | .hbm, ⟨8, _⟩ => ⟨S256, .f32⟩
  | .hbm, ⟨9, _⟩ => ⟨S256x1, .f32⟩
  | .hbm, ⟨10, _⟩ => ⟨S256x30003, .f32⟩
  | .hbm, ⟨11, _⟩ => ⟨S256x30003, .f32⟩
  | .hbm, ⟨12, _⟩ => ⟨S1x30003, .f32⟩
  | .hbm, ⟨13, _⟩ => ⟨S256x30003, .f32⟩
  | .hbm, ⟨14, _⟩ => ⟨S256x30003, .f32⟩
  | .hbm, ⟨15, _⟩ => ⟨S_, .f32⟩
  | .hbm, ⟨16, _⟩ => ⟨S256, .f32⟩
  | .hbm, ⟨17, _⟩ => ⟨S256x1, .f32⟩
  | .hbm, ⟨18, _⟩ => ⟨S256x30003, .f32⟩
  | .hbm, ⟨19, _⟩ => ⟨S256x30003, .f32⟩
  | .hbm, ⟨20, _⟩ => ⟨S256x30003, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S256, .i32⟩
  | .hbm, ⟨26, _⟩ => ⟨S256x1, .i32⟩
  | .hbm, ⟨27, _⟩ => ⟨S_, .i32⟩
  | .hbm, ⟨28, _⟩ => ⟨S256x1, .i32⟩
  | .hbm, ⟨29, _⟩ => ⟨S256x1, .i1⟩
  | .hbm, ⟨30, _⟩ => ⟨S_, .i32⟩
  | .hbm, ⟨31, _⟩ => ⟨S256x1, .i32⟩
  | .hbm, ⟨32, _⟩ => ⟨S256x1, .i32⟩
  | .hbm, ⟨33, _⟩ => ⟨S256x1, .i32⟩
  | .hbm, ⟨34, _⟩ => ⟨S256x1x1, .i32⟩
  | .hbm, ⟨35, _⟩ => ⟨S1, .i32⟩
  | .hbm, ⟨36, _⟩ => ⟨S_, .i32⟩
  | .hbm, ⟨37, _⟩ => ⟨S256x1x1, .i32⟩
  | .hbm, ⟨38, _⟩ => ⟨S256x1x1, .i1⟩
  | .hbm, ⟨39, _⟩ => ⟨S1x1x1, .i32⟩
  | .hbm, ⟨40, _⟩ => ⟨S256x1x1, .i32⟩
  | .hbm, ⟨41, _⟩ => ⟨S256x1x1, .i1⟩
  | .hbm, ⟨42, _⟩ => ⟨S256x1x1, .i1⟩
  | .hbm, ⟨43, _⟩ => ⟨S_, .i1⟩
  | .hbm, ⟨44, _⟩ => ⟨S256x1, .i1⟩
  | .hbm, ⟨45, _⟩ => ⟨S256x1, .f32⟩
  | .hbm, ⟨46, _⟩ => ⟨S_, .f32⟩
  | .hbm, ⟨47, _⟩ => ⟨S256x1, .f32⟩
  | .hbm, ⟨48, _⟩ => ⟨S256x1, .f32⟩
  | .hbm, ⟨49, _⟩ => ⟨S256, .f32⟩
  | .hbm, ⟨50, _⟩ => ⟨S256, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S2x128, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S2x128, .f32⟩
  | .local _ .vmem, ⟨0, _⟩ => ⟨S256x12288, .fp8e4m3⟩
  | .local _ .vmem, ⟨1, _⟩ => ⟨S12288x30003, .fp8e4m3⟩
  | .local _ .vmem, ⟨2, _⟩ => ⟨S256x30003, .f32⟩
  | _, _ => ⟨S2x128x12288, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_cst : Ref sig .tc := ⟨.hbm, 46, rfl⟩
abbrev main_call0_v14 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_1 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_2 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S256x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x30003 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x30003 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Prog.lean ====
/- The head's kernel written once more, by hand and over any float type: the matrix unit's steps, the copies of the
   ring, the running-maximum update and the last lines, each a definition that takes what follows it. The printed
   kernels are this program (`EqK`, `EqI`), so everything proved of it is proved of them. -/
module

public import Idealize.ShloMosaic.Lib.Pipeline
public import Idealize.ShloMosaic.Lib.Scf
public import Idealize.ShloMosaic.Lib.Sig
public import Idealize.ShloMosaic.PureOps
public import Idealize.ShloMosaic.Lib.Mxu

@[expose] public section

noncomputable section

namespace Cert.Head

open Idealize.ShloMosaic Idealize.SL.Sem

abbrev S_ : Shape := ⟨0, ![]⟩
abbrev S1 : Shape := ⟨1, ![1]⟩
abbrev S6 : Shape := ⟨1, ![6]⟩
abbrev S51 : Shape := ⟨1, ![51]⟩
abbrev S77 : Shape := ⟨1, ![77]⟩
abbrev S128 : Shape := ⟨1, ![128]⟩
abbrev S256 : Shape := ⟨1, ![256]⟩
abbrev S30003 : Shape := ⟨1, ![30003]⟩
abbrev S1x128 : Shape := ⟨2, ![1, 128]⟩
abbrev S2x128 : Shape := ⟨2, ![2, 128]⟩
abbrev S64x128 : Shape := ⟨2, ![64, 128]⟩
abbrev S64x256 : Shape := ⟨2, ![64, 256]⟩
abbrev S128x1 : Shape := ⟨2, ![128, 1]⟩
abbrev S128x128 : Shape := ⟨2, ![128, 128]⟩
abbrev S256x1 : Shape := ⟨2, ![256, 1]⟩
abbrev S256x128 : Shape := ⟨2, ![256, 128]⟩
abbrev S256x256 : Shape := ⟨2, ![256, 256]⟩
abbrev S256x12288 : Shape := ⟨2, ![256, 12288]⟩
abbrev S312x12288 : Shape := ⟨2, ![312, 12288]⟩
abbrev S512x12288 : Shape := ⟨2, ![512, 12288]⟩
abbrev S30008x12288 : Shape := ⟨2, ![30008, 12288]⟩
abbrev S1x256x256 : Shape := ⟨3, ![1, 256, 256]⟩
abbrev S1x312x12288 : Shape := ⟨3, ![1, 312, 12288]⟩
abbrev S1x512x12288 : Shape := ⟨3, ![1, 512, 12288]⟩
abbrev S6x512x12288 : Shape := ⟨3, ![6, 512, 12288]⟩

variable {nD : ℕ} {τ : Topo} {sig : RefSig} {Λ : Labels} {F : FTy → Type} [FloatOps F]

/-! ## Where things stand -/

theorem inb2 {a b A B C D : ℕ} (h0 : a + C ≤ A) (h1 : b + D ≤ B) :
    ∀ x, (![a, b] : Fin 2 → ℕ) x + (![C, D] : Fin 2 → ℕ) x ≤ (![A, B] : Fin 2 → ℕ) x := by
  intro x; match x with | 0 => exact h0 | 1 => exact h1

theorem inb3 {a b c A B C P Q R : ℕ} (h0 : a + P ≤ A) (h1 : b + Q ≤ B) (h2 : c + R ≤ C) :
    ∀ x, (![a, b, c] : Fin 3 → ℕ) x + (![P, Q, R] : Fin 3 → ℕ) x ≤ (![A, B, C] : Fin 3 → ℕ) x := by
  intro x; match x with | 0 => exact h0 | 1 => exact h1 | 2 => exact h2

theorem inb1 {a A C : ℕ} (h0 : a + C ≤ A) :
    ∀ x, (![a] : Fin 1 → ℕ) x + (![C] : Fin 1 → ℕ) x ≤ (![A] : Fin 1 → ℕ) x := by
  intro x; match x with | 0 => exact h0

theorem nS1x256x256 : 0 < S1x256x256.numel := by decide
theorem nS64x256 : 0 < S64x256.numel := by decide
theorem nS64x128 : 0 < S64x128.numel := by decide
theorem nS128 : 0 < S128.numel := by decide
theorem nS51 : 0 < S51.numel := by decide
theorem nS1x128 : 0 < S1x128.numel := by decide
theorem nS128x128 : 0 < S128x128.numel := by decide
theorem nS256x128 : 0 < S256x128.numel := by decide

/-- The rectangle of the ring that holds unit `q`'s half of tile `k` in slot `sl`. -/
abbrev rTile (sl : ℕ) (hsl : sl < 6) (q : Fin 2) (k : ℕ) (hk : k < 48) : Rect S6x512x12288 :=
  Rect.unit (s := S6x512x12288) ![sl, 256 * q.val, 256 * k] S1x256x256.size
    (inb3 (by omega) (by have := q.isLt; omega) (by omega))

/-- The rectangle of `x` that holds piece `i` of tile `k`. -/
abbrev rX (i : ℕ) (hi : i < 4) (k : ℕ) (hk : k < 48) : Rect S256x12288 :=
  Rect.unit (s := S256x12288) ![64 * i, 256 * k] S64x256.size (inb2 (by omega) (by omega))

/-- Piece `i` of a per-token buffer. -/
abbrev rP (i : ℕ) (hi : i < 4) : Rect S256x128 :=
  Rect.unit (s := S256x128) ![64 * i, 0] S64x128.size (inb2 (by omega) (by omega))

/-- The whole of a per-token buffer. -/
abbrev rAll : Rect S256x128 := Rect.unit (s := S256x128) ![0, 0] S256x128.size (inb2 (by omega) (by omega))

/-- Half `h` of a per-token buffer. -/
abbrev rH (h : ℕ) (hh : h < 2) : Rect S256x128 :=
  Rect.unit (s := S256x128) ![128 * h, 0] S128x128.size (inb2 (by omega) (by omega))

/-- Row `h` of a two-row window. -/
abbrev rRow (h : ℕ) (hh : h < 2) : Rect S2x128 :=
  Rect.unit (s := S2x128) ![h, 0] S1x128.size (inb2 (by omega) (by omega))

/-- 128 of the vocabulary's scales from `w`. -/
abbrev rW (w : ℕ) (hw : w + 128 ≤ 30003) : Rect S30003 := Rect.unit (s := S30003) ![w] S128.size (inb1 hw)

/-- The last 51 of them. -/
abbrev rW51 : Rect S30003 := Rect.unit (s := S30003) ![29952] S51.size (inb1 (by omega))

theorem sq1 : S1x512x12288.Squeezes S512x12288 := by decide
theorem sq2 : S1x312x12288.Squeezes S312x12288 := by decide
theorem sq3 : S1.Squeezes S_ := by decide

/-- Slot `sl` of the ring, -/
abbrev slot (ring : Memref sig .tc .vmem S6x512x12288 .fp8e4m3) (sl : ℕ) (hsl : sl < 6) :
    Memref sig .tc .vmem S512x12288 .fp8e4m3 :=
  (ring.slice (Rect.unit (s := S6x512x12288) ![sl, 0, 0] S1x512x12288.size (inb3 (by omega) (by omega) (by omega)))
    (fun _ => rfl)).squeeze S512x12288 sq1

/-- its first 312 rows, -/
abbrev slotL (ring : Memref sig .tc .vmem S6x512x12288 .fp8e4m3) (sl : ℕ) (hsl : sl < 6) :
    Memref sig .tc .vmem S312x12288 .fp8e4m3 :=
  (ring.slice (Rect.unit (s := S6x512x12288) ![sl, 0, 0] S1x312x12288.size (inb3 (by omega) (by omega) (by omega)))
    (fun _ => rfl)).squeeze S312x12288 sq2

/-- 512 rows of the vocabulary from `row`, -/
abbrev rows (w : Memref sig .tc .hbm S30008x12288 .fp8e4m3) (row : ℕ) (hr : row + 512 ≤ 30008) :
    Memref sig .tc .hbm S512x12288 .fp8e4m3 :=
  w.slice (Rect.unit (s := S30008x12288) ![row, 0] S512x12288.size (inb2 hr (by omega))) (fun _ => rfl)

/-- 312 rows, -/
abbrev rowsL (w : Memref sig .tc .hbm S30008x12288 .fp8e4m3) (row : ℕ) (hr : row + 312 ≤ 30008) :
    Memref sig .tc .hbm S312x12288 .fp8e4m3 :=
  w.slice (Rect.unit (s := S30008x12288) ![row, 0] S312x12288.size (inb2 hr (by omega))) (fun _ => rfl)

/-- and slot `sl`'s semaphore. -/
abbrev rsem (sems : DmaSems sig S6) (sl : ℕ) (hsl : sl < 6) : DmaSem sig :=
  ((sems.slice (Rect.unit (s := S6) ![sl] S1.size (inb1 (by omega)))).squeeze S_ sq3).sem

/-! ## The ring's copies -/

section Ring

variable (w : Memref sig .tc .hbm S30008x12288 .fp8e4m3) (ring : Memref sig .tc .vmem S6x512x12288 .fp8e4m3)
  (sems : DmaSems sig S6) (lsem : DmaSem sig)

/-- Start the copy of 512 rows from `row` to slot `sl`. -/
def startF (sl : ℕ) (hsl : sl < 6) (row : ℕ) (hr : row + 512 ≤ 30008) (hs : (rows w row hr).view.WordExact)
    (hd : (slot ring sl hsl).view.WordExact) {α : Type} (K : Prog (TpuEff nD τ sig (Elt F) Λ .tc) α) : Prog (TpuEff nD τ sig (Elt F) Λ .tc) α :=
  .op (.enqueueDma (rows w row hr) (.here (slot ring sl hsl)) (.dma (rsem sems sl hsl)) hs hd ⟨Or.inl rfl, trivial⟩) fun _ => K

/-- Wait for it. -/
def waitF (sl : ℕ) (hsl : sl < 6) (row : ℕ) (hr : row + 512 ≤ 30008) (hs : (rows w row hr).view.WordExact)
    (hd : (slot ring sl hsl).view.WordExact) {α : Type} (K : Prog (TpuEff nD τ sig (Elt F) Λ .tc) α) : Prog (TpuEff nD τ sig (Elt F) Λ .tc) α :=
  .op (.waitDma2 (rsem sems sl hsl) (rows w row hr) (slot ring sl hsl) hs hd) fun _ => K

/-- Start the last block's copy, 312 rows, -/
def startL (sl : ℕ) (hsl : sl < 6) (row : ℕ) (hr : row + 312 ≤ 30008) (hs : (rowsL w row hr).view.WordExact)
    (hd : (slotL ring sl hsl).view.WordExact) {α : Type} (K : Prog (TpuEff nD τ sig (Elt F) Λ .tc) α) : Prog (TpuEff nD τ sig (Elt F) Λ .tc) α :=
  .op (.enqueueDma (rowsL w row hr) (.here (slotL ring sl hsl)) (.dma lsem) hs hd ⟨Or.inl rfl, trivial⟩) fun _ => K

/-- and wait for it. -/
def waitL (sl : ℕ) (hsl : sl < 6) (row : ℕ) (hr : row + 312 ≤ 30008) (hs : (rowsL w row hr).view.WordExact)
    (hd : (slotL ring sl hsl).view.WordExact) {α : Type} (K : Prog (TpuEff nD τ sig (Elt F) Λ .tc) α) : Prog (TpuEff nD τ sig (Elt F) Λ .tc) α :=
  .op (.waitDma2 lsem (rowsL w row hr) (slotL ring sl hsl) hs hd) fun _ => K

end Ring

/-! ## One tile through the matrix units -/

theorem scTile : S1x256x256.ShapeCasts S256x256 := by decide
theorem bitsLt : FTy.bits .fp8e4m3 < FTy.bits .bf16 := by decide

/-- The tile a push stages: what the ring's rectangle holds, as bf16. -/
def tileV (v : Vec F S1x256x256 .fp8e4m3) : FVec F S256x256 .bf16 := extf .bf16 (shapeCast S256x256 v scTile) bitsLt

/-- The register of tile `k`. -/
abbrev kr (k : ℕ) : Fin 2 := ⟨k % 2, Nat.mod_lt _ (by decide)⟩

theorem fitsA {par i : ℕ} (hp : par < 2) (hi : i < 4) : Mxu.Fits (64 * par + 16 * i) 64 := by unfold Mxu.Fits; omega

section Step

variable (ring : Memref sig .tc .vmem S6x512x12288 .fp8e4m3) (xc : Memref sig .tc .vmem S256x12288 .fp8e4m3)
variable {α : Type}

/-- Load unit `q`'s tile and push it. -/
def pushK (sl : ℕ) (hsl : sl < 6) (k : ℕ) (hk : k < 48) (q : Fin 2) (s : Mxu F) (K : Mxu F → Prog (TpuEff nD τ sig (Elt F) Λ .tc) α) : Prog (TpuEff nD τ sig (Elt F) Λ .tc) α :=
  .op (.load ring (rTile sl hsl q k hk).toLoadRect (View.loadsAt_vmem nS1x256x256)) fun (v : Vec F S1x256x256 .fp8e4m3) =>
  .op (.assume (s.PushOk q (kr k) true)) fun _ => K (s.pushed q (kr k) true (tileV v))

/-- The first piece of `x`, which loads the tiles. -/
def acc0K (par : ℕ) (hp : par < 2) (k : ℕ) (hk : k < 48) (s : Mxu F) (K : Mxu F → Prog (TpuEff nD τ sig (Elt F) Λ .tc) α) : Prog (TpuEff nD τ sig (Elt F) Λ .tc) α :=
  .op (.load xc (rX 0 (by omega) k hk).toLoadRect (View.loadsAt_vmem nS64x256)) fun (v : Vec F S64x256 .fp8e4m3) =>
  K ((s.accLhs 0 (kr k) (64 * par + 16 * 0) (extf .bf16 v bitsLt : FVec F S64x256 .bf16) (fitsA hp (by omega))).accLhs 1 (kr k)
    (64 * par + 16 * 0) (extf .bf16 v bitsLt : FVec F S64x256 .bf16) (fitsA hp (by omega)))

/-- A later piece, by the tiles loaded. -/
def accK (par : ℕ) (hp : par < 2) (k : ℕ) (hk : k < 48) (i : ℕ) (hi : i < 4) (s : Mxu F) (K : Mxu F → Prog (TpuEff nD τ sig (Elt F) Λ .tc) α) : Prog (TpuEff nD τ sig (Elt F) Λ .tc) α :=
  .op (.load xc (rX i hi k hk).toLoadRect (View.loadsAt_vmem nS64x256)) fun (v : Vec F S64x256 .fp8e4m3) =>
  .op (.assume ((s.gmr 0).isSome = true)) fun h0 =>
  .op (.assume (((s.accBy 0 ((s.gmr 0).get h0.down) (64 * par + 16 * i) (extf .bf16 v bitsLt : FVec F S64x256 .bf16)
    (fitsA hp hi)).gmr 1).isSome = true)) fun h1 =>
  K ((s.accBy 0 ((s.gmr 0).get h0.down) (64 * par + 16 * i) (extf .bf16 v bitsLt : FVec F S64x256 .bf16) (fitsA hp hi)).accBy 1
    (((s.accBy 0 ((s.gmr 0).get h0.down) (64 * par + 16 * i) (extf .bf16 v bitsLt : FVec F S64x256 .bf16)
      (fitsA hp hi)).gmr 1).get h1.down) (64 * par + 16 * i) (extf .bf16 v bitsLt : FVec F S64x256 .bf16) (fitsA hp hi))

/-- Tile `k`: two pushes, four pieces on both units. -/
def stepK (sl : ℕ) (hsl : sl < 6) (par : ℕ) (hp : par < 2) (k : ℕ) (hk : k < 48) (s : Mxu F) (K : Mxu F → Prog (TpuEff nD τ sig (Elt F) Λ .tc) α) : Prog (TpuEff nD τ sig (Elt F) Λ .tc) α :=
  pushK ring sl hsl k hk 0 s fun s => pushK ring sl hsl k hk 1 s fun s =>
  acc0K xc par hp k hk s fun s => accK xc par hp k hk 1 (by omega) s fun s =>
  accK xc par hp k hk 2 (by omega) s fun s => accK xc par hp k hk 3 (by omega) s K

/-- `n` tiles from tile `k`. -/
def stepsK (sl : ℕ) (hsl : sl < 6) (par : ℕ) (hp : par < 2) :
    (n : ℕ) → (k : ℕ) → (h : k + n ≤ 48) → (s : Mxu F) → (K : Mxu F → Prog (TpuEff nD τ sig (Elt F) Λ .tc) α) → Prog (TpuEff nD τ sig (Elt F) Λ .tc) α
  | 0, _, _, s, K => K s
  | n + 1, k, h, s, K => stepK ring xc sl hsl par hp k (by omega) s fun s => stepsK sl hsl par hp n (k + 1) (by omega) s K

/-- A block: its 48 tiles, with `D i` after tile `8 i + 5`. -/
def blockK (sl : ℕ) (hsl : sl < 6) (par : ℕ) (hp : par < 2)
    (D : (i : ℕ) → i < 4 → Mxu F → (Mxu F → Prog (TpuEff nD τ sig (Elt F) Λ .tc) α) → Prog (TpuEff nD τ sig (Elt F) Λ .tc) α) (s : Mxu F) (K : Mxu F → Prog (TpuEff nD τ sig (Elt F) Λ .tc) α) : Prog (TpuEff nD τ sig (Elt F) Λ .tc) α :=
  stepsK ring xc sl hsl par hp 6 0 (by omega) s fun s => D 0 (by omega) s fun s =>
  stepsK ring xc sl hsl par hp 8 6 (by omega) s fun s => D 1 (by omega) s fun s =>
  stepsK ring xc sl hsl par hp 8 14 (by omega) s fun s => D 2 (by omega) s fun s =>
  stepsK ring xc sl hsl par hp 8 22 (by omega) s fun s => D 3 (by omega) s fun s =>
  stepsK ring xc sl hsl par hp 18 30 (by omega) s K

end Step

/-! ## The update by one block's logits -/

theorem sc128 : S128.ShapeCasts S1x128 := by decide
theorem sc1x128 : S1x128.ShapeCasts S1x128 := by decide
theorem bc64 : S1x128.Broadcasts S64x128 := by decide
theorem sl0 : S64x256.Slices ![0, 0] S64x128 := by decide
theorem sl1 : S64x256.Slices ![0, 128] S64x128 := by decide
theorem sc64 : S64x128.ShapeCasts S64x128 := by decide
theorem conc51 : Shape.Concatenates [S51, S77] S128 0 := by decide
theorem iota64 : S64x128.Iotas .tc 32 [1] := by decide

/-- The two halves of a popped tile. -/
def lo (v : FVec F S64x256 .f32) : FVec F S64x128 .f32 := extractStridedSlice S64x128 ![0, 0] v sl0
def hi (v : FVec F S64x256 .f32) : FVec F S64x128 .f32 := extractStridedSlice S64x128 ![0, 128] v sl1

/-- Logits of one lane group: the products by the tokens' scales and the columns' scales. -/
def logit (a rs : FVec F S64x128 .f32) (w : FVec F S128 .f32) : FVec F S64x128 .f32 :=
  mulf (mulf a rs) (broadcastTo S64x128 (shapeCast S1x128 (shapeCast S1x128 w sc128) sc1x128) bc64)

/-- The scales of the last lane group: 51 of the vocabulary's, then zeros. -/
def pad51 (w : FVec F S51 .f32) : FVec F S128 .f32 :=
  concatenate S128 0 [⟨S51, w⟩, ⟨S77, broadcast S77 (Scalar.ofBits .f32 0x00000000#32)⟩] conc51

/-- The last lane group's logits, minus infinity past the vocabulary's end. -/
def mask51 (l : FVec F S64x128 .f32) : FVec F S64x128 .f32 :=
  select (cmpi .slt (iota .tc S64x128 32 [1] iota64) (broadcast S64x128 51#32)) l
    (broadcast S64x128 (Scalar.ofBits .f32 0xFF800000#32))

/-- The target's logit, taken where the target's column is the lane group's. -/
def newT (tgt : IVec S64x128 32) (ls : List (BitVec 32 × FVec F S64x128 .f32)) (t : FVec F S64x128 .f32) : FVec F S64x128 .f32 :=
  ls.foldl (fun t p => select (cmpi .eq tgt (broadcast S64x128 p.1)) p.2 t) t

/-- The running maximum. -/
def newM (ls : List (BitVec 32 × FVec F S64x128 .f32)) (m : FVec F S64x128 .f32) : FVec F S64x128 .f32 :=
  ls.foldl (fun m p => maximumf m p.2) m

/-- The running sum, rescaled to the new maximum. -/
def newS (ls : List (BitVec 32 × FVec F S64x128 .f32)) (m m' s : FVec F S64x128 .f32) : FVec F S64x128 .f32 :=
  ls.foldl (fun s p => addf s (exp2 (subf p.2 m'))) (mulf s (exp2 (subf m m')))

section Update

variable (ws : Memref sig .tc .vmem S30003 .f32) (tg : Memref sig .tc .vmem S256x128 .i32)
  (rs mm ss tt : Memref sig .tc .vmem S256x128 .f32)
variable {α : Type}

/-- Store a piece of a per-token buffer; what it held is loaded first, as printed. -/
def storeP (b : Memref sig .tc .vmem S256x128 .f32) (i : ℕ) (hi : i < 4) (v : FVec F S64x128 .f32) (K : Prog (TpuEff nD τ sig (Elt F) Λ .tc) α) : Prog (TpuEff nD τ sig (Elt F) Λ .tc) α :=
  .op (.load b (rP i hi).toLoadRect (View.loadsAt_vmem nS64x128)) fun _ =>
  .op (.store b (rP i hi) (shapeCast S64x128 v sc64) Finset.univ (View.stores_vmem_bits_univ nS64x128 rfl) (.inl rfl)) fun _ => K

/-- The update's end: the sum's load and the three stores. -/
def updK (i : ℕ) (hi : i < 4) (tgt : IVec S64x128 32) (t m : FVec F S64x128 .f32) (ls : List (BitVec 32 × FVec F S64x128 .f32))
    (K : Prog (TpuEff nD τ sig (Elt F) Λ .tc) α) : Prog (TpuEff nD τ sig (Elt F) Λ .tc) α :=
  .op (.load ss (rP i hi).toLoadRect (View.loadsAt_vmem nS64x128)) fun (s : Vec F S64x128 .f32) =>
  storeP mm i hi (newM ls m) <| storeP ss i hi (newS ls m (newM ls m) s) <| storeP tt i hi (newT tgt ls t) K

/-- The column word of lane group `c` of the block at column `cb`. -/
abbrev wcol (cb : BitVec 32) (c : ℕ) : BitVec 32 := Scalar.addi cb (BitVec.ofNat 32 (128 * c))

/-- A middle block's update of piece `i`. -/
def drainK (cb : BitVec 32) (hcb : ∀ c, c < 4 → (wcol cb c).toNat + 128 ≤ 30003) (par : ℕ) (hp : par < 2) (i : ℕ) (hi' : i < 4)
    (s : Mxu F) (K : Mxu F → Prog (TpuEff nD τ sig (Elt F) Λ .tc) α) : Prog (TpuEff nD τ sig (Elt F) Λ .tc) α :=
  .op (.load rs (rP i hi').toLoadRect (View.loadsAt_vmem nS64x128)) fun (r : Vec F S64x128 .f32) =>
  .op (.load tg (rP i hi').toLoadRect (View.loadsAt_vmem nS64x128)) fun (tgt : Vec F S64x128 .i32) =>
  .op (.load tt (rP i hi').toLoadRect (View.loadsAt_vmem nS64x128)) fun (t : Vec F S64x128 .f32) =>
  .op (.load mm (rP i hi').toLoadRect (View.loadsAt_vmem nS64x128)) fun (m : Vec F S64x128 .f32) =>
  .op (.load ws (rW (wcol cb 0).toNat (hcb 0 (by omega))).toLoadRect (View.loadsAt_vmem nS128)) fun (w0 : Vec F S128 .f32) =>
  .op (.load ws (rW (wcol cb 1).toNat (hcb 1 (by omega))).toLoadRect (View.loadsAt_vmem nS128)) fun (w1 : Vec F S128 .f32) =>
  .op (.load ws (rW (wcol cb 2).toNat (hcb 2 (by omega))).toLoadRect (View.loadsAt_vmem nS128)) fun (w2 : Vec F S128 .f32) =>
  .op (.load ws (rW (wcol cb 3).toNat (hcb 3 (by omega))).toLoadRect (View.loadsAt_vmem nS128)) fun (w3 : Vec F S128 .f32) =>
  updK mm ss tt i hi' tgt t m
    [(wcol cb 0, logit (lo (s.read 0 (64 * par + 16 * i) (fitsA hp hi'))) r w0),
     (wcol cb 1, logit (hi (s.read 0 (64 * par + 16 * i) (fitsA hp hi'))) r w1),
     (wcol cb 2, logit (lo ((s.pop 0 (64 * par + 16 * i) 64 (fitsA hp hi')).read 1 (64 * par + 16 * i) (fitsA hp hi'))) r w2),
     (wcol cb 3, logit (hi ((s.pop 0 (64 * par + 16 * i) 64 (fitsA hp hi')).read 1 (64 * par + 16 * i) (fitsA hp hi'))) r w3)]
    (K ((s.pop 0 (64 * par + 16 * i) 64 (fitsA hp hi')).pop 1 (64 * par + 16 * i) 64 (fitsA hp hi')))

/-- The last block's update of piece `i`: three lane groups, the last one short. -/
def lastK (i : ℕ) (hi' : i < 4) (s : Mxu F) (K : Mxu F → Prog (TpuEff nD τ sig (Elt F) Λ .tc) α) : Prog (TpuEff nD τ sig (Elt F) Λ .tc) α :=
  .op (.load rs (rP i hi').toLoadRect (View.loadsAt_vmem nS64x128)) fun (r : Vec F S64x128 .f32) =>
  .op (.load tg (rP i hi').toLoadRect (View.loadsAt_vmem nS64x128)) fun (tgt : Vec F S64x128 .i32) =>
  .op (.load tt (rP i hi').toLoadRect (View.loadsAt_vmem nS64x128)) fun (t : Vec F S64x128 .f32) =>
  .op (.load mm (rP i hi').toLoadRect (View.loadsAt_vmem nS64x128)) fun (m : Vec F S64x128 .f32) =>
  .op (.load ws (rW 29696 (by omega)).toLoadRect (View.loadsAt_vmem nS128)) fun (w0 : Vec F S128 .f32) =>
  .op (.load ws (rW 29824 (by omega)).toLoadRect (View.loadsAt_vmem nS128)) fun (w1 : Vec F S128 .f32) =>
  .op (.load ws rW51.toLoadRect (View.loadsAt_vmem nS51)) fun (w2 : Vec F S51 .f32) =>
  updK mm ss tt i hi' tgt t m
    [(29696#32, logit (lo (s.read 0 (64 * 1 + 16 * i) (fitsA (by omega) hi'))) r w0),
     (29824#32, logit (hi (s.read 0 (64 * 1 + 16 * i) (fitsA (by omega) hi'))) r w1),
     (29952#32, mask51 (logit (lo ((s.pop 0 (64 * 1 + 16 * i) 64 (fitsA (by omega) hi')).read 1 (64 * 1 + 16 * i)
       (fitsA (by omega) hi'))) r (pad51 w2)))]
    (K ((s.pop 0 (64 * 1 + 16 * i) 64 (fitsA (by omega) hi')).pop 1 (64 * 1 + 16 * i) 64 (fitsA (by omega) hi')))

end Update

/-! ## The first lines and the last -/

theorem io0 : S128x128.Iotas .tc 32 [0] := by decide
theorem io1 : S128x128.Iotas .tc 32 [1] := by decide
theorem bc128 : S1x128.Broadcasts S128x128 := by decide
theorem bc128c : S128x1.Broadcasts S128x128 := by decide
theorem red1 : S128x128.Reduces [1] S128 := by decide
theorem red0 : S128x128.Reduces [0] S128 := by decide
theorem sc128c : S128.ShapeCasts S128x1 := by decide
theorem sc128c' : S128x1.ShapeCasts S128x1 := by decide
theorem sc128x : S128x128.ShapeCasts S128x128 := by decide
theorem sc256 : S256x128.ShapeCasts S256x128 := by decide
theorem red256 : S256x128.Reduces [1] S256 := by decide
theorem sc256c : S256.ShapeCasts S256x1 := by decide
theorem sc256c' : S256x1.ShapeCasts S256x1 := by decide
theorem bc256 : S256x1.Broadcasts S256x128 := by decide
theorem slh0 : S256x128.Slices ![0, 0] S128x128 := by decide
theorem slh1 : S256x128.Slices ![128, 0] S128x128 := by decide

/-- The diagonal of a square. -/
def diag : IVec S128x128 1 := cmpi .eq (iota .tc S128x128 32 [0] io0) (iota .tc S128x128 32 [1] io1)

/-- A row of integers as a column, every lane holding its row's entry. -/
def toColI (v : IVec S1x128 32) : IVec S128x128 32 :=
  broadcastTo S128x128 (shapeCast S128x1 (shapeCast S128x1 (multiReductionI .add [1] S128
    (select diag (broadcastTo S128x128 (shapeCast S1x128 v sc1x128) bc128) (broadcast S128x128 0#32)) 0#32 red1 rfl)
    sc128c) sc128c') bc128c

/-- The targets' columns less the lane. -/
def tgtH (v : IVec S1x128 32) : IVec S128x128 32 := subi (toColI v) (iota .tc S128x128 32 [1] io1)

/-- A row of floats as a column, every lane holding its row's entry. -/
def toColF (v : FVec F S1x128 .f32) : FVec F S128x128 .f32 :=
  broadcastTo S128x128 (shapeCast S128x1 (shapeCast S128x1 (multiReduction .add [1] S128
    (select diag (broadcastTo S128x128 (shapeCast S1x128 v sc1x128) bc128) (broadcast S128x128 (Scalar.ofBits .f32 0x00000000#32)))
    0x00000000#32 red1 (.inl rfl) rfl) sc128c) sc128c') bc128c

/-- A column (every lane its row's entry) back as a row. -/
def toRow (v : FVec F S128x128 .f32) : FVec F S1x128 .f32 :=
  shapeCast S1x128 (multiReduction .add [0] S128 (select diag v (broadcast S128x128 (Scalar.ofBits .f32 0x00000000#32)))
    0x00000000#32 red0 (.inl rfl) rfl) sc128

/-- The maximum over the lanes, -/
def topV (m : FVec F S256x128 .f32) : FVec F S256x1 .f32 :=
  shapeCast S256x1 (multiReduction .maximumf [1] S256 m 0xFF800000#32 red256 (.inl rfl) rfl) sc256c

/-- the sum over the lanes at that maximum, -/
def sumV (m s : FVec F S256x128 .f32) : FVec F S256x1 .f32 :=
  shapeCast S256x1 (multiReduction .add [1] S256 (mulf s (exp2 (subf m (broadcastTo S256x128 (topV m) bc256))))
    0x00000000#32 red256 (.inl rfl) rfl) sc256c

/-- the log-sum-exp in every lane, -/
def lseV (ln2 : F .f32) (m s : FVec F S256x128 .f32) : FVec F S256x128 .f32 :=
  broadcastTo S256x128 (shapeCast S256x1 (addf (mulf (topV m) (broadcast S256x1 ln2)) (log (sumV m s))) sc256c') bc256

/-- and the target's logit. -/
def tlV (ln2 : F .f32) (t : FVec F S256x128 .f32) : FVec F S256x128 .f32 :=
  broadcastTo S256x128 (shapeCast S256x1 (mulf (shapeCast S256x1 (multiReduction .add [1] S256 t 0x00000000#32 red256 (.inl rfl) rfl)
    sc256c) (broadcast S256x1 ln2)) sc256c') bc256

def logV : FVec F S128x128 .f32 := broadcast S128x128 (Scalar.ofBits .f32 0x4124F1E1#32)

def half0 (v : FVec F S256x128 .f32) : FVec F S128x128 .f32 := extractStridedSlice S128x128 ![0, 0] v slh0
def half1 (v : FVec F S256x128 .f32) : FVec F S128x128 .f32 := extractStridedSlice S128x128 ![128, 0] v slh1

/-- The row of log-sum-exps a half leaves, -/
def outLse (l : FVec F S128x128 .f32) : FVec F S1x128 .f32 := toRow (subf l logV)
/-- and the row of log probabilities. -/
def outLp (t l : FVec F S128x128 .f32) : FVec F S1x128 .f32 := toRow (addf (subf t l) logV)

section Body

variable (x : Memref sig .tc .hbm S256x12288 .fp8e4m3) (xs : Memref sig .tc .vmem S2x128 .f32) (hc : Memref sig .tc .vmem S2x128 .i32)
  (w : Memref sig .tc .hbm S30008x12288 .fp8e4m3) (wsA : Memref sig .tc .hbm S30003 .f32)
  (lp lse : Memref sig .tc .vmem S2x128 .f32)
  (ring : Memref sig .tc .vmem S6x512x12288 .fp8e4m3) (xc : Memref sig .tc .vmem S256x12288 .fp8e4m3)
  (ws : Memref sig .tc .vmem S30003 .f32) (tg : Memref sig .tc .vmem S256x128 .i32)
  (rs mm ss tt : Memref sig .tc .vmem S256x128 .f32)
  (sems : DmaSems sig S6) (xsem csem lsem : DmaSem sig)
variable {α : Type}

/-- The start of the two copies that stay for the whole body. -/
def copiesK (hx : x.view.WordExact) (hxc : xc.view.WordExact) (hw : wsA.view.WordExact) (hws : ws.view.WordExact) (K : Prog (TpuEff nD τ sig (Elt F) Λ .tc) α) : Prog (TpuEff nD τ sig (Elt F) Λ .tc) α :=
  .op (.enqueueDma x (.here xc) (.dma xsem) hx hxc ⟨Or.inl rfl, trivial⟩) fun _ =>
  .op (.enqueueDma wsA (.here ws) (.dma csem) hw hws ⟨Or.inl rfl, trivial⟩) fun _ => K

/-- Half `h` of the targets' columns. -/
def tgtK (h : ℕ) (hh : h < 2) (K : Prog (TpuEff nD τ sig (Elt F) Λ .tc) α) : Prog (TpuEff nD τ sig (Elt F) Λ .tc) α :=
  .op (.load hc (rRow h hh).toLoadRect (View.loadsAt_vmem nS1x128)) fun (v : Vec F S1x128 .i32) =>
  .op (.load tg (rH h hh).toLoadRect (View.loadsAt_vmem nS128x128)) fun _ =>
  .op (.store tg (rH h hh) (shapeCast S128x128 (tgtH v) sc128x) Finset.univ (View.stores_vmem_bits_univ nS128x128 rfl) (.inl rfl))
    fun _ => K

/-- Half `h` of the tokens' scales. -/
def rsK (h : ℕ) (hh : h < 2) (K : Prog (TpuEff nD τ sig (Elt F) Λ .tc) α) : Prog (TpuEff nD τ sig (Elt F) Λ .tc) α :=
  .op (.load xs (rRow h hh).toLoadRect (View.loadsAt_vmem nS1x128)) fun (v : Vec F S1x128 .f32) =>
  .op (.load rs (rH h hh).toLoadRect (View.loadsAt_vmem nS128x128)) fun _ =>
  .op (.store rs (rH h hh) (shapeCast S128x128 (toColF v) sc128x) Finset.univ (View.stores_vmem_bits_univ nS128x128 rfl) (.inl rfl))
    fun _ => K

/-- Fill a per-token buffer. -/
def fillK (b : Memref sig .tc .vmem S256x128 .f32) (v : FVec F S256x128 .f32) (K : Prog (TpuEff nD τ sig (Elt F) Λ .tc) α) : Prog (TpuEff nD τ sig (Elt F) Λ .tc) α :=
  .op (.load b rAll.toLoadRect (View.loadsAt_vmem nS256x128)) fun _ =>
  .op (.store b rAll (shapeCast S256x128 v sc256) Finset.univ (View.stores_vmem_bits_univ nS256x128 rfl) (.inl rfl)) fun _ => K

/-- From the wait for `x` to the running values' reset. -/
def prepK (log2e : F .f32) (hx : x.view.WordExact) (hxc : xc.view.WordExact) (hw : wsA.view.WordExact) (hws : ws.view.WordExact) (K : Prog (TpuEff nD τ sig (Elt F) Λ .tc) α) :
    Prog (TpuEff nD τ sig (Elt F) Λ .tc) α :=
  .op (.waitDma2 xsem x xc hx hxc) fun _ =>
  rsK xs rs 0 (by omega) <| rsK xs rs 1 (by omega) <|
  .op (.waitDma2 csem wsA ws hw hws) fun _ =>
  .op (.load rs rAll.toLoadRect (View.loadsAt_vmem nS256x128)) fun (r : Vec F S256x128 .f32) =>
  fillK rs (mulf r (broadcast S256x128 log2e)) <|
  fillK mm (broadcast S256x128 (Scalar.ofBits .f32 0xFF800000#32)) <|
  fillK ss (broadcast S256x128 (Scalar.ofBits .f32 0x00000000#32)) <|
  fillK tt (broadcast S256x128 (Scalar.ofBits .f32 0x00000000#32)) K

/-- Store row `h` of a result window. -/
def outK (b : Memref sig .tc .vmem S2x128 .f32) (h : ℕ) (hh : h < 2) (v : FVec F S1x128 .f32) (K : Prog (TpuEff nD τ sig (Elt F) Λ .tc) α) : Prog (TpuEff nD τ sig (Elt F) Λ .tc) α :=
  .op (.load b (rRow h hh).toLoadRect (View.loadsAt_vmem nS1x128)) fun _ =>
  .op (.store b (rRow h hh) v Finset.univ (View.stores_vmem_bits_univ nS1x128 rfl) (.inl rfl)) fun _ => K

/-- The last lines: the four pieces of the last block, the lanes' reduction, the results and the units' end. -/
def finK (ln2 : F .f32) (s : Mxu F) (K : Prog (TpuEff nD τ sig (Elt F) Λ .tc) α) : Prog (TpuEff nD τ sig (Elt F) Λ .tc) α :=
  lastK ws tg rs mm ss tt 0 (by omega) s fun s => lastK ws tg rs mm ss tt 1 (by omega) s fun s =>
  lastK ws tg rs mm ss tt 2 (by omega) s fun s => lastK ws tg rs mm ss tt 3 (by omega) s fun s =>
  .op (.load mm rAll.toLoadRect (View.loadsAt_vmem nS256x128)) fun (m : Vec F S256x128 .f32) =>
  .op (.load ss rAll.toLoadRect (View.loadsAt_vmem nS256x128)) fun (sv : Vec F S256x128 .f32) =>
  .op (.load tt rAll.toLoadRect (View.loadsAt_vmem nS256x128)) fun (t : Vec F S256x128 .f32) =>
  outK lse 0 (by omega) (outLse (half0 (lseV ln2 m sv))) <|
  outK lp 0 (by omega) (outLp (half0 (tlV ln2 t)) (half0 (lseV ln2 m sv))) <|
  outK lse 1 (by omega) (outLse (half1 (lseV ln2 m sv))) <|
  outK lp 1 (by omega) (outLp (half1 (tlV ln2 t)) (half1 (lseV ln2 m sv))) <|
  .op (.assume s.Drained) fun _ => K

end Body

end Cert.Head
-- ==== Proof.Wp.lean ====
/- Loads, stores and copies of memrefs held by what they read: the rules the run of the kernel takes its steps by. -/
module

public import proofs.«01_k».proof.Proof.Prog
public import Idealize.ShloMosaic.Lib.Transfers
public import Idealize.ShloMosaic.Lib.Memref
public import Idealize.ShloMosaic.Lib.Mxu.Lemmas
public import Idealize.ShloMosaic.Lib.ValueLayout
public import Idealize.ShloMosaic.Lib.Pipeline.FrameBody
public import Idealize.ShloMosaic.Lib.Ring
public import Idealize.ShloMosaic.Lib.Tactic

@[expose] public section

noncomputable section

namespace Cert.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 reshapeEquiv_ix2_1ab)

/-! ## Contents after a store -/

/-- Contents `X` with the rectangle `r` at `w`. -/
def upd {s : Shape} {V : Type} (r : Rect s) (X : s.Idx → V) (w : r.shape.Idx → V) : s.Idx → V :=
  fun y => open Classical in if h : ∃ i, r.emb i = y then w h.choose else X y

theorem upd_emb {s : Shape} {V : Type} (r : Rect s) (X : s.Idx → V) (w : r.shape.Idx → V) (i : r.shape.Idx) :
    upd r X w (r.emb i) = w i := by
  have h : ∃ j, r.emb j = r.emb i := ⟨i, rfl⟩
  unfold upd
  rw [dif_pos h]
  exact congrArg w (r.emb.injective h.choose_spec)

theorem upd_ne {s : Shape} {V : Type} (r : Rect s) (X : s.Idx → V) (w : r.shape.Idx → V) (y : s.Idx) (h : ∀ i, r.emb i ≠ y) :
    upd r X w y = X y := by
  unfold upd
  rw [dif_neg (by rintro ⟨i, hi⟩; exact h i hi)]

theorem read_upd {sig : RefSig} {κ : Kind} {sp : Space} {s : Shape} {e : EltTy} {Val : EltTy → Type} (v : View sig κ sp s e) (r : Rect s)
    (f : v.ty.Contents Val) (w : r.shape.Idx → Val e) :
    v.read Val ((v.slice r).write Val f w Finset.univ) = upd r (v.read Val f) w := by
  funext y
  by_cases h : ∃ i, r.emb i = y
  · obtain ⟨i, rfl⟩ := h
    rw [View.read_slice_write_emb r f w (Finset.mem_univ i), upd_emb]
  · rw [upd_ne _ _ _ _ (fun i hi => h ⟨i, hi⟩)]
    refine View.read_slice_write_of_not_mem r f w Finset.univ fun hm => ?_
    obtain ⟨i, -, hi⟩ := Finset.mem_map.mp hm
    exact h ⟨i, hi⟩

variable {nD : ℕ} {τ : Topo} {sig : RefSig} {Λ : Labels} {F : FTy → Type} [FloatOps F]

local notation "𝕄" => MT nD τ sig Unit (Elt F) ℕ (UR sig nD τ × Counters) ℕ

variable {defs : Defs nD τ sig (Elt F) Λ} {𝒱 : Variants} {c : Dev nD} {bd : Option 𝒱.V} {α : Type} {Q : α → sProp (MT nD τ sig Unit (Elt F) ℕ (UR sig nD τ × Counters) ℕ)}

omit [FloatOps F] in
theorem ent_eq {P R : sProp 𝕄} (e : P = R) : P ⊢ R := e ▸ .rfl

/-! ## Loads and stores -/

/-- A load yields what the memref reads on the rectangle. -/
theorem wp_loadO {cs : CoreSpace} {s : Shape} {e : EltTy} {m : Memref sig .tc cs s e} {r : Rect s} {hl : m.view.LoadsAt r}
    {q : PosShare TreeShare} {X : s.Idx → Elt F e} {k : (r.shape.Idx → Elt F e) → Prog (TpuEff nD τ sig (Elt F) Λ .tc) α} :
    owns (c : Thread nD τ) m q X ⊢ iprop((owns (c : Thread nD τ) m q X -∗ wp frame (wpE defs 𝒱 (c : Thread nD τ) bd) Set.univ (k fun i => X (r.idx i)) Q)
      -∗ (wp frame (wpE defs 𝒱 (c : Thread nD τ) bd) Set.univ (.op (.load m r hl) k) Q : sProp 𝕄)) := by
  unfold owns
  iintro ⟨%f, %hf, H⟩ Hk
  have hS := View.setOn_subset_set m.view r.set
  iapply (wp_load 𝒱 (c : Thread nD τ) bd Set.univ (m := m) (r := r) (S := m.view.set) hS) $$ H
  iintro H
  have e : (m.view.readAt (Elt F) r f) = fun i => X (r.idx i) := by
    subst hf; rfl
  irw [e]
  iapply Hk
  iexists f
  isplitr; · ipureintro; exact hf
  iexact H

/-- A store leaves the contents with the rectangle at what was stored. -/
theorem wp_storeO {cs : CoreSpace} {s : Shape} {e : EltTy} {m : Memref sig .tc cs s e} {r : Rect s} {w : r.shape.Idx → Elt F e}
    {hx : (m.access r).Stores Finset.univ} {hm : Finset.univ = Finset.univ ∨ ∀ a, r.stride a = 1}
    {X : s.Idx → Elt F e} {k : PUnit → Prog (TpuEff nD τ sig (Elt F) Λ .tc) α} :
    owns (c : Thread nD τ) m fullShare X ⊢ iprop((owns (c : Thread nD τ) m fullShare (upd r X w) -∗ wp frame (wpE defs 𝒱 (c : Thread nD τ) bd) Set.univ (k ⟨⟩) Q)
      -∗ (wp frame (wpE defs 𝒱 (c : Thread nD τ) bd) Set.univ (.op (.store m r w Finset.univ hx hm) k) Q : sProp 𝕄)) := by
  unfold owns
  iintro ⟨%f, %hf, H⟩ Hk
  iapply (wp_store 𝒱 (c : Thread nD τ) bd Set.univ (m := m) (r := r) (w := w) (S := m.view.set)
    ((View.setOn_subset_set _ _).trans (View.set_slice_subset _ _))) $$ H
  iintro H
  iapply Hk
  iexists _
  isplitr
  · ipureintro
    rw [← hf]
    exact read_upd m.view r f w
  · iexact H

/-! ## Slots of the ring -/

/-- Slot `sl`, read at `x`. -/
theorem slot_read {Val : EltTy → Type} (ring : Memref sig .tc .vmem S6x512x12288 .fp8e4m3) (sl : ℕ) (hsl : sl < 6) (f : ring.view.ty.Contents Val) (x : S512x12288.Idx) :
    (slot ring sl hsl).view.read Val f x = ring.view.read Val f (ix3 (⟨sl, hsl⟩ : Fin 6) (x 0) (x 1)) := by
  rw [View.read_apply, View.read_apply]
  have h : (slot ring sl hsl).view.emb x = ring.view.emb (ix3 (⟨sl, hsl⟩ : Fin 6) (x 0) (x 1)) := by
    show ring.view.emb (Rect.emb _ (Shape.reshapeEquiv _ x)) = _
    congr 1
    refine (congrArg _ ((congrArg _ (eq_ix2 x)).trans (reshapeEquiv_ix2_1ab _ (x 0) (x 1)))).trans ?_
    funext a
    match a with
    | 0 => exact Fin.ext (by show sl + 1 * 0 = sl; omega)
    | 1 => exact Fin.ext (by show 0 + 1 * (x 0).val = (x 0).val; omega)
    | 2 => exact Fin.ext (by show 0 + 1 * (x 1).val = (x 1).val; omega)
  rw [h]

end Cert.Head

end
-- ==== Proof.RingWp.lean ====
/- The ring of six slots: what it holds before each of the 59 blocks, and the rules by which a block's copy is waited
   for and the copy five blocks later is started. -/
module

public import proofs.«01_k».proof.Proof.Wp

@[expose] public section

noncomputable section

namespace Cert.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx (ix2 ix3 eq_ix2 reshapeEquiv_ix2_1ab)

variable {nD : ℕ} {τ : Topo} {sig : RefSig} {Λ : Labels} {F : FTy → Type} [FloatOps F]

local notation "𝕄" => MT nD τ sig Unit (Elt F) ℕ (UR sig nD τ × Counters) ℕ

variable {defs : Defs nD τ sig (Elt F) Λ} {𝒱 : Variants} {bd : Option 𝒱.V} {α : Type} {Q : α → sProp (MT nD τ sig Unit (Elt F) ℕ (UR sig nD τ × Counters) ℕ)}

/-! ## Rows of the vocabulary -/

/-- The elements of rows `a` to `b`. -/
def span (a b : ℕ) : Finset S30008x12288.Idx := Finset.univ.filter fun x => a ≤ (x 0).val ∧ (x 0).val < b

theorem mem_span {a b : ℕ} {x : S30008x12288.Idx} : x ∈ span a b ↔ a ≤ (x 0).val ∧ (x 0).val < b := by
  unfold span; rw [Finset.mem_filter]; exact and_iff_right (Finset.mem_univ x)

theorem span_union {a b d : ℕ} (hab : a ≤ b) (hbd : b ≤ d) : span a d = span a b ∪ span b d := by
  ext x; rw [Finset.mem_union, mem_span, mem_span, mem_span]; omega

theorem span_disjoint (a b d : ℕ) : Disjoint (span a b) (span b d) := by
  rw [Finset.disjoint_left]; intro x hx hy; rw [mem_span] at hx hy; omega

/-- What slot `j % 6` holds while block `j` is used: 512 rows of the vocabulary, of which the last block's end is
    still the block six before it. -/
def brow (j r : ℕ) : Fin 30008 := ⟨(if 512 * j + r < 30008 then 512 * j + r else 512 * (j - 6) + r) % 30008, Nat.mod_lt _ (by omega)⟩

def blk {V : Type} (W : S30008x12288.Idx → V) (j : ℕ) : S512x12288.Idx → V := fun x => W (ix2 (brow j (x 0).val) (x 1))

theorem brow_val {j r : ℕ} (h : 512 * j + r < 30008) : (brow j r).val = 512 * j + r := by
  show (if 512 * j + r < 30008 then 512 * j + r else 512 * (j - 6) + r) % 30008 = _
  rw [if_pos h, Nat.mod_eq_of_lt h]

theorem brow_58 {r : ℕ} (h : ¬ r < 312) (h' : r < 512) : brow 58 r = brow 52 r := by
  refine Fin.ext ?_
  show (if 512 * 58 + r < 30008 then 512 * 58 + r else 512 * (58 - 6) + r) % 30008 = (if 512 * 52 + r < 30008 then 512 * 52 + r else 512 * (52 - 6) + r) % 30008
  rw [if_neg (by omega), if_pos (by omega)]

theorem rows_set (w : Memref sig .tc .hbm S30008x12288 .fp8e4m3) (row : ℕ) (hr : row + 512 ≤ 30008) :
    (rows w row hr).view.set = w.view.setOn (span row (row + 512)) := by
  refine (View.set_slice w.view (Rect.unit (s := S30008x12288) ![row, 0] S512x12288.size (inb2 hr (by omega)))).trans ?_
  unfold View.setOn
  refine congrArg (Finset.map w.view.emb) (Finset.ext fun (x : S30008x12288.Idx) => ?_)
  rw [Rect.mem_set_unit, mem_span]
  have h1 : (x 1).val < 12288 := (x 1).isLt
  constructor
  · intro H; exact H 0
  · intro H a; match a with
    | 0 => exact H
    | 1 => exact ⟨Nat.zero_le _, by show (x 1).val < 0 + 12288; omega⟩

theorem rowsL_set (w : Memref sig .tc .hbm S30008x12288 .fp8e4m3) (row : ℕ) (hr : row + 312 ≤ 30008) :
    (rowsL w row hr).view.set = w.view.setOn (span row (row + 312)) := by
  refine (View.set_slice w.view (Rect.unit (s := S30008x12288) ![row, 0] S312x12288.size (inb2 hr (by omega)))).trans ?_
  unfold View.setOn
  refine congrArg (Finset.map w.view.emb) (Finset.ext fun (x : S30008x12288.Idx) => ?_)
  rw [Rect.mem_set_unit, mem_span]
  have h1 : (x 1).val < 12288 := (x 1).isLt
  constructor
  · intro H; exact H 0
  · intro H a; match a with
    | 0 => exact H
    | 1 => exact ⟨Nat.zero_le _, by show (x 1).val < 0 + 12288; omega⟩

theorem rows_read {Val : EltTy → Type} (w : Memref sig .tc .hbm S30008x12288 .fp8e4m3) (row : ℕ) (hr : row + 512 ≤ 30008) (f : w.view.ty.Contents Val)
    (j : ℕ) (hj : row = 512 * j) : (rows w row hr).view.read Val f = blk (w.view.read Val f) j := by
  funext x
  have h0 : (x 0).val < 512 := (x 0).isLt
  subst hj
  have h : (rows w (512 * j) hr).view.emb x = w.view.emb (ix2 (brow j (x 0).val) (x 1)) := by
    show w.view.emb ((Rect.unit (s := S30008x12288) ![512 * j, 0] S512x12288.size (inb2 hr (by omega))).emb x) = _
    congr 1
    funext a
    match a with
    | 0 => exact Fin.ext (by show 512 * j + 1 * (x 0).val = (brow j (x 0).val).val; rw [brow_val (by omega)]; omega)
    | 1 => exact Fin.ext (by show 0 + 1 * (x 1).val = (x 1).val; omega)
  show (rows w (512 * j) hr).view.read Val f x = w.view.read Val f (ix2 (brow j (x 0).val) (x 1))
  rw [View.read_apply, View.read_apply, h]

/-! ## The last block's copy -/

theorem slotL_emb (ring : Memref sig .tc .vmem S6x512x12288 .fp8e4m3) (sl : ℕ) (hsl : sl < 6) (x : S312x12288.Idx) :
    (slotL ring sl hsl).view.emb x
      = ring.view.emb (ix3 (⟨sl, hsl⟩ : Fin 6) (⟨(x 0).val, lt_of_lt_of_le (x 0).isLt (by decide)⟩ : Fin 512) (x 1)) := by
  show ring.view.emb (Rect.emb _ (Shape.reshapeEquiv _ x)) = _
  congr 1
  refine (congrArg _ ((congrArg _ (eq_ix2 x)).trans (reshapeEquiv_ix2_1ab _ (x 0) (x 1)))).trans ?_
  funext a
  match a with
  | 0 => exact Fin.ext (by show sl + 1 * 0 = sl; omega)
  | 1 => exact Fin.ext (by show 0 + 1 * (x 0).val = (x 0).val; omega)
  | 2 => exact Fin.ext (by show 0 + 1 * (x 1).val = (x 1).val; omega)

theorem slot_emb (ring : Memref sig .tc .vmem S6x512x12288 .fp8e4m3) (sl : ℕ) (hsl : sl < 6) (x : S512x12288.Idx) :
    (slot ring sl hsl).view.emb x = ring.view.emb (ix3 (⟨sl, hsl⟩ : Fin 6) (x 0) (x 1)) := by
  show ring.view.emb (Rect.emb _ (Shape.reshapeEquiv _ x)) = _
  congr 1
  refine (congrArg _ ((congrArg _ (eq_ix2 x)).trans (reshapeEquiv_ix2_1ab _ (x 0) (x 1)))).trans ?_
  funext a
  match a with
  | 0 => exact Fin.ext (by show sl + 1 * 0 = sl; omega)
  | 1 => exact Fin.ext (by show 0 + 1 * (x 0).val = (x 0).val; omega)
  | 2 => exact Fin.ext (by show 0 + 1 * (x 1).val = (x 1).val; omega)

theorem slotL_sub (ring : Memref sig .tc .vmem S6x512x12288 .fp8e4m3) (sl : ℕ) (hsl : sl < 6) :
    (slotL ring sl hsl).view.set ⊆ (slot ring sl hsl).view.set := by
  intro i hi
  obtain ⟨x, -, rfl⟩ := Finset.mem_map.mp hi
  rw [slotL_emb]
  exact Finset.mem_map.mpr ⟨ix2 (⟨(x 0).val, lt_of_lt_of_le (x 0).isLt (by decide)⟩ : Fin 512) (x 1), Finset.mem_univ _, slot_emb ring sl hsl _⟩

/-- The last block's copy over block 52 leaves `blk W 58`. -/
theorem slotL_write {Val : EltTy → Type} (w : Memref sig .tc .hbm S30008x12288 .fp8e4m3) (ring : Memref sig .tc .vmem S6x512x12288 .fp8e4m3)
    (f : w.view.ty.Contents Val) (fd : ring.view.ty.Contents Val) (sl : ℕ) (hsl : sl < 6) (row : ℕ) (hr : row + 312 ≤ 30008) (hrow : row = 512 * 58)
    (hfd : (slot ring sl hsl).view.read Val fd = blk (w.view.read Val f) 52) :
    (slot ring sl hsl).view.read Val ((slotL ring sl hsl).view.write Val fd ((rowsL w row hr).view.read Val f) Finset.univ) = blk (w.view.read Val f) 58 := by
  subst hrow
  funext x
  have h0 : (x 0).val < 512 := (x 0).isLt
  by_cases h : (x 0).val < 312
  · have h1 : (slot ring sl hsl).view.emb x = (slotL ring sl hsl).view.emb (ix2 (⟨(x 0).val, h⟩ : Fin 312) (x 1)) := by
      rw [slot_emb, slotL_emb]; rfl
    have h2 : (rowsL w (512 * 58) hr).view.emb (ix2 (⟨(x 0).val, h⟩ : Fin 312) (x 1)) = w.view.emb (ix2 (brow 58 (x 0).val) (x 1)) := by
      show w.view.emb ((Rect.unit (s := S30008x12288) ![512 * 58, 0] S312x12288.size (inb2 hr (by omega))).emb (ix2 (⟨(x 0).val, h⟩ : Fin 312) (x 1))) = _
      congr 1
      funext a
      match a with
      | 0 => exact Fin.ext (by show 512 * 58 + 1 * (x 0).val = (brow 58 (x 0).val).val; rw [brow_val (by omega)]; omega)
      | 1 => exact Fin.ext (by show 0 + 1 * (x 1).val = (x 1).val; omega)
    show _ = w.view.read Val f (ix2 (brow 58 (x 0).val) (x 1))
    rw [View.read_apply, h1, View.write_emb_of_mem _ _ (Finset.mem_univ _), cast_cast, cast_eq, View.read_apply, View.read_apply, h2]
  · have h1 : (slot ring sl hsl).view.emb x ∉ (slotL ring sl hsl).view.setOn Finset.univ := by
      rw [slot_emb]
      intro hm
      obtain ⟨y, -, hy⟩ := Finset.mem_map.mp hm
      rw [slotL_emb] at hy
      have e := congrArg (fun z : S6x512x12288.Idx => (z 1).val) (ring.view.emb.injective hy)
      have hy0 : (y 0).val < 312 := (y 0).isLt
      have e' : (y 0).val = (x 0).val := e
      omega
    have h2 := congrFun hfd x
    rw [View.read_apply] at h2 ⊢
    rw [View.write_of_not_mem _ _ _ h1, h2]
    show w.view.read Val f (ix2 (brow 52 (x 0).val) (x 1)) = w.view.read Val f (ix2 (brow 58 (x 0).val) (x 1))
    rw [brow_58 h h0]

/-! ## Copies -/

section Ring

variable (c : Dev nD) (w : Memref sig .tc .hbm S30008x12288 .fp8e4m3) (ring : Memref sig .tc .vmem S6x512x12288 .fp8e4m3)
  (sems : DmaSems sig S6) (lsem : DmaSem sig) (fw : Buf (Elt F) (w.view.loc (c : Thread nD τ)))

/-- Rows `a` to `b` of the vocabulary. -/
def rowsP (a b : ℕ) : sProp 𝕄 := w.view.loc (c : Thread nD τ) ↦[w.view.setOn (span a b)]{fullShare} fw

theorem rowsP_split {a b d : ℕ} (hab : a ≤ b) (hbd : b ≤ d) : rowsP c w fw a d ⊢ (iprop(rowsP c w fw a b ∗ rowsP c w fw b d) : sProp 𝕄) := by
  unfold rowsP
  rw [span_union hab hbd]
  unfold View.setOn
  rw [Finset.map_union]
  exact (pointsTo_union ((Finset.disjoint_map _).mpr (span_disjoint a b d))).1

theorem rowsP_join {a b d : ℕ} (hab : a ≤ b) (hbd : b ≤ d) : iprop(rowsP c w fw a b ∗ rowsP c w fw b d) ⊢ (rowsP c w fw a d : sProp 𝕄) := by
  unfold rowsP
  rw [span_union hab hbd]
  unfold View.setOn
  rw [Finset.map_union]
  exact (pointsTo_union ((Finset.disjoint_map _).mpr (span_disjoint a b d))).2

theorem m6 (j : ℕ) : j % 6 < 6 := Nat.mod_lt _ (by decide)

/-- What block `j`'s copy delivers: its slot filled, its rows back. -/
def D (j : ℕ) : sProp 𝕄 :=
  iprop(owns (c : Thread nD τ) (slot ring (j % 6) (m6 j)) fullShare (blk (w.view.read (Elt F) fw) j) ∗ rowsP c w fw (512 * j) (512 * (j + 1)))

/-- The cell of block `j`'s slot at zero. -/
def cell (j : ℕ) : sProp 𝕄 := semVal ((c : Thread nD τ), SemLoc.dma (rsem sems (j % 6) (m6 j))) 0

/-- Block `j` on its way, -/
def flyF (j : ℕ) : sProp 𝕄 :=
  Flight countersEmb (c : Thread nD τ) (SemLoc.dma (rsem sems (j % 6) (m6 j))) () (slot ring (j % 6) (m6 j)).view.dmaCredit (D c w ring fw j)

/-- and the last block. -/
def flyL : sProp 𝕄 :=
  Flight countersEmb (c : Thread nD τ) (SemLoc.dma lsem) () (slotL ring (58 % 6) (m6 58)).view.dmaCredit (D c w ring fw 58)

theorem wp_startF {j sl : ℕ} {hsl : sl < 6} {row : ℕ} {hr : row + 512 ≤ 30008} {hs hd} (e : sl = j % 6) (hrow : row = 512 * j)
    {X : S512x12288.Idx → Elt F .fp8e4m3} {K : Prog (TpuEff nD τ sig (Elt F) Λ .tc) α} :
    iprop(owns (c : Thread nD τ) (slot ring (j % 6) (m6 j)) fullShare X ∗ cell c sems j ∗ rowsP c w fw (512 * j) (512 * (j + 1)))
      ⊢ iprop((flyF c w ring sems fw j -∗ wp frame (wpE defs 𝒱 (c : Thread nD τ) bd) Set.univ K Q)
        -∗ (wp frame (wpE defs 𝒱 (c : Thread nD τ) bd) Set.univ (startF w ring sems sl hsl row hr hs hd K) Q : sProp 𝕄)) := by
  subst e hrow
  unfold owns cell startF
  iintro ⟨⟨%fd, %hfd, Hd⟩, Hc, Hr⟩ Hk
  iapply (wp_dmaLocal countersEmb 𝒱 (c : Thread nD τ) bd (src := rows w (512 * j) hr) (dst := slot ring (j % 6) (m6 j)) (q := fullShare) (fs := fw) ()
    _ rfl (View.dmaCredit_pos _ (by decide)) (Finset.Subset.refl _)) $$ [Hd Hc Hr]
  · isplitl [Hr]
    · iapply (ent_eq (by rw [rows_set]; rfl)) $$ Hr
    isplitl [Hd]; · iexact Hd
    iexact Hc
  iintro Hf
  iapply Hk
  unfold flyF
  iapply (Flight_mono countersEmb (c : Thread nD τ) (show iprop(((slot ring (j % 6) (m6 j)).view.loc (c : Thread nD τ) ↦[(slot ring (j % 6) (m6 j)).view.set]{fullShare} ((slot ring (j % 6) (m6 j)).view.write (Elt F) fd ((rows w (512 * j) hr).view.read (Elt F) fw) Finset.univ)) ∗ ((rows w (512 * j) hr).view.loc (c : Thread nD τ) ↦[(rows w (512 * j) hr).view.set]{fullShare} fw)) ⊢ _ from ?_)) $$ Hf
  unfold D owns
  iintro ⟨Hd, Hr⟩
  isplitl [Hd]
  · iexists _
    isplitr
    · ipureintro
      exact (View.read_write_univ fd _).trans (rows_read w (512 * j) hr fw j rfl)
    · iexact Hd
  · iapply (ent_eq (by rw [rows_set]; rfl)) $$ Hr

theorem wp_waitF {j sl : ℕ} {hsl : sl < 6} {row : ℕ} {hr : row + 512 ≤ 30008} {hs hd} (e : sl = j % 6) {W : Waits sig Unit}
    {K : Prog (TpuEff nD τ sig (Elt F) Λ .tc) α} :
    iprop(flyF c w ring sems fw j ∗ owes (c : Thread nD τ) 0 W)
      ⊢ iprop((iprop(D c w ring fw j ∗ cell c sems j ∗ (∃ W, owes (c : Thread nD τ) 0 W)) -∗ wp frame (wpE defs 𝒱 (c : Thread nD τ) bd) Set.univ K Q)
        -∗ (wp frame (wpE defs 𝒱 (c : Thread nD τ) bd) Set.univ (waitF w ring sems sl hsl row hr hs hd K) Q : sProp 𝕄)) := by
  subst e
  unfold cell waitF flyF
  iintro H Hk
  iapply (wp_waitLocal countersEmb 𝒱 (c : Thread nD τ) bd (dstw := slot ring (j % 6) (m6 j)) () rfl) $$ H
  iintro ⟨HD, Hc, HW⟩
  iapply Hk
  isplitl [HD]; · iexact HD
  isplitl [Hc]; · iexact Hc
  iexists _; iexact HW

theorem wp_startL {sl : ℕ} {hsl : sl < 6} {row : ℕ} {hr : row + 312 ≤ 30008} {hs hd} (e : sl = 58 % 6) (hrow : row = 512 * 58)
    {K : Prog (TpuEff nD τ sig (Elt F) Λ .tc) α} :
    iprop(owns (c : Thread nD τ) (slot ring (58 % 6) (m6 58)) fullShare (blk (w.view.read (Elt F) fw) 52)
        ∗ semVal ((c : Thread nD τ), SemLoc.dma lsem) 0 ∗ rowsP c w fw (512 * 58) (512 * (58 + 1)))
      ⊢ iprop((flyL c w ring lsem fw -∗ wp frame (wpE defs 𝒱 (c : Thread nD τ) bd) Set.univ K Q)
        -∗ (wp frame (wpE defs 𝒱 (c : Thread nD τ) bd) Set.univ (startL w ring lsem sl hsl row hr hs hd K) Q : sProp 𝕄)) := by
  subst e hrow
  have hspan : span (512 * 58) (512 * 58 + 312) = span (512 * 58) (512 * (58 + 1)) := by
    ext x; rw [mem_span, mem_span]; have : (x 0).val < 30008 := (x 0).isLt; omega
  unfold owns startL
  iintro ⟨⟨%fd, %hfd, Hd⟩, Hc, Hr⟩ Hk
  iapply (wp_dmaLocal countersEmb 𝒱 (c : Thread nD τ) bd (src := rowsL w (512 * 58) hr) (dst := slotL ring (58 % 6) (m6 58)) (q := fullShare) (fs := fw) ()
    _ rfl (View.dmaCredit_pos _ (by decide)) (slotL_sub ring (58 % 6) (m6 58))) $$ [Hd Hc Hr]
  · isplitl [Hr]
    · iapply (ent_eq (by rw [rowsL_set, hspan]; rfl)) $$ Hr
    isplitl [Hd]; · iexact Hd
    iexact Hc
  iintro Hf
  iapply Hk
  unfold flyL
  iapply (Flight_mono countersEmb (c : Thread nD τ) (show iprop(((slotL ring (58 % 6) (m6 58)).view.loc (c : Thread nD τ) ↦[(slot ring (58 % 6) (m6 58)).view.set]{fullShare} ((slotL ring (58 % 6) (m6 58)).view.write (Elt F) fd ((rowsL w (512 * 58) hr).view.read (Elt F) fw) Finset.univ)) ∗ ((rowsL w (512 * 58) hr).view.loc (c : Thread nD τ) ↦[(rowsL w (512 * 58) hr).view.set]{fullShare} fw)) ⊢ _ from ?_)) $$ Hf
  unfold D owns
  iintro ⟨Hd, Hr⟩
  isplitl [Hd]
  · iexists _
    isplitr
    · ipureintro
      exact slotL_write w ring fw fd (58 % 6) (m6 58) (512 * 58) hr rfl hfd
    · iexact Hd
  · iapply (ent_eq (by rw [rowsL_set, hspan]; rfl)) $$ Hr

theorem wp_waitL {sl : ℕ} {hsl : sl < 6} {row : ℕ} {hr : row + 312 ≤ 30008} {hs hd} (e : sl = 58 % 6) {W : Waits sig Unit}
    {K : Prog (TpuEff nD τ sig (Elt F) Λ .tc) α} :
    iprop(flyL c w ring lsem fw ∗ owes (c : Thread nD τ) 0 W)
      ⊢ iprop((iprop(D c w ring fw 58 ∗ semVal ((c : Thread nD τ), SemLoc.dma lsem) 0 ∗ (∃ W, owes (c : Thread nD τ) 0 W)) -∗ wp frame (wpE defs 𝒱 (c : Thread nD τ) bd) Set.univ K Q)
        -∗ (wp frame (wpE defs 𝒱 (c : Thread nD τ) bd) Set.univ (waitL w ring lsem sl hsl row hr hs hd K) Q : sProp 𝕄)) := by
  subst e
  unfold waitL flyL
  iintro H Hk
  iapply (wp_waitLocal countersEmb 𝒱 (c : Thread nD τ) bd (dstw := slotL ring (58 % 6) (m6 58)) () rfl) $$ H
  iintro ⟨HD, Hc, HW⟩
  iapply Hk
  isplitl [HD]; · iexact HD
  isplitl [Hc]; · iexact Hc
  iexists _; iexact HW

end Ring

end Cert.Head

end
-- ==== Proof.StepWp.lean ====
/- The matrix units through a block: what the result buffers hold after each tile, and the rule of a block's 48 tiles
   with the four drains of the block before it between them. -/
module

public import proofs.«01_k».proof.Proof.RingWp

@[expose] public section

noncomputable section

namespace Cert.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx (ix2 ix3 eq_ix2 reshapeEquiv_ix2_1ab)

section State

variable {F : FTy → Type} [FloatOps F]

/-- A piece's sum as it stands: none before the first tile. -/
abbrev Pc (F : FTy → Type) : Type := Option (FVec F S64x256 .f32)

/-- A deposit into a piece. -/
def dep (o : Pc F) (v : FVec F S64x256 .f32) : Pc F :=
  some (match o with | none => v | some u => addf u v)

/-- The units' state: the registers hold `rg`; piece `p` of unit `q` is live exactly where `st` has a value, which it
    holds. -/
structure Inv (s : Mxu F) (rg : Fin 2 → Fin 2 → Option (Mxu.Staged F)) (st : Fin 2 → ℕ → Pc F) : Prop where
  reg : ∀ q r, s.reg q r = rg q r
  live : ∀ q R, s.live q R = (st q (R.val / 64)).isSome
  read : ∀ q p A (hA : A = 16 * p) (h : Mxu.Fits A 64) v, st q p = some v → s.read q A h = v

def accSt (st : Fin 2 → ℕ → Pc F) (q : Fin 2) (p : ℕ) (v : FVec F S64x256 .f32) : Fin 2 → ℕ → Pc F :=
  fun q' p' => if q' = q ∧ p' = p then dep (st q' p') v else st q' p'

def popSt (st : Fin 2 → ℕ → Pc F) (q : Fin 2) (p : ℕ) : Fin 2 → ℕ → Pc F :=
  fun q' p' => if q' = q ∧ p' = p then none else st q' p'

theorem inv_accBy {s : Mxu F} {rg} {st : Fin 2 → ℕ → Pc F} (H : Inv s rg st) (q : Fin 2) (t : Mxu.Staged F) {A p : ℕ} (hA : A = 16 * p)
    (lhs : FVec F S64x256 .bf16) (h : Mxu.Fits A 64) : Inv (s.accBy q t A lhs h) rg (accSt st q p (t.pass lhs)) := by
  subst hA
  refine ⟨H.reg, fun q' R => ?_, fun q' p' A' hA' h' v hv => ?_⟩
  · rw [Mxu.live_accBy, H.live]
    unfold accSt
    by_cases hc : q' = q ∧ R.val / 64 = p
    · rw [if_pos hc, if_pos ⟨hc.1, by omega, by omega⟩]; rfl
    · rw [if_neg hc, if_neg (fun hh => hc ⟨hh.1, by omega⟩)]
  · subst hA'
    unfold accSt at hv
    by_cases hc : q' = q ∧ p' = p
    · obtain ⟨rfl, rfl⟩ := hc
      rw [if_pos ⟨rfl, rfl⟩] at hv
      have hl : ∀ r : Fin 64, s.live q' (Mxu.row h r) = (st q' p').isSome := by
        intro r; rw [H.live]; congr 2; show (4 * (16 * p') + r.val) / 64 = p'; omega
      rcases hst : st q' p' with _ | u
      · rw [hst] at hv hl
        rw [Mxu.read_accBy_of_not_live s q' (16 * p') t lhs h hl]
        exact Option.some.inj hv
      · rw [hst] at hv hl
        rw [Mxu.read_accBy_of_live s q' (16 * p') t lhs h hl, H.read q' p' _ rfl h u hst]
        exact Option.some.inj hv
    · rw [if_neg hc] at hv
      rw [Mxu.read_accBy_ne s q (16 * p) t lhs h q' (16 * p') h' ?_]
      · exact H.read q' p' _ rfl h' v hv
      · by_cases hq : q' = q
        · have hp : p' ≠ p := fun e => hc ⟨hq, e⟩
          right; omega
        · exact Or.inl hq

theorem inv_accBy' {s : Mxu F} {rg} {st : Fin 2 → ℕ → Pc F} (H : Inv s rg st) (q : Fin 2) {t t₀ : Mxu.Staged F} (ht : t = t₀) {A p : ℕ} (hA : A = 16 * p)
    (lhs : FVec F S64x256 .bf16) (h : Mxu.Fits A 64) : Inv (s.accBy q t A lhs h) rg (accSt st q p (t₀.pass lhs)) := ht ▸ inv_accBy H q t hA lhs h

theorem inv_accLhs {s : Mxu F} {rg} {st : Fin 2 → ℕ → Pc F} (H : Inv s rg st) (q r : Fin 2) {t : Mxu.Staged F} (ht : rg q r = some t) {A p : ℕ}
    (hA : A = 16 * p) (lhs : FVec F S64x256 .bf16) (h : Mxu.Fits A 64) :
    Inv (s.accLhs q r A lhs h) (fun q' r' => if q' = q ∧ r' = r then none else rg q' r') (accSt st q p (t.pass lhs)) := by
  have hs : s.staged q r = t := by rw [Mxu.staged_eq, H.reg, ht]; rfl
  have H' := inv_accBy H q t hA lhs h
  refine ⟨fun q' r' => ?_, fun q' R => ?_, fun q' p' A' hA' h' v hv => ?_⟩
  · by_cases hc : q' = q ∧ r' = r
    · obtain ⟨rfl, rfl⟩ := hc
      rw [if_pos ⟨rfl, rfl⟩, Mxu.reg_accLhs]
    · rw [if_neg hc, Mxu.reg_accLhs_ne _ _ _ _ _ _ _ _ hc, H.reg]
  · exact H'.live q' R
  · rw [Mxu.read_accLhs_eq_accBy, hs]
    exact H'.read q' p' A' hA' h' v hv

theorem inv_pushed {s : Mxu F} {rg} {st : Fin 2 → ℕ → Pc F} (H : Inv s rg st) (q r : Fin 2) (hr : rg q r = none) (v : FVec F S256x256 .bf16) :
    Inv (s.pushed q r true v) (fun q' r' => if q' = q ∧ r' = r then some ⟨.bf16, true, v⟩ else rg q' r') st := by
  have hn : s.reg q r = none := (H.reg q r).trans hr
  refine ⟨fun q' r' => ?_, fun q' R => ?_, fun q' p' A' hA' h' v' hv => ?_⟩
  · by_cases hc : q' = q ∧ r' = r
    · obtain ⟨rfl, rfl⟩ := hc
      rw [if_pos ⟨rfl, rfl⟩]; exact Mxu.reg_pushed_of_none s q' r' true v hn
    · rw [if_neg hc, Mxu.reg_pushed_ne _ _ _ _ _ _ _ hc, H.reg]
  · rw [Mxu.live_pushed]; exact H.live q' R
  · rw [Mxu.read_pushed]; exact H.read q' p' A' hA' h' v' hv

theorem inv_pop {s : Mxu F} {rg} {st : Fin 2 → ℕ → Pc F} (H : Inv s rg st) (q : Fin 2) {A p : ℕ} (hA : A = 16 * p) (h : Mxu.Fits A 64) :
    Inv (s.pop q A 64 h) rg (popSt st q p) := by
  subst hA
  refine ⟨H.reg, fun q' R => ?_, fun q' p' A' hA' h' v hv => ?_⟩
  · rw [Mxu.live_pop, H.live]
    unfold popSt
    by_cases hc : q' = q ∧ R.val / 64 = p
    · rw [if_pos hc, if_pos ⟨hc.1, by omega, by omega⟩]; rfl
    · rw [if_neg hc, if_neg (fun hh => hc ⟨hh.1, by omega⟩)]
  · subst hA'
    unfold popSt at hv
    by_cases hc : q' = q ∧ p' = p
    · rw [if_pos hc] at hv; cases hv
    · rw [if_neg hc] at hv
      rw [Mxu.read_pop_ne s q (16 * p) h q' (16 * p') h' ?_]
      · exact H.read q' p' _ rfl h' v hv
      · by_cases hq : q' = q
        · have hp : p' ≠ p := fun e => hc ⟨hq, e⟩
          right; omega
        · exact Or.inl hq

/-- A piece's sum after `n` tiles. -/
def accU (P : ℕ → FVec F S64x256 .f32) : ℕ → Pc F
  | 0 => none
  | n + 1 => dep (accU P n) (P n)

/-- The same, of `n + 1` tiles. -/
def sumU (P : ℕ → FVec F S64x256 .f32) : ℕ → FVec F S64x256 .f32
  | 0 => P 0
  | n + 1 => addf (sumU P n) (P (n + 1))

theorem accU_succ (P : ℕ → FVec F S64x256 .f32) (n : ℕ) : accU P (n + 1) = some (sumU P n) := by
  induction n with
  | zero => rfl
  | succ n ih => show dep (accU P (n + 1)) (P (n + 1)) = _; rw [ih]; rfl

/-- No register loaded. -/
def rg0 : Fin 2 → Fin 2 → Option (Mxu.Staged F) := fun _ _ => none

/-- In a block of parity `par`: `n` tiles done, whose passes are `cur`, and `cl` pieces drained of the block before. -/
def stAt (par n cl : ℕ) (cur : ℕ → Fin 2 → ℕ → FVec F S64x256 .f32) (prev : Fin 2 → ℕ → Pc F) : Fin 2 → ℕ → Pc F := fun q p =>
  if p / 4 = par then accU (fun k => cur k q (p % 4)) n else if p < 8 ∧ cl ≤ p % 4 then prev q (p % 4) else none

/-- All four pieces of both units deposited into. -/
def stepSt (st : Fin 2 → ℕ → Pc F) (par : ℕ) (v : Fin 2 → ℕ → FVec F S64x256 .f32) : Fin 2 → ℕ → Pc F := fun q p =>
  if p / 4 = par then dep (st q p) (v q (p % 4)) else st q p

theorem stepSt_eq (st : Fin 2 → ℕ → Pc F) (par : ℕ) (v : Fin 2 → ℕ → FVec F S64x256 .f32) :
    accSt (accSt (accSt (accSt (accSt (accSt (accSt (accSt st 0 (4 * par + 0) (v 0 0)) 1 (4 * par + 0) (v 1 0)) 0 (4 * par + 1) (v 0 1)) 1 (4 * par + 1) (v 1 1))
      0 (4 * par + 2) (v 0 2)) 1 (4 * par + 2) (v 1 2)) 0 (4 * par + 3) (v 0 3)) 1 (4 * par + 3) (v 1 3) = stepSt st par v := by
  funext q p
  unfold stepSt accSt
  by_cases hp : p / 4 = par
  · have hc : p = 4 * par + 0 ∨ p = 4 * par + 1 ∨ p = 4 * par + 2 ∨ p = 4 * par + 3 := by omega
    have hq : q = 0 ∨ q = 1 := by have := q.isLt; rcases (by omega : q.val = 0 ∨ q.val = 1) with h | h
                                  · exact Or.inl (Fin.ext h)
                                  · exact Or.inr (Fin.ext h)
    have e0 : (4 * par) % 4 = 0 := by omega
    have e1 : (4 * par + 1) % 4 = 1 := by omega
    have e2 : (4 * par + 2) % 4 = 2 := by omega
    have e3 : (4 * par + 3) % 4 = 3 := by omega
    rw [if_pos hp]
    rcases hc with h | h | h | h <;> rcases hq with h' | h' <;> subst h <;> subst h' <;> simp [e0, e1, e2, e3]
  · rw [if_neg hp]
    have h0 : p ≠ 4 * par + 0 := by omega
    have h1 : p ≠ 4 * par + 1 := by omega
    have h2 : p ≠ 4 * par + 2 := by omega
    have h3 : p ≠ 4 * par + 3 := by omega
    simp only [h0, h1, h2, h3, and_false, if_false]

theorem stepSt_stAt (par n cl : ℕ) (cur : ℕ → Fin 2 → ℕ → FVec F S64x256 .f32) (prev : Fin 2 → ℕ → Pc F) :
    stepSt (stAt par n cl cur prev) par (cur n) = stAt par (n + 1) cl cur prev := by
  funext q p
  unfold stepSt stAt
  by_cases hp : p / 4 = par
  · rw [if_pos hp, if_pos hp, if_pos hp]; rfl
  · rw [if_neg hp, if_neg hp, if_neg hp]

theorem popSt_stAt (par n i : ℕ) (hp : par < 2) (hi : i < 4) (cur : ℕ → Fin 2 → ℕ → FVec F S64x256 .f32) (prev : Fin 2 → ℕ → Pc F) :
    popSt (popSt (stAt par n i cur prev) 0 (4 * (1 - par) + i)) 1 (4 * (1 - par) + i) = stAt par n (i + 1) cur prev := by
  funext q p
  have hq : q = 0 ∨ q = 1 := by have := q.isLt; rcases (by omega : q.val = 0 ∨ q.val = 1) with h | h
                                · exact Or.inl (Fin.ext h)
                                · exact Or.inr (Fin.ext h)
  unfold popSt stAt
  by_cases hp' : p = 4 * (1 - par) + i
  · have h1 : ¬ p / 4 = par := by omega
    have h2 : ¬ (p < 8 ∧ i + 1 ≤ p % 4) := by omega
    rw [if_neg h1, if_neg h1, if_neg h2]
    rcases hq with h | h <;> subst h <;> simp [hp']
  · rw [if_neg (fun h => hp' h.2), if_neg (fun h => hp' h.2)]
    by_cases h1 : p / 4 = par
    · rw [if_pos h1, if_pos h1]
    · rw [if_neg h1, if_neg h1]
      by_cases h2 : p < 8 ∧ i ≤ p % 4
      · rw [if_pos h2, if_pos (by omega)]
      · rw [if_neg h2, if_neg (by omega)]

theorem stAt_turn (par : ℕ) (hp : par < 2) (cur cur' : ℕ → Fin 2 → ℕ → FVec F S64x256 .f32) (prev : Fin 2 → ℕ → Pc F) :
    stAt par 48 4 cur prev = stAt (1 - par) 0 0 cur' (fun q i => accU (fun k => cur k q i) 48) := by
  funext q p
  unfold stAt
  by_cases h1 : p / 4 = par
  · rw [if_pos h1, if_neg (by omega), if_pos (by omega)]
  · rw [if_neg h1, if_neg (by omega)]
    by_cases h2 : p / 4 = 1 - par
    · rw [if_pos h2]; rfl
    · rw [if_neg h2, if_neg (by omega)]

theorem inv_init (cur : ℕ → Fin 2 → ℕ → FVec F S64x256 .f32) : Inv (Mxu.init : Mxu F) rg0 (stAt 1 0 0 cur (fun _ _ => none)) := by
  have e : stAt 1 0 0 cur (fun _ _ => none) = (fun _ _ => none : Fin 2 → ℕ → Pc F) := by
    funext q p; unfold stAt accU; simp
  rw [e]
  exact ⟨fun q r => Mxu.reg_init q r, fun q R => rfl, fun q p A hA h v hv => by cases hv⟩

theorem inv_cast {s : Mxu F} {rg rg'} {st st' : Fin 2 → ℕ → Pc F} (H : Inv s rg st) (e : rg = rg') (e' : st = st') : Inv s rg' st' := e ▸ e' ▸ H

/-! ## The passes -/

/-- Unit `q`'s half of tile `k` of a block. -/
def tileB {V : Type} (B : S512x12288.Idx → V) (q : Fin 2) (k : ℕ) : S1x256x256.Idx → V := fun i =>
  B (ix2 (⟨(256 * q.val + (i 1).val) % 512, Nat.mod_lt _ (by omega)⟩ : Fin 512) (⟨(256 * k + (i 2).val) % 12288, Nat.mod_lt _ (by omega)⟩ : Fin 12288))

/-- Piece `i` of tile `k` of `x`. -/
def xOf {V : Type} (X : S256x12288.Idx → V) (i k : ℕ) : S64x256.Idx → V := fun y =>
  X (ix2 (⟨(64 * i + (y 0).val) % 256, Nat.mod_lt _ (by omega)⟩ : Fin 256) (⟨(256 * k + (y 1).val) % 12288, Nat.mod_lt _ (by omega)⟩ : Fin 12288))

/-- The tile as staged, -/
def stg (B : S512x12288.Idx → Elt F .fp8e4m3) (q : Fin 2) (k : ℕ) : Mxu.Staged F := ⟨.bf16, true, tileV (tileB B q k)⟩

/-- and the pass of a piece of `x` by it. -/
def passOf (X : S256x12288.Idx → Elt F .fp8e4m3) (B : S512x12288.Idx → Elt F .fp8e4m3) (k : ℕ) (q : Fin 2) (i : ℕ) : FVec F S64x256 .f32 :=
  (stg B q k).pass (extf .bf16 (xOf X i k : FVec F S64x256 .fp8e4m3) bitsLt : FVec F S64x256 .bf16)

end State

variable {nD : ℕ} {τ : Topo} {sig : RefSig} {Λ : Labels} {F : FTy → Type} [FloatOps F]

local notation "𝕄" => MT nD τ sig Unit (Elt F) ℕ (UR sig nD τ × Counters) ℕ

variable {defs : Defs nD τ sig (Elt F) Λ} {𝒱 : Variants} {bd : Option 𝒱.V} {α : Type}
  {Q : α → sProp (MT nD τ sig Unit (Elt F) ℕ (UR sig nD τ × Counters) ℕ)}
  {c : Dev nD} {ring : Memref sig .tc .vmem S6x512x12288 .fp8e4m3} {xc : Memref sig .tc .vmem S256x12288 .fp8e4m3}

/-- A tile's load. -/
theorem wp_tile {sl : ℕ} {hsl : sl < 6} {q : Fin 2} {k : ℕ} {hk : k < 48} {B : S512x12288.Idx → Elt F .fp8e4m3} {hl}
    {K : Vec F S1x256x256 .fp8e4m3 → Prog (TpuEff nD τ sig (Elt F) Λ .tc) α} :
    owns (c : Thread nD τ) (slot ring sl hsl) fullShare B
      ⊢ iprop((owns (c : Thread nD τ) (slot ring sl hsl) fullShare B -∗ wp frame (wpE defs 𝒱 (c : Thread nD τ) bd) Set.univ (K (tileB B q k)) Q)
        -∗ (wp frame (wpE defs 𝒱 (c : Thread nD τ) bd) Set.univ (.op (.load ring (rTile sl hsl q k hk).toLoadRect hl) K) Q : sProp 𝕄)) := by
  have hq := q.isLt
  have hS : ring.view.setOn (rTile sl hsl q k hk).toLoadRect.set ⊆ (slot ring sl hsl).view.set := by
    intro j hj
    obtain ⟨y, hy, rfl⟩ := Finset.mem_map.mp hj
    have hy' : y ∈ (rTile sl hsl q k hk).set := by simpa using hy
    have h0 := (Rect.mem_set_unit.mp hy') 0
    have e : y = ix3 (⟨sl, hsl⟩ : Fin 6) (y 1) (y 2) := by
      funext a
      match a with
      | 0 => exact Fin.ext (by
          have h1 : sl ≤ (y 0).val := h0.1
          have h2 : (y 0).val < sl + 1 := h0.2
          show (y 0).val = sl; omega)
      | 1 => rfl
      | 2 => rfl
    refine Finset.mem_map.mpr ⟨ix2 (y 1) (y 2), Finset.mem_univ _, ?_⟩
    exact (slot_emb ring sl hsl (ix2 (y 1) (y 2))).trans (congrArg _ e.symm)
  unfold owns
  iintro ⟨%f, %hf, H⟩ Hk
  iapply (wp_load 𝒱 (c : Thread nD τ) bd Set.univ (m := ring) (r := (rTile sl hsl q k hk).toLoadRect) (S := (slot ring sl hsl).view.set) hS) $$ H
  iintro H
  have e : (ring.view.readAt (Elt F) (rTile sl hsl q k hk).toLoadRect f) = tileB B q k := by
    subst hf
    funext i
    have h1 : (i 1).val < 256 := (i 1).isLt
    have h2 : (i 2).val < 256 := (i 2).isLt
    have h0 : (i 0).val < 1 := (i 0).isLt
    unfold tileB
    refine Eq.trans ?_ (slot_read ring sl hsl f _).symm
    show ring.view.read (Elt F) f ((rTile sl hsl q k hk).emb i) = _
    congr 1
    funext a
    match a with
    | 0 => exact Fin.ext (by show sl + 1 * (i 0).val = sl; omega)
    | 1 => exact Fin.ext (by show 256 * q.val + 1 * (i 1).val = (256 * q.val + (i 1).val) % 512; rw [Nat.mod_eq_of_lt (by omega)]; omega)
    | 2 => exact Fin.ext (by show 256 * k + 1 * (i 2).val = (256 * k + (i 2).val) % 12288; rw [Nat.mod_eq_of_lt (by omega)]; omega)
  irw [e]
  iapply Hk
  iexists f
  isplitr; · ipureintro; exact hf
  iexact H

theorem xOf_eq {V : Type} (X : S256x12288.Idx → V) {i : ℕ} (hi : i < 4) {k : ℕ} (hk : k < 48) : (fun y => X ((rX i hi k hk).idx y)) = xOf X i k := by
  funext y
  have h0 : (y 0).val < 64 := (y 0).isLt
  have h1 : (y 1).val < 256 := (y 1).isLt
  unfold xOf
  congr 1
  funext a
  match a with
  | 0 => exact Fin.ext (by show 64 * i + 1 * (y 0).val = (64 * i + (y 0).val) % 256; rw [Nat.mod_eq_of_lt (by omega)]; omega)
  | 1 => exact Fin.ext (by show 256 * k + 1 * (y 1).val = (256 * k + (y 1).val) % 12288; rw [Nat.mod_eq_of_lt (by omega)]; omega)

variable {sl : ℕ} {hsl : sl < 6} {B : S512x12288.Idx → Elt F .fp8e4m3} {X : S256x12288.Idx → Elt F .fp8e4m3} {Fr : sProp (MT nD τ sig Unit (Elt F) ℕ (UR sig nD τ × Counters) ℕ)}

theorem wp_accK {par : ℕ} {hp : par < 2} {k : ℕ} {hk : k < 48} {i : ℕ} {hi : i < 4} {s : Mxu F} {st : Fin 2 → ℕ → Pc F} (H : Inv s rg0 st)
    (hg : ∀ q, s.gmr q = some (stg B q k)) {K : Mxu F → Prog (TpuEff nD τ sig (Elt F) Λ .tc) α}
    (hK : ∀ s', Inv s' rg0 (accSt (accSt st 0 (4 * par + i) (passOf X B k 0 i)) 1 (4 * par + i) (passOf X B k 1 i)) → (∀ q, s'.gmr q = some (stg B q k)) →
      iprop(owns (c : Thread nD τ) xc fullShare X ∗ Fr) ⊢ wp frame (wpE defs 𝒱 (c : Thread nD τ) bd) Set.univ (K s') Q) :
    iprop(owns (c : Thread nD τ) xc fullShare X ∗ Fr) ⊢ (wp frame (wpE defs 𝒱 (c : Thread nD τ) bd) Set.univ (accK xc par hp k hk i hi s K) Q : sProp 𝕄) := by
  have ga : (s.gmr 0).isSome = true := by rw [hg]; rfl
  have e0 : ∀ h, (s.gmr 0).get h = stg B 0 k := fun h => by simp [hg]
  have gb : ∀ t lhs h, ((s.accBy 0 t (64 * par + 16 * i) (lhs : FVec F S64x256 .bf16) h).gmr 1).isSome = true := fun t lhs h => by
    rw [Mxu.gmr_accBy, hg]; rfl
  have e1 : ∀ t lhs h h', ((s.accBy 0 t (64 * par + 16 * i) (lhs : FVec F S64x256 .bf16) h).gmr 1).get h' = stg B 1 k := fun t lhs h h' => by simp [hg]
  unfold accK
  iintro ⟨HX, HF⟩
  iapply wp_loadO $$ HX
  iintro HX
  irw [xOf_eq X hi hk]
  iapply (wp_assume 𝒱 (c : Thread nD τ) bd Set.univ ga)
  iapply (wp_assume 𝒱 (c : Thread nD τ) bd Set.univ (gb _ _ _))
  iapply (hK _ (inv_accBy' (inv_accBy' H 0 (e0 _) (by omega : 64 * par + 16 * i = 16 * (4 * par + i)) _ (fitsA hp hi)) 1 (e1 _ _ _ _)
    (by omega : 64 * par + 16 * i = 16 * (4 * par + i)) _ (fitsA hp hi)) (fun q => hg q))
  isplitl [HX]; · iexact HX
  iexact HF

theorem wp_stepK {par : ℕ} {hp : par < 2} {k : ℕ} {hk : k < 48} {s : Mxu F} {st : Fin 2 → ℕ → Pc F} (H : Inv s rg0 st)
    {K : Mxu F → Prog (TpuEff nD τ sig (Elt F) Λ .tc) α}
    (hK : ∀ s', Inv s' rg0 (stepSt st par (passOf X B k)) →
      iprop(owns (c : Thread nD τ) xc fullShare X ∗ owns (c : Thread nD τ) (slot ring sl hsl) fullShare B ∗ Fr) ⊢ wp frame (wpE defs 𝒱 (c : Thread nD τ) bd) Set.univ (K s') Q) :
    iprop(owns (c : Thread nD τ) xc fullShare X ∗ owns (c : Thread nD τ) (slot ring sl hsl) fullShare B ∗ Fr)
      ⊢ (wp frame (wpE defs 𝒱 (c : Thread nD τ) bd) Set.univ (stepK ring xc sl hsl par hp k hk s K) Q : sProp 𝕄) := by
  have hx0 : ∀ (s1 : Mxu F), Inv s1 (fun q r => if r = kr k then some (stg B q k) else none) st →
      iprop(owns (c : Thread nD τ) xc fullShare X ∗ owns (c : Thread nD τ) (slot ring sl hsl) fullShare B ∗ Fr)
      ⊢ (wp frame (wpE defs 𝒱 (c : Thread nD τ) bd) Set.univ (acc0K xc par hp k hk s1 fun s => accK xc par hp k hk 1 (by omega) s fun s =>
          accK xc par hp k hk 2 (by omega) s fun s => accK xc par hp k hk 3 (by omega) s K) Q : sProp 𝕄) := by
    intro s1 H1
    unfold acc0K
    iintro ⟨HX, HF⟩
    iapply wp_loadO $$ HX
    iintro HX
    irw [xOf_eq X (by omega) hk]
    have h0 := inv_accLhs H1 0 (kr k) (t := stg B 0 k) (by rw [if_pos rfl]) (by omega : 64 * par + 16 * 0 = 16 * (4 * par + 0))
      (extf .bf16 (xOf X 0 k : FVec F S64x256 .fp8e4m3) bitsLt : FVec F S64x256 .bf16) (fitsA hp (by omega))
    have h1 := inv_accLhs h0 1 (kr k) (t := stg B 1 k) (by rw [if_neg (fun h => absurd h.1 (by decide)), if_pos rfl]) (by omega : 64 * par + 16 * 0 = 16 * (4 * par + 0))
      (extf .bf16 (xOf X 0 k : FVec F S64x256 .fp8e4m3) bitsLt : FVec F S64x256 .bf16) (fitsA hp (by omega))
    have h2 := inv_cast h1 (rg' := rg0) (by
      funext q r
      unfold rg0
      have hq : q = 0 ∨ q = 1 := by have := q.isLt; rcases (by omega : q.val = 0 ∨ q.val = 1) with h | h
                                    · exact Or.inl (Fin.ext h)
                                    · exact Or.inr (Fin.ext h)
      by_cases hr : r = kr k
      · rcases hq with h | h <;> subst h <;> simp [hr]
      · simp [hr]) rfl
    iapply (wp_accK (par := par) (hp := hp) (hk := hk) (i := 1) h2 (B := B) (X := X)
      (Fr := iprop(owns (c : Thread nD τ) (slot ring sl hsl) fullShare B ∗ Fr)) ?hg ?hc) $$ [HX HF]
    case hg =>
      intro q
      rcases (by omega : q.val = 0 ∨ q.val = 1) with h | h
      · have : q = 0 := Fin.ext h
        subst this
        rw [Mxu.gmr_accLhs_ne _ _ _ _ _ _ _ (by decide), Mxu.gmr_accLhs]
        rw [Mxu.staged_eq, H1.reg, if_pos rfl]; rfl
      · have : q = 1 := Fin.ext h
        subst this
        rw [Mxu.gmr_accLhs, Mxu.staged_eq, Mxu.reg_accLhs_ne _ _ _ _ _ _ _ _ (by simp), H1.reg, if_pos rfl]; rfl
    case hc =>
      intro s' H' hg'
      exact wp_accK H' hg' fun s' H' hg' => wp_accK H' hg' fun s' H' hg' => hK s' (inv_cast H' rfl (stepSt_eq st par (passOf X B k)))
    isplitl [HX]; · iexact HX
    iexact HF
  unfold stepK pushK
  iintro ⟨HX, HB, HF⟩
  iapply wp_tile $$ HB
  iintro HB
  iapply (wp_assume 𝒱 (c : Thread nD τ) bd Set.univ (Mxu.pushOk_of_none s 0 (kr k) true (H.reg _ _)))
  have p0 := inv_pushed H 0 (kr k) rfl (tileV (tileB B 0 k))
  iapply wp_tile $$ HB
  iintro HB
  iapply (wp_assume 𝒱 (c : Thread nD τ) bd Set.univ (Mxu.pushOk_of_none _ 1 (kr k) true ((p0.reg _ _).trans (by simp [rg0]))))
  have p1 := inv_pushed p0 1 (kr k) (by simp [rg0]) (tileV (tileB B 1 k))
  iapply (hx0 _ (inv_cast p1 (by
      funext q r
      unfold rg0
      have hq : q = 0 ∨ q = 1 := by have := q.isLt; rcases (by omega : q.val = 0 ∨ q.val = 1) with h | h
                                    · exact Or.inl (Fin.ext h)
                                    · exact Or.inr (Fin.ext h)
      by_cases hr : r = kr k
      · rcases hq with h | h <;> subst h <;> simp [hr] <;> rfl
      · simp [hr]) rfl))
  isplitl [HX]; · iexact HX
  isplitl [HB]; · iexact HB
  iexact HF

theorem wp_stepsK {par : ℕ} {hp : par < 2} {cl : ℕ} {prev : Fin 2 → ℕ → Pc F} {K : Mxu F → Prog (TpuEff nD τ sig (Elt F) Λ .tc) α} (n : ℕ) :
    ∀ {k : ℕ} {h : k + n ≤ 48} {s : Mxu F} (H : Inv s rg0 (stAt par k cl (passOf X B) prev))
    (hK : ∀ s', Inv s' rg0 (stAt par (k + n) cl (passOf X B) prev) →
      iprop(owns (c : Thread nD τ) xc fullShare X ∗ owns (c : Thread nD τ) (slot ring sl hsl) fullShare B ∗ Fr) ⊢ wp frame (wpE defs 𝒱 (c : Thread nD τ) bd) Set.univ (K s') Q),
    iprop(owns (c : Thread nD τ) xc fullShare X ∗ owns (c : Thread nD τ) (slot ring sl hsl) fullShare B ∗ Fr)
      ⊢ (wp frame (wpE defs 𝒱 (c : Thread nD τ) bd) Set.univ (stepsK ring xc sl hsl par hp n k h s K) Q : sProp 𝕄) := by
  induction n with
  | zero => intro k h s H hK; exact hK s H
  | succ n ih =>
    intro k h s H hK
    refine wp_stepK H fun s' H' => ?_
    refine ih (inv_cast H' rfl (stepSt_stAt par k cl (passOf X B) prev)) fun s'' H'' => hK s'' (inv_cast H'' rfl ?_)
    rw [Nat.add_right_comm, Nat.add_assoc]

/-- A block: its tiles' passes are summed, while drain `i` takes what it needs of `R i` to `R (i + 1)` and empties piece
    `i` of the block before. -/
theorem wp_blockK {par : ℕ} {hp : par < 2} {prev : Fin 2 → ℕ → Pc F} {R : ℕ → sProp (MT nD τ sig Unit (Elt F) ℕ (UR sig nD τ × Counters) ℕ)}
    {D : (i : ℕ) → i < 4 → Mxu F → (Mxu F → Prog (TpuEff nD τ sig (Elt F) Λ .tc) α) → Prog (TpuEff nD τ sig (Elt F) Λ .tc) α}
    {K : Mxu F → Prog (TpuEff nD τ sig (Elt F) Λ .tc) α} {s : Mxu F} (H : Inv s rg0 (stAt par 0 0 (passOf X B) prev))
    (hD : ∀ (i n : ℕ) (hi : i < 4) (s : Mxu F) (K : Mxu F → Prog (TpuEff nD τ sig (Elt F) Λ .tc) α) (G : sProp 𝕄),
      Inv s rg0 (stAt par n i (passOf X B) prev) →
      (∀ s', Inv s' rg0 (stAt par n (i + 1) (passOf X B) prev) → iprop(R (i + 1) ∗ G) ⊢ wp frame (wpE defs 𝒱 (c : Thread nD τ) bd) Set.univ (K s') Q) →
      iprop(R i ∗ G) ⊢ (wp frame (wpE defs 𝒱 (c : Thread nD τ) bd) Set.univ (D i hi s K) Q : sProp 𝕄))
    (hK : ∀ s', Inv s' rg0 (stAt par 48 4 (passOf X B) prev) →
      iprop(owns (c : Thread nD τ) xc fullShare X ∗ owns (c : Thread nD τ) (slot ring sl hsl) fullShare B ∗ R 4 ∗ Fr) ⊢ wp frame (wpE defs 𝒱 (c : Thread nD τ) bd) Set.univ (K s') Q) :
    iprop(owns (c : Thread nD τ) xc fullShare X ∗ owns (c : Thread nD τ) (slot ring sl hsl) fullShare B ∗ R 0 ∗ Fr)
      ⊢ (wp frame (wpE defs 𝒱 (c : Thread nD τ) bd) Set.univ (blockK ring xc sl hsl par hp D s K) Q : sProp 𝕄) := by
  have sh : ∀ (P1 P2 P3 P4 : sProp 𝕄), iprop(P1 ∗ P2 ∗ P3 ∗ P4) ⊢ iprop(P3 ∗ (P1 ∗ P2 ∗ P4)) := by
    intro P1 P2 P3 P4
    iintro ⟨H1, H2, H3, H4⟩
    isplitl [H3]; · iexact H3
    isplitl [H1]; · iexact H1
    isplitl [H2]; · iexact H2
    iexact H4
  have hs : ∀ (P1 P2 P3 P4 : sProp 𝕄), iprop(P3 ∗ (P1 ∗ P2 ∗ P4)) ⊢ iprop(P1 ∗ P2 ∗ P3 ∗ P4) := by
    intro P1 P2 P3 P4
    iintro ⟨H3, H1, H2, H4⟩
    isplitl [H1]; · iexact H1
    isplitl [H2]; · iexact H2
    isplitl [H3]; · iexact H3
    iexact H4
  unfold blockK
  refine wp_stepsK (Fr := iprop(R 0 ∗ Fr)) 6 H fun s1 H1 => ?_
  refine (sh _ _ _ _).trans (hD 0 _ _ _ _ _ H1 fun s1 H1 => (hs _ _ _ _).trans ?_)
  refine wp_stepsK (Fr := iprop(R 1 ∗ Fr)) 8 H1 fun s1 H1 => ?_
  refine (sh _ _ _ _).trans (hD 1 _ _ _ _ _ H1 fun s1 H1 => (hs _ _ _ _).trans ?_)
  refine wp_stepsK (Fr := iprop(R 2 ∗ Fr)) 8 H1 fun s1 H1 => ?_
  refine (sh _ _ _ _).trans (hD 2 _ _ _ _ _ H1 fun s1 H1 => (hs _ _ _ _).trans ?_)
  refine wp_stepsK (Fr := iprop(R 3 ∗ Fr)) 8 H1 fun s1 H1 => ?_
  refine (sh _ _ _ _).trans (hD 3 _ _ _ _ _ H1 fun s1 H1 => (hs _ _ _ _).trans ?_)
  exact wp_stepsK (Fr := iprop(R 4 ∗ Fr)) 18 H1 fun s1 H1 => hK s1 H1

end Cert.Head

end
-- ==== Proof.DrainWp.lean ====
/- The update by a block's logits: what it leaves in the running maximum, sum and target's logit, as functions of what
   they held. -/
module

public import proofs.«01_k».proof.Proof.StepWp
public import Idealize.ShloMosaic.Lib.Pointwise.Reshape

@[expose] public section

noncomputable section

namespace Cert.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

abbrev jx1 {n : ℕ} (a : Fin n) : (⟨1, ![n]⟩ : Shape).Idx := ValueIdx.ix1 a
abbrev jx2 {n k : ℕ} (a : Fin n) (b : Fin k) : (⟨2, ![n, k]⟩ : Shape).Idx := ValueIdx.ix2 a b

/-! ## Pieces and halves of per-token buffers -/

/-- Piece `i`, -/
def pc {V : Type} (X : S256x128.Idx → V) (i : ℕ) : S64x128.Idx → V := fun y =>
  X (jx2 (⟨(64 * i + (y 0).val) % 256, Nat.mod_lt _ (by omega)⟩ : Fin 256) (y 1))

/-- and `X` with piece `i` replaced. -/
def put {V : Type} (X : S256x128.Idx → V) (i : ℕ) (v : S64x128.Idx → V) : S256x128.Idx → V := fun y =>
  if (y 0).val / 64 = i then v (jx2 (⟨(y 0).val % 64, Nat.mod_lt _ (by omega)⟩ : Fin 64) (y 1)) else X y

theorem pc_eq {V : Type} (X : S256x128.Idx → V) {i : ℕ} (hi : i < 4) : (fun y => X ((rP i hi).toLoadRect.idx y)) = pc X i := by
  funext y
  have h0 : (y 0).val < 64 := (y 0).isLt
  unfold pc
  congr 1
  funext a
  match a with
  | 0 => exact Fin.ext (by show 64 * i + 1 * (y 0).val = (64 * i + (y 0).val) % 256; rw [Nat.mod_eq_of_lt (by omega)]; omega)
  | 1 => exact Fin.ext (by show 0 + 1 * (y 1).val = (y 1).val; omega)

theorem put_eq {V : Type} (X : S256x128.Idx → V) {i : ℕ} (hi : i < 4) (v : S64x128.Idx → V) : upd (rP i hi) X v = put X i v := by
  funext y
  have h0 : (y 0).val < 256 := (y 0).isLt
  unfold put
  by_cases h : (y 0).val / 64 = i
  · rw [if_pos h]
    have e : y = (rP i hi).emb (jx2 (⟨(y 0).val % 64, Nat.mod_lt _ (by omega)⟩ : Fin 64) (y 1)) := by
      funext a
      match a with
      | 0 => exact Fin.ext (by show (y 0).val = 64 * i + 1 * ((y 0).val % 64); omega)
      | 1 => exact Fin.ext (by show (y 1).val = 0 + 1 * (y 1).val; omega)
    conv_lhs => rw [e]
    exact upd_emb _ _ _ _
  · rw [if_neg h]
    refine upd_ne _ _ _ _ fun j hj => h ?_
    have hj0 : (j 0).val < 64 := (j 0).isLt
    have e := congrArg (fun z : S256x128.Idx => (z 0).val) hj
    have e' : 64 * i + 1 * (j 0).val = (y 0).val := e
    omega

/-- 128 scales from column `n`. -/
def wsOf {V : Type} (Wc : S30003.Idx → V) (n : ℕ) : S128.Idx → V := fun y => Wc (jx1 (⟨(n + (y 0).val) % 30003, Nat.mod_lt _ (by omega)⟩ : Fin 30003))
/-- The last 51. -/
def wsOf51 {V : Type} (Wc : S30003.Idx → V) : S51.Idx → V := fun y => Wc (jx1 (⟨(29952 + (y 0).val) % 30003, Nat.mod_lt _ (by omega)⟩ : Fin 30003))

theorem wsOf_eq {V : Type} (Wc : S30003.Idx → V) {n : ℕ} (hn : n + 128 ≤ 30003) : (fun y => Wc ((rW n hn).toLoadRect.idx y)) = wsOf Wc n := by
  funext y
  have h0 : (y 0).val < 128 := (y 0).isLt
  unfold wsOf
  congr 1
  funext a
  match a with
  | 0 => exact Fin.ext (by show n + 1 * (y 0).val = (n + (y 0).val) % 30003; rw [Nat.mod_eq_of_lt (by omega)]; omega)

theorem wsOf51_eq {V : Type} (Wc : S30003.Idx → V) : (fun y => Wc (rW51.toLoadRect.idx y)) = wsOf51 Wc := by
  funext y
  have h0 : (y 0).val < 51 := (y 0).isLt
  unfold wsOf51
  congr 1
  funext a
  match a with
  | 0 => exact Fin.ext (by show 29952 + 1 * (y 0).val = (29952 + (y 0).val) % 30003; rw [Nat.mod_eq_of_lt (by omega)]; omega)

section Values

variable {F : FTy → Type} [FloatOps F]

/-- What runs: maximum, sum, target's logit. -/
structure St (F : FTy → Type) where
  m : S256x128.Idx → F .f32
  s : S256x128.Idx → F .f32
  t : S256x128.Idx → F .f32

/-- The update of piece `i` by the logits `ls`. -/
def updS (TG : S256x128.Idx → BitVec 32) (ls : List (BitVec 32 × FVec F S64x128 .f32)) (i : ℕ) (σ : St F) : St F :=
  ⟨put σ.m i (newM ls (pc σ.m i)), put σ.s i (newS ls (pc σ.m i) (newM ls (pc σ.m i)) (pc σ.s i)), put σ.t i (newT (pc TG i) ls (pc σ.t i))⟩

/-- A middle block's logits, of the columns from the word `cb`. -/
def ls4 (r : FVec F S64x128 .f32) (Wc : S30003.Idx → F .f32) (cb : BitVec 32) (V : Fin 2 → FVec F S64x256 .f32) : List (BitVec 32 × FVec F S64x128 .f32) :=
  [(wcol cb 0, logit (lo (V 0)) r (wsOf Wc (wcol cb 0).toNat)), (wcol cb 1, logit (hi (V 0)) r (wsOf Wc (wcol cb 1).toNat)),
   (wcol cb 2, logit (lo (V 1)) r (wsOf Wc (wcol cb 2).toNat)), (wcol cb 3, logit (hi (V 1)) r (wsOf Wc (wcol cb 3).toNat))]

/-- The last block's. -/
def ls3 (r : FVec F S64x128 .f32) (Wc : S30003.Idx → F .f32) (V : Fin 2 → FVec F S64x256 .f32) : List (BitVec 32 × FVec F S64x128 .f32) :=
  [(29696#32, logit (lo (V 0)) r (wsOf Wc 29696)), (29824#32, logit (hi (V 0)) r (wsOf Wc 29824)),
   (29952#32, mask51 (logit (lo (V 1)) r (pad51 (wsOf51 Wc))))]

end Values

variable {nD : ℕ} {τ : Topo} {sig : RefSig} {Λ : Labels} {F : FTy → Type} [FloatOps F]

local notation "𝕄" => MT nD τ sig Unit (Elt F) ℕ (UR sig nD τ × Counters) ℕ

variable {defs : Defs nD τ sig (Elt F) Λ} {𝒱 : Variants} {bd : Option 𝒱.V} {α : Type}
  {Q : α → sProp (MT nD τ sig Unit (Elt F) ℕ (UR sig nD τ × Counters) ℕ)} {G : sProp (MT nD τ sig Unit (Elt F) ℕ (UR sig nD τ × Counters) ℕ)}
  {c : Dev nD} {ws : Memref sig .tc .vmem S30003 .f32} {tg : Memref sig .tc .vmem S256x128 .i32}
  {rs mm ss tt : Memref sig .tc .vmem S256x128 .f32}

/-- The running buffers. -/
def PT (c : Dev nD) (mm ss tt : Memref sig .tc .vmem S256x128 .f32) (σ : St F) : sProp (MT nD τ sig Unit (Elt F) ℕ (UR sig nD τ × Counters) ℕ) :=
  iprop(owns (c : Thread nD τ) mm fullShare σ.m ∗ owns (c : Thread nD τ) ss fullShare σ.s ∗ owns (c : Thread nD τ) tt fullShare σ.t)

/-- The buffers an update only reads. -/
def CT (c : Dev nD) (ws : Memref sig .tc .vmem S30003 .f32) (tg : Memref sig .tc .vmem S256x128 .i32) (rs : Memref sig .tc .vmem S256x128 .f32)
    (WC : S30003.Idx → F .f32) (TG : S256x128.Idx → BitVec 32) (RS : S256x128.Idx → F .f32) : sProp (MT nD τ sig Unit (Elt F) ℕ (UR sig nD τ × Counters) ℕ) :=
  iprop(owns (c : Thread nD τ) ws fullShare WC ∗ owns (c : Thread nD τ) tg fullShare TG ∗ owns (c : Thread nD τ) rs fullShare RS)

/-- A piece's store. -/
theorem wp_storeP {b : Memref sig .tc .vmem S256x128 .f32} {i : ℕ} {hi : i < 4} {v : FVec F S64x128 .f32} {X : S256x128.Idx → F .f32}
    {K : Prog (TpuEff nD τ sig (Elt F) Λ .tc) α} :
    owns (c : Thread nD τ) b fullShare X
      ⊢ iprop((owns (c : Thread nD τ) b fullShare (put X i v) -∗ wp frame (wpE defs 𝒱 (c : Thread nD τ) bd) Set.univ K Q)
        -∗ (wp frame (wpE defs 𝒱 (c : Thread nD τ) bd) Set.univ (storeP b i hi v K) Q : sProp 𝕄)) := by
  unfold storeP
  rw [shapeCast_id]
  iintro H Hk
  iapply wp_loadO $$ H
  iintro H
  iapply wp_storeO $$ H
  rw [put_eq]
  iintro H
  iapply Hk $$ H

theorem wp_updK {i : ℕ} {hi : i < 4} {TG : S256x128.Idx → BitVec 32} {σ : St F} {ls : List (BitVec 32 × FVec F S64x128 .f32)}
    {K : Prog (TpuEff nD τ sig (Elt F) Λ .tc) α} :
    PT c mm ss tt σ
      ⊢ iprop((PT c mm ss tt (updS TG ls i σ) -∗ wp frame (wpE defs 𝒱 (c : Thread nD τ) bd) Set.univ K Q)
        -∗ (wp frame (wpE defs 𝒱 (c : Thread nD τ) bd) Set.univ (updK mm ss tt i hi (pc TG i) (pc σ.t i) (pc σ.m i) ls K) Q : sProp 𝕄)) := by
  unfold updK PT
  iintro ⟨Hm, Hs, Ht⟩ Hk
  iapply wp_loadO $$ Hs
  iintro Hs
  irw [pc_eq σ.s hi]
  iapply wp_storeP $$ Hm
  iintro Hm
  iapply wp_storeP $$ Hs
  iintro Hs
  iapply wp_storeP $$ Ht
  iintro Ht
  iapply Hk
  isplitl [Hm]; · iexact Hm
  isplitl [Hs]; · iexact Hs
  iexact Ht

variable {WC : S30003.Idx → F .f32} {TG : S256x128.Idx → BitVec 32} {RS : S256x128.Idx → F .f32} {σ : St F}

theorem wp_drainK {cb : BitVec 32} {hcb} {par : ℕ} {hp : par < 2} {i : ℕ} {hi : i < 4} {s : Mxu F} {rg} {st : Fin 2 → ℕ → Pc F}
    {V : Fin 2 → FVec F S64x256 .f32} (H : Inv s rg st) (hV : ∀ q, st q (4 * par + i) = some (V q))
    {K : Mxu F → Prog (TpuEff nD τ sig (Elt F) Λ .tc) α}
    (hK : ∀ s', Inv s' rg (popSt (popSt st 0 (4 * par + i)) 1 (4 * par + i)) →
      iprop((CT c ws tg rs WC TG RS ∗ PT c mm ss tt (updS TG (ls4 (pc RS i) WC cb V) i σ)) ∗ G) ⊢ wp frame (wpE defs 𝒱 (c : Thread nD τ) bd) Set.univ (K s') Q) :
    iprop((CT c ws tg rs WC TG RS ∗ PT c mm ss tt σ) ∗ G)
      ⊢ (wp frame (wpE defs 𝒱 (c : Thread nD τ) bd) Set.univ (drainK ws tg rs mm ss tt cb hcb par hp i hi s K) Q : sProp 𝕄) := by
  have eA : 64 * par + 16 * i = 16 * (4 * par + i) := by omega
  have e0 : s.read 0 (64 * par + 16 * i) (fitsA hp hi) = V 0 := H.read 0 _ _ eA _ _ (hV 0)
  have e1 : (s.pop 0 (64 * par + 16 * i) 64 (fitsA hp hi)).read 1 (64 * par + 16 * i) (fitsA hp hi) = V 1 := by
    rw [Mxu.read_pop_ne _ _ _ _ _ _ _ (Or.inl (by decide))]; exact H.read 1 _ _ eA _ _ (hV 1)
  have hI := inv_pop (inv_pop H 0 eA (fitsA hp hi)) 1 eA (fitsA hp hi)
  unfold drainK
  rw [e0, e1]
  unfold CT PT
  iintro ⟨⟨⟨Hw, Hg, Hr⟩, ⟨Hm, Hs, Ht⟩⟩, HG⟩
  iapply wp_loadO $$ Hr
  iintro Hr
  iapply wp_loadO $$ Hg
  iintro Hg
  iapply wp_loadO $$ Ht
  iintro Ht
  iapply wp_loadO $$ Hm
  iintro Hm
  iapply wp_loadO $$ Hw
  iintro Hw
  iapply wp_loadO $$ Hw
  iintro Hw
  iapply wp_loadO $$ Hw
  iintro Hw
  iapply wp_loadO $$ Hw
  iintro Hw
  irw [pc_eq RS hi, pc_eq TG hi, pc_eq σ.t hi, pc_eq σ.m hi, wsOf_eq WC, wsOf_eq WC, wsOf_eq WC, wsOf_eq WC]
  iapply (wp_updK (TG := TG) (σ := σ)) $$ [Hm Hs Ht]
  · unfold PT
    isplitl [Hm]; · iexact Hm
    isplitl [Hs]; · iexact Hs
    iexact Ht
  iintro HP
  iapply (hK _ hI)
  unfold CT
  isplitr [HG]
  · isplitr [HP]
    · isplitl [Hw]; · iexact Hw
      isplitl [Hg]; · iexact Hg
      iexact Hr
    · iexact HP
  · iexact HG

theorem wp_lastK {i : ℕ} {hi : i < 4} {s : Mxu F} {rg} {st : Fin 2 → ℕ → Pc F}
    {V : Fin 2 → FVec F S64x256 .f32} (H : Inv s rg st) (hV : ∀ q, st q (4 * 1 + i) = some (V q))
    {K : Mxu F → Prog (TpuEff nD τ sig (Elt F) Λ .tc) α}
    (hK : ∀ s', Inv s' rg (popSt (popSt st 0 (4 * 1 + i)) 1 (4 * 1 + i)) →
      iprop((CT c ws tg rs WC TG RS ∗ PT c mm ss tt (updS TG (ls3 (pc RS i) WC V) i σ)) ∗ G) ⊢ wp frame (wpE defs 𝒱 (c : Thread nD τ) bd) Set.univ (K s') Q) :
    iprop((CT c ws tg rs WC TG RS ∗ PT c mm ss tt σ) ∗ G)
      ⊢ (wp frame (wpE defs 𝒱 (c : Thread nD τ) bd) Set.univ (lastK ws tg rs mm ss tt i hi s K) Q : sProp 𝕄) := by
  have hp : 1 < 2 := by omega
  have eA : 64 * 1 + 16 * i = 16 * (4 * 1 + i) := by omega
  have e0 : s.read 0 (64 * 1 + 16 * i) (fitsA hp hi) = V 0 := H.read 0 _ _ eA _ _ (hV 0)
  have e1 : (s.pop 0 (64 * 1 + 16 * i) 64 (fitsA hp hi)).read 1 (64 * 1 + 16 * i) (fitsA hp hi) = V 1 := by
    rw [Mxu.read_pop_ne _ _ _ _ _ _ _ (Or.inl (by decide))]; exact H.read 1 _ _ eA _ _ (hV 1)
  have hI := inv_pop (inv_pop H 0 eA (fitsA hp hi)) 1 eA (fitsA hp hi)
  unfold lastK
  rw [e0, e1]
  unfold CT PT
  iintro ⟨⟨⟨Hw, Hg, Hr⟩, ⟨Hm, Hs, Ht⟩⟩, HG⟩
  iapply wp_loadO $$ Hr
  iintro Hr
  iapply wp_loadO $$ Hg
  iintro Hg
  iapply wp_loadO $$ Ht
  iintro Ht
  iapply wp_loadO $$ Hm
  iintro Hm
  iapply wp_loadO $$ Hw
  iintro Hw
  iapply wp_loadO $$ Hw
  iintro Hw
  iapply wp_loadO $$ Hw
  iintro Hw
  irw [pc_eq RS hi, pc_eq TG hi, pc_eq σ.t hi, pc_eq σ.m hi, wsOf_eq WC, wsOf_eq WC, wsOf51_eq WC]
  iapply (wp_updK (TG := TG) (σ := σ)) $$ [Hm Hs Ht]
  · unfold PT
    isplitl [Hm]; · iexact Hm
    isplitl [Hs]; · iexact Hs
    iexact Ht
  iintro HP
  iapply (hK _ hI)
  unfold CT
  isplitr [HG]
  · isplitr [HP]
    · isplitl [Hw]; · iexact Hw
      isplitl [Hg]; · iexact Hg
      iexact Hr
    · iexact HP
  · iexact HG

/-! ## A whole block, drained -/

/-- What a block's drains leave after `i` pieces. -/
def drS (TG : S256x128.Idx → BitVec 32) (RS : S256x128.Idx → F .f32) (WC : S30003.Idx → F .f32) (cb : BitVec 32) (V : Fin 2 → ℕ → FVec F S64x256 .f32) (σ : St F) : ℕ → St F
  | 0 => σ
  | i + 1 => updS TG (ls4 (pc RS i) WC cb (fun q => V q i)) i (drS TG RS WC cb V σ i)

/-- The same of the last block. -/
def drL (TG : S256x128.Idx → BitVec 32) (RS : S256x128.Idx → F .f32) (WC : S30003.Idx → F .f32) (V : Fin 2 → ℕ → FVec F S64x256 .f32) (σ : St F) : ℕ → St F
  | 0 => σ
  | i + 1 => updS TG (ls3 (pc RS i) WC (fun q => V q i)) i (drL TG RS WC V σ i)

/-- A block's products, as the units hold them at its end. -/
def prodOf (X : S256x12288.Idx → Elt F .fp8e4m3) (B : S512x12288.Idx → Elt F .fp8e4m3) (q : Fin 2) (i : ℕ) : FVec F S64x256 .f32 :=
  sumU (fun k => passOf X B k q i) 47

/-- A block run through the units while the one before it is drained. -/
theorem wp_block {ring : Memref sig .tc .vmem S6x512x12288 .fp8e4m3} {xc : Memref sig .tc .vmem S256x12288 .fp8e4m3}
    {sl : ℕ} {hsl : sl < 6} {B B' : S512x12288.Idx → Elt F .fp8e4m3} {X : S256x12288.Idx → Elt F .fp8e4m3}
    {cb cb' : BitVec 32} {hcb} {par par' : ℕ} {hp : par < 2} {hp' : par' < 2} (hpp : par' = 1 - par) (hcc : cb' = cb) {s : Mxu F}
    (H : Inv s rg0 (stAt par 0 0 (passOf X B) (fun q i => some (prodOf X B' q i))))
    {K : Mxu F → Prog (TpuEff nD τ sig (Elt F) Λ .tc) α}
    (hK : ∀ s', Inv s' rg0 (stAt par' 0 0 (fun _ _ _ => broadcast S64x256 (Scalar.ofBits .f32 0x00000000#32)) (fun q i => some (prodOf X B q i))) →
      iprop(owns (c : Thread nD τ) xc fullShare X ∗ owns (c : Thread nD τ) (slot ring sl hsl) fullShare B
        ∗ (CT c ws tg rs WC TG RS ∗ PT c mm ss tt (drS TG RS WC cb (prodOf X B') σ 4)) ∗ G) ⊢ wp frame (wpE defs 𝒱 (c : Thread nD τ) bd) Set.univ (K s') Q) :
    iprop(owns (c : Thread nD τ) xc fullShare X ∗ owns (c : Thread nD τ) (slot ring sl hsl) fullShare B ∗ (CT c ws tg rs WC TG RS ∗ PT c mm ss tt σ) ∗ G)
      ⊢ (wp frame (wpE defs 𝒱 (c : Thread nD τ) bd) Set.univ (blockK ring xc sl hsl par hp (drainK ws tg rs mm ss tt cb' hcb par' hp') s K) Q : sProp 𝕄) := by
  subst hpp hcc
  refine wp_blockK (R := fun i => iprop(CT c ws tg rs WC TG RS ∗ PT c mm ss tt (drS TG RS WC cb' (prodOf X B') σ i))) H ?_ ?_
  · intro i n hi s K G H hK
    refine wp_drainK (V := fun q => prodOf X B' q i) H (fun q => ?_) fun s' H' => hK s' (inv_cast H' rfl (popSt_stAt par n i hp hi _ _))
    unfold stAt
    have e : (4 * (1 - par) + i) % 4 = i := by omega
    rw [if_neg (by omega), if_pos (by omega), e]
  · intro s' H'
    refine hK s' (inv_cast H' rfl ?_)
    rw [stAt_turn par hp (passOf X B) (fun _ _ _ => broadcast S64x256 (Scalar.ofBits .f32 0x00000000#32))]
    congr 1

/-- With no tile done a block's passes do not matter. -/
theorem stAt_zero (par : ℕ) (cur cur' : ℕ → Fin 2 → ℕ → FVec F S64x256 .f32) (prev : Fin 2 → ℕ → Pc F) : stAt par 0 0 cur prev = stAt par 0 0 cur' prev := rfl

/-- The first block, with nothing to drain. -/
theorem wp_block0 {ring : Memref sig .tc .vmem S6x512x12288 .fp8e4m3} {xc : Memref sig .tc .vmem S256x12288 .fp8e4m3}
    {sl : ℕ} {hsl : sl < 6} {B : S512x12288.Idx → Elt F .fp8e4m3} {X : S256x12288.Idx → Elt F .fp8e4m3}
    {K : Mxu F → Prog (TpuEff nD τ sig (Elt F) Λ .tc) α} {hp}
    (hK : ∀ s', Inv s' rg0 (stAt 0 0 0 (fun _ _ _ => broadcast S64x256 (Scalar.ofBits .f32 0x00000000#32)) (fun q i => some (prodOf X B q i))) →
      iprop(owns (c : Thread nD τ) xc fullShare X ∗ owns (c : Thread nD τ) (slot ring sl hsl) fullShare B ∗ G) ⊢ wp frame (wpE defs 𝒱 (c : Thread nD τ) bd) Set.univ (K s') Q) :
    iprop(owns (c : Thread nD τ) xc fullShare X ∗ owns (c : Thread nD τ) (slot ring sl hsl) fullShare B ∗ G)
      ⊢ (wp frame (wpE defs 𝒱 (c : Thread nD τ) bd) Set.univ (blockK ring xc sl hsl 1 hp (fun _ _ s K => K s) Mxu.init K) Q : sProp 𝕄) := by
  have em : ∀ P1 P2 : sProp 𝕄, iprop(P1 ∗ P2 ∗ G) ⊢ iprop(P1 ∗ P2 ∗ iprop(emp) ∗ G) := by
    intro P1 P2
    iintro ⟨H1, H2, H3⟩
    isplitl [H1]; · iexact H1
    isplitl [H2]; · iexact H2
    isplitr [H3]; · iempintro
    iexact H3
  have em' : ∀ P1 P2 : sProp 𝕄, iprop(P1 ∗ P2 ∗ iprop(emp) ∗ G) ⊢ iprop(P1 ∗ P2 ∗ G) := by
    intro P1 P2
    iintro ⟨H1, H2, -, H3⟩
    isplitl [H1]; · iexact H1
    isplitl [H2]; · iexact H2
    iexact H3
  refine (em _ _).trans ?_
  refine wp_blockK (R := fun _ => iprop(emp)) (prev := fun _ _ => none) (inv_init _) ?_ ?_
  · intro i n hi s K G H hK
    refine hK s (inv_cast H rfl ?_)
    funext q p
    unfold stAt
    by_cases h : p / 4 = 1
    · rw [if_pos h, if_pos h]
    · rw [if_neg h, if_neg h]; simp
  · intro s' H'
    refine (em' _ _).trans (hK s' (inv_cast H' rfl ?_))
    rw [stAt_turn 1 (by omega) (passOf X B) (fun _ _ _ => broadcast S64x256 (Scalar.ofBits .f32 0x00000000#32))]
    show stAt 0 0 0 _ _ = _
    congr 1

end Cert.Head

end
-- ==== Proof.RingState.lean ====
/- The ring before block `j`: five blocks on their way, a slot free, the rows not asked for and the rows come back.
   A block's rules take the ring before it to the ring during it. -/
module

public import proofs.«01_k».proof.Proof.RingWp

@[expose] public section

noncomputable section

namespace Cert.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {nD : ℕ} {τ : Topo} {sig : RefSig} {Λ : Labels} {F : FTy → Type} [FloatOps F]

local notation "𝕄" => MT nD τ sig Unit (Elt F) ℕ (UR sig nD τ × Counters) ℕ

variable {defs : Defs nD τ sig (Elt F) Λ} {𝒱 : Variants} {bd : Option 𝒱.V} {α : Type}
  {Q : α → sProp (MT nD τ sig Unit (Elt F) ℕ (UR sig nD τ × Counters) ℕ)}

variable (c : Dev nD) (w : Memref sig .tc .hbm S30008x12288 .fp8e4m3) (ring : Memref sig .tc .vmem S6x512x12288 .fp8e4m3)
  (sems : DmaSems sig S6) (lsem : DmaSem sig) (fw : Buf (Elt F) (w.view.loc (c : Thread nD τ)))

/-- Slot `n % 6` free: it holds what the block six before left. -/
def Free (n : ℕ) : sProp 𝕄 :=
  iprop((∃ X : S512x12288.Idx → Elt F .fp8e4m3, ⌜6 ≤ n → X = blk (w.view.read (Elt F) fw) (n - 6)⌝ ∗ owns (c : Thread nD τ) (slot ring (n % 6) (m6 n)) fullShare X) ∗ cell c sems n)

/-- Block `j` on its way, if there is one. -/
def Busy (j : ℕ) : sProp 𝕄 :=
  if j < 58 then flyF c w ring sems fw j else if j = 58 then iprop(flyL c w ring lsem fw ∗ cell c sems 58) else Free c w ring sems fw j

/-- The rows of the blocks from `n`, and of those before. -/
def Rest (n : ℕ) : sProp 𝕄 := rowsP c w fw (512 * n) (512 * 59)
def Done (n : ℕ) : sProp 𝕄 := rowsP c w fw 0 (512 * n)

/-- The last block's cell, at zero but while it is on its way. -/
def LastC (j : ℕ) : sProp 𝕄 := if 54 ≤ j ∧ j ≤ 58 then iprop(emp) else semVal ((c : Thread nD τ), SemLoc.dma lsem) 0

/-- Before block `j`. -/
def RS (j : ℕ) : sProp 𝕄 :=
  iprop(Busy c w ring sems lsem fw j ∗ Busy c w ring sems lsem fw (j + 1) ∗ Busy c w ring sems lsem fw (j + 2) ∗ Busy c w ring sems lsem fw (j + 3)
    ∗ Busy c w ring sems lsem fw (j + 4) ∗ Free c w ring sems fw (j + 5) ∗ Rest c w fw (j + 5) ∗ Done c w fw j ∗ LastC c lsem j ∗ (∃ W, owes (c : Thread nD τ) 0 W))

/-- While block `j` is used. -/
def RQ (j : ℕ) : sProp 𝕄 :=
  iprop(cell c sems j ∗ Busy c w ring sems lsem fw (j + 1) ∗ Busy c w ring sems lsem fw (j + 2) ∗ Busy c w ring sems lsem fw (j + 3)
    ∗ Busy c w ring sems lsem fw (j + 4) ∗ Busy c w ring sems lsem fw (j + 5) ∗ Rest c w fw (j + 6) ∗ Done c w fw (j + 1) ∗ LastC c lsem (j + 1)
    ∗ (∃ W, owes (c : Thread nD τ) 0 W))

theorem owns_slot {a b : ℕ} (e : a = b) (ha : a < 6) (hb : b < 6) (X : S512x12288.Idx → Elt F .fp8e4m3) :
    (owns (c : Thread nD τ) (slot ring a ha) fullShare X : sProp 𝕄) = owns (c : Thread nD τ) (slot ring b hb) fullShare X := by
  subst e; rfl

theorem cell_eq {a b : ℕ} (e : a % 6 = b % 6) : (cell c sems a : sProp 𝕄) = cell c sems b := by
  unfold cell
  congr 3
  have : ∀ (x y : ℕ) (hx : x < 6) (hy : y < 6), x = y → rsem sems x hx = rsem sems y hy := by intro x y hx hy h; subst h; rfl
  exact this _ _ _ _ e

theorem RQ_next (j : ℕ) : iprop(owns (c : Thread nD τ) (slot ring (j % 6) (m6 j)) fullShare (blk (w.view.read (Elt F) fw) j) ∗ RQ c w ring sems lsem fw j)
    ⊢ (RS c w ring sems lsem fw (j + 1) : sProp 𝕄) := by
  unfold RQ RS Free
  iintro ⟨HB, Hc, H1, H2, H3, H4, H5, HR, HD, HL, HW⟩
  isplitl [H1]; · iexact H1
  isplitl [H2]; · iexact H2
  isplitl [H3]; · iexact H3
  isplitl [H4]; · iexact H4
  isplitl [H5]; · iexact H5
  isplitl [HB Hc]
  · isplitl [HB]
    · iexists (blk (w.view.read (Elt F) fw) j)
      isplitr
      · ipureintro; intro _; rw [show j + 1 + 5 - 6 = j by omega]
      · iapply (ent_eq (owns_slot c ring (by omega) _ _ _)) $$ HB
    · iapply (ent_eq (cell_eq c sems (by omega))) $$ Hc
  isplitl [HR]; · iexact HR
  isplitl [HD]; · iexact HD
  isplitl [HL]; · iexact HL
  iexact HW

theorem Done_succ (j : ℕ) : iprop(Done c w fw j ∗ rowsP c w fw (512 * j) (512 * (j + 1))) ⊢ (Done c w fw (j + 1) : sProp 𝕄) := by
  unfold Done; exact rowsP_join c w fw (by omega) (by omega)

theorem Rest_succ {n : ℕ} (h : n < 59) : Rest c w fw n ⊢ (iprop(rowsP c w fw (512 * n) (512 * (n + 1)) ∗ Rest c w fw (n + 1)) : sProp 𝕄) := by
  unfold Rest; exact rowsP_split c w fw (by omega) (by omega)

theorem Rest_over {n : ℕ} (h : 59 ≤ n) : Rest c w fw n ⊢ (Rest c w fw (n + 1) : sProp 𝕄) := by
  unfold Rest rowsP
  have e : ∀ k, 59 ≤ k → span (512 * k) (512 * 59) = ∅ := by
    intro k hk; refine Finset.eq_empty_of_forall_notMem fun x hx => ?_; rw [mem_span] at hx; omega
  rw [e n h, e (n + 1) (by omega)]

theorem LastC_eq {j k : ℕ} (e : (54 ≤ j ∧ j ≤ 58) ↔ (54 ≤ k ∧ k ≤ 58)) : LastC c lsem j ⊢ (LastC c lsem k : sProp 𝕄) := by
  unfold LastC
  by_cases h : 54 ≤ j ∧ j ≤ 58
  · rw [if_pos h, if_pos (e.1 h)]
  · rw [if_neg h, if_neg (fun h' => h (e.2 h'))]

/-- Past the block after next but four there is nothing to start. -/
theorem Busy_over {n : ℕ} (h : 59 ≤ n) : Free c w ring sems fw n ⊢ (Busy c w ring sems lsem fw n : sProp 𝕄) := by
  unfold Busy; rw [if_neg (by omega), if_neg (by omega)]

theorem Free_start {n : ℕ} (h : n < 58) {sl : ℕ} {hsl : sl < 6} {row : ℕ} {hr : row + 512 ≤ 30008} {hs hd} (e : sl = n % 6) (hrow : row = 512 * n)
    {K : Prog (TpuEff nD τ sig (Elt F) Λ .tc) α} :
    iprop(Free c w ring sems fw n ∗ Rest c w fw n)
      ⊢ iprop((iprop(flyF c w ring sems fw n ∗ Rest c w fw (n + 1)) -∗ wp frame (wpE defs 𝒱 (c : Thread nD τ) bd) Set.univ K Q)
        -∗ (wp frame (wpE defs 𝒱 (c : Thread nD τ) bd) Set.univ (startF w ring sems sl hsl row hr hs hd K) Q : sProp 𝕄)) := by
  unfold Free
  iintro ⟨⟨⟨%X, %hX, HX⟩, Hc⟩, HR⟩ Hk
  ihave H := Rest_succ c w fw (by omega : n < 59) $$ HR
  icases H with ⟨Hr, HR⟩
  iapply (wp_startF c w ring sems fw e hrow) $$ [HX Hc Hr]
  · isplitl [HX]; · iexact HX
    isplitl [Hc]; · iexact Hc
    iexact Hr
  iintro Hf
  iapply Hk
  isplitl [Hf]; · iexact Hf
  iexact HR

/-- A wait, and what the start five blocks later still needs. -/
theorem RS_wait {j : ℕ} (h : j < 58) {sl : ℕ} {hsl : sl < 6} {row : ℕ} {hr : row + 512 ≤ 30008} {hs hd} (e : sl = j % 6)
    {K : Prog (TpuEff nD τ sig (Elt F) Λ .tc) α} :
    RS c w ring sems lsem fw j
      ⊢ iprop((iprop(owns (c : Thread nD τ) (slot ring (j % 6) (m6 j)) fullShare (blk (w.view.read (Elt F) fw) j)
          ∗ cell c sems j ∗ Busy c w ring sems lsem fw (j + 1) ∗ Busy c w ring sems lsem fw (j + 2) ∗ Busy c w ring sems lsem fw (j + 3)
          ∗ Busy c w ring sems lsem fw (j + 4) ∗ Free c w ring sems fw (j + 5) ∗ Rest c w fw (j + 5) ∗ Done c w fw (j + 1) ∗ LastC c lsem j
          ∗ (∃ W, owes (c : Thread nD τ) 0 W)) -∗ wp frame (wpE defs 𝒱 (c : Thread nD τ) bd) Set.univ K Q)
        -∗ (wp frame (wpE defs 𝒱 (c : Thread nD τ) bd) Set.univ (waitF w ring sems sl hsl row hr hs hd K) Q : sProp 𝕄)) := by
  have eb : Busy c w ring sems lsem fw j = (flyF c w ring sems fw j : sProp 𝕄) := by unfold Busy; rw [if_pos h]
  unfold RS
  rw [eb]
  iintro ⟨H0, H1, H2, H3, H4, HF, HR, HD, HL, ⟨%W, HW⟩⟩ Hk
  iapply (wp_waitF c w ring sems fw e) $$ [H0 HW]
  · isplitl [H0]; · iexact H0
    iexact HW
  unfold D
  iintro ⟨⟨HB, Hr⟩, Hc, HW⟩
  iapply Hk
  isplitl [HB]; · iexact HB
  isplitl [Hc]; · iexact Hc
  isplitl [H1]; · iexact H1
  isplitl [H2]; · iexact H2
  isplitl [H3]; · iexact H3
  isplitl [H4]; · iexact H4
  isplitl [HF]; · iexact HF
  isplitl [HR]; · iexact HR
  isplitl [HD Hr]
  · iapply (Done_succ c w fw j)
    isplitl [HD]; · iexact HD
    iexact Hr
  isplitl [HL]; · iexact HL
  iexact HW

/-- Block `j < 53`: wait for it, start block `j + 5`. -/
theorem RS_WS {j : ℕ} (h : j + 5 < 58) {sl : ℕ} {hsl : sl < 6} {row : ℕ} {hr : row + 512 ≤ 30008} {hs hd} (e : sl = j % 6)
    {sl' : ℕ} {hsl' : sl' < 6} {row' : ℕ} {hr' : row' + 512 ≤ 30008} {hs' hd'} (e' : sl' = (j + 5) % 6) (hrow' : row' = 512 * (j + 5))
    {K : Prog (TpuEff nD τ sig (Elt F) Λ .tc) α} :
    RS c w ring sems lsem fw j
      ⊢ iprop((iprop(owns (c : Thread nD τ) (slot ring (j % 6) (m6 j)) fullShare (blk (w.view.read (Elt F) fw) j) ∗ RQ c w ring sems lsem fw j)
          -∗ wp frame (wpE defs 𝒱 (c : Thread nD τ) bd) Set.univ K Q)
        -∗ (wp frame (wpE defs 𝒱 (c : Thread nD τ) bd) Set.univ (waitF w ring sems sl hsl row hr hs hd (startF w ring sems sl' hsl' row' hr' hs' hd' K)) Q : sProp 𝕄)) := by
  iintro H Hk
  iapply (RS_wait c w ring sems lsem fw (by omega : j < 58) e) $$ H
  iintro ⟨HB, Hc, H1, H2, H3, H4, HF, HR, HD, HL, HW⟩
  iapply (Free_start c w ring sems fw h e' hrow') $$ [HF HR]
  · isplitl [HF]; · iexact HF
    iexact HR
  iintro ⟨H5, HR⟩
  iapply Hk
  unfold RQ
  isplitl [HB]; · iexact HB
  isplitl [Hc]; · iexact Hc
  isplitl [H1]; · iexact H1
  isplitl [H2]; · iexact H2
  isplitl [H3]; · iexact H3
  isplitl [H4]; · iexact H4
  isplitl [H5]
  · have eb : Busy c w ring sems lsem fw (j + 5) = (flyF c w ring sems fw (j + 5) : sProp 𝕄) := by unfold Busy; rw [if_pos h]
    rw [eb]; iexact H5
  isplitl [HR]; · iexact HR
  isplitl [HD]; · iexact HD
  isplitl [HL]
  · iapply (LastC_eq c lsem (by omega)) $$ HL
  iexact HW

/-- Block 53: wait for it, start the last block. -/
theorem RS_WL {sl : ℕ} {hsl : sl < 6} {row : ℕ} {hr : row + 512 ≤ 30008} {hs hd} (e : sl = 53 % 6)
    {sl' : ℕ} {hsl' : sl' < 6} {row' : ℕ} {hr' : row' + 312 ≤ 30008} {hs' hd'} (e' : sl' = 58 % 6) (hrow' : row' = 512 * 58)
    {K : Prog (TpuEff nD τ sig (Elt F) Λ .tc) α} :
    RS c w ring sems lsem fw 53
      ⊢ iprop((iprop(owns (c : Thread nD τ) (slot ring (53 % 6) (m6 53)) fullShare (blk (w.view.read (Elt F) fw) 53) ∗ RQ c w ring sems lsem fw 53)
          -∗ wp frame (wpE defs 𝒱 (c : Thread nD τ) bd) Set.univ K Q)
        -∗ (wp frame (wpE defs 𝒱 (c : Thread nD τ) bd) Set.univ (waitF w ring sems sl hsl row hr hs hd (startL w ring lsem sl' hsl' row' hr' hs' hd' K)) Q : sProp 𝕄)) := by
  have el : LastC c lsem 53 = (semVal ((c : Thread nD τ), SemLoc.dma lsem) 0 : sProp 𝕄) := by unfold LastC; rw [if_neg (by omega)]
  have el' : LastC c lsem 54 = (iprop(emp) : sProp 𝕄) := by unfold LastC; rw [if_pos (by omega)]
  have eb : Busy c w ring sems lsem fw (53 + 5) = (iprop(flyL c w ring lsem fw ∗ cell c sems 58) : sProp 𝕄) := by
    unfold Busy; rw [if_neg (by omega), if_pos rfl]
  iintro H Hk
  iapply (RS_wait c w ring sems lsem fw (by omega : 53 < 58) e) $$ H
  rw [el]
  iintro ⟨HB, Hc, H1, H2, H3, H4, HF, HR, HD, HL, HW⟩
  ihave HR' := Rest_succ c w fw (by omega : 53 + 5 < 59) $$ HR
  icases HR' with ⟨Hr, HR⟩
  unfold Free
  icases HF with ⟨⟨%X, %hX, HX⟩, Hc58⟩
  have hX' := hX (by omega)
  subst hX'
  iapply (wp_startL c w ring lsem fw e' hrow') $$ [HX HL Hr]
  · isplitl [HX]; · iexact HX
    isplitl [HL]; · iexact HL
    iexact Hr
  iintro H5
  iapply Hk
  unfold RQ
  rw [eb, el']
  isplitl [HB]; · iexact HB
  isplitl [Hc]; · iexact Hc
  isplitl [H1]; · iexact H1
  isplitl [H2]; · iexact H2
  isplitl [H3]; · iexact H3
  isplitl [H4]; · iexact H4
  isplitl [H5 Hc58]
  · isplitl [H5]; · iexact H5
    iexact Hc58
  isplitl [HR]; · iexact HR
  isplitl [HD]; · iexact HD
  isplitr [HW]; · iempintro
  iexact HW

/-- Blocks 54 to 57: wait only. -/
theorem RS_W {j : ℕ} (h : j < 58) (h' : 54 ≤ j) {sl : ℕ} {hsl : sl < 6} {row : ℕ} {hr : row + 512 ≤ 30008} {hs hd} (e : sl = j % 6)
    {K : Prog (TpuEff nD τ sig (Elt F) Λ .tc) α} :
    RS c w ring sems lsem fw j
      ⊢ iprop((iprop(owns (c : Thread nD τ) (slot ring (j % 6) (m6 j)) fullShare (blk (w.view.read (Elt F) fw) j) ∗ RQ c w ring sems lsem fw j)
          -∗ wp frame (wpE defs 𝒱 (c : Thread nD τ) bd) Set.univ K Q)
        -∗ (wp frame (wpE defs 𝒱 (c : Thread nD τ) bd) Set.univ (waitF w ring sems sl hsl row hr hs hd K) Q : sProp 𝕄)) := by
  iintro H Hk
  iapply (RS_wait c w ring sems lsem fw h e) $$ H
  iintro ⟨HB, Hc, H1, H2, H3, H4, HF, HR, HD, HL, HW⟩
  iapply Hk
  unfold RQ
  isplitl [HB]; · iexact HB
  isplitl [Hc]; · iexact Hc
  isplitl [H1]; · iexact H1
  isplitl [H2]; · iexact H2
  isplitl [H3]; · iexact H3
  isplitl [H4]; · iexact H4
  isplitl [HF]; · iapply (Busy_over c w ring sems lsem fw (by omega : 59 ≤ j + 5)) $$ HF
  isplitl [HR]; · iapply (Rest_over c w fw (by omega : 59 ≤ j + 5)) $$ HR
  isplitl [HD]; · iexact HD
  isplitl [HL]
  · iapply (LastC_eq c lsem (by omega)) $$ HL
  iexact HW

/-- The last block: wait only. -/
theorem RS_L {sl : ℕ} {hsl : sl < 6} {row : ℕ} {hr : row + 312 ≤ 30008} {hs hd} (e : sl = 58 % 6)
    {K : Prog (TpuEff nD τ sig (Elt F) Λ .tc) α} :
    RS c w ring sems lsem fw 58
      ⊢ iprop((iprop(owns (c : Thread nD τ) (slot ring (58 % 6) (m6 58)) fullShare (blk (w.view.read (Elt F) fw) 58) ∗ RQ c w ring sems lsem fw 58)
          -∗ wp frame (wpE defs 𝒱 (c : Thread nD τ) bd) Set.univ K Q)
        -∗ (wp frame (wpE defs 𝒱 (c : Thread nD τ) bd) Set.univ (waitL w ring lsem sl hsl row hr hs hd K) Q : sProp 𝕄)) := by
  have el : LastC c lsem 59 = (semVal ((c : Thread nD τ), SemLoc.dma lsem) 0 : sProp 𝕄) := by unfold LastC; rw [if_neg (by omega)]
  have eb : Busy c w ring sems lsem fw 58 = (iprop(flyL c w ring lsem fw ∗ cell c sems 58) : sProp 𝕄) := by
    unfold Busy; rw [if_neg (by omega), if_pos rfl]
  unfold RS
  rw [eb]
  iintro ⟨⟨H0, Hc⟩, H1, H2, H3, H4, HF, HR, HD, HL, ⟨%W, HW⟩⟩ Hk
  iapply (wp_waitL c w ring lsem fw e) $$ [H0 HW]
  · isplitl [H0]; · iexact H0
    iexact HW
  unfold D
  iintro ⟨⟨HB, Hr⟩, HL', HW⟩
  iapply Hk
  unfold RQ
  rw [el]
  isplitl [HB]; · iexact HB
  isplitl [Hc]; · iexact Hc
  isplitl [H1]; · iexact H1
  isplitl [H2]; · iexact H2
  isplitl [H3]; · iexact H3
  isplitl [H4]; · iexact H4
  isplitl [HF]; · iapply (Busy_over c w ring sems lsem fw (by omega : 59 ≤ 58 + 5)) $$ HF
  isplitl [HR]; · iapply (Rest_over c w fw (by omega : 59 ≤ 58 + 5)) $$ HR
  isplitl [HD Hr]
  · iapply (Done_succ c w fw 58)
    isplitl [HD]; · iexact HD
    iexact Hr
  isplitl [HL']; · iexact HL'
  iexact HW

end Cert.Head

end
-- ==== Proof.TripWp.lean ====
/- Two blocks a trip: the ring's copies and the units' tiles together, and the trips one after another. -/
module

public import proofs.«01_k».proof.Proof.DrainWp
public import proofs.«01_k».proof.Proof.RingState

@[expose] public section

noncomputable section

namespace Cert.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

section Values

variable {F : FTy → Type} [FloatOps F]

/-- The running values after the first `b` blocks' logits. -/
def run (TG : S256x128.Idx → BitVec 32) (RS : S256x128.Idx → F .f32) (WC : S30003.Idx → F .f32) (X : S256x12288.Idx → Elt F .fp8e4m3)
    (W : S30008x12288.Idx → Elt F .fp8e4m3) (σ : St F) : ℕ → St F
  | 0 => σ
  | b + 1 => drS TG RS WC (BitVec.ofNat 32 (512 * b)) (prodOf X (blk W b)) (run TG RS WC X W σ b) 4

/-- The units before block `j`: the block before it is held, nothing else. -/
def MI (X : S256x12288.Idx → Elt F .fp8e4m3) (W : S30008x12288.Idx → Elt F .fp8e4m3) (j : ℕ) (s : Mxu F) : Prop :=
  Inv s rg0 (stAt ((j + 1) % 2) 0 0 (fun _ _ _ => broadcast S64x256 (Scalar.ofBits .f32 0x00000000#32)) (fun q i => some (prodOf X (blk W (j - 1)) q i)))

end Values

variable {nD : ℕ} {τ : Topo} {sig : RefSig} {Λ : Labels} {F : FTy → Type} [FloatOps F]

local notation "𝕄" => MT nD τ sig Unit (Elt F) ℕ (UR sig nD τ × Counters) ℕ

variable {defs : Defs nD τ sig (Elt F) Λ} {𝒱 : Variants} {bd : Option 𝒱.V} {α : Type}
  {Q : α → sProp (MT nD τ sig Unit (Elt F) ℕ (UR sig nD τ × Counters) ℕ)}

variable {c : Dev nD} {w : Memref sig .tc .hbm S30008x12288 .fp8e4m3} {ring : Memref sig .tc .vmem S6x512x12288 .fp8e4m3}
  {xc : Memref sig .tc .vmem S256x12288 .fp8e4m3} {ws : Memref sig .tc .vmem S30003 .f32} {tg : Memref sig .tc .vmem S256x128 .i32}
  {rs mm ss tt : Memref sig .tc .vmem S256x128 .f32}
  {sems : DmaSems sig S6} {lsem : DmaSem sig} {fw : Buf (Elt F) (w.view.loc (c : Thread nD τ))}
  {WC : S30003.Idx → F .f32} {TG : S256x128.Idx → BitVec 32} {RSv : S256x128.Idx → F .f32} {σ : St F} {X : S256x12288.Idx → Elt F .fp8e4m3}
  {G : sProp (MT nD τ sig Unit (Elt F) ℕ (UR sig nD τ × Counters) ℕ)}

/-- A block once its slot is there: the ring comes out as before the next block, the running values as after the block
    before. -/
theorem wp_half {j : ℕ} (hj : 1 ≤ j) {sl : ℕ} {hsl : sl < 6} (e : sl = j % 6) {cb : BitVec 32} {hcb} (hcc : cb = BitVec.ofNat 32 (512 * (j - 1)))
    {par par' : ℕ} {hp : par < 2} {hp' : par' < 2} (hpp : par = (j + 1) % 2) (hpp' : par' = 1 - par) {s : Mxu F} (H : MI X (w.view.read (Elt F) fw) j s)
    {K : Mxu F → Prog (TpuEff nD τ sig (Elt F) Λ .tc) α}
    (hK : ∀ s', MI X (w.view.read (Elt F) fw) (j + 1) s' →
      iprop(RS c w ring sems lsem fw (j + 1) ∗ owns (c : Thread nD τ) xc fullShare X
        ∗ (CT c ws tg rs WC TG RSv ∗ PT c mm ss tt (run TG RSv WC X (w.view.read (Elt F) fw) σ j)) ∗ G)
        ⊢ wp frame (wpE defs 𝒱 (c : Thread nD τ) bd) Set.univ (K s') Q) :
    iprop((owns (c : Thread nD τ) (slot ring (j % 6) (m6 j)) fullShare (blk (w.view.read (Elt F) fw) j) ∗ RQ c w ring sems lsem fw j) ∗ owns (c : Thread nD τ) xc fullShare X
        ∗ (CT c ws tg rs WC TG RSv ∗ PT c mm ss tt (run TG RSv WC X (w.view.read (Elt F) fw) σ (j - 1))) ∗ G)
      ⊢ (wp frame (wpE defs 𝒱 (c : Thread nD τ) bd) Set.univ (blockK ring xc sl hsl par hp (drainK ws tg rs mm ss tt cb hcb par' hp') s K) Q : sProp 𝕄) := by
  subst e hpp
  have sh : ∀ (P1 P2 P3 P4 P5 : sProp 𝕄), iprop((P1 ∗ P2) ∗ P3 ∗ P4 ∗ P5) ⊢ iprop(P3 ∗ P1 ∗ P4 ∗ (P2 ∗ P5)) := by
    intro P1 P2 P3 P4 P5
    iintro ⟨⟨H1, H2⟩, H3, H4, H5⟩
    isplitl [H3]; · iexact H3
    isplitl [H1]; · iexact H1
    isplitl [H4]; · iexact H4
    isplitl [H2]; · iexact H2
    iexact H5
  refine (sh _ _ _ _ _).trans ?_
  have H2 : Inv s rg0 (stAt ((j + 1) % 2) 0 0 (passOf X (blk (w.view.read (Elt F) fw) j)) (fun q i => some (prodOf X (blk (w.view.read (Elt F) fw) (j - 1)) q i))) :=
    inv_cast H rfl (stAt_zero _ _ _ _)
  have key := @wp_block nD τ sig Λ F _ defs 𝒱 bd α Q iprop(RQ c w ring sems lsem fw j ∗ G) c ws tg rs mm ss tt WC TG RSv (run TG RSv WC X (w.view.read (Elt F) fw) σ (j - 1)) ring xc (j % 6) hsl (blk (w.view.read (Elt F) fw) j) (blk (w.view.read (Elt F) fw) (j - 1)) X (BitVec.ofNat 32 (512 * (j - 1))) cb hcb ((j + 1) % 2) par' hp hp' hpp' hcc s H2 K
  refine key ?_
  intro s' H'
  have e2 : par' = (j + 1 + 1) % 2 := by omega
  refine BIBase.Entails.trans ?_ (hK s' ?_)
  · obtain ⟨j, rfl⟩ : ∃ k, j = k + 1 := ⟨j - 1, by omega⟩
    show _ ⊢ iprop(RS c w ring sems lsem fw (j + 1 + 1) ∗ owns (c : Thread nD τ) xc fullShare X
        ∗ (CT c ws tg rs WC TG RSv ∗ PT c mm ss tt (drS TG RSv WC (BitVec.ofNat 32 (512 * j)) (prodOf X (blk (w.view.read (Elt F) fw) j)) (run TG RSv WC X (w.view.read (Elt F) fw) σ j) 4)) ∗ G)
    iintro ⟨HX, HB, HP, HQ, HG⟩
    isplitl [HB HQ]
    · iapply (RQ_next c w ring sems lsem fw (j + 1))
      isplitl [HB]; · iexact HB
      iexact HQ
    isplitl [HX]; · iexact HX
    isplitl [HP]; · iexact HP
    iexact HG
  · subst e2; exact H'

/-- Before block `j`. -/
def JI (c : Dev nD) (w : Memref sig .tc .hbm S30008x12288 .fp8e4m3) (ring : Memref sig .tc .vmem S6x512x12288 .fp8e4m3)
    (xc : Memref sig .tc .vmem S256x12288 .fp8e4m3) (ws : Memref sig .tc .vmem S30003 .f32) (tg : Memref sig .tc .vmem S256x128 .i32)
    (rs mm ss tt : Memref sig .tc .vmem S256x128 .f32) (sems : DmaSems sig S6) (lsem : DmaSem sig) (fw : Buf (Elt F) (w.view.loc (c : Thread nD τ)))
    (WC : S30003.Idx → F .f32) (TG : S256x128.Idx → BitVec 32) (RSv : S256x128.Idx → F .f32) (σ : St F) (X : S256x12288.Idx → Elt F .fp8e4m3)
    (G : sProp (MT nD τ sig Unit (Elt F) ℕ (UR sig nD τ × Counters) ℕ)) (j : ℕ) : sProp (MT nD τ sig Unit (Elt F) ℕ (UR sig nD τ × Counters) ℕ) :=
  iprop(RS c w ring sems lsem fw j ∗ owns (c : Thread nD τ) xc fullShare X
    ∗ (CT c ws tg rs WC TG RSv ∗ PT c mm ss tt (run TG RSv WC X (w.view.read (Elt F) fw) σ (j - 1))) ∗ G)

/-- The ring's lines before a block, `R`, take the ring before it to the ring during it; then the block. -/
theorem wp_one {j : ℕ} (hj : 1 ≤ j) {sl : ℕ} {hsl : sl < 6} (e : sl = j % 6) {cb : BitVec 32} {hcb} (hcc : cb = BitVec.ofNat 32 (512 * (j - 1)))
    {par par' : ℕ} {hp : par < 2} {hp' : par' < 2} (hpp : par = (j + 1) % 2) (hpp' : par' = 1 - par) {s : Mxu F} (H : MI X (w.view.read (Elt F) fw) j s)
    {K : Mxu F → Prog (TpuEff nD τ sig (Elt F) Λ .tc) α} {R : Prog (TpuEff nD τ sig (Elt F) Λ .tc) α → Prog (TpuEff nD τ sig (Elt F) Λ .tc) α}
    (hR : ∀ K, RS c w ring sems lsem fw j
      ⊢ iprop((iprop(owns (c : Thread nD τ) (slot ring (j % 6) (m6 j)) fullShare (blk (w.view.read (Elt F) fw) j) ∗ RQ c w ring sems lsem fw j)
          -∗ wp frame (wpE defs 𝒱 (c : Thread nD τ) bd) Set.univ K Q)
        -∗ (wp frame (wpE defs 𝒱 (c : Thread nD τ) bd) Set.univ (R K) Q : sProp 𝕄)))
    (hK : ∀ s', MI X (w.view.read (Elt F) fw) (j + 1) s' → JI c w ring xc ws tg rs mm ss tt sems lsem fw WC TG RSv σ X G (j + 1) ⊢ wp frame (wpE defs 𝒱 (c : Thread nD τ) bd) Set.univ (K s') Q) :
    JI c w ring xc ws tg rs mm ss tt sems lsem fw WC TG RSv σ X G j ⊢ (wp frame (wpE defs 𝒱 (c : Thread nD τ) bd) Set.univ (R (blockK ring xc sl hsl par hp (drainK ws tg rs mm ss tt cb hcb par' hp') s K)) Q : sProp 𝕄) := by
  unfold JI
  iintro ⟨HR, HF⟩
  iapply (hR _) $$ HR
  iintro HB
  iapply (wp_half (σ := σ) (G := G) (lsem := lsem) hj e hcc hpp hpp' H hK)
  isplitl [HB]; · iexact HB
  iexact HF

variable {s : Mxu F}
  {sl1 : ℕ} {h1 : sl1 < 6} {row1 : ℕ} {hr1 : row1 + 512 ≤ 30008} {hs1 hd1} {sl2 : ℕ} {h2 : sl2 < 6} {row2 : ℕ} {hr2 : row2 + 512 ≤ 30008} {hs2 hd2}
  {sl3 : ℕ} {h3 : sl3 < 6} {row3 : ℕ} {hr3 : row3 + 512 ≤ 30008} {hs3 hd3} {sl4 : ℕ} {h4 : sl4 < 6} {row4 : ℕ} {hr4 : row4 + 512 ≤ 30008} {hs4 hd4}
  {row2' : ℕ} {hr2' : row2' + 312 ≤ 30008} {hs2' hd2'} {row3' : ℕ} {hr3' : row3' + 312 ≤ 30008} {hs3' hd3'}
  {b1 : ℕ} {hb1 : b1 < 6} {b3 : ℕ} {hb3 : b3 < 6} {cb1 cb2 : BitVec 32} {hcb1 hcb2} {p0 : 0 < 2} {p1 : 1 < 2}

/-- A trip's end. -/
abbrev TI (c : Dev nD) (w : Memref sig .tc .hbm S30008x12288 .fp8e4m3) (ring : Memref sig .tc .vmem S6x512x12288 .fp8e4m3)
    (xc : Memref sig .tc .vmem S256x12288 .fp8e4m3) (ws : Memref sig .tc .vmem S30003 .f32) (tg : Memref sig .tc .vmem S256x128 .i32)
    (rs mm ss tt : Memref sig .tc .vmem S256x128 .f32) (sems : DmaSems sig S6) (lsem : DmaSem sig) (fw : Buf (Elt F) (w.view.loc (c : Thread nD τ)))
    (WC : S30003.Idx → F .f32) (TG : S256x128.Idx → BitVec 32) (RSv : S256x128.Idx → F .f32) (σ : St F) (X : S256x12288.Idx → Elt F .fp8e4m3)
    (G : sProp (MT nD τ sig Unit (Elt F) ℕ (UR sig nD τ × Counters) ℕ)) (t : ℕ) (r : BitVec 32 × Mxu F) : sProp (MT nD τ sig Unit (Elt F) ℕ (UR sig nD τ × Counters) ℕ) :=
  iprop(⌜MI X (w.view.read (Elt F) fw) (2 * t + 1) r.2⌝ ∗ JI c w ring xc ws tg rs mm ss tt sems lsem fw WC TG RSv σ X G (2 * t + 1))

theorem TI_ret {t : ℕ} {s : Mxu F} (H : MI X (w.view.read (Elt F) fw) (2 * t + 1 + 1 + 1) s) :
    JI c w ring xc ws tg rs mm ss tt sems lsem fw WC TG RSv σ X G (2 * t + 1 + 1 + 1) ⊢ (wp frame (wpE defs 𝒱 (c : Thread nD τ) bd) Set.univ (.ret (0#32, s)) (TI c w ring xc ws tg rs mm ss tt sems lsem fw WC TG RSv σ X G (t + 1)) : sProp 𝕄) := by
  rw [wp_ret]
  refine BIBase.Entails.trans ?_ fupd_intro
  have e : 2 * (t + 1) + 1 = 2 * t + 1 + 1 + 1 := by omega
  unfold TI
  rw [e]
  iintro HJ
  isplitr [HJ]; · ipureintro; exact H
  iexact HJ

theorem wp_tripA {t : ℕ} (ht : t ≤ 25) (e1 : sl1 = (2 * t + 1) % 6) (f1 : b1 = (2 * t + 1) % 6) (f3 : b3 = (2 * t + 1 + 1) % 6) (e2 : sl2 = (2 * t + 1 + 5) % 6) (r2 : row2 = 512 * (2 * t + 1 + 5))
    (e3 : sl3 = (2 * t + 1 + 1) % 6) (e4 : sl4 = (2 * t + 1 + 1 + 5) % 6) (r4 : row4 = 512 * (2 * t + 1 + 1 + 5))
    (c1 : cb1 = BitVec.ofNat 32 (512 * (2 * t + 1 - 1))) (c2 : cb2 = BitVec.ofNat 32 (512 * (2 * t + 1 + 1 - 1))) (H : MI X (w.view.read (Elt F) fw) (2 * t + 1) s) :
    JI c w ring xc ws tg rs mm ss tt sems lsem fw WC TG RSv σ X G (2 * t + 1) ⊢ (wp frame (wpE defs 𝒱 (c : Thread nD τ) bd) Set.univ
      (waitF w ring sems sl1 h1 row1 hr1 hs1 hd1 <| startF w ring sems sl2 h2 row2 hr2 hs2 hd2 <|
        blockK ring xc b1 hb1 0 p0 (drainK ws tg rs mm ss tt cb1 hcb1 1 p1) s fun s =>
        waitF w ring sems sl3 h3 row3 hr3 hs3 hd3 <| startF w ring sems sl4 h4 row4 hr4 hs4 hd4 <|
        blockK ring xc b3 hb3 1 p1 (drainK ws tg rs mm ss tt cb2 hcb2 0 p0) s fun s => .ret (0#32, s)) (TI c w ring xc ws tg rs mm ss tt sems lsem fw WC TG RSv σ X G (t + 1)) : sProp 𝕄) := by
  refine wp_one (by omega) f1 c1 (by omega) (by omega) H (R := fun K => waitF w ring sems sl1 h1 row1 hr1 hs1 hd1 (startF w ring sems sl2 h2 row2 hr2 hs2 hd2 K))
    (fun K => RS_WS c w ring sems lsem fw (by omega) e1 e2 r2) fun s H => ?_
  refine wp_one (by omega) f3 c2 (by omega) (by omega) H (R := fun K => waitF w ring sems sl3 h3 row3 hr3 hs3 hd3 (startF w ring sems sl4 h4 row4 hr4 hs4 hd4 K))
    (fun K => RS_WS c w ring sems lsem fw (by omega) e3 e4 r4) fun s H => ?_
  exact TI_ret H

theorem wp_tripB {t : ℕ} (ht : t = 26) (e1 : sl1 = (2 * t + 1) % 6) (f1 : b1 = (2 * t + 1) % 6) (f3 : b3 = (2 * t + 1 + 1) % 6) (e2 : sl2 = (2 * t + 1 + 5) % 6) (r2 : row2' = 512 * (2 * t + 1 + 5))
    (e3 : sl3 = (2 * t + 1 + 1) % 6)
    (c1 : cb1 = BitVec.ofNat 32 (512 * (2 * t + 1 - 1))) (c2 : cb2 = BitVec.ofNat 32 (512 * (2 * t + 1 + 1 - 1))) (H : MI X (w.view.read (Elt F) fw) (2 * t + 1) s) :
    JI c w ring xc ws tg rs mm ss tt sems lsem fw WC TG RSv σ X G (2 * t + 1) ⊢ (wp frame (wpE defs 𝒱 (c : Thread nD τ) bd) Set.univ
      (waitF w ring sems sl1 h1 row1 hr1 hs1 hd1 <| startL w ring lsem sl2 h2 row2' hr2' hs2' hd2' <|
        blockK ring xc b1 hb1 0 p0 (drainK ws tg rs mm ss tt cb1 hcb1 1 p1) s fun s =>
        waitF w ring sems sl3 h3 row3 hr3 hs3 hd3 <|
        blockK ring xc b3 hb3 1 p1 (drainK ws tg rs mm ss tt cb2 hcb2 0 p0) s fun s => .ret (0#32, s)) (TI c w ring xc ws tg rs mm ss tt sems lsem fw WC TG RSv σ X G (t + 1)) : sProp 𝕄) := by
  subst ht
  refine wp_one (by omega) f1 c1 (by omega) (by omega) H (R := fun K => waitF w ring sems sl1 h1 row1 hr1 hs1 hd1 (startL w ring lsem sl2 h2 row2' hr2' hs2' hd2' K))
    (fun K => RS_WL c w ring sems lsem fw e1 e2 r2) fun s H => ?_
  refine wp_one (by omega) f3 c2 (by omega) (by omega) H (R := fun K => waitF w ring sems sl3 h3 row3 hr3 hs3 hd3 K)
    (fun K => RS_W c w ring sems lsem fw (by omega) (by omega) e3) fun s H => ?_
  exact TI_ret H

theorem wp_tripC {t : ℕ} (ht : t = 27) (e1 : sl1 = (2 * t + 1) % 6) (f1 : b1 = (2 * t + 1) % 6) (f3 : b3 = (2 * t + 1 + 1) % 6) (e3 : sl3 = (2 * t + 1 + 1) % 6)
    (c1 : cb1 = BitVec.ofNat 32 (512 * (2 * t + 1 - 1))) (c2 : cb2 = BitVec.ofNat 32 (512 * (2 * t + 1 + 1 - 1))) (H : MI X (w.view.read (Elt F) fw) (2 * t + 1) s) :
    JI c w ring xc ws tg rs mm ss tt sems lsem fw WC TG RSv σ X G (2 * t + 1) ⊢ (wp frame (wpE defs 𝒱 (c : Thread nD τ) bd) Set.univ
      (waitF w ring sems sl1 h1 row1 hr1 hs1 hd1 <|
        blockK ring xc b1 hb1 0 p0 (drainK ws tg rs mm ss tt cb1 hcb1 1 p1) s fun s =>
        waitF w ring sems sl3 h3 row3 hr3 hs3 hd3 <|
        blockK ring xc b3 hb3 1 p1 (drainK ws tg rs mm ss tt cb2 hcb2 0 p0) s fun s => .ret (0#32, s)) (TI c w ring xc ws tg rs mm ss tt sems lsem fw WC TG RSv σ X G (t + 1)) : sProp 𝕄) := by
  subst ht
  refine wp_one (by omega) f1 c1 (by omega) (by omega) H (R := fun K => waitF w ring sems sl1 h1 row1 hr1 hs1 hd1 K)
    (fun K => RS_W c w ring sems lsem fw (by omega) (by omega) e1) fun s H => ?_
  refine wp_one (by omega) f3 c2 (by omega) (by omega) H (R := fun K => waitF w ring sems sl3 h3 row3 hr3 hs3 hd3 K)
    (fun K => RS_W c w ring sems lsem fw (by omega) (by omega) e3) fun s H => ?_
  exact TI_ret H

theorem wp_tripD {t : ℕ} (ht : t = 28) (e1 : sl1 = (2 * t + 1) % 6) (f1 : b1 = (2 * t + 1) % 6) (f3 : b3 = (2 * t + 1 + 1) % 6) (c1 : cb1 = BitVec.ofNat 32 (512 * (2 * t + 1 - 1))) (c2 : cb2 = BitVec.ofNat 32 (512 * (2 * t + 1 + 1 - 1))) {sl3' : ℕ} {h3' : sl3' < 6} {hd3'} (e3' : sl3' = (2 * t + 1 + 1) % 6)
    (H : MI X (w.view.read (Elt F) fw) (2 * t + 1) s) :
    JI c w ring xc ws tg rs mm ss tt sems lsem fw WC TG RSv σ X G (2 * t + 1) ⊢ (wp frame (wpE defs 𝒱 (c : Thread nD τ) bd) Set.univ
      (waitF w ring sems sl1 h1 row1 hr1 hs1 hd1 <|
        blockK ring xc b1 hb1 0 p0 (drainK ws tg rs mm ss tt cb1 hcb1 1 p1) s fun s =>
        waitL w ring lsem sl3' h3' row3' hr3' hs3' hd3' <|
        blockK ring xc b3 hb3 1 p1 (drainK ws tg rs mm ss tt cb2 hcb2 0 p0) s fun s => .ret (0#32, s)) (TI c w ring xc ws tg rs mm ss tt sems lsem fw WC TG RSv σ X G (t + 1)) : sProp 𝕄) := by
  subst ht
  refine wp_one (by omega) f1 c1 (by omega) (by omega) H (R := fun K => waitF w ring sems sl1 h1 row1 hr1 hs1 hd1 K)
    (fun K => RS_W c w ring sems lsem fw (by omega) (by omega) e1) fun s H => ?_
  refine wp_one (by omega) f3 c2 (by omega) (by omega) H (R := fun K => waitL w ring lsem sl3' h3' row3' hr3' hs3' hd3' K)
    (fun K => RS_L c w ring sems lsem fw e3') fun s H => ?_
  exact TI_ret H

end Cert.Head

end
-- ==== Proof.PrepWp.lean ====
/- The lines before the blocks and after them: the copies that stay, the ring's first five, the halves, the results. -/
module

public import proofs.«01_k».proof.Proof.TripWp

@[expose] public section

noncomputable section

namespace Cert.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

/-! ## Whole buffers, halves and rows -/

theorem rAll_idx (i : S256x128.Idx) : rAll.toLoadRect.idx i = i := by
  funext a
  match a with
  | 0 => exact Fin.ext (by show 0 + 1 * (i 0).val = (i 0).val; omega)
  | 1 => exact Fin.ext (by show 0 + 1 * (i 1).val = (i 1).val; omega)

theorem rAll_read {V : Type} (X : S256x128.Idx → V) : (fun i => X (rAll.toLoadRect.idx i)) = X := by
  funext i; rw [rAll_idx]

theorem upd_all {V : Type} (X v : S256x128.Idx → V) : upd rAll X v = v := by
  funext y
  have e : y = rAll.emb y := by
    funext a
    match a with
    | 0 => exact Fin.ext (by show (y 0).val = 0 + 1 * (y 0).val; omega)
    | 1 => exact Fin.ext (by show (y 1).val = 0 + 1 * (y 1).val; omega)
  conv_lhs => rw [e]
  exact upd_emb _ _ _ _

/-- Row `h` of a two-row window. -/
def rowOf {V : Type} (X : S2x128.Idx → V) (h : ℕ) : S1x128.Idx → V := fun y => X (jx2 (⟨h % 2, Nat.mod_lt _ (by omega)⟩ : Fin 2) (y 1))

theorem rowOf_eq {V : Type} (X : S2x128.Idx → V) {h : ℕ} (hh : h < 2) : (fun y => X ((rRow h hh).toLoadRect.idx y)) = rowOf X h := by
  funext y
  have h0 : (y 0).val < 1 := (y 0).isLt
  unfold rowOf
  congr 1
  funext a
  match a with
  | 0 => exact Fin.ext (by show h + 1 * (y 0).val = h % 2; rw [Nat.mod_eq_of_lt hh]; omega)
  | 1 => exact Fin.ext (by show 0 + 1 * (y 1).val = (y 1).val; omega)

/-- The two rows of a window. -/
def two {V : Type} (a b : S1x128.Idx → V) : S2x128.Idx → V := fun y => if (y 0).val = 0 then a (jx2 (0 : Fin 1) (y 1)) else b (jx2 (0 : Fin 1) (y 1))

theorem two_eq {V : Type} (X : S2x128.Idx → V) (a b : S1x128.Idx → V) : upd (rRow 1 (by omega)) (upd (rRow 0 (by omega)) X a) b = two a b := by
  funext y
  have h0 : (y 0).val < 2 := (y 0).isLt
  unfold two
  by_cases h : (y 0).val = 0
  · rw [if_pos h]
    have e : y = (rRow 0 (by omega)).emb (jx2 (0 : Fin 1) (y 1)) := by
      funext i
      match i with
      | 0 => exact Fin.ext (by show (y 0).val = 0 + 1 * 0; omega)
      | 1 => exact Fin.ext (by show (y 1).val = 0 + 1 * (y 1).val; omega)
    rw [upd_ne]
    · conv_lhs => rw [e]
      exact upd_emb _ _ _ _
    · intro j hj
      have hj0 : (j 0).val < 1 := (j 0).isLt
      have e := congrArg (fun z : S2x128.Idx => (z 0).val) hj
      have e' : 1 + 1 * (j 0).val = (y 0).val := e
      omega
  · rw [if_neg h]
    have e : y = (rRow 1 (by omega)).emb (jx2 (0 : Fin 1) (y 1)) := by
      funext i
      match i with
      | 0 => exact Fin.ext (by show (y 0).val = 1 + 1 * 0; omega)
      | 1 => exact Fin.ext (by show (y 1).val = 0 + 1 * (y 1).val; omega)
    conv_lhs => rw [e]
    exact upd_emb _ _ _ _

/-- The two halves of a per-token buffer. -/
def hv {V : Type} (a b : S128x128.Idx → V) : S256x128.Idx → V := fun y =>
  if (y 0).val < 128 then a (jx2 (⟨(y 0).val % 128, Nat.mod_lt _ (by omega)⟩ : Fin 128) (y 1)) else b (jx2 (⟨(y 0).val % 128, Nat.mod_lt _ (by omega)⟩ : Fin 128) (y 1))

theorem hv_eq {V : Type} (X : S256x128.Idx → V) (a b : S128x128.Idx → V) : upd (rH 1 (by omega)) (upd (rH 0 (by omega)) X a) b = hv a b := by
  funext y
  have h0 : (y 0).val < 256 := (y 0).isLt
  unfold hv
  by_cases h : (y 0).val < 128
  · rw [if_pos h]
    have e : y = (rH 0 (by omega)).emb (jx2 (⟨(y 0).val % 128, Nat.mod_lt _ (by omega)⟩ : Fin 128) (y 1)) := by
      funext i
      match i with
      | 0 => exact Fin.ext (by show (y 0).val = 128 * 0 + 1 * ((y 0).val % 128); omega)
      | 1 => exact Fin.ext (by show (y 1).val = 0 + 1 * (y 1).val; omega)
    rw [upd_ne]
    · conv_lhs => rw [e]
      exact upd_emb _ _ _ _
    · intro j hj
      have e := congrArg (fun z : S256x128.Idx => (z 0).val) hj
      have e' : 128 * 1 + 1 * (j 0).val = (y 0).val := e
      omega
  · rw [if_neg h]
    have e : y = (rH 1 (by omega)).emb (jx2 (⟨(y 0).val % 128, Nat.mod_lt _ (by omega)⟩ : Fin 128) (y 1)) := by
      funext i
      match i with
      | 0 => exact Fin.ext (by show (y 0).val = 128 * 1 + 1 * ((y 0).val % 128); omega)
      | 1 => exact Fin.ext (by show (y 1).val = 0 + 1 * (y 1).val; omega)
    conv_lhs => rw [e]
    exact upd_emb _ _ _ _

section Values

variable {F : FTy → Type} [FloatOps F]

/-- The targets' columns relative to the lane, of every token. -/
def TGof (HC : S2x128.Idx → BitVec 32) : S256x128.Idx → BitVec 32 := hv (tgtH (rowOf HC 0)) (tgtH (rowOf HC 1))
/-- Every token's scale by the constant. -/
def RSof (log2e : F .f32) (XS : S2x128.Idx → F .f32) : S256x128.Idx → F .f32 :=
  mulf (hv (toColF (rowOf XS 0)) (toColF (rowOf XS 1))) (broadcast S256x128 log2e)
/-- The running values at the start. -/
def st0 : St F := ⟨broadcast S256x128 (Scalar.ofBits .f32 0xFF800000#32), broadcast S256x128 (Scalar.ofBits .f32 0x00000000#32), broadcast S256x128 (Scalar.ofBits .f32 0x00000000#32)⟩

/-- The running values at the end. -/
def stE (log2e : F .f32) (XS : S2x128.Idx → F .f32) (HC : S2x128.Idx → BitVec 32) (WC : S30003.Idx → F .f32) (X : S256x12288.Idx → Elt F .fp8e4m3)
    (W : S30008x12288.Idx → Elt F .fp8e4m3) : St F :=
  drL (TGof HC) (RSof log2e XS) WC (prodOf X (blk W 58)) (run (TGof HC) (RSof log2e XS) WC X W st0 58) 4

def lseOut (ln2 : F .f32) (σ : St F) : S2x128.Idx → F .f32 := two (outLse (half0 (lseV ln2 σ.m σ.s))) (outLse (half1 (lseV ln2 σ.m σ.s)))
def lpOut (ln2 : F .f32) (σ : St F) : S2x128.Idx → F .f32 :=
  two (outLp (half0 (tlV ln2 σ.t)) (half0 (lseV ln2 σ.m σ.s))) (outLp (half1 (tlV ln2 σ.t)) (half1 (lseV ln2 σ.m σ.s)))

end Values

variable {nD : ℕ} {τ : Topo} {sig : RefSig} {Λ : Labels} {F : FTy → Type} [FloatOps F]

local notation "𝕄" => MT nD τ sig Unit (Elt F) ℕ (UR sig nD τ × Counters) ℕ

variable {defs : Defs nD τ sig (Elt F) Λ} {𝒱 : Variants} {bd : Option 𝒱.V} {α : Type}
  {Q : α → sProp (MT nD τ sig Unit (Elt F) ℕ (UR sig nD τ × Counters) ℕ)} {G : sProp (MT nD τ sig Unit (Elt F) ℕ (UR sig nD τ × Counters) ℕ)}

/-! ## Whole copies -/

/-- A source's elements. -/
def srcP {sp : Space} {s : Shape} {e : EltTy} (c : Dev nD) (x : Memref sig .tc sp s e) (f : Buf (Elt F) (x.view.loc (c : Thread nD τ))) : sProp (MT nD τ sig Unit (Elt F) ℕ (UR sig nD τ × Counters) ℕ) :=
  x.view.loc (c : Thread nD τ) ↦[x.view.set]{fullShare} f

/-- A whole copy on its way. -/
def flyW {sp sp' : Space} {s : Shape} {e : EltTy} (c : Dev nD) (x : Memref sig .tc sp s e) (d : Memref sig .tc sp' s e) (sm : DmaSem sig)
    (f : Buf (Elt F) (x.view.loc (c : Thread nD τ))) : sProp (MT nD τ sig Unit (Elt F) ℕ (UR sig nD τ × Counters) ℕ) :=
  Flight countersEmb (c : Thread nD τ) (.dma sm) () d.view.dmaCredit iprop(owns (c : Thread nD τ) d fullShare (x.view.read (Elt F) f) ∗ srcP c x f)

theorem wp_whole {sp sp' : Space} {s : Shape} {e : EltTy} {c : Dev nD} {x : Memref sig .tc sp s e} {d : Memref sig .tc sp' s e} {sm : DmaSem sig}
    {f : Buf (Elt F) (x.view.loc (c : Thread nD τ))} (hs : 0 < s.numel) {h1 h2 h3} {X : s.Idx → Elt F e} {k : PUnit → Prog (TpuEff nD τ sig (Elt F) Λ .tc) α} :
    iprop(owns (c : Thread nD τ) d fullShare X ∗ srcP c x f ∗ semVal ((c : Thread nD τ), SemLoc.dma sm) 0)
      ⊢ iprop((flyW c x d sm f -∗ wp frame (wpE defs 𝒱 (c : Thread nD τ) bd) Set.univ (k ⟨⟩) Q)
        -∗ (wp frame (wpE defs 𝒱 (c : Thread nD τ) bd) Set.univ (.op (.enqueueDma x (.here d) (.dma sm) h1 h2 h3) k) Q : sProp 𝕄)) := by
  unfold owns srcP
  iintro ⟨⟨%fd, %hfd, Hd⟩, Hr, Hc⟩ Hk
  iapply (wp_dmaLocal countersEmb 𝒱 (c : Thread nD τ) bd (src := x) (dst := d) (q := fullShare) (fs := f) ()
    _ rfl (View.dmaCredit_pos _ hs) (Finset.Subset.refl _)) $$ [Hd Hc Hr]
  · isplitl [Hr]; · iexact Hr
    isplitl [Hd]; · iexact Hd
    iexact Hc
  iintro Hf
  iapply Hk
  unfold flyW
  iapply (Flight_mono countersEmb (c : Thread nD τ) (show iprop((d.view.loc (c : Thread nD τ) ↦[d.view.set]{fullShare} (d.view.write (Elt F) fd (x.view.read (Elt F) f) Finset.univ)) ∗ (x.view.loc (c : Thread nD τ) ↦[x.view.set]{fullShare} f)) ⊢ _ from ?_)) $$ Hf
  unfold owns srcP
  iintro ⟨Hd, Hr⟩
  isplitl [Hd]
  · iexists _
    isplitr
    · ipureintro
      exact View.read_write_univ fd _
    · iexact Hd
  · iexact Hr

theorem wp_wholeWait {sp sp' : Space} {s : Shape} {e : EltTy} {c : Dev nD} {x : Memref sig .tc sp s e} {d : Memref sig .tc sp' s e} {sm : DmaSem sig}
    {f : Buf (Elt F) (x.view.loc (c : Thread nD τ))} {h1 h2} {k : PUnit → Prog (TpuEff nD τ sig (Elt F) Λ .tc) α} :
    iprop(flyW c x d sm f ∗ (∃ W, owes (c : Thread nD τ) 0 W))
      ⊢ iprop((iprop(owns (c : Thread nD τ) d fullShare (x.view.read (Elt F) f) ∗ srcP c x f ∗ semVal ((c : Thread nD τ), SemLoc.dma sm) 0 ∗ (∃ W, owes (c : Thread nD τ) 0 W))
          -∗ wp frame (wpE defs 𝒱 (c : Thread nD τ) bd) Set.univ (k ⟨⟩) Q)
        -∗ (wp frame (wpE defs 𝒱 (c : Thread nD τ) bd) Set.univ (.op (.waitDma2 sm x d h1 h2) k) Q : sProp 𝕄)) := by
  unfold flyW
  iintro ⟨H, %W, HW⟩ Hk
  iapply (wp_waitLocal countersEmb 𝒱 (c : Thread nD τ) bd (dstw := d) () rfl) $$ [H HW]
  · isplitl [H]; · iexact H
    iexact HW
  iintro ⟨⟨HD, HS⟩, Hc, HW⟩
  iapply Hk
  isplitl [HD]; · iexact HD
  isplitl [HS]; · iexact HS
  isplitl [Hc]; · iexact Hc
  iexists _; iexact HW

/-! ## The ring's first five blocks -/

section First

variable (c : Dev nD) (w : Memref sig .tc .hbm S30008x12288 .fp8e4m3) (ring : Memref sig .tc .vmem S6x512x12288 .fp8e4m3)
  (sems : DmaSems sig S6) (lsem : DmaSem sig) (fw : Buf (Elt F) (w.view.loc (c : Thread nD τ)))

def Fl (t n : ℕ) : sProp 𝕄 := if n < t then flyF c w ring sems fw n else Free c w ring sems fw n

theorem Fl_ne {t n : ℕ} (h : n ≠ t) : Fl c w ring sems fw t n = (Fl c w ring sems fw (t + 1) n : sProp 𝕄) := by
  unfold Fl
  by_cases h' : n < t
  · rw [if_pos h', if_pos (by omega)]
  · rw [if_neg h', if_neg (by omega)]
theorem Fl_at (t : ℕ) : Fl c w ring sems fw t t = (Free c w ring sems fw t : sProp 𝕄) := by unfold Fl; rw [if_neg (by omega)]
theorem Fl_suc (t : ℕ) : Fl c w ring sems fw (t + 1) t = (flyF c w ring sems fw t : sProp 𝕄) := by unfold Fl; rw [if_pos (by omega)]

/-- The five slots when `t` copies are on their way. -/
def Fst (t : ℕ) : sProp 𝕄 :=
  iprop((Fl c w ring sems fw t 0 ∗ Fl c w ring sems fw t 1 ∗ Fl c w ring sems fw t 2 ∗ Fl c w ring sems fw t 3 ∗ Fl c w ring sems fw t 4) ∗ Rest c w fw t)

theorem wp_first {t : ℕ} (ht : t < 5) {sl : ℕ} {hsl : sl < 6} {row : ℕ} {hr : row + 512 ≤ 30008} {hs hd} (e : sl = t % 6) (hrow : row = 512 * t)
    {K : Prog (TpuEff nD τ sig (Elt F) Λ .tc) α} :
    Fst c w ring sems fw t
      ⊢ iprop((Fst c w ring sems fw (t + 1) -∗ wp frame (wpE defs 𝒱 (c : Thread nD τ) bd) Set.univ K Q)
        -∗ (wp frame (wpE defs 𝒱 (c : Thread nD τ) bd) Set.univ (startF w ring sems sl hsl row hr hs hd K) Q : sProp 𝕄)) := by
  unfold Fst
  obtain rfl | rfl | rfl | rfl | rfl : t = 0 ∨ t = 1 ∨ t = 2 ∨ t = 3 ∨ t = 4 := by omega
  · rw [Fl_at c w ring sems fw 0, Fl_ne c w ring sems fw (t := 0) (n := 1) (by omega), Fl_ne c w ring sems fw (t := 0) (n := 2) (by omega), Fl_ne c w ring sems fw (t := 0) (n := 3) (by omega), Fl_ne c w ring sems fw (t := 0) (n := 4) (by omega), Fl_suc c w ring sems fw 0]
    iintro ⟨⟨H0, H1, H2, H3, H4⟩, HR⟩ Hk
    iapply (Free_start c w ring sems fw (by omega) e hrow) $$ [H0 HR]
    · isplitl [H0]; · iexact H0
      iexact HR
    iintro ⟨H0, HR⟩
    iapply Hk
    iframe H0 H1 H2 H3 H4 HR
  · rw [Fl_at c w ring sems fw 1, Fl_ne c w ring sems fw (t := 1) (n := 0) (by omega), Fl_ne c w ring sems fw (t := 1) (n := 2) (by omega), Fl_ne c w ring sems fw (t := 1) (n := 3) (by omega), Fl_ne c w ring sems fw (t := 1) (n := 4) (by omega), Fl_suc c w ring sems fw 1]
    iintro ⟨⟨H0, H1, H2, H3, H4⟩, HR⟩ Hk
    iapply (Free_start c w ring sems fw (by omega) e hrow) $$ [H1 HR]
    · isplitl [H1]; · iexact H1
      iexact HR
    iintro ⟨H1, HR⟩
    iapply Hk
    iframe H0 H1 H2 H3 H4 HR
  · rw [Fl_at c w ring sems fw 2, Fl_ne c w ring sems fw (t := 2) (n := 0) (by omega), Fl_ne c w ring sems fw (t := 2) (n := 1) (by omega), Fl_ne c w ring sems fw (t := 2) (n := 3) (by omega), Fl_ne c w ring sems fw (t := 2) (n := 4) (by omega), Fl_suc c w ring sems fw 2]
    iintro ⟨⟨H0, H1, H2, H3, H4⟩, HR⟩ Hk
    iapply (Free_start c w ring sems fw (by omega) e hrow) $$ [H2 HR]
    · isplitl [H2]; · iexact H2
      iexact HR
    iintro ⟨H2, HR⟩
    iapply Hk
    iframe H0 H1 H2 H3 H4 HR
  · rw [Fl_at c w ring sems fw 3, Fl_ne c w ring sems fw (t := 3) (n := 0) (by omega), Fl_ne c w ring sems fw (t := 3) (n := 1) (by omega), Fl_ne c w ring sems fw (t := 3) (n := 2) (by omega), Fl_ne c w ring sems fw (t := 3) (n := 4) (by omega), Fl_suc c w ring sems fw 3]
    iintro ⟨⟨H0, H1, H2, H3, H4⟩, HR⟩ Hk
    iapply (Free_start c w ring sems fw (by omega) e hrow) $$ [H3 HR]
    · isplitl [H3]; · iexact H3
      iexact HR
    iintro ⟨H3, HR⟩
    iapply Hk
    iframe H0 H1 H2 H3 H4 HR
  · rw [Fl_at c w ring sems fw 4, Fl_ne c w ring sems fw (t := 4) (n := 0) (by omega), Fl_ne c w ring sems fw (t := 4) (n := 1) (by omega), Fl_ne c w ring sems fw (t := 4) (n := 2) (by omega), Fl_ne c w ring sems fw (t := 4) (n := 3) (by omega), Fl_suc c w ring sems fw 4]
    iintro ⟨⟨H0, H1, H2, H3, H4⟩, HR⟩ Hk
    iapply (Free_start c w ring sems fw (by omega) e hrow) $$ [H4 HR]
    · isplitl [H4]; · iexact H4
      iexact HR
    iintro ⟨H4, HR⟩
    iapply Hk
    iframe H0 H1 H2 H3 H4 HR

/-- With five on their way the ring stands before block 0. -/
theorem Fst_RS : iprop(Fst c w ring sems fw 5 ∗ Free c w ring sems fw 5 ∗ Done c w fw 0 ∗ semVal ((c : Thread nD τ), SemLoc.dma lsem) 0 ∗ (∃ W, owes (c : Thread nD τ) 0 W))
    ⊢ (RS c w ring sems lsem fw 0 : sProp 𝕄) := by
  have eb : ∀ n, n < 5 → Fl c w ring sems fw 5 n = (Busy c w ring sems lsem fw (0 + n) : sProp 𝕄) := by
    intro n hn; unfold Fl Busy; rw [if_pos hn, Nat.zero_add, if_pos (by omega)]
  have el : LastC c lsem 0 = (semVal ((c : Thread nD τ), SemLoc.dma lsem) 0 : sProp 𝕄) := by unfold LastC; rw [if_neg (by omega)]
  unfold Fst RS
  rw [eb 0 (by omega), eb 1 (by omega), eb 2 (by omega), eb 3 (by omega), eb 4 (by omega), el]
  iintro ⟨⟨⟨H0, H1, H2, H3, H4⟩, HR⟩, HF, HD, HL, HW⟩
  isplitl [H0]; · iexact H0
  isplitl [H1]; · iexact H1
  isplitl [H2]; · iexact H2
  isplitl [H3]; · iexact H3
  isplitl [H4]; · iexact H4
  isplitl [HF]; · iexact HF
  isplitl [HR]; · iexact HR
  isplitl [HD]; · iexact HD
  isplitl [HL]; · iexact HL
  iexact HW

/-- After the last block every slot is free again and every row home. -/
theorem RS_end : RS c w ring sems lsem fw 59
    ⊢ (iprop((Free c w ring sems fw 59 ∗ Free c w ring sems fw 60 ∗ Free c w ring sems fw 61 ∗ Free c w ring sems fw 62 ∗ Free c w ring sems fw 63 ∗ Free c w ring sems fw 64)
        ∗ Done c w fw 59 ∗ semVal ((c : Thread nD τ), SemLoc.dma lsem) 0 ∗ (∃ W, owes (c : Thread nD τ) 0 W)) : sProp 𝕄) := by
  have eb : ∀ n, 59 ≤ n → Busy c w ring sems lsem fw n = (Free c w ring sems fw n : sProp 𝕄) := by
    intro n hn; unfold Busy; rw [if_neg (by omega), if_neg (by omega)]
  have el : LastC c lsem 59 = (semVal ((c : Thread nD τ), SemLoc.dma lsem) 0 : sProp 𝕄) := by unfold LastC; rw [if_neg (by omega)]
  unfold RS
  rw [eb 59 (by omega), eb (59 + 1) (by omega), eb (59 + 2) (by omega), eb (59 + 3) (by omega), eb (59 + 4) (by omega), el]
  iintro ⟨H0, H1, H2, H3, H4, HF, -, HD, HL, HW⟩
  isplitl [H0 H1 H2 H3 H4 HF]
  · isplitl [H0]; · iexact H0
    isplitl [H1]; · iexact H1
    isplitl [H2]; · iexact H2
    isplitl [H3]; · iexact H3
    isplitl [H4]; · iexact H4
    iexact HF
  isplitl [HD]; · iexact HD
  isplitl [HL]; · iexact HL
  iexact HW

end First

/-! ## Halves, fills, results -/

variable {c : Dev nD}

theorem wp_tgtK {hc : Memref sig .tc .vmem S2x128 .i32} {tg : Memref sig .tc .vmem S256x128 .i32} {h : ℕ} {hh : h < 2} {HC : S2x128.Idx → BitVec 32} {X : S256x128.Idx → BitVec 32}
    {K : Prog (TpuEff nD τ sig (Elt F) Λ .tc) α} :
    iprop(owns (Val := Elt F) (c : Thread nD τ) hc fullShare HC ∗ owns (Val := Elt F) (c : Thread nD τ) tg fullShare X)
      ⊢ iprop((iprop(owns (Val := Elt F) (c : Thread nD τ) hc fullShare HC ∗ owns (Val := Elt F) (c : Thread nD τ) tg fullShare (upd (rH h hh) X (tgtH (rowOf HC h)))) -∗ wp frame (wpE defs 𝒱 (c : Thread nD τ) bd) Set.univ K Q)
        -∗ (wp frame (wpE defs 𝒱 (c : Thread nD τ) bd) Set.univ (tgtK hc tg h hh K) Q : sProp 𝕄)) := by
  unfold tgtK
  iintro ⟨Hh, Hg⟩ Hk
  iapply wp_loadO $$ Hh
  iintro Hh
  irw [rowOf_eq HC hh]
  iapply wp_loadO $$ Hg
  iintro Hg
  rw [shapeCast_id]
  iapply wp_storeO $$ Hg
  iintro Hg
  iapply Hk
  isplitl [Hh]; · iexact Hh
  iexact Hg

theorem wp_rsK {xs : Memref sig .tc .vmem S2x128 .f32} {rs : Memref sig .tc .vmem S256x128 .f32} {h : ℕ} {hh : h < 2} {XS : S2x128.Idx → F .f32} {X : S256x128.Idx → F .f32}
    {K : Prog (TpuEff nD τ sig (Elt F) Λ .tc) α} :
    iprop(owns (c : Thread nD τ) xs fullShare XS ∗ owns (c : Thread nD τ) rs fullShare X)
      ⊢ iprop((iprop(owns (c : Thread nD τ) xs fullShare XS ∗ owns (c : Thread nD τ) rs fullShare (upd (rH h hh) X (toColF (rowOf XS h)))) -∗ wp frame (wpE defs 𝒱 (c : Thread nD τ) bd) Set.univ K Q)
        -∗ (wp frame (wpE defs 𝒱 (c : Thread nD τ) bd) Set.univ (rsK xs rs h hh K) Q : sProp 𝕄)) := by
  unfold rsK
  iintro ⟨Hh, Hg⟩ Hk
  iapply wp_loadO $$ Hh
  iintro Hh
  irw [rowOf_eq XS hh]
  iapply wp_loadO $$ Hg
  iintro Hg
  rw [shapeCast_id]
  iapply wp_storeO $$ Hg
  iintro Hg
  iapply Hk
  isplitl [Hh]; · iexact Hh
  iexact Hg

theorem wp_fillK {b : Memref sig .tc .vmem S256x128 .f32} {v X : S256x128.Idx → F .f32} {K : Prog (TpuEff nD τ sig (Elt F) Λ .tc) α} :
    owns (c : Thread nD τ) b fullShare X
      ⊢ iprop((owns (c : Thread nD τ) b fullShare v -∗ wp frame (wpE defs 𝒱 (c : Thread nD τ) bd) Set.univ K Q)
        -∗ (wp frame (wpE defs 𝒱 (c : Thread nD τ) bd) Set.univ (fillK b v K) Q : sProp 𝕄)) := by
  unfold fillK
  rw [shapeCast_id]
  iintro H Hk
  iapply wp_loadO $$ H
  iintro H
  iapply wp_storeO $$ H
  rw [upd_all]
  iintro H
  iapply Hk $$ H

theorem wp_outK {b : Memref sig .tc .vmem S2x128 .f32} {h : ℕ} {hh : h < 2} {v : FVec F S1x128 .f32} {X : S2x128.Idx → F .f32} {K : Prog (TpuEff nD τ sig (Elt F) Λ .tc) α} :
    owns (c : Thread nD τ) b fullShare X
      ⊢ iprop((owns (c : Thread nD τ) b fullShare (upd (rRow h hh) X v) -∗ wp frame (wpE defs 𝒱 (c : Thread nD τ) bd) Set.univ K Q)
        -∗ (wp frame (wpE defs 𝒱 (c : Thread nD τ) bd) Set.univ (outK b h hh v K) Q : sProp 𝕄)) := by
  unfold outK
  iintro H Hk
  iapply wp_loadO $$ H
  iintro H
  iapply wp_storeO $$ H
  iintro H
  iapply Hk $$ H

variable {x : Memref sig .tc .hbm S256x12288 .fp8e4m3} {xs : Memref sig .tc .vmem S2x128 .f32} {hc : Memref sig .tc .vmem S2x128 .i32}
  {wsA : Memref sig .tc .hbm S30003 .f32} {lp lse : Memref sig .tc .vmem S2x128 .f32}
  {xc : Memref sig .tc .vmem S256x12288 .fp8e4m3} {ws : Memref sig .tc .vmem S30003 .f32} {tg : Memref sig .tc .vmem S256x128 .i32}
  {rs mm ss tt : Memref sig .tc .vmem S256x128 .f32} {xsem csem : DmaSem sig}
  {fx : Buf (Elt F) (x.view.loc (c : Thread nD τ))} {fs : Buf (Elt F) (wsA.view.loc (c : Thread nD τ))}
  {XS : S2x128.Idx → F .f32} {HC : S2x128.Idx → BitVec 32}

/-- The wait for `x` and the scales, and the fills. -/
theorem wp_prepK {log2e : F .f32} {h1 h2 h3 h4} {A B C D : S256x128.Idx → F .f32} {K : Prog (TpuEff nD τ sig (Elt F) Λ .tc) α} :
    iprop(flyW c x xc xsem fx ∗ flyW c wsA ws csem fs ∗ owns (c : Thread nD τ) xs fullShare XS ∗ owns (c : Thread nD τ) rs fullShare A
        ∗ owns (c : Thread nD τ) mm fullShare B ∗ owns (c : Thread nD τ) ss fullShare C ∗ owns (c : Thread nD τ) tt fullShare D ∗ (∃ W, owes (c : Thread nD τ) 0 W))
      ⊢ iprop((iprop((owns (c : Thread nD τ) xc fullShare (x.view.read (Elt F) fx) ∗ srcP c x fx ∗ semVal ((c : Thread nD τ), SemLoc.dma xsem) 0)
          ∗ (owns (c : Thread nD τ) ws fullShare (wsA.view.read (Elt F) fs) ∗ srcP c wsA fs ∗ semVal ((c : Thread nD τ), SemLoc.dma csem) 0)
          ∗ owns (c : Thread nD τ) xs fullShare XS ∗ owns (c : Thread nD τ) rs fullShare (RSof log2e XS) ∗ PT c mm ss tt st0 ∗ (∃ W, owes (c : Thread nD τ) 0 W))
          -∗ wp frame (wpE defs 𝒱 (c : Thread nD τ) bd) Set.univ K Q)
        -∗ (wp frame (wpE defs 𝒱 (c : Thread nD τ) bd) Set.univ (prepK x xs wsA xc ws rs mm ss tt xsem csem log2e h1 h2 h3 h4 K) Q : sProp 𝕄)) := by
  unfold prepK
  iintro ⟨HX, HS, Hxs, Hrs, Hm, Hs, Ht, HW⟩ Hk
  iapply wp_wholeWait $$ [HX HW]
  · isplitl [HX]; · iexact HX
    iexact HW
  iintro ⟨HXd, HXs, HXc, HW⟩
  iapply wp_rsK $$ [Hxs Hrs]
  · isplitl [Hxs]; · iexact Hxs
    iexact Hrs
  iintro ⟨Hxs, Hrs⟩
  iapply wp_rsK $$ [Hxs Hrs]
  · isplitl [Hxs]; · iexact Hxs
    iexact Hrs
  rw [hv_eq]
  iintro ⟨Hxs, Hrs⟩
  iapply wp_wholeWait $$ [HS HW]
  · isplitl [HS]; · iexact HS
    iexact HW
  iintro ⟨HSd, HSs, HSc, HW⟩
  iapply wp_loadO $$ Hrs
  iintro Hrs
  irw [rAll_read (hv (toColF (rowOf XS 0)) (toColF (rowOf XS 1)))]
  iapply wp_fillK $$ Hrs
  iintro Hrs
  iapply wp_fillK $$ Hm
  iintro Hm
  iapply wp_fillK $$ Hs
  iintro Hs
  iapply wp_fillK $$ Ht
  iintro Ht
  iapply Hk
  isplitl [HXd HXs HXc]
  · isplitl [HXd]; · iexact HXd
    isplitl [HXs]; · iexact HXs
    iexact HXc
  isplitl [HSd HSs HSc]
  · isplitl [HSd]; · iexact HSd
    isplitl [HSs]; · iexact HSs
    iexact HSc
  isplitl [Hxs]; · iexact Hxs
  isplitl [Hrs]; · iexact Hrs
  isplitl [Hm Hs Ht]
  · unfold PT st0
    isplitl [Hm]; · iexact Hm
    isplitl [Hs]; · iexact Hs
    iexact Ht
  iexact HW

/-- The lines after the trips. -/
theorem wp_finK {ln2 : F .f32} {WC : S30003.Idx → F .f32} {TG : S256x128.Idx → BitVec 32} {RSv : S256x128.Idx → F .f32} {σ : St F} {X : S256x12288.Idx → Elt F .fp8e4m3}
    {B : S512x12288.Idx → Elt F .fp8e4m3} {s : Mxu F} {cur : ℕ → Fin 2 → ℕ → FVec F S64x256 .f32} (H : Inv s rg0 (stAt 0 0 0 cur (fun q i => some (prodOf X B q i))))
    {A L : S2x128.Idx → F .f32} {K : Prog (TpuEff nD τ sig (Elt F) Λ .tc) α}
    (hK : iprop((CT c ws tg rs WC TG RSv ∗ PT c mm ss tt (drL TG RSv WC (prodOf X B) σ 4)) ∗ owns (c : Thread nD τ) lp fullShare (lpOut ln2 (drL TG RSv WC (prodOf X B) σ 4))
        ∗ owns (c : Thread nD τ) lse fullShare (lseOut ln2 (drL TG RSv WC (prodOf X B) σ 4)) ∗ G) ⊢ wp frame (wpE defs 𝒱 (c : Thread nD τ) bd) Set.univ K Q) :
    iprop((CT c ws tg rs WC TG RSv ∗ PT c mm ss tt σ) ∗ owns (c : Thread nD τ) lp fullShare A ∗ owns (c : Thread nD τ) lse fullShare L ∗ G)
      ⊢ (wp frame (wpE defs 𝒱 (c : Thread nD τ) bd) Set.univ (finK lp lse ws tg rs mm ss tt ln2 s K) Q : sProp 𝕄) := by
  have hV : ∀ (i : ℕ) (hi : i < 4) (q : Fin 2), stAt 0 0 i cur (fun q i => some (prodOf X B q i)) q (4 * 1 + i) = some (prodOf X B q i) := by
    intro i hi q
    unfold stAt
    have e : (4 * 1 + i) % 4 = i := by omega
    rw [if_neg (by omega), if_pos (by omega), e]
  have next : ∀ (i : ℕ) (hi : i < 4) (s' : Mxu F), Inv s' rg0 (popSt (popSt (stAt 0 0 i cur (fun q i => some (prodOf X B q i))) 0 (4 * 1 + i)) 1 (4 * 1 + i)) →
      Inv s' rg0 (stAt 0 0 (i + 1) cur (fun q i => some (prodOf X B q i))) := fun i hi s' H' => inv_cast H' rfl (popSt_stAt 0 0 i (by omega) hi _ _)
  unfold finK
  refine wp_lastK H (hV 0 (by omega)) fun s H => ?_
  refine wp_lastK (next 0 (by omega) s H) (hV 1 (by omega)) fun s H => ?_
  refine wp_lastK (next 1 (by omega) s H) (hV 2 (by omega)) fun s H => ?_
  refine wp_lastK (next 2 (by omega) s H) (hV 3 (by omega)) fun s H => ?_
  have H4 := next 3 (by omega) s H
  have hD : s.Drained := by
    refine ⟨fun q r => by rw [H4.reg]; rfl, fun q R => ?_⟩
    rw [H4.live]
    unfold stAt
    by_cases h : R.val / 64 / 4 = 0
    · rw [if_pos h]; rfl
    · rw [if_neg h, if_neg (by omega)]; rfl
  have e4 : updS TG (ls3 (pc RSv 3) WC fun q => prodOf X B q 3) 3 (updS TG (ls3 (pc RSv 2) WC fun q => prodOf X B q 2) 2
      (updS TG (ls3 (pc RSv 1) WC fun q => prodOf X B q 1) 1 (updS TG (ls3 (pc RSv 0) WC fun q => prodOf X B q 0) 0 σ))) = drL TG RSv WC (prodOf X B) σ 4 := rfl
  rw [e4]
  generalize drL TG RSv WC (prodOf X B) σ 4 = σ' at hK ⊢
  unfold PT at hK ⊢
  iintro ⟨⟨HC, Hm, Hs, Ht⟩, Hlp, Hlse, HG⟩
  iapply wp_loadO $$ Hm
  iintro Hm
  iapply wp_loadO $$ Hs
  iintro Hs
  iapply wp_loadO $$ Ht
  iintro Ht
  irw [rAll_read σ'.m, rAll_read σ'.s, rAll_read σ'.t]
  iapply wp_outK $$ Hlse
  iintro Hlse
  iapply wp_outK $$ Hlp
  iintro Hlp
  iapply wp_outK $$ Hlse
  rw [two_eq]
  iintro Hlse
  iapply wp_outK $$ Hlp
  rw [two_eq]
  iintro Hlp
  iapply (wp_assume 𝒱 (c : Thread nD τ) bd Set.univ hD)
  iapply hK
  isplitl [HC Hm Hs Ht]
  · isplitl [HC]; · iexact HC
    isplitl [Hm]; · iexact Hm
    isplitl [Hs]; · iexact Hs
    iexact Ht
  isplitl [Hlp]; · iexact Hlp
  isplitl [Hlse]; · iexact Hlse
  iexact HG

/-! ## The whole body's resources -/

section Whole

variable (c : Dev nD) (x : Memref sig .tc .hbm S256x12288 .fp8e4m3) (xs : Memref sig .tc .vmem S2x128 .f32) (hc : Memref sig .tc .vmem S2x128 .i32)
  (w : Memref sig .tc .hbm S30008x12288 .fp8e4m3) (wsA : Memref sig .tc .hbm S30003 .f32)
  (lp lse : Memref sig .tc .vmem S2x128 .f32)
  (ring : Memref sig .tc .vmem S6x512x12288 .fp8e4m3) (xc : Memref sig .tc .vmem S256x12288 .fp8e4m3)
  (ws : Memref sig .tc .vmem S30003 .f32) (tg : Memref sig .tc .vmem S256x128 .i32)
  (rs mm ss tt : Memref sig .tc .vmem S256x128 .f32)
  (sems : DmaSems sig S6) (xsem csem lsem : DmaSem sig)
  (fx : Buf (Elt F) (x.view.loc (c : Thread nD τ))) (fs : Buf (Elt F) (wsA.view.loc (c : Thread nD τ))) (fw : Buf (Elt F) (w.view.loc (c : Thread nD τ)))
  (XS : S2x128.Idx → F .f32) (HC : S2x128.Idx → BitVec 32)

/-- What is the same before and after: the copies' sources and cells, the input windows, the scratch at anything. -/
def BOwn : sProp 𝕄 :=
  iprop(((∃ X : S256x12288.Idx → Elt F .fp8e4m3, owns (c : Thread nD τ) xc fullShare X) ∗ srcP c x fx ∗ semVal ((c : Thread nD τ), SemLoc.dma xsem) 0)
    ∗ ((∃ X : S30003.Idx → F .f32, owns (c : Thread nD τ) ws fullShare X) ∗ srcP c wsA fs ∗ semVal ((c : Thread nD τ), SemLoc.dma csem) 0)
    ∗ owns (c : Thread nD τ) xs fullShare XS ∗ owns (Val := Elt F) (c : Thread nD τ) hc fullShare HC
    ∗ (∃ X : S256x128.Idx → BitVec 32, owns (Val := Elt F) (c : Thread nD τ) tg fullShare X) ∗ (∃ X : S256x128.Idx → F .f32, owns (c : Thread nD τ) rs fullShare X)
    ∗ (∃ X : S256x128.Idx → F .f32, owns (c : Thread nD τ) mm fullShare X) ∗ (∃ X : S256x128.Idx → F .f32, owns (c : Thread nD τ) ss fullShare X)
    ∗ (∃ X : S256x128.Idx → F .f32, owns (c : Thread nD τ) tt fullShare X)
    ∗ semVal ((c : Thread nD τ), SemLoc.dma lsem) 0 ∗ (∃ W, owes (c : Thread nD τ) 0 W))

/-- Before the body. -/
def BPre : sProp 𝕄 :=
  iprop(BOwn c x xs hc wsA xc ws tg rs mm ss tt xsem csem lsem fx fs XS HC
    ∗ (Fst c w ring sems fw 0 ∗ Free c w ring sems fw 5 ∗ Done c w fw 0)
    ∗ (∃ X : S2x128.Idx → F .f32, owns (c : Thread nD τ) lp fullShare X) ∗ (∃ X : S2x128.Idx → F .f32, owns (c : Thread nD τ) lse fullShare X))

/-- After it: the results are there. -/
def BPost (log2e ln2 : F .f32) : sProp 𝕄 :=
  iprop(BOwn c x xs hc wsA xc ws tg rs mm ss tt xsem csem lsem fx fs XS HC
    ∗ ((Free c w ring sems fw 59 ∗ Free c w ring sems fw 60 ∗ Free c w ring sems fw 61 ∗ Free c w ring sems fw 62 ∗ Free c w ring sems fw 63 ∗ Free c w ring sems fw 64) ∗ Done c w fw 59)
    ∗ owns (c : Thread nD τ) lp fullShare (lpOut ln2 (stE log2e XS HC (wsA.view.read (Elt F) fs) (x.view.read (Elt F) fx) (w.view.read (Elt F) fw)))
    ∗ owns (c : Thread nD τ) lse fullShare (lseOut ln2 (stE log2e XS HC (wsA.view.read (Elt F) fs) (x.view.read (Elt F) fx) (w.view.read (Elt F) fw))))

end Whole

end Cert.Head

end
-- ==== Proof.TextK.lean ====
/- The printed kernel's text between and inside its loops, each stretch under a name of its own, and the parts of a trip that
   branch, once for each way a trip can go. -/
module

public import proofs.«01_k».proof.Kernel
public import Idealize.ShloMosaic.Lib.Tactic

@[expose] public section

set_option maxRecDepth 100000

noncomputable section

namespace Cert.Kernel

open Idealize.ShloMosaic Idealize.SL.Sem
open Idealize.ShloMosaic.RefSig (ofTc tcTables tileCredit tileCredit_eq_zero tileCredit_pos)

variable {F : FTy → Type} [FloatOps F]
variable [Facts]
open Facts₀ Facts
variable (arg0 : Memref sig .tc .hbm S256x12288 .fp8e4m3) (harg0 : arg0.IsWhole) (arg1 : Memref sig .tc .vmem S2x128 .f32)
    (harg1 : arg1.IsWhole) (arg2 : Memref sig .tc .vmem S2x128 .i32) (harg2 : arg2.IsWhole)
    (arg3 : Memref sig .tc .hbm S30008x12288 .fp8e4m3) (harg3 : arg3.IsWhole) (arg4 : Memref sig .tc .hbm S30003 .f32)
    (harg4 : arg4.IsWhole) (arg5 : Memref sig .tc .vmem S2x128 .f32) (harg5 : arg5.IsWhole)
    (arg6 : Memref sig .tc .vmem S2x128 .f32) (harg6 : arg6.IsWhole) (arg7 : Memref sig .tc .vmem S6x512x12288 .fp8e4m3)
    (harg7 : arg7.IsWhole) (arg8 : Memref sig .tc .vmem S256x12288 .fp8e4m3) (harg8 : arg8.IsWhole)
    (arg9 : Memref sig .tc .vmem S30003 .f32) (harg9 : arg9.IsWhole) (arg10 : Memref sig .tc .vmem S256x128 .i32)
    (harg10 : arg10.IsWhole) (arg11 : Memref sig .tc .vmem S256x128 .f32) (harg11 : arg11.IsWhole)
    (arg12 : Memref sig .tc .vmem S256x128 .f32) (harg12 : arg12.IsWhole) (arg13 : Memref sig .tc .vmem S256x128 .f32)
    (harg13 : arg13.IsWhole) (arg14 : Memref sig .tc .vmem S256x128 .f32) (harg14 : arg14.IsWhole) (arg15 : DmaSems sig S6)
    (arg16 : DmaSems sig S_) (arg17 : DmaSems sig S_) (arg18 : DmaSems sig S_)
include arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18

/-- One trip of the loop that fills the ring. -/
def loop1Body (k0_t1 : Fin k0_t1_loop.trips) : Prog (TpuEff nD τ sig (Elt F) Λ₀ .tc) PUnit := do
  let c0_i32 : BitVec 32 := 0#32
  let c59_i32 : BitVec 32 := 59#32
  let v0 : BitVec 32 := Scalar.addi c0_i32 c59_i32
  let c0_i32_0 : BitVec 32 := 0#32
  let c0_i32_1 : BitVec 32 := 0#32
  let c5_i32 : BitVec 32 := 5#32
  let c1_i32 : BitVec 32 := 1#32
  let arg19 : BitVec 32 := Scf.iv c0_i32_1 c1_i32 k0_t1
  let c6_i32 : BitVec 32 := 6#32
  let v66 : BitVec 1 := Scalar.cmpi .sge arg19 c0_i32_0
  let c1_i32_24 : BitVec 32 := 1#32
  let v67 : BitVec 32 := Scalar.subi v0 c1_i32_24
  let v68 : BitVec 1 := Scalar.cmpi .slt arg19 v67
  let v69 : BitVec 1 := Scalar.andi v66 v68
  let v70 : BitVec 32 := Scalar.extui v69
  let c0_i32_25 : BitVec 32 := 0#32
  let v71 : BitVec 1 := Scalar.cmpi .ne v70 c0_i32_25
  if k0_h1 : k0_cond1 k0_t1 = 1#1 then do
    let v76 : BitVec 32 := Scalar.subi arg19 c0_i32_0
    let c512_i32 : BitVec 32 := 512#32
    let v77 : BitVec 32 := Scalar.muli v76 c512_i32
    let v78 : BitVec 32 := v77
    let v79 : DmaSems sig S1 := arg15.slice (Rect.unit (s := S6) (k0_off1 k0_t1) S1.size (k0_off1_inb k0_t1 k0_h1))
    let v80 : DmaSems sig S_ := v79.squeeze S_ squeezes_S1_S_
    let c0_i32_28 : BitVec 32 := 0#32
    let c0_i32_29 : BitVec 32 := 0#32
    let v81 : Memref sig .tc .vmem S1x512x12288 .fp8e4m3 := arg7.slice (Rect.unit (s := S6x512x12288) (k0_off2 k0_t1) S1x512x12288.size (k0_off2_inb k0_t1 k0_h1)) (fun _ => rfl)
    let v82 : Memref sig .tc .vmem S512x12288 .fp8e4m3 := v81.squeeze S512x12288 squeezes_S1x512x12288_S512x12288
    let c0_i32_30 : BitVec 32 := 0#32
    let v83 : Memref sig .tc .hbm S512x12288 .fp8e4m3 := arg3.slice (Rect.unit (s := S30008x12288) (k0_off3 k0_t1) S512x12288.size (k0_off3_inb k0_t1 k0_h1)) (fun _ => rfl)
    Prog.lift (.enqueueDma v83 (.here v82) (.dma v80.sem) (harg3.wordExact_slice rfl _ (k0_off3_wordsfp8e4m3 k0_t1 k0_h1)) ((harg7.wordExact_slice rfl _ (k0_off2_wordsfp8e4m3 k0_t1 k0_h1)).reshape _ _) ⟨Or.inl rfl, trivial⟩)
    pure ⟨⟩
  else do
    pure ⟨⟩
  let c1_i32_26 : BitVec 32 := 1#32
  let v72 : BitVec 32 := Scalar.subi v0 c1_i32_26
  let v73 : BitVec 1 := Scalar.cmpi .eq arg19 v72
  let v74 : BitVec 32 := Scalar.extui v73
  let c0_i32_27 : BitVec 32 := 0#32
  let v75 : BitVec 1 := Scalar.cmpi .ne v74 c0_i32_27
  if k0_h2 : k0_cond2 k0_t1 = 1#1 then do
    let v76 : BitVec 32 := Scalar.subi arg19 c0_i32_0
    let c512_i32 : BitVec 32 := 512#32
    let v77 : BitVec 32 := Scalar.muli v76 c512_i32
    let v78 : BitVec 32 := v77
    let c0_i32_28 : BitVec 32 := 0#32
    let c0_i32_29 : BitVec 32 := 0#32
    let v79 : Memref sig .tc .vmem S1x312x12288 .fp8e4m3 := arg7.slice (Rect.unit (s := S6x512x12288) (k0_off4 k0_t1) S1x312x12288.size (k0_off4_inb k0_t1 k0_h2)) (fun _ => rfl)
    let v80 : Memref sig .tc .vmem S312x12288 .fp8e4m3 := v79.squeeze S312x12288 squeezes_S1x312x12288_S312x12288
    let c0_i32_30 : BitVec 32 := 0#32
    let v81 : Memref sig .tc .hbm S312x12288 .fp8e4m3 := arg3.slice (Rect.unit (s := S30008x12288) (k0_off5 k0_t1) S312x12288.size (k0_off5_inb k0_t1 k0_h2)) (fun _ => rfl)
    Prog.lift (.enqueueDma v81 (.here v80) (.dma arg18.sem) (harg3.wordExact_slice rfl _ (k0_off5_wordsfp8e4m3 k0_t1 k0_h2)) ((harg7.wordExact_slice rfl _ (k0_off4_wordsfp8e4m3 k0_t1 k0_h2)).reshape _ _) ⟨Or.inl rfl, trivial⟩)
    pure ⟨⟩
  else do
    pure ⟨⟩
  pure ⟨⟩

/-- What follows it up to the targets' columns. -/
def tail80 : Prog (TpuEff nD τ sig (Elt F) Λ₀ .tc) (Σ' (k0_mxu1 : Mxu F), BitVec 32) := do
  have k0_mxu1 : Mxu F := Mxu.init
  let c0_i32 : BitVec 32 := 0#32
  let c59_i32 : BitVec 32 := 59#32
  let v0 : BitVec 32 := Scalar.addi c0_i32 c59_i32
  let c0_i32_1 : BitVec 32 := 0#32
  let c5_i32 : BitVec 32 := 5#32
  have v2 : IVec S128x128 32 := iota .tc S128x128 32 [1] iota_S128x128_d1_w32
  let v3 : Vec F S1x128 .i32 ← Prog.lift (.load arg2 (Rect.unit (s := S2x128) ![0, 0] S1x128.size inb_S2x128_S1x128_0_0).toLoadRect (View.loadsAt_vmem h_S1x128))
  have v4 : IVec S128x128 32 := iota .tc S128x128 32 [0] iota_S128x128_d0_w32
  have v5 : IVec S128x128 32 := iota .tc S128x128 32 [1] iota_S128x128_d1_w32
  have v6 : IVec S128x128 1 := cmpi .eq v4 v5
  have v7 : IVec S1x128 32 := shapeCast S1x128 v3 shapeCasts_S1x128_S1x128
  have v8 : IVec S128x128 32 := broadcastTo S128x128 v7 broadcasts_S1x128_S128x128
  let c0_i32_4 : BitVec 32 := 0#32
  have v9 : IVec S128x128 32 := broadcast S128x128 c0_i32_4
  have v10 : IVec S128x128 32 := select v6 v8 v9
  have cst : IVec S128 32 := constantI S128 32 0#32
  have v11 : IVec S128 32 := multiReductionI .add [1] S128 v10 0#32 reduces_S128x128_S128 rfl
  have v12 : IVec S128x1 32 := shapeCast S128x1 v11 shapeCasts_S128_S128x1
  have v13 : IVec S128x1 32 := shapeCast S128x1 v12 shapeCasts_S128x1_S128x1
  have v14 : IVec S128x128 32 := broadcastTo S128x128 v13 broadcasts_S128x1_S128x128
  have v15 : IVec S128x128 32 := subi v14 v2
  let v16 : Vec F S128x128 .i32 ← Prog.lift (.load arg10 (Rect.unit (s := S256x128) ![0, 0] S128x128.size inb_S256x128_S128x128_0_0).toLoadRect (View.loadsAt_vmem h_S128x128))
  have v17 : IVec S128x128 32 := shapeCast S128x128 v16 shapeCasts_S128x128_S128x128
  have v18 : IVec S128x128 32 := shapeCast S128x128 v15 shapeCasts_S128x128_S128x128
  Prog.lift (.store arg10 (Rect.unit (s := S256x128) ![0, 0] S128x128.size inb_S256x128_S128x128_0_0) v18 Finset.univ (View.stores_vmem_bits_univ h_S128x128 rfl) (.inl rfl))
  let v19 : Vec F S1x128 .i32 ← Prog.lift (.load arg2 (Rect.unit (s := S2x128) ![1, 0] S1x128.size inb_S2x128_S1x128_1_0).toLoadRect (View.loadsAt_vmem h_S1x128))
  have v20 : IVec S128x128 32 := iota .tc S128x128 32 [0] iota_S128x128_d0_w32
  have v21 : IVec S128x128 32 := iota .tc S128x128 32 [1] iota_S128x128_d1_w32
  have v22 : IVec S128x128 1 := cmpi .eq v20 v21
  have v23 : IVec S1x128 32 := shapeCast S1x128 v19 shapeCasts_S1x128_S1x128
  have v24 : IVec S128x128 32 := broadcastTo S128x128 v23 broadcasts_S1x128_S128x128
  let c0_i32_8 : BitVec 32 := 0#32
  have v25 : IVec S128x128 32 := broadcast S128x128 c0_i32_8
  have v26 : IVec S128x128 32 := select v22 v24 v25
  have cst_9 : IVec S128 32 := constantI S128 32 0#32
  have v27 : IVec S128 32 := multiReductionI .add [1] S128 v26 0#32 reduces_S128x128_S128 rfl
  have v28 : IVec S128x1 32 := shapeCast S128x1 v27 shapeCasts_S128_S128x1
  have v29 : IVec S128x1 32 := shapeCast S128x1 v28 shapeCasts_S128x1_S128x1
  have v30 : IVec S128x128 32 := broadcastTo S128x128 v29 broadcasts_S128x1_S128x128
  have v31 : IVec S128x128 32 := subi v30 v2
  let v32 : Vec F S128x128 .i32 ← Prog.lift (.load arg10 (Rect.unit (s := S256x128) ![128, 0] S128x128.size inb_S256x128_S128x128_128_0).toLoadRect (View.loadsAt_vmem h_S128x128))
  have v33 : IVec S128x128 32 := shapeCast S128x128 v32 shapeCasts_S128x128_S128x128
  have v34 : IVec S128x128 32 := shapeCast S128x128 v31 shapeCasts_S128x128_S128x128
  Prog.lift (.store arg10 (Rect.unit (s := S256x128) ![128, 0] S128x128.size inb_S256x128_S128x128_128_0) v34 Finset.univ (View.stores_vmem_bits_univ h_S128x128 rfl) (.inl rfl))
  pure ⟨k0_mxu1, v0⟩

/-- What follows that. -/
def K80 : (Σ' (k0_mxu1 : Mxu F), BitVec 32) → Prog (TpuEff nD τ sig (Elt F) Λ₀ .tc) PUnit := fun ⟨k0_mxu1, v0⟩ => do
  let ⟨c0_i32_23, cst_29_r0⟩ : Σ' (c0_i32_23 : BitVec 32), F .f32 ← k0_part81 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18
  let ⟨v84_r0, v93_r0, v103_r0, c0_i32_49_r0⟩ : Σ' (v84_r0 : BitVec 32) (v93_r0 : BitVec 32) (v103_r0 : BitVec 32), BitVec 32 ← k0_part82 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v0 c0_i32_23 cst_29_r0
  let k0_mxu15 : Mxu F ← k0_part83 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_mxu1 c0_i32_23 v84_r0 v93_r0 v103_r0 c0_i32_49_r0
  let ⟨k0_mxu31, v154_r0⟩ : Σ' (k0_mxu31 : Mxu F), Vec F S1x256x256 .fp8e4m3 ← k0_part84 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu15
  let k0_mxu47 : Mxu F ← k0_part85 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu31 v154_r0
  let k0_mxu62 : Mxu F ← k0_part86 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu47
  let k0_mxu79 : Mxu F ← k0_part87 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu62
  let k0_mxu93 : Mxu F ← k0_part88 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu79
  let k0_mxu111 : Mxu F ← k0_part89 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu93
  let k0_mxu125 : Mxu F ← k0_part90 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu111
  let ⟨k0_mxu141, v332_r0⟩ : Σ' (k0_mxu141 : Mxu F), FVec F S256x256 .bf16 ← k0_part91 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu125
  let k0_mxu157 : Mxu F ← k0_part92 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu141 v332_r0
  let ⟨k0_mxu172, v383_r0⟩ : Σ' (k0_mxu172 : Mxu F), FVec F S256x256 .fp8e4m3 ← k0_part93 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu157
  let k0_mxu189 : Mxu F ← k0_part94 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu172 v383_r0
  let ⟨k0_mxu203, v434_r0⟩ : Σ' (k0_mxu203 : Mxu F), FVec F S64x256 .bf16 ← k0_part95 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu189
  let k0_mxu221 : Mxu F ← k0_part96 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu203 v434_r0
  let ⟨k0_mxu235, v484_r0⟩ : Σ' (k0_mxu235 : Mxu F), FVec F S64x256 .bf16 ← k0_part97 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu221
  let k0_mxu252 : Mxu F ← k0_part98 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu235 v484_r0
  let ⟨k0_mxu267, v534_r0⟩ : Σ' (k0_mxu267 : Mxu F), FVec F S64x256 .bf16 ← k0_part99 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu252
  let k0_mxu283 : Mxu F ← k0_part100 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu267 v534_r0
  let ⟨k0_mxu299, v584_r0⟩ : Σ' (k0_mxu299 : Mxu F), FVec F S64x256 .bf16 ← k0_part101 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu283
  let k0_mxu315 : Mxu F ← k0_part102 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu299 v584_r0
  let ⟨k0_mxu331, v634_r0⟩ : Σ' (k0_mxu331 : Mxu F), Vec F S1x256x256 .fp8e4m3 ← k0_part103 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu315
  let k0_mxu347 : Mxu F ← k0_part104 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu331 v634_r0
  let k0_mxu362 : Mxu F ← k0_part105 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu347
  let k0_mxu379 : Mxu F ← k0_part106 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu362
  let k0_mxu393 : Mxu F ← k0_part107 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu379
  let k0_mxu411 : Mxu F ← k0_part108 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu393
  let k0_mxu425 : Mxu F ← k0_part109 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu411
  let ⟨k0_mxu441, v812_r0⟩ : Σ' (k0_mxu441 : Mxu F), FVec F S256x256 .bf16 ← k0_part110 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu425
  let k0_mxu457 : Mxu F ← k0_part111 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu441 v812_r0
  let ⟨k0_mxu472, v863_r0⟩ : Σ' (k0_mxu472 : Mxu F), FVec F S256x256 .fp8e4m3 ← k0_part112 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu457
  let ⟨v877_r0, k0_mxu1461, v879_r0, v881_r0, v882_r0, v883_r0, v884_r0, v885_r0, v890_r0⟩ : Σ' (v877_r0 : FVec F S64x128 .f32) (k0_mxu1461 : Mxu F) (v879_r0 : FVec F S64x128 .f32) (v881_r0 : Vec F S64x128 .f32) (v882_r0 : Vec F S64x128 .i32) (v883_r0 : Vec F S64x128 .f32) (v884_r0 : Vec F S64x128 .f32) (v885_r0 : FVec F S64x128 .f32), FVec F S1x128 .f32 ← k0_part113 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v0 c0_i32_23 k0_mxu472 v863_r0
  let ⟨v924_r0, v925_r0, v938_r0⟩ : Σ' (v924_r0 : FVec F S64x128 .f32) (v925_r0 : FVec F S64x128 .f32), FVec F S64x128 .f32 ← k0_part114 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v877_r0 v879_r0 v881_r0 v882_r0 v883_r0 v884_r0 v885_r0 v890_r0
  let ⟨k0_mxu1463, v952_r0, v954_r0, v955_r0, v957_r0, v965_r0, v968_r0, v969_r0, v977_r0, c29824_i32_612_r0⟩ : Σ' (k0_mxu1463 : Mxu F) (v952_r0 : FVec F S64x128 .f32) (v954_r0 : Vec F S64x128 .f32) (v955_r0 : Vec F S64x128 .i32) (v957_r0 : Vec F S64x128 .f32) (v965_r0 : FVec F S64x128 .f32) (v968_r0 : FVec F S64x128 .f32) (v969_r0 : FVec F S64x128 .f32) (v977_r0 : FVec F S64x128 .f32), BitVec 32 ← k0_part115 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_mxu1461 v924_r0 v925_r0 v938_r0
  let v1021_r0 : FVec F S64x256 .f32 ← k0_part116 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_mxu1463 v952_r0 v954_r0 v955_r0 v957_r0 v965_r0 v968_r0 v969_r0 v977_r0 c29824_i32_612_r0
  let ⟨k0_mxu1465, v1028_r0, v1030_r0, v1038_r0, v1050_r0, v1053_r0, v1054_r0, v1062_r0, v1063_r0, v1064_r0⟩ : Σ' (k0_mxu1465 : Mxu F) (v1028_r0 : Vec F S64x128 .i32) (v1030_r0 : Vec F S64x128 .f32) (v1038_r0 : FVec F S64x128 .f32) (v1050_r0 : FVec F S64x128 .f32) (v1053_r0 : FVec F S64x128 .f32) (v1054_r0 : FVec F S64x128 .f32) (v1062_r0 : FVec F S64x128 .f32) (v1063_r0 : IVec S64x128 32), IVec S64x128 32 ← k0_part117 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_mxu1463 v1021_r0
  let ⟨v1095_r0, v1096_r0, k0_mxu1467, v1098_r0, v1100_r0, v1101_r0, v1102_r0⟩ : Σ' (v1095_r0 : FVec F S64x128 .f32) (v1096_r0 : FVec F S64x128 .f32) (k0_mxu1467 : Mxu F) (v1098_r0 : FVec F S64x128 .f32) (v1100_r0 : Vec F S64x128 .f32) (v1101_r0 : Vec F S64x128 .i32), Vec F S64x128 .f32 ← k0_part118 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_mxu1465 v1028_r0 v1030_r0 v1038_r0 v1050_r0 v1053_r0 v1054_r0 v1062_r0 v1063_r0 v1064_r0
  let ⟨v1123_r0, v1140_r0, v1143_r0, v1144_r0, v1148_r0, v1150_r0⟩ : Σ' (v1123_r0 : FVec F S64x128 .f32) (v1140_r0 : FVec F S64x128 .f32) (v1143_r0 : FVec F S64x128 .f32) (v1144_r0 : FVec F S64x128 .f32) (v1148_r0 : FVec F S64x128 .f32), FVec F S64x128 .f32 ← k0_part119 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v1095_r0 v1096_r0 v1098_r0 v1100_r0 v1101_r0 v1102_r0
  let ⟨v1187_r0, v1189_r0, v1190_r0⟩ : Σ' (v1187_r0 : FVec F S256x128 .f32) (v1189_r0 : FVec F S256x128 .f32), FVec F S128x128 .f32 ← k0_part120 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v1123_r0 v1140_r0 v1143_r0 v1144_r0 v1148_r0 v1150_r0
  let ⟨v1229_r0, v1230_r0, v1231_r0⟩ : Σ' (v1229_r0 : FVec F S128x128 .f32) (v1230_r0 : IVec S128x128 32), IVec S128x128 32 ← k0_part121 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v1187_r0 v1189_r0 v1190_r0
  have v1232_r0 : IVec S128x128 1 := cmpi .eq v1230_r0 v1231_r0
  have cst_703_r0 : F .f32 := Scalar.ofBits .f32 0x00000000#32
  have v1233_r0 : FVec F S128x128 .f32 := broadcast S128x128 cst_703_r0
  have v1234_r0 : FVec F S128x128 .f32 := select v1232_r0 v1229_r0 v1233_r0
  have cst_704_r0 : FVec F S128 .f32 := constant S128 .f32 0x00000000#32
  have v1235_r0 : FVec F S128 .f32 := multiReduction .add [0] S128 v1234_r0 0x00000000#32 reduces_S128x128_S128_2 (.inl rfl) rfl
  have v1236_r0 : FVec F S1x128 .f32 := shapeCast S1x128 v1235_r0 shapeCasts_S128_S1x128
  let v1237_r0 : Vec F S1x128 .f32 ← Prog.lift (.load arg5 (Rect.unit (s := S2x128) ![1, 0] S1x128.size inb_S2x128_S1x128_1_0).toLoadRect (View.loadsAt_vmem h_S1x128))
  Prog.lift (.store arg5 (Rect.unit (s := S2x128) ![1, 0] S1x128.size inb_S2x128_S1x128_1_0) v1236_r0 Finset.univ (View.stores_vmem_bits_univ h_S1x128 rfl) (.inl rfl))
  k0_mxu1467.exit
  pure ⟨⟩

/-- A trip's first window of windows, over its two parts that branch. -/
def part79G (v0 : BitVec 32) (c0_i32_23 : BitVec 32) (c0_i32_578_r0 : BitVec 32) (c1_i32_579_r0 : BitVec 32) (k0_t2 : Fin k0_t2_loop.trips) (k0_mxu482 : Mxu F) (P1 : (Mxu F) → Prog (TpuEff nD τ sig (Elt F) Λ₀ .tc) (Σ' (v1239_r0 : BitVec 32) (v1240_r0 : BitVec 32) (v1242_r0 : BitVec 32), Mxu F)) (P40 : (BitVec 32) → (Mxu F) → Prog (TpuEff nD τ sig (Elt F) Λ₀ .tc) (Σ' (k0_mxu971 : Mxu F), BitVec 32)) : Prog (TpuEff nD τ sig (Elt F) Λ₀ .tc) (Σ' (v1239_r0 : BitVec 32) (v2401_r0 : BitVec 32), Mxu F) := do
  let ⟨v1239_r0, v1240_r0, v1242_r0, k0_mxu485⟩ : Σ' (v1239_r0 : BitVec 32) (v1240_r0 : BitVec 32) (v1242_r0 : BitVec 32), Mxu F ← P1 k0_mxu482
  let k0_mxu503 : Mxu F ← k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu485
  let k0_mxu517 : Mxu F ← k0_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu503
  let ⟨k0_mxu533, v1346_r0⟩ : Σ' (k0_mxu533 : Mxu F), FVec F S256x256 .bf16 ← k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu517
  let ⟨v1361_r0, k0_mxu545, v1363_r0, v1364_r0, v1365_r0, v1366_r0, v1367_r0, v1368_r0, v1369_r0, v1370_r0, v1374_r0⟩ : Σ' (v1361_r0 : FVec F S64x128 .f32) (k0_mxu545 : Mxu F) (v1363_r0 : FVec F S64x128 .f32) (v1364_r0 : FVec F S64x128 .f32) (v1365_r0 : BitVec 32) (v1366_r0 : Vec F S64x128 .f32) (v1367_r0 : Vec F S64x128 .i32) (v1368_r0 : Vec F S64x128 .f32) (v1369_r0 : Vec F S64x128 .f32) (v1370_r0 : FVec F S64x128 .f32), Vec F S128 .f32 ← k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1240_r0 v1242_r0 k0_mxu533 v1346_r0
  let ⟨v1378_r0, v1392_r0, v1406_r0, v1420_r0, v1424_r0, v1425_r0⟩ : Σ' (v1378_r0 : FVec F S64x128 .f32) (v1392_r0 : FVec F S64x128 .f32) (v1406_r0 : FVec F S64x128 .f32) (v1420_r0 : FVec F S64x128 .f32) (v1424_r0 : FVec F S64x128 .f32), FVec F S64x128 .f32 ← k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1361_r0 v1363_r0 v1364_r0 v1365_r0 v1366_r0 v1367_r0 v1368_r0 v1369_r0 v1370_r0 v1374_r0
  let k0_mxu551 : Mxu F ← k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu545 v1369_r0 v1378_r0 v1392_r0 v1406_r0 v1420_r0 v1424_r0 v1425_r0
  let k0_mxu566 : Mxu F ← k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu551
  let k0_mxu583 : Mxu F ← k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu566
  let k0_mxu597 : Mxu F ← k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu583
  let k0_mxu615 : Mxu F ← k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu597
  let ⟨v1580_r0, v1581_r0, k0_mxu627, v1583_r0, v1584_r0, v1585_r0, v1586_r0, v1587_r0, v1588_r0, v1589_r0⟩ : Σ' (v1580_r0 : FVec F S64x128 .f32) (v1581_r0 : FVec F S64x128 .f32) (k0_mxu627 : Mxu F) (v1583_r0 : FVec F S64x128 .f32) (v1584_r0 : FVec F S64x128 .f32) (v1585_r0 : BitVec 32) (v1586_r0 : Vec F S64x128 .f32) (v1587_r0 : Vec F S64x128 .i32) (v1588_r0 : Vec F S64x128 .f32), Vec F S64x128 .f32 ← k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1240_r0 v1242_r0 k0_mxu615
  let ⟨v1598_r0, v1612_r0, v1626_r0, v1630_r0, v1631_r0, v1640_r0, v1641_r0⟩ : Σ' (v1598_r0 : FVec F S64x128 .f32) (v1612_r0 : FVec F S64x128 .f32) (v1626_r0 : FVec F S64x128 .f32) (v1630_r0 : FVec F S64x128 .f32) (v1631_r0 : FVec F S64x128 .f32) (v1640_r0 : FVec F S64x128 .f32), BitVec 32 ← k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1580_r0 v1581_r0 v1583_r0 v1584_r0 v1585_r0 v1586_r0 v1587_r0 v1588_r0 v1589_r0
  let k0_mxu631 : Mxu F ← k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu627 v1587_r0 v1589_r0 v1598_r0 v1612_r0 v1626_r0 v1630_r0 v1631_r0 v1640_r0 v1641_r0
  let ⟨k0_mxu647, v1704_r0⟩ : Σ' (k0_mxu647 : Mxu F), Vec F S1x256x256 .fp8e4m3 ← k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu631
  let k0_mxu663 : Mxu F ← k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu647 v1704_r0
  let k0_mxu678 : Mxu F ← k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu663
  let k0_mxu695 : Mxu F ← k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu678
  let ⟨v1800_r0, v1801_r0, k0_mxu709, v1803_r0, v1804_r0, v1805_r0, v1806_r0, v1807_r0⟩ : Σ' (v1800_r0 : FVec F S64x128 .f32) (v1801_r0 : FVec F S64x128 .f32) (k0_mxu709 : Mxu F) (v1803_r0 : FVec F S64x128 .f32) (v1804_r0 : FVec F S64x128 .f32) (v1805_r0 : BitVec 32) (v1806_r0 : Vec F S64x128 .f32), Vec F S64x128 .i32 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1240_r0 v1242_r0 k0_mxu695
  let ⟨v1809_r0, v1818_r0, v1832_r0, v1846_r0, v1850_r0, v1851_r0, v1852_r0, v1856_r0⟩ : Σ' (v1809_r0 : Vec F S64x128 .f32) (v1818_r0 : FVec F S64x128 .f32) (v1832_r0 : FVec F S64x128 .f32) (v1846_r0 : FVec F S64x128 .f32) (v1850_r0 : FVec F S64x128 .f32) (v1851_r0 : FVec F S64x128 .f32) (v1852_r0 : FVec F S64x128 .f32), Vec F S128 .f32 ← k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1800_r0 v1801_r0 v1803_r0 v1804_r0 v1805_r0 v1806_r0 v1807_r0
  let k0_mxu711 : Mxu F ← k0_part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu709 v1805_r0 v1807_r0 v1809_r0 v1818_r0 v1832_r0 v1846_r0 v1850_r0 v1851_r0 v1852_r0 v1856_r0
  let ⟨k0_mxu727, v1922_r0⟩ : Σ' (k0_mxu727 : Mxu F), FVec F S64x256 .bf16 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu711
  let k0_mxu743 : Mxu F ← k0_part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu727 v1922_r0
  let ⟨k0_mxu759, v1972_r0⟩ : Σ' (k0_mxu759 : Mxu F), Vec F S1x256x256 .fp8e4m3 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu743
  let k0_mxu775 : Mxu F ← k0_part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu759 v1972_r0
  let ⟨v2020_r0, v2021_r0, k0_mxu791, v2023_r0, v2024_r0, v2025_r0⟩ : Σ' (v2020_r0 : FVec F S64x128 .f32) (v2021_r0 : FVec F S64x128 .f32) (k0_mxu791 : Mxu F) (v2023_r0 : FVec F S64x128 .f32) (v2024_r0 : FVec F S64x128 .f32), BitVec 32 ← k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1240_r0 v1242_r0 k0_mxu775
  let ⟨v2026_r0, v2027_r0, v2029_r0, v2038_r0, v2052_r0, v2066_r0, v2070_r0, v2071_r0⟩ : Σ' (v2026_r0 : Vec F S64x128 .f32) (v2027_r0 : Vec F S64x128 .i32) (v2029_r0 : Vec F S64x128 .f32) (v2038_r0 : FVec F S64x128 .f32) (v2052_r0 : FVec F S64x128 .f32) (v2066_r0 : FVec F S64x128 .f32) (v2070_r0 : FVec F S64x128 .f32), FVec F S64x128 .f32 ← k0_part27 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2020_r0 v2021_r0 v2023_r0 v2025_r0
  let k0_mxu792 : Mxu F ← k0_part28 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu791 v2024_r0 v2025_r0 v2026_r0 v2027_r0 v2029_r0 v2038_r0 v2052_r0 v2066_r0 v2070_r0 v2071_r0
  let ⟨k0_mxu807, v2140_r0⟩ : Σ' (k0_mxu807 : Mxu F), FVec F S64x256 .bf16 ← k0_part29 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu792
  let k0_mxu823 : Mxu F ← k0_part30 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu807 v2140_r0
  let ⟨k0_mxu839, v2190_r0⟩ : Σ' (k0_mxu839 : Mxu F), FVec F S64x256 .bf16 ← k0_part31 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu823
  let k0_mxu855 : Mxu F ← k0_part32 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu839 v2190_r0
  let ⟨k0_mxu871, v2240_r0⟩ : Σ' (k0_mxu871 : Mxu F), Vec F S1x256x256 .fp8e4m3 ← k0_part33 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu855
  let k0_mxu887 : Mxu F ← k0_part34 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu871 v2240_r0
  let k0_mxu902 : Mxu F ← k0_part35 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu887
  let k0_mxu919 : Mxu F ← k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu902
  let k0_mxu933 : Mxu F ← k0_part37 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu919
  let k0_mxu951 : Mxu F ← k0_part38 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu933
  let k0_mxu965 : Mxu F ← k0_part39 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu951
  let ⟨k0_mxu971, v2401_r0⟩ : Σ' (k0_mxu971 : Mxu F), BitVec 32 ← P40 v1239_r0 k0_mxu965
  let ⟨v2450_r0, k0_mxu986⟩ : Σ' (v2450_r0 : FVec F S64x256 .bf16), Mxu F ← k0_part41 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu971 v2401_r0
  let k0_mxu1002 : Mxu F ← k0_part42 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 v2450_r0 k0_mxu986
  let ⟨v2500_r0, k0_mxu1018⟩ : Σ' (v2500_r0 : FVec F S64x256 .bf16), Mxu F ← k0_part43 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1002
  let ⟨v2520_r0, v2521_r0, k0_mxu1033, v2523_r0, v2524_r0, v2525_r0, v2526_r0⟩ : Σ' (v2520_r0 : FVec F S64x128 .f32) (v2521_r0 : FVec F S64x128 .f32) (k0_mxu1033 : Mxu F) (v2523_r0 : FVec F S64x128 .f32) (v2524_r0 : FVec F S64x128 .f32) (v2525_r0 : BitVec 32), Vec F S64x128 .f32 ← k0_part44 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1239_r0 v2401_r0 v2500_r0 k0_mxu1018
  let ⟨v2527_r0, v2529_r0, v2538_r0, v2552_r0, v2566_r0, v2570_r0, v2571_r0, v2572_r0⟩ : Σ' (v2527_r0 : Vec F S64x128 .i32) (v2529_r0 : Vec F S64x128 .f32) (v2538_r0 : FVec F S64x128 .f32) (v2552_r0 : FVec F S64x128 .f32) (v2566_r0 : FVec F S64x128 .f32) (v2570_r0 : FVec F S64x128 .f32) (v2571_r0 : FVec F S64x128 .f32), FVec F S64x128 .f32 ← k0_part45 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2520_r0 v2521_r0 v2523_r0 v2524_r0 v2525_r0 v2526_r0
  let ⟨k0_mxu1034, v2618_r0⟩ : Σ' (k0_mxu1034 : Mxu F), FVec F S256x256 .bf16 ← k0_part46 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1033 v2525_r0 v2527_r0 v2529_r0 v2538_r0 v2552_r0 v2566_r0 v2570_r0 v2571_r0 v2572_r0
  let ⟨k0_mxu1051, v2641_r0⟩ : Σ' (k0_mxu1051 : Mxu F), Vec F S64x256 .fp8e4m3 ← k0_part47 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1034 v2618_r0
  let ⟨v2668_r0, k0_mxu1066⟩ : Σ' (v2668_r0 : FVec F S64x256 .bf16), Mxu F ← k0_part48 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1051 v2641_r0
  let k0_mxu1083 : Mxu F ← k0_part49 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 v2668_r0 k0_mxu1066
  let ⟨v2718_r0, k0_mxu1098⟩ : Σ' (v2718_r0 : FVec F S64x256 .bf16), Mxu F ← k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1083
  let ⟨v2740_r0, v2741_r0, k0_mxu1115, v2743_r0, v2744_r0, c512_i32_1600_r0⟩ : Σ' (v2740_r0 : FVec F S64x128 .f32) (v2741_r0 : FVec F S64x128 .f32) (k0_mxu1115 : Mxu F) (v2743_r0 : FVec F S64x128 .f32) (v2744_r0 : FVec F S64x128 .f32), BitVec 32 ← k0_part51 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 v2718_r0 k0_mxu1098
  let ⟨v2745_r0, v2746_r0, v2747_r0, v2749_r0, v2758_r0, v2772_r0, v2777_r0, v2786_r0, v2790_r0⟩ : Σ' (v2745_r0 : BitVec 32) (v2746_r0 : Vec F S64x128 .f32) (v2747_r0 : Vec F S64x128 .i32) (v2749_r0 : Vec F S64x128 .f32) (v2758_r0 : FVec F S64x128 .f32) (v2772_r0 : FVec F S64x128 .f32) (v2777_r0 : FVec F S64x128 .f32) (v2786_r0 : FVec F S64x128 .f32), FVec F S64x128 .f32 ← k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1239_r0 v2740_r0 v2741_r0 v2743_r0 c512_i32_1600_r0
  let k0_mxu1116 : Mxu F ← k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1115 v2744_r0 v2745_r0 v2746_r0 v2747_r0 v2749_r0 v2758_r0 v2772_r0 v2777_r0 v2786_r0 v2790_r0
  let ⟨k0_mxu1131, v2859_r0⟩ : Σ' (k0_mxu1131 : Mxu F), Vec F S64x256 .fp8e4m3 ← k0_part54 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1116
  let ⟨k0_mxu1146, v2886_r0⟩ : Σ' (k0_mxu1146 : Mxu F), FVec F S256x256 .bf16 ← k0_part55 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1131 v2859_r0
  let ⟨k0_mxu1163, v2909_r0⟩ : Σ' (k0_mxu1163 : Mxu F), Vec F S64x256 .fp8e4m3 ← k0_part56 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1146 v2886_r0
  let ⟨v2936_r0, k0_mxu1178⟩ : Σ' (v2936_r0 : FVec F S64x256 .bf16), Mxu F ← k0_part57 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1163 v2909_r0
  let ⟨v2959_r0, k0_mxu1196, v2960_r0⟩ : Σ' (v2959_r0 : FVec F S64x256 .f32) (k0_mxu1196 : Mxu F), FVec F S64x128 .f32 ← k0_part58 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 v2936_r0 k0_mxu1178
  let ⟨k0_mxu1197, v2964_r0, v2965_r0, v2966_r0, v2967_r0, v2969_r0, v2978_r0, v2992_r0, v2996_r0, v2997_r0, v2998_r0, v3005_r0⟩ : Σ' (k0_mxu1197 : Mxu F) (v2964_r0 : FVec F S64x128 .f32) (v2965_r0 : BitVec 32) (v2966_r0 : Vec F S64x128 .f32) (v2967_r0 : Vec F S64x128 .i32) (v2969_r0 : Vec F S64x128 .f32) (v2978_r0 : FVec F S64x128 .f32) (v2992_r0 : FVec F S64x128 .f32) (v2996_r0 : FVec F S64x128 .f32) (v2997_r0 : FVec F S64x128 .f32) (v2998_r0 : FVec F S64x128 .f32), FVec F S64x128 .f32 ← k0_part59 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1239_r0 v2959_r0 k0_mxu1196 v2960_r0
  k0_part60 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 v2964_r0 v2965_r0 v2966_r0 v2967_r0 v2969_r0 v2978_r0 v2992_r0 v2996_r0 v2997_r0 v2998_r0 v3005_r0
  pure ⟨v1239_r0, v2401_r0, k0_mxu1197⟩

/-- A trip of the main loop, over its two parts that branch. -/
def tripG (k0_t2 : Fin k0_t2_loop.trips) (k0_mxu482 : Mxu F) (P1 : (Mxu F) → Prog (TpuEff nD τ sig (Elt F) Λ₀ .tc) (Σ' (v1239_r0 : BitVec 32) (v1240_r0 : BitVec 32) (v1242_r0 : BitVec 32), Mxu F)) (P40 : (BitVec 32) → (Mxu F) → Prog (TpuEff nD τ sig (Elt F) Λ₀ .tc) (Σ' (k0_mxu971 : Mxu F), BitVec 32)) : Prog (TpuEff nD τ sig (Elt F) Λ₀ .tc) (BitVec 32 × Mxu F) := do
  let v0 : BitVec 32 := Scalar.addi 0#32 59#32
  let c0_i32_23 : BitVec 32 := 0#32
  let c0_i32_578_r0 : BitVec 32 := 0#32
  let c29_i32_r0 : BitVec 32 := 29#32
  let c1_i32_579_r0 : BitVec 32 := 1#32
  let ⟨v1239_r0, v2401_r0, k0_mxu1197⟩ : Σ' (v1239_r0 : BitVec 32) (v2401_r0 : BitVec 32), Mxu F ← part79G arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v0 c0_i32_23 c0_i32_578_r0 c1_i32_579_r0 k0_t2 k0_mxu482 P1 P40
  let ⟨k0_mxu1211, v3077_r0⟩ : Σ' (k0_mxu1211 : Mxu F), Vec F S64x256 .fp8e4m3 ← k0_part61 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1197
  let k0_mxu1228 : Mxu F ← k0_part62 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1211 v3077_r0
  let ⟨k0_mxu1243, v3127_r0⟩ : Σ' (k0_mxu1243 : Mxu F), Vec F S64x256 .fp8e4m3 ← k0_part63 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1228
  let ⟨k0_mxu1258, v3154_r0⟩ : Σ' (k0_mxu1258 : Mxu F), FVec F S256x256 .bf16 ← k0_part64 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1243 v3127_r0
  let ⟨k0_mxu1275, v3177_r0⟩ : Σ' (k0_mxu1275 : Mxu F), Vec F S64x256 .fp8e4m3 ← k0_part65 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1258 v3154_r0
  let ⟨k0_mxu1279, v3184_r0, v3185_r0, v3186_r0, v3187_r0, v3189_r0, v3198_r0, v3212_r0, v3216_r0, v3217_r0, v3218_r0, v3219_r0⟩ : Σ' (k0_mxu1279 : Mxu F) (v3184_r0 : FVec F S64x128 .f32) (v3185_r0 : BitVec 32) (v3186_r0 : Vec F S64x128 .f32) (v3187_r0 : Vec F S64x128 .i32) (v3189_r0 : Vec F S64x128 .f32) (v3198_r0 : FVec F S64x128 .f32) (v3212_r0 : FVec F S64x128 .f32) (v3216_r0 : FVec F S64x128 .f32) (v3217_r0 : FVec F S64x128 .f32) (v3218_r0 : FVec F S64x128 .f32), BitVec 32 ← k0_part66 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1239_r0 k0_mxu1275 v3177_r0
  let v3244_r0 : FVec F S64x128 .f32 ← k0_part67 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v3184_r0 v3185_r0 v3186_r0 v3187_r0 v3189_r0 v3198_r0 v3212_r0 v3216_r0 v3217_r0 v3218_r0 v3219_r0
  let ⟨k0_mxu1291, v3295_r0⟩ : Σ' (k0_mxu1291 : Mxu F), Vec F S64x256 .fp8e4m3 ← k0_part68 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1279 v3244_r0
  let k0_mxu1309 : Mxu F ← k0_part69 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1291 v3295_r0
  let ⟨k0_mxu1323, v3345_r0⟩ : Σ' (k0_mxu1323 : Mxu F), Vec F S64x256 .fp8e4m3 ← k0_part70 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1309
  let k0_mxu1340 : Mxu F ← k0_part71 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1323 v3345_r0
  let ⟨k0_mxu1355, v3395_r0⟩ : Σ' (k0_mxu1355 : Mxu F), Vec F S64x256 .fp8e4m3 ← k0_part72 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1340
  let ⟨k0_mxu1370, v3422_r0⟩ : Σ' (k0_mxu1370 : Mxu F), FVec F S256x256 .bf16 ← k0_part73 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1355 v3395_r0
  let ⟨k0_mxu1387, v3445_r0⟩ : Σ' (k0_mxu1387 : Mxu F), Vec F S64x256 .fp8e4m3 ← k0_part74 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1370 v3422_r0
  let ⟨v3472_r0, k0_mxu1402⟩ : Σ' (v3472_r0 : FVec F S64x256 .bf16), Mxu F ← k0_part75 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1387 v3445_r0
  let k0_mxu1419 : Mxu F ← k0_part76 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 v3472_r0 k0_mxu1402
  let ⟨v3522_r0, k0_mxu1434⟩ : Σ' (v3522_r0 : FVec F S64x256 .bf16), Mxu F ← k0_part77 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1419
  let k0_mxu1450 : Mxu F ← k0_part78 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 v3522_r0 k0_mxu1434
  let v3548_r0 : Vec F S1x256x256 .fp8e4m3 ← Prog.lift (.load arg7 (Rect.unit (s := S6x512x12288) (k0_off321 k0_t2) S1x256x256.size (k0_off321_inb k0_t2)).toLoadRect (View.loadsAt_vmem h_S1x256x256))
  have v3549_r0 : FVec F S256x256 .fp8e4m3 := shapeCast S256x256 v3548_r0 shapeCasts_S1x256x256_S256x256
  have v3550_r0 : FVec F S256x256 .bf16 := extf .bf16 v3549_r0 bitsLt_fp8e4m3_bf16
  let k0_mxu1451 : Mxu F ← k0_mxu1450.pushRhs 1 1 true v3550_r0
  let v3551_r0 : Vec F S64x256 .fp8e4m3 ← Prog.lift (.load arg8 (Rect.unit (s := S256x12288) ![0, 12032] S64x256.size inb_S256x12288_S64x256_0_12032).toLoadRect (View.loadsAt_vmem h_S64x256))
  have v3552_r0 : FVec F S64x256 .bf16 := extf .bf16 v3551_r0 bitsLt_fp8e4m3_bf16
  have k0_mxu1452 : Mxu F := k0_mxu1451.accLhs 0 1 64 v3552_r0 fits_64_64
  have k0_mxu1453 : Mxu F := k0_mxu1452.accLhs 1 1 64 v3552_r0 fits_64_64
  let v3553_r0 : Vec F S64x256 .fp8e4m3 ← Prog.lift (.load arg8 (Rect.unit (s := S256x12288) ![64, 12032] S64x256.size inb_S256x12288_S64x256_64_12032).toLoadRect (View.loadsAt_vmem h_S64x256))
  have v3554_r0 : FVec F S64x256 .bf16 := extf .bf16 v3553_r0 bitsLt_fp8e4m3_bf16
  let k0_mxu1454 : Mxu F ← k0_mxu1453.accLhsLoaded 0 80 v3554_r0 fits_80_64
  let k0_mxu1455 : Mxu F ← k0_mxu1454.accLhsLoaded 1 80 v3554_r0 fits_80_64
  let v3555_r0 : Vec F S64x256 .fp8e4m3 ← Prog.lift (.load arg8 (Rect.unit (s := S256x12288) ![128, 12032] S64x256.size inb_S256x12288_S64x256_128_12032).toLoadRect (View.loadsAt_vmem h_S64x256))
  have v3556_r0 : FVec F S64x256 .bf16 := extf .bf16 v3555_r0 bitsLt_fp8e4m3_bf16
  let k0_mxu1456 : Mxu F ← k0_mxu1455.accLhsLoaded 0 96 v3556_r0 fits_96_64
  let k0_mxu1457 : Mxu F ← k0_mxu1456.accLhsLoaded 1 96 v3556_r0 fits_96_64
  let v3557_r0 : Vec F S64x256 .fp8e4m3 ← Prog.lift (.load arg8 (Rect.unit (s := S256x12288) ![192, 12032] S64x256.size inb_S256x12288_S64x256_192_12032).toLoadRect (View.loadsAt_vmem h_S64x256))
  have v3558_r0 : FVec F S64x256 .bf16 := extf .bf16 v3557_r0 bitsLt_fp8e4m3_bf16
  let k0_mxu1458 : Mxu F ← k0_mxu1457.accLhsLoaded 0 112 v3558_r0 fits_112_64
  let k0_mxu1459 : Mxu F ← k0_mxu1458.accLhsLoaded 1 112 v3558_r0 fits_112_64
  let c0_i32_2083_r0 : BitVec 32 := 0#32
  pure (c0_i32_2083_r0, k0_mxu1459)

/-- One trip of the main loop. -/
def tripBody (k0_t2 : Fin k0_t2_loop.trips) (k0_mxu482 : Mxu F) : Prog (TpuEff nD τ sig (Elt F) Λ₀ .tc) (BitVec 32 × Mxu F) :=
  tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482 (k0_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 (Scalar.addi 0#32 59#32) 0#32 0#32 1#32 k0_t2) (k0_part40 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 (Scalar.addi 0#32 59#32) 0#32 k0_t2)

/-- What follows the main loop in its own window. -/
def tail113 (k0_mxu483 : Mxu F) : Prog (TpuEff nD τ sig (Elt F) Λ₀ .tc) (Σ' (v877_r0 : FVec F S64x128 .f32) (k0_mxu1461 : Mxu F) (v879_r0 : FVec F S64x128 .f32) (v881_r0 : Vec F S64x128 .f32) (v882_r0 : Vec F S64x128 .i32) (v883_r0 : Vec F S64x128 .f32) (v884_r0 : Vec F S64x128 .f32) (v885_r0 : FVec F S64x128 .f32), FVec F S1x128 .f32) := do
  have v875_r0 : FVec F S64x256 .f32 := k0_mxu483.read 0 64 fits_64_64
  have k0_mxu1460 : Mxu F := k0_mxu483.pop 0 64 64 fits_64_64
  have v876_r0 : FVec F S64x128 .f32 := extractStridedSlice S64x128 ![0, 0] v875_r0 slices_S64x256_o0_0_S64x128
  have v877_r0 : FVec F S64x128 .f32 := extractStridedSlice S64x128 ![0, 128] v875_r0 slices_S64x256_o0_128_S64x128
  have v878_r0 : FVec F S64x256 .f32 := k0_mxu1460.read 1 64 fits_64_64
  have k0_mxu1461 : Mxu F := k0_mxu1460.pop 1 64 64 fits_64_64
  have v879_r0 : FVec F S64x128 .f32 := extractStridedSlice S64x128 ![0, 0] v878_r0 slices_S64x256_o0_0_S64x128
  have v880_r0 : FVec F S64x128 .f32 := extractStridedSlice S64x128 ![0, 128] v878_r0 slices_S64x256_o0_128_S64x128
  let v881_r0 : Vec F S64x128 .f32 ← Prog.lift (.load arg11 (Rect.unit (s := S256x128) ![0, 0] S64x128.size inb_S256x128_S64x128_0_0).toLoadRect (View.loadsAt_vmem h_S64x128))
  let v882_r0 : Vec F S64x128 .i32 ← Prog.lift (.load arg10 (Rect.unit (s := S256x128) ![0, 0] S64x128.size inb_S256x128_S64x128_0_0).toLoadRect (View.loadsAt_vmem h_S64x128))
  let v883_r0 : Vec F S64x128 .f32 ← Prog.lift (.load arg14 (Rect.unit (s := S256x128) ![0, 0] S64x128.size inb_S256x128_S64x128_0_0).toLoadRect (View.loadsAt_vmem h_S64x128))
  let v884_r0 : Vec F S64x128 .f32 ← Prog.lift (.load arg12 (Rect.unit (s := S256x128) ![0, 0] S64x128.size inb_S256x128_S64x128_0_0).toLoadRect (View.loadsAt_vmem h_S64x128))
  have v885_r0 : FVec F S64x128 .f32 := mulf v876_r0 v881_r0
  let c29696_i32_r0 : BitVec 32 := 29696#32
  let v886_r0 : BitVec 32 := c29696_i32_r0
  let v888_r0 : Vec F S128 .f32 ← Prog.lift (.load arg9 (Rect.unit (s := S30003) ![29696] S128.size inb_S30003_S128_29696).toLoadRect (View.loadsAt_vmem h_S128))
  have v889_r0 : FVec F S1x128 .f32 := shapeCast S1x128 v888_r0 shapeCasts_S128_S1x128
  have v890_r0 : FVec F S1x128 .f32 := shapeCast S1x128 v889_r0 shapeCasts_S1x128_S1x128
  pure ⟨v877_r0, k0_mxu1461, v879_r0, v881_r0, v882_r0, v883_r0, v884_r0, v885_r0, v890_r0⟩

/-- What follows that. -/
def K113 : (Σ' (v877_r0 : FVec F S64x128 .f32) (k0_mxu1461 : Mxu F) (v879_r0 : FVec F S64x128 .f32) (v881_r0 : Vec F S64x128 .f32) (v882_r0 : Vec F S64x128 .i32) (v883_r0 : Vec F S64x128 .f32) (v884_r0 : Vec F S64x128 .f32) (v885_r0 : FVec F S64x128 .f32), FVec F S1x128 .f32) → Prog (TpuEff nD τ sig (Elt F) Λ₀ .tc) PUnit := fun ⟨v877_r0, k0_mxu1461, v879_r0, v881_r0, v882_r0, v883_r0, v884_r0, v885_r0, v890_r0⟩ => do
  let ⟨v924_r0, v925_r0, v938_r0⟩ : Σ' (v924_r0 : FVec F S64x128 .f32) (v925_r0 : FVec F S64x128 .f32), FVec F S64x128 .f32 ← k0_part114 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v877_r0 v879_r0 v881_r0 v882_r0 v883_r0 v884_r0 v885_r0 v890_r0
  let ⟨k0_mxu1463, v952_r0, v954_r0, v955_r0, v957_r0, v965_r0, v968_r0, v969_r0, v977_r0, c29824_i32_612_r0⟩ : Σ' (k0_mxu1463 : Mxu F) (v952_r0 : FVec F S64x128 .f32) (v954_r0 : Vec F S64x128 .f32) (v955_r0 : Vec F S64x128 .i32) (v957_r0 : Vec F S64x128 .f32) (v965_r0 : FVec F S64x128 .f32) (v968_r0 : FVec F S64x128 .f32) (v969_r0 : FVec F S64x128 .f32) (v977_r0 : FVec F S64x128 .f32), BitVec 32 ← k0_part115 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_mxu1461 v924_r0 v925_r0 v938_r0
  let v1021_r0 : FVec F S64x256 .f32 ← k0_part116 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_mxu1463 v952_r0 v954_r0 v955_r0 v957_r0 v965_r0 v968_r0 v969_r0 v977_r0 c29824_i32_612_r0
  let ⟨k0_mxu1465, v1028_r0, v1030_r0, v1038_r0, v1050_r0, v1053_r0, v1054_r0, v1062_r0, v1063_r0, v1064_r0⟩ : Σ' (k0_mxu1465 : Mxu F) (v1028_r0 : Vec F S64x128 .i32) (v1030_r0 : Vec F S64x128 .f32) (v1038_r0 : FVec F S64x128 .f32) (v1050_r0 : FVec F S64x128 .f32) (v1053_r0 : FVec F S64x128 .f32) (v1054_r0 : FVec F S64x128 .f32) (v1062_r0 : FVec F S64x128 .f32) (v1063_r0 : IVec S64x128 32), IVec S64x128 32 ← k0_part117 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_mxu1463 v1021_r0
  let ⟨v1095_r0, v1096_r0, k0_mxu1467, v1098_r0, v1100_r0, v1101_r0, v1102_r0⟩ : Σ' (v1095_r0 : FVec F S64x128 .f32) (v1096_r0 : FVec F S64x128 .f32) (k0_mxu1467 : Mxu F) (v1098_r0 : FVec F S64x128 .f32) (v1100_r0 : Vec F S64x128 .f32) (v1101_r0 : Vec F S64x128 .i32), Vec F S64x128 .f32 ← k0_part118 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_mxu1465 v1028_r0 v1030_r0 v1038_r0 v1050_r0 v1053_r0 v1054_r0 v1062_r0 v1063_r0 v1064_r0
  let ⟨v1123_r0, v1140_r0, v1143_r0, v1144_r0, v1148_r0, v1150_r0⟩ : Σ' (v1123_r0 : FVec F S64x128 .f32) (v1140_r0 : FVec F S64x128 .f32) (v1143_r0 : FVec F S64x128 .f32) (v1144_r0 : FVec F S64x128 .f32) (v1148_r0 : FVec F S64x128 .f32), FVec F S64x128 .f32 ← k0_part119 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v1095_r0 v1096_r0 v1098_r0 v1100_r0 v1101_r0 v1102_r0
  let ⟨v1187_r0, v1189_r0, v1190_r0⟩ : Σ' (v1187_r0 : FVec F S256x128 .f32) (v1189_r0 : FVec F S256x128 .f32), FVec F S128x128 .f32 ← k0_part120 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v1123_r0 v1140_r0 v1143_r0 v1144_r0 v1148_r0 v1150_r0
  let ⟨v1229_r0, v1230_r0, v1231_r0⟩ : Σ' (v1229_r0 : FVec F S128x128 .f32) (v1230_r0 : IVec S128x128 32), IVec S128x128 32 ← k0_part121 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v1187_r0 v1189_r0 v1190_r0
  have v1232_r0 : IVec S128x128 1 := cmpi .eq v1230_r0 v1231_r0
  have cst_703_r0 : F .f32 := Scalar.ofBits .f32 0x00000000#32
  have v1233_r0 : FVec F S128x128 .f32 := broadcast S128x128 cst_703_r0
  have v1234_r0 : FVec F S128x128 .f32 := select v1232_r0 v1229_r0 v1233_r0
  have cst_704_r0 : FVec F S128 .f32 := constant S128 .f32 0x00000000#32
  have v1235_r0 : FVec F S128 .f32 := multiReduction .add [0] S128 v1234_r0 0x00000000#32 reduces_S128x128_S128_2 (.inl rfl) rfl
  have v1236_r0 : FVec F S1x128 .f32 := shapeCast S1x128 v1235_r0 shapeCasts_S128_S1x128
  let v1237_r0 : Vec F S1x128 .f32 ← Prog.lift (.load arg5 (Rect.unit (s := S2x128) ![1, 0] S1x128.size inb_S2x128_S1x128_1_0).toLoadRect (View.loadsAt_vmem h_S1x128))
  Prog.lift (.store arg5 (Rect.unit (s := S2x128) ![1, 0] S1x128.size inb_S2x128_S1x128_1_0) v1236_r0 Finset.univ (View.stores_vmem_bits_univ h_S1x128 rfl) (.inl rfl))
  k0_mxu1467.exit
  pure ⟨⟩

def part1_A (v0 : BitVec 32) (c0_i32_23 : BitVec 32) (c0_i32_578_r0 : BitVec 32) (c1_i32_579_r0 : BitVec 32) (k0_t2 : Fin k0_t2_loop.trips) (k0_mxu482 : Mxu F) (k0_h5 : k0_cond5 k0_t2 = 1#1) : Prog (TpuEff nD τ sig (Elt F) Λ₀ .tc) (Σ' (v1239_r0 : BitVec 32) (v1240_r0 : BitVec 32) (v1242_r0 : BitVec 32), Mxu F) := do
  let arg19_r0 : BitVec 32 := Scf.iv c0_i32_578_r0 c1_i32_579_r0 k0_t2
  let c2_i32_r0 : BitVec 32 := 2#32
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let v1241_r0 : BitVec 32 := Scalar.addi c0_i32_23 v1239_r0
  let c6_i32_709_r0 : BitVec 32 := 6#32
  let v1242_r0 : BitVec 32 := Scalar.remsi v1241_r0 c6_i32_709_r0
  let c512_i32_710_r0 : BitVec 32 := 512#32
  let v1243_r0 : BitVec 32 := Scalar.muli v1239_r0 c512_i32_710_r0
  let v1245_r0 : DmaSems sig S1 := arg15.slice (Rect.unit (s := S6) (k0_off110 k0_t2) S1.size (k0_off110_inb k0_t2))
  let v1246_r0 : DmaSems sig S_ := v1245_r0.squeeze S_ squeezes_S1_S_
  let v1247_r0 : Memref sig .tc .vmem S1x512x12288 .fp8e4m3 := arg7.slice (Rect.unit (s := S6x512x12288) (k0_off111 k0_t2) S1x512x12288.size (k0_off111_inb k0_t2)) (fun _ => rfl)
  let v1248_r0 : Memref sig .tc .vmem S512x12288 .fp8e4m3 := v1247_r0.squeeze S512x12288 squeezes_S1x512x12288_S512x12288
  let v1249_r0 : Memref sig .tc .hbm S512x12288 .fp8e4m3 := arg3.slice (Rect.unit (s := S30008x12288) (k0_off112 k0_t2) S512x12288.size (k0_off112_inb k0_t2)) (fun _ => rfl)
  Prog.lift (.waitDma2 v1246_r0.sem v1249_r0 v1248_r0 (harg3.wordExact_slice rfl _ (k0_off112_wordsfp8e4m3 k0_t2)) ((harg7.wordExact_slice rfl _ (k0_off111_wordsfp8e4m3 k0_t2)).reshape _ _))
  let c6_i32_714_r0 : BitVec 32 := 6#32
  let v1250_r0 : BitVec 32 := Scalar.addi v1241_r0 c6_i32_714_r0
  let c1_i32_715_r0 : BitVec 32 := 1#32
  let v1251_r0 : BitVec 32 := Scalar.subi v1250_r0 c1_i32_715_r0
  let c6_i32_716_r0 : BitVec 32 := 6#32
  let v1253_r0 : BitVec 1 := Scalar.cmpi .sge v1251_r0 c0_i32_23
  let c1_i32_717_r0 : BitVec 32 := 1#32
  let v1254_r0 : BitVec 32 := Scalar.subi v0 c1_i32_717_r0
  let v1255_r0 : BitVec 1 := Scalar.cmpi .slt v1251_r0 v1254_r0
  let v1256_r0 : BitVec 1 := Scalar.andi v1253_r0 v1255_r0
  let v1257_r0 : BitVec 32 := Scalar.extui v1256_r0
  let c0_i32_718_r0 : BitVec 32 := 0#32
  let v1258_r0 : BitVec 1 := Scalar.cmpi .ne v1257_r0 c0_i32_718_r0
  let v3559_r0 : BitVec 32 := Scalar.subi v1251_r0 c0_i32_23
  let c512_i32_2084_r0 : BitVec 32 := 512#32
  let v3560_r0 : BitVec 32 := Scalar.muli v3559_r0 c512_i32_2084_r0
  let v3562_r0 : DmaSems sig S1 := arg15.slice (Rect.unit (s := S6) (k0_off113 k0_t2) S1.size (k0_off113_inb k0_t2 k0_h5))
  let v3563_r0 : DmaSems sig S_ := v3562_r0.squeeze S_ squeezes_S1_S_
  let v3564_r0 : Memref sig .tc .vmem S1x512x12288 .fp8e4m3 := arg7.slice (Rect.unit (s := S6x512x12288) (k0_off114 k0_t2) S1x512x12288.size (k0_off114_inb k0_t2 k0_h5)) (fun _ => rfl)
  let v3565_r0 : Memref sig .tc .vmem S512x12288 .fp8e4m3 := v3564_r0.squeeze S512x12288 squeezes_S1x512x12288_S512x12288
  let v3566_r0 : Memref sig .tc .hbm S512x12288 .fp8e4m3 := arg3.slice (Rect.unit (s := S30008x12288) (k0_off115 k0_t2) S512x12288.size (k0_off115_inb k0_t2 k0_h5)) (fun _ => rfl)
  Prog.lift (.enqueueDma v3566_r0 (.here v3565_r0) (.dma v3563_r0.sem) (harg3.wordExact_slice rfl _ (k0_off115_wordsfp8e4m3 k0_t2 k0_h5)) ((harg7.wordExact_slice rfl _ (k0_off114_wordsfp8e4m3 k0_t2 k0_h5)).reshape _ _) ⟨Or.inl rfl, trivial⟩)
  let c1_i32_719_r0 : BitVec 32 := 1#32
  let v1259_r0 : BitVec 32 := Scalar.subi v0 c1_i32_719_r0
  let v1260_r0 : BitVec 1 := Scalar.cmpi .eq v1251_r0 v1259_r0
  let v1261_r0 : BitVec 32 := Scalar.extui v1260_r0
  let c0_i32_720_r0 : BitVec 32 := 0#32
  let v1262_r0 : BitVec 1 := Scalar.cmpi .ne v1261_r0 c0_i32_720_r0
  let v1264_r0 : Vec F S1x256x256 .fp8e4m3 ← Prog.lift (.load arg7 (Rect.unit (s := S6x512x12288) (k0_off118 k0_t2) S1x256x256.size (k0_off118_inb k0_t2)).toLoadRect (View.loadsAt_vmem h_S1x256x256))
  have v1265_r0 : FVec F S256x256 .fp8e4m3 := shapeCast S256x256 v1264_r0 shapeCasts_S1x256x256_S256x256
  have v1266_r0 : FVec F S256x256 .bf16 := extf .bf16 v1265_r0 bitsLt_fp8e4m3_bf16
  let k0_mxu484 : Mxu F ← k0_mxu482.pushRhs 0 0 true v1266_r0
  let v1268_r0 : Vec F S1x256x256 .fp8e4m3 ← Prog.lift (.load arg7 (Rect.unit (s := S6x512x12288) (k0_off119 k0_t2) S1x256x256.size (k0_off119_inb k0_t2)).toLoadRect (View.loadsAt_vmem h_S1x256x256))
  have v1269_r0 : FVec F S256x256 .fp8e4m3 := shapeCast S256x256 v1268_r0 shapeCasts_S1x256x256_S256x256
  have v1270_r0 : FVec F S256x256 .bf16 := extf .bf16 v1269_r0 bitsLt_fp8e4m3_bf16
  let k0_mxu485 : Mxu F ← k0_mxu484.pushRhs 1 0 true v1270_r0
  pure ⟨v1239_r0, v1240_r0, v1242_r0, k0_mxu485⟩

theorem part1_A_eq (v0 : BitVec 32) (c0_i32_23 : BitVec 32) (c0_i32_578_r0 : BitVec 32) (c1_i32_579_r0 : BitVec 32) (k0_t2 : Fin k0_t2_loop.trips) (k0_mxu482 : Mxu F) (k0_h5 : k0_cond5 k0_t2 = 1#1) (k0_h6 : ¬ k0_cond6 k0_t2 = 1#1) : k0_part1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v0 c0_i32_23 c0_i32_578_r0 c1_i32_579_r0 k0_t2 k0_mxu482 = part1_A arg3 harg3 arg7 harg7 arg15 v0 c0_i32_23 c0_i32_578_r0 c1_i32_579_r0 k0_t2 k0_mxu482 k0_h5 := by
  unfold k0_part1
  simp only [dif_pos k0_h5, dif_neg k0_h6]
  rfl

def part40_A (v0 : BitVec 32) (c0_i32_23 : BitVec 32) (k0_t2 : Fin k0_t2_loop.trips) (v1239_r0 : BitVec 32) (k0_mxu965 : Mxu F) (k0_h8 : k0_cond8 k0_t2 = 1#1) (k0_h9 : k0_cond9 k0_t2 = 1#1) : Prog (TpuEff nD τ sig (Elt F) Λ₀ .tc) (Σ' (k0_mxu971 : Mxu F), BitVec 32) := do
  let v2393_r0 : Vec F S64x256 .fp8e4m3 ← Prog.lift (.load arg8 (Rect.unit (s := S256x12288) ![64, 12032] S64x256.size inb_S256x12288_S64x256_64_12032).toLoadRect (View.loadsAt_vmem h_S64x256))
  have v2394_r0 : FVec F S64x256 .bf16 := extf .bf16 v2393_r0 bitsLt_fp8e4m3_bf16
  let k0_mxu966 : Mxu F ← k0_mxu965.accLhsLoaded 0 16 v2394_r0 fits_16_64
  let k0_mxu967 : Mxu F ← k0_mxu966.accLhsLoaded 1 16 v2394_r0 fits_16_64
  let v2395_r0 : Vec F S64x256 .fp8e4m3 ← Prog.lift (.load arg8 (Rect.unit (s := S256x12288) ![128, 12032] S64x256.size inb_S256x12288_S64x256_128_12032).toLoadRect (View.loadsAt_vmem h_S64x256))
  have v2396_r0 : FVec F S64x256 .bf16 := extf .bf16 v2395_r0 bitsLt_fp8e4m3_bf16
  let k0_mxu968 : Mxu F ← k0_mxu967.accLhsLoaded 0 32 v2396_r0 fits_32_64
  let k0_mxu969 : Mxu F ← k0_mxu968.accLhsLoaded 1 32 v2396_r0 fits_32_64
  let v2397_r0 : Vec F S64x256 .fp8e4m3 ← Prog.lift (.load arg8 (Rect.unit (s := S256x12288) ![192, 12032] S64x256.size inb_S256x12288_S64x256_192_12032).toLoadRect (View.loadsAt_vmem h_S64x256))
  have v2398_r0 : FVec F S64x256 .bf16 := extf .bf16 v2397_r0 bitsLt_fp8e4m3_bf16
  let k0_mxu970 : Mxu F ← k0_mxu969.accLhsLoaded 0 48 v2398_r0 fits_48_64
  let k0_mxu971 : Mxu F ← k0_mxu970.accLhsLoaded 1 48 v2398_r0 fits_48_64
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let c1_i32_1396_r0 : BitVec 32 := 1#32
  let v2402_r0 : BitVec 32 := Scalar.subi v0 c1_i32_1396_r0
  let v2403_r0 : BitVec 1 := Scalar.cmpi .eq v2400_r0 v2402_r0
  let v2404_r0 : BitVec 32 := Scalar.extui v2403_r0
  let c0_i32_1397_r0 : BitVec 32 := 0#32
  let v2405_r0 : BitVec 1 := Scalar.cmpi .ne v2404_r0 c0_i32_1397_r0
  let c1_i32_1398_r0 : BitVec 32 := 1#32
  let v2406_r0 : BitVec 32 := Scalar.subi v0 c1_i32_1398_r0
  let v2407_r0 : BitVec 1 := Scalar.cmpi .slt v2400_r0 v2406_r0
  let v2408_r0 : BitVec 32 := Scalar.extui v2407_r0
  let c0_i32_1399_r0 : BitVec 32 := 0#32
  let v2409_r0 : BitVec 1 := Scalar.cmpi .ne v2408_r0 c0_i32_1399_r0
  let c512_i32_2084_r0 : BitVec 32 := 512#32
  let v3559_r0 : BitVec 32 := Scalar.muli v2399_r0 c512_i32_2084_r0
  let v3560_r0 : BitVec 32 := v3559_r0
  let v3561_r0 : DmaSems sig S1 := arg15.slice (Rect.unit (s := S6) (k0_off217 k0_t2) S1.size (k0_off217_inb k0_t2 k0_h8))
  let v3562_r0 : DmaSems sig S_ := v3561_r0.squeeze S_ squeezes_S1_S_
  let c0_i32_2085_r0 : BitVec 32 := 0#32
  let c0_i32_2086_r0 : BitVec 32 := 0#32
  let v3563_r0 : Memref sig .tc .vmem S1x512x12288 .fp8e4m3 := arg7.slice (Rect.unit (s := S6x512x12288) (k0_off218 k0_t2) S1x512x12288.size (k0_off218_inb k0_t2 k0_h8)) (fun _ => rfl)
  let v3564_r0 : Memref sig .tc .vmem S512x12288 .fp8e4m3 := v3563_r0.squeeze S512x12288 squeezes_S1x512x12288_S512x12288
  let c0_i32_2087_r0 : BitVec 32 := 0#32
  let v3565_r0 : Memref sig .tc .hbm S512x12288 .fp8e4m3 := arg3.slice (Rect.unit (s := S30008x12288) (k0_off219 k0_t2) S512x12288.size (k0_off219_inb k0_t2 k0_h8)) (fun _ => rfl)
  Prog.lift (.waitDma2 v3562_r0.sem v3565_r0 v3564_r0 (harg3.wordExact_slice rfl _ (k0_off219_wordsfp8e4m3 k0_t2 k0_h8)) ((harg7.wordExact_slice rfl _ (k0_off218_wordsfp8e4m3 k0_t2 k0_h8)).reshape _ _))
  let c6_i32_1400_r0 : BitVec 32 := 6#32
  let v2410_r0 : BitVec 32 := Scalar.addi v2400_r0 c6_i32_1400_r0
  let c1_i32_1401_r0 : BitVec 32 := 1#32
  let v2411_r0 : BitVec 32 := Scalar.subi v2410_r0 c1_i32_1401_r0
  let c6_i32_1402_r0 : BitVec 32 := 6#32
  let v2413_r0 : BitVec 1 := Scalar.cmpi .sge v2411_r0 c0_i32_23
  let c1_i32_1403_r0 : BitVec 32 := 1#32
  let v2414_r0 : BitVec 32 := Scalar.subi v0 c1_i32_1403_r0
  let v2415_r0 : BitVec 1 := Scalar.cmpi .slt v2411_r0 v2414_r0
  let v2416_r0 : BitVec 1 := Scalar.andi v2413_r0 v2415_r0
  let v2417_r0 : BitVec 32 := Scalar.extui v2416_r0
  let c0_i32_1404_r0 : BitVec 32 := 0#32
  let v2418_r0 : BitVec 1 := Scalar.cmpi .ne v2417_r0 c0_i32_1404_r0
  let v3559_r0 : BitVec 32 := Scalar.subi v2411_r0 c0_i32_23
  let c512_i32_2084_r0 : BitVec 32 := 512#32
  let v3560_r0 : BitVec 32 := Scalar.muli v3559_r0 c512_i32_2084_r0
  let v3561_r0 : BitVec 32 := v3560_r0
  let v3562_r0 : DmaSems sig S1 := arg15.slice (Rect.unit (s := S6) (k0_off220 k0_t2) S1.size (k0_off220_inb k0_t2 k0_h9))
  let v3563_r0 : DmaSems sig S_ := v3562_r0.squeeze S_ squeezes_S1_S_
  let c0_i32_2085_r0 : BitVec 32 := 0#32
  let c0_i32_2086_r0 : BitVec 32 := 0#32
  let v3564_r0 : Memref sig .tc .vmem S1x512x12288 .fp8e4m3 := arg7.slice (Rect.unit (s := S6x512x12288) (k0_off221 k0_t2) S1x512x12288.size (k0_off221_inb k0_t2 k0_h9)) (fun _ => rfl)
  let v3565_r0 : Memref sig .tc .vmem S512x12288 .fp8e4m3 := v3564_r0.squeeze S512x12288 squeezes_S1x512x12288_S512x12288
  let c0_i32_2087_r0 : BitVec 32 := 0#32
  let v3566_r0 : Memref sig .tc .hbm S512x12288 .fp8e4m3 := arg3.slice (Rect.unit (s := S30008x12288) (k0_off222 k0_t2) S512x12288.size (k0_off222_inb k0_t2 k0_h9)) (fun _ => rfl)
  Prog.lift (.enqueueDma v3566_r0 (.here v3565_r0) (.dma v3563_r0.sem) (harg3.wordExact_slice rfl _ (k0_off222_wordsfp8e4m3 k0_t2 k0_h9)) ((harg7.wordExact_slice rfl _ (k0_off221_wordsfp8e4m3 k0_t2 k0_h9)).reshape _ _) ⟨Or.inl rfl, trivial⟩)
  let c1_i32_1405_r0 : BitVec 32 := 1#32
  let v2419_r0 : BitVec 32 := Scalar.subi v0 c1_i32_1405_r0
  let v2420_r0 : BitVec 1 := Scalar.cmpi .eq v2411_r0 v2419_r0
  let v2421_r0 : BitVec 32 := Scalar.extui v2420_r0
  let c0_i32_1406_r0 : BitVec 32 := 0#32
  let v2422_r0 : BitVec 1 := Scalar.cmpi .ne v2421_r0 c0_i32_1406_r0
  pure ⟨k0_mxu971, v2401_r0⟩

theorem part40_A_eq (v0 : BitVec 32) (c0_i32_23 : BitVec 32) (k0_t2 : Fin k0_t2_loop.trips) (v1239_r0 : BitVec 32) (k0_mxu965 : Mxu F) (k0_h7 : ¬ k0_cond7 k0_t2 = 1#1) (k0_h8 : k0_cond8 k0_t2 = 1#1) (k0_h9 : k0_cond9 k0_t2 = 1#1) (k0_h10 : ¬ k0_cond10 k0_t2 = 1#1) : k0_part40 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v0 c0_i32_23 k0_t2 v1239_r0 k0_mxu965 = part40_A arg3 harg3 arg7 harg7 arg8 arg15 v0 c0_i32_23 k0_t2 v1239_r0 k0_mxu965 k0_h8 k0_h9 := by
  unfold k0_part40
  simp only [dif_neg k0_h7, dif_pos k0_h8, dif_pos k0_h9, dif_neg k0_h10]
  rfl

theorem trip_A_eq (k0_t2 : Fin k0_t2_loop.trips) (k0_mxu482 : Mxu F) (k0_h5 : k0_cond5 k0_t2 = 1#1) (k0_h6 : ¬ k0_cond6 k0_t2 = 1#1) (k0_h7 : ¬ k0_cond7 k0_t2 = 1#1) (k0_h8 : k0_cond8 k0_t2 = 1#1) (k0_h9 : k0_cond9 k0_t2 = 1#1) (k0_h10 : ¬ k0_cond10 k0_t2 = 1#1) : tripBody (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482 = tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482 (fun k0_mxu482 => part1_A arg3 harg3 arg7 harg7 arg15 (Scalar.addi 0#32 59#32) 0#32 0#32 1#32 k0_t2 k0_mxu482 k0_h5) (fun v1239_r0 k0_mxu965 => part40_A arg3 harg3 arg7 harg7 arg8 arg15 (Scalar.addi 0#32 59#32) 0#32 k0_t2 v1239_r0 k0_mxu965 k0_h8 k0_h9) :=
  congrArg₂ (tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482) (funext fun k0_mxu482 => part1_A_eq (k0_t2 := k0_t2) (k0_h5 := k0_h5) (k0_h6 := k0_h6) ..) (funext fun v1239_r0 => funext fun k0_mxu965 => part40_A_eq (k0_t2 := k0_t2) (k0_h7 := k0_h7) (k0_h8 := k0_h8) (k0_h9 := k0_h9) (k0_h10 := k0_h10) ..)

def part1_B (v0 : BitVec 32) (c0_i32_23 : BitVec 32) (c0_i32_578_r0 : BitVec 32) (c1_i32_579_r0 : BitVec 32) (k0_t2 : Fin k0_t2_loop.trips) (k0_mxu482 : Mxu F) (k0_h6 : k0_cond6 k0_t2 = 1#1) : Prog (TpuEff nD τ sig (Elt F) Λ₀ .tc) (Σ' (v1239_r0 : BitVec 32) (v1240_r0 : BitVec 32) (v1242_r0 : BitVec 32), Mxu F) := do
  let arg19_r0 : BitVec 32 := Scf.iv c0_i32_578_r0 c1_i32_579_r0 k0_t2
  let c2_i32_r0 : BitVec 32 := 2#32
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let v1241_r0 : BitVec 32 := Scalar.addi c0_i32_23 v1239_r0
  let c6_i32_709_r0 : BitVec 32 := 6#32
  let v1242_r0 : BitVec 32 := Scalar.remsi v1241_r0 c6_i32_709_r0
  let c512_i32_710_r0 : BitVec 32 := 512#32
  let v1243_r0 : BitVec 32 := Scalar.muli v1239_r0 c512_i32_710_r0
  let v1245_r0 : DmaSems sig S1 := arg15.slice (Rect.unit (s := S6) (k0_off110 k0_t2) S1.size (k0_off110_inb k0_t2))
  let v1246_r0 : DmaSems sig S_ := v1245_r0.squeeze S_ squeezes_S1_S_
  let v1247_r0 : Memref sig .tc .vmem S1x512x12288 .fp8e4m3 := arg7.slice (Rect.unit (s := S6x512x12288) (k0_off111 k0_t2) S1x512x12288.size (k0_off111_inb k0_t2)) (fun _ => rfl)
  let v1248_r0 : Memref sig .tc .vmem S512x12288 .fp8e4m3 := v1247_r0.squeeze S512x12288 squeezes_S1x512x12288_S512x12288
  let v1249_r0 : Memref sig .tc .hbm S512x12288 .fp8e4m3 := arg3.slice (Rect.unit (s := S30008x12288) (k0_off112 k0_t2) S512x12288.size (k0_off112_inb k0_t2)) (fun _ => rfl)
  Prog.lift (.waitDma2 v1246_r0.sem v1249_r0 v1248_r0 (harg3.wordExact_slice rfl _ (k0_off112_wordsfp8e4m3 k0_t2)) ((harg7.wordExact_slice rfl _ (k0_off111_wordsfp8e4m3 k0_t2)).reshape _ _))
  let c6_i32_714_r0 : BitVec 32 := 6#32
  let v1250_r0 : BitVec 32 := Scalar.addi v1241_r0 c6_i32_714_r0
  let c1_i32_715_r0 : BitVec 32 := 1#32
  let v1251_r0 : BitVec 32 := Scalar.subi v1250_r0 c1_i32_715_r0
  let c6_i32_716_r0 : BitVec 32 := 6#32
  let v1253_r0 : BitVec 1 := Scalar.cmpi .sge v1251_r0 c0_i32_23
  let c1_i32_717_r0 : BitVec 32 := 1#32
  let v1254_r0 : BitVec 32 := Scalar.subi v0 c1_i32_717_r0
  let v1255_r0 : BitVec 1 := Scalar.cmpi .slt v1251_r0 v1254_r0
  let v1256_r0 : BitVec 1 := Scalar.andi v1253_r0 v1255_r0
  let v1257_r0 : BitVec 32 := Scalar.extui v1256_r0
  let c0_i32_718_r0 : BitVec 32 := 0#32
  let v1258_r0 : BitVec 1 := Scalar.cmpi .ne v1257_r0 c0_i32_718_r0
  let c1_i32_719_r0 : BitVec 32 := 1#32
  let v1259_r0 : BitVec 32 := Scalar.subi v0 c1_i32_719_r0
  let v1260_r0 : BitVec 1 := Scalar.cmpi .eq v1251_r0 v1259_r0
  let v1261_r0 : BitVec 32 := Scalar.extui v1260_r0
  let c0_i32_720_r0 : BitVec 32 := 0#32
  let v1262_r0 : BitVec 1 := Scalar.cmpi .ne v1261_r0 c0_i32_720_r0
  let v3559_r0 : BitVec 32 := Scalar.subi v1251_r0 c0_i32_23
  let c512_i32_2084_r0 : BitVec 32 := 512#32
  let v3560_r0 : BitVec 32 := Scalar.muli v3559_r0 c512_i32_2084_r0
  let v3562_r0 : Memref sig .tc .vmem S1x312x12288 .fp8e4m3 := arg7.slice (Rect.unit (s := S6x512x12288) (k0_off116 k0_t2) S1x312x12288.size (k0_off116_inb k0_t2 k0_h6)) (fun _ => rfl)
  let v3563_r0 : Memref sig .tc .vmem S312x12288 .fp8e4m3 := v3562_r0.squeeze S312x12288 squeezes_S1x312x12288_S312x12288
  let v3564_r0 : Memref sig .tc .hbm S312x12288 .fp8e4m3 := arg3.slice (Rect.unit (s := S30008x12288) (k0_off117 k0_t2) S312x12288.size (k0_off117_inb k0_t2 k0_h6)) (fun _ => rfl)
  Prog.lift (.enqueueDma v3564_r0 (.here v3563_r0) (.dma arg18.sem) (harg3.wordExact_slice rfl _ (k0_off117_wordsfp8e4m3 k0_t2 k0_h6)) ((harg7.wordExact_slice rfl _ (k0_off116_wordsfp8e4m3 k0_t2 k0_h6)).reshape _ _) ⟨Or.inl rfl, trivial⟩)
  let v1264_r0 : Vec F S1x256x256 .fp8e4m3 ← Prog.lift (.load arg7 (Rect.unit (s := S6x512x12288) (k0_off118 k0_t2) S1x256x256.size (k0_off118_inb k0_t2)).toLoadRect (View.loadsAt_vmem h_S1x256x256))
  have v1265_r0 : FVec F S256x256 .fp8e4m3 := shapeCast S256x256 v1264_r0 shapeCasts_S1x256x256_S256x256
  have v1266_r0 : FVec F S256x256 .bf16 := extf .bf16 v1265_r0 bitsLt_fp8e4m3_bf16
  let k0_mxu484 : Mxu F ← k0_mxu482.pushRhs 0 0 true v1266_r0
  let v1268_r0 : Vec F S1x256x256 .fp8e4m3 ← Prog.lift (.load arg7 (Rect.unit (s := S6x512x12288) (k0_off119 k0_t2) S1x256x256.size (k0_off119_inb k0_t2)).toLoadRect (View.loadsAt_vmem h_S1x256x256))
  have v1269_r0 : FVec F S256x256 .fp8e4m3 := shapeCast S256x256 v1268_r0 shapeCasts_S1x256x256_S256x256
  have v1270_r0 : FVec F S256x256 .bf16 := extf .bf16 v1269_r0 bitsLt_fp8e4m3_bf16
  let k0_mxu485 : Mxu F ← k0_mxu484.pushRhs 1 0 true v1270_r0
  pure ⟨v1239_r0, v1240_r0, v1242_r0, k0_mxu485⟩

theorem part1_B_eq (v0 : BitVec 32) (c0_i32_23 : BitVec 32) (c0_i32_578_r0 : BitVec 32) (c1_i32_579_r0 : BitVec 32) (k0_t2 : Fin k0_t2_loop.trips) (k0_mxu482 : Mxu F) (k0_h5 : ¬ k0_cond5 k0_t2 = 1#1) (k0_h6 : k0_cond6 k0_t2 = 1#1) : k0_part1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v0 c0_i32_23 c0_i32_578_r0 c1_i32_579_r0 k0_t2 k0_mxu482 = part1_B arg3 harg3 arg7 harg7 arg15 arg18 v0 c0_i32_23 c0_i32_578_r0 c1_i32_579_r0 k0_t2 k0_mxu482 k0_h6 := by
  unfold k0_part1
  simp only [dif_neg k0_h5, dif_pos k0_h6]
  rfl

def part40_B (v0 : BitVec 32) (c0_i32_23 : BitVec 32) (k0_t2 : Fin k0_t2_loop.trips) (v1239_r0 : BitVec 32) (k0_mxu965 : Mxu F) (k0_h8 : k0_cond8 k0_t2 = 1#1) : Prog (TpuEff nD τ sig (Elt F) Λ₀ .tc) (Σ' (k0_mxu971 : Mxu F), BitVec 32) := do
  let v2393_r0 : Vec F S64x256 .fp8e4m3 ← Prog.lift (.load arg8 (Rect.unit (s := S256x12288) ![64, 12032] S64x256.size inb_S256x12288_S64x256_64_12032).toLoadRect (View.loadsAt_vmem h_S64x256))
  have v2394_r0 : FVec F S64x256 .bf16 := extf .bf16 v2393_r0 bitsLt_fp8e4m3_bf16
  let k0_mxu966 : Mxu F ← k0_mxu965.accLhsLoaded 0 16 v2394_r0 fits_16_64
  let k0_mxu967 : Mxu F ← k0_mxu966.accLhsLoaded 1 16 v2394_r0 fits_16_64
  let v2395_r0 : Vec F S64x256 .fp8e4m3 ← Prog.lift (.load arg8 (Rect.unit (s := S256x12288) ![128, 12032] S64x256.size inb_S256x12288_S64x256_128_12032).toLoadRect (View.loadsAt_vmem h_S64x256))
  have v2396_r0 : FVec F S64x256 .bf16 := extf .bf16 v2395_r0 bitsLt_fp8e4m3_bf16
  let k0_mxu968 : Mxu F ← k0_mxu967.accLhsLoaded 0 32 v2396_r0 fits_32_64
  let k0_mxu969 : Mxu F ← k0_mxu968.accLhsLoaded 1 32 v2396_r0 fits_32_64
  let v2397_r0 : Vec F S64x256 .fp8e4m3 ← Prog.lift (.load arg8 (Rect.unit (s := S256x12288) ![192, 12032] S64x256.size inb_S256x12288_S64x256_192_12032).toLoadRect (View.loadsAt_vmem h_S64x256))
  have v2398_r0 : FVec F S64x256 .bf16 := extf .bf16 v2397_r0 bitsLt_fp8e4m3_bf16
  let k0_mxu970 : Mxu F ← k0_mxu969.accLhsLoaded 0 48 v2398_r0 fits_48_64
  let k0_mxu971 : Mxu F ← k0_mxu970.accLhsLoaded 1 48 v2398_r0 fits_48_64
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let c1_i32_1396_r0 : BitVec 32 := 1#32
  let v2402_r0 : BitVec 32 := Scalar.subi v0 c1_i32_1396_r0
  let v2403_r0 : BitVec 1 := Scalar.cmpi .eq v2400_r0 v2402_r0
  let v2404_r0 : BitVec 32 := Scalar.extui v2403_r0
  let c0_i32_1397_r0 : BitVec 32 := 0#32
  let v2405_r0 : BitVec 1 := Scalar.cmpi .ne v2404_r0 c0_i32_1397_r0
  let c1_i32_1398_r0 : BitVec 32 := 1#32
  let v2406_r0 : BitVec 32 := Scalar.subi v0 c1_i32_1398_r0
  let v2407_r0 : BitVec 1 := Scalar.cmpi .slt v2400_r0 v2406_r0
  let v2408_r0 : BitVec 32 := Scalar.extui v2407_r0
  let c0_i32_1399_r0 : BitVec 32 := 0#32
  let v2409_r0 : BitVec 1 := Scalar.cmpi .ne v2408_r0 c0_i32_1399_r0
  let c512_i32_2084_r0 : BitVec 32 := 512#32
  let v3559_r0 : BitVec 32 := Scalar.muli v2399_r0 c512_i32_2084_r0
  let v3561_r0 : DmaSems sig S1 := arg15.slice (Rect.unit (s := S6) (k0_off217 k0_t2) S1.size (k0_off217_inb k0_t2 k0_h8))
  let v3562_r0 : DmaSems sig S_ := v3561_r0.squeeze S_ squeezes_S1_S_
  let v3563_r0 : Memref sig .tc .vmem S1x512x12288 .fp8e4m3 := arg7.slice (Rect.unit (s := S6x512x12288) (k0_off218 k0_t2) S1x512x12288.size (k0_off218_inb k0_t2 k0_h8)) (fun _ => rfl)
  let v3564_r0 : Memref sig .tc .vmem S512x12288 .fp8e4m3 := v3563_r0.squeeze S512x12288 squeezes_S1x512x12288_S512x12288
  let v3565_r0 : Memref sig .tc .hbm S512x12288 .fp8e4m3 := arg3.slice (Rect.unit (s := S30008x12288) (k0_off219 k0_t2) S512x12288.size (k0_off219_inb k0_t2 k0_h8)) (fun _ => rfl)
  Prog.lift (.waitDma2 v3562_r0.sem v3565_r0 v3564_r0 (harg3.wordExact_slice rfl _ (k0_off219_wordsfp8e4m3 k0_t2 k0_h8)) ((harg7.wordExact_slice rfl _ (k0_off218_wordsfp8e4m3 k0_t2 k0_h8)).reshape _ _))
  let c6_i32_1400_r0 : BitVec 32 := 6#32
  let v2410_r0 : BitVec 32 := Scalar.addi v2400_r0 c6_i32_1400_r0
  let c1_i32_1401_r0 : BitVec 32 := 1#32
  let v2411_r0 : BitVec 32 := Scalar.subi v2410_r0 c1_i32_1401_r0
  let c6_i32_1402_r0 : BitVec 32 := 6#32
  let v2413_r0 : BitVec 1 := Scalar.cmpi .sge v2411_r0 c0_i32_23
  let c1_i32_1403_r0 : BitVec 32 := 1#32
  let v2414_r0 : BitVec 32 := Scalar.subi v0 c1_i32_1403_r0
  let v2415_r0 : BitVec 1 := Scalar.cmpi .slt v2411_r0 v2414_r0
  let v2416_r0 : BitVec 1 := Scalar.andi v2413_r0 v2415_r0
  let v2417_r0 : BitVec 32 := Scalar.extui v2416_r0
  let c0_i32_1404_r0 : BitVec 32 := 0#32
  let v2418_r0 : BitVec 1 := Scalar.cmpi .ne v2417_r0 c0_i32_1404_r0
  let c1_i32_1405_r0 : BitVec 32 := 1#32
  let v2419_r0 : BitVec 32 := Scalar.subi v0 c1_i32_1405_r0
  let v2420_r0 : BitVec 1 := Scalar.cmpi .eq v2411_r0 v2419_r0
  let v2421_r0 : BitVec 32 := Scalar.extui v2420_r0
  let c0_i32_1406_r0 : BitVec 32 := 0#32
  let v2422_r0 : BitVec 1 := Scalar.cmpi .ne v2421_r0 c0_i32_1406_r0
  pure ⟨k0_mxu971, v2401_r0⟩

theorem part40_B_eq (v0 : BitVec 32) (c0_i32_23 : BitVec 32) (k0_t2 : Fin k0_t2_loop.trips) (v1239_r0 : BitVec 32) (k0_mxu965 : Mxu F) (k0_h7 : ¬ k0_cond7 k0_t2 = 1#1) (k0_h8 : k0_cond8 k0_t2 = 1#1) (k0_h9 : ¬ k0_cond9 k0_t2 = 1#1) (k0_h10 : ¬ k0_cond10 k0_t2 = 1#1) : k0_part40 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v0 c0_i32_23 k0_t2 v1239_r0 k0_mxu965 = part40_B arg3 harg3 arg7 harg7 arg8 arg15 v0 c0_i32_23 k0_t2 v1239_r0 k0_mxu965 k0_h8 := by
  unfold k0_part40
  simp only [dif_neg k0_h7, dif_pos k0_h8, dif_neg k0_h9, dif_neg k0_h10]
  rfl

theorem trip_B_eq (k0_t2 : Fin k0_t2_loop.trips) (k0_mxu482 : Mxu F) (k0_h5 : ¬ k0_cond5 k0_t2 = 1#1) (k0_h6 : k0_cond6 k0_t2 = 1#1) (k0_h7 : ¬ k0_cond7 k0_t2 = 1#1) (k0_h8 : k0_cond8 k0_t2 = 1#1) (k0_h9 : ¬ k0_cond9 k0_t2 = 1#1) (k0_h10 : ¬ k0_cond10 k0_t2 = 1#1) : tripBody (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482 = tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482 (fun k0_mxu482 => part1_B arg3 harg3 arg7 harg7 arg15 arg18 (Scalar.addi 0#32 59#32) 0#32 0#32 1#32 k0_t2 k0_mxu482 k0_h6) (fun v1239_r0 k0_mxu965 => part40_B arg3 harg3 arg7 harg7 arg8 arg15 (Scalar.addi 0#32 59#32) 0#32 k0_t2 v1239_r0 k0_mxu965 k0_h8) :=
  congrArg₂ (tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482) (funext fun k0_mxu482 => part1_B_eq (k0_t2 := k0_t2) (k0_h5 := k0_h5) (k0_h6 := k0_h6) ..) (funext fun v1239_r0 => funext fun k0_mxu965 => part40_B_eq (k0_t2 := k0_t2) (k0_h7 := k0_h7) (k0_h8 := k0_h8) (k0_h9 := k0_h9) (k0_h10 := k0_h10) ..)

def part1_C (v0 : BitVec 32) (c0_i32_23 : BitVec 32) (c0_i32_578_r0 : BitVec 32) (c1_i32_579_r0 : BitVec 32) (k0_t2 : Fin k0_t2_loop.trips) (k0_mxu482 : Mxu F)  : Prog (TpuEff nD τ sig (Elt F) Λ₀ .tc) (Σ' (v1239_r0 : BitVec 32) (v1240_r0 : BitVec 32) (v1242_r0 : BitVec 32), Mxu F) := do
  let arg19_r0 : BitVec 32 := Scf.iv c0_i32_578_r0 c1_i32_579_r0 k0_t2
  let c2_i32_r0 : BitVec 32 := 2#32
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let v1241_r0 : BitVec 32 := Scalar.addi c0_i32_23 v1239_r0
  let c6_i32_709_r0 : BitVec 32 := 6#32
  let v1242_r0 : BitVec 32 := Scalar.remsi v1241_r0 c6_i32_709_r0
  let c512_i32_710_r0 : BitVec 32 := 512#32
  let v1243_r0 : BitVec 32 := Scalar.muli v1239_r0 c512_i32_710_r0
  let v1245_r0 : DmaSems sig S1 := arg15.slice (Rect.unit (s := S6) (k0_off110 k0_t2) S1.size (k0_off110_inb k0_t2))
  let v1246_r0 : DmaSems sig S_ := v1245_r0.squeeze S_ squeezes_S1_S_
  let v1247_r0 : Memref sig .tc .vmem S1x512x12288 .fp8e4m3 := arg7.slice (Rect.unit (s := S6x512x12288) (k0_off111 k0_t2) S1x512x12288.size (k0_off111_inb k0_t2)) (fun _ => rfl)
  let v1248_r0 : Memref sig .tc .vmem S512x12288 .fp8e4m3 := v1247_r0.squeeze S512x12288 squeezes_S1x512x12288_S512x12288
  let v1249_r0 : Memref sig .tc .hbm S512x12288 .fp8e4m3 := arg3.slice (Rect.unit (s := S30008x12288) (k0_off112 k0_t2) S512x12288.size (k0_off112_inb k0_t2)) (fun _ => rfl)
  Prog.lift (.waitDma2 v1246_r0.sem v1249_r0 v1248_r0 (harg3.wordExact_slice rfl _ (k0_off112_wordsfp8e4m3 k0_t2)) ((harg7.wordExact_slice rfl _ (k0_off111_wordsfp8e4m3 k0_t2)).reshape _ _))
  let c6_i32_714_r0 : BitVec 32 := 6#32
  let v1250_r0 : BitVec 32 := Scalar.addi v1241_r0 c6_i32_714_r0
  let c1_i32_715_r0 : BitVec 32 := 1#32
  let v1251_r0 : BitVec 32 := Scalar.subi v1250_r0 c1_i32_715_r0
  let c6_i32_716_r0 : BitVec 32 := 6#32
  let v1253_r0 : BitVec 1 := Scalar.cmpi .sge v1251_r0 c0_i32_23
  let c1_i32_717_r0 : BitVec 32 := 1#32
  let v1254_r0 : BitVec 32 := Scalar.subi v0 c1_i32_717_r0
  let v1255_r0 : BitVec 1 := Scalar.cmpi .slt v1251_r0 v1254_r0
  let v1256_r0 : BitVec 1 := Scalar.andi v1253_r0 v1255_r0
  let v1257_r0 : BitVec 32 := Scalar.extui v1256_r0
  let c0_i32_718_r0 : BitVec 32 := 0#32
  let v1258_r0 : BitVec 1 := Scalar.cmpi .ne v1257_r0 c0_i32_718_r0
  let c1_i32_719_r0 : BitVec 32 := 1#32
  let v1259_r0 : BitVec 32 := Scalar.subi v0 c1_i32_719_r0
  let v1260_r0 : BitVec 1 := Scalar.cmpi .eq v1251_r0 v1259_r0
  let v1261_r0 : BitVec 32 := Scalar.extui v1260_r0
  let c0_i32_720_r0 : BitVec 32 := 0#32
  let v1262_r0 : BitVec 1 := Scalar.cmpi .ne v1261_r0 c0_i32_720_r0
  let v1264_r0 : Vec F S1x256x256 .fp8e4m3 ← Prog.lift (.load arg7 (Rect.unit (s := S6x512x12288) (k0_off118 k0_t2) S1x256x256.size (k0_off118_inb k0_t2)).toLoadRect (View.loadsAt_vmem h_S1x256x256))
  have v1265_r0 : FVec F S256x256 .fp8e4m3 := shapeCast S256x256 v1264_r0 shapeCasts_S1x256x256_S256x256
  have v1266_r0 : FVec F S256x256 .bf16 := extf .bf16 v1265_r0 bitsLt_fp8e4m3_bf16
  let k0_mxu484 : Mxu F ← k0_mxu482.pushRhs 0 0 true v1266_r0
  let v1268_r0 : Vec F S1x256x256 .fp8e4m3 ← Prog.lift (.load arg7 (Rect.unit (s := S6x512x12288) (k0_off119 k0_t2) S1x256x256.size (k0_off119_inb k0_t2)).toLoadRect (View.loadsAt_vmem h_S1x256x256))
  have v1269_r0 : FVec F S256x256 .fp8e4m3 := shapeCast S256x256 v1268_r0 shapeCasts_S1x256x256_S256x256
  have v1270_r0 : FVec F S256x256 .bf16 := extf .bf16 v1269_r0 bitsLt_fp8e4m3_bf16
  let k0_mxu485 : Mxu F ← k0_mxu484.pushRhs 1 0 true v1270_r0
  pure ⟨v1239_r0, v1240_r0, v1242_r0, k0_mxu485⟩

theorem part1_C_eq (v0 : BitVec 32) (c0_i32_23 : BitVec 32) (c0_i32_578_r0 : BitVec 32) (c1_i32_579_r0 : BitVec 32) (k0_t2 : Fin k0_t2_loop.trips) (k0_mxu482 : Mxu F) (k0_h5 : ¬ k0_cond5 k0_t2 = 1#1) (k0_h6 : ¬ k0_cond6 k0_t2 = 1#1) : k0_part1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v0 c0_i32_23 c0_i32_578_r0 c1_i32_579_r0 k0_t2 k0_mxu482 = part1_C arg3 harg3 arg7 harg7 arg15 v0 c0_i32_23 c0_i32_578_r0 c1_i32_579_r0 k0_t2 k0_mxu482  := by
  unfold k0_part1
  simp only [dif_neg k0_h5, dif_neg k0_h6]
  rfl

theorem trip_C_eq (k0_t2 : Fin k0_t2_loop.trips) (k0_mxu482 : Mxu F) (k0_h5 : ¬ k0_cond5 k0_t2 = 1#1) (k0_h6 : ¬ k0_cond6 k0_t2 = 1#1) (k0_h7 : ¬ k0_cond7 k0_t2 = 1#1) (k0_h8 : k0_cond8 k0_t2 = 1#1) (k0_h9 : ¬ k0_cond9 k0_t2 = 1#1) (k0_h10 : ¬ k0_cond10 k0_t2 = 1#1) : tripBody (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482 = tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482 (fun k0_mxu482 => part1_C arg3 harg3 arg7 harg7 arg15 (Scalar.addi 0#32 59#32) 0#32 0#32 1#32 k0_t2 k0_mxu482 ) (fun v1239_r0 k0_mxu965 => part40_B arg3 harg3 arg7 harg7 arg8 arg15 (Scalar.addi 0#32 59#32) 0#32 k0_t2 v1239_r0 k0_mxu965 k0_h8) :=
  congrArg₂ (tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482) (funext fun k0_mxu482 => part1_C_eq (k0_t2 := k0_t2) (k0_h5 := k0_h5) (k0_h6 := k0_h6) ..) (funext fun v1239_r0 => funext fun k0_mxu965 => part40_B_eq (k0_t2 := k0_t2) (k0_h7 := k0_h7) (k0_h8 := k0_h8) (k0_h9 := k0_h9) (k0_h10 := k0_h10) ..)

def part40_D (v0 : BitVec 32) (c0_i32_23 : BitVec 32) (k0_t2 : Fin k0_t2_loop.trips) (v1239_r0 : BitVec 32) (k0_mxu965 : Mxu F) (k0_h7 : k0_cond7 k0_t2 = 1#1) : Prog (TpuEff nD τ sig (Elt F) Λ₀ .tc) (Σ' (k0_mxu971 : Mxu F), BitVec 32) := do
  let v2393_r0 : Vec F S64x256 .fp8e4m3 ← Prog.lift (.load arg8 (Rect.unit (s := S256x12288) ![64, 12032] S64x256.size inb_S256x12288_S64x256_64_12032).toLoadRect (View.loadsAt_vmem h_S64x256))
  have v2394_r0 : FVec F S64x256 .bf16 := extf .bf16 v2393_r0 bitsLt_fp8e4m3_bf16
  let k0_mxu966 : Mxu F ← k0_mxu965.accLhsLoaded 0 16 v2394_r0 fits_16_64
  let k0_mxu967 : Mxu F ← k0_mxu966.accLhsLoaded 1 16 v2394_r0 fits_16_64
  let v2395_r0 : Vec F S64x256 .fp8e4m3 ← Prog.lift (.load arg8 (Rect.unit (s := S256x12288) ![128, 12032] S64x256.size inb_S256x12288_S64x256_128_12032).toLoadRect (View.loadsAt_vmem h_S64x256))
  have v2396_r0 : FVec F S64x256 .bf16 := extf .bf16 v2395_r0 bitsLt_fp8e4m3_bf16
  let k0_mxu968 : Mxu F ← k0_mxu967.accLhsLoaded 0 32 v2396_r0 fits_32_64
  let k0_mxu969 : Mxu F ← k0_mxu968.accLhsLoaded 1 32 v2396_r0 fits_32_64
  let v2397_r0 : Vec F S64x256 .fp8e4m3 ← Prog.lift (.load arg8 (Rect.unit (s := S256x12288) ![192, 12032] S64x256.size inb_S256x12288_S64x256_192_12032).toLoadRect (View.loadsAt_vmem h_S64x256))
  have v2398_r0 : FVec F S64x256 .bf16 := extf .bf16 v2397_r0 bitsLt_fp8e4m3_bf16
  let k0_mxu970 : Mxu F ← k0_mxu969.accLhsLoaded 0 48 v2398_r0 fits_48_64
  let k0_mxu971 : Mxu F ← k0_mxu970.accLhsLoaded 1 48 v2398_r0 fits_48_64
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let c1_i32_1396_r0 : BitVec 32 := 1#32
  let v2402_r0 : BitVec 32 := Scalar.subi v0 c1_i32_1396_r0
  let v2403_r0 : BitVec 1 := Scalar.cmpi .eq v2400_r0 v2402_r0
  let v2404_r0 : BitVec 32 := Scalar.extui v2403_r0
  let c0_i32_1397_r0 : BitVec 32 := 0#32
  let v2405_r0 : BitVec 1 := Scalar.cmpi .ne v2404_r0 c0_i32_1397_r0
  let c512_i32_2084_r0 : BitVec 32 := 512#32
  let v3559_r0 : BitVec 32 := Scalar.muli v2399_r0 c512_i32_2084_r0
  let v3561_r0 : Memref sig .tc .vmem S1x312x12288 .fp8e4m3 := arg7.slice (Rect.unit (s := S6x512x12288) (k0_off215 k0_t2) S1x312x12288.size (k0_off215_inb k0_t2 k0_h7)) (fun _ => rfl)
  let v3562_r0 : Memref sig .tc .vmem S312x12288 .fp8e4m3 := v3561_r0.squeeze S312x12288 squeezes_S1x312x12288_S312x12288
  let v3563_r0 : Memref sig .tc .hbm S312x12288 .fp8e4m3 := arg3.slice (Rect.unit (s := S30008x12288) (k0_off216 k0_t2) S312x12288.size (k0_off216_inb k0_t2 k0_h7)) (fun _ => rfl)
  Prog.lift (.waitDma2 arg18.sem v3563_r0 v3562_r0 (harg3.wordExact_slice rfl _ (k0_off216_wordsfp8e4m3 k0_t2 k0_h7)) ((harg7.wordExact_slice rfl _ (k0_off215_wordsfp8e4m3 k0_t2 k0_h7)).reshape _ _))
  let c1_i32_1398_r0 : BitVec 32 := 1#32
  let v2406_r0 : BitVec 32 := Scalar.subi v0 c1_i32_1398_r0
  let v2407_r0 : BitVec 1 := Scalar.cmpi .slt v2400_r0 v2406_r0
  let v2408_r0 : BitVec 32 := Scalar.extui v2407_r0
  let c0_i32_1399_r0 : BitVec 32 := 0#32
  let v2409_r0 : BitVec 1 := Scalar.cmpi .ne v2408_r0 c0_i32_1399_r0
  let c6_i32_1400_r0 : BitVec 32 := 6#32
  let v2410_r0 : BitVec 32 := Scalar.addi v2400_r0 c6_i32_1400_r0
  let c1_i32_1401_r0 : BitVec 32 := 1#32
  let v2411_r0 : BitVec 32 := Scalar.subi v2410_r0 c1_i32_1401_r0
  let c6_i32_1402_r0 : BitVec 32 := 6#32
  let v2413_r0 : BitVec 1 := Scalar.cmpi .sge v2411_r0 c0_i32_23
  let c1_i32_1403_r0 : BitVec 32 := 1#32
  let v2414_r0 : BitVec 32 := Scalar.subi v0 c1_i32_1403_r0
  let v2415_r0 : BitVec 1 := Scalar.cmpi .slt v2411_r0 v2414_r0
  let v2416_r0 : BitVec 1 := Scalar.andi v2413_r0 v2415_r0
  let v2417_r0 : BitVec 32 := Scalar.extui v2416_r0
  let c0_i32_1404_r0 : BitVec 32 := 0#32
  let v2418_r0 : BitVec 1 := Scalar.cmpi .ne v2417_r0 c0_i32_1404_r0
  let c1_i32_1405_r0 : BitVec 32 := 1#32
  let v2419_r0 : BitVec 32 := Scalar.subi v0 c1_i32_1405_r0
  let v2420_r0 : BitVec 1 := Scalar.cmpi .eq v2411_r0 v2419_r0
  let v2421_r0 : BitVec 32 := Scalar.extui v2420_r0
  let c0_i32_1406_r0 : BitVec 32 := 0#32
  let v2422_r0 : BitVec 1 := Scalar.cmpi .ne v2421_r0 c0_i32_1406_r0
  pure ⟨k0_mxu971, v2401_r0⟩

theorem part40_D_eq (v0 : BitVec 32) (c0_i32_23 : BitVec 32) (k0_t2 : Fin k0_t2_loop.trips) (v1239_r0 : BitVec 32) (k0_mxu965 : Mxu F) (k0_h7 : k0_cond7 k0_t2 = 1#1) (k0_h8 : ¬ k0_cond8 k0_t2 = 1#1) (k0_h9 : ¬ k0_cond9 k0_t2 = 1#1) (k0_h10 : ¬ k0_cond10 k0_t2 = 1#1) : k0_part40 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v0 c0_i32_23 k0_t2 v1239_r0 k0_mxu965 = part40_D arg3 harg3 arg7 harg7 arg8 arg18 v0 c0_i32_23 k0_t2 v1239_r0 k0_mxu965 k0_h7 := by
  unfold k0_part40
  simp only [dif_pos k0_h7, dif_neg k0_h8, dif_neg k0_h9, dif_neg k0_h10]
  rfl

theorem trip_D_eq (k0_t2 : Fin k0_t2_loop.trips) (k0_mxu482 : Mxu F) (k0_h5 : ¬ k0_cond5 k0_t2 = 1#1) (k0_h6 : ¬ k0_cond6 k0_t2 = 1#1) (k0_h7 : k0_cond7 k0_t2 = 1#1) (k0_h8 : ¬ k0_cond8 k0_t2 = 1#1) (k0_h9 : ¬ k0_cond9 k0_t2 = 1#1) (k0_h10 : ¬ k0_cond10 k0_t2 = 1#1) : tripBody (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482 = tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482 (fun k0_mxu482 => part1_C arg3 harg3 arg7 harg7 arg15 (Scalar.addi 0#32 59#32) 0#32 0#32 1#32 k0_t2 k0_mxu482 ) (fun v1239_r0 k0_mxu965 => part40_D arg3 harg3 arg7 harg7 arg8 arg18 (Scalar.addi 0#32 59#32) 0#32 k0_t2 v1239_r0 k0_mxu965 k0_h7) :=
  congrArg₂ (tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482) (funext fun k0_mxu482 => part1_C_eq (k0_t2 := k0_t2) (k0_h5 := k0_h5) (k0_h6 := k0_h6) ..) (funext fun v1239_r0 => funext fun k0_mxu965 => part40_D_eq (k0_t2 := k0_t2) (k0_h7 := k0_h7) (k0_h8 := k0_h8) (k0_h9 := k0_h9) (k0_h10 := k0_h10) ..)

end Cert.Kernel
-- ==== Proof.EqK.lean ====
/- The printed kernel is the program of `Head`: its first lines, each trip (by how its branches go), its last lines. -/
module

public import proofs.«01_k».proof.Proof.Prog
public import proofs.«01_k».proof.Proof.TextK
public import Idealize.ShloMosaic.Lib.Tactic

@[expose] public section

set_option maxRecDepth 1000000

noncomputable section

namespace Cert.Kernel

open Idealize.ShloMosaic Idealize.SL.Sem Idealize.ShloMosaic.Tactic
open Idealize.ShloMosaic.RefSig (ofTc tcTables tileCredit tileCredit_eq_zero tileCredit_pos)

variable {F : FTy → Type} [FloatOps F]
variable [Facts]
open Facts₀ Facts

/-- The first block of trip `t`, as the kernel computes it. -/
def jw (t : Fin k0_t2_loop.trips) : BitVec 32 := Scalar.addi (Scalar.muli 2#32 (Scf.iv 0#32 1#32 t)) 1#32

theorem hcb1 (t : Fin k0_t2_loop.trips) : ∀ c, c < 4 → (Head.wcol (Scalar.muli (Scalar.subi (jw t) 1#32) 512#32) c).toNat + 128 ≤ 30003 :=
  fun c hc => k0_off130_inb t ⟨c, hc⟩ 0

theorem hcb2 (t : Fin k0_t2_loop.trips) : ∀ c, c < 4 →
    (Head.wcol (Scalar.muli (jw t) 512#32) c).toNat + 128 ≤ 30003 :=
  fun c hc => k0_off237_inb t ⟨c, hc⟩ 0

/-- A trip of kind A. -/
theorem tripP_A (arg0 : Memref sig .tc .hbm S256x12288 .fp8e4m3) (harg0 : arg0.IsWhole) (arg1 : Memref sig .tc .vmem S2x128 .f32) (harg1 : arg1.IsWhole) (arg2 : Memref sig .tc .vmem S2x128 .i32) (harg2 : arg2.IsWhole) (arg3 : Memref sig .tc .hbm S30008x12288 .fp8e4m3) (harg3 : arg3.IsWhole) (arg4 : Memref sig .tc .hbm S30003 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S6x512x12288 .fp8e4m3) (harg7 : arg7.IsWhole) (arg8 : Memref sig .tc .vmem S256x12288 .fp8e4m3) (harg8 : arg8.IsWhole) (arg9 : Memref sig .tc .vmem S30003 .f32) (harg9 : arg9.IsWhole) (arg10 : Memref sig .tc .vmem S256x128 .i32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : DmaSems sig S6) (arg16 : DmaSems sig S_) (arg17 : DmaSems sig S_) (arg18 : DmaSems sig S_) (k0_t2 : Fin k0_t2_loop.trips) (s : Mxu F) (k0_h5 : k0_cond5 k0_t2 = 1#1) (k0_h6 : ¬ k0_cond6 k0_t2 = 1#1) (k0_h7 : ¬ k0_cond7 k0_t2 = 1#1) (k0_h8 : k0_cond8 k0_t2 = 1#1) (k0_h9 : k0_cond9 k0_t2 = 1#1) (k0_h10 : ¬ k0_cond10 k0_t2 = 1#1) : tripBody arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 s =
    (Head.waitF arg3 arg7 arg15 (k0_off111 k0_t2 0) (k0_off111_inb k0_t2 0) (k0_off112 k0_t2 0) (k0_off112_inb k0_t2 0) (harg3.wordExact_slice rfl _ (k0_off112_wordsfp8e4m3 k0_t2)) ((harg7.wordExact_slice rfl _ (k0_off111_wordsfp8e4m3 k0_t2)).reshape _ _) <|
    Head.startF arg3 arg7 arg15 (k0_off114 k0_t2 0) (k0_off114_inb k0_t2 k0_h5 0) (k0_off115 k0_t2 0) (k0_off115_inb k0_t2 k0_h5 0) (harg3.wordExact_slice rfl _ (k0_off115_wordsfp8e4m3 k0_t2 k0_h5)) ((harg7.wordExact_slice rfl _ (k0_off114_wordsfp8e4m3 k0_t2 k0_h5)).reshape _ _) <|
    Head.blockK arg7 arg8 (k0_off118 k0_t2 0) (k0_off118_inb k0_t2 0) 0 (by decide) (Head.drainK arg9 arg10 arg11 arg12 arg13 arg14 (Scalar.muli (Scalar.subi (jw k0_t2) 1#32) 512#32) (hcb1 k0_t2) 1 (by decide)) s fun s =>
    Head.waitF arg3 arg7 arg15 (k0_off218 k0_t2 0) (k0_off218_inb k0_t2 k0_h8 0) (k0_off219 k0_t2 0) (k0_off219_inb k0_t2 k0_h8 0) (harg3.wordExact_slice rfl _ (k0_off219_wordsfp8e4m3 k0_t2 k0_h8)) ((harg7.wordExact_slice rfl _ (k0_off218_wordsfp8e4m3 k0_t2 k0_h8)).reshape _ _) <|
    Head.startF arg3 arg7 arg15 (k0_off221 k0_t2 0) (k0_off221_inb k0_t2 k0_h9 0) (k0_off222 k0_t2 0) (k0_off222_inb k0_t2 k0_h9 0) (harg3.wordExact_slice rfl _ (k0_off222_wordsfp8e4m3 k0_t2 k0_h9)) ((harg7.wordExact_slice rfl _ (k0_off221_wordsfp8e4m3 k0_t2 k0_h9)).reshape _ _) <|
    Head.blockK arg7 arg8 (k0_off225 k0_t2 0) (k0_off225_inb k0_t2 0) 1 (by decide) (Head.drainK arg9 arg10 arg11 arg12 arg13 arg14 (Scalar.muli (jw k0_t2) 512#32) (hcb2 k0_t2) 0 (by decide)) s fun s => .ret (0#32, s)) := by
  rw [trip_A_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 s k0_h5 k0_h6 k0_h7 k0_h8 k0_h9 k0_h10]
  sl_kernel_rfl

/-- A trip of kind B. -/
theorem tripP_B (arg0 : Memref sig .tc .hbm S256x12288 .fp8e4m3) (harg0 : arg0.IsWhole) (arg1 : Memref sig .tc .vmem S2x128 .f32) (harg1 : arg1.IsWhole) (arg2 : Memref sig .tc .vmem S2x128 .i32) (harg2 : arg2.IsWhole) (arg3 : Memref sig .tc .hbm S30008x12288 .fp8e4m3) (harg3 : arg3.IsWhole) (arg4 : Memref sig .tc .hbm S30003 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S6x512x12288 .fp8e4m3) (harg7 : arg7.IsWhole) (arg8 : Memref sig .tc .vmem S256x12288 .fp8e4m3) (harg8 : arg8.IsWhole) (arg9 : Memref sig .tc .vmem S30003 .f32) (harg9 : arg9.IsWhole) (arg10 : Memref sig .tc .vmem S256x128 .i32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : DmaSems sig S6) (arg16 : DmaSems sig S_) (arg17 : DmaSems sig S_) (arg18 : DmaSems sig S_) (k0_t2 : Fin k0_t2_loop.trips) (s : Mxu F) (k0_h5 : ¬ k0_cond5 k0_t2 = 1#1) (k0_h6 : k0_cond6 k0_t2 = 1#1) (k0_h7 : ¬ k0_cond7 k0_t2 = 1#1) (k0_h8 : k0_cond8 k0_t2 = 1#1) (k0_h9 : ¬ k0_cond9 k0_t2 = 1#1) (k0_h10 : ¬ k0_cond10 k0_t2 = 1#1) : tripBody arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 s =
    (Head.waitF arg3 arg7 arg15 (k0_off111 k0_t2 0) (k0_off111_inb k0_t2 0) (k0_off112 k0_t2 0) (k0_off112_inb k0_t2 0) (harg3.wordExact_slice rfl _ (k0_off112_wordsfp8e4m3 k0_t2)) ((harg7.wordExact_slice rfl _ (k0_off111_wordsfp8e4m3 k0_t2)).reshape _ _) <|
    Head.startL arg3 arg7 arg18.sem (k0_off116 k0_t2 0) (k0_off116_inb k0_t2 k0_h6 0) (k0_off117 k0_t2 0) (k0_off117_inb k0_t2 k0_h6 0) (harg3.wordExact_slice rfl _ (k0_off117_wordsfp8e4m3 k0_t2 k0_h6)) ((harg7.wordExact_slice rfl _ (k0_off116_wordsfp8e4m3 k0_t2 k0_h6)).reshape _ _) <|
    Head.blockK arg7 arg8 (k0_off118 k0_t2 0) (k0_off118_inb k0_t2 0) 0 (by decide) (Head.drainK arg9 arg10 arg11 arg12 arg13 arg14 (Scalar.muli (Scalar.subi (jw k0_t2) 1#32) 512#32) (hcb1 k0_t2) 1 (by decide)) s fun s =>
    Head.waitF arg3 arg7 arg15 (k0_off218 k0_t2 0) (k0_off218_inb k0_t2 k0_h8 0) (k0_off219 k0_t2 0) (k0_off219_inb k0_t2 k0_h8 0) (harg3.wordExact_slice rfl _ (k0_off219_wordsfp8e4m3 k0_t2 k0_h8)) ((harg7.wordExact_slice rfl _ (k0_off218_wordsfp8e4m3 k0_t2 k0_h8)).reshape _ _) <|
    Head.blockK arg7 arg8 (k0_off225 k0_t2 0) (k0_off225_inb k0_t2 0) 1 (by decide) (Head.drainK arg9 arg10 arg11 arg12 arg13 arg14 (Scalar.muli (jw k0_t2) 512#32) (hcb2 k0_t2) 0 (by decide)) s fun s => .ret (0#32, s)) := by
  rw [trip_B_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 s k0_h5 k0_h6 k0_h7 k0_h8 k0_h9 k0_h10]
  sl_kernel_rfl

/-- A trip of kind C. -/
theorem tripP_C (arg0 : Memref sig .tc .hbm S256x12288 .fp8e4m3) (harg0 : arg0.IsWhole) (arg1 : Memref sig .tc .vmem S2x128 .f32) (harg1 : arg1.IsWhole) (arg2 : Memref sig .tc .vmem S2x128 .i32) (harg2 : arg2.IsWhole) (arg3 : Memref sig .tc .hbm S30008x12288 .fp8e4m3) (harg3 : arg3.IsWhole) (arg4 : Memref sig .tc .hbm S30003 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S6x512x12288 .fp8e4m3) (harg7 : arg7.IsWhole) (arg8 : Memref sig .tc .vmem S256x12288 .fp8e4m3) (harg8 : arg8.IsWhole) (arg9 : Memref sig .tc .vmem S30003 .f32) (harg9 : arg9.IsWhole) (arg10 : Memref sig .tc .vmem S256x128 .i32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : DmaSems sig S6) (arg16 : DmaSems sig S_) (arg17 : DmaSems sig S_) (arg18 : DmaSems sig S_) (k0_t2 : Fin k0_t2_loop.trips) (s : Mxu F) (k0_h5 : ¬ k0_cond5 k0_t2 = 1#1) (k0_h6 : ¬ k0_cond6 k0_t2 = 1#1) (k0_h7 : ¬ k0_cond7 k0_t2 = 1#1) (k0_h8 : k0_cond8 k0_t2 = 1#1) (k0_h9 : ¬ k0_cond9 k0_t2 = 1#1) (k0_h10 : ¬ k0_cond10 k0_t2 = 1#1) : tripBody arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 s =
    (Head.waitF arg3 arg7 arg15 (k0_off111 k0_t2 0) (k0_off111_inb k0_t2 0) (k0_off112 k0_t2 0) (k0_off112_inb k0_t2 0) (harg3.wordExact_slice rfl _ (k0_off112_wordsfp8e4m3 k0_t2)) ((harg7.wordExact_slice rfl _ (k0_off111_wordsfp8e4m3 k0_t2)).reshape _ _) <|
    Head.blockK arg7 arg8 (k0_off118 k0_t2 0) (k0_off118_inb k0_t2 0) 0 (by decide) (Head.drainK arg9 arg10 arg11 arg12 arg13 arg14 (Scalar.muli (Scalar.subi (jw k0_t2) 1#32) 512#32) (hcb1 k0_t2) 1 (by decide)) s fun s =>
    Head.waitF arg3 arg7 arg15 (k0_off218 k0_t2 0) (k0_off218_inb k0_t2 k0_h8 0) (k0_off219 k0_t2 0) (k0_off219_inb k0_t2 k0_h8 0) (harg3.wordExact_slice rfl _ (k0_off219_wordsfp8e4m3 k0_t2 k0_h8)) ((harg7.wordExact_slice rfl _ (k0_off218_wordsfp8e4m3 k0_t2 k0_h8)).reshape _ _) <|
    Head.blockK arg7 arg8 (k0_off225 k0_t2 0) (k0_off225_inb k0_t2 0) 1 (by decide) (Head.drainK arg9 arg10 arg11 arg12 arg13 arg14 (Scalar.muli (jw k0_t2) 512#32) (hcb2 k0_t2) 0 (by decide)) s fun s => .ret (0#32, s)) := by
  rw [trip_C_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 s k0_h5 k0_h6 k0_h7 k0_h8 k0_h9 k0_h10]
  sl_kernel_rfl

/-- A trip of kind D. -/
theorem tripP_D (arg0 : Memref sig .tc .hbm S256x12288 .fp8e4m3) (harg0 : arg0.IsWhole) (arg1 : Memref sig .tc .vmem S2x128 .f32) (harg1 : arg1.IsWhole) (arg2 : Memref sig .tc .vmem S2x128 .i32) (harg2 : arg2.IsWhole) (arg3 : Memref sig .tc .hbm S30008x12288 .fp8e4m3) (harg3 : arg3.IsWhole) (arg4 : Memref sig .tc .hbm S30003 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S6x512x12288 .fp8e4m3) (harg7 : arg7.IsWhole) (arg8 : Memref sig .tc .vmem S256x12288 .fp8e4m3) (harg8 : arg8.IsWhole) (arg9 : Memref sig .tc .vmem S30003 .f32) (harg9 : arg9.IsWhole) (arg10 : Memref sig .tc .vmem S256x128 .i32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : DmaSems sig S6) (arg16 : DmaSems sig S_) (arg17 : DmaSems sig S_) (arg18 : DmaSems sig S_) (k0_t2 : Fin k0_t2_loop.trips) (s : Mxu F) (k0_h5 : ¬ k0_cond5 k0_t2 = 1#1) (k0_h6 : ¬ k0_cond6 k0_t2 = 1#1) (k0_h7 : k0_cond7 k0_t2 = 1#1) (k0_h8 : ¬ k0_cond8 k0_t2 = 1#1) (k0_h9 : ¬ k0_cond9 k0_t2 = 1#1) (k0_h10 : ¬ k0_cond10 k0_t2 = 1#1) : tripBody arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 s =
    (Head.waitF arg3 arg7 arg15 (k0_off111 k0_t2 0) (k0_off111_inb k0_t2 0) (k0_off112 k0_t2 0) (k0_off112_inb k0_t2 0) (harg3.wordExact_slice rfl _ (k0_off112_wordsfp8e4m3 k0_t2)) ((harg7.wordExact_slice rfl _ (k0_off111_wordsfp8e4m3 k0_t2)).reshape _ _) <|
    Head.blockK arg7 arg8 (k0_off118 k0_t2 0) (k0_off118_inb k0_t2 0) 0 (by decide) (Head.drainK arg9 arg10 arg11 arg12 arg13 arg14 (Scalar.muli (Scalar.subi (jw k0_t2) 1#32) 512#32) (hcb1 k0_t2) 1 (by decide)) s fun s =>
    Head.waitL arg3 arg7 arg18.sem (k0_off215 k0_t2 0) (k0_off215_inb k0_t2 k0_h7 0) (k0_off216 k0_t2 0) (k0_off216_inb k0_t2 k0_h7 0) (harg3.wordExact_slice rfl _ (k0_off216_wordsfp8e4m3 k0_t2 k0_h7)) ((harg7.wordExact_slice rfl _ (k0_off215_wordsfp8e4m3 k0_t2 k0_h7)).reshape _ _) <|
    Head.blockK arg7 arg8 (k0_off225 k0_t2 0) (k0_off225_inb k0_t2 0) 1 (by decide) (Head.drainK arg9 arg10 arg11 arg12 arg13 arg14 (Scalar.muli (jw k0_t2) 512#32) (hcb2 k0_t2) 0 (by decide)) s fun s => .ret (0#32, s)) := by
  rw [trip_D_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 s k0_h5 k0_h6 k0_h7 k0_h8 k0_h9 k0_h10]
  sl_kernel_rfl

/-- The kernel up to its first loop. -/
theorem body_eq (arg0 : Memref sig .tc .hbm S256x12288 .fp8e4m3) (harg0 : arg0.IsWhole) (arg1 : Memref sig .tc .vmem S2x128 .f32) (harg1 : arg1.IsWhole) (arg2 : Memref sig .tc .vmem S2x128 .i32) (harg2 : arg2.IsWhole) (arg3 : Memref sig .tc .hbm S30008x12288 .fp8e4m3) (harg3 : arg3.IsWhole) (arg4 : Memref sig .tc .hbm S30003 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S6x512x12288 .fp8e4m3) (harg7 : arg7.IsWhole) (arg8 : Memref sig .tc .vmem S256x12288 .fp8e4m3) (harg8 : arg8.IsWhole) (arg9 : Memref sig .tc .vmem S30003 .f32) (harg9 : arg9.IsWhole) (arg10 : Memref sig .tc .vmem S256x128 .i32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : DmaSems sig S6) (arg16 : DmaSems sig S_) (arg17 : DmaSems sig S_) (arg18 : DmaSems sig S_) : cc0_adaptive_softmax (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 =
    Head.copiesK arg0 arg4 arg8 arg9 arg16.sem arg17.sem harg0.wordExact harg8.wordExact harg4.wordExact harg9.wordExact
      ((Scf.Loop.for k0_t1_loop k0_t1_ok ⟨⟩ (fun k0_t1 _ => loop1Body arg3 harg3 arg7 harg7 arg15 arg18 k0_t1) >>= fun _ => tail80 arg2 arg10) >>= K80 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18) := by
  sl_kernel_rfl

/-- From there to the second. -/
theorem mid_eq (arg0 : Memref sig .tc .hbm S256x12288 .fp8e4m3) (harg0 : arg0.IsWhole) (arg1 : Memref sig .tc .vmem S2x128 .f32) (harg1 : arg1.IsWhole) (arg2 : Memref sig .tc .vmem S2x128 .i32) (harg2 : arg2.IsWhole) (arg3 : Memref sig .tc .hbm S30008x12288 .fp8e4m3) (harg3 : arg3.IsWhole) (arg4 : Memref sig .tc .hbm S30003 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S6x512x12288 .fp8e4m3) (harg7 : arg7.IsWhole) (arg8 : Memref sig .tc .vmem S256x12288 .fp8e4m3) (harg8 : arg8.IsWhole) (arg9 : Memref sig .tc .vmem S30003 .f32) (harg9 : arg9.IsWhole) (arg10 : Memref sig .tc .vmem S256x128 .i32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : DmaSems sig S6) (arg16 : DmaSems sig S_) (arg17 : DmaSems sig S_) (arg18 : DmaSems sig S_) : (tail80 (F := F) arg2 arg10 >>= K80 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18) =
    Head.tgtK arg2 arg10 0 (by decide) (Head.tgtK arg2 arg10 1 (by decide) <|
    Head.prepK arg0 arg1 arg4 arg8 arg9 arg11 arg12 arg13 arg14 arg16.sem arg17.sem (Scalar.ofBits .f32 0x3FB8AA3B#32) harg0.wordExact harg8.wordExact harg4.wordExact harg9.wordExact <|
    Head.waitF arg3 arg7 arg15 (k0_off7 0) (k0_off7_inb 0) (k0_off8 0) (k0_off8_inb 0) (harg3.wordExact_slice rfl _ k0_off8_wordsfp8e4m3) ((harg7.wordExact_slice rfl _ k0_off7_wordsfp8e4m3).reshape _ _) <|
    Head.startF arg3 arg7 arg15 (k0_off10 0) (k0_off10_inb (by decide) 0) (k0_off11 0) (k0_off11_inb (by decide) 0) (harg3.wordExact_slice rfl _ (k0_off11_wordsfp8e4m3 (by decide))) ((harg7.wordExact_slice rfl _ (k0_off10_wordsfp8e4m3 (by decide))).reshape _ _) <|
    Head.blockK arg7 arg8 (k0_off7 0) (k0_off7_inb 0) 1 (by decide) (fun _ _ s K => K s) Mxu.init fun s =>
    (Scf.Loop.for k0_t2_loop k0_t2_ok (0#32, s) (fun k0_t2 x => tripBody arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 x.2) >>= fun r => tail113 arg9 arg10 arg11 arg12 arg14 r.2) >>= K113 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18) := by
  sl_kernel_rfl

/-- And from there to the end. -/
theorem fin_eq (arg0 : Memref sig .tc .hbm S256x12288 .fp8e4m3) (harg0 : arg0.IsWhole) (arg1 : Memref sig .tc .vmem S2x128 .f32) (harg1 : arg1.IsWhole) (arg2 : Memref sig .tc .vmem S2x128 .i32) (harg2 : arg2.IsWhole) (arg3 : Memref sig .tc .hbm S30008x12288 .fp8e4m3) (harg3 : arg3.IsWhole) (arg4 : Memref sig .tc .hbm S30003 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S6x512x12288 .fp8e4m3) (harg7 : arg7.IsWhole) (arg8 : Memref sig .tc .vmem S256x12288 .fp8e4m3) (harg8 : arg8.IsWhole) (arg9 : Memref sig .tc .vmem S30003 .f32) (harg9 : arg9.IsWhole) (arg10 : Memref sig .tc .vmem S256x128 .i32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : DmaSems sig S6) (arg16 : DmaSems sig S_) (arg17 : DmaSems sig S_) (arg18 : DmaSems sig S_) (s : Mxu F) : (tail113 arg9 arg10 arg11 arg12 arg14 s >>= K113 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18) =
    Head.finK arg5 arg6 arg9 arg10 arg11 arg12 arg13 arg14 (Scalar.ofBits .f32 0x3F317218#32) s (.ret ⟨⟩) := by
  sl_kernel_rfl

/-- A trip of the loop that fills the ring. -/
theorem loop1_eq (arg3 : Memref sig .tc .hbm S30008x12288 .fp8e4m3) (harg3 : arg3.IsWhole) (arg7 : Memref sig .tc .vmem S6x512x12288 .fp8e4m3) (harg7 : arg7.IsWhole) (arg15 : DmaSems sig S6) (arg18 : DmaSems sig S_) (k0_t1 : Fin k0_t1_loop.trips) (k0_h1 : k0_cond1 k0_t1 = 1#1) (k0_h2 : ¬ k0_cond2 k0_t1 = 1#1) : loop1Body (F := F) arg3 harg3 arg7 harg7 arg15 arg18 k0_t1 =
    Head.startF arg3 arg7 arg15 (k0_off2 k0_t1 0) (k0_off2_inb k0_t1 k0_h1 0) (k0_off3 k0_t1 0) (k0_off3_inb k0_t1 k0_h1 0) (harg3.wordExact_slice rfl _ (k0_off3_wordsfp8e4m3 k0_t1 k0_h1)) ((harg7.wordExact_slice rfl _ (k0_off2_wordsfp8e4m3 k0_t1 k0_h1)).reshape _ _) (.ret ⟨⟩) := by
  unfold loop1Body
  simp only [dif_pos k0_h1, dif_neg k0_h2]
  sl_kernel_rfl

end Cert.Kernel
-- ==== Proof.RunK.lean ====
/- The printed kernel run: from its resources to its results. -/
module

public import proofs.«01_k».proof.Proof.PrepWp
public import proofs.«01_k».proof.Proof.EqK

@[expose] public section

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.Head (BOwn BPre BPost Fst MI TI JI srcP ent_eq)

variable {F : FTy → Type} [FloatOps F]
variable [Facts]
open Facts₀ Facts

local notation "𝕄" => MT nD τ sig Unit (Elt F) ℕ (UR sig nD τ × Counters) ℕ

/-! ## The words of a trip -/

theorem trips1 : k0_t1_loop.trips = 5 := by decide
theorem trips2 : k0_t2_loop.trips = 29 := by decide
theorem first_c1 : ∀ t : Fin k0_t1_loop.trips, k0_cond1 t = 1#1 := by decide +kernel
theorem first_c2 : ∀ t : Fin k0_t1_loop.trips, ¬ k0_cond2 t = 1#1 := by decide +kernel
theorem first_sl : ∀ t : Fin k0_t1_loop.trips, k0_off2 t 0 = t.val % 6 := by decide +kernel
theorem first_row : ∀ t : Fin k0_t1_loop.trips, k0_off3 t 0 = 512 * t.val := by decide +kernel
theorem w_c5 : ∀ t : Fin k0_t2_loop.trips, k0_cond5 t = 1#1 ↔ t.val ≤ 25 := by decide +kernel
theorem w_c6 : ∀ t : Fin k0_t2_loop.trips, k0_cond6 t = 1#1 ↔ t.val = 26 := by decide +kernel
theorem w_c7 : ∀ t : Fin k0_t2_loop.trips, k0_cond7 t = 1#1 ↔ t.val = 28 := by decide +kernel
theorem w_c8 : ∀ t : Fin k0_t2_loop.trips, k0_cond8 t = 1#1 ↔ t.val ≤ 27 := by decide +kernel
theorem w_c9 : ∀ t : Fin k0_t2_loop.trips, k0_cond9 t = 1#1 ↔ t.val ≤ 25 := by decide +kernel
theorem w_c10 : ∀ t : Fin k0_t2_loop.trips, ¬ k0_cond10 t = 1#1 := by decide +kernel
theorem w_111 : ∀ t : Fin k0_t2_loop.trips, k0_off111 t 0 = (2 * t.val + 1) % 6 := by decide +kernel
theorem w_118 : ∀ t : Fin k0_t2_loop.trips, k0_off118 t 0 = (2 * t.val + 1) % 6 := by decide +kernel
theorem w_114 : ∀ t : Fin k0_t2_loop.trips, k0_off114 t 0 = (2 * t.val + 1 + 5) % 6 := by decide +kernel
theorem w_115 : ∀ t : Fin k0_t2_loop.trips, k0_off115 t 0 = 512 * (2 * t.val + 1 + 5) := by decide +kernel
theorem w_116 : ∀ t : Fin k0_t2_loop.trips, k0_off116 t 0 = (2 * t.val + 1 + 5) % 6 := by decide +kernel
theorem w_117 : ∀ t : Fin k0_t2_loop.trips, k0_off117 t 0 = 512 * (2 * t.val + 1 + 5) := by decide +kernel
theorem w_218 : ∀ t : Fin k0_t2_loop.trips, k0_off218 t 0 = (2 * t.val + 1 + 1) % 6 := by decide +kernel
theorem w_215 : ∀ t : Fin k0_t2_loop.trips, k0_off215 t 0 = (2 * t.val + 1 + 1) % 6 := by decide +kernel
theorem w_225 : ∀ t : Fin k0_t2_loop.trips, k0_off225 t 0 = (2 * t.val + 1 + 1) % 6 := by decide +kernel
theorem w_221 : ∀ t : Fin k0_t2_loop.trips, k0_off221 t 0 = (2 * t.val + 1 + 1 + 5) % 6 := by decide +kernel
theorem w_222 : ∀ t : Fin k0_t2_loop.trips, k0_off222 t 0 = 512 * (2 * t.val + 1 + 1 + 5) := by decide +kernel
theorem w_cb1 : ∀ t : Fin k0_t2_loop.trips, Scalar.muli (Scalar.subi (jw t) 1#32) 512#32 = BitVec.ofNat 32 (512 * (2 * t.val + 1 - 1)) := by decide +kernel
theorem w_cb2 : ∀ t : Fin k0_t2_loop.trips, Scalar.muli (jw t) 512#32 = BitVec.ofNat 32 (512 * (2 * t.val + 1 + 1 - 1)) := by decide +kernel

variable {defs : Defs nD τ sig (Elt F) Λ₀} {𝒱 : Variants} {bd : Option 𝒱.V}

variable (arg0 : Memref sig .tc .hbm S256x12288 .fp8e4m3) (harg0 : arg0.IsWhole) (arg1 : Memref sig .tc .vmem S2x128 .f32) (harg1 : arg1.IsWhole) (arg2 : Memref sig .tc .vmem S2x128 .i32) (harg2 : arg2.IsWhole) (arg3 : Memref sig .tc .hbm S30008x12288 .fp8e4m3) (harg3 : arg3.IsWhole) (arg4 : Memref sig .tc .hbm S30003 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S6x512x12288 .fp8e4m3) (harg7 : arg7.IsWhole) (arg8 : Memref sig .tc .vmem S256x12288 .fp8e4m3) (harg8 : arg8.IsWhole) (arg9 : Memref sig .tc .vmem S30003 .f32) (harg9 : arg9.IsWhole) (arg10 : Memref sig .tc .vmem S256x128 .i32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : DmaSems sig S6) (arg16 : DmaSems sig S_) (arg17 : DmaSems sig S_) (arg18 : DmaSems sig S_)
  (c : Dev nD) (fx : Buf (Elt F) (arg0.view.loc (c : Thread nD τ))) (fs : Buf (Elt F) (arg4.view.loc (c : Thread nD τ))) (fw : Buf (Elt F) (arg3.view.loc (c : Thread nD τ)))
  (XS : S2x128.Idx → F .f32) (HC : S2x128.Idx → BitVec 32)

/-- A trip. -/
theorem trip_wp (t : Fin k0_t2_loop.trips) (s : Mxu F) {WC : S30003.Idx → F .f32} {TG : S256x128.Idx → BitVec 32} {RSv : S256x128.Idx → F .f32} {σ : Head.St F} {X : S256x12288.Idx → Elt F .fp8e4m3}
    {G : sProp (MT nD τ sig Unit (Elt F) ℕ (UR sig nD τ × Counters) ℕ)} (H : MI X (arg3.view.read (Elt F) fw) (2 * t.val + 1) s) :
    JI c arg3 arg7 arg8 arg9 arg10 arg11 arg12 arg13 arg14 arg15 arg18.sem fw WC TG RSv σ X G (2 * t.val + 1)
      ⊢ (wp frame (wpE defs 𝒱 (c : Thread nD τ) bd) Set.univ (tripBody arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 t s)
          (TI c arg3 arg7 arg8 arg9 arg10 arg11 arg12 arg13 arg14 arg15 arg18.sem fw WC TG RSv σ X G (t.val + 1)) : sProp 𝕄) := by
  have ht : t.val < 29 := trips2 ▸ t.isLt
  by_cases hA : t.val ≤ 25
  · rw [tripP_A arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 t s ((w_c5 t).2 hA) (fun h => by have := (w_c6 t).1 h; omega) (fun h => by have := (w_c7 t).1 h; omega) ((w_c8 t).2 (by omega)) ((w_c9 t).2 hA) (w_c10 t)]
    exact Head.wp_tripA hA (w_111 t) (w_118 t) (w_225 t) (w_114 t) (w_115 t) (w_218 t) (w_221 t) (w_222 t) (w_cb1 t) (w_cb2 t) H
  by_cases hB : t.val = 26
  · rw [tripP_B arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 t s (fun h => by have := (w_c5 t).1 h; omega) ((w_c6 t).2 hB) (fun h => by have := (w_c7 t).1 h; omega) ((w_c8 t).2 (by omega)) (fun h => by have := (w_c9 t).1 h; omega) (w_c10 t)]
    exact Head.wp_tripB hB (w_111 t) (w_118 t) (w_225 t) (w_116 t) (w_117 t) (w_218 t) (w_cb1 t) (w_cb2 t) H
  by_cases hC : t.val = 27
  · rw [tripP_C arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 t s (fun h => by have := (w_c5 t).1 h; omega) (fun h => by have := (w_c6 t).1 h; omega) (fun h => by have := (w_c7 t).1 h; omega) ((w_c8 t).2 (by omega)) (fun h => by have := (w_c9 t).1 h; omega) (w_c10 t)]
    exact Head.wp_tripC hC (w_111 t) (w_118 t) (w_225 t) (w_218 t) (w_cb1 t) (w_cb2 t) H
  have hD : t.val = 28 := by omega
  · rw [tripP_D arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 t s (fun h => by have := (w_c5 t).1 h; omega) (fun h => by have := (w_c6 t).1 h; omega) ((w_c7 t).2 hD) (fun h => by have := (w_c8 t).1 h; omega) (fun h => by have := (w_c9 t).1 h; omega) (w_c10 t)]
    exact Head.wp_tripD hD (w_111 t) (w_118 t) (w_225 t) (w_cb1 t) (w_cb2 t) (w_215 t) H

/-- A copy of the ring's first five. -/
theorem first_wp (t : Fin k0_t1_loop.trips) :
    Fst c arg3 arg7 arg15 fw t.val ⊢ (wp frame (wpE defs 𝒱 (c : Thread nD τ) bd) Set.univ (loop1Body arg3 harg3 arg7 harg7 arg15 arg18 t) (fun _ => Fst c arg3 arg7 arg15 fw (t.val + 1)) : sProp 𝕄) := by
  have ht : t.val < 5 := trips1 ▸ t.isLt
  rw [loop1_eq arg3 harg3 arg7 harg7 arg15 arg18 t (first_c1 t) (first_c2 t)]
  iintro H
  iapply (Head.wp_first c arg3 arg7 arg15 fw ht (first_sl t) (first_row t)) $$ H
  rw [wp_ret]
  iintro H
  imodintro
  iexact H

/-- What the trips leave alone. -/
def Side (A0 L0 : S2x128.Idx → F .f32) : sProp 𝕄 :=
  iprop(owns (c : Thread nD τ) arg5 fullShare A0 ∗ owns (c : Thread nD τ) arg6 fullShare L0
    ∗ srcP c arg0 fx ∗ semVal ((c : Thread nD τ), SemLoc.dma arg16.sem) 0 ∗ srcP c arg4 fs ∗ semVal ((c : Thread nD τ), SemLoc.dma arg17.sem) 0
    ∗ owns (c : Thread nD τ) arg1 fullShare XS ∗ owns (Val := Elt F) (c : Thread nD τ) arg2 fullShare HC)

/-- The body's post. -/
abbrev BP : sProp 𝕄 := BPost c arg0 arg1 arg2 arg3 arg4 arg5 arg6 arg7 arg8 arg9 arg10 arg11 arg12 arg13 arg14 arg15 arg16.sem arg17.sem arg18.sem fx fs fw XS HC (Scalar.ofBits .f32 0x3FB8AA3B#32) (Scalar.ofBits .f32 0x3F317218#32)

/-- After the trips. -/
theorem fin_wp (n : ℕ) (hn : n = 59) (s : Mxu F) (H : MI (arg0.view.read (Elt F) fx) (arg3.view.read (Elt F) fw) n s) (A0 L0 : S2x128.Idx → F .f32) :
    JI c arg3 arg7 arg8 arg9 arg10 arg11 arg12 arg13 arg14 arg15 arg18.sem fw (arg4.view.read (Elt F) fs) (Head.TGof HC) (Head.RSof (Scalar.ofBits .f32 0x3FB8AA3B#32) XS) Head.st0 (arg0.view.read (Elt F) fx)
        (Side arg0 arg1 arg2 arg4 arg5 arg6 arg16 arg17 c fx fs XS HC A0 L0) n
      ⊢ (wp frame (wpE defs 𝒱 (c : Thread nD τ) bd) Set.univ (tail113 arg9 arg10 arg11 arg12 arg14 s >>= K113 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18)
          (fun _ => BP arg0 arg1 arg2 arg3 arg4 arg5 arg6 arg7 arg8 arg9 arg10 arg11 arg12 arg13 arg14 arg15 arg16 arg17 arg18 c fx fs fw XS HC) : sProp 𝕄) := by
  subst hn
  rw [fin_eq]
  have sh : ∀ (P1 P2 P3 P4 P5 P6 : sProp 𝕄), iprop(P1 ∗ P2 ∗ P3 ∗ (P4 ∗ P5 ∗ P6)) ⊢ iprop(P3 ∗ P4 ∗ P5 ∗ (P6 ∗ P1 ∗ P2)) := by
    intro P1 P2 P3 P4 P5 P6
    iintro ⟨H1, H2, H3, H4, H5, H6⟩
    isplitl [H3]; · iexact H3
    isplitl [H4]; · iexact H4
    isplitl [H5]; · iexact H5
    isplitl [H6]; · iexact H6
    isplitl [H1]; · iexact H1
    iexact H2
  unfold JI Side
  refine (sh _ _ _ _ _ _).trans ?_
  refine Head.wp_finK (B := Head.blk (arg3.view.read (Elt F) fw) 58) (X := arg0.view.read (Elt F) fx) H ?_
  rw [wp_ret]
  refine BIBase.Entails.trans ?_ fupd_intro
  unfold BP BPost BOwn Head.CT Head.PT Head.stE
  iintro ⟨⟨⟨HW, Htg, Hrs⟩, Hm, Hs, Ht⟩, Hlp, Hlse, ⟨HXs, HXc, HWs, HWc, Hxs, Hhc⟩, HR, HX⟩
  ihave HR' := (Head.RS_end c arg3 arg7 arg15 arg18.sem fw) $$ HR
  icases HR' with ⟨HF, HD, HL, Ho⟩
  isplitl [HX HXs HXc HW HWs HWc Hxs Hhc Htg Hrs Hm Hs Ht HL Ho]
  · isplitl [HX HXs HXc]
    · isplitl [HX]; · iexists _; iexact HX
      isplitl [HXs]; · iexact HXs
      iexact HXc
    isplitl [HW HWs HWc]
    · isplitl [HW]; · iexists _; iexact HW
      isplitl [HWs]; · iexact HWs
      iexact HWc
    isplitl [Hxs]; · iexact Hxs
    isplitl [Hhc]; · iexact Hhc
    isplitl [Htg]; · iexists _; iexact Htg
    isplitl [Hrs]; · iexists _; iexact Hrs
    isplitl [Hm]; · iexists _; iexact Hm
    isplitl [Hs]; · iexists _; iexact Hs
    isplitl [Ht]; · iexists _; iexact Ht
    isplitl [HL]; · iexact HL
    iexact Ho
  isplitl [HF HD]
  · isplitl [HF]; · iexact HF
    iexact HD
  isplitl [Hlp]; · iexact Hlp
  iexact Hlse

/-- From the first block's end. -/
theorem loop_wp (s : Mxu F) (H : MI (arg0.view.read (Elt F) fx) (arg3.view.read (Elt F) fw) 1 s) (A0 L0 : S2x128.Idx → F .f32) :
    JI c arg3 arg7 arg8 arg9 arg10 arg11 arg12 arg13 arg14 arg15 arg18.sem fw (arg4.view.read (Elt F) fs) (Head.TGof HC) (Head.RSof (Scalar.ofBits .f32 0x3FB8AA3B#32) XS) Head.st0 (arg0.view.read (Elt F) fx)
        (Side arg0 arg1 arg2 arg4 arg5 arg6 arg16 arg17 c fx fs XS HC A0 L0) 1
      ⊢ (wp frame (wpE defs 𝒱 (c : Thread nD τ) bd) Set.univ ((Scf.Loop.for k0_t2_loop k0_t2_ok (0#32, s) (fun k0_t2 x => tripBody arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 x.2) >>= fun r => tail113 arg9 arg10 arg11 arg12 arg14 r.2) >>= K113 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18)
          (fun _ => BP arg0 arg1 arg2 arg3 arg4 arg5 arg6 arg7 arg8 arg9 arg10 arg11 arg12 arg13 arg14 arg15 arg16 arg17 arg18 c fx fs fw XS HC) : sProp 𝕄) := by
  rw [Prog.bind_assoc]
  iintro HJ
  iapply (Scf.wp_for_bind frame (wpE defs 𝒱 (c : Thread nD τ) bd) Set.univ k0_t2_loop.lb k0_t2_loop.ub k0_t2_loop.st k0_t2_ok _ _
    (fun t r => TI c arg3 arg7 arg8 arg9 arg10 arg11 arg12 arg13 arg14 arg15 arg18.sem fw (arg4.view.read (Elt F) fs) (Head.TGof HC) (Head.RSof (Scalar.ofBits .f32 0x3FB8AA3B#32) XS) Head.st0 (arg0.view.read (Elt F) fx)
        (Side arg0 arg1 arg2 arg4 arg5 arg6 arg16 arg17 c fx fs XS HC A0 L0) t r) (fun t r => by
      unfold TI
      iintro ⟨%h, HJ⟩
      iapply (trip_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 c fw t r.2 h) $$ HJ)) $$ [HJ]
  · unfold TI
    isplitr [HJ]; · ipureintro; exact H
    iexact HJ
  iintro %r HT
  unfold TI
  icases HT with ⟨%h, HJ⟩
  iapply (fin_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 c fx fs fw XS HC _ (congrArg (fun k => 2 * k + 1) trips2) r.2 h A0 L0) $$ HJ

/-- The body. -/
theorem body_wp : BPre c arg0 arg1 arg2 arg3 arg4 arg5 arg6 arg7 arg8 arg9 arg10 arg11 arg12 arg13 arg14 arg15 arg16.sem arg17.sem arg18.sem fx fs fw XS HC
    ⊢ (wp frame (wpE defs 𝒱 (c : Thread nD τ) bd) Set.univ (cc0_adaptive_softmax arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18)
        (fun _ => BPost c arg0 arg1 arg2 arg3 arg4 arg5 arg6 arg7 arg8 arg9 arg10 arg11 arg12 arg13 arg14 arg15 arg16.sem arg17.sem arg18.sem fx fs fw XS HC (Scalar.ofBits .f32 0x3FB8AA3B#32) (Scalar.ofBits .f32 0x3F317218#32)) : sProp 𝕄) := by
  rw [body_eq]
  unfold BPre BOwn Head.copiesK
  iintro ⟨⟨⟨⟨%X0, HX⟩, HXs, HXc⟩, ⟨⟨%W0, HW⟩, HWs, HWc⟩, Hxs, Hhc, ⟨%T0, Htg⟩, ⟨%R0, Hrs⟩, ⟨%M0, Hm⟩, ⟨%S0, Hs⟩, ⟨%U0, Ht⟩, HL, Ho⟩, ⟨HF, HF5, HD⟩, ⟨%A0, Hlp⟩, ⟨%L0, Hlse⟩⟩
  iapply (Head.wp_whole (by decide)) $$ [HX HXs HXc]
  · isplitl [HX]; · iexact HX
    isplitl [HXs]; · iexact HXs
    iexact HXc
  iintro HX
  iapply (Head.wp_whole (by decide)) $$ [HW HWs HWc]
  · isplitl [HW]; · iexact HW
    isplitl [HWs]; · iexact HWs
    iexact HWc
  iintro HW
  irw [Prog.bind_assoc]
  iapply (Scf.wp_for_bind frame (wpE defs 𝒱 (c : Thread nD τ) bd) Set.univ k0_t1_loop.lb k0_t1_loop.ub k0_t1_loop.st k0_t1_ok _ _
    (fun t _ => Fst c arg3 arg7 arg15 fw t) (fun t _ => first_wp arg3 harg3 arg7 harg7 arg15 arg18 c fw t)) $$ HF
  iintro %u HF
  irw [mid_eq]
  iapply Head.wp_tgtK $$ [Hhc Htg]
  · isplitl [Hhc]; · iexact Hhc
    iexact Htg
  iintro ⟨Hhc, Htg⟩
  iapply Head.wp_tgtK $$ [Hhc Htg]
  · isplitl [Hhc]; · iexact Hhc
    iexact Htg
  irw [Head.hv_eq]
  iintro ⟨Hhc, Htg⟩
  iapply Head.wp_prepK $$ [HX HW Hxs Hrs Hm Hs Ht Ho]
  · isplitl [HX]; · iexact HX
    isplitl [HW]; · iexact HW
    isplitl [Hxs]; · iexact Hxs
    isplitl [Hrs]; · iexact Hrs
    isplitl [Hm]; · iexact Hm
    isplitl [Hs]; · iexact Hs
    isplitl [Ht]; · iexact Ht
    iexact Ho
  iintro ⟨⟨HX, HXs, HXc⟩, ⟨HW, HWs, HWc⟩, Hxs, Hrs, HP, Ho⟩
  ihave HR := (Head.Fst_RS c arg3 arg7 arg15 arg18.sem fw) $$ [HF HF5 HD HL Ho]
  · isplitl [HF]; · iexact HF
    isplitl [HF5]; · iexact HF5
    isplitl [HD]; · iexact HD
    isplitl [HL]; · iexact HL
    iexact Ho
  iapply (Head.RS_WS c arg3 arg7 arg15 arg18.sem fw (j := 0) (by omega) (by rfl) (by rfl) (by rfl)) $$ HR
  iintro ⟨HB, HQ⟩
  ihave HB := (ent_eq (Head.owns_slot c arg7 (a := 0 % 6) (b := k0_off7 0) (by rfl) _ (k0_off7_inb 0) _)) $$ HB
  iapply (Head.wp_block0 (B := Head.blk (arg3.view.read (Elt F) fw) 0) (X := arg0.view.read (Elt F) fx)
    (G := iprop(Head.RQ c arg3 arg7 arg15 arg18.sem fw 0 ∗ (Head.CT c arg9 arg10 arg11 (arg4.view.read (Elt F) fs) (Head.TGof HC) (Head.RSof (Scalar.ofBits .f32 0x3FB8AA3B#32) XS) ∗ Head.PT c arg12 arg13 arg14 Head.st0)
      ∗ Side arg0 arg1 arg2 arg4 arg5 arg6 arg16 arg17 c fx fs XS HC A0 L0)) (fun s' H' => BIBase.Entails.trans (by
        iintro ⟨HX, HB, HQ, HC, HG⟩
        unfold JI
        ihave HB := (ent_eq (Head.owns_slot c arg7 (a := k0_off7 0) (b := 0 % 6) (by rfl) (k0_off7_inb 0) _ _)) $$ HB
        isplitl [HB HQ]
        · iapply (Head.RQ_next c arg3 arg7 arg15 arg18.sem fw 0)
          isplitl [HB]; · iexact HB
          iexact HQ
        isplitl [HX]; · iexact HX
        isplitl [HC]; · iexact HC
        iexact HG) (loop_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 c fx fs fw XS HC s' H' A0 L0)))
  isplitl [HX]; · iexact HX
  isplitl [HB]; · iexact HB
  isplitl [HQ]; · iexact HQ
  isplitl [HW Htg Hrs HP]
  · isplitl [HW Htg Hrs]
    · unfold Head.CT
      isplitl [HW]; · iexact HW
      isplitl [Htg]; · iexact Htg
      iexact Hrs
    iexact HP
  unfold Side
  isplitl [Hlp]; · iexact Hlp
  isplitl [Hlse]; · iexact Hlse
  isplitl [HXs]; · iexact HXs
  isplitl [HXc]; · iexact HXc
  isplitl [HWs]; · iexact HWs
  isplitl [HWc]; · iexact HWc
  isplitl [Hxs]; · iexact Hxs
  iexact Hhc

end Cert.Kernel

end
-- ==== Proof.LaunchK.lean ====
/- The printed program run from launch to its end: what its results are, and that it changes nothing else. -/
module

public import proofs.«01_k».proof.Proof.RunK
public import proofs.«01_k».proof.Proof.Gen.Kernel.Frame
public import Idealize.ShloMosaic.Lib.Pipeline.KitQuiescent
public import Idealize.ShloMosaic.Lib.Pipeline.FrameBody
public import Idealize.ShloMosaic.Lib.Ring

@[expose] public section

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
open Cert.Head (BOwn BPre BPost srcP ent_eq span mem_span m6)

variable {F : FTy → Type} [FloatOps F]

/-- The pipeline's algebra beside the counters that the kernel's own copies use. -/
abbrev UU (nD : Nat) (τ : Topo) : Type := UR sig nD τ × Counters
local notation "𝕄" => MT nD τ sig Unit (Elt F) ℕ (UR sig nD τ × Counters) ℕ
abbrev EP : Emb (UR sig nD τ) (MT nD τ sig Unit (Elt F) ℕ (UR sig nD τ × Counters) ℕ) := embL
abbrev 𝒱₀ : Variants := Variants.none

variable (m : (ℓ : Loc nD τ sig) → Buf (Elt F) ℓ) (ρ : Dev nD → PrngReg)

/-! ## The ring's slots -/

abbrev ringM : Memref sig .tc .vmem S6x512x12288 .fp8e4m3 := Memref.whole cc0_scratch0
abbrev wM : Memref sig .tc .hbm S30008x12288 .fp8e4m3 := Memref.whole main_v1

theorem slotOff_inb (s : Fin 6) : ∀ a, (![s.val, 0, 0] : Fin 3 → ℕ) a + S1x512x12288.size a ≤ S6x512x12288.size a := by
  have := s.isLt; intro a; fin_cases a
  · show s.val + 1 ≤ 6; omega
  · show 0 + 512 ≤ 512; omega
  · show 0 + 12288 ≤ 12288; omega

/-- The elements of slot `s`. -/
abbrev SS (s : Fin 6) : Finset S6x512x12288.Idx := (Rect.unit (s := S6x512x12288) ![s.val, 0, 0] S1x512x12288.size (slotOff_inb s)).set

theorem slot_set (s : Fin 6) : (Head.slot ringM s.val s.isLt).view.set = SS s := (View.set_reshape _ _).trans (View.set_slice_whole _ _)

theorem mem_SS (s : Fin 6) (y : S6x512x12288.Idx) : y ∈ SS s ↔ (y 0).val = s.val := by
  rw [Rect.mem_set_unit]
  have h1 : (y 1).val < 512 := (y 1).isLt
  have h2 : (y 2).val < 12288 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 12288; omega

theorem SS_disjoint : ∀ s s' : Fin 6, s ≠ s' → Disjoint (SS s) (SS s') := by
  intro s s' hne; rw [Finset.disjoint_left]; intro y hy hy'; rw [mem_SS] at hy hy'; exact hne (Fin.ext (hy.symm.trans hy'))
theorem SS_cover : (Finset.univ : Finset (Fin 6)).biUnion SS = Finset.univ := by
  ext y; simp only [Finset.mem_biUnion, Finset.mem_univ, true_and, iff_true]; exact ⟨⟨(y 0).val, (y 0).isLt⟩, by rw [mem_SS]⟩

/-- Slot `s` at anything. -/
def anyS (c : Dev nD) (s : Fin 6) : sProp 𝕄 := iprop(∃ X : S512x12288.Idx → Elt F .fp8e4m3, owns (c : Thread nD τ) (Head.slot ringM s.val s.isLt) fullShare X)

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), (1 : Fin 6), (2 : Fin 6), (3 : Fin 6), (4 : Fin 6), (5 : Fin 6)] (by decide) (by decide) Φ

theorem anyS_in (c : Dev nD) (s : Fin 6) (f : Buf (Elt F) ((c : Thread nD τ).loc cc0_scratch0)) :
    (((c : Thread nD τ).loc cc0_scratch0) ↦[SS s]{fullShare} f : sProp 𝕄) ⊢ anyS c s := by
  unfold anyS owns
  iintro H
  iexists ((Head.slot ringM s.val s.isLt).view.read (Elt F) f)
  iexists f
  isplitr; · ipureintro; rfl
  irw [slot_set s]
  iexact H

theorem anyS_out (c : Dev nD) (s : Fin 6) :
    anyS c s ⊢ (iprop(∃ f : Buf (Elt F) ((c : Thread nD τ).loc cc0_scratch0), ((c : Thread nD τ).loc cc0_scratch0) ↦[SS s]{fullShare} f) : sProp 𝕄) := by
  unfold anyS owns
  iintro ⟨%X, %f, -, H⟩
  iexists f
  iapply (ent_eq (show ((Head.slot ringM s.val s.isLt).view.loc (c : Thread nD τ) ↦[(Head.slot ringM s.val s.isLt).view.set]{fullShare} f : sProp 𝕄) = _ by rw [slot_set s])) $$ H

/-- The ring whole is its six slots, and back. -/
theorem ring_split (c : Dev nD) :
    iprop(∃ f : Buf (Elt F) ((c : Thread nD τ).loc cc0_scratch0), ((c : Thread nD τ).loc cc0_scratch0) ↦{fullShare} f)
      ⊢ (bigSep Finset.univ (anyS c) : sProp 𝕄) := by
  iintro ⟨%f, H⟩
  ihave H2 := (ent_eq (Ring.pointsTo_blocks (Ix := Unit) (Name := ℕ) (U := UU nD τ) (Lvl := ℕ) (q := fullShare) (ℓ := (c : Thread nD τ).loc cc0_scratch0) SS SS_disjoint SS_cover f)) $$ H
  iapply (show (bigSep Finset.univ (fun s : Fin 6 => (((c : Thread nD τ).loc cc0_scratch0) ↦[SS s]{fullShare} f : sProp 𝕄))) ⊢ bigSep Finset.univ (anyS c) from bigSep_mono fun s _ => anyS_in c s f) $$ H2

theorem ring_join (c : Dev nD) : (bigSep Finset.univ (anyS c) : sProp 𝕄)
    ⊢ iprop(∃ f : Buf (Elt F) ((c : Thread nD τ).loc cc0_scratch0), ((c : Thread nD τ).loc cc0_scratch0) ↦{fullShare} f) := by
  refine (bigSep_mono fun s _ => anyS_out c s).trans ?_
  exact Ring.pointsTo_blocks_join_exists (ℓ := (c : Thread nD τ).loc cc0_scratch0) SS SS_disjoint SS_cover (fun _ => Classical.arbitrary _)

/-! ## The kernel's own semaphores -/

abbrev osem : Fin 9 → SemLoc sig := fun k => .dma (⟨4 + k.val, by have := k.isLt; show 4 + k.val < 13; omega⟩ : Fin 13)
theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0
      ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0) := by
  rw [Pipeline.ownSems0_eq_of_list c osem [0, 1, 2, 3, 4, 5, 6, 7, 8] (by decide) (by decide)]; rfl

theorem rsem_eq (s : Fin 6) : (SemLoc.dma (Head.rsem cc0_scratch8 s.val s.isLt) : SemLoc sig) = osem ⟨s.val, by have := s.isLt; omega⟩ := by
  revert s; decide

/-! ## The rows of the vocabulary -/

theorem span_all : span 0 (512 * 59) = Finset.univ := by
  ext y
  rw [mem_span]
  have h : (y 0).val < 30008 := (y 0).isLt
  exact ⟨fun _ => Finset.mem_univ _, fun _ => by omega⟩

theorem rows_all (c : Dev nD) (f : Buf (Elt F) (wM.view.loc (c : Thread nD τ))) :
    Head.rowsP c wM f 0 (512 * 59) = (((c : Thread nD τ).loc main_v1) ↦{fullShare} f : sProp 𝕄) := by
  unfold Head.rowsP
  rw [span_all]
  have : wM.view.setOn Finset.univ = Finset.univ := (show wM.view.setOn Finset.univ = wM.view.set from rfl).trans (View.set_whole _)
  rw [this]

theorem owns_in {b : Ref sig .tc} (c : Dev nD) (f : Buf (Elt F) ((c : Thread nD τ).loc b)) :
    (((c : Thread nD τ).loc b) ↦{fullShare} f : sProp 𝕄) ⊢ owns (c : Thread nD τ) (Memref.whole b) fullShare ((Memref.whole b).view.read (Elt F) f) := by
  unfold owns
  iintro H
  iexists f
  isplitr; · ipureintro; rfl
  iapply (ent_eq (show (((c : Thread nD τ).loc b) ↦{fullShare} f : sProp 𝕄) = _ by rw [show (Memref.whole b).view.set = Finset.univ from View.set_whole _])) $$ H

theorem owns_out {b : Ref sig .tc} (c : Dev nD) (X) :
    (owns (c : Thread nD τ) (Memref.whole b) fullShare X : sProp 𝕄) ⊢ iprop(∃ f : Buf (Elt F) ((c : Thread nD τ).loc b), ((c : Thread nD τ).loc b) ↦{fullShare} f) := by
  unfold owns
  iintro ⟨%f, -, H⟩
  iexists f
  iapply (ent_eq (show ((Memref.whole b).view.loc (c : Thread nD τ) ↦[(Memref.whole b).view.set]{fullShare} f : sProp 𝕄) = _ by rw [show (Memref.whole b).view.set = Finset.univ from View.set_whole _])) $$ H

theorem src_eq {b : Ref sig .tc} (c : Dev nD) (f : Buf (Elt F) ((c : Thread nD τ).loc b)) :
    (srcP c (Memref.whole b) f : sProp 𝕄) = (((c : Thread nD τ).loc b) ↦{fullShare} f) := by
  unfold srcP; rw [show (Memref.whole b).view.set = Finset.univ from View.set_whole _]

/-! ## The region's resources, as the body wants them -/

theorem sem_fin {s s' : Fin 9} (h : s = s') (c : Dev nD) : (semVal ((c : Thread nD τ), osem s) 0 : sProp 𝕄) ⊢ semVal ((c : Thread nD τ), osem s') 0 := by
  subst h; exact .rfl

theorem free_in (c : Dev nD) (fw : Buf (Elt F) (wM.view.loc (c : Thread nD τ))) {n : ℕ} (h : n < 6) (s : Fin 6) (e : n % 6 = s.val) (k : Fin 9) (e' : k.val = s.val) :
    iprop(anyS c s ∗ semVal ((c : Thread nD τ), osem k) 0) ⊢ (Head.Free c wM ringM cc0_scratch8 fw n : sProp 𝕄) := by
  obtain rfl : s = ⟨n % 6, m6 n⟩ := Fin.ext e.symm
  rw [show k = (⟨n % 6, Nat.lt_of_lt_of_le (m6 n) (by decide)⟩ : Fin 9) from Fin.ext e']
  unfold anyS Head.Free Head.cell
  iintro ⟨⟨%X, HX⟩, HS⟩
  isplitl [HX]
  · iexists X
    isplitr; · ipureintro; intro h'; omega
    iexact HX
  iapply (ent_eq (congrArg (fun l => (semVal ((c : Thread nD τ), l) 0 : sProp 𝕄)) (rsem_eq ⟨n % 6, m6 n⟩).symm)) $$ HS

theorem free_out (c : Dev nD) (fw : Buf (Elt F) (wM.view.loc (c : Thread nD τ))) {n : ℕ} (s : Fin 6) (e : n % 6 = s.val) (k : Fin 9) (e' : k.val = s.val) :
    (Head.Free c wM ringM cc0_scratch8 fw n : sProp 𝕄) ⊢ iprop(anyS c s ∗ semVal ((c : Thread nD τ), osem k) 0) := by
  obtain rfl : s = ⟨n % 6, m6 n⟩ := Fin.ext e.symm
  rw [show k = (⟨n % 6, Nat.lt_of_lt_of_le (m6 n) (by decide)⟩ : Fin 9) from Fin.ext e']
  unfold anyS Head.Free Head.cell
  iintro ⟨⟨%X, -, HX⟩, HS⟩
  isplitl [HX]
  · iexists X; iexact HX
  iapply (ent_eq (congrArg (fun l => (semVal ((c : Thread nD τ), l) 0 : sProp 𝕄)) (rsem_eq ⟨n % 6, m6 n⟩))) $$ HS

theorem ex_in {b : Ref sig .tc} (c : Dev nD) :
    iprop(∃ f : Buf (Elt F) ((c : Thread nD τ).loc b), ((c : Thread nD τ).loc b) ↦{fullShare} f) ⊢ (iprop(∃ X, owns (c : Thread nD τ) (Memref.whole b) fullShare X) : sProp 𝕄) := by
  iintro ⟨%f, H⟩
  iexists _
  iapply (owns_in c f) $$ H

theorem ex_out {b : Ref sig .tc} (c : Dev nD) :
    (iprop(∃ X, owns (c : Thread nD τ) (Memref.whole b) fullShare X) : sProp 𝕄) ⊢ iprop(∃ f : Buf (Elt F) ((c : Thread nD τ).loc b), ((c : Thread nD τ).loc b) ↦{fullShare} f) := by
  iintro ⟨%X, H⟩
  iapply (owns_out c X) $$ H

theorem sem6 : (SemLoc.dma cc0_scratch9.sem : SemLoc sig) = osem 6 := by decide
theorem sem7 : (SemLoc.dma cc0_scratch10.sem : SemLoc sig) = osem 7 := by decide
theorem sem8 : (SemLoc.dma cc0_scratch11.sem : SemLoc sig) = osem 8 := by decide

section Res

variable (c : Dev nD) (st0 : Memref sig .tc .vmem S2x128 .f32) (st1 : Memref sig .tc .vmem S2x128 .i32) (st2 st3 : Memref sig .tc .vmem S2x128 .f32)
  (fx : Buf (Elt F) ((c : Thread nD τ).loc main_v0)) (fs : Buf (Elt F) ((c : Thread nD τ).loc main_arg4)) (fw : Buf (Elt F) ((c : Thread nD τ).loc main_v1))
  (XS : S2x128.Idx → F .f32) (HC : S2x128.Idx → BitVec 32)

/-- The arrays that are no window's and the kernel uses. -/
def Arrs : sProp 𝕄 :=
  iprop((((c : Thread nD τ).loc main_arg4) ↦{fullShare} fs) ∗ (((c : Thread nD τ).loc main_v0) ↦{fullShare} fx) ∗ (((c : Thread nD τ).loc main_v1) ↦{fullShare} fw))

abbrev Pre' : sProp 𝕄 := BPre c (Memref.whole main_v0) st0 st1 wM (Memref.whole main_arg4) st2 st3 ringM (Memref.whole cc0_scratch1) (Memref.whole cc0_scratch2) (Memref.whole cc0_scratch3)
  (Memref.whole cc0_scratch4) (Memref.whole cc0_scratch5) (Memref.whole cc0_scratch6) (Memref.whole cc0_scratch7) cc0_scratch8 cc0_scratch9.sem cc0_scratch10.sem cc0_scratch11.sem fx fs fw XS HC

abbrev Post' (log2e ln2 : F .f32) : sProp 𝕄 := BPost c (Memref.whole main_v0) st0 st1 wM (Memref.whole main_arg4) st2 st3 ringM (Memref.whole cc0_scratch1) (Memref.whole cc0_scratch2) (Memref.whole cc0_scratch3)
  (Memref.whole cc0_scratch4) (Memref.whole cc0_scratch5) (Memref.whole cc0_scratch6) (Memref.whole cc0_scratch7) cc0_scratch8 cc0_scratch9.sem cc0_scratch10.sem cc0_scratch11.sem fx fs fw XS HC log2e ln2

theorem pre_of :
    iprop(Arrs c fx fs fw ∗ Pipeline.ownSems0 osem c ∗ Pipeline.scopedRest spec0 c ∗ (∃ W, owes (c : Thread nD τ) 0 W)
      ∗ owns (c : Thread nD τ) st0 fullShare XS ∗ owns (Val := Elt F) (c : Thread nD τ) st1 fullShare HC
      ∗ (∃ X : S2x128.Idx → F .f32, owns (c : Thread nD τ) st2 fullShare X) ∗ (∃ X : S2x128.Idx → F .f32, owns (c : Thread nD τ) st3 fullShare X))
    ⊢ (Pre' c st0 st1 st2 st3 fx fs fw XS HC : sProp 𝕄) := by
  rw [ownSems0_eq, scopedRest0_eq]
  unfold Pre' BPre BOwn Arrs Head.Fst
  rw [src_eq, src_eq, sem6, sem7, sem8]
  unfold Head.Fl Head.Rest Head.Done
  simp only [Nat.not_lt_zero, if_false]
  iintro ⟨⟨Hs, Hx, Hw⟩, ⟨S0, S1, S2, S3, S4, S5, S6, S7, S8⟩, ⟨R0, R1, R2, R3, R4, R5, R6, R7⟩, Ho, Hst0, Hst1, Hst2, Hst3⟩
  ihave R := (ring_split c) $$ R0
  ihave R' := (ent_eq (bigSep_fin6 (anyS c))) $$ R
  icases R' with ⟨A0, A1, A2, A3, A4, A5⟩
  ihave Hw' := (ent_eq (rows_all c fw).symm) $$ Hw
  ihave Hw2 := (Head.rowsP_split c wM fw (a := 0) (b := 0) (d := 512 * 59) (by omega) (by omega)) $$ Hw'
  icases Hw2 with ⟨HD, HR⟩
  isplitl [R1 Hx S6 R2 Hs S7 Hst0 Hst1 R3 R4 R5 R6 R7 S8 Ho]
  · isplitl [R1 Hx S6]
    · isplitl [R1]; · iapply (ex_in c) $$ R1
      isplitl [Hx]; · iexact Hx
      iexact S6
    isplitl [R2 Hs S7]
    · isplitl [R2]; · iapply (ex_in c) $$ R2
      isplitl [Hs]; · iexact Hs
      iexact S7
    isplitl [Hst0]; · iexact Hst0
    isplitl [Hst1]; · iexact Hst1
    isplitl [R3]; · iapply (ex_in c) $$ R3
    isplitl [R4]; · iapply (ex_in c) $$ R4
    isplitl [R5]; · iapply (ex_in c) $$ R5
    isplitl [R6]; · iapply (ex_in c) $$ R6
    isplitl [R7]; · iapply (ex_in c) $$ R7
    isplitl [S8]; · iexact S8
    iexact Ho
  isplitl [A0 A1 A2 A3 A4 A5 S0 S1 S2 S3 S4 S5 HD HR]
  · isplitl [A0 A1 A2 A3 A4 S0 S1 S2 S3 S4 HR]
    · isplitr [HR]
      · isplitl [A0 S0]; · iapply (free_in c fw (n := 0) (by omega) 0 rfl 0 rfl) $$ [A0 S0]; iframe A0 S0
        isplitl [A1 S1]; · iapply (free_in c fw (n := 1) (by omega) 1 rfl 1 rfl) $$ [A1 S1]; iframe A1 S1
        isplitl [A2 S2]; · iapply (free_in c fw (n := 2) (by omega) 2 rfl 2 rfl) $$ [A2 S2]; iframe A2 S2
        isplitl [A3 S3]; · iapply (free_in c fw (n := 3) (by omega) 3 rfl 3 rfl) $$ [A3 S3]; iframe A3 S3
        iapply (free_in c fw (n := 4) (by omega) 4 rfl 4 rfl) $$ [A4 S4]; iframe A4 S4
      iexact HR
    isplitl [A5 S5]; · iapply (free_in c fw (n := 5) (by omega) 5 rfl 5 rfl) $$ [A5 S5]; iframe A5 S5
    iexact HD
  isplitl [Hst2]; · iexact Hst2
  iexact Hst3

theorem post_of (log2e ln2 : F .f32) :
    (Post' c st0 st1 st2 st3 fx fs fw XS HC log2e ln2 : sProp 𝕄) ⊢
    iprop(Arrs c fx fs fw ∗ Pipeline.ownSems0 osem c ∗ Pipeline.scopedRest spec0 c ∗ (∃ W, owes (c : Thread nD τ) 0 W)
      ∗ owns (c : Thread nD τ) st0 fullShare XS ∗ owns (Val := Elt F) (c : Thread nD τ) st1 fullShare HC
      ∗ owns (c : Thread nD τ) st2 fullShare (Head.lpOut ln2 (Head.stE log2e XS HC ((Memref.whole main_arg4).view.read (Elt F) fs) ((Memref.whole main_v0).view.read (Elt F) fx) (wM.view.read (Elt F) fw)))
      ∗ owns (c : Thread nD τ) st3 fullShare (Head.lseOut ln2 (Head.stE log2e XS HC ((Memref.whole main_arg4).view.read (Elt F) fs) ((Memref.whole main_v0).view.read (Elt F) fx) (wM.view.read (Elt F) fw)))) := by
  rw [ownSems0_eq, scopedRest0_eq]
  unfold Post' BPost BOwn Arrs
  rw [src_eq, src_eq, sem6, sem7, sem8]
  unfold Head.Done
  rw [rows_all]
  iintro ⟨⟨⟨R1, Hx, S6⟩, ⟨R2, Hs, S7⟩, Hst0, Hst1, R3, R4, R5, R6, R7, S8, Ho⟩, ⟨⟨F5, F0, F1, F2, F3, F4⟩, Hw⟩, Hst2, Hst3⟩
  ihave F0' := (free_out c fw (n := 60) 0 rfl 0 rfl) $$ F0
  ihave F1' := (free_out c fw (n := 61) 1 rfl 1 rfl) $$ F1
  ihave F2' := (free_out c fw (n := 62) 2 rfl 2 rfl) $$ F2
  ihave F3' := (free_out c fw (n := 63) 3 rfl 3 rfl) $$ F3
  ihave F4' := (free_out c fw (n := 64) 4 rfl 4 rfl) $$ F4
  ihave F5' := (free_out c fw (n := 59) 5 rfl 5 rfl) $$ F5
  icases F0' with ⟨A0, S0⟩
  icases F1' with ⟨A1, S1⟩
  icases F2' with ⟨A2, S2⟩
  icases F3' with ⟨A3, S3⟩
  icases F4' with ⟨A4, S4⟩
  icases F5' with ⟨A5, S5⟩
  isplitl [Hx Hs Hw]
  · isplitl [Hs]; · iexact Hs
    isplitl [Hx]; · iexact Hx
    iexact Hw
  isplitl [S0 S1 S2 S3 S4 S5 S6 S7 S8]
  · iframe S0 S1 S2 S3 S4 S5 S6 S7 S8
  isplitl [A0 A1 A2 A3 A4 A5 R1 R2 R3 R4 R5 R6 R7]
  · isplitl [A0 A1 A2 A3 A4 A5]
    · iapply (ring_join c)
      iapply (ent_eq (bigSep_fin6 (anyS c)).symm) $$ [A0 A1 A2 A3 A4 A5]
      iframe A0 A1 A2 A3 A4 A5
    isplitl [R1]; · iapply (ex_out (b := cc0_scratch1) c) $$ R1
    isplitl [R2]; · iapply (ex_out (b := cc0_scratch2) c) $$ R2
    isplitl [R3]; · iapply (ex_out (b := cc0_scratch3) c) $$ R3
    isplitl [R4]; · iapply (ex_out (b := cc0_scratch4) c) $$ R4
    isplitl [R5]; · iapply (ex_out (b := cc0_scratch5) c) $$ R5
    isplitl [R6]; · iapply (ex_out (b := cc0_scratch6) c) $$ R6
    iapply (ex_out (b := cc0_scratch7) c) $$ R7
  isplitl [Ho]; · iexact Ho
  isplitl [Hst0]; · iexact Hst0
  isplitl [Hst1]; · iexact Hst1
  isplitl [Hst2]; · iexact Hst2
  iexact Hst3

end Res

/-! ## The pipeline's proof data -/

/-- What the region holds before and after its one point, beside the windows. -/
def Φ (c : Dev nD) : sProp 𝕄 :=
  iprop((Arrs c (V m c main_v0) (V m c main_arg4) (V m c main_v1) ∗ (((c : Thread nD τ).loc main_arg0) ↦{fullShare} V m c main_arg0) ∗ (((c : Thread nD τ).loc main_arg3) ↦{fullShare} V m c main_arg3))
    ∗ Pipeline.ownSems0 osem c ∗ Pipeline.scopedRest spec0 c)

abbrev st0 (t : Fin cfg0.N) : Memref sig .tc .vmem S2x128 .f32 := win0_0.stage (cfg0.slots t 0)
abbrev st1 (t : Fin cfg0.N) : Memref sig .tc .vmem S2x128 .i32 := win0_1.stage (cfg0.slots t 1)
abbrev st2 (t : Fin cfg0.N) : Memref sig .tc .vmem S2x128 .f32 := win0_2.stage (cfg0.slots t 2)
abbrev st3 (t : Fin cfg0.N) : Memref sig .tc .vmem S2x128 .f32 := win0_3.stage (cfg0.slots t 3)

/-- The state after the last block. -/
def stF (c : Dev nD) (t : Fin cfg0.N) : Head.St F :=
  Head.stE (Scalar.ofBits .f32 0x3FB8AA3B#32) (iblk m c 0 t) (iblk m c 1 t) ((Memref.whole main_arg4).view.read (Elt F) (V m c main_arg4)) ((Memref.whole main_v0).view.read (Elt F) (V m c main_v0)) (wM.view.read (Elt F) (V m c main_v1))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => Head.lpOut (Scalar.ofBits .f32 0x3F317218#32) (stF m c t)
    | ⟨3, _⟩ => Head.lseOut (Scalar.ofBits .f32 0x3F317218#32) (stF m c t)
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = Head.lpOut (Scalar.ofBits .f32 0x3F317218#32) (stF m c t) := by dsimp only [dats]
theorem after_w3 (c : Dev nD) (t : Fin cfg0.N) : (dats m 0 c).after 3 t = Head.lseOut (Scalar.ofBits .f32 0x3F317218#32) (stF m c t) := by dsimp only [dats]

/-! ## The body obligation -/

/-- The kernel on its buffers. -/
def bodyG (s0 : Memref sig .tc .vmem S2x128 .f32) (h0 : s0.IsWhole) (s1 : Memref sig .tc .vmem S2x128 .i32) (h1 : s1.IsWhole) (s2 : Memref sig .tc .vmem S2x128 .f32) (h2 : s2.IsWhole)
    (s3 : Memref sig .tc .vmem S2x128 .f32) (h3 : s3.IsWhole) : Prog (TpuEff nD τ sig (Elt F) Λ₀ .tc) PUnit :=
  cc0_adaptive_softmax (Memref.whole main_v0) (Memref.isWhole_whole _) s0 h0 s1 h1 (Memref.whole main_v1) (Memref.isWhole_whole _) (Memref.whole main_arg4) (Memref.isWhole_whole _) s2 h2 s3 h3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl
theorem prog_eq (t : Fin cfg0.N) : (defs₀ (F := F)) .tc cfg0.body (cfg0.bodyArgs t (cfg0.slots t))
    = bodyG (st0 t) (hstage0_0 0) (st1 t) (hstage0_1 0) (st2 t) (hstage0_2 0) (st3 t) (hstage0_3 0) :=
  (congrFun defs_tc _).trans rfl

theorem bodyG_wp (c : Dev nD) (s0 : Memref sig .tc .vmem S2x128 .f32) (h0 : s0.IsWhole) (s1 : Memref sig .tc .vmem S2x128 .i32) (h1 : s1.IsWhole) (s2 : Memref sig .tc .vmem S2x128 .f32) (h2 : s2.IsWhole)
    (s3 : Memref sig .tc .vmem S2x128 .f32) (h3 : s3.IsWhole) (fx : Buf (Elt F) ((c : Thread nD τ).loc main_v0)) (fs : Buf (Elt F) ((c : Thread nD τ).loc main_arg4)) (fw : Buf (Elt F) ((c : Thread nD τ).loc main_v1))
    (XS : S2x128.Idx → F .f32) (HC : S2x128.Idx → BitVec 32) {bd : Option 𝒱₀.V} :
    (Pre' c s0 s1 s2 s3 fx fs fw XS HC : sProp 𝕄) ⊢ wp Idealize.ShloMosaic.frame (wpE defs₀ 𝒱₀ (c : Thread nD τ) bd) Set.univ (bodyG s0 h0 s1 h1 s2 h2 s3 h3)
      (fun _ => Post' c s0 s1 s2 s3 fx fs fw XS HC (Scalar.ofBits .f32 0x3FB8AA3B#32) (Scalar.ofBits .f32 0x3F317218#32)) :=
  body_wp (Memref.whole main_v0) (Memref.isWhole_whole _) s0 h0 s1 h1 (Memref.whole main_v1) (Memref.isWhole_whole _) (Memref.whole main_arg4) (Memref.isWhole_whole _) s2 h2 s3 h3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 c fx fs fw XS HC

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, after_w0, after_w1, after_w2, after_w3]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold Φ
  iintro ⟨⟨⟨HA, H0, H3⟩, HS, HR⟩, ⟨%W, -, HW⟩, ⟨%d0, Hs0⟩, ⟨%d1, Hs1⟩, ⟨%d2, Hs2⟩, ⟨%d3, Hs3⟩⟩
  sl_rw [prog_eq t]
  ihave HP := (pre_of c (st0 t) (st1 t) (st2 t) (st3 t) (V m c main_v0) (V m c main_arg4) (V m c main_v1) (iblk m c 0 t) (iblk m c 1 t)) $$ [HA HS HR HW Hs0 Hs1 Hs2 Hs3]
  · isplitl [HA]; · iexact HA
    isplitl [HS]; · iexact HS
    isplitl [HR]; · iexact HR
    isplitl [HW]; · iexists _; iexact HW
    isplitl [Hs0]; · iexact Hs0
    isplitl [Hs1]; · iexact Hs1
    isplitl [Hs2]; · iexists _; iexact Hs2
    iexists _; iexact Hs3
  iapply (wp_wand Idealize.ShloMosaic.frame (wpE defs₀ 𝒱₀ (c : Thread nD τ) none) Set.univ) $$ [HP]
  · iapply (bodyG_wp c (st0 t) (hstage0_0 0) (st1 t) (hstage0_1 0) (st2 t) (hstage0_2 0) (st3 t) (hstage0_3 0) (V m c main_v0) (V m c main_arg4) (V m c main_v1) (iblk m c 0 t) (iblk m c 1 t)) $$ HP
  iintro %_ HQ
  ihave HQ' := (post_of c (st0 t) (st1 t) (st2 t) (st3 t) (V m c main_v0) (V m c main_arg4) (V m c main_v1) (iblk m c 0 t) (iblk m c 1 t) (Scalar.ofBits .f32 0x3FB8AA3B#32) (Scalar.ofBits .f32 0x3F317218#32)) $$ HQ
  icases HQ' with ⟨HA, HS, HR, ⟨%W', HW⟩, Hs0, Hs1, Hs2, Hs3⟩
  isplitl [HA H0 H3 HS HR]
  · isplitl [HA H0 H3]
    · isplitl [HA]; · iexact HA
      isplitl [H0]; · iexact H0
      iexact H3
    isplitl [HS]; · iexact HS
    iexact HR
  isplitl [HW]
  · iexists W'; isplitr; · ipureintro; exact fun _ _ => Or.inl trivial
    iexact HW
  isplitl [Hs0]; · iexact Hs0
  isplitl [Hs1]; · iexact Hs1
  isplitl [Hs2]; · iexact Hs2
  iexact Hs3

/-! ## The run -/

def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
/-- The arrays that no window stages are as they were launched. -/
def QY (c : Dev nD) (s : MemSt nD τ sig (Elt F)) : Prop :=
  s.mem ((c : Thread nD τ).loc main_arg0) = m ((c : Thread nD τ).loc main_arg0) ∧ s.mem ((c : Thread nD τ).loc main_arg3) = m ((c : Thread nD τ).loc main_arg3)
    ∧ s.mem ((c : Thread nD τ).loc main_arg4) = m ((c : Thread nD τ).loc main_arg4)
def QC : PUnit × MemSt nD τ sig (Elt F) → Prop := fun r =>
  ∀ c : Dev nD, (∀ w : Fin cfg0.W, r.2.mem ((cfg0.win w).arr.view.loc (c : Thread nD τ)) = finalA m c w) ∧ QY m c r.2

def intoΦ (c : Dev nD) : sProp 𝕄 :=
  iprop((Arrs c (V m c main_v0) (V m c main_arg4) (V m c main_v1) ∗ (((c : Thread nD τ).loc main_arg0) ↦{fullShare} V m c main_arg0) ∗ (((c : Thread nD τ).loc main_arg3) ↦{fullShare} V m c main_arg3))
    ∗ Pipeline.ownSems0 osem c)
def outOfΦ (c : Dev nD) : sProp 𝕄 :=
  iprop(Arrs c (V m c main_v0) (V m c main_arg4) (V m c main_v1) ∗ (((c : Thread nD τ).loc main_arg0) ↦{fullShare} V m c main_arg0) ∗ (((c : Thread nD τ).loc main_arg3) ↦{fullShare} V m c main_arg3))

set_option maxHeartbeats 800000 in
theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run from zero counters ends, with the windows' arrays at the pipeline's results, the rest unchanged and every
    counter at zero. -/
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainU m)
    (hA := fun _ _ => rfl)
    (X := intoΦ m) (Y := outOfΦ m) (Z := fun _ => iprop(emp))
    (hX := fun c => by
      rw [unscopedRest0_eq]
      unfold intoΦ Arrs
      iintro ⟨⟨H0, H3, H4, Hx, Hw⟩, HS, -, -, -⟩; imodintro
      isplitr []
      · isplitr [HS]
        · isplitl [H4 Hx Hw]
          · isplitl [H4]; · iexact H4
            isplitl [Hx]; · iexact Hx
            iexact Hw
          isplitl [H0]; · iexact H0
          iexact H3
        iexact HS
      iempintro)
    (hin := fun c => by
      rw [show (dats m 0 c).Φ 0 = Φ m c from rfl]
      unfold intoΦ Φ
      iintro ⟨⟨HA, HS⟩, HR⟩
      isplitl [HA]; · iexact HA
      isplitl [HS]; · iexact HS
      iexact HR)
    (hout := fun c => by
      rw [show (dats m 0 c).Φ (Fin.last cfg0.N) = Φ m c from rfl]
      unfold Φ outOfΦ
      exact .rfl)
    (QY := QY m)
    (hY := fun c s' => by
      unfold outOfΦ Arrs
      iintro ⟨⟨⟨H4, Hx, Hw⟩, H0, H3⟩, -, HSI⟩
      icombine HSI H4 gives %h4
      icombine HSI H0 gives %h0
      icombine HSI H3 gives %h3
      imodintro
      isplitr; · ipureintro; exact ⟨(Buf.eq_of_forall_mem_univ h0).trans (V_main_arg0 m c), (Buf.eq_of_forall_mem_univ h3).trans (V_main_arg3 m c), (Buf.eq_of_forall_mem_univ h4).trans (V_main_arg4 m c)⟩
      iexact HSI)
    (hQ := fun _ hh hz => ⟨hh, hz⟩)

theorem finalA_in (c : Dev nD) (w : Fin cfg0.W) (hw : (cfg0.win w).isOut = false) :
    finalA m c w = V m c (Pipeline.arrRef spec0 w) :=
  (dats (F := F) m 0 c).arrAt_in w hw _

end Cert.Kernel.Launch

end
-- ==== Proof.FrameK.lean ====
/- The frame claim of the kernel: from any memory with zero counters it terminates without fault, its five argument
   arrays end as they began, and every counter ends at zero. -/
module

public import proofs.«01_k».proof.Proof.LaunchK

@[expose] public section

noncomputable section

namespace Cert.Kernel.Launch

open Cert.Kernel Cert.Kernel.Gen Idealize.ShloMosaic Idealize.ShloMosaic.TcCoe Idealize.SL Idealize.SL.Sem

variable {F : FTy → Type} [FloatOps F]
variable (m : (ℓ : Loc nD τ sig) → Buf (Elt F) ℓ) (ρ : Dev nD → PrngReg)

/-- What the run leaves: the two results, the five arguments, the counters. -/
theorem run_values : θ_run defs (onTc (τ := τ) (main (F := F))) ⟨m, fun _ => 0, ρ⟩ (fun r => (∀ c : Dev nD,
      r.2.mem ((c.tc : Thread nD τ).loc main_v2_0) = finalA m c 2
      ∧ r.2.mem ((c.tc : Thread nD τ).loc main_v2_1) = finalA m c 3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c).1 2, (h.1 c).1 3, (h.1 c).2.1,
      ((h.1 c).1 0).trans ((finalA_in m c 0 rfl).trans (V_main_arg1 m c)),
      ((h.1 c).1 1).trans ((finalA_in m c 1 rfl).trans (V_main_arg2 m c)), (h.1 c).2.2.1, (h.1 c).2.2.2⟩, h.2⟩) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2.2, h.2⟩) (run_values m ρ)

end Cert.Kernel.Launch

end
-- ==== Proof.TextI.lean ====
/- The printed kernel's text between and inside its loops, each stretch under a name of its own, and the parts of a trip that
   branch, once for each way a trip can go. -/
module

public import proofs.«01_k».proof.KernelIdeal
public import Idealize.ShloMosaic.Lib.Tactic

@[expose] public section

set_option maxRecDepth 100000

noncomputable section

namespace Cert.KernelIdeal

open Idealize.ShloMosaic Idealize.SL.Sem
open Idealize.ShloMosaic.RefSig (ofTc tcTables tileCredit tileCredit_eq_zero tileCredit_pos)

variable {F : FTy → Type} [FloatOps F] [Named F]
variable [Facts]
open Facts₀ Facts
variable (arg0 : Memref sig .tc .hbm S256x12288 .fp8e4m3) (harg0 : arg0.IsWhole) (arg1 : Memref sig .tc .vmem S2x128 .f32)
    (harg1 : arg1.IsWhole) (arg2 : Memref sig .tc .vmem S2x128 .i32) (harg2 : arg2.IsWhole)
    (arg3 : Memref sig .tc .hbm S30008x12288 .fp8e4m3) (harg3 : arg3.IsWhole) (arg4 : Memref sig .tc .hbm S30003 .f32)
    (harg4 : arg4.IsWhole) (arg5 : Memref sig .tc .vmem S2x128 .f32) (harg5 : arg5.IsWhole)
    (arg6 : Memref sig .tc .vmem S2x128 .f32) (harg6 : arg6.IsWhole) (arg7 : Memref sig .tc .vmem S6x512x12288 .fp8e4m3)
    (harg7 : arg7.IsWhole) (arg8 : Memref sig .tc .vmem S256x12288 .fp8e4m3) (harg8 : arg8.IsWhole)
    (arg9 : Memref sig .tc .vmem S30003 .f32) (harg9 : arg9.IsWhole) (arg10 : Memref sig .tc .vmem S256x128 .i32)
    (harg10 : arg10.IsWhole) (arg11 : Memref sig .tc .vmem S256x128 .f32) (harg11 : arg11.IsWhole)
    (arg12 : Memref sig .tc .vmem S256x128 .f32) (harg12 : arg12.IsWhole) (arg13 : Memref sig .tc .vmem S256x128 .f32)
    (harg13 : arg13.IsWhole) (arg14 : Memref sig .tc .vmem S256x128 .f32) (harg14 : arg14.IsWhole) (arg15 : DmaSems sig S6)
    (arg16 : DmaSems sig S_) (arg17 : DmaSems sig S_) (arg18 : DmaSems sig S_)
include arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18

/-- One trip of the loop that fills the ring. -/
def loop1Body (k0_t1 : Fin k0_t1_loop.trips) : Prog (TpuEff nD τ sig (Elt F) Λ₀ .tc) PUnit := do
  let c0_i32 : BitVec 32 := 0#32
  let c59_i32 : BitVec 32 := 59#32
  let v0 : BitVec 32 := Scalar.addi c0_i32 c59_i32
  let c0_i32_0 : BitVec 32 := 0#32
  let c0_i32_1 : BitVec 32 := 0#32
  let c5_i32 : BitVec 32 := 5#32
  let c1_i32 : BitVec 32 := 1#32
  let arg19 : BitVec 32 := Scf.iv c0_i32_1 c1_i32 k0_t1
  let c6_i32 : BitVec 32 := 6#32
  let v66 : BitVec 1 := Scalar.cmpi .sge arg19 c0_i32_0
  let c1_i32_24 : BitVec 32 := 1#32
  let v67 : BitVec 32 := Scalar.subi v0 c1_i32_24
  let v68 : BitVec 1 := Scalar.cmpi .slt arg19 v67
  let v69 : BitVec 1 := Scalar.andi v66 v68
  let v70 : BitVec 32 := Scalar.extui v69
  let c0_i32_25 : BitVec 32 := 0#32
  let v71 : BitVec 1 := Scalar.cmpi .ne v70 c0_i32_25
  if k0_h1 : k0_cond1 k0_t1 = 1#1 then do
    let v76 : BitVec 32 := Scalar.subi arg19 c0_i32_0
    let c512_i32 : BitVec 32 := 512#32
    let v77 : BitVec 32 := Scalar.muli v76 c512_i32
    let v78 : BitVec 32 := v77
    let v79 : DmaSems sig S1 := arg15.slice (Rect.unit (s := S6) (k0_off1 k0_t1) S1.size (k0_off1_inb k0_t1 k0_h1))
    let v80 : DmaSems sig S_ := v79.squeeze S_ squeezes_S1_S_
    let c0_i32_28 : BitVec 32 := 0#32
    let c0_i32_29 : BitVec 32 := 0#32
    let v81 : Memref sig .tc .vmem S1x512x12288 .fp8e4m3 := arg7.slice (Rect.unit (s := S6x512x12288) (k0_off2 k0_t1) S1x512x12288.size (k0_off2_inb k0_t1 k0_h1)) (fun _ => rfl)
    let v82 : Memref sig .tc .vmem S512x12288 .fp8e4m3 := v81.squeeze S512x12288 squeezes_S1x512x12288_S512x12288
    let c0_i32_30 : BitVec 32 := 0#32
    let v83 : Memref sig .tc .hbm S512x12288 .fp8e4m3 := arg3.slice (Rect.unit (s := S30008x12288) (k0_off3 k0_t1) S512x12288.size (k0_off3_inb k0_t1 k0_h1)) (fun _ => rfl)
    Prog.lift (.enqueueDma v83 (.here v82) (.dma v80.sem) (harg3.wordExact_slice rfl _ (k0_off3_wordsfp8e4m3 k0_t1 k0_h1)) ((harg7.wordExact_slice rfl _ (k0_off2_wordsfp8e4m3 k0_t1 k0_h1)).reshape _ _) ⟨Or.inl rfl, trivial⟩)
    pure ⟨⟩
  else do
    pure ⟨⟩
  let c1_i32_26 : BitVec 32 := 1#32
  let v72 : BitVec 32 := Scalar.subi v0 c1_i32_26
  let v73 : BitVec 1 := Scalar.cmpi .eq arg19 v72
  let v74 : BitVec 32 := Scalar.extui v73
  let c0_i32_27 : BitVec 32 := 0#32
  let v75 : BitVec 1 := Scalar.cmpi .ne v74 c0_i32_27
  if k0_h2 : k0_cond2 k0_t1 = 1#1 then do
    let v76 : BitVec 32 := Scalar.subi arg19 c0_i32_0
    let c512_i32 : BitVec 32 := 512#32
    let v77 : BitVec 32 := Scalar.muli v76 c512_i32
    let v78 : BitVec 32 := v77
    let c0_i32_28 : BitVec 32 := 0#32
    let c0_i32_29 : BitVec 32 := 0#32
    let v79 : Memref sig .tc .vmem S1x312x12288 .fp8e4m3 := arg7.slice (Rect.unit (s := S6x512x12288) (k0_off4 k0_t1) S1x312x12288.size (k0_off4_inb k0_t1 k0_h2)) (fun _ => rfl)
    let v80 : Memref sig .tc .vmem S312x12288 .fp8e4m3 := v79.squeeze S312x12288 squeezes_S1x312x12288_S312x12288
    let c0_i32_30 : BitVec 32 := 0#32
    let v81 : Memref sig .tc .hbm S312x12288 .fp8e4m3 := arg3.slice (Rect.unit (s := S30008x12288) (k0_off5 k0_t1) S312x12288.size (k0_off5_inb k0_t1 k0_h2)) (fun _ => rfl)
    Prog.lift (.enqueueDma v81 (.here v80) (.dma arg18.sem) (harg3.wordExact_slice rfl _ (k0_off5_wordsfp8e4m3 k0_t1 k0_h2)) ((harg7.wordExact_slice rfl _ (k0_off4_wordsfp8e4m3 k0_t1 k0_h2)).reshape _ _) ⟨Or.inl rfl, trivial⟩)
    pure ⟨⟩
  else do
    pure ⟨⟩
  pure ⟨⟩

/-- What follows it up to the targets' columns. -/
def tail80 : Prog (TpuEff nD τ sig (Elt F) Λ₀ .tc) (Σ' (k0_mxu1 : Mxu F), BitVec 32) := do
  have k0_mxu1 : Mxu F := Mxu.init
  let c0_i32 : BitVec 32 := 0#32
  let c59_i32 : BitVec 32 := 59#32
  let v0 : BitVec 32 := Scalar.addi c0_i32 c59_i32
  let c0_i32_1 : BitVec 32 := 0#32
  let c5_i32 : BitVec 32 := 5#32
  have v2 : IVec S128x128 32 := iota .tc S128x128 32 [1] iota_S128x128_d1_w32
  let v3 : Vec F S1x128 .i32 ← Prog.lift (.load arg2 (Rect.unit (s := S2x128) ![0, 0] S1x128.size inb_S2x128_S1x128_0_0).toLoadRect (View.loadsAt_vmem h_S1x128))
  have v4 : IVec S128x128 32 := iota .tc S128x128 32 [0] iota_S128x128_d0_w32
  have v5 : IVec S128x128 32 := iota .tc S128x128 32 [1] iota_S128x128_d1_w32
  have v6 : IVec S128x128 1 := cmpi .eq v4 v5
  have v7 : IVec S1x128 32 := shapeCast S1x128 v3 shapeCasts_S1x128_S1x128
  have v8 : IVec S128x128 32 := broadcastTo S128x128 v7 broadcasts_S1x128_S128x128
  let c0_i32_4 : BitVec 32 := 0#32
  have v9 : IVec S128x128 32 := broadcast S128x128 c0_i32_4
  have v10 : IVec S128x128 32 := select v6 v8 v9
  have cst : IVec S128 32 := constantI S128 32 0#32
  have v11 : IVec S128 32 := multiReductionI .add [1] S128 v10 0#32 reduces_S128x128_S128 rfl
  have v12 : IVec S128x1 32 := shapeCast S128x1 v11 shapeCasts_S128_S128x1
  have v13 : IVec S128x1 32 := shapeCast S128x1 v12 shapeCasts_S128x1_S128x1
  have v14 : IVec S128x128 32 := broadcastTo S128x128 v13 broadcasts_S128x1_S128x128
  have v15 : IVec S128x128 32 := subi v14 v2
  let v16 : Vec F S128x128 .i32 ← Prog.lift (.load arg10 (Rect.unit (s := S256x128) ![0, 0] S128x128.size inb_S256x128_S128x128_0_0).toLoadRect (View.loadsAt_vmem h_S128x128))
  have v17 : IVec S128x128 32 := shapeCast S128x128 v16 shapeCasts_S128x128_S128x128
  have v18 : IVec S128x128 32 := shapeCast S128x128 v15 shapeCasts_S128x128_S128x128
  Prog.lift (.store arg10 (Rect.unit (s := S256x128) ![0, 0] S128x128.size inb_S256x128_S128x128_0_0) v18 Finset.univ (View.stores_vmem_bits_univ h_S128x128 rfl) (.inl rfl))
  let v19 : Vec F S1x128 .i32 ← Prog.lift (.load arg2 (Rect.unit (s := S2x128) ![1, 0] S1x128.size inb_S2x128_S1x128_1_0).toLoadRect (View.loadsAt_vmem h_S1x128))
  have v20 : IVec S128x128 32 := iota .tc S128x128 32 [0] iota_S128x128_d0_w32
  have v21 : IVec S128x128 32 := iota .tc S128x128 32 [1] iota_S128x128_d1_w32
  have v22 : IVec S128x128 1 := cmpi .eq v20 v21
  have v23 : IVec S1x128 32 := shapeCast S1x128 v19 shapeCasts_S1x128_S1x128
  have v24 : IVec S128x128 32 := broadcastTo S128x128 v23 broadcasts_S1x128_S128x128
  let c0_i32_8 : BitVec 32 := 0#32
  have v25 : IVec S128x128 32 := broadcast S128x128 c0_i32_8
  have v26 : IVec S128x128 32 := select v22 v24 v25
  have cst_9 : IVec S128 32 := constantI S128 32 0#32
  have v27 : IVec S128 32 := multiReductionI .add [1] S128 v26 0#32 reduces_S128x128_S128 rfl
  have v28 : IVec S128x1 32 := shapeCast S128x1 v27 shapeCasts_S128_S128x1
  have v29 : IVec S128x1 32 := shapeCast S128x1 v28 shapeCasts_S128x1_S128x1
  have v30 : IVec S128x128 32 := broadcastTo S128x128 v29 broadcasts_S128x1_S128x128
  have v31 : IVec S128x128 32 := subi v30 v2
  let v32 : Vec F S128x128 .i32 ← Prog.lift (.load arg10 (Rect.unit (s := S256x128) ![128, 0] S128x128.size inb_S256x128_S128x128_128_0).toLoadRect (View.loadsAt_vmem h_S128x128))
  have v33 : IVec S128x128 32 := shapeCast S128x128 v32 shapeCasts_S128x128_S128x128
  have v34 : IVec S128x128 32 := shapeCast S128x128 v31 shapeCasts_S128x128_S128x128
  Prog.lift (.store arg10 (Rect.unit (s := S256x128) ![128, 0] S128x128.size inb_S256x128_S128x128_128_0) v34 Finset.univ (View.stores_vmem_bits_univ h_S128x128 rfl) (.inl rfl))
  pure ⟨k0_mxu1, v0⟩

/-- What follows that. -/
def K80 : (Σ' (k0_mxu1 : Mxu F), BitVec 32) → Prog (TpuEff nD τ sig (Elt F) Λ₀ .tc) PUnit := fun ⟨k0_mxu1, v0⟩ => do
  let ⟨c0_i32_23, cst_29_r0⟩ : Σ' (c0_i32_23 : BitVec 32), F .f32 ← k0_part81 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18
  let ⟨v84_r0, v93_r0, v103_r0, c0_i32_49_r0⟩ : Σ' (v84_r0 : BitVec 32) (v93_r0 : BitVec 32) (v103_r0 : BitVec 32), BitVec 32 ← k0_part82 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v0 c0_i32_23 cst_29_r0
  let k0_mxu15 : Mxu F ← k0_part83 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_mxu1 c0_i32_23 v84_r0 v93_r0 v103_r0 c0_i32_49_r0
  let ⟨k0_mxu31, v154_r0⟩ : Σ' (k0_mxu31 : Mxu F), Vec F S1x256x256 .fp8e4m3 ← k0_part84 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu15
  let k0_mxu47 : Mxu F ← k0_part85 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu31 v154_r0
  let k0_mxu62 : Mxu F ← k0_part86 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu47
  let k0_mxu79 : Mxu F ← k0_part87 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu62
  let k0_mxu93 : Mxu F ← k0_part88 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu79
  let k0_mxu111 : Mxu F ← k0_part89 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu93
  let k0_mxu125 : Mxu F ← k0_part90 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu111
  let ⟨k0_mxu141, v332_r0⟩ : Σ' (k0_mxu141 : Mxu F), FVec F S256x256 .bf16 ← k0_part91 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu125
  let k0_mxu157 : Mxu F ← k0_part92 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu141 v332_r0
  let ⟨k0_mxu172, v383_r0⟩ : Σ' (k0_mxu172 : Mxu F), FVec F S256x256 .fp8e4m3 ← k0_part93 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu157
  let k0_mxu189 : Mxu F ← k0_part94 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu172 v383_r0
  let ⟨k0_mxu203, v434_r0⟩ : Σ' (k0_mxu203 : Mxu F), FVec F S64x256 .bf16 ← k0_part95 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu189
  let k0_mxu221 : Mxu F ← k0_part96 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu203 v434_r0
  let ⟨k0_mxu235, v484_r0⟩ : Σ' (k0_mxu235 : Mxu F), FVec F S64x256 .bf16 ← k0_part97 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu221
  let k0_mxu252 : Mxu F ← k0_part98 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu235 v484_r0
  let ⟨k0_mxu267, v534_r0⟩ : Σ' (k0_mxu267 : Mxu F), FVec F S64x256 .bf16 ← k0_part99 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu252
  let k0_mxu283 : Mxu F ← k0_part100 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu267 v534_r0
  let ⟨k0_mxu299, v584_r0⟩ : Σ' (k0_mxu299 : Mxu F), FVec F S64x256 .bf16 ← k0_part101 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu283
  let k0_mxu315 : Mxu F ← k0_part102 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu299 v584_r0
  let ⟨k0_mxu331, v634_r0⟩ : Σ' (k0_mxu331 : Mxu F), Vec F S1x256x256 .fp8e4m3 ← k0_part103 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu315
  let k0_mxu347 : Mxu F ← k0_part104 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu331 v634_r0
  let k0_mxu362 : Mxu F ← k0_part105 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu347
  let k0_mxu379 : Mxu F ← k0_part106 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu362
  let k0_mxu393 : Mxu F ← k0_part107 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu379
  let k0_mxu411 : Mxu F ← k0_part108 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu393
  let k0_mxu425 : Mxu F ← k0_part109 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu411
  let ⟨k0_mxu441, v812_r0⟩ : Σ' (k0_mxu441 : Mxu F), FVec F S256x256 .bf16 ← k0_part110 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu425
  let k0_mxu457 : Mxu F ← k0_part111 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu441 v812_r0
  let ⟨k0_mxu472, v863_r0⟩ : Σ' (k0_mxu472 : Mxu F), FVec F S256x256 .fp8e4m3 ← k0_part112 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v84_r0 k0_mxu457
  let ⟨v877_r0, k0_mxu1461, v879_r0, v881_r0, v882_r0, v883_r0, v884_r0, v885_r0, v890_r0⟩ : Σ' (v877_r0 : FVec F S64x128 .f32) (k0_mxu1461 : Mxu F) (v879_r0 : FVec F S64x128 .f32) (v881_r0 : Vec F S64x128 .f32) (v882_r0 : Vec F S64x128 .i32) (v883_r0 : Vec F S64x128 .f32) (v884_r0 : Vec F S64x128 .f32) (v885_r0 : FVec F S64x128 .f32), FVec F S1x128 .f32 ← k0_part113 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v0 c0_i32_23 k0_mxu472 v863_r0
  let ⟨v924_r0, v925_r0, v938_r0⟩ : Σ' (v924_r0 : FVec F S64x128 .f32) (v925_r0 : FVec F S64x128 .f32), FVec F S64x128 .f32 ← k0_part114 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v877_r0 v879_r0 v881_r0 v882_r0 v883_r0 v884_r0 v885_r0 v890_r0
  let ⟨k0_mxu1463, v952_r0, v954_r0, v955_r0, v957_r0, v965_r0, v968_r0, v969_r0, v977_r0, c29824_i32_612_r0⟩ : Σ' (k0_mxu1463 : Mxu F) (v952_r0 : FVec F S64x128 .f32) (v954_r0 : Vec F S64x128 .f32) (v955_r0 : Vec F S64x128 .i32) (v957_r0 : Vec F S64x128 .f32) (v965_r0 : FVec F S64x128 .f32) (v968_r0 : FVec F S64x128 .f32) (v969_r0 : FVec F S64x128 .f32) (v977_r0 : FVec F S64x128 .f32), BitVec 32 ← k0_part115 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_mxu1461 v924_r0 v925_r0 v938_r0
  let v1021_r0 : FVec F S64x256 .f32 ← k0_part116 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_mxu1463 v952_r0 v954_r0 v955_r0 v957_r0 v965_r0 v968_r0 v969_r0 v977_r0 c29824_i32_612_r0
  let ⟨k0_mxu1465, v1028_r0, v1030_r0, v1038_r0, v1050_r0, v1053_r0, v1054_r0, v1062_r0, v1063_r0, v1064_r0⟩ : Σ' (k0_mxu1465 : Mxu F) (v1028_r0 : Vec F S64x128 .i32) (v1030_r0 : Vec F S64x128 .f32) (v1038_r0 : FVec F S64x128 .f32) (v1050_r0 : FVec F S64x128 .f32) (v1053_r0 : FVec F S64x128 .f32) (v1054_r0 : FVec F S64x128 .f32) (v1062_r0 : FVec F S64x128 .f32) (v1063_r0 : IVec S64x128 32), IVec S64x128 32 ← k0_part117 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_mxu1463 v1021_r0
  let ⟨v1095_r0, v1096_r0, k0_mxu1467, v1098_r0, v1100_r0, v1101_r0, v1102_r0⟩ : Σ' (v1095_r0 : FVec F S64x128 .f32) (v1096_r0 : FVec F S64x128 .f32) (k0_mxu1467 : Mxu F) (v1098_r0 : FVec F S64x128 .f32) (v1100_r0 : Vec F S64x128 .f32) (v1101_r0 : Vec F S64x128 .i32), Vec F S64x128 .f32 ← k0_part118 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_mxu1465 v1028_r0 v1030_r0 v1038_r0 v1050_r0 v1053_r0 v1054_r0 v1062_r0 v1063_r0 v1064_r0
  let ⟨v1123_r0, v1140_r0, v1143_r0, v1144_r0, v1148_r0, v1150_r0⟩ : Σ' (v1123_r0 : FVec F S64x128 .f32) (v1140_r0 : FVec F S64x128 .f32) (v1143_r0 : FVec F S64x128 .f32) (v1144_r0 : FVec F S64x128 .f32) (v1148_r0 : FVec F S64x128 .f32), FVec F S64x128 .f32 ← k0_part119 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v1095_r0 v1096_r0 v1098_r0 v1100_r0 v1101_r0 v1102_r0
  let ⟨v1187_r0, v1189_r0, v1190_r0⟩ : Σ' (v1187_r0 : FVec F S256x128 .f32) (v1189_r0 : FVec F S256x128 .f32), FVec F S128x128 .f32 ← k0_part120 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v1123_r0 v1140_r0 v1143_r0 v1144_r0 v1148_r0 v1150_r0
  let ⟨v1229_r0, v1230_r0, v1231_r0⟩ : Σ' (v1229_r0 : FVec F S128x128 .f32) (v1230_r0 : IVec S128x128 32), IVec S128x128 32 ← k0_part121 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v1187_r0 v1189_r0 v1190_r0
  have v1232_r0 : IVec S128x128 1 := cmpi .eq v1230_r0 v1231_r0
  have cst_703_r0 : F .f32 := Scalar.ofBits .f32 0x00000000#32
  have v1233_r0 : FVec F S128x128 .f32 := broadcast S128x128 cst_703_r0
  have v1234_r0 : FVec F S128x128 .f32 := select v1232_r0 v1229_r0 v1233_r0
  have cst_704_r0 : FVec F S128 .f32 := constant S128 .f32 0x00000000#32
  have v1235_r0 : FVec F S128 .f32 := multiReduction .add [0] S128 v1234_r0 0x00000000#32 reduces_S128x128_S128_2 (.inl rfl) rfl
  have v1236_r0 : FVec F S1x128 .f32 := shapeCast S1x128 v1235_r0 shapeCasts_S128_S1x128
  let v1237_r0 : Vec F S1x128 .f32 ← Prog.lift (.load arg5 (Rect.unit (s := S2x128) ![1, 0] S1x128.size inb_S2x128_S1x128_1_0).toLoadRect (View.loadsAt_vmem h_S1x128))
  Prog.lift (.store arg5 (Rect.unit (s := S2x128) ![1, 0] S1x128.size inb_S2x128_S1x128_1_0) v1236_r0 Finset.univ (View.stores_vmem_bits_univ h_S1x128 rfl) (.inl rfl))
  k0_mxu1467.exit
  pure ⟨⟩

/-- A trip's first window of windows, over its two parts that branch. -/
def part79G (v0 : BitVec 32) (c0_i32_23 : BitVec 32) (c0_i32_578_r0 : BitVec 32) (c1_i32_579_r0 : BitVec 32) (k0_t2 : Fin k0_t2_loop.trips) (k0_mxu482 : Mxu F) (P1 : (Mxu F) → Prog (TpuEff nD τ sig (Elt F) Λ₀ .tc) (Σ' (v1239_r0 : BitVec 32) (v1240_r0 : BitVec 32) (v1242_r0 : BitVec 32), Mxu F)) (P40 : (BitVec 32) → (Mxu F) → Prog (TpuEff nD τ sig (Elt F) Λ₀ .tc) (Σ' (k0_mxu971 : Mxu F), BitVec 32)) : Prog (TpuEff nD τ sig (Elt F) Λ₀ .tc) (Σ' (v1239_r0 : BitVec 32) (v2401_r0 : BitVec 32), Mxu F) := do
  let ⟨v1239_r0, v1240_r0, v1242_r0, k0_mxu485⟩ : Σ' (v1239_r0 : BitVec 32) (v1240_r0 : BitVec 32) (v1242_r0 : BitVec 32), Mxu F ← P1 k0_mxu482
  let k0_mxu503 : Mxu F ← k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu485
  let k0_mxu517 : Mxu F ← k0_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu503
  let ⟨k0_mxu533, v1346_r0⟩ : Σ' (k0_mxu533 : Mxu F), FVec F S256x256 .bf16 ← k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu517
  let ⟨v1361_r0, k0_mxu545, v1363_r0, v1364_r0, v1365_r0, v1366_r0, v1367_r0, v1368_r0, v1369_r0, v1370_r0, v1374_r0⟩ : Σ' (v1361_r0 : FVec F S64x128 .f32) (k0_mxu545 : Mxu F) (v1363_r0 : FVec F S64x128 .f32) (v1364_r0 : FVec F S64x128 .f32) (v1365_r0 : BitVec 32) (v1366_r0 : Vec F S64x128 .f32) (v1367_r0 : Vec F S64x128 .i32) (v1368_r0 : Vec F S64x128 .f32) (v1369_r0 : Vec F S64x128 .f32) (v1370_r0 : FVec F S64x128 .f32), Vec F S128 .f32 ← k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1240_r0 v1242_r0 k0_mxu533 v1346_r0
  let ⟨v1378_r0, v1392_r0, v1406_r0, v1420_r0, v1424_r0, v1425_r0⟩ : Σ' (v1378_r0 : FVec F S64x128 .f32) (v1392_r0 : FVec F S64x128 .f32) (v1406_r0 : FVec F S64x128 .f32) (v1420_r0 : FVec F S64x128 .f32) (v1424_r0 : FVec F S64x128 .f32), FVec F S64x128 .f32 ← k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1361_r0 v1363_r0 v1364_r0 v1365_r0 v1366_r0 v1367_r0 v1368_r0 v1369_r0 v1370_r0 v1374_r0
  let k0_mxu551 : Mxu F ← k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu545 v1369_r0 v1378_r0 v1392_r0 v1406_r0 v1420_r0 v1424_r0 v1425_r0
  let k0_mxu566 : Mxu F ← k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu551
  let k0_mxu583 : Mxu F ← k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu566
  let k0_mxu597 : Mxu F ← k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu583
  let k0_mxu615 : Mxu F ← k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu597
  let ⟨v1580_r0, v1581_r0, k0_mxu627, v1583_r0, v1584_r0, v1585_r0, v1586_r0, v1587_r0, v1588_r0, v1589_r0⟩ : Σ' (v1580_r0 : FVec F S64x128 .f32) (v1581_r0 : FVec F S64x128 .f32) (k0_mxu627 : Mxu F) (v1583_r0 : FVec F S64x128 .f32) (v1584_r0 : FVec F S64x128 .f32) (v1585_r0 : BitVec 32) (v1586_r0 : Vec F S64x128 .f32) (v1587_r0 : Vec F S64x128 .i32) (v1588_r0 : Vec F S64x128 .f32), Vec F S64x128 .f32 ← k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1240_r0 v1242_r0 k0_mxu615
  let ⟨v1598_r0, v1612_r0, v1626_r0, v1630_r0, v1631_r0, v1640_r0, v1641_r0⟩ : Σ' (v1598_r0 : FVec F S64x128 .f32) (v1612_r0 : FVec F S64x128 .f32) (v1626_r0 : FVec F S64x128 .f32) (v1630_r0 : FVec F S64x128 .f32) (v1631_r0 : FVec F S64x128 .f32) (v1640_r0 : FVec F S64x128 .f32), BitVec 32 ← k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1580_r0 v1581_r0 v1583_r0 v1584_r0 v1585_r0 v1586_r0 v1587_r0 v1588_r0 v1589_r0
  let k0_mxu631 : Mxu F ← k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu627 v1587_r0 v1589_r0 v1598_r0 v1612_r0 v1626_r0 v1630_r0 v1631_r0 v1640_r0 v1641_r0
  let ⟨k0_mxu647, v1704_r0⟩ : Σ' (k0_mxu647 : Mxu F), Vec F S1x256x256 .fp8e4m3 ← k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu631
  let k0_mxu663 : Mxu F ← k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu647 v1704_r0
  let k0_mxu678 : Mxu F ← k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu663
  let k0_mxu695 : Mxu F ← k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu678
  let ⟨v1800_r0, v1801_r0, k0_mxu709, v1803_r0, v1804_r0, v1805_r0, v1806_r0, v1807_r0⟩ : Σ' (v1800_r0 : FVec F S64x128 .f32) (v1801_r0 : FVec F S64x128 .f32) (k0_mxu709 : Mxu F) (v1803_r0 : FVec F S64x128 .f32) (v1804_r0 : FVec F S64x128 .f32) (v1805_r0 : BitVec 32) (v1806_r0 : Vec F S64x128 .f32), Vec F S64x128 .i32 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1240_r0 v1242_r0 k0_mxu695
  let ⟨v1809_r0, v1818_r0, v1832_r0, v1846_r0, v1850_r0, v1851_r0, v1852_r0, v1856_r0⟩ : Σ' (v1809_r0 : Vec F S64x128 .f32) (v1818_r0 : FVec F S64x128 .f32) (v1832_r0 : FVec F S64x128 .f32) (v1846_r0 : FVec F S64x128 .f32) (v1850_r0 : FVec F S64x128 .f32) (v1851_r0 : FVec F S64x128 .f32) (v1852_r0 : FVec F S64x128 .f32), Vec F S128 .f32 ← k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1800_r0 v1801_r0 v1803_r0 v1804_r0 v1805_r0 v1806_r0 v1807_r0
  let k0_mxu711 : Mxu F ← k0_part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu709 v1805_r0 v1807_r0 v1809_r0 v1818_r0 v1832_r0 v1846_r0 v1850_r0 v1851_r0 v1852_r0 v1856_r0
  let ⟨k0_mxu727, v1922_r0⟩ : Σ' (k0_mxu727 : Mxu F), FVec F S64x256 .bf16 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu711
  let k0_mxu743 : Mxu F ← k0_part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu727 v1922_r0
  let ⟨k0_mxu759, v1972_r0⟩ : Σ' (k0_mxu759 : Mxu F), Vec F S1x256x256 .fp8e4m3 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu743
  let k0_mxu775 : Mxu F ← k0_part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu759 v1972_r0
  let ⟨v2020_r0, v2021_r0, k0_mxu791, v2023_r0, v2024_r0, v2025_r0⟩ : Σ' (v2020_r0 : FVec F S64x128 .f32) (v2021_r0 : FVec F S64x128 .f32) (k0_mxu791 : Mxu F) (v2023_r0 : FVec F S64x128 .f32) (v2024_r0 : FVec F S64x128 .f32), BitVec 32 ← k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1240_r0 v1242_r0 k0_mxu775
  let ⟨v2026_r0, v2027_r0, v2029_r0, v2038_r0, v2052_r0, v2066_r0, v2070_r0, v2071_r0⟩ : Σ' (v2026_r0 : Vec F S64x128 .f32) (v2027_r0 : Vec F S64x128 .i32) (v2029_r0 : Vec F S64x128 .f32) (v2038_r0 : FVec F S64x128 .f32) (v2052_r0 : FVec F S64x128 .f32) (v2066_r0 : FVec F S64x128 .f32) (v2070_r0 : FVec F S64x128 .f32), FVec F S64x128 .f32 ← k0_part27 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2020_r0 v2021_r0 v2023_r0 v2025_r0
  let k0_mxu792 : Mxu F ← k0_part28 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu791 v2024_r0 v2025_r0 v2026_r0 v2027_r0 v2029_r0 v2038_r0 v2052_r0 v2066_r0 v2070_r0 v2071_r0
  let ⟨k0_mxu807, v2140_r0⟩ : Σ' (k0_mxu807 : Mxu F), FVec F S64x256 .bf16 ← k0_part29 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu792
  let k0_mxu823 : Mxu F ← k0_part30 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu807 v2140_r0
  let ⟨k0_mxu839, v2190_r0⟩ : Σ' (k0_mxu839 : Mxu F), FVec F S64x256 .bf16 ← k0_part31 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu823
  let k0_mxu855 : Mxu F ← k0_part32 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu839 v2190_r0
  let ⟨k0_mxu871, v2240_r0⟩ : Σ' (k0_mxu871 : Mxu F), Vec F S1x256x256 .fp8e4m3 ← k0_part33 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu855
  let k0_mxu887 : Mxu F ← k0_part34 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu871 v2240_r0
  let k0_mxu902 : Mxu F ← k0_part35 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu887
  let k0_mxu919 : Mxu F ← k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu902
  let k0_mxu933 : Mxu F ← k0_part37 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu919
  let k0_mxu951 : Mxu F ← k0_part38 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu933
  let k0_mxu965 : Mxu F ← k0_part39 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1242_r0 k0_mxu951
  let ⟨k0_mxu971, v2401_r0⟩ : Σ' (k0_mxu971 : Mxu F), BitVec 32 ← P40 v1239_r0 k0_mxu965
  let ⟨v2450_r0, k0_mxu986⟩ : Σ' (v2450_r0 : FVec F S64x256 .bf16), Mxu F ← k0_part41 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu971 v2401_r0
  let k0_mxu1002 : Mxu F ← k0_part42 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 v2450_r0 k0_mxu986
  let ⟨v2500_r0, k0_mxu1018⟩ : Σ' (v2500_r0 : FVec F S64x256 .bf16), Mxu F ← k0_part43 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1002
  let ⟨v2520_r0, v2521_r0, k0_mxu1033, v2523_r0, v2524_r0, v2525_r0, v2526_r0⟩ : Σ' (v2520_r0 : FVec F S64x128 .f32) (v2521_r0 : FVec F S64x128 .f32) (k0_mxu1033 : Mxu F) (v2523_r0 : FVec F S64x128 .f32) (v2524_r0 : FVec F S64x128 .f32) (v2525_r0 : BitVec 32), Vec F S64x128 .f32 ← k0_part44 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1239_r0 v2401_r0 v2500_r0 k0_mxu1018
  let ⟨v2527_r0, v2529_r0, v2538_r0, v2552_r0, v2566_r0, v2570_r0, v2571_r0, v2572_r0⟩ : Σ' (v2527_r0 : Vec F S64x128 .i32) (v2529_r0 : Vec F S64x128 .f32) (v2538_r0 : FVec F S64x128 .f32) (v2552_r0 : FVec F S64x128 .f32) (v2566_r0 : FVec F S64x128 .f32) (v2570_r0 : FVec F S64x128 .f32) (v2571_r0 : FVec F S64x128 .f32), FVec F S64x128 .f32 ← k0_part45 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2520_r0 v2521_r0 v2523_r0 v2524_r0 v2525_r0 v2526_r0
  let ⟨k0_mxu1034, v2618_r0⟩ : Σ' (k0_mxu1034 : Mxu F), FVec F S256x256 .bf16 ← k0_part46 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1033 v2525_r0 v2527_r0 v2529_r0 v2538_r0 v2552_r0 v2566_r0 v2570_r0 v2571_r0 v2572_r0
  let ⟨k0_mxu1051, v2641_r0⟩ : Σ' (k0_mxu1051 : Mxu F), Vec F S64x256 .fp8e4m3 ← k0_part47 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1034 v2618_r0
  let ⟨v2668_r0, k0_mxu1066⟩ : Σ' (v2668_r0 : FVec F S64x256 .bf16), Mxu F ← k0_part48 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1051 v2641_r0
  let k0_mxu1083 : Mxu F ← k0_part49 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 v2668_r0 k0_mxu1066
  let ⟨v2718_r0, k0_mxu1098⟩ : Σ' (v2718_r0 : FVec F S64x256 .bf16), Mxu F ← k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1083
  let ⟨v2740_r0, v2741_r0, k0_mxu1115, v2743_r0, v2744_r0, c512_i32_1600_r0⟩ : Σ' (v2740_r0 : FVec F S64x128 .f32) (v2741_r0 : FVec F S64x128 .f32) (k0_mxu1115 : Mxu F) (v2743_r0 : FVec F S64x128 .f32) (v2744_r0 : FVec F S64x128 .f32), BitVec 32 ← k0_part51 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 v2718_r0 k0_mxu1098
  let ⟨v2745_r0, v2746_r0, v2747_r0, v2749_r0, v2758_r0, v2772_r0, v2777_r0, v2786_r0, v2790_r0⟩ : Σ' (v2745_r0 : BitVec 32) (v2746_r0 : Vec F S64x128 .f32) (v2747_r0 : Vec F S64x128 .i32) (v2749_r0 : Vec F S64x128 .f32) (v2758_r0 : FVec F S64x128 .f32) (v2772_r0 : FVec F S64x128 .f32) (v2777_r0 : FVec F S64x128 .f32) (v2786_r0 : FVec F S64x128 .f32), FVec F S64x128 .f32 ← k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1239_r0 v2740_r0 v2741_r0 v2743_r0 c512_i32_1600_r0
  let k0_mxu1116 : Mxu F ← k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1115 v2744_r0 v2745_r0 v2746_r0 v2747_r0 v2749_r0 v2758_r0 v2772_r0 v2777_r0 v2786_r0 v2790_r0
  let ⟨k0_mxu1131, v2859_r0⟩ : Σ' (k0_mxu1131 : Mxu F), Vec F S64x256 .fp8e4m3 ← k0_part54 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1116
  let ⟨k0_mxu1146, v2886_r0⟩ : Σ' (k0_mxu1146 : Mxu F), FVec F S256x256 .bf16 ← k0_part55 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1131 v2859_r0
  let ⟨k0_mxu1163, v2909_r0⟩ : Σ' (k0_mxu1163 : Mxu F), Vec F S64x256 .fp8e4m3 ← k0_part56 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1146 v2886_r0
  let ⟨v2936_r0, k0_mxu1178⟩ : Σ' (v2936_r0 : FVec F S64x256 .bf16), Mxu F ← k0_part57 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1163 v2909_r0
  let ⟨v2959_r0, k0_mxu1196, v2960_r0⟩ : Σ' (v2959_r0 : FVec F S64x256 .f32) (k0_mxu1196 : Mxu F), FVec F S64x128 .f32 ← k0_part58 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 v2936_r0 k0_mxu1178
  let ⟨k0_mxu1197, v2964_r0, v2965_r0, v2966_r0, v2967_r0, v2969_r0, v2978_r0, v2992_r0, v2996_r0, v2997_r0, v2998_r0, v3005_r0⟩ : Σ' (k0_mxu1197 : Mxu F) (v2964_r0 : FVec F S64x128 .f32) (v2965_r0 : BitVec 32) (v2966_r0 : Vec F S64x128 .f32) (v2967_r0 : Vec F S64x128 .i32) (v2969_r0 : Vec F S64x128 .f32) (v2978_r0 : FVec F S64x128 .f32) (v2992_r0 : FVec F S64x128 .f32) (v2996_r0 : FVec F S64x128 .f32) (v2997_r0 : FVec F S64x128 .f32) (v2998_r0 : FVec F S64x128 .f32), FVec F S64x128 .f32 ← k0_part59 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1239_r0 v2959_r0 k0_mxu1196 v2960_r0
  k0_part60 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 v2964_r0 v2965_r0 v2966_r0 v2967_r0 v2969_r0 v2978_r0 v2992_r0 v2996_r0 v2997_r0 v2998_r0 v3005_r0
  pure ⟨v1239_r0, v2401_r0, k0_mxu1197⟩

/-- A trip of the main loop, over its two parts that branch. -/
def tripG (k0_t2 : Fin k0_t2_loop.trips) (k0_mxu482 : Mxu F) (P1 : (Mxu F) → Prog (TpuEff nD τ sig (Elt F) Λ₀ .tc) (Σ' (v1239_r0 : BitVec 32) (v1240_r0 : BitVec 32) (v1242_r0 : BitVec 32), Mxu F)) (P40 : (BitVec 32) → (Mxu F) → Prog (TpuEff nD τ sig (Elt F) Λ₀ .tc) (Σ' (k0_mxu971 : Mxu F), BitVec 32)) : Prog (TpuEff nD τ sig (Elt F) Λ₀ .tc) (BitVec 32 × Mxu F) := do
  let v0 : BitVec 32 := Scalar.addi 0#32 59#32
  let c0_i32_23 : BitVec 32 := 0#32
  let c0_i32_578_r0 : BitVec 32 := 0#32
  let c29_i32_r0 : BitVec 32 := 29#32
  let c1_i32_579_r0 : BitVec 32 := 1#32
  let ⟨v1239_r0, v2401_r0, k0_mxu1197⟩ : Σ' (v1239_r0 : BitVec 32) (v2401_r0 : BitVec 32), Mxu F ← part79G arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v0 c0_i32_23 c0_i32_578_r0 c1_i32_579_r0 k0_t2 k0_mxu482 P1 P40
  let ⟨k0_mxu1211, v3077_r0⟩ : Σ' (k0_mxu1211 : Mxu F), Vec F S64x256 .fp8e4m3 ← k0_part61 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1197
  let k0_mxu1228 : Mxu F ← k0_part62 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1211 v3077_r0
  let ⟨k0_mxu1243, v3127_r0⟩ : Σ' (k0_mxu1243 : Mxu F), Vec F S64x256 .fp8e4m3 ← k0_part63 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1228
  let ⟨k0_mxu1258, v3154_r0⟩ : Σ' (k0_mxu1258 : Mxu F), FVec F S256x256 .bf16 ← k0_part64 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1243 v3127_r0
  let ⟨k0_mxu1275, v3177_r0⟩ : Σ' (k0_mxu1275 : Mxu F), Vec F S64x256 .fp8e4m3 ← k0_part65 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1258 v3154_r0
  let ⟨k0_mxu1279, v3184_r0, v3185_r0, v3186_r0, v3187_r0, v3189_r0, v3198_r0, v3212_r0, v3216_r0, v3217_r0, v3218_r0, v3219_r0⟩ : Σ' (k0_mxu1279 : Mxu F) (v3184_r0 : FVec F S64x128 .f32) (v3185_r0 : BitVec 32) (v3186_r0 : Vec F S64x128 .f32) (v3187_r0 : Vec F S64x128 .i32) (v3189_r0 : Vec F S64x128 .f32) (v3198_r0 : FVec F S64x128 .f32) (v3212_r0 : FVec F S64x128 .f32) (v3216_r0 : FVec F S64x128 .f32) (v3217_r0 : FVec F S64x128 .f32) (v3218_r0 : FVec F S64x128 .f32), BitVec 32 ← k0_part66 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v1239_r0 k0_mxu1275 v3177_r0
  let v3244_r0 : FVec F S64x128 .f32 ← k0_part67 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v3184_r0 v3185_r0 v3186_r0 v3187_r0 v3189_r0 v3198_r0 v3212_r0 v3216_r0 v3217_r0 v3218_r0 v3219_r0
  let ⟨k0_mxu1291, v3295_r0⟩ : Σ' (k0_mxu1291 : Mxu F), Vec F S64x256 .fp8e4m3 ← k0_part68 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1279 v3244_r0
  let k0_mxu1309 : Mxu F ← k0_part69 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1291 v3295_r0
  let ⟨k0_mxu1323, v3345_r0⟩ : Σ' (k0_mxu1323 : Mxu F), Vec F S64x256 .fp8e4m3 ← k0_part70 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1309
  let k0_mxu1340 : Mxu F ← k0_part71 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1323 v3345_r0
  let ⟨k0_mxu1355, v3395_r0⟩ : Σ' (k0_mxu1355 : Mxu F), Vec F S64x256 .fp8e4m3 ← k0_part72 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1340
  let ⟨k0_mxu1370, v3422_r0⟩ : Σ' (k0_mxu1370 : Mxu F), FVec F S256x256 .bf16 ← k0_part73 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1355 v3395_r0
  let ⟨k0_mxu1387, v3445_r0⟩ : Σ' (k0_mxu1387 : Mxu F), Vec F S64x256 .fp8e4m3 ← k0_part74 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1370 v3422_r0
  let ⟨v3472_r0, k0_mxu1402⟩ : Σ' (v3472_r0 : FVec F S64x256 .bf16), Mxu F ← k0_part75 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1387 v3445_r0
  let k0_mxu1419 : Mxu F ← k0_part76 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 v3472_r0 k0_mxu1402
  let ⟨v3522_r0, k0_mxu1434⟩ : Σ' (v3522_r0 : FVec F S64x256 .bf16), Mxu F ← k0_part77 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 k0_mxu1419
  let k0_mxu1450 : Mxu F ← k0_part78 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 v2401_r0 v3522_r0 k0_mxu1434
  let v3548_r0 : Vec F S1x256x256 .fp8e4m3 ← Prog.lift (.load arg7 (Rect.unit (s := S6x512x12288) (k0_off321 k0_t2) S1x256x256.size (k0_off321_inb k0_t2)).toLoadRect (View.loadsAt_vmem h_S1x256x256))
  have v3549_r0 : FVec F S256x256 .fp8e4m3 := shapeCast S256x256 v3548_r0 shapeCasts_S1x256x256_S256x256
  have v3550_r0 : FVec F S256x256 .bf16 := extf .bf16 v3549_r0 bitsLt_fp8e4m3_bf16
  let k0_mxu1451 : Mxu F ← k0_mxu1450.pushRhs 1 1 true v3550_r0
  let v3551_r0 : Vec F S64x256 .fp8e4m3 ← Prog.lift (.load arg8 (Rect.unit (s := S256x12288) ![0, 12032] S64x256.size inb_S256x12288_S64x256_0_12032).toLoadRect (View.loadsAt_vmem h_S64x256))
  have v3552_r0 : FVec F S64x256 .bf16 := extf .bf16 v3551_r0 bitsLt_fp8e4m3_bf16
  have k0_mxu1452 : Mxu F := k0_mxu1451.accLhs 0 1 64 v3552_r0 fits_64_64
  have k0_mxu1453 : Mxu F := k0_mxu1452.accLhs 1 1 64 v3552_r0 fits_64_64
  let v3553_r0 : Vec F S64x256 .fp8e4m3 ← Prog.lift (.load arg8 (Rect.unit (s := S256x12288) ![64, 12032] S64x256.size inb_S256x12288_S64x256_64_12032).toLoadRect (View.loadsAt_vmem h_S64x256))
  have v3554_r0 : FVec F S64x256 .bf16 := extf .bf16 v3553_r0 bitsLt_fp8e4m3_bf16
  let k0_mxu1454 : Mxu F ← k0_mxu1453.accLhsLoaded 0 80 v3554_r0 fits_80_64
  let k0_mxu1455 : Mxu F ← k0_mxu1454.accLhsLoaded 1 80 v3554_r0 fits_80_64
  let v3555_r0 : Vec F S64x256 .fp8e4m3 ← Prog.lift (.load arg8 (Rect.unit (s := S256x12288) ![128, 12032] S64x256.size inb_S256x12288_S64x256_128_12032).toLoadRect (View.loadsAt_vmem h_S64x256))
  have v3556_r0 : FVec F S64x256 .bf16 := extf .bf16 v3555_r0 bitsLt_fp8e4m3_bf16
  let k0_mxu1456 : Mxu F ← k0_mxu1455.accLhsLoaded 0 96 v3556_r0 fits_96_64
  let k0_mxu1457 : Mxu F ← k0_mxu1456.accLhsLoaded 1 96 v3556_r0 fits_96_64
  let v3557_r0 : Vec F S64x256 .fp8e4m3 ← Prog.lift (.load arg8 (Rect.unit (s := S256x12288) ![192, 12032] S64x256.size inb_S256x12288_S64x256_192_12032).toLoadRect (View.loadsAt_vmem h_S64x256))
  have v3558_r0 : FVec F S64x256 .bf16 := extf .bf16 v3557_r0 bitsLt_fp8e4m3_bf16
  let k0_mxu1458 : Mxu F ← k0_mxu1457.accLhsLoaded 0 112 v3558_r0 fits_112_64
  let k0_mxu1459 : Mxu F ← k0_mxu1458.accLhsLoaded 1 112 v3558_r0 fits_112_64
  let c0_i32_2083_r0 : BitVec 32 := 0#32
  pure (c0_i32_2083_r0, k0_mxu1459)

/-- One trip of the main loop. -/
def tripBody (k0_t2 : Fin k0_t2_loop.trips) (k0_mxu482 : Mxu F) : Prog (TpuEff nD τ sig (Elt F) Λ₀ .tc) (BitVec 32 × Mxu F) :=
  tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482 (k0_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 (Scalar.addi 0#32 59#32) 0#32 0#32 1#32 k0_t2) (k0_part40 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 (Scalar.addi 0#32 59#32) 0#32 k0_t2)

/-- What follows the main loop in its own window. -/
def tail113 (k0_mxu483 : Mxu F) : Prog (TpuEff nD τ sig (Elt F) Λ₀ .tc) (Σ' (v877_r0 : FVec F S64x128 .f32) (k0_mxu1461 : Mxu F) (v879_r0 : FVec F S64x128 .f32) (v881_r0 : Vec F S64x128 .f32) (v882_r0 : Vec F S64x128 .i32) (v883_r0 : Vec F S64x128 .f32) (v884_r0 : Vec F S64x128 .f32) (v885_r0 : FVec F S64x128 .f32), FVec F S1x128 .f32) := do
  have v875_r0 : FVec F S64x256 .f32 := k0_mxu483.read 0 64 fits_64_64
  have k0_mxu1460 : Mxu F := k0_mxu483.pop 0 64 64 fits_64_64
  have v876_r0 : FVec F S64x128 .f32 := extractStridedSlice S64x128 ![0, 0] v875_r0 slices_S64x256_o0_0_S64x128
  have v877_r0 : FVec F S64x128 .f32 := extractStridedSlice S64x128 ![0, 128] v875_r0 slices_S64x256_o0_128_S64x128
  have v878_r0 : FVec F S64x256 .f32 := k0_mxu1460.read 1 64 fits_64_64
  have k0_mxu1461 : Mxu F := k0_mxu1460.pop 1 64 64 fits_64_64
  have v879_r0 : FVec F S64x128 .f32 := extractStridedSlice S64x128 ![0, 0] v878_r0 slices_S64x256_o0_0_S64x128
  have v880_r0 : FVec F S64x128 .f32 := extractStridedSlice S64x128 ![0, 128] v878_r0 slices_S64x256_o0_128_S64x128
  let v881_r0 : Vec F S64x128 .f32 ← Prog.lift (.load arg11 (Rect.unit (s := S256x128) ![0, 0] S64x128.size inb_S256x128_S64x128_0_0).toLoadRect (View.loadsAt_vmem h_S64x128))
  let v882_r0 : Vec F S64x128 .i32 ← Prog.lift (.load arg10 (Rect.unit (s := S256x128) ![0, 0] S64x128.size inb_S256x128_S64x128_0_0).toLoadRect (View.loadsAt_vmem h_S64x128))
  let v883_r0 : Vec F S64x128 .f32 ← Prog.lift (.load arg14 (Rect.unit (s := S256x128) ![0, 0] S64x128.size inb_S256x128_S64x128_0_0).toLoadRect (View.loadsAt_vmem h_S64x128))
  let v884_r0 : Vec F S64x128 .f32 ← Prog.lift (.load arg12 (Rect.unit (s := S256x128) ![0, 0] S64x128.size inb_S256x128_S64x128_0_0).toLoadRect (View.loadsAt_vmem h_S64x128))
  have v885_r0 : FVec F S64x128 .f32 := mulf v876_r0 v881_r0
  let c29696_i32_r0 : BitVec 32 := 29696#32
  let v886_r0 : BitVec 32 := c29696_i32_r0
  let v888_r0 : Vec F S128 .f32 ← Prog.lift (.load arg9 (Rect.unit (s := S30003) ![29696] S128.size inb_S30003_S128_29696).toLoadRect (View.loadsAt_vmem h_S128))
  have v889_r0 : FVec F S1x128 .f32 := shapeCast S1x128 v888_r0 shapeCasts_S128_S1x128
  have v890_r0 : FVec F S1x128 .f32 := shapeCast S1x128 v889_r0 shapeCasts_S1x128_S1x128
  pure ⟨v877_r0, k0_mxu1461, v879_r0, v881_r0, v882_r0, v883_r0, v884_r0, v885_r0, v890_r0⟩

/-- What follows that. -/
def K113 : (Σ' (v877_r0 : FVec F S64x128 .f32) (k0_mxu1461 : Mxu F) (v879_r0 : FVec F S64x128 .f32) (v881_r0 : Vec F S64x128 .f32) (v882_r0 : Vec F S64x128 .i32) (v883_r0 : Vec F S64x128 .f32) (v884_r0 : Vec F S64x128 .f32) (v885_r0 : FVec F S64x128 .f32), FVec F S1x128 .f32) → Prog (TpuEff nD τ sig (Elt F) Λ₀ .tc) PUnit := fun ⟨v877_r0, k0_mxu1461, v879_r0, v881_r0, v882_r0, v883_r0, v884_r0, v885_r0, v890_r0⟩ => do
  let ⟨v924_r0, v925_r0, v938_r0⟩ : Σ' (v924_r0 : FVec F S64x128 .f32) (v925_r0 : FVec F S64x128 .f32), FVec F S64x128 .f32 ← k0_part114 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v877_r0 v879_r0 v881_r0 v882_r0 v883_r0 v884_r0 v885_r0 v890_r0
  let ⟨k0_mxu1463, v952_r0, v954_r0, v955_r0, v957_r0, v965_r0, v968_r0, v969_r0, v977_r0, c29824_i32_612_r0⟩ : Σ' (k0_mxu1463 : Mxu F) (v952_r0 : FVec F S64x128 .f32) (v954_r0 : Vec F S64x128 .f32) (v955_r0 : Vec F S64x128 .i32) (v957_r0 : Vec F S64x128 .f32) (v965_r0 : FVec F S64x128 .f32) (v968_r0 : FVec F S64x128 .f32) (v969_r0 : FVec F S64x128 .f32) (v977_r0 : FVec F S64x128 .f32), BitVec 32 ← k0_part115 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_mxu1461 v924_r0 v925_r0 v938_r0
  let v1021_r0 : FVec F S64x256 .f32 ← k0_part116 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_mxu1463 v952_r0 v954_r0 v955_r0 v957_r0 v965_r0 v968_r0 v969_r0 v977_r0 c29824_i32_612_r0
  let ⟨k0_mxu1465, v1028_r0, v1030_r0, v1038_r0, v1050_r0, v1053_r0, v1054_r0, v1062_r0, v1063_r0, v1064_r0⟩ : Σ' (k0_mxu1465 : Mxu F) (v1028_r0 : Vec F S64x128 .i32) (v1030_r0 : Vec F S64x128 .f32) (v1038_r0 : FVec F S64x128 .f32) (v1050_r0 : FVec F S64x128 .f32) (v1053_r0 : FVec F S64x128 .f32) (v1054_r0 : FVec F S64x128 .f32) (v1062_r0 : FVec F S64x128 .f32) (v1063_r0 : IVec S64x128 32), IVec S64x128 32 ← k0_part117 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_mxu1463 v1021_r0
  let ⟨v1095_r0, v1096_r0, k0_mxu1467, v1098_r0, v1100_r0, v1101_r0, v1102_r0⟩ : Σ' (v1095_r0 : FVec F S64x128 .f32) (v1096_r0 : FVec F S64x128 .f32) (k0_mxu1467 : Mxu F) (v1098_r0 : FVec F S64x128 .f32) (v1100_r0 : Vec F S64x128 .f32) (v1101_r0 : Vec F S64x128 .i32), Vec F S64x128 .f32 ← k0_part118 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_mxu1465 v1028_r0 v1030_r0 v1038_r0 v1050_r0 v1053_r0 v1054_r0 v1062_r0 v1063_r0 v1064_r0
  let ⟨v1123_r0, v1140_r0, v1143_r0, v1144_r0, v1148_r0, v1150_r0⟩ : Σ' (v1123_r0 : FVec F S64x128 .f32) (v1140_r0 : FVec F S64x128 .f32) (v1143_r0 : FVec F S64x128 .f32) (v1144_r0 : FVec F S64x128 .f32) (v1148_r0 : FVec F S64x128 .f32), FVec F S64x128 .f32 ← k0_part119 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v1095_r0 v1096_r0 v1098_r0 v1100_r0 v1101_r0 v1102_r0
  let ⟨v1187_r0, v1189_r0, v1190_r0⟩ : Σ' (v1187_r0 : FVec F S256x128 .f32) (v1189_r0 : FVec F S256x128 .f32), FVec F S128x128 .f32 ← k0_part120 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v1123_r0 v1140_r0 v1143_r0 v1144_r0 v1148_r0 v1150_r0
  let ⟨v1229_r0, v1230_r0, v1231_r0⟩ : Σ' (v1229_r0 : FVec F S128x128 .f32) (v1230_r0 : IVec S128x128 32), IVec S128x128 32 ← k0_part121 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v1187_r0 v1189_r0 v1190_r0
  have v1232_r0 : IVec S128x128 1 := cmpi .eq v1230_r0 v1231_r0
  have cst_703_r0 : F .f32 := Scalar.ofBits .f32 0x00000000#32
  have v1233_r0 : FVec F S128x128 .f32 := broadcast S128x128 cst_703_r0
  have v1234_r0 : FVec F S128x128 .f32 := select v1232_r0 v1229_r0 v1233_r0
  have cst_704_r0 : FVec F S128 .f32 := constant S128 .f32 0x00000000#32
  have v1235_r0 : FVec F S128 .f32 := multiReduction .add [0] S128 v1234_r0 0x00000000#32 reduces_S128x128_S128_2 (.inl rfl) rfl
  have v1236_r0 : FVec F S1x128 .f32 := shapeCast S1x128 v1235_r0 shapeCasts_S128_S1x128
  let v1237_r0 : Vec F S1x128 .f32 ← Prog.lift (.load arg5 (Rect.unit (s := S2x128) ![1, 0] S1x128.size inb_S2x128_S1x128_1_0).toLoadRect (View.loadsAt_vmem h_S1x128))
  Prog.lift (.store arg5 (Rect.unit (s := S2x128) ![1, 0] S1x128.size inb_S2x128_S1x128_1_0) v1236_r0 Finset.univ (View.stores_vmem_bits_univ h_S1x128 rfl) (.inl rfl))
  k0_mxu1467.exit
  pure ⟨⟩

def part1_A (v0 : BitVec 32) (c0_i32_23 : BitVec 32) (c0_i32_578_r0 : BitVec 32) (c1_i32_579_r0 : BitVec 32) (k0_t2 : Fin k0_t2_loop.trips) (k0_mxu482 : Mxu F) (k0_h5 : k0_cond5 k0_t2 = 1#1) : Prog (TpuEff nD τ sig (Elt F) Λ₀ .tc) (Σ' (v1239_r0 : BitVec 32) (v1240_r0 : BitVec 32) (v1242_r0 : BitVec 32), Mxu F) := do
  let arg19_r0 : BitVec 32 := Scf.iv c0_i32_578_r0 c1_i32_579_r0 k0_t2
  let c2_i32_r0 : BitVec 32 := 2#32
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let v1241_r0 : BitVec 32 := Scalar.addi c0_i32_23 v1239_r0
  let c6_i32_709_r0 : BitVec 32 := 6#32
  let v1242_r0 : BitVec 32 := Scalar.remsi v1241_r0 c6_i32_709_r0
  let c512_i32_710_r0 : BitVec 32 := 512#32
  let v1243_r0 : BitVec 32 := Scalar.muli v1239_r0 c512_i32_710_r0
  let v1245_r0 : DmaSems sig S1 := arg15.slice (Rect.unit (s := S6) (k0_off110 k0_t2) S1.size (k0_off110_inb k0_t2))
  let v1246_r0 : DmaSems sig S_ := v1245_r0.squeeze S_ squeezes_S1_S_
  let v1247_r0 : Memref sig .tc .vmem S1x512x12288 .fp8e4m3 := arg7.slice (Rect.unit (s := S6x512x12288) (k0_off111 k0_t2) S1x512x12288.size (k0_off111_inb k0_t2)) (fun _ => rfl)
  let v1248_r0 : Memref sig .tc .vmem S512x12288 .fp8e4m3 := v1247_r0.squeeze S512x12288 squeezes_S1x512x12288_S512x12288
  let v1249_r0 : Memref sig .tc .hbm S512x12288 .fp8e4m3 := arg3.slice (Rect.unit (s := S30008x12288) (k0_off112 k0_t2) S512x12288.size (k0_off112_inb k0_t2)) (fun _ => rfl)
  Prog.lift (.waitDma2 v1246_r0.sem v1249_r0 v1248_r0 (harg3.wordExact_slice rfl _ (k0_off112_wordsfp8e4m3 k0_t2)) ((harg7.wordExact_slice rfl _ (k0_off111_wordsfp8e4m3 k0_t2)).reshape _ _))
  let c6_i32_714_r0 : BitVec 32 := 6#32
  let v1250_r0 : BitVec 32 := Scalar.addi v1241_r0 c6_i32_714_r0
  let c1_i32_715_r0 : BitVec 32 := 1#32
  let v1251_r0 : BitVec 32 := Scalar.subi v1250_r0 c1_i32_715_r0
  let c6_i32_716_r0 : BitVec 32 := 6#32
  let v1253_r0 : BitVec 1 := Scalar.cmpi .sge v1251_r0 c0_i32_23
  let c1_i32_717_r0 : BitVec 32 := 1#32
  let v1254_r0 : BitVec 32 := Scalar.subi v0 c1_i32_717_r0
  let v1255_r0 : BitVec 1 := Scalar.cmpi .slt v1251_r0 v1254_r0
  let v1256_r0 : BitVec 1 := Scalar.andi v1253_r0 v1255_r0
  let v1257_r0 : BitVec 32 := Scalar.extui v1256_r0
  let c0_i32_718_r0 : BitVec 32 := 0#32
  let v1258_r0 : BitVec 1 := Scalar.cmpi .ne v1257_r0 c0_i32_718_r0
  let v3559_r0 : BitVec 32 := Scalar.subi v1251_r0 c0_i32_23
  let c512_i32_2084_r0 : BitVec 32 := 512#32
  let v3560_r0 : BitVec 32 := Scalar.muli v3559_r0 c512_i32_2084_r0
  let v3562_r0 : DmaSems sig S1 := arg15.slice (Rect.unit (s := S6) (k0_off113 k0_t2) S1.size (k0_off113_inb k0_t2 k0_h5))
  let v3563_r0 : DmaSems sig S_ := v3562_r0.squeeze S_ squeezes_S1_S_
  let v3564_r0 : Memref sig .tc .vmem S1x512x12288 .fp8e4m3 := arg7.slice (Rect.unit (s := S6x512x12288) (k0_off114 k0_t2) S1x512x12288.size (k0_off114_inb k0_t2 k0_h5)) (fun _ => rfl)
  let v3565_r0 : Memref sig .tc .vmem S512x12288 .fp8e4m3 := v3564_r0.squeeze S512x12288 squeezes_S1x512x12288_S512x12288
  let v3566_r0 : Memref sig .tc .hbm S512x12288 .fp8e4m3 := arg3.slice (Rect.unit (s := S30008x12288) (k0_off115 k0_t2) S512x12288.size (k0_off115_inb k0_t2 k0_h5)) (fun _ => rfl)
  Prog.lift (.enqueueDma v3566_r0 (.here v3565_r0) (.dma v3563_r0.sem) (harg3.wordExact_slice rfl _ (k0_off115_wordsfp8e4m3 k0_t2 k0_h5)) ((harg7.wordExact_slice rfl _ (k0_off114_wordsfp8e4m3 k0_t2 k0_h5)).reshape _ _) ⟨Or.inl rfl, trivial⟩)
  let c1_i32_719_r0 : BitVec 32 := 1#32
  let v1259_r0 : BitVec 32 := Scalar.subi v0 c1_i32_719_r0
  let v1260_r0 : BitVec 1 := Scalar.cmpi .eq v1251_r0 v1259_r0
  let v1261_r0 : BitVec 32 := Scalar.extui v1260_r0
  let c0_i32_720_r0 : BitVec 32 := 0#32
  let v1262_r0 : BitVec 1 := Scalar.cmpi .ne v1261_r0 c0_i32_720_r0
  let v1264_r0 : Vec F S1x256x256 .fp8e4m3 ← Prog.lift (.load arg7 (Rect.unit (s := S6x512x12288) (k0_off118 k0_t2) S1x256x256.size (k0_off118_inb k0_t2)).toLoadRect (View.loadsAt_vmem h_S1x256x256))
  have v1265_r0 : FVec F S256x256 .fp8e4m3 := shapeCast S256x256 v1264_r0 shapeCasts_S1x256x256_S256x256
  have v1266_r0 : FVec F S256x256 .bf16 := extf .bf16 v1265_r0 bitsLt_fp8e4m3_bf16
  let k0_mxu484 : Mxu F ← k0_mxu482.pushRhs 0 0 true v1266_r0
  let v1268_r0 : Vec F S1x256x256 .fp8e4m3 ← Prog.lift (.load arg7 (Rect.unit (s := S6x512x12288) (k0_off119 k0_t2) S1x256x256.size (k0_off119_inb k0_t2)).toLoadRect (View.loadsAt_vmem h_S1x256x256))
  have v1269_r0 : FVec F S256x256 .fp8e4m3 := shapeCast S256x256 v1268_r0 shapeCasts_S1x256x256_S256x256
  have v1270_r0 : FVec F S256x256 .bf16 := extf .bf16 v1269_r0 bitsLt_fp8e4m3_bf16
  let k0_mxu485 : Mxu F ← k0_mxu484.pushRhs 1 0 true v1270_r0
  pure ⟨v1239_r0, v1240_r0, v1242_r0, k0_mxu485⟩

theorem part1_A_eq (v0 : BitVec 32) (c0_i32_23 : BitVec 32) (c0_i32_578_r0 : BitVec 32) (c1_i32_579_r0 : BitVec 32) (k0_t2 : Fin k0_t2_loop.trips) (k0_mxu482 : Mxu F) (k0_h5 : k0_cond5 k0_t2 = 1#1) (k0_h6 : ¬ k0_cond6 k0_t2 = 1#1) : k0_part1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v0 c0_i32_23 c0_i32_578_r0 c1_i32_579_r0 k0_t2 k0_mxu482 = part1_A arg3 harg3 arg7 harg7 arg15 v0 c0_i32_23 c0_i32_578_r0 c1_i32_579_r0 k0_t2 k0_mxu482 k0_h5 := by
  unfold k0_part1
  simp only [dif_pos k0_h5, dif_neg k0_h6]
  rfl

def part40_A (v0 : BitVec 32) (c0_i32_23 : BitVec 32) (k0_t2 : Fin k0_t2_loop.trips) (v1239_r0 : BitVec 32) (k0_mxu965 : Mxu F) (k0_h8 : k0_cond8 k0_t2 = 1#1) (k0_h9 : k0_cond9 k0_t2 = 1#1) : Prog (TpuEff nD τ sig (Elt F) Λ₀ .tc) (Σ' (k0_mxu971 : Mxu F), BitVec 32) := do
  let v2393_r0 : Vec F S64x256 .fp8e4m3 ← Prog.lift (.load arg8 (Rect.unit (s := S256x12288) ![64, 12032] S64x256.size inb_S256x12288_S64x256_64_12032).toLoadRect (View.loadsAt_vmem h_S64x256))
  have v2394_r0 : FVec F S64x256 .bf16 := extf .bf16 v2393_r0 bitsLt_fp8e4m3_bf16
  let k0_mxu966 : Mxu F ← k0_mxu965.accLhsLoaded 0 16 v2394_r0 fits_16_64
  let k0_mxu967 : Mxu F ← k0_mxu966.accLhsLoaded 1 16 v2394_r0 fits_16_64
  let v2395_r0 : Vec F S64x256 .fp8e4m3 ← Prog.lift (.load arg8 (Rect.unit (s := S256x12288) ![128, 12032] S64x256.size inb_S256x12288_S64x256_128_12032).toLoadRect (View.loadsAt_vmem h_S64x256))
  have v2396_r0 : FVec F S64x256 .bf16 := extf .bf16 v2395_r0 bitsLt_fp8e4m3_bf16
  let k0_mxu968 : Mxu F ← k0_mxu967.accLhsLoaded 0 32 v2396_r0 fits_32_64
  let k0_mxu969 : Mxu F ← k0_mxu968.accLhsLoaded 1 32 v2396_r0 fits_32_64
  let v2397_r0 : Vec F S64x256 .fp8e4m3 ← Prog.lift (.load arg8 (Rect.unit (s := S256x12288) ![192, 12032] S64x256.size inb_S256x12288_S64x256_192_12032).toLoadRect (View.loadsAt_vmem h_S64x256))
  have v2398_r0 : FVec F S64x256 .bf16 := extf .bf16 v2397_r0 bitsLt_fp8e4m3_bf16
  let k0_mxu970 : Mxu F ← k0_mxu969.accLhsLoaded 0 48 v2398_r0 fits_48_64
  let k0_mxu971 : Mxu F ← k0_mxu970.accLhsLoaded 1 48 v2398_r0 fits_48_64
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let c1_i32_1396_r0 : BitVec 32 := 1#32
  let v2402_r0 : BitVec 32 := Scalar.subi v0 c1_i32_1396_r0
  let v2403_r0 : BitVec 1 := Scalar.cmpi .eq v2400_r0 v2402_r0
  let v2404_r0 : BitVec 32 := Scalar.extui v2403_r0
  let c0_i32_1397_r0 : BitVec 32 := 0#32
  let v2405_r0 : BitVec 1 := Scalar.cmpi .ne v2404_r0 c0_i32_1397_r0
  let c1_i32_1398_r0 : BitVec 32 := 1#32
  let v2406_r0 : BitVec 32 := Scalar.subi v0 c1_i32_1398_r0
  let v2407_r0 : BitVec 1 := Scalar.cmpi .slt v2400_r0 v2406_r0
  let v2408_r0 : BitVec 32 := Scalar.extui v2407_r0
  let c0_i32_1399_r0 : BitVec 32 := 0#32
  let v2409_r0 : BitVec 1 := Scalar.cmpi .ne v2408_r0 c0_i32_1399_r0
  let c512_i32_2084_r0 : BitVec 32 := 512#32
  let v3559_r0 : BitVec 32 := Scalar.muli v2399_r0 c512_i32_2084_r0
  let v3560_r0 : BitVec 32 := v3559_r0
  let v3561_r0 : DmaSems sig S1 := arg15.slice (Rect.unit (s := S6) (k0_off217 k0_t2) S1.size (k0_off217_inb k0_t2 k0_h8))
  let v3562_r0 : DmaSems sig S_ := v3561_r0.squeeze S_ squeezes_S1_S_
  let c0_i32_2085_r0 : BitVec 32 := 0#32
  let c0_i32_2086_r0 : BitVec 32 := 0#32
  let v3563_r0 : Memref sig .tc .vmem S1x512x12288 .fp8e4m3 := arg7.slice (Rect.unit (s := S6x512x12288) (k0_off218 k0_t2) S1x512x12288.size (k0_off218_inb k0_t2 k0_h8)) (fun _ => rfl)
  let v3564_r0 : Memref sig .tc .vmem S512x12288 .fp8e4m3 := v3563_r0.squeeze S512x12288 squeezes_S1x512x12288_S512x12288
  let c0_i32_2087_r0 : BitVec 32 := 0#32
  let v3565_r0 : Memref sig .tc .hbm S512x12288 .fp8e4m3 := arg3.slice (Rect.unit (s := S30008x12288) (k0_off219 k0_t2) S512x12288.size (k0_off219_inb k0_t2 k0_h8)) (fun _ => rfl)
  Prog.lift (.waitDma2 v3562_r0.sem v3565_r0 v3564_r0 (harg3.wordExact_slice rfl _ (k0_off219_wordsfp8e4m3 k0_t2 k0_h8)) ((harg7.wordExact_slice rfl _ (k0_off218_wordsfp8e4m3 k0_t2 k0_h8)).reshape _ _))
  let c6_i32_1400_r0 : BitVec 32 := 6#32
  let v2410_r0 : BitVec 32 := Scalar.addi v2400_r0 c6_i32_1400_r0
  let c1_i32_1401_r0 : BitVec 32 := 1#32
  let v2411_r0 : BitVec 32 := Scalar.subi v2410_r0 c1_i32_1401_r0
  let c6_i32_1402_r0 : BitVec 32 := 6#32
  let v2413_r0 : BitVec 1 := Scalar.cmpi .sge v2411_r0 c0_i32_23
  let c1_i32_1403_r0 : BitVec 32 := 1#32
  let v2414_r0 : BitVec 32 := Scalar.subi v0 c1_i32_1403_r0
  let v2415_r0 : BitVec 1 := Scalar.cmpi .slt v2411_r0 v2414_r0
  let v2416_r0 : BitVec 1 := Scalar.andi v2413_r0 v2415_r0
  let v2417_r0 : BitVec 32 := Scalar.extui v2416_r0
  let c0_i32_1404_r0 : BitVec 32 := 0#32
  let v2418_r0 : BitVec 1 := Scalar.cmpi .ne v2417_r0 c0_i32_1404_r0
  let v3559_r0 : BitVec 32 := Scalar.subi v2411_r0 c0_i32_23
  let c512_i32_2084_r0 : BitVec 32 := 512#32
  let v3560_r0 : BitVec 32 := Scalar.muli v3559_r0 c512_i32_2084_r0
  let v3561_r0 : BitVec 32 := v3560_r0
  let v3562_r0 : DmaSems sig S1 := arg15.slice (Rect.unit (s := S6) (k0_off220 k0_t2) S1.size (k0_off220_inb k0_t2 k0_h9))
  let v3563_r0 : DmaSems sig S_ := v3562_r0.squeeze S_ squeezes_S1_S_
  let c0_i32_2085_r0 : BitVec 32 := 0#32
  let c0_i32_2086_r0 : BitVec 32 := 0#32
  let v3564_r0 : Memref sig .tc .vmem S1x512x12288 .fp8e4m3 := arg7.slice (Rect.unit (s := S6x512x12288) (k0_off221 k0_t2) S1x512x12288.size (k0_off221_inb k0_t2 k0_h9)) (fun _ => rfl)
  let v3565_r0 : Memref sig .tc .vmem S512x12288 .fp8e4m3 := v3564_r0.squeeze S512x12288 squeezes_S1x512x12288_S512x12288
  let c0_i32_2087_r0 : BitVec 32 := 0#32
  let v3566_r0 : Memref sig .tc .hbm S512x12288 .fp8e4m3 := arg3.slice (Rect.unit (s := S30008x12288) (k0_off222 k0_t2) S512x12288.size (k0_off222_inb k0_t2 k0_h9)) (fun _ => rfl)
  Prog.lift (.enqueueDma v3566_r0 (.here v3565_r0) (.dma v3563_r0.sem) (harg3.wordExact_slice rfl _ (k0_off222_wordsfp8e4m3 k0_t2 k0_h9)) ((harg7.wordExact_slice rfl _ (k0_off221_wordsfp8e4m3 k0_t2 k0_h9)).reshape _ _) ⟨Or.inl rfl, trivial⟩)
  let c1_i32_1405_r0 : BitVec 32 := 1#32
  let v2419_r0 : BitVec 32 := Scalar.subi v0 c1_i32_1405_r0
  let v2420_r0 : BitVec 1 := Scalar.cmpi .eq v2411_r0 v2419_r0
  let v2421_r0 : BitVec 32 := Scalar.extui v2420_r0
  let c0_i32_1406_r0 : BitVec 32 := 0#32
  let v2422_r0 : BitVec 1 := Scalar.cmpi .ne v2421_r0 c0_i32_1406_r0
  pure ⟨k0_mxu971, v2401_r0⟩

theorem part40_A_eq (v0 : BitVec 32) (c0_i32_23 : BitVec 32) (k0_t2 : Fin k0_t2_loop.trips) (v1239_r0 : BitVec 32) (k0_mxu965 : Mxu F) (k0_h7 : ¬ k0_cond7 k0_t2 = 1#1) (k0_h8 : k0_cond8 k0_t2 = 1#1) (k0_h9 : k0_cond9 k0_t2 = 1#1) (k0_h10 : ¬ k0_cond10 k0_t2 = 1#1) : k0_part40 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v0 c0_i32_23 k0_t2 v1239_r0 k0_mxu965 = part40_A arg3 harg3 arg7 harg7 arg8 arg15 v0 c0_i32_23 k0_t2 v1239_r0 k0_mxu965 k0_h8 k0_h9 := by
  unfold k0_part40
  simp only [dif_neg k0_h7, dif_pos k0_h8, dif_pos k0_h9, dif_neg k0_h10]
  rfl

theorem trip_A_eq (k0_t2 : Fin k0_t2_loop.trips) (k0_mxu482 : Mxu F) (k0_h5 : k0_cond5 k0_t2 = 1#1) (k0_h6 : ¬ k0_cond6 k0_t2 = 1#1) (k0_h7 : ¬ k0_cond7 k0_t2 = 1#1) (k0_h8 : k0_cond8 k0_t2 = 1#1) (k0_h9 : k0_cond9 k0_t2 = 1#1) (k0_h10 : ¬ k0_cond10 k0_t2 = 1#1) : tripBody (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482 = tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482 (fun k0_mxu482 => part1_A arg3 harg3 arg7 harg7 arg15 (Scalar.addi 0#32 59#32) 0#32 0#32 1#32 k0_t2 k0_mxu482 k0_h5) (fun v1239_r0 k0_mxu965 => part40_A arg3 harg3 arg7 harg7 arg8 arg15 (Scalar.addi 0#32 59#32) 0#32 k0_t2 v1239_r0 k0_mxu965 k0_h8 k0_h9) :=
  congrArg₂ (tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482) (funext fun k0_mxu482 => part1_A_eq (k0_t2 := k0_t2) (k0_h5 := k0_h5) (k0_h6 := k0_h6) ..) (funext fun v1239_r0 => funext fun k0_mxu965 => part40_A_eq (k0_t2 := k0_t2) (k0_h7 := k0_h7) (k0_h8 := k0_h8) (k0_h9 := k0_h9) (k0_h10 := k0_h10) ..)

def part1_B (v0 : BitVec 32) (c0_i32_23 : BitVec 32) (c0_i32_578_r0 : BitVec 32) (c1_i32_579_r0 : BitVec 32) (k0_t2 : Fin k0_t2_loop.trips) (k0_mxu482 : Mxu F) (k0_h6 : k0_cond6 k0_t2 = 1#1) : Prog (TpuEff nD τ sig (Elt F) Λ₀ .tc) (Σ' (v1239_r0 : BitVec 32) (v1240_r0 : BitVec 32) (v1242_r0 : BitVec 32), Mxu F) := do
  let arg19_r0 : BitVec 32 := Scf.iv c0_i32_578_r0 c1_i32_579_r0 k0_t2
  let c2_i32_r0 : BitVec 32 := 2#32
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let v1241_r0 : BitVec 32 := Scalar.addi c0_i32_23 v1239_r0
  let c6_i32_709_r0 : BitVec 32 := 6#32
  let v1242_r0 : BitVec 32 := Scalar.remsi v1241_r0 c6_i32_709_r0
  let c512_i32_710_r0 : BitVec 32 := 512#32
  let v1243_r0 : BitVec 32 := Scalar.muli v1239_r0 c512_i32_710_r0
  let v1245_r0 : DmaSems sig S1 := arg15.slice (Rect.unit (s := S6) (k0_off110 k0_t2) S1.size (k0_off110_inb k0_t2))
  let v1246_r0 : DmaSems sig S_ := v1245_r0.squeeze S_ squeezes_S1_S_
  let v1247_r0 : Memref sig .tc .vmem S1x512x12288 .fp8e4m3 := arg7.slice (Rect.unit (s := S6x512x12288) (k0_off111 k0_t2) S1x512x12288.size (k0_off111_inb k0_t2)) (fun _ => rfl)
  let v1248_r0 : Memref sig .tc .vmem S512x12288 .fp8e4m3 := v1247_r0.squeeze S512x12288 squeezes_S1x512x12288_S512x12288
  let v1249_r0 : Memref sig .tc .hbm S512x12288 .fp8e4m3 := arg3.slice (Rect.unit (s := S30008x12288) (k0_off112 k0_t2) S512x12288.size (k0_off112_inb k0_t2)) (fun _ => rfl)
  Prog.lift (.waitDma2 v1246_r0.sem v1249_r0 v1248_r0 (harg3.wordExact_slice rfl _ (k0_off112_wordsfp8e4m3 k0_t2)) ((harg7.wordExact_slice rfl _ (k0_off111_wordsfp8e4m3 k0_t2)).reshape _ _))
  let c6_i32_714_r0 : BitVec 32 := 6#32
  let v1250_r0 : BitVec 32 := Scalar.addi v1241_r0 c6_i32_714_r0
  let c1_i32_715_r0 : BitVec 32 := 1#32
  let v1251_r0 : BitVec 32 := Scalar.subi v1250_r0 c1_i32_715_r0
  let c6_i32_716_r0 : BitVec 32 := 6#32
  let v1253_r0 : BitVec 1 := Scalar.cmpi .sge v1251_r0 c0_i32_23
  let c1_i32_717_r0 : BitVec 32 := 1#32
  let v1254_r0 : BitVec 32 := Scalar.subi v0 c1_i32_717_r0
  let v1255_r0 : BitVec 1 := Scalar.cmpi .slt v1251_r0 v1254_r0
  let v1256_r0 : BitVec 1 := Scalar.andi v1253_r0 v1255_r0
  let v1257_r0 : BitVec 32 := Scalar.extui v1256_r0
  let c0_i32_718_r0 : BitVec 32 := 0#32
  let v1258_r0 : BitVec 1 := Scalar.cmpi .ne v1257_r0 c0_i32_718_r0
  let c1_i32_719_r0 : BitVec 32 := 1#32
  let v1259_r0 : BitVec 32 := Scalar.subi v0 c1_i32_719_r0
  let v1260_r0 : BitVec 1 := Scalar.cmpi .eq v1251_r0 v1259_r0
  let v1261_r0 : BitVec 32 := Scalar.extui v1260_r0
  let c0_i32_720_r0 : BitVec 32 := 0#32
  let v1262_r0 : BitVec 1 := Scalar.cmpi .ne v1261_r0 c0_i32_720_r0
  let v3559_r0 : BitVec 32 := Scalar.subi v1251_r0 c0_i32_23
  let c512_i32_2084_r0 : BitVec 32 := 512#32
  let v3560_r0 : BitVec 32 := Scalar.muli v3559_r0 c512_i32_2084_r0
  let v3562_r0 : Memref sig .tc .vmem S1x312x12288 .fp8e4m3 := arg7.slice (Rect.unit (s := S6x512x12288) (k0_off116 k0_t2) S1x312x12288.size (k0_off116_inb k0_t2 k0_h6)) (fun _ => rfl)
  let v3563_r0 : Memref sig .tc .vmem S312x12288 .fp8e4m3 := v3562_r0.squeeze S312x12288 squeezes_S1x312x12288_S312x12288
  let v3564_r0 : Memref sig .tc .hbm S312x12288 .fp8e4m3 := arg3.slice (Rect.unit (s := S30008x12288) (k0_off117 k0_t2) S312x12288.size (k0_off117_inb k0_t2 k0_h6)) (fun _ => rfl)
  Prog.lift (.enqueueDma v3564_r0 (.here v3563_r0) (.dma arg18.sem) (harg3.wordExact_slice rfl _ (k0_off117_wordsfp8e4m3 k0_t2 k0_h6)) ((harg7.wordExact_slice rfl _ (k0_off116_wordsfp8e4m3 k0_t2 k0_h6)).reshape _ _) ⟨Or.inl rfl, trivial⟩)
  let v1264_r0 : Vec F S1x256x256 .fp8e4m3 ← Prog.lift (.load arg7 (Rect.unit (s := S6x512x12288) (k0_off118 k0_t2) S1x256x256.size (k0_off118_inb k0_t2)).toLoadRect (View.loadsAt_vmem h_S1x256x256))
  have v1265_r0 : FVec F S256x256 .fp8e4m3 := shapeCast S256x256 v1264_r0 shapeCasts_S1x256x256_S256x256
  have v1266_r0 : FVec F S256x256 .bf16 := extf .bf16 v1265_r0 bitsLt_fp8e4m3_bf16
  let k0_mxu484 : Mxu F ← k0_mxu482.pushRhs 0 0 true v1266_r0
  let v1268_r0 : Vec F S1x256x256 .fp8e4m3 ← Prog.lift (.load arg7 (Rect.unit (s := S6x512x12288) (k0_off119 k0_t2) S1x256x256.size (k0_off119_inb k0_t2)).toLoadRect (View.loadsAt_vmem h_S1x256x256))
  have v1269_r0 : FVec F S256x256 .fp8e4m3 := shapeCast S256x256 v1268_r0 shapeCasts_S1x256x256_S256x256
  have v1270_r0 : FVec F S256x256 .bf16 := extf .bf16 v1269_r0 bitsLt_fp8e4m3_bf16
  let k0_mxu485 : Mxu F ← k0_mxu484.pushRhs 1 0 true v1270_r0
  pure ⟨v1239_r0, v1240_r0, v1242_r0, k0_mxu485⟩

theorem part1_B_eq (v0 : BitVec 32) (c0_i32_23 : BitVec 32) (c0_i32_578_r0 : BitVec 32) (c1_i32_579_r0 : BitVec 32) (k0_t2 : Fin k0_t2_loop.trips) (k0_mxu482 : Mxu F) (k0_h5 : ¬ k0_cond5 k0_t2 = 1#1) (k0_h6 : k0_cond6 k0_t2 = 1#1) : k0_part1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v0 c0_i32_23 c0_i32_578_r0 c1_i32_579_r0 k0_t2 k0_mxu482 = part1_B arg3 harg3 arg7 harg7 arg15 arg18 v0 c0_i32_23 c0_i32_578_r0 c1_i32_579_r0 k0_t2 k0_mxu482 k0_h6 := by
  unfold k0_part1
  simp only [dif_neg k0_h5, dif_pos k0_h6]
  rfl

def part40_B (v0 : BitVec 32) (c0_i32_23 : BitVec 32) (k0_t2 : Fin k0_t2_loop.trips) (v1239_r0 : BitVec 32) (k0_mxu965 : Mxu F) (k0_h8 : k0_cond8 k0_t2 = 1#1) : Prog (TpuEff nD τ sig (Elt F) Λ₀ .tc) (Σ' (k0_mxu971 : Mxu F), BitVec 32) := do
  let v2393_r0 : Vec F S64x256 .fp8e4m3 ← Prog.lift (.load arg8 (Rect.unit (s := S256x12288) ![64, 12032] S64x256.size inb_S256x12288_S64x256_64_12032).toLoadRect (View.loadsAt_vmem h_S64x256))
  have v2394_r0 : FVec F S64x256 .bf16 := extf .bf16 v2393_r0 bitsLt_fp8e4m3_bf16
  let k0_mxu966 : Mxu F ← k0_mxu965.accLhsLoaded 0 16 v2394_r0 fits_16_64
  let k0_mxu967 : Mxu F ← k0_mxu966.accLhsLoaded 1 16 v2394_r0 fits_16_64
  let v2395_r0 : Vec F S64x256 .fp8e4m3 ← Prog.lift (.load arg8 (Rect.unit (s := S256x12288) ![128, 12032] S64x256.size inb_S256x12288_S64x256_128_12032).toLoadRect (View.loadsAt_vmem h_S64x256))
  have v2396_r0 : FVec F S64x256 .bf16 := extf .bf16 v2395_r0 bitsLt_fp8e4m3_bf16
  let k0_mxu968 : Mxu F ← k0_mxu967.accLhsLoaded 0 32 v2396_r0 fits_32_64
  let k0_mxu969 : Mxu F ← k0_mxu968.accLhsLoaded 1 32 v2396_r0 fits_32_64
  let v2397_r0 : Vec F S64x256 .fp8e4m3 ← Prog.lift (.load arg8 (Rect.unit (s := S256x12288) ![192, 12032] S64x256.size inb_S256x12288_S64x256_192_12032).toLoadRect (View.loadsAt_vmem h_S64x256))
  have v2398_r0 : FVec F S64x256 .bf16 := extf .bf16 v2397_r0 bitsLt_fp8e4m3_bf16
  let k0_mxu970 : Mxu F ← k0_mxu969.accLhsLoaded 0 48 v2398_r0 fits_48_64
  let k0_mxu971 : Mxu F ← k0_mxu970.accLhsLoaded 1 48 v2398_r0 fits_48_64
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let c1_i32_1396_r0 : BitVec 32 := 1#32
  let v2402_r0 : BitVec 32 := Scalar.subi v0 c1_i32_1396_r0
  let v2403_r0 : BitVec 1 := Scalar.cmpi .eq v2400_r0 v2402_r0
  let v2404_r0 : BitVec 32 := Scalar.extui v2403_r0
  let c0_i32_1397_r0 : BitVec 32 := 0#32
  let v2405_r0 : BitVec 1 := Scalar.cmpi .ne v2404_r0 c0_i32_1397_r0
  let c1_i32_1398_r0 : BitVec 32 := 1#32
  let v2406_r0 : BitVec 32 := Scalar.subi v0 c1_i32_1398_r0
  let v2407_r0 : BitVec 1 := Scalar.cmpi .slt v2400_r0 v2406_r0
  let v2408_r0 : BitVec 32 := Scalar.extui v2407_r0
  let c0_i32_1399_r0 : BitVec 32 := 0#32
  let v2409_r0 : BitVec 1 := Scalar.cmpi .ne v2408_r0 c0_i32_1399_r0
  let c512_i32_2084_r0 : BitVec 32 := 512#32
  let v3559_r0 : BitVec 32 := Scalar.muli v2399_r0 c512_i32_2084_r0
  let v3561_r0 : DmaSems sig S1 := arg15.slice (Rect.unit (s := S6) (k0_off217 k0_t2) S1.size (k0_off217_inb k0_t2 k0_h8))
  let v3562_r0 : DmaSems sig S_ := v3561_r0.squeeze S_ squeezes_S1_S_
  let v3563_r0 : Memref sig .tc .vmem S1x512x12288 .fp8e4m3 := arg7.slice (Rect.unit (s := S6x512x12288) (k0_off218 k0_t2) S1x512x12288.size (k0_off218_inb k0_t2 k0_h8)) (fun _ => rfl)
  let v3564_r0 : Memref sig .tc .vmem S512x12288 .fp8e4m3 := v3563_r0.squeeze S512x12288 squeezes_S1x512x12288_S512x12288
  let v3565_r0 : Memref sig .tc .hbm S512x12288 .fp8e4m3 := arg3.slice (Rect.unit (s := S30008x12288) (k0_off219 k0_t2) S512x12288.size (k0_off219_inb k0_t2 k0_h8)) (fun _ => rfl)
  Prog.lift (.waitDma2 v3562_r0.sem v3565_r0 v3564_r0 (harg3.wordExact_slice rfl _ (k0_off219_wordsfp8e4m3 k0_t2 k0_h8)) ((harg7.wordExact_slice rfl _ (k0_off218_wordsfp8e4m3 k0_t2 k0_h8)).reshape _ _))
  let c6_i32_1400_r0 : BitVec 32 := 6#32
  let v2410_r0 : BitVec 32 := Scalar.addi v2400_r0 c6_i32_1400_r0
  let c1_i32_1401_r0 : BitVec 32 := 1#32
  let v2411_r0 : BitVec 32 := Scalar.subi v2410_r0 c1_i32_1401_r0
  let c6_i32_1402_r0 : BitVec 32 := 6#32
  let v2413_r0 : BitVec 1 := Scalar.cmpi .sge v2411_r0 c0_i32_23
  let c1_i32_1403_r0 : BitVec 32 := 1#32
  let v2414_r0 : BitVec 32 := Scalar.subi v0 c1_i32_1403_r0
  let v2415_r0 : BitVec 1 := Scalar.cmpi .slt v2411_r0 v2414_r0
  let v2416_r0 : BitVec 1 := Scalar.andi v2413_r0 v2415_r0
  let v2417_r0 : BitVec 32 := Scalar.extui v2416_r0
  let c0_i32_1404_r0 : BitVec 32 := 0#32
  let v2418_r0 : BitVec 1 := Scalar.cmpi .ne v2417_r0 c0_i32_1404_r0
  let c1_i32_1405_r0 : BitVec 32 := 1#32
  let v2419_r0 : BitVec 32 := Scalar.subi v0 c1_i32_1405_r0
  let v2420_r0 : BitVec 1 := Scalar.cmpi .eq v2411_r0 v2419_r0
  let v2421_r0 : BitVec 32 := Scalar.extui v2420_r0
  let c0_i32_1406_r0 : BitVec 32 := 0#32
  let v2422_r0 : BitVec 1 := Scalar.cmpi .ne v2421_r0 c0_i32_1406_r0
  pure ⟨k0_mxu971, v2401_r0⟩

theorem part40_B_eq (v0 : BitVec 32) (c0_i32_23 : BitVec 32) (k0_t2 : Fin k0_t2_loop.trips) (v1239_r0 : BitVec 32) (k0_mxu965 : Mxu F) (k0_h7 : ¬ k0_cond7 k0_t2 = 1#1) (k0_h8 : k0_cond8 k0_t2 = 1#1) (k0_h9 : ¬ k0_cond9 k0_t2 = 1#1) (k0_h10 : ¬ k0_cond10 k0_t2 = 1#1) : k0_part40 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v0 c0_i32_23 k0_t2 v1239_r0 k0_mxu965 = part40_B arg3 harg3 arg7 harg7 arg8 arg15 v0 c0_i32_23 k0_t2 v1239_r0 k0_mxu965 k0_h8 := by
  unfold k0_part40
  simp only [dif_neg k0_h7, dif_pos k0_h8, dif_neg k0_h9, dif_neg k0_h10]
  rfl

theorem trip_B_eq (k0_t2 : Fin k0_t2_loop.trips) (k0_mxu482 : Mxu F) (k0_h5 : ¬ k0_cond5 k0_t2 = 1#1) (k0_h6 : k0_cond6 k0_t2 = 1#1) (k0_h7 : ¬ k0_cond7 k0_t2 = 1#1) (k0_h8 : k0_cond8 k0_t2 = 1#1) (k0_h9 : ¬ k0_cond9 k0_t2 = 1#1) (k0_h10 : ¬ k0_cond10 k0_t2 = 1#1) : tripBody (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482 = tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482 (fun k0_mxu482 => part1_B arg3 harg3 arg7 harg7 arg15 arg18 (Scalar.addi 0#32 59#32) 0#32 0#32 1#32 k0_t2 k0_mxu482 k0_h6) (fun v1239_r0 k0_mxu965 => part40_B arg3 harg3 arg7 harg7 arg8 arg15 (Scalar.addi 0#32 59#32) 0#32 k0_t2 v1239_r0 k0_mxu965 k0_h8) :=
  congrArg₂ (tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482) (funext fun k0_mxu482 => part1_B_eq (k0_t2 := k0_t2) (k0_h5 := k0_h5) (k0_h6 := k0_h6) ..) (funext fun v1239_r0 => funext fun k0_mxu965 => part40_B_eq (k0_t2 := k0_t2) (k0_h7 := k0_h7) (k0_h8 := k0_h8) (k0_h9 := k0_h9) (k0_h10 := k0_h10) ..)

def part1_C (v0 : BitVec 32) (c0_i32_23 : BitVec 32) (c0_i32_578_r0 : BitVec 32) (c1_i32_579_r0 : BitVec 32) (k0_t2 : Fin k0_t2_loop.trips) (k0_mxu482 : Mxu F)  : Prog (TpuEff nD τ sig (Elt F) Λ₀ .tc) (Σ' (v1239_r0 : BitVec 32) (v1240_r0 : BitVec 32) (v1242_r0 : BitVec 32), Mxu F) := do
  let arg19_r0 : BitVec 32 := Scf.iv c0_i32_578_r0 c1_i32_579_r0 k0_t2
  let c2_i32_r0 : BitVec 32 := 2#32
  let v1238_r0 : BitVec 32 := Scalar.muli c2_i32_r0 arg19_r0
  let c1_i32_707_r0 : BitVec 32 := 1#32
  let v1239_r0 : BitVec 32 := Scalar.addi v1238_r0 c1_i32_707_r0
  let c1_i32_708_r0 : BitVec 32 := 1#32
  let v1240_r0 : BitVec 32 := Scalar.subi v1239_r0 c1_i32_708_r0
  let v1241_r0 : BitVec 32 := Scalar.addi c0_i32_23 v1239_r0
  let c6_i32_709_r0 : BitVec 32 := 6#32
  let v1242_r0 : BitVec 32 := Scalar.remsi v1241_r0 c6_i32_709_r0
  let c512_i32_710_r0 : BitVec 32 := 512#32
  let v1243_r0 : BitVec 32 := Scalar.muli v1239_r0 c512_i32_710_r0
  let v1245_r0 : DmaSems sig S1 := arg15.slice (Rect.unit (s := S6) (k0_off110 k0_t2) S1.size (k0_off110_inb k0_t2))
  let v1246_r0 : DmaSems sig S_ := v1245_r0.squeeze S_ squeezes_S1_S_
  let v1247_r0 : Memref sig .tc .vmem S1x512x12288 .fp8e4m3 := arg7.slice (Rect.unit (s := S6x512x12288) (k0_off111 k0_t2) S1x512x12288.size (k0_off111_inb k0_t2)) (fun _ => rfl)
  let v1248_r0 : Memref sig .tc .vmem S512x12288 .fp8e4m3 := v1247_r0.squeeze S512x12288 squeezes_S1x512x12288_S512x12288
  let v1249_r0 : Memref sig .tc .hbm S512x12288 .fp8e4m3 := arg3.slice (Rect.unit (s := S30008x12288) (k0_off112 k0_t2) S512x12288.size (k0_off112_inb k0_t2)) (fun _ => rfl)
  Prog.lift (.waitDma2 v1246_r0.sem v1249_r0 v1248_r0 (harg3.wordExact_slice rfl _ (k0_off112_wordsfp8e4m3 k0_t2)) ((harg7.wordExact_slice rfl _ (k0_off111_wordsfp8e4m3 k0_t2)).reshape _ _))
  let c6_i32_714_r0 : BitVec 32 := 6#32
  let v1250_r0 : BitVec 32 := Scalar.addi v1241_r0 c6_i32_714_r0
  let c1_i32_715_r0 : BitVec 32 := 1#32
  let v1251_r0 : BitVec 32 := Scalar.subi v1250_r0 c1_i32_715_r0
  let c6_i32_716_r0 : BitVec 32 := 6#32
  let v1253_r0 : BitVec 1 := Scalar.cmpi .sge v1251_r0 c0_i32_23
  let c1_i32_717_r0 : BitVec 32 := 1#32
  let v1254_r0 : BitVec 32 := Scalar.subi v0 c1_i32_717_r0
  let v1255_r0 : BitVec 1 := Scalar.cmpi .slt v1251_r0 v1254_r0
  let v1256_r0 : BitVec 1 := Scalar.andi v1253_r0 v1255_r0
  let v1257_r0 : BitVec 32 := Scalar.extui v1256_r0
  let c0_i32_718_r0 : BitVec 32 := 0#32
  let v1258_r0 : BitVec 1 := Scalar.cmpi .ne v1257_r0 c0_i32_718_r0
  let c1_i32_719_r0 : BitVec 32 := 1#32
  let v1259_r0 : BitVec 32 := Scalar.subi v0 c1_i32_719_r0
  let v1260_r0 : BitVec 1 := Scalar.cmpi .eq v1251_r0 v1259_r0
  let v1261_r0 : BitVec 32 := Scalar.extui v1260_r0
  let c0_i32_720_r0 : BitVec 32 := 0#32
  let v1262_r0 : BitVec 1 := Scalar.cmpi .ne v1261_r0 c0_i32_720_r0
  let v1264_r0 : Vec F S1x256x256 .fp8e4m3 ← Prog.lift (.load arg7 (Rect.unit (s := S6x512x12288) (k0_off118 k0_t2) S1x256x256.size (k0_off118_inb k0_t2)).toLoadRect (View.loadsAt_vmem h_S1x256x256))
  have v1265_r0 : FVec F S256x256 .fp8e4m3 := shapeCast S256x256 v1264_r0 shapeCasts_S1x256x256_S256x256
  have v1266_r0 : FVec F S256x256 .bf16 := extf .bf16 v1265_r0 bitsLt_fp8e4m3_bf16
  let k0_mxu484 : Mxu F ← k0_mxu482.pushRhs 0 0 true v1266_r0
  let v1268_r0 : Vec F S1x256x256 .fp8e4m3 ← Prog.lift (.load arg7 (Rect.unit (s := S6x512x12288) (k0_off119 k0_t2) S1x256x256.size (k0_off119_inb k0_t2)).toLoadRect (View.loadsAt_vmem h_S1x256x256))
  have v1269_r0 : FVec F S256x256 .fp8e4m3 := shapeCast S256x256 v1268_r0 shapeCasts_S1x256x256_S256x256
  have v1270_r0 : FVec F S256x256 .bf16 := extf .bf16 v1269_r0 bitsLt_fp8e4m3_bf16
  let k0_mxu485 : Mxu F ← k0_mxu484.pushRhs 1 0 true v1270_r0
  pure ⟨v1239_r0, v1240_r0, v1242_r0, k0_mxu485⟩

theorem part1_C_eq (v0 : BitVec 32) (c0_i32_23 : BitVec 32) (c0_i32_578_r0 : BitVec 32) (c1_i32_579_r0 : BitVec 32) (k0_t2 : Fin k0_t2_loop.trips) (k0_mxu482 : Mxu F) (k0_h5 : ¬ k0_cond5 k0_t2 = 1#1) (k0_h6 : ¬ k0_cond6 k0_t2 = 1#1) : k0_part1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v0 c0_i32_23 c0_i32_578_r0 c1_i32_579_r0 k0_t2 k0_mxu482 = part1_C arg3 harg3 arg7 harg7 arg15 v0 c0_i32_23 c0_i32_578_r0 c1_i32_579_r0 k0_t2 k0_mxu482  := by
  unfold k0_part1
  simp only [dif_neg k0_h5, dif_neg k0_h6]
  rfl

theorem trip_C_eq (k0_t2 : Fin k0_t2_loop.trips) (k0_mxu482 : Mxu F) (k0_h5 : ¬ k0_cond5 k0_t2 = 1#1) (k0_h6 : ¬ k0_cond6 k0_t2 = 1#1) (k0_h7 : ¬ k0_cond7 k0_t2 = 1#1) (k0_h8 : k0_cond8 k0_t2 = 1#1) (k0_h9 : ¬ k0_cond9 k0_t2 = 1#1) (k0_h10 : ¬ k0_cond10 k0_t2 = 1#1) : tripBody (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482 = tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482 (fun k0_mxu482 => part1_C arg3 harg3 arg7 harg7 arg15 (Scalar.addi 0#32 59#32) 0#32 0#32 1#32 k0_t2 k0_mxu482 ) (fun v1239_r0 k0_mxu965 => part40_B arg3 harg3 arg7 harg7 arg8 arg15 (Scalar.addi 0#32 59#32) 0#32 k0_t2 v1239_r0 k0_mxu965 k0_h8) :=
  congrArg₂ (tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482) (funext fun k0_mxu482 => part1_C_eq (k0_t2 := k0_t2) (k0_h5 := k0_h5) (k0_h6 := k0_h6) ..) (funext fun v1239_r0 => funext fun k0_mxu965 => part40_B_eq (k0_t2 := k0_t2) (k0_h7 := k0_h7) (k0_h8 := k0_h8) (k0_h9 := k0_h9) (k0_h10 := k0_h10) ..)

def part40_D (v0 : BitVec 32) (c0_i32_23 : BitVec 32) (k0_t2 : Fin k0_t2_loop.trips) (v1239_r0 : BitVec 32) (k0_mxu965 : Mxu F) (k0_h7 : k0_cond7 k0_t2 = 1#1) : Prog (TpuEff nD τ sig (Elt F) Λ₀ .tc) (Σ' (k0_mxu971 : Mxu F), BitVec 32) := do
  let v2393_r0 : Vec F S64x256 .fp8e4m3 ← Prog.lift (.load arg8 (Rect.unit (s := S256x12288) ![64, 12032] S64x256.size inb_S256x12288_S64x256_64_12032).toLoadRect (View.loadsAt_vmem h_S64x256))
  have v2394_r0 : FVec F S64x256 .bf16 := extf .bf16 v2393_r0 bitsLt_fp8e4m3_bf16
  let k0_mxu966 : Mxu F ← k0_mxu965.accLhsLoaded 0 16 v2394_r0 fits_16_64
  let k0_mxu967 : Mxu F ← k0_mxu966.accLhsLoaded 1 16 v2394_r0 fits_16_64
  let v2395_r0 : Vec F S64x256 .fp8e4m3 ← Prog.lift (.load arg8 (Rect.unit (s := S256x12288) ![128, 12032] S64x256.size inb_S256x12288_S64x256_128_12032).toLoadRect (View.loadsAt_vmem h_S64x256))
  have v2396_r0 : FVec F S64x256 .bf16 := extf .bf16 v2395_r0 bitsLt_fp8e4m3_bf16
  let k0_mxu968 : Mxu F ← k0_mxu967.accLhsLoaded 0 32 v2396_r0 fits_32_64
  let k0_mxu969 : Mxu F ← k0_mxu968.accLhsLoaded 1 32 v2396_r0 fits_32_64
  let v2397_r0 : Vec F S64x256 .fp8e4m3 ← Prog.lift (.load arg8 (Rect.unit (s := S256x12288) ![192, 12032] S64x256.size inb_S256x12288_S64x256_192_12032).toLoadRect (View.loadsAt_vmem h_S64x256))
  have v2398_r0 : FVec F S64x256 .bf16 := extf .bf16 v2397_r0 bitsLt_fp8e4m3_bf16
  let k0_mxu970 : Mxu F ← k0_mxu969.accLhsLoaded 0 48 v2398_r0 fits_48_64
  let k0_mxu971 : Mxu F ← k0_mxu970.accLhsLoaded 1 48 v2398_r0 fits_48_64
  let c1_i32_1394_r0 : BitVec 32 := 1#32
  let v2399_r0 : BitVec 32 := Scalar.addi v1239_r0 c1_i32_1394_r0
  let v2400_r0 : BitVec 32 := Scalar.addi c0_i32_23 v2399_r0
  let c6_i32_1395_r0 : BitVec 32 := 6#32
  let v2401_r0 : BitVec 32 := Scalar.remsi v2400_r0 c6_i32_1395_r0
  let c1_i32_1396_r0 : BitVec 32 := 1#32
  let v2402_r0 : BitVec 32 := Scalar.subi v0 c1_i32_1396_r0
  let v2403_r0 : BitVec 1 := Scalar.cmpi .eq v2400_r0 v2402_r0
  let v2404_r0 : BitVec 32 := Scalar.extui v2403_r0
  let c0_i32_1397_r0 : BitVec 32 := 0#32
  let v2405_r0 : BitVec 1 := Scalar.cmpi .ne v2404_r0 c0_i32_1397_r0
  let c512_i32_2084_r0 : BitVec 32 := 512#32
  let v3559_r0 : BitVec 32 := Scalar.muli v2399_r0 c512_i32_2084_r0
  let v3561_r0 : Memref sig .tc .vmem S1x312x12288 .fp8e4m3 := arg7.slice (Rect.unit (s := S6x512x12288) (k0_off215 k0_t2) S1x312x12288.size (k0_off215_inb k0_t2 k0_h7)) (fun _ => rfl)
  let v3562_r0 : Memref sig .tc .vmem S312x12288 .fp8e4m3 := v3561_r0.squeeze S312x12288 squeezes_S1x312x12288_S312x12288
  let v3563_r0 : Memref sig .tc .hbm S312x12288 .fp8e4m3 := arg3.slice (Rect.unit (s := S30008x12288) (k0_off216 k0_t2) S312x12288.size (k0_off216_inb k0_t2 k0_h7)) (fun _ => rfl)
  Prog.lift (.waitDma2 arg18.sem v3563_r0 v3562_r0 (harg3.wordExact_slice rfl _ (k0_off216_wordsfp8e4m3 k0_t2 k0_h7)) ((harg7.wordExact_slice rfl _ (k0_off215_wordsfp8e4m3 k0_t2 k0_h7)).reshape _ _))
  let c1_i32_1398_r0 : BitVec 32 := 1#32
  let v2406_r0 : BitVec 32 := Scalar.subi v0 c1_i32_1398_r0
  let v2407_r0 : BitVec 1 := Scalar.cmpi .slt v2400_r0 v2406_r0
  let v2408_r0 : BitVec 32 := Scalar.extui v2407_r0
  let c0_i32_1399_r0 : BitVec 32 := 0#32
  let v2409_r0 : BitVec 1 := Scalar.cmpi .ne v2408_r0 c0_i32_1399_r0
  let c6_i32_1400_r0 : BitVec 32 := 6#32
  let v2410_r0 : BitVec 32 := Scalar.addi v2400_r0 c6_i32_1400_r0
  let c1_i32_1401_r0 : BitVec 32 := 1#32
  let v2411_r0 : BitVec 32 := Scalar.subi v2410_r0 c1_i32_1401_r0
  let c6_i32_1402_r0 : BitVec 32 := 6#32
  let v2413_r0 : BitVec 1 := Scalar.cmpi .sge v2411_r0 c0_i32_23
  let c1_i32_1403_r0 : BitVec 32 := 1#32
  let v2414_r0 : BitVec 32 := Scalar.subi v0 c1_i32_1403_r0
  let v2415_r0 : BitVec 1 := Scalar.cmpi .slt v2411_r0 v2414_r0
  let v2416_r0 : BitVec 1 := Scalar.andi v2413_r0 v2415_r0
  let v2417_r0 : BitVec 32 := Scalar.extui v2416_r0
  let c0_i32_1404_r0 : BitVec 32 := 0#32
  let v2418_r0 : BitVec 1 := Scalar.cmpi .ne v2417_r0 c0_i32_1404_r0
  let c1_i32_1405_r0 : BitVec 32 := 1#32
  let v2419_r0 : BitVec 32 := Scalar.subi v0 c1_i32_1405_r0
  let v2420_r0 : BitVec 1 := Scalar.cmpi .eq v2411_r0 v2419_r0
  let v2421_r0 : BitVec 32 := Scalar.extui v2420_r0
  let c0_i32_1406_r0 : BitVec 32 := 0#32
  let v2422_r0 : BitVec 1 := Scalar.cmpi .ne v2421_r0 c0_i32_1406_r0
  pure ⟨k0_mxu971, v2401_r0⟩

theorem part40_D_eq (v0 : BitVec 32) (c0_i32_23 : BitVec 32) (k0_t2 : Fin k0_t2_loop.trips) (v1239_r0 : BitVec 32) (k0_mxu965 : Mxu F) (k0_h7 : k0_cond7 k0_t2 = 1#1) (k0_h8 : ¬ k0_cond8 k0_t2 = 1#1) (k0_h9 : ¬ k0_cond9 k0_t2 = 1#1) (k0_h10 : ¬ k0_cond10 k0_t2 = 1#1) : k0_part40 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 v0 c0_i32_23 k0_t2 v1239_r0 k0_mxu965 = part40_D arg3 harg3 arg7 harg7 arg8 arg18 v0 c0_i32_23 k0_t2 v1239_r0 k0_mxu965 k0_h7 := by
  unfold k0_part40
  simp only [dif_pos k0_h7, dif_neg k0_h8, dif_neg k0_h9, dif_neg k0_h10]
  rfl

theorem trip_D_eq (k0_t2 : Fin k0_t2_loop.trips) (k0_mxu482 : Mxu F) (k0_h5 : ¬ k0_cond5 k0_t2 = 1#1) (k0_h6 : ¬ k0_cond6 k0_t2 = 1#1) (k0_h7 : k0_cond7 k0_t2 = 1#1) (k0_h8 : ¬ k0_cond8 k0_t2 = 1#1) (k0_h9 : ¬ k0_cond9 k0_t2 = 1#1) (k0_h10 : ¬ k0_cond10 k0_t2 = 1#1) : tripBody (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482 = tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482 (fun k0_mxu482 => part1_C arg3 harg3 arg7 harg7 arg15 (Scalar.addi 0#32 59#32) 0#32 0#32 1#32 k0_t2 k0_mxu482 ) (fun v1239_r0 k0_mxu965 => part40_D arg3 harg3 arg7 harg7 arg8 arg18 (Scalar.addi 0#32 59#32) 0#32 k0_t2 v1239_r0 k0_mxu965 k0_h7) :=
  congrArg₂ (tripG arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 k0_mxu482) (funext fun k0_mxu482 => part1_C_eq (k0_t2 := k0_t2) (k0_h5 := k0_h5) (k0_h6 := k0_h6) ..) (funext fun v1239_r0 => funext fun k0_mxu965 => part40_D_eq (k0_t2 := k0_t2) (k0_h7 := k0_h7) (k0_h8 := k0_h8) (k0_h9 := k0_h9) (k0_h10 := k0_h10) ..)

end Cert.KernelIdeal
-- ==== Proof.EqI.lean ====
/- The printed kernel is the program of `Head`: its first lines, each trip (by how its branches go), its last lines. -/
module

public import proofs.«01_k».proof.Proof.Prog
public import proofs.«01_k».proof.Proof.TextI
public import Idealize.ShloMosaic.Lib.Tactic

@[expose] public section

set_option maxRecDepth 1000000

noncomputable section

namespace Cert.KernelIdeal

open Idealize.ShloMosaic Idealize.SL.Sem Idealize.ShloMosaic.Tactic
open Idealize.ShloMosaic.RefSig (ofTc tcTables tileCredit tileCredit_eq_zero tileCredit_pos)

variable {F : FTy → Type} [FloatOps F] [Named F]
variable [Facts]
open Facts₀ Facts

/-- The first block of trip `t`, as the kernel computes it. -/
def jw (t : Fin k0_t2_loop.trips) : BitVec 32 := Scalar.addi (Scalar.muli 2#32 (Scf.iv 0#32 1#32 t)) 1#32

theorem hcb1 (t : Fin k0_t2_loop.trips) : ∀ c, c < 4 → (Head.wcol (Scalar.muli (Scalar.subi (jw t) 1#32) 512#32) c).toNat + 128 ≤ 30003 :=
  fun c hc => k0_off130_inb t ⟨c, hc⟩ 0

theorem hcb2 (t : Fin k0_t2_loop.trips) : ∀ c, c < 4 →
    (Head.wcol (Scalar.muli (jw t) 512#32) c).toNat + 128 ≤ 30003 :=
  fun c hc => k0_off237_inb t ⟨c, hc⟩ 0

/-- A trip of kind A. -/
theorem tripP_A (arg0 : Memref sig .tc .hbm S256x12288 .fp8e4m3) (harg0 : arg0.IsWhole) (arg1 : Memref sig .tc .vmem S2x128 .f32) (harg1 : arg1.IsWhole) (arg2 : Memref sig .tc .vmem S2x128 .i32) (harg2 : arg2.IsWhole) (arg3 : Memref sig .tc .hbm S30008x12288 .fp8e4m3) (harg3 : arg3.IsWhole) (arg4 : Memref sig .tc .hbm S30003 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S6x512x12288 .fp8e4m3) (harg7 : arg7.IsWhole) (arg8 : Memref sig .tc .vmem S256x12288 .fp8e4m3) (harg8 : arg8.IsWhole) (arg9 : Memref sig .tc .vmem S30003 .f32) (harg9 : arg9.IsWhole) (arg10 : Memref sig .tc .vmem S256x128 .i32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : DmaSems sig S6) (arg16 : DmaSems sig S_) (arg17 : DmaSems sig S_) (arg18 : DmaSems sig S_) (k0_t2 : Fin k0_t2_loop.trips) (s : Mxu F) (k0_h5 : k0_cond5 k0_t2 = 1#1) (k0_h6 : ¬ k0_cond6 k0_t2 = 1#1) (k0_h7 : ¬ k0_cond7 k0_t2 = 1#1) (k0_h8 : k0_cond8 k0_t2 = 1#1) (k0_h9 : k0_cond9 k0_t2 = 1#1) (k0_h10 : ¬ k0_cond10 k0_t2 = 1#1) : tripBody arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 s =
    (Head.waitF arg3 arg7 arg15 (k0_off111 k0_t2 0) (k0_off111_inb k0_t2 0) (k0_off112 k0_t2 0) (k0_off112_inb k0_t2 0) (harg3.wordExact_slice rfl _ (k0_off112_wordsfp8e4m3 k0_t2)) ((harg7.wordExact_slice rfl _ (k0_off111_wordsfp8e4m3 k0_t2)).reshape _ _) <|
    Head.startF arg3 arg7 arg15 (k0_off114 k0_t2 0) (k0_off114_inb k0_t2 k0_h5 0) (k0_off115 k0_t2 0) (k0_off115_inb k0_t2 k0_h5 0) (harg3.wordExact_slice rfl _ (k0_off115_wordsfp8e4m3 k0_t2 k0_h5)) ((harg7.wordExact_slice rfl _ (k0_off114_wordsfp8e4m3 k0_t2 k0_h5)).reshape _ _) <|
    Head.blockK arg7 arg8 (k0_off118 k0_t2 0) (k0_off118_inb k0_t2 0) 0 (by decide) (Head.drainK arg9 arg10 arg11 arg12 arg13 arg14 (Scalar.muli (Scalar.subi (jw k0_t2) 1#32) 512#32) (hcb1 k0_t2) 1 (by decide)) s fun s =>
    Head.waitF arg3 arg7 arg15 (k0_off218 k0_t2 0) (k0_off218_inb k0_t2 k0_h8 0) (k0_off219 k0_t2 0) (k0_off219_inb k0_t2 k0_h8 0) (harg3.wordExact_slice rfl _ (k0_off219_wordsfp8e4m3 k0_t2 k0_h8)) ((harg7.wordExact_slice rfl _ (k0_off218_wordsfp8e4m3 k0_t2 k0_h8)).reshape _ _) <|
    Head.startF arg3 arg7 arg15 (k0_off221 k0_t2 0) (k0_off221_inb k0_t2 k0_h9 0) (k0_off222 k0_t2 0) (k0_off222_inb k0_t2 k0_h9 0) (harg3.wordExact_slice rfl _ (k0_off222_wordsfp8e4m3 k0_t2 k0_h9)) ((harg7.wordExact_slice rfl _ (k0_off221_wordsfp8e4m3 k0_t2 k0_h9)).reshape _ _) <|
    Head.blockK arg7 arg8 (k0_off225 k0_t2 0) (k0_off225_inb k0_t2 0) 1 (by decide) (Head.drainK arg9 arg10 arg11 arg12 arg13 arg14 (Scalar.muli (jw k0_t2) 512#32) (hcb2 k0_t2) 0 (by decide)) s fun s => .ret (0#32, s)) := by
  rw [trip_A_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 s k0_h5 k0_h6 k0_h7 k0_h8 k0_h9 k0_h10]
  sl_kernel_rfl

/-- A trip of kind B. -/
theorem tripP_B (arg0 : Memref sig .tc .hbm S256x12288 .fp8e4m3) (harg0 : arg0.IsWhole) (arg1 : Memref sig .tc .vmem S2x128 .f32) (harg1 : arg1.IsWhole) (arg2 : Memref sig .tc .vmem S2x128 .i32) (harg2 : arg2.IsWhole) (arg3 : Memref sig .tc .hbm S30008x12288 .fp8e4m3) (harg3 : arg3.IsWhole) (arg4 : Memref sig .tc .hbm S30003 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S6x512x12288 .fp8e4m3) (harg7 : arg7.IsWhole) (arg8 : Memref sig .tc .vmem S256x12288 .fp8e4m3) (harg8 : arg8.IsWhole) (arg9 : Memref sig .tc .vmem S30003 .f32) (harg9 : arg9.IsWhole) (arg10 : Memref sig .tc .vmem S256x128 .i32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : DmaSems sig S6) (arg16 : DmaSems sig S_) (arg17 : DmaSems sig S_) (arg18 : DmaSems sig S_) (k0_t2 : Fin k0_t2_loop.trips) (s : Mxu F) (k0_h5 : ¬ k0_cond5 k0_t2 = 1#1) (k0_h6 : k0_cond6 k0_t2 = 1#1) (k0_h7 : ¬ k0_cond7 k0_t2 = 1#1) (k0_h8 : k0_cond8 k0_t2 = 1#1) (k0_h9 : ¬ k0_cond9 k0_t2 = 1#1) (k0_h10 : ¬ k0_cond10 k0_t2 = 1#1) : tripBody arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 s =
    (Head.waitF arg3 arg7 arg15 (k0_off111 k0_t2 0) (k0_off111_inb k0_t2 0) (k0_off112 k0_t2 0) (k0_off112_inb k0_t2 0) (harg3.wordExact_slice rfl _ (k0_off112_wordsfp8e4m3 k0_t2)) ((harg7.wordExact_slice rfl _ (k0_off111_wordsfp8e4m3 k0_t2)).reshape _ _) <|
    Head.startL arg3 arg7 arg18.sem (k0_off116 k0_t2 0) (k0_off116_inb k0_t2 k0_h6 0) (k0_off117 k0_t2 0) (k0_off117_inb k0_t2 k0_h6 0) (harg3.wordExact_slice rfl _ (k0_off117_wordsfp8e4m3 k0_t2 k0_h6)) ((harg7.wordExact_slice rfl _ (k0_off116_wordsfp8e4m3 k0_t2 k0_h6)).reshape _ _) <|
    Head.blockK arg7 arg8 (k0_off118 k0_t2 0) (k0_off118_inb k0_t2 0) 0 (by decide) (Head.drainK arg9 arg10 arg11 arg12 arg13 arg14 (Scalar.muli (Scalar.subi (jw k0_t2) 1#32) 512#32) (hcb1 k0_t2) 1 (by decide)) s fun s =>
    Head.waitF arg3 arg7 arg15 (k0_off218 k0_t2 0) (k0_off218_inb k0_t2 k0_h8 0) (k0_off219 k0_t2 0) (k0_off219_inb k0_t2 k0_h8 0) (harg3.wordExact_slice rfl _ (k0_off219_wordsfp8e4m3 k0_t2 k0_h8)) ((harg7.wordExact_slice rfl _ (k0_off218_wordsfp8e4m3 k0_t2 k0_h8)).reshape _ _) <|
    Head.blockK arg7 arg8 (k0_off225 k0_t2 0) (k0_off225_inb k0_t2 0) 1 (by decide) (Head.drainK arg9 arg10 arg11 arg12 arg13 arg14 (Scalar.muli (jw k0_t2) 512#32) (hcb2 k0_t2) 0 (by decide)) s fun s => .ret (0#32, s)) := by
  rw [trip_B_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 s k0_h5 k0_h6 k0_h7 k0_h8 k0_h9 k0_h10]
  sl_kernel_rfl

/-- A trip of kind C. -/
theorem tripP_C (arg0 : Memref sig .tc .hbm S256x12288 .fp8e4m3) (harg0 : arg0.IsWhole) (arg1 : Memref sig .tc .vmem S2x128 .f32) (harg1 : arg1.IsWhole) (arg2 : Memref sig .tc .vmem S2x128 .i32) (harg2 : arg2.IsWhole) (arg3 : Memref sig .tc .hbm S30008x12288 .fp8e4m3) (harg3 : arg3.IsWhole) (arg4 : Memref sig .tc .hbm S30003 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S6x512x12288 .fp8e4m3) (harg7 : arg7.IsWhole) (arg8 : Memref sig .tc .vmem S256x12288 .fp8e4m3) (harg8 : arg8.IsWhole) (arg9 : Memref sig .tc .vmem S30003 .f32) (harg9 : arg9.IsWhole) (arg10 : Memref sig .tc .vmem S256x128 .i32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : DmaSems sig S6) (arg16 : DmaSems sig S_) (arg17 : DmaSems sig S_) (arg18 : DmaSems sig S_) (k0_t2 : Fin k0_t2_loop.trips) (s : Mxu F) (k0_h5 : ¬ k0_cond5 k0_t2 = 1#1) (k0_h6 : ¬ k0_cond6 k0_t2 = 1#1) (k0_h7 : ¬ k0_cond7 k0_t2 = 1#1) (k0_h8 : k0_cond8 k0_t2 = 1#1) (k0_h9 : ¬ k0_cond9 k0_t2 = 1#1) (k0_h10 : ¬ k0_cond10 k0_t2 = 1#1) : tripBody arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 s =
    (Head.waitF arg3 arg7 arg15 (k0_off111 k0_t2 0) (k0_off111_inb k0_t2 0) (k0_off112 k0_t2 0) (k0_off112_inb k0_t2 0) (harg3.wordExact_slice rfl _ (k0_off112_wordsfp8e4m3 k0_t2)) ((harg7.wordExact_slice rfl _ (k0_off111_wordsfp8e4m3 k0_t2)).reshape _ _) <|
    Head.blockK arg7 arg8 (k0_off118 k0_t2 0) (k0_off118_inb k0_t2 0) 0 (by decide) (Head.drainK arg9 arg10 arg11 arg12 arg13 arg14 (Scalar.muli (Scalar.subi (jw k0_t2) 1#32) 512#32) (hcb1 k0_t2) 1 (by decide)) s fun s =>
    Head.waitF arg3 arg7 arg15 (k0_off218 k0_t2 0) (k0_off218_inb k0_t2 k0_h8 0) (k0_off219 k0_t2 0) (k0_off219_inb k0_t2 k0_h8 0) (harg3.wordExact_slice rfl _ (k0_off219_wordsfp8e4m3 k0_t2 k0_h8)) ((harg7.wordExact_slice rfl _ (k0_off218_wordsfp8e4m3 k0_t2 k0_h8)).reshape _ _) <|
    Head.blockK arg7 arg8 (k0_off225 k0_t2 0) (k0_off225_inb k0_t2 0) 1 (by decide) (Head.drainK arg9 arg10 arg11 arg12 arg13 arg14 (Scalar.muli (jw k0_t2) 512#32) (hcb2 k0_t2) 0 (by decide)) s fun s => .ret (0#32, s)) := by
  rw [trip_C_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 s k0_h5 k0_h6 k0_h7 k0_h8 k0_h9 k0_h10]
  sl_kernel_rfl

/-- A trip of kind D. -/
theorem tripP_D (arg0 : Memref sig .tc .hbm S256x12288 .fp8e4m3) (harg0 : arg0.IsWhole) (arg1 : Memref sig .tc .vmem S2x128 .f32) (harg1 : arg1.IsWhole) (arg2 : Memref sig .tc .vmem S2x128 .i32) (harg2 : arg2.IsWhole) (arg3 : Memref sig .tc .hbm S30008x12288 .fp8e4m3) (harg3 : arg3.IsWhole) (arg4 : Memref sig .tc .hbm S30003 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S6x512x12288 .fp8e4m3) (harg7 : arg7.IsWhole) (arg8 : Memref sig .tc .vmem S256x12288 .fp8e4m3) (harg8 : arg8.IsWhole) (arg9 : Memref sig .tc .vmem S30003 .f32) (harg9 : arg9.IsWhole) (arg10 : Memref sig .tc .vmem S256x128 .i32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : DmaSems sig S6) (arg16 : DmaSems sig S_) (arg17 : DmaSems sig S_) (arg18 : DmaSems sig S_) (k0_t2 : Fin k0_t2_loop.trips) (s : Mxu F) (k0_h5 : ¬ k0_cond5 k0_t2 = 1#1) (k0_h6 : ¬ k0_cond6 k0_t2 = 1#1) (k0_h7 : k0_cond7 k0_t2 = 1#1) (k0_h8 : ¬ k0_cond8 k0_t2 = 1#1) (k0_h9 : ¬ k0_cond9 k0_t2 = 1#1) (k0_h10 : ¬ k0_cond10 k0_t2 = 1#1) : tripBody arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 s =
    (Head.waitF arg3 arg7 arg15 (k0_off111 k0_t2 0) (k0_off111_inb k0_t2 0) (k0_off112 k0_t2 0) (k0_off112_inb k0_t2 0) (harg3.wordExact_slice rfl _ (k0_off112_wordsfp8e4m3 k0_t2)) ((harg7.wordExact_slice rfl _ (k0_off111_wordsfp8e4m3 k0_t2)).reshape _ _) <|
    Head.blockK arg7 arg8 (k0_off118 k0_t2 0) (k0_off118_inb k0_t2 0) 0 (by decide) (Head.drainK arg9 arg10 arg11 arg12 arg13 arg14 (Scalar.muli (Scalar.subi (jw k0_t2) 1#32) 512#32) (hcb1 k0_t2) 1 (by decide)) s fun s =>
    Head.waitL arg3 arg7 arg18.sem (k0_off215 k0_t2 0) (k0_off215_inb k0_t2 k0_h7 0) (k0_off216 k0_t2 0) (k0_off216_inb k0_t2 k0_h7 0) (harg3.wordExact_slice rfl _ (k0_off216_wordsfp8e4m3 k0_t2 k0_h7)) ((harg7.wordExact_slice rfl _ (k0_off215_wordsfp8e4m3 k0_t2 k0_h7)).reshape _ _) <|
    Head.blockK arg7 arg8 (k0_off225 k0_t2 0) (k0_off225_inb k0_t2 0) 1 (by decide) (Head.drainK arg9 arg10 arg11 arg12 arg13 arg14 (Scalar.muli (jw k0_t2) 512#32) (hcb2 k0_t2) 0 (by decide)) s fun s => .ret (0#32, s)) := by
  rw [trip_D_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 s k0_h5 k0_h6 k0_h7 k0_h8 k0_h9 k0_h10]
  sl_kernel_rfl

/-- The kernel up to its first loop. -/
theorem body_eq (arg0 : Memref sig .tc .hbm S256x12288 .fp8e4m3) (harg0 : arg0.IsWhole) (arg1 : Memref sig .tc .vmem S2x128 .f32) (harg1 : arg1.IsWhole) (arg2 : Memref sig .tc .vmem S2x128 .i32) (harg2 : arg2.IsWhole) (arg3 : Memref sig .tc .hbm S30008x12288 .fp8e4m3) (harg3 : arg3.IsWhole) (arg4 : Memref sig .tc .hbm S30003 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S6x512x12288 .fp8e4m3) (harg7 : arg7.IsWhole) (arg8 : Memref sig .tc .vmem S256x12288 .fp8e4m3) (harg8 : arg8.IsWhole) (arg9 : Memref sig .tc .vmem S30003 .f32) (harg9 : arg9.IsWhole) (arg10 : Memref sig .tc .vmem S256x128 .i32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : DmaSems sig S6) (arg16 : DmaSems sig S_) (arg17 : DmaSems sig S_) (arg18 : DmaSems sig S_) : cc0_adaptive_softmax (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 =
    Head.copiesK arg0 arg4 arg8 arg9 arg16.sem arg17.sem harg0.wordExact harg8.wordExact harg4.wordExact harg9.wordExact
      ((Scf.Loop.for k0_t1_loop k0_t1_ok ⟨⟩ (fun k0_t1 _ => loop1Body arg3 harg3 arg7 harg7 arg15 arg18 k0_t1) >>= fun _ => tail80 arg2 arg10) >>= K80 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18) := by
  sl_kernel_rfl

/-- From there to the second. -/
theorem mid_eq (arg0 : Memref sig .tc .hbm S256x12288 .fp8e4m3) (harg0 : arg0.IsWhole) (arg1 : Memref sig .tc .vmem S2x128 .f32) (harg1 : arg1.IsWhole) (arg2 : Memref sig .tc .vmem S2x128 .i32) (harg2 : arg2.IsWhole) (arg3 : Memref sig .tc .hbm S30008x12288 .fp8e4m3) (harg3 : arg3.IsWhole) (arg4 : Memref sig .tc .hbm S30003 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S6x512x12288 .fp8e4m3) (harg7 : arg7.IsWhole) (arg8 : Memref sig .tc .vmem S256x12288 .fp8e4m3) (harg8 : arg8.IsWhole) (arg9 : Memref sig .tc .vmem S30003 .f32) (harg9 : arg9.IsWhole) (arg10 : Memref sig .tc .vmem S256x128 .i32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : DmaSems sig S6) (arg16 : DmaSems sig S_) (arg17 : DmaSems sig S_) (arg18 : DmaSems sig S_) : (tail80 (F := F) arg2 arg10 >>= K80 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18) =
    Head.tgtK arg2 arg10 0 (by decide) (Head.tgtK arg2 arg10 1 (by decide) <|
    Head.prepK arg0 arg1 arg4 arg8 arg9 arg11 arg12 arg13 arg14 arg16.sem arg17.sem (Named.named κ "log2e" 0x3FB8AA3B#32) harg0.wordExact harg8.wordExact harg4.wordExact harg9.wordExact <|
    Head.waitF arg3 arg7 arg15 (k0_off7 0) (k0_off7_inb 0) (k0_off8 0) (k0_off8_inb 0) (harg3.wordExact_slice rfl _ k0_off8_wordsfp8e4m3) ((harg7.wordExact_slice rfl _ k0_off7_wordsfp8e4m3).reshape _ _) <|
    Head.startF arg3 arg7 arg15 (k0_off10 0) (k0_off10_inb (by decide) 0) (k0_off11 0) (k0_off11_inb (by decide) 0) (harg3.wordExact_slice rfl _ (k0_off11_wordsfp8e4m3 (by decide))) ((harg7.wordExact_slice rfl _ (k0_off10_wordsfp8e4m3 (by decide))).reshape _ _) <|
    Head.blockK arg7 arg8 (k0_off7 0) (k0_off7_inb 0) 1 (by decide) (fun _ _ s K => K s) Mxu.init fun s =>
    (Scf.Loop.for k0_t2_loop k0_t2_ok (0#32, s) (fun k0_t2 x => tripBody arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 x.2) >>= fun r => tail113 arg9 arg10 arg11 arg12 arg14 r.2) >>= K113 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18) := by
  sl_kernel_rfl

/-- And from there to the end. -/
theorem fin_eq (arg0 : Memref sig .tc .hbm S256x12288 .fp8e4m3) (harg0 : arg0.IsWhole) (arg1 : Memref sig .tc .vmem S2x128 .f32) (harg1 : arg1.IsWhole) (arg2 : Memref sig .tc .vmem S2x128 .i32) (harg2 : arg2.IsWhole) (arg3 : Memref sig .tc .hbm S30008x12288 .fp8e4m3) (harg3 : arg3.IsWhole) (arg4 : Memref sig .tc .hbm S30003 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S6x512x12288 .fp8e4m3) (harg7 : arg7.IsWhole) (arg8 : Memref sig .tc .vmem S256x12288 .fp8e4m3) (harg8 : arg8.IsWhole) (arg9 : Memref sig .tc .vmem S30003 .f32) (harg9 : arg9.IsWhole) (arg10 : Memref sig .tc .vmem S256x128 .i32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : DmaSems sig S6) (arg16 : DmaSems sig S_) (arg17 : DmaSems sig S_) (arg18 : DmaSems sig S_) (s : Mxu F) : (tail113 arg9 arg10 arg11 arg12 arg14 s >>= K113 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18) =
    Head.finK arg5 arg6 arg9 arg10 arg11 arg12 arg13 arg14 (Named.named κ "ln2" 0x3F317218#32) s (.ret ⟨⟩) := by
  sl_kernel_rfl

/-- A trip of the loop that fills the ring. -/
theorem loop1_eq (arg3 : Memref sig .tc .hbm S30008x12288 .fp8e4m3) (harg3 : arg3.IsWhole) (arg7 : Memref sig .tc .vmem S6x512x12288 .fp8e4m3) (harg7 : arg7.IsWhole) (arg15 : DmaSems sig S6) (arg18 : DmaSems sig S_) (k0_t1 : Fin k0_t1_loop.trips) (k0_h1 : k0_cond1 k0_t1 = 1#1) (k0_h2 : ¬ k0_cond2 k0_t1 = 1#1) : loop1Body (F := F) arg3 harg3 arg7 harg7 arg15 arg18 k0_t1 =
    Head.startF arg3 arg7 arg15 (k0_off2 k0_t1 0) (k0_off2_inb k0_t1 k0_h1 0) (k0_off3 k0_t1 0) (k0_off3_inb k0_t1 k0_h1 0) (harg3.wordExact_slice rfl _ (k0_off3_wordsfp8e4m3 k0_t1 k0_h1)) ((harg7.wordExact_slice rfl _ (k0_off2_wordsfp8e4m3 k0_t1 k0_h1)).reshape _ _) (.ret ⟨⟩) := by
  unfold loop1Body
  simp only [dif_pos k0_h1, dif_neg k0_h2]
  sl_kernel_rfl

end Cert.KernelIdeal
-- ==== Proof.RunI.lean ====
/- The printed kernel run: from its resources to its results. -/
module

public import proofs.«01_k».proof.Proof.PrepWp
public import proofs.«01_k».proof.Proof.EqI

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.Head (BOwn BPre BPost Fst MI TI JI srcP ent_eq)

variable {F : FTy → Type} [FloatOps F] [Named F]
variable [Facts]
open Facts₀ Facts

local notation "𝕄" => MT nD τ sig Unit (Elt F) ℕ (UR sig nD τ × Counters) ℕ

/-! ## The words of a trip -/

theorem trips1 : k0_t1_loop.trips = 5 := by decide
theorem trips2 : k0_t2_loop.trips = 29 := by decide
theorem first_c1 : ∀ t : Fin k0_t1_loop.trips, k0_cond1 t = 1#1 := by decide +kernel
theorem first_c2 : ∀ t : Fin k0_t1_loop.trips, ¬ k0_cond2 t = 1#1 := by decide +kernel
theorem first_sl : ∀ t : Fin k0_t1_loop.trips, k0_off2 t 0 = t.val % 6 := by decide +kernel
theorem first_row : ∀ t : Fin k0_t1_loop.trips, k0_off3 t 0 = 512 * t.val := by decide +kernel
theorem w_c5 : ∀ t : Fin k0_t2_loop.trips, k0_cond5 t = 1#1 ↔ t.val ≤ 25 := by decide +kernel
theorem w_c6 : ∀ t : Fin k0_t2_loop.trips, k0_cond6 t = 1#1 ↔ t.val = 26 := by decide +kernel
theorem w_c7 : ∀ t : Fin k0_t2_loop.trips, k0_cond7 t = 1#1 ↔ t.val = 28 := by decide +kernel
theorem w_c8 : ∀ t : Fin k0_t2_loop.trips, k0_cond8 t = 1#1 ↔ t.val ≤ 27 := by decide +kernel
theorem w_c9 : ∀ t : Fin k0_t2_loop.trips, k0_cond9 t = 1#1 ↔ t.val ≤ 25 := by decide +kernel
theorem w_c10 : ∀ t : Fin k0_t2_loop.trips, ¬ k0_cond10 t = 1#1 := by decide +kernel
theorem w_111 : ∀ t : Fin k0_t2_loop.trips, k0_off111 t 0 = (2 * t.val + 1) % 6 := by decide +kernel
theorem w_118 : ∀ t : Fin k0_t2_loop.trips, k0_off118 t 0 = (2 * t.val + 1) % 6 := by decide +kernel
theorem w_114 : ∀ t : Fin k0_t2_loop.trips, k0_off114 t 0 = (2 * t.val + 1 + 5) % 6 := by decide +kernel
theorem w_115 : ∀ t : Fin k0_t2_loop.trips, k0_off115 t 0 = 512 * (2 * t.val + 1 + 5) := by decide +kernel
theorem w_116 : ∀ t : Fin k0_t2_loop.trips, k0_off116 t 0 = (2 * t.val + 1 + 5) % 6 := by decide +kernel
theorem w_117 : ∀ t : Fin k0_t2_loop.trips, k0_off117 t 0 = 512 * (2 * t.val + 1 + 5) := by decide +kernel
theorem w_218 : ∀ t : Fin k0_t2_loop.trips, k0_off218 t 0 = (2 * t.val + 1 + 1) % 6 := by decide +kernel
theorem w_215 : ∀ t : Fin k0_t2_loop.trips, k0_off215 t 0 = (2 * t.val + 1 + 1) % 6 := by decide +kernel
theorem w_225 : ∀ t : Fin k0_t2_loop.trips, k0_off225 t 0 = (2 * t.val + 1 + 1) % 6 := by decide +kernel
theorem w_221 : ∀ t : Fin k0_t2_loop.trips, k0_off221 t 0 = (2 * t.val + 1 + 1 + 5) % 6 := by decide +kernel
theorem w_222 : ∀ t : Fin k0_t2_loop.trips, k0_off222 t 0 = 512 * (2 * t.val + 1 + 1 + 5) := by decide +kernel
theorem w_cb1 : ∀ t : Fin k0_t2_loop.trips, Scalar.muli (Scalar.subi (jw t) 1#32) 512#32 = BitVec.ofNat 32 (512 * (2 * t.val + 1 - 1)) := by decide +kernel
theorem w_cb2 : ∀ t : Fin k0_t2_loop.trips, Scalar.muli (jw t) 512#32 = BitVec.ofNat 32 (512 * (2 * t.val + 1 + 1 - 1)) := by decide +kernel

variable {defs : Defs nD τ sig (Elt F) Λ₀} {𝒱 : Variants} {bd : Option 𝒱.V}

variable (arg0 : Memref sig .tc .hbm S256x12288 .fp8e4m3) (harg0 : arg0.IsWhole) (arg1 : Memref sig .tc .vmem S2x128 .f32) (harg1 : arg1.IsWhole) (arg2 : Memref sig .tc .vmem S2x128 .i32) (harg2 : arg2.IsWhole) (arg3 : Memref sig .tc .hbm S30008x12288 .fp8e4m3) (harg3 : arg3.IsWhole) (arg4 : Memref sig .tc .hbm S30003 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S6x512x12288 .fp8e4m3) (harg7 : arg7.IsWhole) (arg8 : Memref sig .tc .vmem S256x12288 .fp8e4m3) (harg8 : arg8.IsWhole) (arg9 : Memref sig .tc .vmem S30003 .f32) (harg9 : arg9.IsWhole) (arg10 : Memref sig .tc .vmem S256x128 .i32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : DmaSems sig S6) (arg16 : DmaSems sig S_) (arg17 : DmaSems sig S_) (arg18 : DmaSems sig S_)
  (c : Dev nD) (fx : Buf (Elt F) (arg0.view.loc (c : Thread nD τ))) (fs : Buf (Elt F) (arg4.view.loc (c : Thread nD τ))) (fw : Buf (Elt F) (arg3.view.loc (c : Thread nD τ)))
  (XS : S2x128.Idx → F .f32) (HC : S2x128.Idx → BitVec 32)

/-- A trip. -/
theorem trip_wp (t : Fin k0_t2_loop.trips) (s : Mxu F) {WC : S30003.Idx → F .f32} {TG : S256x128.Idx → BitVec 32} {RSv : S256x128.Idx → F .f32} {σ : Head.St F} {X : S256x12288.Idx → Elt F .fp8e4m3}
    {G : sProp (MT nD τ sig Unit (Elt F) ℕ (UR sig nD τ × Counters) ℕ)} (H : MI X (arg3.view.read (Elt F) fw) (2 * t.val + 1) s) :
    JI c arg3 arg7 arg8 arg9 arg10 arg11 arg12 arg13 arg14 arg15 arg18.sem fw WC TG RSv σ X G (2 * t.val + 1)
      ⊢ (wp frame (wpE defs 𝒱 (c : Thread nD τ) bd) Set.univ (tripBody arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 t s)
          (TI c arg3 arg7 arg8 arg9 arg10 arg11 arg12 arg13 arg14 arg15 arg18.sem fw WC TG RSv σ X G (t.val + 1)) : sProp 𝕄) := by
  have ht : t.val < 29 := trips2 ▸ t.isLt
  by_cases hA : t.val ≤ 25
  · rw [tripP_A arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 t s ((w_c5 t).2 hA) (fun h => by have := (w_c6 t).1 h; omega) (fun h => by have := (w_c7 t).1 h; omega) ((w_c8 t).2 (by omega)) ((w_c9 t).2 hA) (w_c10 t)]
    exact Head.wp_tripA hA (w_111 t) (w_118 t) (w_225 t) (w_114 t) (w_115 t) (w_218 t) (w_221 t) (w_222 t) (w_cb1 t) (w_cb2 t) H
  by_cases hB : t.val = 26
  · rw [tripP_B arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 t s (fun h => by have := (w_c5 t).1 h; omega) ((w_c6 t).2 hB) (fun h => by have := (w_c7 t).1 h; omega) ((w_c8 t).2 (by omega)) (fun h => by have := (w_c9 t).1 h; omega) (w_c10 t)]
    exact Head.wp_tripB hB (w_111 t) (w_118 t) (w_225 t) (w_116 t) (w_117 t) (w_218 t) (w_cb1 t) (w_cb2 t) H
  by_cases hC : t.val = 27
  · rw [tripP_C arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 t s (fun h => by have := (w_c5 t).1 h; omega) (fun h => by have := (w_c6 t).1 h; omega) (fun h => by have := (w_c7 t).1 h; omega) ((w_c8 t).2 (by omega)) (fun h => by have := (w_c9 t).1 h; omega) (w_c10 t)]
    exact Head.wp_tripC hC (w_111 t) (w_118 t) (w_225 t) (w_218 t) (w_cb1 t) (w_cb2 t) H
  have hD : t.val = 28 := by omega
  · rw [tripP_D arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 t s (fun h => by have := (w_c5 t).1 h; omega) (fun h => by have := (w_c6 t).1 h; omega) ((w_c7 t).2 hD) (fun h => by have := (w_c8 t).1 h; omega) (fun h => by have := (w_c9 t).1 h; omega) (w_c10 t)]
    exact Head.wp_tripD hD (w_111 t) (w_118 t) (w_225 t) (w_cb1 t) (w_cb2 t) (w_215 t) H

/-- A copy of the ring's first five. -/
theorem first_wp (t : Fin k0_t1_loop.trips) :
    Fst c arg3 arg7 arg15 fw t.val ⊢ (wp frame (wpE defs 𝒱 (c : Thread nD τ) bd) Set.univ (loop1Body arg3 harg3 arg7 harg7 arg15 arg18 t) (fun _ => Fst c arg3 arg7 arg15 fw (t.val + 1)) : sProp 𝕄) := by
  have ht : t.val < 5 := trips1 ▸ t.isLt
  rw [loop1_eq arg3 harg3 arg7 harg7 arg15 arg18 t (first_c1 t) (first_c2 t)]
  iintro H
  iapply (Head.wp_first c arg3 arg7 arg15 fw ht (first_sl t) (first_row t)) $$ H
  rw [wp_ret]
  iintro H
  imodintro
  iexact H

/-- What the trips leave alone. -/
def Side (A0 L0 : S2x128.Idx → F .f32) : sProp 𝕄 :=
  iprop(owns (c : Thread nD τ) arg5 fullShare A0 ∗ owns (c : Thread nD τ) arg6 fullShare L0
    ∗ srcP c arg0 fx ∗ semVal ((c : Thread nD τ), SemLoc.dma arg16.sem) 0 ∗ srcP c arg4 fs ∗ semVal ((c : Thread nD τ), SemLoc.dma arg17.sem) 0
    ∗ owns (c : Thread nD τ) arg1 fullShare XS ∗ owns (Val := Elt F) (c : Thread nD τ) arg2 fullShare HC)

/-- The body's post. -/
abbrev BP : sProp 𝕄 := BPost c arg0 arg1 arg2 arg3 arg4 arg5 arg6 arg7 arg8 arg9 arg10 arg11 arg12 arg13 arg14 arg15 arg16.sem arg17.sem arg18.sem fx fs fw XS HC (Named.named κ "log2e" 0x3FB8AA3B#32) (Named.named κ "ln2" 0x3F317218#32)

/-- After the trips. -/
theorem fin_wp (n : ℕ) (hn : n = 59) (s : Mxu F) (H : MI (arg0.view.read (Elt F) fx) (arg3.view.read (Elt F) fw) n s) (A0 L0 : S2x128.Idx → F .f32) :
    JI c arg3 arg7 arg8 arg9 arg10 arg11 arg12 arg13 arg14 arg15 arg18.sem fw (arg4.view.read (Elt F) fs) (Head.TGof HC) (Head.RSof (Named.named κ "log2e" 0x3FB8AA3B#32) XS) Head.st0 (arg0.view.read (Elt F) fx)
        (Side arg0 arg1 arg2 arg4 arg5 arg6 arg16 arg17 c fx fs XS HC A0 L0) n
      ⊢ (wp frame (wpE defs 𝒱 (c : Thread nD τ) bd) Set.univ (tail113 arg9 arg10 arg11 arg12 arg14 s >>= K113 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18)
          (fun _ => BP arg0 arg1 arg2 arg3 arg4 arg5 arg6 arg7 arg8 arg9 arg10 arg11 arg12 arg13 arg14 arg15 arg16 arg17 arg18 c fx fs fw XS HC) : sProp 𝕄) := by
  subst hn
  rw [fin_eq]
  have sh : ∀ (P1 P2 P3 P4 P5 P6 : sProp 𝕄), iprop(P1 ∗ P2 ∗ P3 ∗ (P4 ∗ P5 ∗ P6)) ⊢ iprop(P3 ∗ P4 ∗ P5 ∗ (P6 ∗ P1 ∗ P2)) := by
    intro P1 P2 P3 P4 P5 P6
    iintro ⟨H1, H2, H3, H4, H5, H6⟩
    isplitl [H3]; · iexact H3
    isplitl [H4]; · iexact H4
    isplitl [H5]; · iexact H5
    isplitl [H6]; · iexact H6
    isplitl [H1]; · iexact H1
    iexact H2
  unfold JI Side
  refine (sh _ _ _ _ _ _).trans ?_
  refine Head.wp_finK (B := Head.blk (arg3.view.read (Elt F) fw) 58) (X := arg0.view.read (Elt F) fx) H ?_
  rw [wp_ret]
  refine BIBase.Entails.trans ?_ fupd_intro
  unfold BP BPost BOwn Head.CT Head.PT Head.stE
  iintro ⟨⟨⟨HW, Htg, Hrs⟩, Hm, Hs, Ht⟩, Hlp, Hlse, ⟨HXs, HXc, HWs, HWc, Hxs, Hhc⟩, HR, HX⟩
  ihave HR' := (Head.RS_end c arg3 arg7 arg15 arg18.sem fw) $$ HR
  icases HR' with ⟨HF, HD, HL, Ho⟩
  isplitl [HX HXs HXc HW HWs HWc Hxs Hhc Htg Hrs Hm Hs Ht HL Ho]
  · isplitl [HX HXs HXc]
    · isplitl [HX]; · iexists _; iexact HX
      isplitl [HXs]; · iexact HXs
      iexact HXc
    isplitl [HW HWs HWc]
    · isplitl [HW]; · iexists _; iexact HW
      isplitl [HWs]; · iexact HWs
      iexact HWc
    isplitl [Hxs]; · iexact Hxs
    isplitl [Hhc]; · iexact Hhc
    isplitl [Htg]; · iexists _; iexact Htg
    isplitl [Hrs]; · iexists _; iexact Hrs
    isplitl [Hm]; · iexists _; iexact Hm
    isplitl [Hs]; · iexists _; iexact Hs
    isplitl [Ht]; · iexists _; iexact Ht
    isplitl [HL]; · iexact HL
    iexact Ho
  isplitl [HF HD]
  · isplitl [HF]; · iexact HF
    iexact HD
  isplitl [Hlp]; · iexact Hlp
  iexact Hlse

/-- From the first block's end. -/
theorem loop_wp (s : Mxu F) (H : MI (arg0.view.read (Elt F) fx) (arg3.view.read (Elt F) fw) 1 s) (A0 L0 : S2x128.Idx → F .f32) :
    JI c arg3 arg7 arg8 arg9 arg10 arg11 arg12 arg13 arg14 arg15 arg18.sem fw (arg4.view.read (Elt F) fs) (Head.TGof HC) (Head.RSof (Named.named κ "log2e" 0x3FB8AA3B#32) XS) Head.st0 (arg0.view.read (Elt F) fx)
        (Side arg0 arg1 arg2 arg4 arg5 arg6 arg16 arg17 c fx fs XS HC A0 L0) 1
      ⊢ (wp frame (wpE defs 𝒱 (c : Thread nD τ) bd) Set.univ ((Scf.Loop.for k0_t2_loop k0_t2_ok (0#32, s) (fun k0_t2 x => tripBody arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 k0_t2 x.2) >>= fun r => tail113 arg9 arg10 arg11 arg12 arg14 r.2) >>= K113 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18)
          (fun _ => BP arg0 arg1 arg2 arg3 arg4 arg5 arg6 arg7 arg8 arg9 arg10 arg11 arg12 arg13 arg14 arg15 arg16 arg17 arg18 c fx fs fw XS HC) : sProp 𝕄) := by
  rw [Prog.bind_assoc]
  iintro HJ
  iapply (Scf.wp_for_bind frame (wpE defs 𝒱 (c : Thread nD τ) bd) Set.univ k0_t2_loop.lb k0_t2_loop.ub k0_t2_loop.st k0_t2_ok _ _
    (fun t r => TI c arg3 arg7 arg8 arg9 arg10 arg11 arg12 arg13 arg14 arg15 arg18.sem fw (arg4.view.read (Elt F) fs) (Head.TGof HC) (Head.RSof (Named.named κ "log2e" 0x3FB8AA3B#32) XS) Head.st0 (arg0.view.read (Elt F) fx)
        (Side arg0 arg1 arg2 arg4 arg5 arg6 arg16 arg17 c fx fs XS HC A0 L0) t r) (fun t r => by
      unfold TI
      iintro ⟨%h, HJ⟩
      iapply (trip_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 c fw t r.2 h) $$ HJ)) $$ [HJ]
  · unfold TI
    isplitr [HJ]; · ipureintro; exact H
    iexact HJ
  iintro %r HT
  unfold TI
  icases HT with ⟨%h, HJ⟩
  iapply (fin_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 c fx fs fw XS HC _ (congrArg (fun k => 2 * k + 1) trips2) r.2 h A0 L0) $$ HJ

/-- The body. -/
theorem body_wp : BPre c arg0 arg1 arg2 arg3 arg4 arg5 arg6 arg7 arg8 arg9 arg10 arg11 arg12 arg13 arg14 arg15 arg16.sem arg17.sem arg18.sem fx fs fw XS HC
    ⊢ (wp frame (wpE defs 𝒱 (c : Thread nD τ) bd) Set.univ (cc0_adaptive_softmax arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18)
        (fun _ => BPost c arg0 arg1 arg2 arg3 arg4 arg5 arg6 arg7 arg8 arg9 arg10 arg11 arg12 arg13 arg14 arg15 arg16.sem arg17.sem arg18.sem fx fs fw XS HC (Named.named κ "log2e" 0x3FB8AA3B#32) (Named.named κ "ln2" 0x3F317218#32)) : sProp 𝕄) := by
  rw [body_eq]
  unfold BPre BOwn Head.copiesK
  iintro ⟨⟨⟨⟨%X0, HX⟩, HXs, HXc⟩, ⟨⟨%W0, HW⟩, HWs, HWc⟩, Hxs, Hhc, ⟨%T0, Htg⟩, ⟨%R0, Hrs⟩, ⟨%M0, Hm⟩, ⟨%S0, Hs⟩, ⟨%U0, Ht⟩, HL, Ho⟩, ⟨HF, HF5, HD⟩, ⟨%A0, Hlp⟩, ⟨%L0, Hlse⟩⟩
  iapply (Head.wp_whole (by decide)) $$ [HX HXs HXc]
  · isplitl [HX]; · iexact HX
    isplitl [HXs]; · iexact HXs
    iexact HXc
  iintro HX
  iapply (Head.wp_whole (by decide)) $$ [HW HWs HWc]
  · isplitl [HW]; · iexact HW
    isplitl [HWs]; · iexact HWs
    iexact HWc
  iintro HW
  irw [Prog.bind_assoc]
  iapply (Scf.wp_for_bind frame (wpE defs 𝒱 (c : Thread nD τ) bd) Set.univ k0_t1_loop.lb k0_t1_loop.ub k0_t1_loop.st k0_t1_ok _ _
    (fun t _ => Fst c arg3 arg7 arg15 fw t) (fun t _ => first_wp arg3 harg3 arg7 harg7 arg15 arg18 c fw t)) $$ HF
  iintro %u HF
  irw [mid_eq]
  iapply Head.wp_tgtK $$ [Hhc Htg]
  · isplitl [Hhc]; · iexact Hhc
    iexact Htg
  iintro ⟨Hhc, Htg⟩
  iapply Head.wp_tgtK $$ [Hhc Htg]
  · isplitl [Hhc]; · iexact Hhc
    iexact Htg
  irw [Head.hv_eq]
  iintro ⟨Hhc, Htg⟩
  iapply Head.wp_prepK $$ [HX HW Hxs Hrs Hm Hs Ht Ho]
  · isplitl [HX]; · iexact HX
    isplitl [HW]; · iexact HW
    isplitl [Hxs]; · iexact Hxs
    isplitl [Hrs]; · iexact Hrs
    isplitl [Hm]; · iexact Hm
    isplitl [Hs]; · iexact Hs
    isplitl [Ht]; · iexact Ht
    iexact Ho
  iintro ⟨⟨HX, HXs, HXc⟩, ⟨HW, HWs, HWc⟩, Hxs, Hrs, HP, Ho⟩
  ihave HR := (Head.Fst_RS c arg3 arg7 arg15 arg18.sem fw) $$ [HF HF5 HD HL Ho]
  · isplitl [HF]; · iexact HF
    isplitl [HF5]; · iexact HF5
    isplitl [HD]; · iexact HD
    isplitl [HL]; · iexact HL
    iexact Ho
  iapply (Head.RS_WS c arg3 arg7 arg15 arg18.sem fw (j := 0) (by omega) (by rfl) (by rfl) (by rfl)) $$ HR
  iintro ⟨HB, HQ⟩
  ihave HB := (ent_eq (Head.owns_slot c arg7 (a := 0 % 6) (b := k0_off7 0) (by rfl) _ (k0_off7_inb 0) _)) $$ HB
  iapply (Head.wp_block0 (B := Head.blk (arg3.view.read (Elt F) fw) 0) (X := arg0.view.read (Elt F) fx)
    (G := iprop(Head.RQ c arg3 arg7 arg15 arg18.sem fw 0 ∗ (Head.CT c arg9 arg10 arg11 (arg4.view.read (Elt F) fs) (Head.TGof HC) (Head.RSof (Named.named κ "log2e" 0x3FB8AA3B#32) XS) ∗ Head.PT c arg12 arg13 arg14 Head.st0)
      ∗ Side arg0 arg1 arg2 arg4 arg5 arg6 arg16 arg17 c fx fs XS HC A0 L0)) (fun s' H' => BIBase.Entails.trans (by
        iintro ⟨HX, HB, HQ, HC, HG⟩
        unfold JI
        ihave HB := (ent_eq (Head.owns_slot c arg7 (a := k0_off7 0) (b := 0 % 6) (by rfl) (k0_off7_inb 0) _ _)) $$ HB
        isplitl [HB HQ]
        · iapply (Head.RQ_next c arg3 arg7 arg15 arg18.sem fw 0)
          isplitl [HB]; · iexact HB
          iexact HQ
        isplitl [HX]; · iexact HX
        isplitl [HC]; · iexact HC
        iexact HG) (loop_wp arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 arg18 c fx fs fw XS HC s' H' A0 L0)))
  isplitl [HX]; · iexact HX
  isplitl [HB]; · iexact HB
  isplitl [HQ]; · iexact HQ
  isplitl [HW Htg Hrs HP]
  · isplitl [HW Htg Hrs]
    · unfold Head.CT
      isplitl [HW]; · iexact HW
      isplitl [Htg]; · iexact Htg
      iexact Hrs
    iexact HP
  unfold Side
  isplitl [Hlp]; · iexact Hlp
  isplitl [Hlse]; · iexact Hlse
  isplitl [HXs]; · iexact HXs
  isplitl [HXc]; · iexact HXc
  isplitl [HWs]; · iexact HWs
  isplitl [HWc]; · iexact HWc
  isplitl [Hxs]; · iexact Hxs
  iexact Hhc

end Cert.KernelIdeal

end
-- ==== Proof.LaunchI.lean ====
/- The printed program run from launch to its end: what its results are, and that it changes nothing else. -/
module

public import proofs.«01_k».proof.Proof.RunI
public import proofs.«01_k».proof.Proof.Gen.KernelIdeal.Frame
public import Idealize.ShloMosaic.Lib.Pipeline.KitQuiescent
public import Idealize.ShloMosaic.Lib.Pipeline.FrameBody
public import Idealize.ShloMosaic.Lib.Ring

@[expose] public section

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
open Cert.Head (BOwn BPre BPost srcP ent_eq span mem_span m6)

variable {F : FTy → Type} [FloatOps F] [Named F]

/-- The pipeline's algebra beside the counters that the kernel's own copies use. -/
abbrev UU (nD : Nat) (τ : Topo) : Type := UR sig nD τ × Counters
local notation "𝕄" => MT nD τ sig Unit (Elt F) ℕ (UR sig nD τ × Counters) ℕ
abbrev EP : Emb (UR sig nD τ) (MT nD τ sig Unit (Elt F) ℕ (UR sig nD τ × Counters) ℕ) := embL
abbrev 𝒱₀ : Variants := Variants.none

variable (m : (ℓ : Loc nD τ sig) → Buf (Elt F) ℓ) (ρ : Dev nD → PrngReg)

/-! ## The ring's slots -/

abbrev ringM : Memref sig .tc .vmem S6x512x12288 .fp8e4m3 := Memref.whole cc0_scratch0
abbrev wM : Memref sig .tc .hbm S30008x12288 .fp8e4m3 := Memref.whole main_v1

theorem slotOff_inb (s : Fin 6) : ∀ a, (![s.val, 0, 0] : Fin 3 → ℕ) a + S1x512x12288.size a ≤ S6x512x12288.size a := by
  have := s.isLt; intro a; fin_cases a
  · show s.val + 1 ≤ 6; omega
  · show 0 + 512 ≤ 512; omega
  · show 0 + 12288 ≤ 12288; omega

/-- The elements of slot `s`. -/
abbrev SS (s : Fin 6) : Finset S6x512x12288.Idx := (Rect.unit (s := S6x512x12288) ![s.val, 0, 0] S1x512x12288.size (slotOff_inb s)).set

theorem slot_set (s : Fin 6) : (Head.slot ringM s.val s.isLt).view.set = SS s := (View.set_reshape _ _).trans (View.set_slice_whole _ _)

theorem mem_SS (s : Fin 6) (y : S6x512x12288.Idx) : y ∈ SS s ↔ (y 0).val = s.val := by
  rw [Rect.mem_set_unit]
  have h1 : (y 1).val < 512 := (y 1).isLt
  have h2 : (y 2).val < 12288 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 12288; omega

theorem SS_disjoint : ∀ s s' : Fin 6, s ≠ s' → Disjoint (SS s) (SS s') := by
  intro s s' hne; rw [Finset.disjoint_left]; intro y hy hy'; rw [mem_SS] at hy hy'; exact hne (Fin.ext (hy.symm.trans hy'))
theorem SS_cover : (Finset.univ : Finset (Fin 6)).biUnion SS = Finset.univ := by
  ext y; simp only [Finset.mem_biUnion, Finset.mem_univ, true_and, iff_true]; exact ⟨⟨(y 0).val, (y 0).isLt⟩, by rw [mem_SS]⟩

/-- Slot `s` at anything. -/
def anyS (c : Dev nD) (s : Fin 6) : sProp 𝕄 := iprop(∃ X : S512x12288.Idx → Elt F .fp8e4m3, owns (c : Thread nD τ) (Head.slot ringM s.val s.isLt) fullShare X)

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), (1 : Fin 6), (2 : Fin 6), (3 : Fin 6), (4 : Fin 6), (5 : Fin 6)] (by decide) (by decide) Φ

theorem anyS_in (c : Dev nD) (s : Fin 6) (f : Buf (Elt F) ((c : Thread nD τ).loc cc0_scratch0)) :
    (((c : Thread nD τ).loc cc0_scratch0) ↦[SS s]{fullShare} f : sProp 𝕄) ⊢ anyS c s := by
  unfold anyS owns
  iintro H
  iexists ((Head.slot ringM s.val s.isLt).view.read (Elt F) f)
  iexists f
  isplitr; · ipureintro; rfl
  irw [slot_set s]
  iexact H

theorem anyS_out (c : Dev nD) (s : Fin 6) :
    anyS c s ⊢ (iprop(∃ f : Buf (Elt F) ((c : Thread nD τ).loc cc0_scratch0), ((c : Thread nD τ).loc cc0_scratch0) ↦[SS s]{fullShare} f) : sProp 𝕄) := by
  unfold anyS owns
  iintro ⟨%X, %f, -, H⟩
  iexists f
  iapply (ent_eq (show ((Head.slot ringM s.val s.isLt).view.loc (c : Thread nD τ) ↦[(Head.slot ringM s.val s.isLt).view.set]{fullShare} f : sProp 𝕄) = _ by rw [slot_set s])) $$ H

/-- The ring whole is its six slots, and back. -/
theorem ring_split (c : Dev nD) :
    iprop(∃ f : Buf (Elt F) ((c : Thread nD τ).loc cc0_scratch0), ((c : Thread nD τ).loc cc0_scratch0) ↦{fullShare} f)
      ⊢ (bigSep Finset.univ (anyS c) : sProp 𝕄) := by
  iintro ⟨%f, H⟩
  ihave H2 := (ent_eq (Ring.pointsTo_blocks (Ix := Unit) (Name := ℕ) (U := UU nD τ) (Lvl := ℕ) (q := fullShare) (ℓ := (c : Thread nD τ).loc cc0_scratch0) SS SS_disjoint SS_cover f)) $$ H
  iapply (show (bigSep Finset.univ (fun s : Fin 6 => (((c : Thread nD τ).loc cc0_scratch0) ↦[SS s]{fullShare} f : sProp 𝕄))) ⊢ bigSep Finset.univ (anyS c) from bigSep_mono fun s _ => anyS_in c s f) $$ H2

theorem ring_join (c : Dev nD) : (bigSep Finset.univ (anyS c) : sProp 𝕄)
    ⊢ iprop(∃ f : Buf (Elt F) ((c : Thread nD τ).loc cc0_scratch0), ((c : Thread nD τ).loc cc0_scratch0) ↦{fullShare} f) := by
  refine (bigSep_mono fun s _ => anyS_out c s).trans ?_
  exact Ring.pointsTo_blocks_join_exists (ℓ := (c : Thread nD τ).loc cc0_scratch0) SS SS_disjoint SS_cover (fun _ => Classical.arbitrary _)

/-! ## The kernel's own semaphores -/

abbrev osem : Fin 9 → SemLoc sig := fun k => .dma (⟨4 + k.val, by have := k.isLt; show 4 + k.val < 13; omega⟩ : Fin 13)
theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0
      ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0) := by
  rw [Pipeline.ownSems0_eq_of_list c osem [0, 1, 2, 3, 4, 5, 6, 7, 8] (by decide) (by decide)]; rfl

theorem rsem_eq (s : Fin 6) : (SemLoc.dma (Head.rsem cc0_scratch8 s.val s.isLt) : SemLoc sig) = osem ⟨s.val, by have := s.isLt; omega⟩ := by
  revert s; decide

/-! ## The rows of the vocabulary -/

theorem span_all : span 0 (512 * 59) = Finset.univ := by
  ext y
  rw [mem_span]
  have h : (y 0).val < 30008 := (y 0).isLt
  exact ⟨fun _ => Finset.mem_univ _, fun _ => by omega⟩

theorem rows_all (c : Dev nD) (f : Buf (Elt F) (wM.view.loc (c : Thread nD τ))) :
    Head.rowsP c wM f 0 (512 * 59) = (((c : Thread nD τ).loc main_v1) ↦{fullShare} f : sProp 𝕄) := by
  unfold Head.rowsP
  rw [span_all]
  have : wM.view.setOn Finset.univ = Finset.univ := (show wM.view.setOn Finset.univ = wM.view.set from rfl).trans (View.set_whole _)
  rw [this]

theorem owns_in {b : Ref sig .tc} (c : Dev nD) (f : Buf (Elt F) ((c : Thread nD τ).loc b)) :
    (((c : Thread nD τ).loc b) ↦{fullShare} f : sProp 𝕄) ⊢ owns (c : Thread nD τ) (Memref.whole b) fullShare ((Memref.whole b).view.read (Elt F) f) := by
  unfold owns
  iintro H
  iexists f
  isplitr; · ipureintro; rfl
  iapply (ent_eq (show (((c : Thread nD τ).loc b) ↦{fullShare} f : sProp 𝕄) = _ by rw [show (Memref.whole b).view.set = Finset.univ from View.set_whole _])) $$ H

theorem owns_out {b : Ref sig .tc} (c : Dev nD) (X) :
    (owns (c : Thread nD τ) (Memref.whole b) fullShare X : sProp 𝕄) ⊢ iprop(∃ f : Buf (Elt F) ((c : Thread nD τ).loc b), ((c : Thread nD τ).loc b) ↦{fullShare} f) := by
  unfold owns
  iintro ⟨%f, -, H⟩
  iexists f
  iapply (ent_eq (show ((Memref.whole b).view.loc (c : Thread nD τ) ↦[(Memref.whole b).view.set]{fullShare} f : sProp 𝕄) = _ by rw [show (Memref.whole b).view.set = Finset.univ from View.set_whole _])) $$ H

theorem src_eq {b : Ref sig .tc} (c : Dev nD) (f : Buf (Elt F) ((c : Thread nD τ).loc b)) :
    (srcP c (Memref.whole b) f : sProp 𝕄) = (((c : Thread nD τ).loc b) ↦{fullShare} f) := by
  unfold srcP; rw [show (Memref.whole b).view.set = Finset.univ from View.set_whole _]

/-! ## The region's resources, as the body wants them -/

theorem sem_fin {s s' : Fin 9} (h : s = s') (c : Dev nD) : (semVal ((c : Thread nD τ), osem s) 0 : sProp 𝕄) ⊢ semVal ((c : Thread nD τ), osem s') 0 := by
  subst h; exact .rfl

theorem free_in (c : Dev nD) (fw : Buf (Elt F) (wM.view.loc (c : Thread nD τ))) {n : ℕ} (h : n < 6) (s : Fin 6) (e : n % 6 = s.val) (k : Fin 9) (e' : k.val = s.val) :
    iprop(anyS c s ∗ semVal ((c : Thread nD τ), osem k) 0) ⊢ (Head.Free c wM ringM cc0_scratch8 fw n : sProp 𝕄) := by
  obtain rfl : s = ⟨n % 6, m6 n⟩ := Fin.ext e.symm
  rw [show k = (⟨n % 6, Nat.lt_of_lt_of_le (m6 n) (by decide)⟩ : Fin 9) from Fin.ext e']
  unfold anyS Head.Free Head.cell
  iintro ⟨⟨%X, HX⟩, HS⟩
  isplitl [HX]
  · iexists X
    isplitr; · ipureintro; intro h'; omega
    iexact HX
  iapply (ent_eq (congrArg (fun l => (semVal ((c : Thread nD τ), l) 0 : sProp 𝕄)) (rsem_eq ⟨n % 6, m6 n⟩).symm)) $$ HS

theorem free_out (c : Dev nD) (fw : Buf (Elt F) (wM.view.loc (c : Thread nD τ))) {n : ℕ} (s : Fin 6) (e : n % 6 = s.val) (k : Fin 9) (e' : k.val = s.val) :
    (Head.Free c wM ringM cc0_scratch8 fw n : sProp 𝕄) ⊢ iprop(anyS c s ∗ semVal ((c : Thread nD τ), osem k) 0) := by
  obtain rfl : s = ⟨n % 6, m6 n⟩ := Fin.ext e.symm
  rw [show k = (⟨n % 6, Nat.lt_of_lt_of_le (m6 n) (by decide)⟩ : Fin 9) from Fin.ext e']
  unfold anyS Head.Free Head.cell
  iintro ⟨⟨%X, -, HX⟩, HS⟩
  isplitl [HX]
  · iexists X; iexact HX
  iapply (ent_eq (congrArg (fun l => (semVal ((c : Thread nD τ), l) 0 : sProp 𝕄)) (rsem_eq ⟨n % 6, m6 n⟩))) $$ HS

theorem ex_in {b : Ref sig .tc} (c : Dev nD) :
    iprop(∃ f : Buf (Elt F) ((c : Thread nD τ).loc b), ((c : Thread nD τ).loc b) ↦{fullShare} f) ⊢ (iprop(∃ X, owns (c : Thread nD τ) (Memref.whole b) fullShare X) : sProp 𝕄) := by
  iintro ⟨%f, H⟩
  iexists _
  iapply (owns_in c f) $$ H

theorem ex_out {b : Ref sig .tc} (c : Dev nD) :
    (iprop(∃ X, owns (c : Thread nD τ) (Memref.whole b) fullShare X) : sProp 𝕄) ⊢ iprop(∃ f : Buf (Elt F) ((c : Thread nD τ).loc b), ((c : Thread nD τ).loc b) ↦{fullShare} f) := by
  iintro ⟨%X, H⟩
  iapply (owns_out c X) $$ H

theorem sem6 : (SemLoc.dma cc0_scratch9.sem : SemLoc sig) = osem 6 := by decide
theorem sem7 : (SemLoc.dma cc0_scratch10.sem : SemLoc sig) = osem 7 := by decide
theorem sem8 : (SemLoc.dma cc0_scratch11.sem : SemLoc sig) = osem 8 := by decide

section Res

variable (c : Dev nD) (st0 : Memref sig .tc .vmem S2x128 .f32) (st1 : Memref sig .tc .vmem S2x128 .i32) (st2 st3 : Memref sig .tc .vmem S2x128 .f32)
  (fx : Buf (Elt F) ((c : Thread nD τ).loc main_v0)) (fs : Buf (Elt F) ((c : Thread nD τ).loc main_arg4)) (fw : Buf (Elt F) ((c : Thread nD τ).loc main_v1))
  (XS : S2x128.Idx → F .f32) (HC : S2x128.Idx → BitVec 32)

/-- The arrays that are no window's and the kernel uses. -/
def Arrs : sProp 𝕄 :=
  iprop((((c : Thread nD τ).loc main_arg4) ↦{fullShare} fs) ∗ (((c : Thread nD τ).loc main_v0) ↦{fullShare} fx) ∗ (((c : Thread nD τ).loc main_v1) ↦{fullShare} fw))

abbrev Pre' : sProp 𝕄 := BPre c (Memref.whole main_v0) st0 st1 wM (Memref.whole main_arg4) st2 st3 ringM (Memref.whole cc0_scratch1) (Memref.whole cc0_scratch2) (Memref.whole cc0_scratch3)
  (Memref.whole cc0_scratch4) (Memref.whole cc0_scratch5) (Memref.whole cc0_scratch6) (Memref.whole cc0_scratch7) cc0_scratch8 cc0_scratch9.sem cc0_scratch10.sem cc0_scratch11.sem fx fs fw XS HC

abbrev Post' (log2e ln2 : F .f32) : sProp 𝕄 := BPost c (Memref.whole main_v0) st0 st1 wM (Memref.whole main_arg4) st2 st3 ringM (Memref.whole cc0_scratch1) (Memref.whole cc0_scratch2) (Memref.whole cc0_scratch3)
  (Memref.whole cc0_scratch4) (Memref.whole cc0_scratch5) (Memref.whole cc0_scratch6) (Memref.whole cc0_scratch7) cc0_scratch8 cc0_scratch9.sem cc0_scratch10.sem cc0_scratch11.sem fx fs fw XS HC log2e ln2

theorem pre_of :
    iprop(Arrs c fx fs fw ∗ Pipeline.ownSems0 osem c ∗ Pipeline.scopedRest spec0 c ∗ (∃ W, owes (c : Thread nD τ) 0 W)
      ∗ owns (c : Thread nD τ) st0 fullShare XS ∗ owns (Val := Elt F) (c : Thread nD τ) st1 fullShare HC
      ∗ (∃ X : S2x128.Idx → F .f32, owns (c : Thread nD τ) st2 fullShare X) ∗ (∃ X : S2x128.Idx → F .f32, owns (c : Thread nD τ) st3 fullShare X))
    ⊢ (Pre' c st0 st1 st2 st3 fx fs fw XS HC : sProp 𝕄) := by
  rw [ownSems0_eq, scopedRest0_eq]
  unfold Pre' BPre BOwn Arrs Head.Fst
  rw [src_eq, src_eq, sem6, sem7, sem8]
  unfold Head.Fl Head.Rest Head.Done
  simp only [Nat.not_lt_zero, if_false]
  iintro ⟨⟨Hs, Hx, Hw⟩, ⟨S0, S1, S2, S3, S4, S5, S6, S7, S8⟩, ⟨R0, R1, R2, R3, R4, R5, R6, R7⟩, Ho, Hst0, Hst1, Hst2, Hst3⟩
  ihave R := (ring_split c) $$ R0
  ihave R' := (ent_eq (bigSep_fin6 (anyS c))) $$ R
  icases R' with ⟨A0, A1, A2, A3, A4, A5⟩
  ihave Hw' := (ent_eq (rows_all c fw).symm) $$ Hw
  ihave Hw2 := (Head.rowsP_split c wM fw (a := 0) (b := 0) (d := 512 * 59) (by omega) (by omega)) $$ Hw'
  icases Hw2 with ⟨HD, HR⟩
  isplitl [R1 Hx S6 R2 Hs S7 Hst0 Hst1 R3 R4 R5 R6 R7 S8 Ho]
  · isplitl [R1 Hx S6]
    · isplitl [R1]; · iapply (ex_in c) $$ R1
      isplitl [Hx]; · iexact Hx
      iexact S6
    isplitl [R2 Hs S7]
    · isplitl [R2]; · iapply (ex_in c) $$ R2
      isplitl [Hs]; · iexact Hs
      iexact S7
    isplitl [Hst0]; · iexact Hst0
    isplitl [Hst1]; · iexact Hst1
    isplitl [R3]; · iapply (ex_in c) $$ R3
    isplitl [R4]; · iapply (ex_in c) $$ R4
    isplitl [R5]; · iapply (ex_in c) $$ R5
    isplitl [R6]; · iapply (ex_in c) $$ R6
    isplitl [R7]; · iapply (ex_in c) $$ R7
    isplitl [S8]; · iexact S8
    iexact Ho
  isplitl [A0 A1 A2 A3 A4 A5 S0 S1 S2 S3 S4 S5 HD HR]
  · isplitl [A0 A1 A2 A3 A4 S0 S1 S2 S3 S4 HR]
    · isplitr [HR]
      · isplitl [A0 S0]; · iapply (free_in c fw (n := 0) (by omega) 0 rfl 0 rfl) $$ [A0 S0]; iframe A0 S0
        isplitl [A1 S1]; · iapply (free_in c fw (n := 1) (by omega) 1 rfl 1 rfl) $$ [A1 S1]; iframe A1 S1
        isplitl [A2 S2]; · iapply (free_in c fw (n := 2) (by omega) 2 rfl 2 rfl) $$ [A2 S2]; iframe A2 S2
        isplitl [A3 S3]; · iapply (free_in c fw (n := 3) (by omega) 3 rfl 3 rfl) $$ [A3 S3]; iframe A3 S3
        iapply (free_in c fw (n := 4) (by omega) 4 rfl 4 rfl) $$ [A4 S4]; iframe A4 S4
      iexact HR
    isplitl [A5 S5]; · iapply (free_in c fw (n := 5) (by omega) 5 rfl 5 rfl) $$ [A5 S5]; iframe A5 S5
    iexact HD
  isplitl [Hst2]; · iexact Hst2
  iexact Hst3

theorem post_of (log2e ln2 : F .f32) :
    (Post' c st0 st1 st2 st3 fx fs fw XS HC log2e ln2 : sProp 𝕄) ⊢
    iprop(Arrs c fx fs fw ∗ Pipeline.ownSems0 osem c ∗ Pipeline.scopedRest spec0 c ∗ (∃ W, owes (c : Thread nD τ) 0 W)
      ∗ owns (c : Thread nD τ) st0 fullShare XS ∗ owns (Val := Elt F) (c : Thread nD τ) st1 fullShare HC
      ∗ owns (c : Thread nD τ) st2 fullShare (Head.lpOut ln2 (Head.stE log2e XS HC ((Memref.whole main_arg4).view.read (Elt F) fs) ((Memref.whole main_v0).view.read (Elt F) fx) (wM.view.read (Elt F) fw)))
      ∗ owns (c : Thread nD τ) st3 fullShare (Head.lseOut ln2 (Head.stE log2e XS HC ((Memref.whole main_arg4).view.read (Elt F) fs) ((Memref.whole main_v0).view.read (Elt F) fx) (wM.view.read (Elt F) fw)))) := by
  rw [ownSems0_eq, scopedRest0_eq]
  unfold Post' BPost BOwn Arrs
  rw [src_eq, src_eq, sem6, sem7, sem8]
  unfold Head.Done
  rw [rows_all]
  iintro ⟨⟨⟨R1, Hx, S6⟩, ⟨R2, Hs, S7⟩, Hst0, Hst1, R3, R4, R5, R6, R7, S8, Ho⟩, ⟨⟨F5, F0, F1, F2, F3, F4⟩, Hw⟩, Hst2, Hst3⟩
  ihave F0' := (free_out c fw (n := 60) 0 rfl 0 rfl) $$ F0
  ihave F1' := (free_out c fw (n := 61) 1 rfl 1 rfl) $$ F1
  ihave F2' := (free_out c fw (n := 62) 2 rfl 2 rfl) $$ F2
  ihave F3' := (free_out c fw (n := 63) 3 rfl 3 rfl) $$ F3
  ihave F4' := (free_out c fw (n := 64) 4 rfl 4 rfl) $$ F4
  ihave F5' := (free_out c fw (n := 59) 5 rfl 5 rfl) $$ F5
  icases F0' with ⟨A0, S0⟩
  icases F1' with ⟨A1, S1⟩
  icases F2' with ⟨A2, S2⟩
  icases F3' with ⟨A3, S3⟩
  icases F4' with ⟨A4, S4⟩
  icases F5' with ⟨A5, S5⟩
  isplitl [Hx Hs Hw]
  · isplitl [Hs]; · iexact Hs
    isplitl [Hx]; · iexact Hx
    iexact Hw
  isplitl [S0 S1 S2 S3 S4 S5 S6 S7 S8]
  · iframe S0 S1 S2 S3 S4 S5 S6 S7 S8
  isplitl [A0 A1 A2 A3 A4 A5 R1 R2 R3 R4 R5 R6 R7]
  · isplitl [A0 A1 A2 A3 A4 A5]
    · iapply (ring_join c)
      iapply (ent_eq (bigSep_fin6 (anyS c)).symm) $$ [A0 A1 A2 A3 A4 A5]
      iframe A0 A1 A2 A3 A4 A5
    isplitl [R1]; · iapply (ex_out (b := cc0_scratch1) c) $$ R1
    isplitl [R2]; · iapply (ex_out (b := cc0_scratch2) c) $$ R2
    isplitl [R3]; · iapply (ex_out (b := cc0_scratch3) c) $$ R3
    isplitl [R4]; · iapply (ex_out (b := cc0_scratch4) c) $$ R4
    isplitl [R5]; · iapply (ex_out (b := cc0_scratch5) c) $$ R5
    isplitl [R6]; · iapply (ex_out (b := cc0_scratch6) c) $$ R6
    iapply (ex_out (b := cc0_scratch7) c) $$ R7
  isplitl [Ho]; · iexact Ho
  isplitl [Hst0]; · iexact Hst0
  isplitl [Hst1]; · iexact Hst1
  isplitl [Hst2]; · iexact Hst2
  iexact Hst3

end Res

/-! ## The pipeline's proof data -/

/-- What the region holds before and after its one point, beside the windows. -/
def Φ (c : Dev nD) : sProp 𝕄 :=
  iprop((Arrs c (V m c main_v0) (V m c main_arg4) (V m c main_v1) ∗ (((c : Thread nD τ).loc main_arg0) ↦{fullShare} V m c main_arg0) ∗ (((c : Thread nD τ).loc main_arg3) ↦{fullShare} V m c main_arg3))
    ∗ Pipeline.ownSems0 osem c ∗ Pipeline.scopedRest spec0 c)

abbrev st0 (t : Fin cfg0.N) : Memref sig .tc .vmem S2x128 .f32 := win0_0.stage (cfg0.slots t 0)
abbrev st1 (t : Fin cfg0.N) : Memref sig .tc .vmem S2x128 .i32 := win0_1.stage (cfg0.slots t 1)
abbrev st2 (t : Fin cfg0.N) : Memref sig .tc .vmem S2x128 .f32 := win0_2.stage (cfg0.slots t 2)
abbrev st3 (t : Fin cfg0.N) : Memref sig .tc .vmem S2x128 .f32 := win0_3.stage (cfg0.slots t 3)

/-- The state after the last block. -/
def stF (c : Dev nD) (t : Fin cfg0.N) : Head.St F :=
  Head.stE (Named.named κ "log2e" 0x3FB8AA3B#32) (iblk m c 0 t) (iblk m c 1 t) ((Memref.whole main_arg4).view.read (Elt F) (V m c main_arg4)) ((Memref.whole main_v0).view.read (Elt F) (V m c main_v0)) (wM.view.read (Elt F) (V m c main_v1))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => Head.lpOut (Named.named κ "ln2" 0x3F317218#32) (stF m c t)
    | ⟨3, _⟩ => Head.lseOut (Named.named κ "ln2" 0x3F317218#32) (stF m c t)
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = Head.lpOut (Named.named κ "ln2" 0x3F317218#32) (stF m c t) := by dsimp only [dats]
theorem after_w3 (c : Dev nD) (t : Fin cfg0.N) : (dats m 0 c).after 3 t = Head.lseOut (Named.named κ "ln2" 0x3F317218#32) (stF m c t) := by dsimp only [dats]

/-! ## The body obligation -/

/-- The kernel on its buffers. -/
def bodyG (s0 : Memref sig .tc .vmem S2x128 .f32) (h0 : s0.IsWhole) (s1 : Memref sig .tc .vmem S2x128 .i32) (h1 : s1.IsWhole) (s2 : Memref sig .tc .vmem S2x128 .f32) (h2 : s2.IsWhole)
    (s3 : Memref sig .tc .vmem S2x128 .f32) (h3 : s3.IsWhole) : Prog (TpuEff nD τ sig (Elt F) Λ₀ .tc) PUnit :=
  cc0_adaptive_softmax (Memref.whole main_v0) (Memref.isWhole_whole _) s0 h0 s1 h1 (Memref.whole main_v1) (Memref.isWhole_whole _) (Memref.whole main_arg4) (Memref.isWhole_whole _) s2 h2 s3 h3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl
theorem prog_eq (t : Fin cfg0.N) : (defs₀ (F := F)) .tc cfg0.body (cfg0.bodyArgs t (cfg0.slots t))
    = bodyG (st0 t) (hstage0_0 0) (st1 t) (hstage0_1 0) (st2 t) (hstage0_2 0) (st3 t) (hstage0_3 0) :=
  (congrFun defs_tc _).trans rfl

theorem bodyG_wp (c : Dev nD) (s0 : Memref sig .tc .vmem S2x128 .f32) (h0 : s0.IsWhole) (s1 : Memref sig .tc .vmem S2x128 .i32) (h1 : s1.IsWhole) (s2 : Memref sig .tc .vmem S2x128 .f32) (h2 : s2.IsWhole)
    (s3 : Memref sig .tc .vmem S2x128 .f32) (h3 : s3.IsWhole) (fx : Buf (Elt F) ((c : Thread nD τ).loc main_v0)) (fs : Buf (Elt F) ((c : Thread nD τ).loc main_arg4)) (fw : Buf (Elt F) ((c : Thread nD τ).loc main_v1))
    (XS : S2x128.Idx → F .f32) (HC : S2x128.Idx → BitVec 32) {bd : Option 𝒱₀.V} :
    (Pre' c s0 s1 s2 s3 fx fs fw XS HC : sProp 𝕄) ⊢ wp Idealize.ShloMosaic.frame (wpE defs₀ 𝒱₀ (c : Thread nD τ) bd) Set.univ (bodyG s0 h0 s1 h1 s2 h2 s3 h3)
      (fun _ => Post' c s0 s1 s2 s3 fx fs fw XS HC (Named.named κ "log2e" 0x3FB8AA3B#32) (Named.named κ "ln2" 0x3F317218#32)) :=
  body_wp (Memref.whole main_v0) (Memref.isWhole_whole _) s0 h0 s1 h1 (Memref.whole main_v1) (Memref.isWhole_whole _) (Memref.whole main_arg4) (Memref.isWhole_whole _) s2 h2 s3 h3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 c fx fs fw XS HC

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, after_w0, after_w1, after_w2, after_w3]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold Φ
  iintro ⟨⟨⟨HA, H0, H3⟩, HS, HR⟩, ⟨%W, -, HW⟩, ⟨%d0, Hs0⟩, ⟨%d1, Hs1⟩, ⟨%d2, Hs2⟩, ⟨%d3, Hs3⟩⟩
  sl_rw [prog_eq t]
  ihave HP := (pre_of c (st0 t) (st1 t) (st2 t) (st3 t) (V m c main_v0) (V m c main_arg4) (V m c main_v1) (iblk m c 0 t) (iblk m c 1 t)) $$ [HA HS HR HW Hs0 Hs1 Hs2 Hs3]
  · isplitl [HA]; · iexact HA
    isplitl [HS]; · iexact HS
    isplitl [HR]; · iexact HR
    isplitl [HW]; · iexists _; iexact HW
    isplitl [Hs0]; · iexact Hs0
    isplitl [Hs1]; · iexact Hs1
    isplitl [Hs2]; · iexists _; iexact Hs2
    iexists _; iexact Hs3
  iapply (wp_wand Idealize.ShloMosaic.frame (wpE defs₀ 𝒱₀ (c : Thread nD τ) none) Set.univ) $$ [HP]
  · iapply (bodyG_wp c (st0 t) (hstage0_0 0) (st1 t) (hstage0_1 0) (st2 t) (hstage0_2 0) (st3 t) (hstage0_3 0) (V m c main_v0) (V m c main_arg4) (V m c main_v1) (iblk m c 0 t) (iblk m c 1 t)) $$ HP
  iintro %_ HQ
  ihave HQ' := (post_of c (st0 t) (st1 t) (st2 t) (st3 t) (V m c main_v0) (V m c main_arg4) (V m c main_v1) (iblk m c 0 t) (iblk m c 1 t) (Named.named κ "log2e" 0x3FB8AA3B#32) (Named.named κ "ln2" 0x3F317218#32)) $$ HQ
  icases HQ' with ⟨HA, HS, HR, ⟨%W', HW⟩, Hs0, Hs1, Hs2, Hs3⟩
  isplitl [HA H0 H3 HS HR]
  · isplitl [HA H0 H3]
    · isplitl [HA]; · iexact HA
      isplitl [H0]; · iexact H0
      iexact H3
    isplitl [HS]; · iexact HS
    iexact HR
  isplitl [HW]
  · iexists W'; isplitr; · ipureintro; exact fun _ _ => Or.inl trivial
    iexact HW
  isplitl [Hs0]; · iexact Hs0
  isplitl [Hs1]; · iexact Hs1
  isplitl [Hs2]; · iexact Hs2
  iexact Hs3

/-! ## The run -/

def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
/-- The arrays that no window stages are as they were launched. -/
def QY (c : Dev nD) (s : MemSt nD τ sig (Elt F)) : Prop :=
  s.mem ((c : Thread nD τ).loc main_arg0) = m ((c : Thread nD τ).loc main_arg0) ∧ s.mem ((c : Thread nD τ).loc main_arg3) = m ((c : Thread nD τ).loc main_arg3)
    ∧ s.mem ((c : Thread nD τ).loc main_arg4) = m ((c : Thread nD τ).loc main_arg4)
def QC : PUnit × MemSt nD τ sig (Elt F) → Prop := fun r =>
  ∀ c : Dev nD, (∀ w : Fin cfg0.W, r.2.mem ((cfg0.win w).arr.view.loc (c : Thread nD τ)) = finalA m c w) ∧ QY m c r.2

def intoΦ (c : Dev nD) : sProp 𝕄 :=
  iprop((Arrs c (V m c main_v0) (V m c main_arg4) (V m c main_v1) ∗ (((c : Thread nD τ).loc main_arg0) ↦{fullShare} V m c main_arg0) ∗ (((c : Thread nD τ).loc main_arg3) ↦{fullShare} V m c main_arg3))
    ∗ Pipeline.ownSems0 osem c)
def outOfΦ (c : Dev nD) : sProp 𝕄 :=
  iprop(Arrs c (V m c main_v0) (V m c main_arg4) (V m c main_v1) ∗ (((c : Thread nD τ).loc main_arg0) ↦{fullShare} V m c main_arg0) ∗ (((c : Thread nD τ).loc main_arg3) ↦{fullShare} V m c main_arg3))

set_option maxHeartbeats 800000 in
theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run from zero counters ends, with the windows' arrays at the pipeline's results, the rest unchanged and every
    counter at zero. -/
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainU m)
    (hA := fun _ _ => rfl)
    (X := intoΦ m) (Y := outOfΦ m) (Z := fun _ => iprop(emp))
    (hX := fun c => by
      rw [unscopedRest0_eq]
      unfold intoΦ Arrs
      iintro ⟨⟨H0, H3, H4, Hx, Hw⟩, HS, -, -, -⟩; imodintro
      isplitr []
      · isplitr [HS]
        · isplitl [H4 Hx Hw]
          · isplitl [H4]; · iexact H4
            isplitl [Hx]; · iexact Hx
            iexact Hw
          isplitl [H0]; · iexact H0
          iexact H3
        iexact HS
      iempintro)
    (hin := fun c => by
      rw [show (dats m 0 c).Φ 0 = Φ m c from rfl]
      unfold intoΦ Φ
      iintro ⟨⟨HA, HS⟩, HR⟩
      isplitl [HA]; · iexact HA
      isplitl [HS]; · iexact HS
      iexact HR)
    (hout := fun c => by
      rw [show (dats m 0 c).Φ (Fin.last cfg0.N) = Φ m c from rfl]
      unfold Φ outOfΦ
      exact .rfl)
    (QY := QY m)
    (hY := fun c s' => by
      unfold outOfΦ Arrs
      iintro ⟨⟨⟨H4, Hx, Hw⟩, H0, H3⟩, -, HSI⟩
      icombine HSI H4 gives %h4
      icombine HSI H0 gives %h0
      icombine HSI H3 gives %h3
      imodintro
      isplitr; · ipureintro; exact ⟨(Buf.eq_of_forall_mem_univ h0).trans (V_main_arg0 m c), (Buf.eq_of_forall_mem_univ h3).trans (V_main_arg3 m c), (Buf.eq_of_forall_mem_univ h4).trans (V_main_arg4 m c)⟩
      iexact HSI)
    (hQ := fun _ hh hz => ⟨hh, hz⟩)

theorem finalA_in (c : Dev nD) (w : Fin cfg0.W) (hw : (cfg0.win w).isOut = false) :
    finalA m c w = V m c (Pipeline.arrRef spec0 w) :=
  (dats (F := F) m 0 c).arrAt_in w hw _

end Cert.KernelIdeal.Launch

end
-- ==== Proof.FrameI.lean ====
/- The frame claim of the kernel: from any memory with zero counters it terminates without fault, its five argument
   arrays end as they began, and every counter ends at zero. -/
module

public import proofs.«01_k».proof.Proof.LaunchI

@[expose] public section

noncomputable section

namespace Cert.KernelIdeal.Launch

open Cert.KernelIdeal Cert.KernelIdeal.Gen Idealize.ShloMosaic Idealize.ShloMosaic.TcCoe Idealize.SL Idealize.SL.Sem

variable {F : FTy → Type} [FloatOps F] [Named F]
variable (m : (ℓ : Loc nD τ sig) → Buf (Elt F) ℓ) (ρ : Dev nD → PrngReg)

/-- What the run leaves: the two results, the five arguments, the counters. -/
theorem run_values : θ_run defs (onTc (τ := τ) (main (F := F))) ⟨m, fun _ => 0, ρ⟩ (fun r => (∀ c : Dev nD,
      r.2.mem ((c.tc : Thread nD τ).loc main_v2_0) = finalA m c 2
      ∧ r.2.mem ((c.tc : Thread nD τ).loc main_v2_1) = finalA m c 3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c).1 2, (h.1 c).1 3, (h.1 c).2.1,
      ((h.1 c).1 0).trans ((finalA_in m c 0 rfl).trans (V_main_arg1 m c)),
      ((h.1 c).1 1).trans ((finalA_in m c 1 rfl).trans (V_main_arg2 m c)), (h.1 c).2.2.1, (h.1 c).2.2.2⟩, h.2⟩) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2.2, h.2⟩) (run_values m ρ)

end Cert.KernelIdeal.Launch

end
-- ==== Proof.ValMath.lean ====
/- The running maximum and the running sum over the extended reals: what a lane holds after its columns, what the lanes hold
   together, and how the base-two exponential of logits scaled by 1 / log 2 is the exponential of the logits. -/
module

public import Idealize.ShloMosaic.PureOps.Ideal

@[expose] public section

noncomputable section

namespace Cert.Val

open Idealize.ShloMosaic Finset

/-- 1 / log 2 and log 2. -/
def cc : EReal := (((Real.log 2)⁻¹ : ℝ) : EReal)
def ll : EReal := ((Real.log 2 : ℝ) : EReal)

theorem log2_pos : 0 < Real.log 2 := Real.log_pos (by norm_num)

theorem cc_ll : cc * ll = 1 := by
  unfold cc ll
  rw [← EReal.coe_mul, inv_mul_cancel₀ log2_pos.ne', EReal.coe_one]

theorem exp2_nonneg (a : EReal) : 0 ≤ Ideal.exp2 a := by
  induction a with
  | bot => exact le_rfl
  | top => exact le_top
  | coe r => exact EReal.coe_nonneg.mpr (Real.rpow_nonneg (by norm_num) r)

/-- The rescaling of a term to a larger maximum. -/
theorem exp2_rescale {l m m' : EReal} (h : l ≤ m) (h' : m ≤ m') :
    Ideal.exp2 (l - m) * Ideal.exp2 (m - m') = Ideal.exp2 (l - m') := by
  induction l with
  | bot => rw [EReal.bot_sub, EReal.bot_sub, Ideal.exp2_bot, zero_mul]
  | top =>
    obtain rfl := top_le_iff.mp h
    obtain rfl := top_le_iff.mp h'
    rw [EReal.sub_top, Ideal.exp2_bot, zero_mul]
  | coe l =>
    induction m with
    | bot => exact absurd h (by simp)
    | top =>
      obtain rfl := top_le_iff.mp h'
      rw [EReal.sub_top, EReal.sub_top, Ideal.exp2_bot, zero_mul]
    | coe m =>
      induction m' with
      | bot => exact absurd h' (by simp)
      | top => rw [EReal.sub_top, EReal.sub_top, Ideal.exp2_bot, mul_zero]
      | coe m' =>
        rw [← EReal.coe_sub, ← EReal.coe_sub, ← EReal.coe_sub, Ideal.exp2_coe, Ideal.exp2_coe, Ideal.exp2_coe, ← EReal.coe_mul]
        congr 1
        show (2 : ℝ) ^ (l - m) * (2 : ℝ) ^ (m - m') = (2 : ℝ) ^ (l - m')
        rw [← Real.rpow_add (by norm_num)]
        congr 1; ring

theorem cc_pos : 0 < cc := EReal.coe_pos.mpr (inv_pos.mpr log2_pos)

/-- The base-two exponential of scaled values. -/
theorem exp2_scaled (a b : EReal) : Ideal.exp2 (a * cc - b * cc) = Ideal.exp (a - b) := by
  have hb : (⊥ : EReal) * cc = ⊥ := EReal.bot_mul_of_pos cc_pos
  have ht : (⊤ : EReal) * cc = ⊤ := EReal.top_mul_of_pos cc_pos
  induction a with
  | bot => rw [hb, EReal.bot_sub, EReal.bot_sub]; rfl
  | top =>
    induction b with
    | bot => rw [hb, ht]; rfl
    | top => rw [ht]; rfl
    | coe b =>
      rw [ht, show (b : EReal) * cc = ((b * (Real.log 2)⁻¹ : ℝ) : EReal) from (EReal.coe_mul _ _).symm, EReal.top_sub_coe, EReal.top_sub_coe]; rfl
  | coe a =>
    rw [show (a : EReal) * cc = ((a * (Real.log 2)⁻¹ : ℝ) : EReal) from (EReal.coe_mul _ _).symm]
    induction b with
    | bot => rw [hb, EReal.coe_sub_bot, EReal.coe_sub_bot]; rfl
    | top => rw [ht, EReal.sub_top, EReal.sub_top]; rfl
    | coe b =>
      rw [show (b : EReal) * cc = ((b * (Real.log 2)⁻¹ : ℝ) : EReal) from (EReal.coe_mul _ _).symm, ← EReal.coe_sub, ← EReal.coe_sub,
        Ideal.exp2_coe, Ideal.exp_coe]
      congr 1
      show (2 : ℝ) ^ (a * (Real.log 2)⁻¹ - b * (Real.log 2)⁻¹) = _
      rw [Real.rpow_def_of_pos (by norm_num)]
      congr 1
      have := log2_pos.ne'
      field_simp

/-! ## A lane -/

/-- The maximum of the first `G` values, -/
def mx (f : ℕ → EReal) (G : ℕ) : EReal := (range G).sup f
/-- and their exponentials' sum at it. -/
def sm (f : ℕ → EReal) (G : ℕ) : EReal := ∑ g ∈ range G, Ideal.exp2 (f g - mx f G)

theorem mx_zero (f : ℕ → EReal) : mx f 0 = ⊥ := rfl
theorem sm_zero (f : ℕ → EReal) : sm f 0 = 0 := rfl
theorem mx_succ (f : ℕ → EReal) (G : ℕ) : mx f (G + 1) = max (mx f G) (f G) := by
  unfold mx; rw [range_add_one, sup_insert, max_comm]
theorem mx_mono (f : ℕ → EReal) {G H : ℕ} (h : G ≤ H) : mx f G ≤ mx f H := sup_mono (range_mono h)
theorem le_mx (f : ℕ → EReal) {g G : ℕ} (h : g < G) : f g ≤ mx f G := le_sup (f := f) (mem_range.mpr h)

/-- A nonnegative sum by a factor. -/
theorem sum_mul_nonneg {ι : Type*} (A : Finset ι) (e : ι → EReal) (he : ∀ i, 0 ≤ e i) (a : EReal) : (∑ i ∈ A, e i) * a = ∑ i ∈ A, e i * a := by
  classical
  induction A using Finset.induction_on with
  | empty => rw [sum_empty, sum_empty, zero_mul]
  | insert i A hi ih => rw [sum_insert hi, sum_insert hi, EReal.right_distrib_of_nonneg (he i) (sum_nonneg fun j _ => he j), ih]

/-- The sum moved to a larger maximum. -/
theorem sm_rescale (f : ℕ → EReal) (G : ℕ) {m' : EReal} (h : mx f G ≤ m') :
    sm f G * Ideal.exp2 (mx f G - m') = ∑ g ∈ range G, Ideal.exp2 (f g - m') := by
  unfold sm
  rw [sum_mul_nonneg _ _ fun _ => exp2_nonneg _]
  exact sum_congr rfl fun g hg => exp2_rescale (le_mx f (mem_range.mp hg)) h

/-! ## The lanes together -/

/-- Every column is one lane's in one group. -/
theorem sum_groups (f : ℕ → EReal) (G : ℕ) : ∑ n ∈ range (128 * G), f n = ∑ g ∈ range G, ∑ c ∈ range 128, f (128 * g + c) := by
  induction G with
  | zero => rfl
  | succ G ih => rw [Nat.mul_succ, sum_range_add, ih, sum_range_succ _ G]

/-- A value per column, minus infinity past the last. -/
def ext {N : ℕ} (L : Fin N → EReal) (n : ℕ) : EReal := if h : n < N then L ⟨n, h⟩ else ⊥

theorem ext_of {N : ℕ} (L : Fin N → EReal) {n : ℕ} (h : n < N) : ext L n = L ⟨n, h⟩ := dif_pos h

/-- The lanes' maximum is the columns'. -/
theorem sup_lanes {N : ℕ} (L : Fin N → EReal) {G : ℕ} (hG : N ≤ 128 * G) :
    (univ : Finset (Fin 128)).sup (fun c => mx (fun g => ext L (128 * g + c.val)) G) = univ.sup L := by
  refine le_antisymm (Finset.sup_le fun c _ => Finset.sup_le fun g _ => ?_) (Finset.sup_le fun v _ => ?_)
  · unfold ext
    split
    · exact le_sup (f := L) (mem_univ _)
    · exact bot_le
  · refine le_trans ?_ (le_sup (f := fun c : Fin 128 => mx (fun g => ext L (128 * g + c.val)) G) (mem_univ (⟨v.val % 128, Nat.mod_lt _ (by norm_num)⟩ : Fin 128)))
    refine le_trans (le_of_eq ?_) (le_mx (fun g => ext L (128 * g + v.val % 128)) (g := v.val / 128) (by have := v.isLt; omega))
    show L v = ext L (128 * (v.val / 128) + v.val % 128)
    rw [Nat.div_add_mod, ext_of L v.isLt]

/-- The lanes' sums, each moved to a common maximum, are the columns' sum. -/
theorem sum_lanes {N : ℕ} (L : Fin N → EReal) {G : ℕ} (hG : N ≤ 128 * G) :
    ∑ c : Fin 128, sm (fun g => ext L (128 * g + c.val)) G * Ideal.exp2 (mx (fun g => ext L (128 * g + c.val)) G - univ.sup L)
      = ∑ v : Fin N, Ideal.exp2 (L v - univ.sup L) := by
  have h1 : ∀ c : Fin 128, sm (fun g => ext L (128 * g + c.val)) G * Ideal.exp2 (mx (fun g => ext L (128 * g + c.val)) G - univ.sup L)
      = ∑ g ∈ range G, Ideal.exp2 (ext L (128 * g + c.val) - univ.sup L) := fun c => by
    refine sm_rescale _ _ ?_
    rw [← sup_lanes L hG]
    exact le_sup (f := fun c : Fin 128 => mx (fun g => ext L (128 * g + c.val)) G) (mem_univ c)
  rw [sum_congr rfl fun c _ => h1 c, sum_comm]
  rw [sum_congr rfl fun g _ => (Finset.sum_range (fun c => Ideal.exp2 (ext L (128 * g + c) - univ.sup L))).symm]
  rw [← sum_groups (fun n => Ideal.exp2 (ext L n - univ.sup L)) G]
  obtain ⟨d, hd⟩ := Nat.exists_eq_add_of_le hG
  rw [hd, sum_range_add, Finset.sum_range, sum_eq_zero (s := range d), add_zero]
  · exact sum_congr rfl fun v _ => by rw [ext_of L v.isLt]
  · intro x _
    unfold ext
    rw [dif_neg (by omega), EReal.bot_sub]; rfl

/-- Scaling by a positive number commutes with the maximum. -/
theorem sup_scaled {N : ℕ} (l : Fin N → EReal) : (univ.sup fun v => l v * cc) = univ.sup l * cc :=
  (Finset.comp_sup_eq_sup_comp_of_is_total (fun a => a * cc) (fun _ _ h => mul_le_mul_of_nonneg_right h cc_pos.le) (EReal.bot_mul_of_pos cc_pos)).symm

/-- The kernel's log-sum-exp of scaled logits is the reference's of the logits. -/
theorem lse_eq {N : ℕ} (l : Fin N → EReal) :
    (univ.sup fun v => l v * cc) * ll + Ideal.log (∑ v : Fin N, Ideal.exp2 (l v * cc - univ.sup fun v => l v * cc))
      = Ideal.log (∑ v : Fin N, Ideal.exp (l v - univ.sup l)) + univ.sup l := by
  rw [sup_scaled, mul_assoc, cc_ll, mul_one, add_comm]
  congr 2
  exact sum_congr rfl fun v _ => exp2_scaled _ _

end Cert.Val

end
-- ==== Proof.ValProd.lean ====
/- The matrix units' products over the extended reals: the 48 tiles' sums are one sum over the width. -/
module

public import proofs.«01_k».proof.Proof.PrepWp
public import proofs.«01_k».proof.Proof.ValMath
public import Idealize.ShloMosaic.Lib.Pointwise
public import Idealize.ShloMosaic.Lib.MatmulPlain

@[expose] public section

noncomputable section

namespace Cert.Val

open Idealize.ShloMosaic Finset Cert.Head

/-- A token's product with a column. -/
def dot (X : S256x12288.Idx → EReal) (W : S30008x12288.Idx → EReal) (n : Fin 256) (v : Fin 30008) : EReal :=
  ∑ k : Fin 12288, X (jx2 n k) * W (jx2 v k)

/-- A pass, coordinate by coordinate. -/
theorem pass_at {φ₁ φ₂ : FTy} (lhs : FVec Ideal S64x256 φ₁) (rhs : FVec Ideal S256x256 φ₂) (r : Fin 64) (c : Fin 256) :
    Ideal.mxuPass (DotDims.transposedRhs 64 256 256) lhs rhs (jx2 r c) = ∑ k : Fin 256, lhs (jx2 r k) * rhs (jx2 c k) := by
  have h := Ideal.matmul_transposedRhs_apply (M := 64) (K := 256) (N := 256) none lhs rhs (fun _ => (0 : EReal)) r c
  rw [Ideal.matmul_apply, zero_add, zero_add] at h
  exact h

theorem passOf_at (X : S256x12288.Idx → EReal) (B : S512x12288.Idx → EReal) (k : ℕ) (q : Fin 2) (i : ℕ) (r : Fin 64) (j : Fin 256) :
    passOf (F := Ideal) X B k q i (jx2 r j)
      = ∑ a : Fin 256, X (jx2 (⟨(64 * i + r.val) % 256, Nat.mod_lt _ (by omega)⟩ : Fin 256) (⟨(256 * k + a.val) % 12288, Nat.mod_lt _ (by omega)⟩ : Fin 12288))
          * B (jx2 (⟨(256 * q.val + j.val) % 512, Nat.mod_lt _ (by omega)⟩ : Fin 512) (⟨(256 * k + a.val) % 12288, Nat.mod_lt _ (by omega)⟩ : Fin 12288)) := by
  unfold passOf
  show Ideal.mxuPass (DotDims.transposedRhs 64 256 256) _ (tileV (F := Ideal) (tileB B q k)) _ = _
  rw [pass_at]
  refine sum_congr rfl fun a _ => ?_
  congr 1
  unfold tileV
  show shapeCast S256x256 (tileB B q k) scTile (jx2 j a) = _
  rw [show shapeCast S256x256 (tileB B q k) scTile (jx2 j a) = tileB B q k (ValueIdx.ix3 (0 : Fin 1) j a) from congrArg (tileB B q k) (ValueIdx.reshapeEquiv_ix2_1ab _ j a)]
  rfl

theorem sumU_at (P : ℕ → FVec Ideal S64x256 .f32) (n : ℕ) (y : S64x256.Idx) : sumU P n y = ∑ k ∈ range (n + 1), P k y := by
  induction n with
  | zero => rw [sum_range_one]; rfl
  | succ n ih => rw [sum_range_succ _ (n + 1), ← ih]; rfl

/-- Tile by tile, or all at once. -/
theorem sum_tiles (f : ℕ → EReal) (n : ℕ) : ∑ k ∈ range n, ∑ a ∈ range 256, f (256 * k + a) = ∑ k ∈ range (256 * n), f k := by
  induction n with
  | zero => rfl
  | succ n ih => rw [sum_range_succ, ih, Nat.mul_succ, sum_range_add]

theorem prodOf_at (X : S256x12288.Idx → EReal) (W : S30008x12288.Idx → EReal) (b : ℕ) (q : Fin 2) {i : ℕ} (hi : i < 4) (r : Fin 64) (j : Fin 256) (n : Fin 256)
    (hn : n.val = 64 * i + r.val) : prodOf (F := Ideal) X (blk W b) q i (jx2 r j) = dot X W n (brow b (256 * q.val + j.val)) := by
  unfold prodOf dot
  rw [sumU_at]
  obtain ⟨g, hg⟩ : ∃ g : ℕ → EReal, ∀ m : Fin 12288, g m.val = X (jx2 n m) * W (jx2 (brow b (256 * q.val + j.val)) m) :=
    ⟨fun m => if h : m < 12288 then X (jx2 n ⟨m, h⟩) * W (jx2 (brow b (256 * q.val + j.val)) ⟨m, h⟩) else 0, fun m => dif_pos m.isLt⟩
  have e : ∀ k ∈ range (47 + 1), passOf (F := Ideal) X (blk W b) k q i (jx2 r j) = ∑ a ∈ range 256, g (256 * k + a) := fun k hk => by
    have hk' : k < 48 := mem_range.mp hk
    rw [passOf_at, Finset.sum_range]
    refine sum_congr rfl fun a _ => ?_
    have ha := a.isLt
    have hq := q.isLt
    have hj := j.isLt
    have hlt : 256 * k + a.val < 12288 := by omega
    have e1 : (⟨(64 * i + r.val) % 256, Nat.mod_lt _ (by omega)⟩ : Fin 256) = n := Fin.ext (by show (64 * i + r.val) % 256 = n.val; omega)
    have e2 : (⟨(256 * k + a.val) % 12288, Nat.mod_lt _ (by omega)⟩ : Fin 12288) = ⟨256 * k + a.val, hlt⟩ := Fin.ext (Nat.mod_eq_of_lt hlt)
    rw [e1, e2, hg ⟨256 * k + a.val, hlt⟩]
    congr 1
    show W (jx2 (brow b ((256 * q.val + j.val) % 512)) (⟨256 * k + a.val, hlt⟩ : Fin 12288)) = _
    rw [Nat.mod_eq_of_lt (by omega)]
  rw [sum_congr rfl e, sum_tiles g, Finset.sum_range]
  exact sum_congr rfl fun k _ => hg k

end Cert.Val

end
-- ==== Proof.ValState.lean ====
/- The running values over the extended reals: after each block every lane holds its columns' maximum, their sum at it and,
   where the target's column has passed, the target's logit. -/
module

public import proofs.«01_k».proof.Proof.ValProd

@[expose] public section

noncomputable section

namespace Cert.Val

open Idealize.ShloMosaic Finset Cert.Head

/-! ## The operations of a piece at a place -/

theorem ninf : Ideal.ofBits .f32 0xFF800000#32 = ⊥ := by simp [Ideal.ofBits, Ideal.ieee]
theorem fzero : Ideal.ofBits .f32 0x00000000#32 = 0 := by simp

theorem ofBool_beq {w : ℕ} (a b : BitVec w) : (BitVec.ofBool (a == b) = 1#1) ↔ a = b := by
  by_cases h : a = b
  · subst h; simp
  · rw [beq_eq_false_iff_ne.mpr h]; simp [h]

theorem lo_at (v : FVec Ideal S64x256 .f32) (r : Fin 64) (c : Fin 128) : lo v (jx2 r c) = v (jx2 r (⟨c.val, by omega⟩ : Fin 256)) := by
  unfold lo
  pointwise
  rfl

theorem hi_at (v : FVec Ideal S64x256 .f32) (r : Fin 64) (c : Fin 128) : hi v (jx2 r c) = v (jx2 r (⟨128 + c.val, by omega⟩ : Fin 256)) := by
  unfold hi
  pointwise
  rfl

theorem logit_at (a rs : FVec Ideal S64x128 .f32) (w : FVec Ideal S128 .f32) (r : Fin 64) (c : Fin 128) :
    logit a rs w (jx2 r c) = a (jx2 r c) * rs (jx2 r c) * w (jx1 c) := by
  unfold logit
  pointwise
  rfl

theorem mask51_at (l : FVec Ideal S64x128 .f32) (r : Fin 64) (c : Fin 128) : mask51 l (jx2 r c) = if c.val < 51 then l (jx2 r c) else ⊥ := by
  unfold mask51
  pointwise
  rw [ninf]
  have hc := c.isLt
  show (if BitVec.ofBool ((BitVec.ofNat 32 c.val).slt 51#32) = 1#1 then _ else _) = _
  have e : (BitVec.ofBool ((BitVec.ofNat 32 c.val).slt 51#32) = 1#1) ↔ c.val < 51 := by
    have h : (BitVec.ofNat 32 c.val).slt 51#32 = decide (c.val < 51) := by
      rw [BitVec.slt_eq_decide, BitVec.toInt_eq_toNat_of_lt (by rw [BitVec.toNat_ofNat]; omega), BitVec.toNat_ofNat, Nat.mod_eq_of_lt (by omega)]
      exact decide_eq_decide.mpr (by show ((c.val : ℤ) < 51) ↔ _; omega)
    rw [h]
    by_cases hx : c.val < 51
    · simp [hx]
    · simp [hx]
  by_cases hx : c.val < 51
  · rw [if_pos (e.mpr hx), if_pos hx]
  · rw [if_neg (fun h => hx (e.mp h)), if_neg hx]

theorem pad51_at (w : FVec Ideal S51 .f32) (c : Fin 128) (h : c.val < 51) : pad51 w (jx1 c) = w (jx1 (⟨c.val, h⟩ : Fin 51)) := by
  unfold pad51
  pointwise
  exact dif_pos h

theorem pc_at {V : Type} (X : S256x128.Idx → V) {i : ℕ} (r : Fin 64) (c : Fin 128) (n : Fin 256) (hn : n.val = 64 * i + r.val) :
    pc X i (jx2 r c) = X (jx2 n c) := by
  show X (jx2 (⟨(64 * i + r.val) % 256, _⟩ : Fin 256) c) = _
  congr 2
  exact Fin.ext (by show (64 * i + r.val) % 256 = n.val; omega)

theorem put_of {V : Type} (X : S256x128.Idx → V) {i : ℕ} (v : S64x128.Idx → V) (n : Fin 256) (c : Fin 128) (r : Fin 64) (hn : n.val = 64 * i + r.val) :
    put X i v (jx2 n c) = v (jx2 r c) := by
  show (if n.val / 64 = i then v (jx2 (⟨n.val % 64, _⟩ : Fin 64) c) else _) = _
  rw [if_pos (by omega)]
  congr 2
  exact Fin.ext (by show n.val % 64 = r.val; omega)

theorem put_ne {V : Type} (X : S256x128.Idx → V) {i : ℕ} (v : S64x128.Idx → V) (n : Fin 256) (c : Fin 128) (hn : n.val / 64 ≠ i) :
    put X i v (jx2 n c) = X (jx2 n c) := if_neg hn

/-! ## A list of lane groups -/

section Groups

variable (L : Fin 256 → Fin 30003 → EReal) (hc : Fin 256 → ℕ)

/-- Column `128 g + c` of token `n`. -/
def col (n : Fin 256) (c : Fin 128) (g : ℕ) : EReal := ext (L n) (128 * g + c.val)

/-- The target's logit where its column has passed, else zero. -/
def tg (n : Fin 256) (c : Fin 128) (G : ℕ) : EReal := if hc n % 128 = c.val ∧ hc n / 128 < G then ext (L n) (hc n) else 0

/-- The list is piece `i`'s logits of the groups from `G`. -/
def Goods (i : ℕ) : ℕ → List (BitVec 32 × FVec Ideal S64x128 .f32) → Prop
  | _, [] => True
  | G, p :: ls => (p.1 = BitVec.ofNat 32 (128 * G) ∧ ∀ (r : Fin 64) (c : Fin 128) (n : Fin 256), n.val = 64 * i + r.val → p.2 (jx2 r c) = col L n c G) ∧ Goods i (G + 1) ls

variable {L hc}
variable {i : ℕ} {r : Fin 64} {c : Fin 128} {n : Fin 256} (hn : n.val = 64 * i + r.val)
include hn

theorem newM_at : ∀ (ls : List (BitVec 32 × FVec Ideal S64x128 .f32)) (G : ℕ) (m : FVec Ideal S64x128 .f32), Goods L i G ls →
    m (jx2 r c) = mx (col L n c) G → newM ls m (jx2 r c) = mx (col L n c) (G + ls.length)
  | [], _, _, _, h => h
  | p :: ls, G, m, hg, h => by
    have := newM_at ls (G + 1) (maximumf m p.2) hg.2 (by
      rw [mx_succ, ← h, ← hg.1.2 r c n hn]; rfl)
    rw [show G + (p :: ls).length = G + 1 + ls.length by rw [List.length_cons]; omega]
    exact this

theorem newS_fold (m' : FVec Ideal S64x128 .f32) : ∀ (ls : List (BitVec 32 × FVec Ideal S64x128 .f32)) (G : ℕ) (s : FVec Ideal S64x128 .f32), Goods L i G ls →
    s (jx2 r c) = ∑ g ∈ range G, Ideal.exp2 (col L n c g - m' (jx2 r c)) →
    ls.foldl (fun s p => addf s (exp2 (subf p.2 m'))) s (jx2 r c) = ∑ g ∈ range (G + ls.length), Ideal.exp2 (col L n c g - m' (jx2 r c))
  | [], _, _, _, h => h
  | p :: ls, G, s, hg, h => by
    have := newS_fold m' ls (G + 1) (addf s (exp2 (subf p.2 m'))) hg.2 (by
      rw [sum_range_succ, ← h, ← hg.1.2 r c n hn]; rfl)
    rw [show G + (p :: ls).length = G + 1 + ls.length by rw [List.length_cons]; omega]
    exact this

theorem newS_at (ls : List (BitVec 32 × FVec Ideal S64x128 .f32)) (G : ℕ) (m s : FVec Ideal S64x128 .f32) (hg : Goods L i G ls)
    (hm : m (jx2 r c) = mx (col L n c) G) (hs : s (jx2 r c) = sm (col L n c) G) :
    newS ls m (newM ls m) s (jx2 r c) = sm (col L n c) (G + ls.length) := by
  have h' := newM_at hn ls G m hg hm
  unfold newS
  rw [newS_fold hn (newM ls m) ls G _ hg, h']
  · rfl
  · rw [h', ← sm_rescale _ _ (mx_mono _ (Nat.le_add_right _ _)), ← hs, ← hm, ← h']; rfl

theorem newT_at (tgt : IVec S64x128 32) (ht : tgt (jx2 r c) = BitVec.ofNat 32 (hc n) - BitVec.ofNat 32 c.val) (hh : hc n < 30003) :
    ∀ (ls : List (BitVec 32 × FVec Ideal S64x128 .f32)) (G : ℕ) (t : FVec Ideal S64x128 .f32), Goods L i G ls → G + ls.length < 300 →
    t (jx2 r c) = tg L hc n c G → newT tgt ls t (jx2 r c) = tg L hc n c (G + ls.length)
  | [], _, _, _, _, h => h
  | p :: ls, G, t, hg, hG, h => by
    rw [List.length_cons] at hG
    have := newT_at tgt ht hh ls (G + 1) (select (cmpi .eq tgt (broadcast S64x128 p.1)) p.2 t) hg.2 (by omega) (by
      show (if BitVec.ofBool (tgt (jx2 r c) == p.1) = 1#1 then p.2 (jx2 r c) else t (jx2 r c)) = _
      rw [ht, hg.1.1, hg.1.2 r c n hn, h]
      have hc' := c.isLt
      have e : (BitVec.ofBool (BitVec.ofNat 32 (hc n) - BitVec.ofNat 32 c.val == BitVec.ofNat 32 (128 * G)) = 1#1) ↔ hc n = 128 * G + c.val := by
        have h1 : (BitVec.ofNat 32 (hc n) - BitVec.ofNat 32 c.val = BitVec.ofNat 32 (128 * G)) ↔ hc n = 128 * G + c.val := by
          rw [BitVec.sub_eq_iff_eq_add, ← BitVec.ofNat_add]
          refine ⟨fun h => ?_, fun h => by rw [h]⟩
          have h := congrArg BitVec.toNat h
          rw [BitVec.toNat_ofNat, BitVec.toNat_ofNat, Nat.mod_eq_of_lt (by omega), Nat.mod_eq_of_lt (by omega)] at h
          exact h
        rw [← h1]
        exact ofBool_beq _ _
      unfold tg col
      by_cases hx : hc n = 128 * G + c.val
      · rw [if_pos (e.mpr hx), if_pos ⟨by omega, by omega⟩, hx]
      · rw [if_neg (fun h => hx (e.mp h))]
        by_cases hy : hc n % 128 = c.val ∧ hc n / 128 < G
        · rw [if_pos hy, if_pos ⟨hy.1, by omega⟩]
        · rw [if_neg hy, if_neg (fun h => hy ⟨h.1, by omega⟩)])
    rw [show G + (p :: ls).length = G + 1 + ls.length by rw [List.length_cons]; omega]
    exact this

end Groups

/-! ## Blocks -/

/-- A column of the vocabulary among the matrix's. -/
def wide (v : Fin 30003) : Fin 30008 := ⟨v.val, by omega⟩

section Blocks

variable (L : Fin 256 → Fin 30003 → EReal) (hc : Fin 256 → ℕ)

/-- What a place of the running buffers holds after `G` groups. -/
def Holds (G : ℕ) (σ : St Ideal) (n : Fin 256) (c : Fin 128) : Prop :=
  σ.m (jx2 n c) = mx (col L n c) G ∧ σ.s (jx2 n c) = sm (col L n c) G ∧ σ.t (jx2 n c) = tg L hc n c G

variable {L hc} {TG : S256x128.Idx → BitVec 32} (hT : ∀ n c, TG (jx2 n c) = BitVec.ofNat 32 (hc n) - BitVec.ofNat 32 c.val) (hH : ∀ n, hc n < 30003)
include hT hH

theorem updS_of {ls : List (BitVec 32 × FVec Ideal S64x128 .f32)} {i G : ℕ} {σ : St Ideal} (hg : Goods L i G ls) (hG : G + ls.length < 300)
    {n : Fin 256} {c : Fin 128} (h : Holds L hc G σ n c) (hn : n.val / 64 = i) : Holds L hc (G + ls.length) (updS TG ls i σ) n c := by
  obtain ⟨r, hr⟩ : ∃ r : Fin 64, n.val = 64 * i + r.val := ⟨⟨n.val % 64, Nat.mod_lt _ (by omega)⟩, by show n.val = 64 * i + n.val % 64; omega⟩
  have em : pc σ.m i (jx2 r c) = mx (col L n c) G := (pc_at _ r c n hr).trans h.1
  refine ⟨?_, ?_, ?_⟩
  · exact (put_of _ _ n c r hr).trans (newM_at hr ls G _ hg em)
  · exact (put_of _ _ n c r hr).trans (newS_at hr ls G _ _ hg em ((pc_at _ r c n hr).trans h.2.1))
  · exact (put_of _ _ n c r hr).trans (newT_at hr _ ((pc_at _ r c n hr).trans (hT n c)) (hH n) ls G _ hg hG ((pc_at _ r c n hr).trans h.2.2))

omit hT hH in
theorem updS_ne {ls : List (BitVec 32 × FVec Ideal S64x128 .f32)} {i G : ℕ} {σ : St Ideal} {n : Fin 256} {c : Fin 128} (h : Holds L hc G σ n c) (hn : n.val / 64 ≠ i) :
    Holds L hc G (updS TG ls i σ) n c :=
  ⟨(put_ne _ _ n c hn).trans h.1, (put_ne _ _ n c hn).trans h.2.1, (put_ne _ _ n c hn).trans h.2.2⟩

/-- Four pieces, one after another. -/
theorem pieces {l : ℕ → List (BitVec 32 × FVec Ideal S64x128 .f32)} {d : ℕ → St Ideal} {G K : ℕ} (hd : ∀ i, d (i + 1) = updS TG (l i) i (d i))
    (hl : ∀ i, (l i).length = K) (hg : ∀ i, i < 4 → Goods L i G (l i)) (hG : G + K < 300) (h0 : ∀ n c, Holds L hc G (d 0) n c) :
    ∀ i, i ≤ 4 → ∀ n c, Holds L hc (if n.val / 64 < i then G + K else G) (d i) n c
  | 0, _, n, c => by rw [if_neg (by omega)]; exact h0 n c
  | i + 1, hi, n, c => by
    have ih := pieces hd hl hg hG h0 i (by omega) n c
    rw [hd]
    by_cases e : n.val / 64 = i
    · rw [if_neg (by omega)] at ih
      rw [if_pos (by omega), ← hl i]
      exact updS_of hT hH (hg i (by omega)) (by rw [hl]; exact hG) ih e
    · have : (if n.val / 64 < i + 1 then G + K else G) = if n.val / 64 < i then G + K else G := by
        by_cases h : n.val / 64 < i
        · rw [if_pos h, if_pos (by omega)]
        · rw [if_neg h, if_neg (by omega)]
      rw [this]
      exact updS_ne ih e

omit hT hH

variable {X : S256x12288.Idx → EReal} {W : S30008x12288.Idx → EReal} {RS : S256x128.Idx → EReal} {R : Fin 256 → EReal} {WC : S30003.Idx → EReal}
  (hR : ∀ n c, RS (jx2 n c) = R n) (hL : ∀ n (v : Fin 30003), L n v = dot X W n (wide v) * R n * WC (jx1 v))
include hR hL

/-- A column's logit as a lane group makes it. -/
theorem logit_col {i b : ℕ} (hi : i < 4) (q : Fin 2) (g : ℕ) (w : FVec Ideal S128 .f32) (r : Fin 64) (c : Fin 128) (n : Fin 256)
    (hn : n.val = 64 * i + r.val) (j : Fin 256) (a : FVec Ideal S64x128 .f32) (ha : a (jx2 r c) = prodOf (F := Ideal) X (blk W b) q i (jx2 r j))
    (hj : 512 * b + (256 * q.val + j.val) = 128 * g + c.val) (hv : 128 * g + c.val < 30003) (hw : w (jx1 c) = WC (jx1 ⟨128 * g + c.val, hv⟩)) :
    logit a (pc RS i) w (jx2 r c) = col L n c g := by
  rw [logit_at, ha, pc_at RS r c n hn, hR, prodOf_at X W b q hi r j n hn, hw]
  unfold col
  rw [ext_of _ hv, hL]
  congr 3
  exact Fin.ext (by rw [brow_val (by omega)]; exact hj)

theorem wsOf_at (N : ℕ) (c : Fin 128) (h : N + c.val < 30003) : wsOf WC N (jx1 c) = WC (jx1 ⟨N + c.val, h⟩) := by
  show WC (jx1 ⟨(N + c.val) % 30003, _⟩) = _
  congr 2
  exact Fin.ext (Nat.mod_eq_of_lt h)

omit hR hL in
theorem wcol_eq (b k : ℕ) : wcol (BitVec.ofNat 32 (512 * b)) k = BitVec.ofNat 32 (512 * b + 128 * k) := (BitVec.ofNat_add ..).symm

theorem goods4 {b i : ℕ} (hb : b < 58) (hi : i < 4) : Goods L i (4 * b) (ls4 (pc RS i) WC (BitVec.ofNat 32 (512 * b)) (fun q => prodOf (F := Ideal) X (blk W b) q i)) := by
  have e : ∀ k, k < 4 → (wcol (BitVec.ofNat 32 (512 * b)) k).toNat = 512 * b + 128 * k := fun k hk => by
    rw [wcol_eq, BitVec.toNat_ofNat, Nat.mod_eq_of_lt (by omega)]
  have e' : ∀ k, wcol (BitVec.ofNat 32 (512 * b)) k = BitVec.ofNat 32 (128 * (4 * b + k)) := fun k => by
    rw [wcol_eq]; congr 1; omega
  refine ⟨⟨e' 0, fun r c n hn => ?_⟩, ⟨e' 1, fun r c n hn => ?_⟩, ⟨e' 2, fun r c n hn => ?_⟩, ⟨e' 3, fun r c n hn => ?_⟩, trivial⟩
  all_goals have hc := c.isLt
  · refine logit_col hR hL hi 0 (4 * b) _ r c n hn _ _ (lo_at _ r c) (by show 512 * b + (256 * 0 + c.val) = _; omega) (by omega) ?_
    rw [e 0 (by omega), wsOf_at hR hL _ c (by omega)]; congr 2; exact Fin.ext (by show 512 * b + 128 * 0 + c.val = 128 * (4 * b) + c.val; omega)
  · refine logit_col hR hL hi 0 (4 * b + 1) _ r c n hn _ _ (hi_at _ r c) (by show 512 * b + (256 * 0 + (128 + c.val)) = _; omega) (by omega) ?_
    rw [e 1 (by omega), wsOf_at hR hL _ c (by omega)]; congr 2; exact Fin.ext (by show 512 * b + 128 * 1 + c.val = 128 * (4 * b + 1) + c.val; omega)
  · refine logit_col hR hL hi 1 (4 * b + 1 + 1) _ r c n hn _ _ (lo_at _ r c) (by show 512 * b + (256 * 1 + c.val) = _; omega) (by omega) ?_
    rw [e 2 (by omega), wsOf_at hR hL _ c (by omega)]; congr 2; exact Fin.ext (by show 512 * b + 128 * 2 + c.val = 128 * (4 * b + 1 + 1) + c.val; omega)
  · refine logit_col hR hL hi 1 (4 * b + 1 + 1 + 1) _ r c n hn _ _ (hi_at _ r c) (by show 512 * b + (256 * 1 + (128 + c.val)) = _; omega) (by omega) ?_
    rw [e 3 (by omega), wsOf_at hR hL _ c (by omega)]; congr 2; exact Fin.ext (by show 512 * b + 128 * 3 + c.val = 128 * (4 * b + 1 + 1 + 1) + c.val; omega)

theorem goods3 {i : ℕ} (hi : i < 4) : Goods L i 232 (ls3 (pc RS i) WC (fun q => prodOf (F := Ideal) X (blk W 58) q i)) := by
  refine ⟨⟨rfl, fun r c n hn => ?_⟩, ⟨rfl, fun r c n hn => ?_⟩, ⟨rfl, fun r c n hn => ?_⟩, trivial⟩
  all_goals have hc := c.isLt
  · exact logit_col hR hL hi 0 232 _ r c n hn _ _ (lo_at _ r c) (by show 512 * 58 + (256 * 0 + c.val) = _; omega) (by omega) (wsOf_at hR hL _ c (by omega))
  · exact logit_col hR hL hi 0 233 _ r c n hn _ _ (hi_at _ r c) (by show 512 * 58 + (256 * 0 + (128 + c.val)) = _; omega) (by omega) (wsOf_at hR hL _ c (by omega))
  · show mask51 (F := Ideal) _ (jx2 r c) = col L n c 234
    rw [mask51_at]
    by_cases h : c.val < 51
    · rw [if_pos h]
      refine logit_col hR hL hi 1 234 _ r c n hn _ _ (lo_at _ r c) (by show 512 * 58 + (256 * 1 + c.val) = _; omega) (by omega) ?_
      rw [pad51_at _ c h]
      show WC (jx1 ⟨(29952 + c.val) % 30003, _⟩) = _
      congr 2
      exact Fin.ext (by show (29952 + c.val) % 30003 = 128 * 234 + c.val; omega)
    · rw [if_neg h]
      unfold col ext; rw [dif_neg (by omega)]

include hT hH

/-- After `b` blocks, -/
theorem run_holds : ∀ b, b ≤ 58 → ∀ n c, Holds L hc (4 * b) (run (F := Ideal) TG RS WC X W st0 b) n c
  | 0, _, n, c => ⟨ninf, fzero, fzero.trans (if_neg (by omega)).symm⟩
  | b + 1, hb, n, c => by
    have h := pieces hT hH (l := fun i => ls4 (pc RS i) WC (BitVec.ofNat 32 (512 * b)) (fun q => prodOf (F := Ideal) X (blk W b) q i))
      (d := drS TG RS WC (BitVec.ofNat 32 (512 * b)) (prodOf X (blk W b)) (run TG RS WC X W st0 b)) (G := 4 * b) (K := 4) (fun _ => rfl) (fun _ => rfl)
      (fun i hi => goods4 hR hL (by omega) hi) (by omega) (run_holds b (by omega)) 4 le_rfl n c
    rw [if_pos (by have := n.isLt; omega)] at h
    exact h

/-- and after all of them. -/
theorem end_holds (n : Fin 256) (c : Fin 128) :
    Holds L hc 235 (drL (F := Ideal) TG RS WC (prodOf X (blk W 58)) (run TG RS WC X W st0 58) 4) n c := by
  have h := pieces hT hH (l := fun i => ls3 (pc RS i) WC (fun q => prodOf (F := Ideal) X (blk W 58) q i))
    (d := drL TG RS WC (prodOf X (blk W 58)) (run TG RS WC X W st0 58)) (G := 232) (K := 3) (fun _ => rfl) (fun _ => rfl)
    (fun i hi => goods3 hR hL hi) (by omega) (run_holds hT hH hR hL 58 le_rfl) 4 le_rfl n c
  rw [if_pos (by have := n.isLt; omega)] at h
  exact h

end Blocks

end Cert.Val

end
-- ==== Proof.ValOut.lean ====
/- The first and last lines over the extended reals: the tokens' scales and targets, and the two results. -/
module

public import proofs.«01_k».proof.Proof.ValState

@[expose] public section

noncomputable section

namespace Cert.Val

open Idealize.ShloMosaic Finset Cert.Head

theorem sel_eq {V : Type} (a b : Fin 128) (p q : V) :
    Scalar.select (IntOp.cmpi .eq (BitVec.ofNat 32 a.val) (BitVec.ofNat 32 b.val)) p q = if a = b then p else q := by
  show (if BitVec.ofBool (BitVec.ofNat 32 a.val == BitVec.ofNat 32 b.val) = 1#1 then p else q) = _
  have e : BitVec.ofNat 32 a.val = BitVec.ofNat 32 b.val ↔ a = b := by
    refine ⟨fun h => Fin.ext ?_, fun h => by rw [h]⟩
    have h := congrArg BitVec.toNat h
    rw [BitVec.toNat_ofNat, BitVec.toNat_ofNat, Nat.mod_eq_of_lt (by omega), Nat.mod_eq_of_lt (by omega)] at h
    exact h
  by_cases h : a = b
  · rw [if_pos h, if_pos ((ofBool_beq _ _).mpr (e.mpr h))]
  · rw [if_neg h, if_neg (fun h' => h (e.mp ((ofBool_beq _ _).mp h')))]

theorem fold_addi {ι : Type} [DecidableEq ι] (r : ι) (v : ι → BitVec 32) (S : Finset ι) :
    fold IntOp.addi 0#32 (fun x => if r = x then v x else 0#32) S = if r ∈ S then v r else 0#32 := by
  induction S using Finset.induction_on with
  | empty => rfl
  | insert i A hi ih =>
    rw [fold_insert hi, ih]
    by_cases h : r = i
    · subst h
      rw [if_pos rfl, if_neg hi, if_pos (mem_insert_self _ _)]
      exact BitVec.add_zero _
    · rw [if_neg h]
      simp only [mem_insert, h, false_or]
      exact BitVec.zero_add _

theorem reorder (a b c d : EReal) : a * b * d * c = a * (b * c) * d := by rw [← mul_assoc, mul_right_comm]

theorem toColF_at (v : FVec Ideal S1x128 .f32) (r c : Fin 128) : toColF v (jx2 r c) = v (jx2 (0 : Fin 1) r) := by
  unfold toColF Cert.Head.diag
  pointwise
  show ∑ x : Fin 128, Scalar.select (IntOp.cmpi .eq (BitVec.ofNat 32 r.val) (BitVec.ofNat 32 x.val)) (v (jx2 (0 : Fin 1) x)) (0 : EReal) = _
  rw [sum_congr rfl fun x _ => sel_eq r x _ _, sum_ite_eq, if_pos (mem_univ _)]

theorem toColI_at (v : IVec S1x128 32) (r c : Fin 128) : toColI v (jx2 r c) = v (jx2 (0 : Fin 1) r) := by
  unfold toColI Cert.Head.diag
  pointwise
  refine Eq.trans ?_ ((fold_addi r (fun x : Fin 128 => v (jx2 (0 : Fin 1) x)) univ).trans (if_pos (mem_univ _)))
  exact fold_congr fun x _ => sel_eq r x _ _

theorem tgtH_at (v : IVec S1x128 32) (r c : Fin 128) : tgtH v (jx2 r c) = v (jx2 (0 : Fin 1) r) - BitVec.ofNat 32 c.val := by
  unfold tgtH
  refine Eq.trans (b := IntOp.subi (toColI v (jx2 r c)) (iota .tc S128x128 32 [1] io1 (jx2 r c))) rfl ?_
  rw [toColI_at]
  pointwise
  rfl

theorem toRow_at (v : FVec Ideal S128x128 .f32) (c : Fin 128) : toRow v (jx2 (0 : Fin 1) c) = v (jx2 c c) := by
  unfold toRow Cert.Head.diag
  pointwise
  show ∑ x : Fin 128, Scalar.select (IntOp.cmpi .eq (BitVec.ofNat 32 x.val) (BitVec.ofNat 32 c.val)) (v (jx2 x c)) (0 : EReal) = _
  rw [sum_congr rfl fun x _ => sel_eq x c _ _, sum_ite_eq', if_pos (mem_univ _)]

theorem topV_at (m : FVec Ideal S256x128 .f32) (n : Fin 256) : topV m (jx2 n (0 : Fin 1)) = (univ : Finset (Fin 128)).sup fun c => m (jx2 n c) := by
  unfold topV
  pointwise
  rw [ninf]
  rfl

theorem sumV_at (m s : FVec Ideal S256x128 .f32) (n : Fin 256) :
    sumV m s (jx2 n (0 : Fin 1)) = ∑ c : Fin 128, s (jx2 n c) * Ideal.exp2 (m (jx2 n c) - topV m (jx2 n (0 : Fin 1))) := by
  unfold sumV
  pointwise
  rfl

theorem lseV_at (k : EReal) (m s : FVec Ideal S256x128 .f32) (n : Fin 256) (c : Fin 128) :
    lseV (F := Ideal) k m s (jx2 n c) = topV m (jx2 n (0 : Fin 1)) * k + Ideal.log (sumV m s (jx2 n (0 : Fin 1))) := by
  unfold lseV
  pointwise
  rfl

theorem tlV_at (k : EReal) (t : FVec Ideal S256x128 .f32) (n : Fin 256) (c : Fin 128) :
    tlV (F := Ideal) k t (jx2 n c) = (∑ c : Fin 128, t (jx2 n c)) * k := by
  unfold tlV
  pointwise
  rfl

/-! ## The two results -/

/-- Token `l` of half `h`. -/
def tok (h : Fin 2) (l : Fin 128) : Fin 256 := ⟨128 * h.val + l.val, by omega⟩

/-- A token's half and place. -/
def hf (n : Fin 256) : Fin 2 := ⟨n.val / 128, by omega⟩
def pl (n : Fin 256) : Fin 128 := ⟨n.val % 128, by omega⟩

theorem hf_tok (h : Fin 2) (l : Fin 128) : hf (tok h l) = h := Fin.ext (by show (128 * h.val + l.val) / 128 = h.val; omega)
theorem pl_tok (h : Fin 2) (l : Fin 128) : pl (tok h l) = l := Fin.ext (by show (128 * h.val + l.val) % 128 = l.val; omega)

theorem hv_at {V : Type} (a : Fin 2 → S128x128.Idx → V) (n : Fin 256) (c : Fin 128) : hv (a 0) (a 1) (jx2 n c) = a (hf n) (jx2 (pl n) c) := by
  unfold hv
  by_cases h : n.val < 128
  · have e : hf n = 0 := Fin.ext (by show n.val / 128 = 0; omega)
    rw [e]; exact if_pos h
  · have e : hf n = 1 := Fin.ext (by show n.val / 128 = 1; omega)
    rw [e]; exact if_neg h

theorem two_at {V : Type} (a : Fin 2 → S1x128.Idx → V) (h : Fin 2) (l : Fin 128) : two (a 0) (a 1) (jx2 h l) = a h (jx2 (0 : Fin 1) l) := by
  unfold two
  match h with
  | 0 => exact if_pos rfl
  | 1 => exact if_neg (by show ¬ (1 = 0); decide)

theorem rowOf_at {V : Type} (X : S2x128.Idx → V) (h : Fin 2) (c : Fin 128) : rowOf X h.val (jx2 (0 : Fin 1) c) = X (jx2 h c) := by
  show X (jx2 (⟨h.val % 2, _⟩ : Fin 2) c) = _
  congr 2
  exact Fin.ext (Nat.mod_eq_of_lt h.isLt)

theorem half_at (v : FVec Ideal S256x128 .f32) (h : Fin 2) (r c : Fin 128) : (![half0 v, half1 v] h) (jx2 r c) = v (jx2 (tok h r) c) := by
  match h with
  | 0 =>
    show half0 v (jx2 r c) = _
    unfold half0
    pointwise
    show v _ = v _
    congr 1
    funext a
    match a with
    | 0 => exact Fin.ext (by show r.val = 128 * 0 + r.val; omega)
    | 1 => rfl
  | 1 =>
    show half1 v (jx2 r c) = _
    unfold half1
    pointwise
    rfl

section Results

variable (X : S256x12288.Idx → EReal) (W : S30008x12288.Idx → EReal) (XS : S2x128.Idx → EReal) (HC : S2x128.Idx → BitVec 32) (WC : S30003.Idx → EReal)

/-- A token's logit at a column. -/
def lgt (n : Fin 256) (v : Fin 30003) : EReal := dot X W n (wide v) * XS (jx2 (hf n) (pl n)) * WC (jx1 v)

/-- A token's log-sum-exp. -/
def lse (n : Fin 256) : EReal :=
  Ideal.log (∑ v : Fin 30003, Ideal.exp (lgt X W XS WC n v - univ.sup (lgt X W XS WC n))) + univ.sup (lgt X W XS WC n)

/-- The shift, log 30003 as printed. -/
def sh : EReal := Ideal.ofBits .f32 0x4124F1E1#32

variable {HC} (hH : ∀ h l, (HC (jx2 h l)).toNat < 30003)
include hH

theorem stE_holds (n : Fin 256) (c : Fin 128) :
    Holds (fun n v => lgt X W XS WC n v * cc) (fun n => (HC (jx2 (hf n) (pl n))).toNat) 235 (stE (F := Ideal) cc XS HC WC X W) n c := by
  unfold stE
  refine end_holds (R := fun n => XS (jx2 (hf n) (pl n)) * cc) (fun n c => ?_) (fun n => hH _ _) (fun n c => ?_) (fun n v => ?_) n c
  · show hv (tgtH (rowOf HC 0)) (tgtH (rowOf HC 1)) (jx2 n c) = _
    refine (hv_at (fun h => tgtH (rowOf HC h.val)) n c).trans ?_
    refine (tgtH_at _ _ _).trans ?_
    rw [rowOf_at, BitVec.ofNat_toNat, BitVec.setWidth_eq]
  · show hv (toColF (F := Ideal) (rowOf XS 0)) (toColF (F := Ideal) (rowOf XS 1)) (jx2 n c) * cc = _
    refine (congrArg (· * cc) (hv_at (fun h => toColF (F := Ideal) (rowOf XS h.val)) n c)).trans ?_
    show toColF (F := Ideal) (rowOf XS (hf n).val) (jx2 (pl n) c) * cc = _
    rw [toColF_at, rowOf_at]
  · show dot X W n _ * XS _ * WC _ * cc = _
    exact reorder _ _ _ _

theorem lseV_val (n : Fin 256) (c : Fin 128) :
    lseV (F := Ideal) ll (stE (F := Ideal) cc XS HC WC X W).m (stE (F := Ideal) cc XS HC WC X W).s (jx2 n c) = lse X W XS WC n := by
  have H := stE_holds X W XS WC hH n
  have ht : topV (F := Ideal) (stE (F := Ideal) cc XS HC WC X W).m (jx2 n (0 : Fin 1)) = univ.sup fun v => lgt X W XS WC n v * cc := by
    rw [topV_at, ← sup_lanes (fun v => lgt X W XS WC n v * cc) (G := 235) (by norm_num)]
    exact sup_congr rfl fun c _ => (H c).1
  rw [lseV_at, sumV_at, ht]
  have hs := sum_lanes (fun v => lgt X W XS WC n v * cc) (G := 235) (by norm_num)
  rw [sum_congr rfl (g := fun c : Fin 128 => sm (fun g => ext (fun v => lgt X W XS WC n v * cc) (128 * g + c.val)) 235
    * Ideal.exp2 (mx (fun g => ext (fun v => lgt X W XS WC n v * cc) (128 * g + c.val)) 235 - univ.sup fun v => lgt X W XS WC n v * cc)) fun c _ => by
      rw [(H c).1, (H c).2.1]; rfl, hs]
  exact lse_eq _

theorem tlV_val (h : Fin 2) (l : Fin 128) (c : Fin 128) :
    tlV (F := Ideal) ll (stE (F := Ideal) cc XS HC WC X W).t (jx2 (tok h l) c) = lgt X W XS WC (tok h l) ⟨(HC (jx2 h l)).toNat, hH h l⟩ := by
  have H := stE_holds X W XS WC hH (tok h l)
  have hh := hH h l
  rw [tlV_at, sum_congr rfl fun c _ => (H c).2.2]
  simp only [tg, hf_tok, pl_tok]
  rw [sum_eq_single (⟨(HC (jx2 h l)).toNat % 128, Nat.mod_lt _ (by norm_num)⟩ : Fin 128)]
  · rw [if_pos ⟨rfl, by omega⟩, ext_of _ hh, mul_assoc, cc_ll, mul_one]
  · intro c _ hc
    exact if_neg fun hx => hc (Fin.ext hx.1.symm)
  · exact fun hx => absurd (mem_univ _) hx

/-- The kernel's log-sum-exps. -/
theorem lseOut_val (h : Fin 2) (l : Fin 128) : lseOut (F := Ideal) ll (stE (F := Ideal) cc XS HC WC X W) (jx2 h l) = lse X W XS WC (tok h l) - sh := by
  unfold lseOut
  refine (two_at (fun h => outLse (F := Ideal) (![half0 (lseV (F := Ideal) ll (stE (F := Ideal) cc XS HC WC X W).m (stE (F := Ideal) cc XS HC WC X W).s), half1 (lseV (F := Ideal) ll (stE (F := Ideal) cc XS HC WC X W).m (stE (F := Ideal) cc XS HC WC X W).s)] h)) h l).trans ?_
  unfold outLse
  rw [toRow_at]
  show (![half0 (F := Ideal) (lseV (F := Ideal) ll (stE (F := Ideal) cc XS HC WC X W).m (stE (F := Ideal) cc XS HC WC X W).s), half1 (lseV (F := Ideal) ll (stE (F := Ideal) cc XS HC WC X W).m (stE (F := Ideal) cc XS HC WC X W).s)] h) (jx2 l l) - sh = _
  rw [half_at, lseV_val X W XS WC hH]

/-- The kernel's log probabilities. -/
theorem lpOut_val (h : Fin 2) (l : Fin 128) : lpOut (F := Ideal) ll (stE (F := Ideal) cc XS HC WC X W) (jx2 h l)
    = lgt X W XS WC (tok h l) ⟨(HC (jx2 h l)).toNat, hH h l⟩ - lse X W XS WC (tok h l) + sh := by
  unfold lpOut
  refine (two_at (fun h => outLp (F := Ideal) (![half0 (tlV (F := Ideal) ll (stE (F := Ideal) cc XS HC WC X W).t), half1 (tlV (F := Ideal) ll (stE (F := Ideal) cc XS HC WC X W).t)] h)
    (![half0 (lseV (F := Ideal) ll (stE (F := Ideal) cc XS HC WC X W).m (stE (F := Ideal) cc XS HC WC X W).s), half1 (lseV (F := Ideal) ll (stE (F := Ideal) cc XS HC WC X W).m (stE (F := Ideal) cc XS HC WC X W).s)] h)) h l).trans ?_
  unfold outLp
  rw [toRow_at]
  show (![half0 (F := Ideal) (tlV (F := Ideal) ll (stE (F := Ideal) cc XS HC WC X W).t), half1 (tlV (F := Ideal) ll (stE (F := Ideal) cc XS HC WC X W).t)] h) (jx2 l l)
    - (![half0 (F := Ideal) (lseV (F := Ideal) ll (stE (F := Ideal) cc XS HC WC X W).m (stE (F := Ideal) cc XS HC WC X W).s), half1 (lseV (F := Ideal) ll (stE (F := Ideal) cc XS HC WC X W).m (stE (F := Ideal) cc XS HC WC X W).s)] h) (jx2 l l) + sh = _
  rw [half_at, half_at, lseV_val X W XS WC hH, tlV_val X W XS WC hH]

end Results

end Cert.Val

end
-- ==== Proof.ValRef.lean ====
/- The reference's operations around its matrix product, read at an index over the extended reals. -/
module

public import proofs.«01_k».proof.Proof.ValOut
public import proofs.«01_k».proof.Proof.Gen.ReferenceIdeal.Frame
public import Idealize.ShloMosaic.Lib.StableHlo.ReadAt
public import Idealize.ShloMosaic.Lib.IdealHost
public import Idealize.ShloMosaic.Lib.KernelVsHost

@[expose] public section

set_option maxRecDepth 16384

noncomputable section

namespace Cert.Val.Ref

open Idealize.ShloMosaic Idealize.ShloMosaic.TcCoe Finset Cert.Val Cert.ReferenceIdeal Cert.ReferenceIdeal.Gen

open Cert.Head (jx1 jx2)

/-- The logit of a token and a class, from the product and the scales. -/
def lg (P : FVec Ideal S256x30003 .f32) (xs : FVec Ideal S2x128 .f32) (wc : FVec Ideal S30003 .f32) (n : Fin 256) (v : Fin 30003) : EReal :=
  P (jx2 n v) * xs (jx2 (hf n) (pl n)) * wc (jx1 v)

/-- The logarithm of a sum of exponentials, shifted by the largest. -/
def ls (L : Fin 30003 → EReal) : EReal :=
  Ideal.log (∑ v : Fin 30003, Ideal.exp (L v - (univ : Finset (Fin 30003)).sup L)) + (univ : Finset (Fin 30003)).sup L

/-- The two results from a target's logit and a log-sum-exp. -/
def outLp (a b : EReal) : EReal := a - b + sh
def outLse (b : EReal) : EReal := b - sh

variable (V : Valuation τ Cert.ReferenceIdeal.sig (Elt Ideal))

/-- The logits over a buffer contents. -/
abbrev lgV (n : Fin 256) (v : Fin 30003) : EReal :=
  lg (V (Proc.devRef .tc main_v2)) (V (Proc.devRef .tc main_arg1)) (V (Proc.devRef .tc main_arg4)) n v

theorem v9_at (n : Fin 256) (v : Fin 30003) :
    StableHlo.after (hostOps1 (F := Ideal)) V (Proc.devRef .tc main_v9) (jx2 n v) = lgV V n v := by
  unfold lgV lg
  after_reads_at
  rfl

theorem v17_at (n : Fin 256) : StableHlo.after (hostOps1 (F := Ideal)) V (Proc.devRef .tc main_v17) (jx1 n) = ls (lgV V n) := by
  have e : (univ : Finset (Fin 30003)).sup (lgV V n) = fold max (⊥ : EReal) (lgV V n) univ := rfl
  unfold ls
  rw [e]
  unfold lgV lg
  after_reads_at
  rw [ninf]
  rfl

theorem v19_at (n : Fin 256) : StableHlo.after (hostOps1 (F := Ideal)) V (Proc.devRef .tc main_v19) (jx2 n (0 : Fin 1))
    = V (Proc.devRef .tc main_arg2) (jx2 (hf n) (pl n)) := by
  after_reads_at
  rfl

/-- The axis numbers of the reference's gather, read at a row. -/
theorem gather_at (x : FVec Ideal S256x30003 .f32) (idx : IVec S256x1x1 32) (n : Fin 256) (v : Fin 30003)
    (hv : (idx (ix3 n (0 : Fin 1) (0 : Fin 1))).toInt.toNat = v.val) :
    Host.gather gather_S256x30003_S256x1x1_S256x1_n_1_0_0_1_2_11 x idx (jx2 n (0 : Fin 1)) = x (jx2 n v) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S256x30003_S256x1x1_S256x1_n_1_0_0_1_2_11.operandBatchingDims from List.mem_singleton.mpr rfl)]
    rfl
  · rw [GatherDims.batchCoord_eq_zero _ _ _ (fun h => by simp [gather_S256x30003_S256x1x1_S256x1_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S256x30003_S256x1x1_S256x1_n_1_0_0_1_2_11.startIndexMap from List.mem_singleton.mpr rfl)]
    have hsi : GatherDims.siIdx gather_S256x30003_S256x1x1_S256x1_n_1_0_0_1_2_11 (jx2 n (0 : Fin 1)) ⟨List.idxOf (1 : Fin 2) gather_S256x30003_S256x1x1_S256x1_n_1_0_0_1_2_11.startIndexMap,
        List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi, hv]
    exact Nat.min_eq_left (by have := v.isLt; show v.val ≤ 30003 - 1; omega)

/-- A column number that is a class is not wrapped and passes the range test. -/
theorem slt_no (t : BitVec 32) (ht : t.toNat < 30003) : IntOp.cmpi .slt t 0#32 = 0#1 := by
  show BitVec.ofBool (t.slt 0#32) = 0#1
  rw [show t.slt 0#32 = false from by
    rw [BitVec.slt, decide_eq_false_iff_not, BitVec.toInt_eq_toNat_of_lt (by omega)]; simp]
  rfl

theorem sge_yes (t : BitVec 32) (ht : t.toNat < 30003) : IntOp.cmpi .sge t 0#32 = 1#1 := by
  show BitVec.ofBool ((0#32).sle t) = 1#1
  rw [show (0#32).sle t = true from by
    rw [BitVec.sle, decide_eq_true_iff, BitVec.toInt_eq_toNat_of_lt (x := t) (by omega)]; simp]
  rfl

theorem sle_yes (t : BitVec 32) (ht : t.toNat < 30003) : IntOp.cmpi .sle t 30002#32 = 1#1 := by
  show BitVec.ofBool (t.sle 30002#32) = 1#1
  rw [show t.sle 30002#32 = true from by
    rw [BitVec.sle, decide_eq_true_iff, BitVec.toInt_eq_toNat_of_lt (x := t) (by omega)]
    show (t.toNat : Int) ≤ 30002
    omega]
  rfl

/-- A negative column number counts from the end. -/
def wrap (t : BitVec 32) : BitVec 32 := Scalar.select (IntOp.cmpi .slt t 0#32) (IntOp.addi t 30003#32) t

theorem v20_at (n : Fin 256) (t : BitVec 32) (ht : t.toNat < 30003)
    (h : V (Proc.devRef .tc main_v19) (jx2 n (0 : Fin 1)) = t) :
    StableHlo.after (hostOps1_1 (F := Ideal)) V (Proc.devRef .tc main_v20) (jx2 n (0 : Fin 1))
    = V (Proc.devRef .tc main_v9) (jx2 n ⟨t.toNat, ht⟩) := by
  after_reads_at
  have hw : wrap (V (Proc.devRef .tc main_v19) (jx2 n (0 : Fin 1))) = t := by
    rw [h]
    unfold wrap
    rw [slt_no t ht]
    rfl
  refine Eq.trans (b := Scalar.select (fold IntOp.andi 1#1 (fun _ : Fin 1 =>
      IntOp.andi (IntOp.cmpi .sge (wrap (V (Proc.devRef .tc main_v19) (jx2 n (0 : Fin 1)))) 0#32)
        (IntOp.cmpi .sle (wrap (V (Proc.devRef .tc main_v19) (jx2 n (0 : Fin 1)))) 30002#32)) univ)
    (Host.gather gather_S256x30003_S256x1x1_S256x1_n_1_0_0_1_2_11 (V (Proc.devRef .tc main_v9))
      (fun i => wrap (V (Proc.devRef .tc main_v19) (jx2 (i 0) (0 : Fin 1)))) (jx2 n (0 : Fin 1))) (Ideal.ofBits .f32 0x7FC00000#32)) rfl ?_
  rw [hw, sge_yes t ht, sle_yes t ht]
  refine Eq.trans (b := Host.gather gather_S256x30003_S256x1x1_S256x1_n_1_0_0_1_2_11 (V (Proc.devRef .tc main_v9))
      (fun i => wrap (V (Proc.devRef .tc main_v19) (jx2 (i 0) (0 : Fin 1)))) (jx2 n (0 : Fin 1))) rfl ?_
  refine gather_at _ _ n ⟨t.toNat, ht⟩ ?_
  refine Eq.trans (b := (wrap (V (Proc.devRef .tc main_v19) (jx2 n (0 : Fin 1)))).toInt.toNat) rfl ?_
  rw [hw, BitVec.toInt_eq_toNat_of_lt (by omega)]
  rfl

theorem tok_eq (h : Fin 2) (l : Fin 128) : tok h l = ⟨h.val * 128 + l.val, by omega⟩ :=
  Fin.ext (by show 128 * h.val + l.val = h.val * 128 + l.val; omega)

theorem v25_at (h : Fin 2) (l : Fin 128) : StableHlo.after (hostOps1_2 (F := Ideal)) V (Proc.devRef .tc main_v25) (jx2 h l)
    = outLp (V (Proc.devRef .tc main_v20) (jx2 (tok h l) (0 : Fin 1))) (V (Proc.devRef .tc main_v17) (jx1 (tok h l))) := by
  rw [tok_eq]
  after_reads_at
  rfl

theorem v28_at (h : Fin 2) (l : Fin 128) : StableHlo.after (hostOps1_2 (F := Ideal)) V (Proc.devRef .tc main_v28) (jx2 h l)
    = outLse (V (Proc.devRef .tc main_v17) (jx1 (tok h l))) := by
  rw [tok_eq]
  after_reads_at
  rfl

end Cert.Val.Ref

end
-- ==== Proof.ValRefEnd.lean ====
/- What the reference leaves in its two result arrays, over the extended reals. -/
module

public import proofs.«01_k».proof.Proof.ValRef
public import Idealize.ShloMosaic.Lib.Pipeline.ValueKit
public import Idealize.ShloMosaic.Lib.MatmulPlain

@[expose] public section

set_option maxRecDepth 16384

noncomputable section

namespace Cert.Val.Ref

open Idealize.ShloMosaic Idealize.ShloMosaic.TcCoe Finset Cert.Val Cert.ReferenceIdeal Cert.ReferenceIdeal.Gen
open Cert.Head (jx1 jx2)

variable (m : (ℓ : Loc nD τ sig) → Buf (Elt Ideal) ℓ) (c : Dev nD)

/-- The tokens' and the vocabulary's codes, as two-axis arrays. -/
def arrX (x : FVec Ideal S2x128x12288 .fp8e4m3) : FVec Ideal S256x12288 .fp8e4m3 := fun i => x (ix3 (hf (i 0)) (pl (i 0)) (i 1))
def arrW (w : FVec Ideal S12288x30008 .fp8e4m3) : FVec Ideal Cert.Head.S30008x12288 .fp8e4m3 := fun i => w (jx2 (i 1) (i 0))

theorem v0_at (n : Fin 256) (k : Fin 12288) :
    V m c main_v0 (jx2 n k) = arrX (m ((c : Thread nD τ).loc main_arg0)) (jx2 n k) := by
  unfold V V0 arrX
  simp only [List.flatten_cons, List.flatten_nil, List.append_nil]
  after_reads_at
  rfl

theorem v1_at (k : Fin 12288) (v : Fin 30003) :
    V m c main_v1 (jx2 k v) = arrW (m ((c : Thread nD τ).loc main_arg3)) (jx2 (wide v) k) := by
  unfold V V0 arrW
  simp only [List.flatten_cons, List.flatten_nil, List.append_nil]
  after_reads_at
  rfl

theorem idx : ∀ t : Fin cfg0.N, win0_0.index t = ![0, 0] ∧ win0_1.index t = ![0, 0] ∧ win0_2.index t = ![0, 0] :=
  (by decide +kernel : ∀ t : Fin grid0.N, _)

theorem iblk0 : iblk m c 0 t0_0 = V m c main_v0 := by
  blk_ext! [iblk, idx t0_0]

theorem iblk1 : iblk m c 1 t0_0 = V m c main_v1 := by
  blk_ext! [iblk, idx t0_0]

/-- The region's matrix product. -/
theorem prod_at (n : Fin 256) (v : Fin 30003) :
    (dats m 0 c).arrAt 2 cfg0.N (jx2 n v)
      = dot (arrX (m ((c : Thread nD τ).loc main_arg0))) (arrW (m ((c : Thread nD τ).loc main_arg3))) n (wide v) := by
  have e : (dats m 0 c).arrAt 2 cfg0.N = k0_pay1 (F := Ideal) (V m c main_v0) (V m c main_v1) := by
    refine (dats m 0 c).arrAt_eq_of_after_last 2 t0_0 (by decide +kernel) _ fun j => ?_
    blk_simp
    rw [after0_2]
    unfold out0_2
    frame_out
    rw [iblk0, iblk1]
  rw [e]
  unfold k0_pay1 dot
  dsimp only
  rw [shapeCast_self, shapeCast_self]
  refine (Ideal.matmul_plain_apply _ _ _ _ _ _).trans ?_
  rw [show constant (F := Ideal) S256x30003 .f32 0#32 (ValueIdx.ix2 n v) = (0 : EReal) from fzero, zero_add]
  refine sum_congr rfl fun k _ => ?_
  exact congrArg₂ (fun a b : EReal => a * b) (v0_at m c n k) (v1_at m c k v)

/-- The buffers as the operations after the region find them. -/
abbrev Wv : Valuation τ sig (Elt Ideal) :=
  Pipeline.withArrays (cfgs 0).spec c (V0 m c) fun w => (dats m 0 c).arrAt w (cfgs 0).N

theorem w_arg1 : Wv m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

theorem w_arg2 : Wv m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)

theorem w_arg4 : Wv m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

theorem w_v2 : Wv m c (Proc.devRef .tc main_v2) = (dats m 0 c).arrAt 2 cfg0.N :=
  Pipeline.withArrays_arr _ winFacts0.arr_inj c (V0 m c) _ 2

theorem after_split (U : Valuation τ sig (Elt Ideal)) :
    StableHlo.after (List.flatten [hostOps1 (F := Ideal), hostOps1_1, hostOps1_2]) U
      = StableHlo.after hostOps1_2 (StableHlo.after hostOps1_1 (StableHlo.after hostOps1 U)) := by
  rfl

theorem v17_keep (U : Valuation τ sig (Elt Ideal)) :
    StableHlo.after (hostOps1_1 (F := Ideal)) U (Proc.devRef .tc main_v17) = U (Proc.devRef .tc main_v17) := by
  after_reads_simp

theorem lgV_eq (n : Fin 256) : lgV (Wv m c) n = lgt (arrX (m ((c : Thread nD τ).loc main_arg0))) (arrW (m ((c : Thread nD τ).loc main_arg3)))
    (m ((c : Thread nD τ).loc main_arg1)) (m ((c : Thread nD τ).loc main_arg4)) n := by
  funext v
  unfold lgV
  rw [w_v2, w_arg1, w_arg4]
  unfold lg lgt
  rw [prod_at]

/-- The second result. -/
theorem lse_end (h : Fin 2) (l : Fin 128) :
    Pipeline.afterTail₀ cfgs (dats m) 0 (V0 m) [hostOps1, hostOps1_1, hostOps1_2] c main_v28 (jx2 h l)
      = lse (arrX (m ((c : Thread nD τ).loc main_arg0))) (arrW (m ((c : Thread nD τ).loc main_arg3)))
          (m ((c : Thread nD τ).loc main_arg1)) (m ((c : Thread nD τ).loc main_arg4)) (tok h l) - sh := by
  unfold Pipeline.afterTail₀
  rw [after_split, v28_at, v17_keep, v17_at, lgV_eq]
  rfl

/-- The first result, where the target is a class. -/
theorem lp_end (h : Fin 2) (l : Fin 128) (hH : ∀ h l, ((m ((c : Thread nD τ).loc main_arg2) : IVec S2x128 32) (jx2 h l)).toNat < 30003) :
    Pipeline.afterTail₀ cfgs (dats m) 0 (V0 m) [hostOps1, hostOps1_1, hostOps1_2] c main_v25 (jx2 h l)
      = lgt (arrX (m ((c : Thread nD τ).loc main_arg0))) (arrW (m ((c : Thread nD τ).loc main_arg3)))
          (m ((c : Thread nD τ).loc main_arg1)) (m ((c : Thread nD τ).loc main_arg4)) (tok h l)
            ⟨((m ((c : Thread nD τ).loc main_arg2) : IVec S2x128 32) (jx2 h l)).toNat, hH h l⟩
        - lse (arrX (m ((c : Thread nD τ).loc main_arg0))) (arrW (m ((c : Thread nD τ).loc main_arg3)))
          (m ((c : Thread nD τ).loc main_arg1)) (m ((c : Thread nD τ).loc main_arg4)) (tok h l) + sh := by
  unfold Pipeline.afterTail₀
  rw [after_split, v25_at, v17_keep, v17_at, lgV_eq]
  rw [v20_at _ (tok h l) ((m ((c : Thread nD τ).loc main_arg2) : IVec S2x128 32) (jx2 h l)) (hH h l)
    ((v19_at (Wv m c) (tok h l)).trans (by rw [w_arg2, hf_tok, pl_tok])), v9_at, lgV_eq]
  rfl

end Cert.Val.Ref

end
-- ==== Proof.ValKer.lean ====
/- What the kernel leaves in its two result arrays, over the extended reals. -/
module

public import proofs.«01_k».proof.Proof.ValOut
public import proofs.«01_k».proof.Proof.FrameI
public import Idealize.ShloMosaic.Lib.StableHlo.ReadAt
public import Idealize.ShloMosaic.Lib.Pipeline.ValueKit

@[expose] public section

set_option maxRecDepth 16384

noncomputable section

namespace Cert.Val.Ker

open Idealize.ShloMosaic Idealize.ShloMosaic.TcCoe Finset Cert.Val Cert.KernelIdeal Cert.KernelIdeal.Gen Cert.KernelIdeal.Launch
open Cert.Head (jx1 jx2)

variable (m : (ℓ : Loc nD τ sig) → Buf (Elt Ideal) ℓ) (c : Dev nD)

/-- The tokens' and the vocabulary's codes, as two-axis arrays. -/
def arrX (x : FVec Ideal S2x128x12288 .fp8e4m3) : FVec Ideal S256x12288 .fp8e4m3 := fun i => x (ix3 (hf (i 0)) (pl (i 0)) (i 1))
def arrW (w : FVec Ideal S12288x30008 .fp8e4m3) : FVec Ideal S30008x12288 .fp8e4m3 := fun i => w (jx2 (i 1) (i 0))

theorem v0_eq : V m c main_v0 = arrX (m ((c : Thread nD τ).loc main_arg0)) := by
  funext i
  obtain ⟨n, k, rfl⟩ : ∃ n k, i = jx2 n k := ⟨i 0, i 1, funext fun a => by match a with | ⟨0, _⟩ => rfl | ⟨1, _⟩ => rfl⟩
  unfold V arrX
  after_reads_at
  rfl

theorem v1_eq : V m c main_v1 = arrW (m ((c : Thread nD τ).loc main_arg3)) := by
  funext i
  obtain ⟨n, k, rfl⟩ : ∃ n k, i = jx2 n k := ⟨i 0, i 1, funext fun a => by match a with | ⟨0, _⟩ => rfl | ⟨1, _⟩ => rfl⟩
  unfold V arrW
  after_reads_at
  rfl

theorem idx : ∀ t : Fin cfg0.N, win0_0.index t = ![0, 0] ∧ win0_1.index t = ![0, 0] :=
  (by decide +kernel : ∀ t : Fin grid0.N, _)

theorem iblk0 : iblk m c 0 t0_0 = m ((c : Thread nD τ).loc main_arg1) := by
  rw [← V_main_arg1 m c]
  blk_ext! [iblk, idx t0_0]

theorem iblk1 : iblk m c 1 t0_0 = m ((c : Thread nD τ).loc main_arg2) := by
  rw [← V_main_arg2 m c]
  blk_ext! [iblk, idx t0_0]

theorem st_eq : stF m c t0_0 = Cert.Head.stE (F := Ideal) cc (m ((c : Thread nD τ).loc main_arg1)) (m ((c : Thread nD τ).loc main_arg2))
    (m ((c : Thread nD τ).loc main_arg4)) (arrX (m ((c : Thread nD τ).loc main_arg0))) (arrW (m ((c : Thread nD τ).loc main_arg3))) := by
  unfold stF
  rw [iblk0, iblk1, V_main_arg4, v0_eq, v1_eq]
  rfl

theorem final2 : finalA m c 2 = Cert.Head.lpOut (F := Ideal) ll (stF m c t0_0) := by
  unfold finalA
  refine (dats m 0 c).arrAt_eq_of_after_last 2 t0_0 (by decide +kernel) _ fun j => ?_
  blk_simp
  rw [after_w2]
  rfl

theorem final3 : finalA m c 3 = Cert.Head.lseOut (F := Ideal) ll (stF m c t0_0) := by
  unfold finalA
  refine (dats m 0 c).arrAt_eq_of_after_last 3 t0_0 (by decide +kernel) _ fun j => ?_
  blk_simp
  rw [after_w3]
  rfl

/-- The second result. -/
theorem lse_end (hH : ∀ h l, ((m ((c : Thread nD τ).loc main_arg2) : IVec S2x128 32) (jx2 h l)).toNat < 30003) (h : Fin 2) (l : Fin 128) :
    finalA m c 3 (jx2 h l)
      = lse (arrX (m ((c : Thread nD τ).loc main_arg0))) (arrW (m ((c : Thread nD τ).loc main_arg3)))
          (m ((c : Thread nD τ).loc main_arg1)) (m ((c : Thread nD τ).loc main_arg4)) (tok h l) - sh := by
  rw [final3, st_eq]
  exact lseOut_val _ _ _ _ hH h l

/-- The first result. -/
theorem lp_end (hH : ∀ h l, ((m ((c : Thread nD τ).loc main_arg2) : IVec S2x128 32) (jx2 h l)).toNat < 30003) (h : Fin 2) (l : Fin 128) :
    finalA m c 2 (jx2 h l)
      = lgt (arrX (m ((c : Thread nD τ).loc main_arg0))) (arrW (m ((c : Thread nD τ).loc main_arg3)))
          (m ((c : Thread nD τ).loc main_arg1)) (m ((c : Thread nD τ).loc main_arg4)) (tok h l)
            ⟨((m ((c : Thread nD τ).loc main_arg2) : IVec S2x128 32) (jx2 h l)).toNat, hH h l⟩
        - lse (arrX (m ((c : Thread nD τ).loc main_arg0))) (arrW (m ((c : Thread nD τ).loc main_arg3)))
          (m ((c : Thread nD τ).loc main_arg1)) (m ((c : Thread nD τ).loc main_arg4)) (tok h l) + sh := by
  rw [final2, st_eq]
  exact lpOut_val _ _ _ _ hH h l

end Cert.Val.Ker

end
-- ==== Proof.ValPair.lean ====
/- The two programs' results are equal over the extended reals, where every target is a class of the head. -/
module

public import proofs.«01_k».proof.Defs
public import proofs.«01_k».proof.Proof.ValRefEnd
public import proofs.«01_k».proof.Proof.ValKer
public import Idealize.ShloMosaic.Lib.ReduceAll
public import Idealize.ShloMosaic.Lib.WordCmp

@[expose] public section

set_option maxRecDepth 16384

noncomputable section

namespace Cert.Val

open Idealize.ShloMosaic Idealize.ShloMosaic.TcCoe Idealize.SL.Sem Finset Cert.Val
open Cert.Head (jx1 jx2)

/-- The side conditions of the precondition's operations. -/
theorem preFacts : Cert.Pre_targets_in_head.Facts := ⟨by decide, by decide, by decide⟩

/-- The precondition, target by target. -/
theorem target_lt [Cert.Pre_targets_in_head.Facts] {a0 a1 a3 a4} {hc : IVec Cert.Pre_targets_in_head.S2x128 32}
    (e : Cert.Pre_targets_in_head.fn (F := Ideal) a0 a1 hc a3 a4 = fun _ => 1#1) (h : Fin 2) (l : Fin 128) : (hc (jx2 h l)).toNat < 30003 := by
  have e' := congrFun e (fun a => a.elim0)
  unfold Cert.Pre_targets_in_head.fn at e'
  dsimp only at e'
  have h1 := Host.reduce_andi_eq_one _ _ _ _ _ e' (jx2 h l) (funext fun a => a.elim0)
  have h2 : BitVec.ofBool (decide ((hc (jx2 h l)).toNat < 30003)) = 1#1 := (WordCmp.andi_sge_zero_slt_ofNat (w := 32) (by decide) (hc (jx2 h l))).symm.trans h1
  by_contra hn
  rw [decide_eq_false hn] at h2
  exact absurd h2 (by decide)

/-- Equal at every half and lane is equal. -/
theorem ext2 {α : Type} {f g : Cert.Head.S2x128.Idx → α} (e : ∀ h l, f (jx2 h l) = g (jx2 h l)) : f = g := by
  funext i
  obtain ⟨n, k, rfl⟩ : ∃ n k, i = jx2 n k := ⟨i 0, i 1, funext fun a => by match a with | ⟨0, _⟩ => rfl | ⟨1, _⟩ => rfl⟩
  exact e n k

section Results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (hH : ∀ h l, ((m ((c.tc : Thread Cert.KernelIdeal.nD Cert.KernelIdeal.τ).loc Cert.KernelIdeal.main_arg2) : IVec Cert.KernelIdeal.S2x128 32) (jx2 h l)).toNat < 30003)

open Cert.ReferenceIdeal (cfgs)
open Cert.ReferenceIdeal.Gen (dats V0 hostOps1 hostOps1_1 hostOps1_2)

include e0 e1 e3 e4 hH in
theorem lse_same : Pipeline.afterTail₀ cfgs (dats m') 0 (V0 m') [hostOps1, hostOps1_1, hostOps1_2] c Cert.ReferenceIdeal.main_v28
    = Cert.KernelIdeal.Launch.finalA m c 3 := by
  refine ext2 fun h l => ?_
  refine (Ref.lse_end m' c h l).trans (Eq.trans ?_ (Ker.lse_end m c hH h l).symm)
  rw [e0, e1, e3, e4]
  rfl

include e0 e1 e2 e3 e4 hH in
theorem lp_same : Pipeline.afterTail₀ cfgs (dats m') 0 (V0 m') [hostOps1, hostOps1_1, hostOps1_2] c Cert.ReferenceIdeal.main_v25
    = Cert.KernelIdeal.Launch.finalA m c 2 := by
  refine ext2 fun h l => ?_
  have hH' : ∀ h l, ((m' ((c.tc : Thread Cert.ReferenceIdeal.nD Cert.ReferenceIdeal.τ).loc Cert.ReferenceIdeal.main_arg2) : IVec Cert.ReferenceIdeal.S2x128 32) (jx2 h l)).toNat < 30003 := by
    rw [e2]; exact hH
  refine (Ref.lp_end m' c h l hH').trans (Eq.trans ?_ (Ker.lp_end m c hH h l).symm)
  simp only [e0, e1, e2, e3, e4]
  rfl

end Results

/-- The claim that the two programs' results are equal. -/
theorem algebraic [Cert.Pre_targets_in_head.Facts] : @Cert.algebraic_KernelIdeal_ReferenceIdeal_pre_targets_in_head Cert.KernelIdeal.Gen.facts Cert.ReferenceIdeal.Gen.facts _ := by
  intro m g m' g' hpre hag
  refine ⟨fun c => Cert.KernelIdeal.Launch.finalA m c 2, fun c => Cert.KernelIdeal.Launch.finalA m c 3, ?_, ?_⟩
  · exact (θ_run _ _ _).mono (fun _ h => h.1) (Cert.KernelIdeal.Launch.run_values m g)
  · refine (θ_run _ _ _).mono (fun r h c => ?_) (θ_run_and (Cert.ReferenceIdeal.Gen.run_main m' g') (Cert.ReferenceIdeal.Gen.unchanged m' g'))
    obtain ⟨e0, e1, e2, e3, e4⟩ := hag c
    have hH := target_lt (hpre c)
    exact ⟨((h.1 c).2 Cert.ReferenceIdeal.main_v25 (Pipeline.mem_restRefs_of Cert.ReferenceIdeal.main_v25 (by decide) (by decide))).trans (lp_same m m' c e0 e1 e2 e3 e4 hH),
      ((h.1 c).2 Cert.ReferenceIdeal.main_v28 (Pipeline.mem_restRefs_of Cert.ReferenceIdeal.main_v28 (by decide) (by decide))).trans (lse_same m m' c e0 e1 e3 e4 hH), h.2 c⟩

end Cert.Val

end
-- ==== Proof.lean ====
/- The certificate's claims, from the frames of the two kernels, the frame of the reference, the named constants and the
   equality of the results. -/
module

public import proofs.«01_k».proof.Defs
public import proofs.«01_k».proof.Proof.FrameK
public import proofs.«01_k».proof.Proof.FrameI
public import proofs.«01_k».proof.Proof.Gen.ReferenceIdeal.Frame
public import proofs.«01_k».proof.Proof.ValPair

@[expose] public section

noncomputable section

namespace Cert.Proof

open Idealize.ShloMosaic Idealize.SL.Sem

/-- The two named constants are what the ideal program prints for them. -/
theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "ln2" .f32 0x3F317218#32 ((Real.log 2 : ℝ) : EReal) rfl⟩

theorem claim : Cert.Claim :=
  ⟨Cert.Kernel.Gen.facts, Cert.KernelIdeal.Gen.facts, Cert.ReferenceIdeal.Gen.facts, Cert.Val.preFacts,
    fun m ρ _ => Cert.Kernel.Launch.frame m ρ, fun m ρ _ => Cert.KernelIdeal.Launch.frame m ρ,
    fun m ρ _ => Cert.KernelIdeal.Launch.frame m ρ, fun m ρ _ => Cert.ReferenceIdeal.Gen.frame m ρ,
    fun m ρ _ => Cert.ReferenceIdeal.Gen.frame m ρ, preserves,
    @Cert.Val.algebraic Cert.Val.preFacts⟩

end Cert.Proof

end
